-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Kernel23Ideal_finite [hPre_finite : Cert.Pre_finite.Facts] (m : (ℓ : Loc Cert.Kernel23Ideal.nD Cert.Kernel23Ideal.τ Cert.Kernel23Ideal.sig) → Buf (Elt Ideal) ℓ) : Prop :=
  ∀ c : Dev Cert.Kernel23Ideal.nD,
    (Cert.Pre_finite.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2))).1 = (fun _ => 1#1)
    ∧ (Cert.Pre_finite.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2))).2 = (fun _ => 1#1)

def Pre_Reference23Ideal (m : (ℓ : Loc Cert.Reference23Ideal.nD Cert.Reference23Ideal.τ Cert.Reference23Ideal.sig) → Buf (Elt Ideal) ℓ) : Prop :=
  True

def Pre_Reference23Ideal_finite [hPre_finite : Cert.Pre_finite.Facts] (m : (ℓ : Loc Cert.Reference23Ideal.nD Cert.Reference23Ideal.τ Cert.Reference23Ideal.sig) → Buf (Elt Ideal) ℓ) : Prop :=
  ∀ c : Dev Cert.Reference23Ideal.nD,
    (Cert.Pre_finite.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2))).1 = (fun _ => 1#1)
    ∧ (Cert.Pre_finite.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2))).2 = (fun _ => 1#1)

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5)
      ∧ r.2.mem ((c.tc : Thread Cert.Kernel18.nD Cert.Kernel18.τ).loc Cert.Kernel18.main_arg6) = m ((c.tc : Thread Cert.Kernel18.nD Cert.Kernel18.τ).loc Cert.Kernel18.main_arg6)
      ∧ r.2.mem ((c.tc : Thread Cert.Kernel18.nD Cert.Kernel18.τ).loc Cert.Kernel18.main_arg7) = m ((c.tc : Thread Cert.Kernel18.nD Cert.Kernel18.τ).loc Cert.Kernel18.main_arg7)
      ∧ r.2.mem ((c.tc : Thread Cert.Kernel18.nD Cert.Kernel18.τ).loc Cert.Kernel18.main_arg8) = m ((c.tc : Thread Cert.Kernel18.nD Cert.Kernel18.τ).loc Cert.Kernel18.main_arg8)
      ∧ r.2.mem ((c.tc : Thread Cert.Kernel18.nD Cert.Kernel18.τ).loc Cert.Kernel18.main_arg9) = m ((c.tc : Thread Cert.Kernel18.nD Cert.Kernel18.τ).loc Cert.Kernel18.main_arg9)
      ∧ r.2.mem ((c.tc : Thread Cert.Kernel18.nD Cert.Kernel18.τ).loc Cert.Kernel18.main_arg10) = m ((c.tc : Thread Cert.Kernel18.nD Cert.Kernel18.τ).loc Cert.Kernel18.main_arg10)
      ∧ r.2.mem ((c.tc : Thread Cert.Kernel18.nD Cert.Kernel18.τ).loc Cert.Kernel18.main_arg11) = m ((c.tc : Thread Cert.Kernel18.nD Cert.Kernel18.τ).loc Cert.Kernel18.main_arg11)
      ∧ r.2.mem ((c.tc : Thread Cert.Kernel18.nD Cert.Kernel18.τ).loc Cert.Kernel18.main_arg12) = m ((c.tc : Thread Cert.Kernel18.nD Cert.Kernel18.τ).loc Cert.Kernel18.main_arg12)
      ∧ r.2.mem ((c.tc : Thread Cert.Kernel18.nD Cert.Kernel18.τ).loc Cert.Kernel18.main_arg13) = m ((c.tc : Thread Cert.Kernel18.nD Cert.Kernel18.τ).loc Cert.Kernel18.main_arg13)
      ∧ r.2.mem ((c.tc : Thread Cert.Kernel18.nD Cert.Kernel18.τ).loc Cert.Kernel18.main_arg14) = m ((c.tc : Thread Cert.Kernel18.nD Cert.Kernel18.τ).loc Cert.Kernel18.main_arg14)
      ∧ r.2.mem ((c.tc : Thread Cert.Kernel18.nD Cert.Kernel18.τ).loc Cert.Kernel18.main_arg15) = m ((c.tc : Thread Cert.Kernel18.nD Cert.Kernel18.τ).loc Cert.Kernel18.main_arg15)
      ∧ r.2.mem ((c.tc : Thread Cert.Kernel18.nD Cert.Kernel18.τ).loc Cert.Kernel18.main_arg16) = m ((c.tc : Thread Cert.Kernel18.nD Cert.Kernel18.τ).loc Cert.Kernel18.main_arg16)
      ∧ r.2.mem ((c.tc : Thread Cert.Kernel18.nD Cert.Kernel18.τ).loc Cert.Kernel18.main_arg17) = m ((c.tc : Thread Cert.Kernel18.nD Cert.Kernel18.τ).loc Cert.Kernel18.main_arg17)
      ∧ r.2.mem ((c.tc : Thread Cert.Kernel18.nD Cert.Kernel18.τ).loc Cert.Kernel18.main_arg18) = m ((c.tc : Thread Cert.Kernel18.nD Cert.Kernel18.τ).loc Cert.Kernel18.main_arg18)
      ∧ r.2.mem ((c.tc : Thread Cert.Kernel18.nD Cert.Kernel18.τ).loc Cert.Kernel18.main_arg19) = m ((c.tc : Thread Cert.Kernel18.nD Cert.Kernel18.τ).loc Cert.Kernel18.main_arg19)
      ∧ r.2.mem ((c.tc : Thread Cert.Kernel18.nD Cert.Kernel18.τ).loc Cert.Kernel18.main_arg20) = m ((c.tc : Thread Cert.Kernel18.nD Cert.Kernel18.τ).loc Cert.Kernel18.main_arg20)
      ∧ r.2.mem ((c.tc : Thread Cert.Kernel18.nD Cert.Kernel18.τ).loc Cert.Kernel18.main_arg21) = m ((c.tc : Thread Cert.Kernel18.nD Cert.Kernel18.τ).loc Cert.Kernel18.main_arg21)
      ∧ r.2.mem ((c.tc : Thread Cert.Kernel18.nD Cert.Kernel18.τ).loc Cert.Kernel18.main_arg22) = m ((c.tc : Thread Cert.Kernel18.nD Cert.Kernel18.τ).loc Cert.Kernel18.main_arg22)
      ∧ r.2.mem ((c.tc : Thread Cert.Kernel18.nD Cert.Kernel18.τ).loc Cert.Kernel18.main_arg23) = m ((c.tc : Thread Cert.Kernel18.nD Cert.Kernel18.τ).loc Cert.Kernel18.main_arg23)
      ∧ r.2.mem ((c.tc : Thread Cert.Kernel18.nD Cert.Kernel18.τ).loc Cert.Kernel18.main_arg24) = m ((c.tc : Thread Cert.Kernel18.nD Cert.Kernel18.τ).loc Cert.Kernel18.main_arg24)
      ∧ r.2.mem ((c.tc : Thread Cert.Kernel18.nD Cert.Kernel18.τ).loc Cert.Kernel18.main_arg25) = m ((c.tc : Thread Cert.Kernel18.nD Cert.Kernel18.τ).loc Cert.Kernel18.main_arg25)
      ∧ r.2.mem ((c.tc : Thread Cert.Kernel18.nD Cert.Kernel18.τ).loc Cert.Kernel18.main_arg26) = m ((c.tc : Thread Cert.Kernel18.nD Cert.Kernel18.τ).loc Cert.Kernel18.main_arg26)
      ∧ r.2.mem ((c.tc : Thread Cert.Kernel18.nD Cert.Kernel18.τ).loc Cert.Kernel18.main_arg27) = m ((c.tc : Thread Cert.Kernel18.nD Cert.Kernel18.τ).loc Cert.Kernel18.main_arg27)
      ∧ r.2.mem ((c.tc : Thread Cert.Kernel18.nD Cert.Kernel18.τ).loc Cert.Kernel18.main_arg28) = m ((c.tc : Thread Cert.Kernel18.nD Cert.Kernel18.τ).loc Cert.Kernel18.main_arg28)
      ∧ r.2.mem ((c.tc : Thread Cert.Kernel18.nD Cert.Kernel18.τ).loc Cert.Kernel18.main_arg29) = m ((c.tc : Thread Cert.Kernel18.nD Cert.Kernel18.τ).loc Cert.Kernel18.main_arg29)
      ∧ r.2.mem ((c.tc : Thread Cert.Kernel18.nD Cert.Kernel18.τ).loc Cert.Kernel18.main_arg30) = m ((c.tc : Thread Cert.Kernel18.nD Cert.Kernel18.τ).loc Cert.Kernel18.main_arg30)
      ∧ r.2.mem ((c.tc : Thread Cert.Kernel18.nD Cert.Kernel18.τ).loc Cert.Kernel18.main_arg31) = m ((c.tc : Thread Cert.Kernel18.nD Cert.Kernel18.τ).loc Cert.Kernel18.main_arg31)
      ∧ r.2.mem ((c.tc : Thread Cert.Kernel18.nD Cert.Kernel18.τ).loc Cert.Kernel18.main_arg32) = m ((c.tc : Thread Cert.Kernel18.nD Cert.Kernel18.τ).loc Cert.Kernel18.main_arg32)
      ∧ r.2.mem ((c.tc : Thread Cert.Kernel18.nD Cert.Kernel18.τ).loc Cert.Kernel18.main_arg33) = m ((c.tc : Thread Cert.Kernel18.nD Cert.Kernel18.τ).loc Cert.Kernel18.main_arg33)
      ∧ r.2.mem ((c.tc : Thread Cert.Kernel18.nD Cert.Kernel18.τ).loc Cert.Kernel18.main_arg34) = m ((c.tc : Thread Cert.Kernel18.nD Cert.Kernel18.τ).loc Cert.Kernel18.main_arg34)
      ∧ r.2.mem ((c.tc : Thread Cert.Kernel18.nD Cert.Kernel18.τ).loc Cert.Kernel18.main_arg35) = m ((c.tc : Thread Cert.Kernel18.nD Cert.Kernel18.τ).loc Cert.Kernel18.main_arg35)
      ∧ r.2.mem ((c.tc : Thread Cert.Kernel18.nD Cert.Kernel18.τ).loc Cert.Kernel18.main_arg36) = m ((c.tc : Thread Cert.Kernel18.nD Cert.Kernel18.τ).loc Cert.Kernel18.main_arg36)
      ∧ r.2.mem ((c.tc : Thread Cert.Kernel18.nD Cert.Kernel18.τ).loc Cert.Kernel18.main_arg37) = m ((c.tc : Thread Cert.Kernel18.nD Cert.Kernel18.τ).loc Cert.Kernel18.main_arg37)
      ∧ r.2.mem ((c.tc : Thread Cert.Kernel18.nD Cert.Kernel18.τ).loc Cert.Kernel18.main_arg38) = m ((c.tc : Thread Cert.Kernel18.nD Cert.Kernel18.τ).loc Cert.Kernel18.main_arg38)
      ∧ r.2.mem ((c.tc : Thread Cert.Kernel18.nD Cert.Kernel18.τ).loc Cert.Kernel18.main_arg39) = m ((c.tc : Thread Cert.Kernel18.nD Cert.Kernel18.τ).loc Cert.Kernel18.main_arg39)
      ∧ r.2.mem ((c.tc : Thread Cert.Kernel18.nD Cert.Kernel18.τ).loc Cert.Kernel18.main_arg40) = m ((c.tc : Thread Cert.Kernel18.nD Cert.Kernel18.τ).loc Cert.Kernel18.main_arg40)
      ∧ r.2.mem ((c.tc : Thread Cert.Kernel18.nD Cert.Kernel18.τ).loc Cert.Kernel18.main_arg41) = m ((c.tc : Thread Cert.Kernel18.nD Cert.Kernel18.τ).loc Cert.Kernel18.main_arg41)
      ∧ r.2.mem ((c.tc : Thread Cert.Kernel18.nD Cert.Kernel18.τ).loc Cert.Kernel18.main_arg42) = m ((c.tc : Thread Cert.Kernel18.nD Cert.Kernel18.τ).loc Cert.Kernel18.main_arg42)
      ∧ r.2.mem ((c.tc : Thread Cert.Kernel18.nD Cert.Kernel18.τ).loc Cert.Kernel18.main_arg43) = m ((c.tc : Thread Cert.Kernel18.nD Cert.Kernel18.τ).loc Cert.Kernel18.main_arg43)
      ∧ r.2.mem ((c.tc : Thread Cert.Kernel18.nD Cert.Kernel18.τ).loc Cert.Kernel18.main_arg44) = m ((c.tc : Thread Cert.Kernel18.nD Cert.Kernel18.τ).loc Cert.Kernel18.main_arg44)
      ∧ r.2.mem ((c.tc : Thread Cert.Kernel18.nD Cert.Kernel18.τ).loc Cert.Kernel18.main_arg45) = m ((c.tc : Thread Cert.Kernel18.nD Cert.Kernel18.τ).loc Cert.Kernel18.main_arg45)
      ∧ r.2.mem ((c.tc : Thread Cert.Kernel18.nD Cert.Kernel18.τ).loc Cert.Kernel18.main_arg46) = m ((c.tc : Thread Cert.Kernel18.nD Cert.Kernel18.τ).loc Cert.Kernel18.main_arg46)
      ∧ r.2.mem ((c.tc : Thread Cert.Kernel18.nD Cert.Kernel18.τ).loc Cert.Kernel18.main_arg47) = m ((c.tc : Thread Cert.Kernel18.nD Cert.Kernel18.τ).loc Cert.Kernel18.main_arg47)
      ∧ r.2.mem ((c.tc : Thread Cert.Kernel18.nD Cert.Kernel18.τ).loc Cert.Kernel18.main_arg48) = m ((c.tc : Thread Cert.Kernel18.nD Cert.Kernel18.τ).loc Cert.Kernel18.main_arg48)
      ∧ r.2.mem ((c.tc : Thread Cert.Kernel18.nD Cert.Kernel18.τ).loc Cert.Kernel18.main_arg49) = m ((c.tc : Thread Cert.Kernel18.nD Cert.Kernel18.τ).loc Cert.Kernel18.main_arg49)
      ∧ r.2.mem ((c.tc : Thread Cert.Kernel18.nD Cert.Kernel18.τ).loc Cert.Kernel18.main_arg50) = m ((c.tc : Thread Cert.Kernel18.nD Cert.Kernel18.τ).loc Cert.Kernel18.main_arg50)
      ∧ r.2.mem ((c.tc : Thread Cert.Kernel18.nD Cert.Kernel18.τ).loc Cert.Kernel18.main_arg51) = m ((c.tc : Thread Cert.Kernel18.nD Cert.Kernel18.τ).loc Cert.Kernel18.main_arg51)
      ∧ r.2.mem ((c.tc : Thread Cert.Kernel18.nD Cert.Kernel18.τ).loc Cert.Kernel18.main_arg52) = m ((c.tc : Thread Cert.Kernel18.nD Cert.Kernel18.τ).loc Cert.Kernel18.main_arg52)
      ∧ r.2.mem ((c.tc : Thread Cert.Kernel18.nD Cert.Kernel18.τ).loc Cert.Kernel18.main_arg53) = m ((c.tc : Thread Cert.Kernel18.nD Cert.Kernel18.τ).loc Cert.Kernel18.main_arg53)
      ∧ r.2.mem ((c.tc : Thread Cert.Kernel18.nD Cert.Kernel18.τ).loc Cert.Kernel18.main_arg54) = m ((c.tc : Thread Cert.Kernel18.nD Cert.Kernel18.τ).loc Cert.Kernel18.main_arg54)
      ∧ r.2.mem ((c.tc : Thread Cert.Kernel18.nD Cert.Kernel18.τ).loc Cert.Kernel18.main_arg55) = m ((c.tc : Thread Cert.Kernel18.nD Cert.Kernel18.τ).loc Cert.Kernel18.main_arg55)
      ∧ r.2.mem ((c.tc : Thread Cert.Kernel18.nD Cert.Kernel18.τ).loc Cert.Kernel18.main_arg56) = m ((c.tc : Thread Cert.Kernel18.nD Cert.Kernel18.τ).loc Cert.Kernel18.main_arg56)
      ∧ r.2.mem ((c.tc : Thread Cert.Kernel18.nD Cert.Kernel18.τ).loc Cert.Kernel18.main_arg57) = m ((c.tc : Thread Cert.Kernel18.nD Cert.Kernel18.τ).loc Cert.Kernel18.main_arg57)
      ∧ r.2.mem ((c.tc : Thread Cert.Kernel18.nD Cert.Kernel18.τ).loc Cert.Kernel18.main_arg58) = m ((c.tc : Thread Cert.Kernel18.nD Cert.Kernel18.τ).loc Cert.Kernel18.main_arg58)
      ∧ r.2.mem ((c.tc : Thread Cert.Kernel18.nD Cert.Kernel18.τ).loc Cert.Kernel18.main_arg59) = m ((c.tc : Thread Cert.Kernel18.nD Cert.Kernel18.τ).loc Cert.Kernel18.main_arg59))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
      ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7)
      ∧ r.2.mem ((c.tc : Thread Cert.Kernel18Ideal.nD Cert.Kernel18Ideal.τ).loc Cert.Kernel18Ideal.main_arg8) = m ((c.tc : Thread Cert.Kernel18Ideal.nD Cert.Kernel18Ideal.τ).loc Cert.Kernel18Ideal.main_arg8)
      ∧ r.2.mem ((c.tc : Thread Cert.Kernel18Ideal.nD Cert.Kernel18Ideal.τ).loc Cert.Kernel18Ideal.main_arg9) = m ((c.tc : Thread Cert.Kernel18Ideal.nD Cert.Kernel18Ideal.τ).loc Cert.Kernel18Ideal.main_arg9)
      ∧ r.2.mem ((c.tc : Thread Cert.Kernel18Ideal.nD Cert.Kernel18Ideal.τ).loc Cert.Kernel18Ideal.main_arg10) = m ((c.tc : Thread Cert.Kernel18Ideal.nD Cert.Kernel18Ideal.τ).loc Cert.Kernel18Ideal.main_arg10)
      ∧ r.2.mem ((c.tc : Thread Cert.Kernel18Ideal.nD Cert.Kernel18Ideal.τ).loc Cert.Kernel18Ideal.main_arg11) = m ((c.tc : Thread Cert.Kernel18Ideal.nD Cert.Kernel18Ideal.τ).loc Cert.Kernel18Ideal.main_arg11)
      ∧ r.2.mem ((c.tc : Thread Cert.Kernel18Ideal.nD Cert.Kernel18Ideal.τ).loc Cert.Kernel18Ideal.main_arg12) = m ((c.tc : Thread Cert.Kernel18Ideal.nD Cert.Kernel18Ideal.τ).loc Cert.Kernel18Ideal.main_arg12)
      ∧ r.2.mem ((c.tc : Thread Cert.Kernel18Ideal.nD Cert.Kernel18Ideal.τ).loc Cert.Kernel18Ideal.main_arg13) = m ((c.tc : Thread Cert.Kernel18Ideal.nD Cert.Kernel18Ideal.τ).loc Cert.Kernel18Ideal.main_arg13)
      ∧ r.2.mem ((c.tc : Thread Cert.Kernel18Ideal.nD Cert.Kernel18Ideal.τ).loc Cert.Kernel18Ideal.main_arg14) = m ((c.tc : Thread Cert.Kernel18Ideal.nD Cert.Kernel18Ideal.τ).loc Cert.Kernel18Ideal.main_arg14)
      ∧ r.2.mem ((c.tc : Thread Cert.Kernel18Ideal.nD Cert.Kernel18Ideal.τ).loc Cert.Kernel18Ideal.main_arg15) = m ((c.tc : Thread Cert.Kernel18Ideal.nD Cert.Kernel18Ideal.τ).loc Cert.Kernel18Ideal.main_arg15)
      ∧ r.2.mem ((c.tc : Thread Cert.Kernel18Ideal.nD Cert.Kernel18Ideal.τ).loc Cert.Kernel18Ideal.main_arg16) = m ((c.tc : Thread Cert.Kernel18Ideal.nD Cert.Kernel18Ideal.τ).loc Cert.Kernel18Ideal.main_arg16)
      ∧ r.2.mem ((c.tc : Thread Cert.Kernel18Ideal.nD Cert.Kernel18Ideal.τ).loc Cert.Kernel18Ideal.main_arg17) = m ((c.tc : Thread Cert.Kernel18Ideal.nD Cert.Kernel18Ideal.τ).loc Cert.Kernel18Ideal.main_arg17)
      ∧ r.2.mem ((c.tc : Thread Cert.Kernel18Ideal.nD Cert.Kernel18Ideal.τ).loc Cert.Kernel18Ideal.main_arg18) = m ((c.tc : Thread Cert.Kernel18Ideal.nD Cert.Kernel18Ideal.τ).loc Cert.Kernel18Ideal.main_arg18)
      ∧ r.2.mem ((c.tc : Thread Cert.Kernel18Ideal.nD Cert.Kernel18Ideal.τ).loc Cert.Kernel18Ideal.main_arg19) = m ((c.tc : Thread Cert.Kernel18Ideal.nD Cert.Kernel18Ideal.τ).loc Cert.Kernel18Ideal.main_arg19)
      ∧ r.2.mem ((c.tc : Thread Cert.Kernel18Ideal.nD Cert.Kernel18Ideal.τ).loc Cert.Kernel18Ideal.main_arg20) = m ((c.tc : Thread Cert.Kernel18Ideal.nD Cert.Kernel18Ideal.τ).loc Cert.Kernel18Ideal.main_arg20)
      ∧ r.2.mem ((c.tc : Thread Cert.Kernel18Ideal.nD Cert.Kernel18Ideal.τ).loc Cert.Kernel18Ideal.main_arg21) = m ((c.tc : Thread Cert.Kernel18Ideal.nD Cert.Kernel18Ideal.τ).loc Cert.Kernel18Ideal.main_arg21)
      ∧ r.2.mem ((c.tc : Thread Cert.Kernel18Ideal.nD Cert.Kernel18Ideal.τ).loc Cert.Kernel18Ideal.main_arg22) = m ((c.tc : Thread Cert.Kernel18Ideal.nD Cert.Kernel18Ideal.τ).loc Cert.Kernel18Ideal.main_arg22)
      ∧ r.2.mem ((c.tc : Thread Cert.Kernel18Ideal.nD Cert.Kernel18Ideal.τ).loc Cert.Kernel18Ideal.main_arg23) = m ((c.tc : Thread Cert.Kernel18Ideal.nD Cert.Kernel18Ideal.τ).loc Cert.Kernel18Ideal.main_arg23)
      ∧ r.2.mem ((c.tc : Thread Cert.Kernel18Ideal.nD Cert.Kernel18Ideal.τ).loc Cert.Kernel18Ideal.main_arg24) = m ((c.tc : Thread Cert.Kernel18Ideal.nD Cert.Kernel18Ideal.τ).loc Cert.Kernel18Ideal.main_arg24)
      ∧ r.2.mem ((c.tc : Thread Cert.Kernel18Ideal.nD Cert.Kernel18Ideal.τ).loc Cert.Kernel18Ideal.main_arg25) = m ((c.tc : Thread Cert.Kernel18Ideal.nD Cert.Kernel18Ideal.τ).loc Cert.Kernel18Ideal.main_arg25)
      ∧ r.2.mem ((c.tc : Thread Cert.Kernel18Ideal.nD Cert.Kernel18Ideal.τ).loc Cert.Kernel18Ideal.main_arg26) = m ((c.tc : Thread Cert.Kernel18Ideal.nD Cert.Kernel18Ideal.τ).loc Cert.Kernel18Ideal.main_arg26)
      ∧ r.2.mem ((c.tc : Thread Cert.Kernel18Ideal.nD Cert.Kernel18Ideal.τ).loc Cert.Kernel18Ideal.main_arg27) = m ((c.tc : Thread Cert.Kernel18Ideal.nD Cert.Kernel18Ideal.τ).loc Cert.Kernel18Ideal.main_arg27)
      ∧ r.2.mem ((c.tc : Thread Cert.Kernel18Ideal.nD Cert.Kernel18Ideal.τ).loc Cert.Kernel18Ideal.main_arg28) = m ((c.tc : Thread Cert.Kernel18Ideal.nD Cert.Kernel18Ideal.τ).loc Cert.Kernel18Ideal.main_arg28)
      ∧ r.2.mem ((c.tc : Thread Cert.Kernel18Ideal.nD Cert.Kernel18Ideal.τ).loc Cert.Kernel18Ideal.main_arg29) = m ((c.tc : Thread Cert.Kernel18Ideal.nD Cert.Kernel18Ideal.τ).loc Cert.Kernel18Ideal.main_arg29)
      ∧ r.2.mem ((c.tc : Thread Cert.Kernel18Ideal.nD Cert.Kernel18Ideal.τ).loc Cert.Kernel18Ideal.main_arg30) = m ((c.tc : Thread Cert.Kernel18Ideal.nD Cert.Kernel18Ideal.τ).loc Cert.Kernel18Ideal.main_arg30)
      ∧ r.2.mem ((c.tc : Thread Cert.Kernel18Ideal.nD Cert.Kernel18Ideal.τ).loc Cert.Kernel18Ideal.main_arg31) = m ((c.tc : Thread Cert.Kernel18Ideal.nD Cert.Kernel18Ideal.τ).loc Cert.Kernel18Ideal.main_arg31)
      ∧ r.2.mem ((c.tc : Thread Cert.Kernel18Ideal.nD Cert.Kernel18Ideal.τ).loc Cert.Kernel18Ideal.main_arg32) = m ((c.tc : Thread Cert.Kernel18Ideal.nD Cert.Kernel18Ideal.τ).loc Cert.Kernel18Ideal.main_arg32)
      ∧ r.2.mem ((c.tc : Thread Cert.Kernel18Ideal.nD Cert.Kernel18Ideal.τ).loc Cert.Kernel18Ideal.main_arg33) = m ((c.tc : Thread Cert.Kernel18Ideal.nD Cert.Kernel18Ideal.τ).loc Cert.Kernel18Ideal.main_arg33)
      ∧ r.2.mem ((c.tc : Thread Cert.Kernel18Ideal.nD Cert.Kernel18Ideal.τ).loc Cert.Kernel18Ideal.main_arg34) = m ((c.tc : Thread Cert.Kernel18Ideal.nD Cert.Kernel18Ideal.τ).loc Cert.Kernel18Ideal.main_arg34)
      ∧ r.2.mem ((c.tc : Thread Cert.Kernel18Ideal.nD Cert.Kernel18Ideal.τ).loc Cert.Kernel18Ideal.main_arg35) = m ((c.tc : Thread Cert.Kernel18Ideal.nD Cert.Kernel18Ideal.τ).loc Cert.Kernel18Ideal.main_arg35)
      ∧ r.2.mem ((c.tc : Thread Cert.Kernel18Ideal.nD Cert.Kernel18Ideal.τ).loc Cert.Kernel18Ideal.main_arg36) = m ((c.tc : Thread Cert.Kernel18Ideal.nD Cert.Kernel18Ideal.τ).loc Cert.Kernel18Ideal.main_arg36)
      ∧ r.2.mem ((c.tc : Thread Cert.Kernel18Ideal.nD Cert.Kernel18Ideal.τ).loc Cert.Kernel18Ideal.main_arg37) = m ((c.tc : Thread Cert.Kernel18Ideal.nD Cert.Kernel18Ideal.τ).loc Cert.Kernel18Ideal.main_arg37)
      ∧ r.2.mem ((c.tc : Thread Cert.Kernel18Ideal.nD Cert.Kernel18Ideal.τ).loc Cert.Kernel18Ideal.main_arg38) = m ((c.tc : Thread Cert.Kernel18Ideal.nD Cert.Kernel18Ideal.τ).loc Cert.Kernel18Ideal.main_arg38)
      ∧ r.2.mem ((c.tc : Thread Cert.Kernel18Ideal.nD Cert.Kernel18Ideal.τ).loc Cert.Kernel18Ideal.main_arg39) = m ((c.tc : Thread Cert.Kernel18Ideal.nD Cert.Kernel18Ideal.τ).loc Cert.Kernel18Ideal.main_arg39)
      ∧ r.2.mem ((c.tc : Thread Cert.Kernel18Ideal.nD Cert.Kernel18Ideal.τ).loc Cert.Kernel18Ideal.main_arg40) = m ((c.tc : Thread Cert.Kernel18Ideal.nD Cert.Kernel18Ideal.τ).loc Cert.Kernel18Ideal.main_arg40)
      ∧ r.2.mem ((c.tc : Thread Cert.Kernel18Ideal.nD Cert.Kernel18Ideal.τ).loc Cert.Kernel18Ideal.main_arg41) = m ((c.tc : Thread Cert.Kernel18Ideal.nD Cert.Kernel18Ideal.τ).loc Cert.Kernel18Ideal.main_arg41)
      ∧ r.2.mem ((c.tc : Thread Cert.Kernel18Ideal.nD Cert.Kernel18Ideal.τ).loc Cert.Kernel18Ideal.main_arg42) = m ((c.tc : Thread Cert.Kernel18Ideal.nD Cert.Kernel18Ideal.τ).loc Cert.Kernel18Ideal.main_arg42)
      ∧ r.2.mem ((c.tc : Thread Cert.Kernel18Ideal.nD Cert.Kernel18Ideal.τ).loc Cert.Kernel18Ideal.main_arg43) = m ((c.tc : Thread Cert.Kernel18Ideal.nD Cert.Kernel18Ideal.τ).loc Cert.Kernel18Ideal.main_arg43)
      ∧ r.2.mem ((c.tc : Thread Cert.Kernel18Ideal.nD Cert.Kernel18Ideal.τ).loc Cert.Kernel18Ideal.main_arg44) = m ((c.tc : Thread Cert.Kernel18Ideal.nD Cert.Kernel18Ideal.τ).loc Cert.Kernel18Ideal.main_arg44)
      ∧ r.2.mem ((c.tc : Thread Cert.Kernel18Ideal.nD Cert.Kernel18Ideal.τ).loc Cert.Kernel18Ideal.main_arg45) = m ((c.tc : Thread Cert.Kernel18Ideal.nD Cert.Kernel18Ideal.τ).loc Cert.Kernel18Ideal.main_arg45)
      ∧ r.2.mem ((c.tc : Thread Cert.Kernel18Ideal.nD Cert.Kernel18Ideal.τ).loc Cert.Kernel18Ideal.main_arg46) = m ((c.tc : Thread Cert.Kernel18Ideal.nD Cert.Kernel18Ideal.τ).loc Cert.Kernel18Ideal.main_arg46)
      ∧ r.2.mem ((c.tc : Thread Cert.Kernel18Ideal.nD Cert.Kernel18Ideal.τ).loc Cert.Kernel18Ideal.main_arg47) = m ((c.tc : Thread Cert.Kernel18Ideal.nD Cert.Kernel18Ideal.τ).loc Cert.Kernel18Ideal.main_arg47)
      ∧ r.2.mem ((c.tc : Thread Cert.Kernel18Ideal.nD Cert.Kernel18Ideal.τ).loc Cert.Kernel18Ideal.main_arg48) = m ((c.tc : Thread Cert.Kernel18Ideal.nD Cert.Kernel18Ideal.τ).loc Cert.Kernel18Ideal.main_arg48)
      ∧ r.2.mem ((c.tc : Thread Cert.Kernel18Ideal.nD Cert.Kernel18Ideal.τ).loc Cert.Kernel18Ideal.main_arg49) = m ((c.tc : Thread Cert.Kernel18Ideal.nD Cert.Kernel18Ideal.τ).loc Cert.Kernel18Ideal.main_arg49)
      ∧ r.2.mem ((c.tc : Thread Cert.Kernel18Ideal.nD Cert.Kernel18Ideal.τ).loc Cert.Kernel18Ideal.main_arg50) = m ((c.tc : Thread Cert.Kernel18Ideal.nD Cert.Kernel18Ideal.τ).loc Cert.Kernel18Ideal.main_arg50)
      ∧ r.2.mem ((c.tc : Thread Cert.Kernel18Ideal.nD Cert.Kernel18Ideal.τ).loc Cert.Kernel18Ideal.main_arg51) = m ((c.tc : Thread Cert.Kernel18Ideal.nD Cert.Kernel18Ideal.τ).loc Cert.Kernel18Ideal.main_arg51)
      ∧ r.2.mem ((c.tc : Thread Cert.Kernel18Ideal.nD Cert.Kernel18Ideal.τ).loc Cert.Kernel18Ideal.main_arg52) = m ((c.tc : Thread Cert.Kernel18Ideal.nD Cert.Kernel18Ideal.τ).loc Cert.Kernel18Ideal.main_arg52)
      ∧ r.2.mem ((c.tc : Thread Cert.Kernel18Ideal.nD Cert.Kernel18Ideal.τ).loc Cert.Kernel18Ideal.main_arg53) = m ((c.tc : Thread Cert.Kernel18Ideal.nD Cert.Kernel18Ideal.τ).loc Cert.Kernel18Ideal.main_arg53)
      ∧ r.2.mem ((c.tc : Thread Cert.Kernel18Ideal.nD Cert.Kernel18Ideal.τ).loc Cert.Kernel18Ideal.main_arg54) = m ((c.tc : Thread Cert.Kernel18Ideal.nD Cert.Kernel18Ideal.τ).loc Cert.Kernel18Ideal.main_arg54)
      ∧ r.2.mem ((c.tc : Thread Cert.Kernel18Ideal.nD Cert.Kernel18Ideal.τ).loc Cert.Kernel18Ideal.main_arg55) = m ((c.tc : Thread Cert.Kernel18Ideal.nD Cert.Kernel18Ideal.τ).loc Cert.Kernel18Ideal.main_arg55)
      ∧ r.2.mem ((c.tc : Thread Cert.Kernel18Ideal.nD Cert.Kernel18Ideal.τ).loc Cert.Kernel18Ideal.main_arg56) = m ((c.tc : Thread Cert.Kernel18Ideal.nD Cert.Kernel18Ideal.τ).loc Cert.Kernel18Ideal.main_arg56)
      ∧ r.2.mem ((c.tc : Thread Cert.Kernel18Ideal.nD Cert.Kernel18Ideal.τ).loc Cert.Kernel18Ideal.main_arg57) = m ((c.tc : Thread Cert.Kernel18Ideal.nD Cert.Kernel18Ideal.τ).loc Cert.Kernel18Ideal.main_arg57)
      ∧ r.2.mem ((c.tc : Thread Cert.Kernel18Ideal.nD Cert.Kernel18Ideal.τ).loc Cert.Kernel18Ideal.main_arg58) = m ((c.tc : Thread Cert.Kernel18Ideal.nD Cert.Kernel18Ideal.τ).loc Cert.Kernel18Ideal.main_arg58)
      ∧ r.2.mem ((c.tc : Thread Cert.Kernel18Ideal.nD Cert.Kernel18Ideal.τ).loc Cert.Kernel18Ideal.main_arg59) = m ((c.tc : Thread Cert.Kernel18Ideal.nD Cert.Kernel18Ideal.τ).loc Cert.Kernel18Ideal.main_arg59))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6)
      ∧ r.2.mem ((c.tc : Thread Cert.Reference18Ideal.nD Cert.Reference18Ideal.τ).loc Cert.Reference18Ideal.main_arg7) = m ((c.tc : Thread Cert.Reference18Ideal.nD Cert.Reference18Ideal.τ).loc Cert.Reference18Ideal.main_arg7)
      ∧ r.2.mem ((c.tc : Thread Cert.Reference18Ideal.nD Cert.Reference18Ideal.τ).loc Cert.Reference18Ideal.main_arg8) = m ((c.tc : Thread Cert.Reference18Ideal.nD Cert.Reference18Ideal.τ).loc Cert.Reference18Ideal.main_arg8)
      ∧ r.2.mem ((c.tc : Thread Cert.Reference18Ideal.nD Cert.Reference18Ideal.τ).loc Cert.Reference18Ideal.main_arg9) = m ((c.tc : Thread Cert.Reference18Ideal.nD Cert.Reference18Ideal.τ).loc Cert.Reference18Ideal.main_arg9)
      ∧ r.2.mem ((c.tc : Thread Cert.Reference18Ideal.nD Cert.Reference18Ideal.τ).loc Cert.Reference18Ideal.main_arg10) = m ((c.tc : Thread Cert.Reference18Ideal.nD Cert.Reference18Ideal.τ).loc Cert.Reference18Ideal.main_arg10)
      ∧ r.2.mem ((c.tc : Thread Cert.Reference18Ideal.nD Cert.Reference18Ideal.τ).loc Cert.Reference18Ideal.main_arg11) = m ((c.tc : Thread Cert.Reference18Ideal.nD Cert.Reference18Ideal.τ).loc Cert.Reference18Ideal.main_arg11)
      ∧ r.2.mem ((c.tc : Thread Cert.Reference18Ideal.nD Cert.Reference18Ideal.τ).loc Cert.Reference18Ideal.main_arg12) = m ((c.tc : Thread Cert.Reference18Ideal.nD Cert.Reference18Ideal.τ).loc Cert.Reference18Ideal.main_arg12)
      ∧ r.2.mem ((c.tc : Thread Cert.Reference18Ideal.nD Cert.Reference18Ideal.τ).loc Cert.Reference18Ideal.main_arg13) = m ((c.tc : Thread Cert.Reference18Ideal.nD Cert.Reference18Ideal.τ).loc Cert.Reference18Ideal.main_arg13)
      ∧ r.2.mem ((c.tc : Thread Cert.Reference18Ideal.nD Cert.Reference18Ideal.τ).loc Cert.Reference18Ideal.main_arg14) = m ((c.tc : Thread Cert.Reference18Ideal.nD Cert.Reference18Ideal.τ).loc Cert.Reference18Ideal.main_arg14)
      ∧ r.2.mem ((c.tc : Thread Cert.Reference18Ideal.nD Cert.Reference18Ideal.τ).loc Cert.Reference18Ideal.main_arg15) = m ((c.tc : Thread Cert.Reference18Ideal.nD Cert.Reference18Ideal.τ).loc Cert.Reference18Ideal.main_arg15)
      ∧ r.2.mem ((c.tc : Thread Cert.Reference18Ideal.nD Cert.Reference18Ideal.τ).loc Cert.Reference18Ideal.main_arg16) = m ((c.tc : Thread Cert.Reference18Ideal.nD Cert.Reference18Ideal.τ).loc Cert.Reference18Ideal.main_arg16)
      ∧ r.2.mem ((c.tc : Thread Cert.Reference18Ideal.nD Cert.Reference18Ideal.τ).loc Cert.Reference18Ideal.main_arg17) = m ((c.tc : Thread Cert.Reference18Ideal.nD Cert.Reference18Ideal.τ).loc Cert.Reference18Ideal.main_arg17)
      ∧ r.2.mem ((c.tc : Thread Cert.Reference18Ideal.nD Cert.Reference18Ideal.τ).loc Cert.Reference18Ideal.main_arg18) = m ((c.tc : Thread Cert.Reference18Ideal.nD Cert.Reference18Ideal.τ).loc Cert.Reference18Ideal.main_arg18)
      ∧ r.2.mem ((c.tc : Thread Cert.Reference18Ideal.nD Cert.Reference18Ideal.τ).loc Cert.Reference18Ideal.main_arg19) = m ((c.tc : Thread Cert.Reference18Ideal.nD Cert.Reference18Ideal.τ).loc Cert.Reference18Ideal.main_arg19)
      ∧ r.2.mem ((c.tc : Thread Cert.Reference18Ideal.nD Cert.Reference18Ideal.τ).loc Cert.Reference18Ideal.main_arg20) = m ((c.tc : Thread Cert.Reference18Ideal.nD Cert.Reference18Ideal.τ).loc Cert.Reference18Ideal.main_arg20)
      ∧ r.2.mem ((c.tc : Thread Cert.Reference18Ideal.nD Cert.Reference18Ideal.τ).loc Cert.Reference18Ideal.main_arg21) = m ((c.tc : Thread Cert.Reference18Ideal.nD Cert.Reference18Ideal.τ).loc Cert.Reference18Ideal.main_arg21)
      ∧ r.2.mem ((c.tc : Thread Cert.Reference18Ideal.nD Cert.Reference18Ideal.τ).loc Cert.Reference18Ideal.main_arg22) = m ((c.tc : Thread Cert.Reference18Ideal.nD Cert.Reference18Ideal.τ).loc Cert.Reference18Ideal.main_arg22)
      ∧ r.2.mem ((c.tc : Thread Cert.Reference18Ideal.nD Cert.Reference18Ideal.τ).loc Cert.Reference18Ideal.main_arg23) = m ((c.tc : Thread Cert.Reference18Ideal.nD Cert.Reference18Ideal.τ).loc Cert.Reference18Ideal.main_arg23)
      ∧ r.2.mem ((c.tc : Thread Cert.Reference18Ideal.nD Cert.Reference18Ideal.τ).loc Cert.Reference18Ideal.main_arg24) = m ((c.tc : Thread Cert.Reference18Ideal.nD Cert.Reference18Ideal.τ).loc Cert.Reference18Ideal.main_arg24)
      ∧ r.2.mem ((c.tc : Thread Cert.Reference18Ideal.nD Cert.Reference18Ideal.τ).loc Cert.Reference18Ideal.main_arg25) = m ((c.tc : Thread Cert.Reference18Ideal.nD Cert.Reference18Ideal.τ).loc Cert.Reference18Ideal.main_arg25)
      ∧ r.2.mem ((c.tc : Thread Cert.Reference18Ideal.nD Cert.Reference18Ideal.τ).loc Cert.Reference18Ideal.main_arg26) = m ((c.tc : Thread Cert.Reference18Ideal.nD Cert.Reference18Ideal.τ).loc Cert.Reference18Ideal.main_arg26)
      ∧ r.2.mem ((c.tc : Thread Cert.Reference18Ideal.nD Cert.Reference18Ideal.τ).loc Cert.Reference18Ideal.main_arg27) = m ((c.tc : Thread Cert.Reference18Ideal.nD Cert.Reference18Ideal.τ).loc Cert.Reference18Ideal.main_arg27)
      ∧ r.2.mem ((c.tc : Thread Cert.Reference18Ideal.nD Cert.Reference18Ideal.τ).loc Cert.Reference18Ideal.main_arg28) = m ((c.tc : Thread Cert.Reference18Ideal.nD Cert.Reference18Ideal.τ).loc Cert.Reference18Ideal.main_arg28)
      ∧ r.2.mem ((c.tc : Thread Cert.Reference18Ideal.nD Cert.Reference18Ideal.τ).loc Cert.Reference18Ideal.main_arg29) = m ((c.tc : Thread Cert.Reference18Ideal.nD Cert.Reference18Ideal.τ).loc Cert.Reference18Ideal.main_arg29)
      ∧ r.2.mem ((c.tc : Thread Cert.Reference18Ideal.nD Cert.Reference18Ideal.τ).loc Cert.Reference18Ideal.main_arg30) = m ((c.tc : Thread Cert.Reference18Ideal.nD Cert.Reference18Ideal.τ).loc Cert.Reference18Ideal.main_arg30)
      ∧ r.2.mem ((c.tc : Thread Cert.Reference18Ideal.nD Cert.Reference18Ideal.τ).loc Cert.Reference18Ideal.main_arg31) = m ((c.tc : Thread Cert.Reference18Ideal.nD Cert.Reference18Ideal.τ).loc Cert.Reference18Ideal.main_arg31)
      ∧ r.2.mem ((c.tc : Thread Cert.Reference18Ideal.nD Cert.Reference18Ideal.τ).loc Cert.Reference18Ideal.main_arg32) = m ((c.tc : Thread Cert.Reference18Ideal.nD Cert.Reference18Ideal.τ).loc Cert.Reference18Ideal.main_arg32)
      ∧ r.2.mem ((c.tc : Thread Cert.Reference18Ideal.nD Cert.Reference18Ideal.τ).loc Cert.Reference18Ideal.main_arg33) = m ((c.tc : Thread Cert.Reference18Ideal.nD Cert.Reference18Ideal.τ).loc Cert.Reference18Ideal.main_arg33)
      ∧ r.2.mem ((c.tc : Thread Cert.Reference18Ideal.nD Cert.Reference18Ideal.τ).loc Cert.Reference18Ideal.main_arg34) = m ((c.tc : Thread Cert.Reference18Ideal.nD Cert.Reference18Ideal.τ).loc Cert.Reference18Ideal.main_arg34)
      ∧ r.2.mem ((c.tc : Thread Cert.Reference18Ideal.nD Cert.Reference18Ideal.τ).loc Cert.Reference18Ideal.main_arg35) = m ((c.tc : Thread Cert.Reference18Ideal.nD Cert.Reference18Ideal.τ).loc Cert.Reference18Ideal.main_arg35)
      ∧ r.2.mem ((c.tc : Thread Cert.Reference18Ideal.nD Cert.Reference18Ideal.τ).loc Cert.Reference18Ideal.main_arg36) = m ((c.tc : Thread Cert.Reference18Ideal.nD Cert.Reference18Ideal.τ).loc Cert.Reference18Ideal.main_arg36)
      ∧ r.2.mem ((c.tc : Thread Cert.Reference18Ideal.nD Cert.Reference18Ideal.τ).loc Cert.Reference18Ideal.main_arg37) = m ((c.tc : Thread Cert.Reference18Ideal.nD Cert.Reference18Ideal.τ).loc Cert.Reference18Ideal.main_arg37)
      ∧ r.2.mem ((c.tc : Thread Cert.Reference18Ideal.nD Cert.Reference18Ideal.τ).loc Cert.Reference18Ideal.main_arg38) = m ((c.tc : Thread Cert.Reference18Ideal.nD Cert.Reference18Ideal.τ).loc Cert.Reference18Ideal.main_arg38)
      ∧ r.2.mem ((c.tc : Thread Cert.Reference18Ideal.nD Cert.Reference18Ideal.τ).loc Cert.Reference18Ideal.main_arg39) = m ((c.tc : Thread Cert.Reference18Ideal.nD Cert.Reference18Ideal.τ).loc Cert.Reference18Ideal.main_arg39)
      ∧ r.2.mem ((c.tc : Thread Cert.Reference18Ideal.nD Cert.Reference18Ideal.τ).loc Cert.Reference18Ideal.main_arg40) = m ((c.tc : Thread Cert.Reference18Ideal.nD Cert.Reference18Ideal.τ).loc Cert.Reference18Ideal.main_arg40)
      ∧ r.2.mem ((c.tc : Thread Cert.Reference18Ideal.nD Cert.Reference18Ideal.τ).loc Cert.Reference18Ideal.main_arg41) = m ((c.tc : Thread Cert.Reference18Ideal.nD Cert.Reference18Ideal.τ).loc Cert.Reference18Ideal.main_arg41)
      ∧ r.2.mem ((c.tc : Thread Cert.Reference18Ideal.nD Cert.Reference18Ideal.τ).loc Cert.Reference18Ideal.main_arg42) = m ((c.tc : Thread Cert.Reference18Ideal.nD Cert.Reference18Ideal.τ).loc Cert.Reference18Ideal.main_arg42)
      ∧ r.2.mem ((c.tc : Thread Cert.Reference18Ideal.nD Cert.Reference18Ideal.τ).loc Cert.Reference18Ideal.main_arg43) = m ((c.tc : Thread Cert.Reference18Ideal.nD Cert.Reference18Ideal.τ).loc Cert.Reference18Ideal.main_arg43)
      ∧ r.2.mem ((c.tc : Thread Cert.Reference18Ideal.nD Cert.Reference18Ideal.τ).loc Cert.Reference18Ideal.main_arg44) = m ((c.tc : Thread Cert.Reference18Ideal.nD Cert.Reference18Ideal.τ).loc Cert.Reference18Ideal.main_arg44)
      ∧ r.2.mem ((c.tc : Thread Cert.Reference18Ideal.nD Cert.Reference18Ideal.τ).loc Cert.Reference18Ideal.main_arg45) = m ((c.tc : Thread Cert.Reference18Ideal.nD Cert.Reference18Ideal.τ).loc Cert.Reference18Ideal.main_arg45)
      ∧ r.2.mem ((c.tc : Thread Cert.Reference18Ideal.nD Cert.Reference18Ideal.τ).loc Cert.Reference18Ideal.main_arg46) = m ((c.tc : Thread Cert.Reference18Ideal.nD Cert.Reference18Ideal.τ).loc Cert.Reference18Ideal.main_arg46)
      ∧ r.2.mem ((c.tc : Thread Cert.Reference18Ideal.nD Cert.Reference18Ideal.τ).loc Cert.Reference18Ideal.main_arg47) = m ((c.tc : Thread Cert.Reference18Ideal.nD Cert.Reference18Ideal.τ).loc Cert.Reference18Ideal.main_arg47)
      ∧ r.2.mem ((c.tc : Thread Cert.Reference18Ideal.nD Cert.Reference18Ideal.τ).loc Cert.Reference18Ideal.main_arg48) = m ((c.tc : Thread Cert.Reference18Ideal.nD Cert.Reference18Ideal.τ).loc Cert.Reference18Ideal.main_arg48)
      ∧ r.2.mem ((c.tc : Thread Cert.Reference18Ideal.nD Cert.Reference18Ideal.τ).loc Cert.Reference18Ideal.main_arg49) = m ((c.tc : Thread Cert.Reference18Ideal.nD Cert.Reference18Ideal.τ).loc Cert.Reference18Ideal.main_arg49)
      ∧ r.2.mem ((c.tc : Thread Cert.Reference18Ideal.nD Cert.Reference18Ideal.τ).loc Cert.Reference18Ideal.main_arg50) = m ((c.tc : Thread Cert.Reference18Ideal.nD Cert.Reference18Ideal.τ).loc Cert.Reference18Ideal.main_arg50)
      ∧ r.2.mem ((c.tc : Thread Cert.Reference18Ideal.nD Cert.Reference18Ideal.τ).loc Cert.Reference18Ideal.main_arg51) = m ((c.tc : Thread Cert.Reference18Ideal.nD Cert.Reference18Ideal.τ).loc Cert.Reference18Ideal.main_arg51)
      ∧ r.2.mem ((c.tc : Thread Cert.Reference18Ideal.nD Cert.Reference18Ideal.τ).loc Cert.Reference18Ideal.main_arg52) = m ((c.tc : Thread Cert.Reference18Ideal.nD Cert.Reference18Ideal.τ).loc Cert.Reference18Ideal.main_arg52)
      ∧ r.2.mem ((c.tc : Thread Cert.Reference18Ideal.nD Cert.Reference18Ideal.τ).loc Cert.Reference18Ideal.main_arg53) = m ((c.tc : Thread Cert.Reference18Ideal.nD Cert.Reference18Ideal.τ).loc Cert.Reference18Ideal.main_arg53)
      ∧ r.2.mem ((c.tc : Thread Cert.Reference18Ideal.nD Cert.Reference18Ideal.τ).loc Cert.Reference18Ideal.main_arg54) = m ((c.tc : Thread Cert.Reference18Ideal.nD Cert.Reference18Ideal.τ).loc Cert.Reference18Ideal.main_arg54)
      ∧ r.2.mem ((c.tc : Thread Cert.Reference18Ideal.nD Cert.Reference18Ideal.τ).loc Cert.Reference18Ideal.main_arg55) = m ((c.tc : Thread Cert.Reference18Ideal.nD Cert.Reference18Ideal.τ).loc Cert.Reference18Ideal.main_arg55)
      ∧ r.2.mem ((c.tc : Thread Cert.Reference18Ideal.nD Cert.Reference18Ideal.τ).loc Cert.Reference18Ideal.main_arg56) = m ((c.tc : Thread Cert.Reference18Ideal.nD Cert.Reference18Ideal.τ).loc Cert.Reference18Ideal.main_arg56)
      ∧ r.2.mem ((c.tc : Thread Cert.Reference18Ideal.nD Cert.Reference18Ideal.τ).loc Cert.Reference18Ideal.main_arg57) = m ((c.tc : Thread Cert.Reference18Ideal.nD Cert.Reference18Ideal.τ).loc Cert.Reference18Ideal.main_arg57)
      ∧ r.2.mem ((c.tc : Thread Cert.Reference18Ideal.nD Cert.Reference18Ideal.τ).loc Cert.Reference18Ideal.main_arg58) = m ((c.tc : Thread Cert.Reference18Ideal.nD Cert.Reference18Ideal.τ).loc Cert.Reference18Ideal.main_arg58)
      ∧ r.2.mem ((c.tc : Thread Cert.Reference18Ideal.nD Cert.Reference18Ideal.τ).loc Cert.Reference18Ideal.main_arg59) = m ((c.tc : Thread Cert.Reference18Ideal.nD Cert.Reference18Ideal.τ).loc Cert.Reference18Ideal.main_arg59))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Kernel23Ideal_pre_finite [hKernel23Ideal : Cert.Kernel23Ideal.Facts] [hPre_finite : Cert.Pre_finite.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal_finite m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Reference23Ideal_pre_finite [hReference23Ideal : Cert.Reference23Ideal.Facts] [hPre_finite : Cert.Pre_finite.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal_finite m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v3_0)) (v1 : (c : Dev Cert.Kernel13Ideal.nD) → Buf (Elt Ideal) ((c.tc : Thread Cert.Kernel13Ideal.nD Cert.Kernel13Ideal.τ).loc Cert.Kernel13Ideal.main_v3_1)) (v2 : (c : Dev Cert.Kernel13Ideal.nD) → Buf (Elt Ideal) ((c.tc : Thread Cert.Kernel13Ideal.nD Cert.Kernel13Ideal.τ).loc Cert.Kernel13Ideal.main_v3_2)) (v3 : (c : Dev Cert.Kernel13Ideal.nD) → Buf (Elt Ideal) ((c.tc : Thread Cert.Kernel13Ideal.nD Cert.Kernel13Ideal.τ).loc Cert.Kernel13Ideal.main_v3_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3_0) = v0 c
          ∧ r.2.mem ((c.tc : Thread Cert.Kernel13Ideal.nD Cert.Kernel13Ideal.τ).loc Cert.Kernel13Ideal.main_v3_1) = v1 c
          ∧ r.2.mem ((c.tc : Thread Cert.Kernel13Ideal.nD Cert.Kernel13Ideal.τ).loc Cert.Kernel13Ideal.main_v3_2) = v2 c
          ∧ r.2.mem ((c.tc : Thread Cert.Kernel13Ideal.nD Cert.Kernel13Ideal.τ).loc Cert.Kernel13Ideal.main_v3_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_arg1) = v0 c
          ∧ r.2.mem ((c.tc : Thread Cert.Reference13Ideal.nD Cert.Reference13Ideal.τ).loc Cert.Reference13Ideal.main_v25) = v1 c
          ∧ r.2.mem ((c.tc : Thread Cert.Reference13Ideal.nD Cert.Reference13Ideal.τ).loc Cert.Reference13Ideal.main_v26) = v2 c
          ∧ r.2.mem ((c.tc : Thread Cert.Reference13Ideal.nD Cert.Reference13Ideal.τ).loc Cert.Reference13Ideal.main_v27) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v3_0)) (v1 : (c : Dev Cert.Kernel14Ideal.nD) → Buf (Elt Ideal) ((c.tc : Thread Cert.Kernel14Ideal.nD Cert.Kernel14Ideal.τ).loc Cert.Kernel14Ideal.main_v3_1)) (v2 : (c : Dev Cert.Kernel14Ideal.nD) → Buf (Elt Ideal) ((c.tc : Thread Cert.Kernel14Ideal.nD Cert.Kernel14Ideal.τ).loc Cert.Kernel14Ideal.main_v3_2)) (v3 : (c : Dev Cert.Kernel14Ideal.nD) → Buf (Elt Ideal) ((c.tc : Thread Cert.Kernel14Ideal.nD Cert.Kernel14Ideal.τ).loc Cert.Kernel14Ideal.main_v3_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3_0) = v0 c
          ∧ r.2.mem ((c.tc : Thread Cert.Kernel14Ideal.nD Cert.Kernel14Ideal.τ).loc Cert.Kernel14Ideal.main_v3_1) = v1 c
          ∧ r.2.mem ((c.tc : Thread Cert.Kernel14Ideal.nD Cert.Kernel14Ideal.τ).loc Cert.Kernel14Ideal.main_v3_2) = v2 c
          ∧ r.2.mem ((c.tc : Thread Cert.Kernel14Ideal.nD Cert.Kernel14Ideal.τ).loc Cert.Kernel14Ideal.main_v3_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_arg1) = v0 c
          ∧ r.2.mem ((c.tc : Thread Cert.Reference14Ideal.nD Cert.Reference14Ideal.τ).loc Cert.Reference14Ideal.main_v25) = v1 c
          ∧ r.2.mem ((c.tc : Thread Cert.Reference14Ideal.nD Cert.Reference14Ideal.τ).loc Cert.Reference14Ideal.main_v26) = v2 c
          ∧ r.2.mem ((c.tc : Thread Cert.Reference14Ideal.nD Cert.Reference14Ideal.τ).loc Cert.Reference14Ideal.main_v27) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v3_0)) (v1 : (c : Dev Cert.Kernel15Ideal.nD) → Buf (Elt Ideal) ((c.tc : Thread Cert.Kernel15Ideal.nD Cert.Kernel15Ideal.τ).loc Cert.Kernel15Ideal.main_v3_1)) (v2 : (c : Dev Cert.Kernel15Ideal.nD) → Buf (Elt Ideal) ((c.tc : Thread Cert.Kernel15Ideal.nD Cert.Kernel15Ideal.τ).loc Cert.Kernel15Ideal.main_v3_2)) (v3 : (c : Dev Cert.Kernel15Ideal.nD) → Buf (Elt Ideal) ((c.tc : Thread Cert.Kernel15Ideal.nD Cert.Kernel15Ideal.τ).loc Cert.Kernel15Ideal.main_v3_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v3_0) = v0 c
          ∧ r.2.mem ((c.tc : Thread Cert.Kernel15Ideal.nD Cert.Kernel15Ideal.τ).loc Cert.Kernel15Ideal.main_v3_1) = v1 c
          ∧ r.2.mem ((c.tc : Thread Cert.Kernel15Ideal.nD Cert.Kernel15Ideal.τ).loc Cert.Kernel15Ideal.main_v3_2) = v2 c
          ∧ r.2.mem ((c.tc : Thread Cert.Kernel15Ideal.nD Cert.Kernel15Ideal.τ).loc Cert.Kernel15Ideal.main_v3_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_arg1) = v0 c
          ∧ r.2.mem ((c.tc : Thread Cert.Reference15Ideal.nD Cert.Reference15Ideal.τ).loc Cert.Reference15Ideal.main_v25) = v1 c
          ∧ r.2.mem ((c.tc : Thread Cert.Reference15Ideal.nD Cert.Reference15Ideal.τ).loc Cert.Reference15Ideal.main_v26) = v2 c
          ∧ r.2.mem ((c.tc : Thread Cert.Reference15Ideal.nD Cert.Reference15Ideal.τ).loc Cert.Reference15Ideal.main_v27) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v3_0)) (v1 : (c : Dev Cert.Kernel16Ideal.nD) → Buf (Elt Ideal) ((c.tc : Thread Cert.Kernel16Ideal.nD Cert.Kernel16Ideal.τ).loc Cert.Kernel16Ideal.main_v3_1)) (v2 : (c : Dev Cert.Kernel16Ideal.nD) → Buf (Elt Ideal) ((c.tc : Thread Cert.Kernel16Ideal.nD Cert.Kernel16Ideal.τ).loc Cert.Kernel16Ideal.main_v3_2)) (v3 : (c : Dev Cert.Kernel16Ideal.nD) → Buf (Elt Ideal) ((c.tc : Thread Cert.Kernel16Ideal.nD Cert.Kernel16Ideal.τ).loc Cert.Kernel16Ideal.main_v3_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v3_0) = v0 c
          ∧ r.2.mem ((c.tc : Thread Cert.Kernel16Ideal.nD Cert.Kernel16Ideal.τ).loc Cert.Kernel16Ideal.main_v3_1) = v1 c
          ∧ r.2.mem ((c.tc : Thread Cert.Kernel16Ideal.nD Cert.Kernel16Ideal.τ).loc Cert.Kernel16Ideal.main_v3_2) = v2 c
          ∧ r.2.mem ((c.tc : Thread Cert.Kernel16Ideal.nD Cert.Kernel16Ideal.τ).loc Cert.Kernel16Ideal.main_v3_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_arg1) = v0 c
          ∧ r.2.mem ((c.tc : Thread Cert.Reference16Ideal.nD Cert.Reference16Ideal.τ).loc Cert.Reference16Ideal.main_v25) = v1 c
          ∧ r.2.mem ((c.tc : Thread Cert.Reference16Ideal.nD Cert.Reference16Ideal.τ).loc Cert.Reference16Ideal.main_v26) = v2 c
          ∧ r.2.mem ((c.tc : Thread Cert.Reference16Ideal.nD Cert.Reference16Ideal.τ).loc Cert.Reference16Ideal.main_v27) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v3_0)) (v1 : (c : Dev Cert.Kernel17Ideal.nD) → Buf (Elt Ideal) ((c.tc : Thread Cert.Kernel17Ideal.nD Cert.Kernel17Ideal.τ).loc Cert.Kernel17Ideal.main_v3_1)) (v2 : (c : Dev Cert.Kernel17Ideal.nD) → Buf (Elt Ideal) ((c.tc : Thread Cert.Kernel17Ideal.nD Cert.Kernel17Ideal.τ).loc Cert.Kernel17Ideal.main_v3_2)) (v3 : (c : Dev Cert.Kernel17Ideal.nD) → Buf (Elt Ideal) ((c.tc : Thread Cert.Kernel17Ideal.nD Cert.Kernel17Ideal.τ).loc Cert.Kernel17Ideal.main_v3_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v3_0) = v0 c
          ∧ r.2.mem ((c.tc : Thread Cert.Kernel17Ideal.nD Cert.Kernel17Ideal.τ).loc Cert.Kernel17Ideal.main_v3_1) = v1 c
          ∧ r.2.mem ((c.tc : Thread Cert.Kernel17Ideal.nD Cert.Kernel17Ideal.τ).loc Cert.Kernel17Ideal.main_v3_2) = v2 c
          ∧ r.2.mem ((c.tc : Thread Cert.Kernel17Ideal.nD Cert.Kernel17Ideal.τ).loc Cert.Kernel17Ideal.main_v3_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_arg1) = v0 c
          ∧ r.2.mem ((c.tc : Thread Cert.Reference17Ideal.nD Cert.Reference17Ideal.τ).loc Cert.Reference17Ideal.main_v25) = v1 c
          ∧ r.2.mem ((c.tc : Thread Cert.Reference17Ideal.nD Cert.Reference17Ideal.τ).loc Cert.Reference17Ideal.main_v26) = v2 c
          ∧ r.2.mem ((c.tc : Thread Cert.Reference17Ideal.nD Cert.Reference17Ideal.τ).loc Cert.Reference17Ideal.main_v27) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)
      ∧ m' ((c.tc : Thread Cert.Reference18Ideal.nD Cert.Reference18Ideal.τ).loc Cert.Reference18Ideal.main_arg6) = m ((c.tc : Thread Cert.Kernel18Ideal.nD Cert.Kernel18Ideal.τ).loc Cert.Kernel18Ideal.main_arg6)
      ∧ m' ((c.tc : Thread Cert.Reference18Ideal.nD Cert.Reference18Ideal.τ).loc Cert.Reference18Ideal.main_arg7) = m ((c.tc : Thread Cert.Kernel18Ideal.nD Cert.Kernel18Ideal.τ).loc Cert.Kernel18Ideal.main_arg7)
      ∧ m' ((c.tc : Thread Cert.Reference18Ideal.nD Cert.Reference18Ideal.τ).loc Cert.Reference18Ideal.main_arg8) = m ((c.tc : Thread Cert.Kernel18Ideal.nD Cert.Kernel18Ideal.τ).loc Cert.Kernel18Ideal.main_arg8)
      ∧ m' ((c.tc : Thread Cert.Reference18Ideal.nD Cert.Reference18Ideal.τ).loc Cert.Reference18Ideal.main_arg9) = m ((c.tc : Thread Cert.Kernel18Ideal.nD Cert.Kernel18Ideal.τ).loc Cert.Kernel18Ideal.main_arg9)
      ∧ m' ((c.tc : Thread Cert.Reference18Ideal.nD Cert.Reference18Ideal.τ).loc Cert.Reference18Ideal.main_arg10) = m ((c.tc : Thread Cert.Kernel18Ideal.nD Cert.Kernel18Ideal.τ).loc Cert.Kernel18Ideal.main_arg10)
      ∧ m' ((c.tc : Thread Cert.Reference18Ideal.nD Cert.Reference18Ideal.τ).loc Cert.Reference18Ideal.main_arg11) = m ((c.tc : Thread Cert.Kernel18Ideal.nD Cert.Kernel18Ideal.τ).loc Cert.Kernel18Ideal.main_arg11)
      ∧ m' ((c.tc : Thread Cert.Reference18Ideal.nD Cert.Reference18Ideal.τ).loc Cert.Reference18Ideal.main_arg12) = m ((c.tc : Thread Cert.Kernel18Ideal.nD Cert.Kernel18Ideal.τ).loc Cert.Kernel18Ideal.main_arg12)
      ∧ m' ((c.tc : Thread Cert.Reference18Ideal.nD Cert.Reference18Ideal.τ).loc Cert.Reference18Ideal.main_arg13) = m ((c.tc : Thread Cert.Kernel18Ideal.nD Cert.Kernel18Ideal.τ).loc Cert.Kernel18Ideal.main_arg13)
      ∧ m' ((c.tc : Thread Cert.Reference18Ideal.nD Cert.Reference18Ideal.τ).loc Cert.Reference18Ideal.main_arg14) = m ((c.tc : Thread Cert.Kernel18Ideal.nD Cert.Kernel18Ideal.τ).loc Cert.Kernel18Ideal.main_arg14)
      ∧ m' ((c.tc : Thread Cert.Reference18Ideal.nD Cert.Reference18Ideal.τ).loc Cert.Reference18Ideal.main_arg15) = m ((c.tc : Thread Cert.Kernel18Ideal.nD Cert.Kernel18Ideal.τ).loc Cert.Kernel18Ideal.main_arg15)
      ∧ m' ((c.tc : Thread Cert.Reference18Ideal.nD Cert.Reference18Ideal.τ).loc Cert.Reference18Ideal.main_arg16) = m ((c.tc : Thread Cert.Kernel18Ideal.nD Cert.Kernel18Ideal.τ).loc Cert.Kernel18Ideal.main_arg16)
      ∧ m' ((c.tc : Thread Cert.Reference18Ideal.nD Cert.Reference18Ideal.τ).loc Cert.Reference18Ideal.main_arg17) = m ((c.tc : Thread Cert.Kernel18Ideal.nD Cert.Kernel18Ideal.τ).loc Cert.Kernel18Ideal.main_arg17)
      ∧ m' ((c.tc : Thread Cert.Reference18Ideal.nD Cert.Reference18Ideal.τ).loc Cert.Reference18Ideal.main_arg18) = m ((c.tc : Thread Cert.Kernel18Ideal.nD Cert.Kernel18Ideal.τ).loc Cert.Kernel18Ideal.main_arg18)
      ∧ m' ((c.tc : Thread Cert.Reference18Ideal.nD Cert.Reference18Ideal.τ).loc Cert.Reference18Ideal.main_arg19) = m ((c.tc : Thread Cert.Kernel18Ideal.nD Cert.Kernel18Ideal.τ).loc Cert.Kernel18Ideal.main_arg19)
      ∧ m' ((c.tc : Thread Cert.Reference18Ideal.nD Cert.Reference18Ideal.τ).loc Cert.Reference18Ideal.main_arg20) = m ((c.tc : Thread Cert.Kernel18Ideal.nD Cert.Kernel18Ideal.τ).loc Cert.Kernel18Ideal.main_arg20)
      ∧ m' ((c.tc : Thread Cert.Reference18Ideal.nD Cert.Reference18Ideal.τ).loc Cert.Reference18Ideal.main_arg21) = m ((c.tc : Thread Cert.Kernel18Ideal.nD Cert.Kernel18Ideal.τ).loc Cert.Kernel18Ideal.main_arg21)
      ∧ m' ((c.tc : Thread Cert.Reference18Ideal.nD Cert.Reference18Ideal.τ).loc Cert.Reference18Ideal.main_arg22) = m ((c.tc : Thread Cert.Kernel18Ideal.nD Cert.Kernel18Ideal.τ).loc Cert.Kernel18Ideal.main_arg22)
      ∧ m' ((c.tc : Thread Cert.Reference18Ideal.nD Cert.Reference18Ideal.τ).loc Cert.Reference18Ideal.main_arg23) = m ((c.tc : Thread Cert.Kernel18Ideal.nD Cert.Kernel18Ideal.τ).loc Cert.Kernel18Ideal.main_arg23)
      ∧ m' ((c.tc : Thread Cert.Reference18Ideal.nD Cert.Reference18Ideal.τ).loc Cert.Reference18Ideal.main_arg24) = m ((c.tc : Thread Cert.Kernel18Ideal.nD Cert.Kernel18Ideal.τ).loc Cert.Kernel18Ideal.main_arg24)
      ∧ m' ((c.tc : Thread Cert.Reference18Ideal.nD Cert.Reference18Ideal.τ).loc Cert.Reference18Ideal.main_arg25) = m ((c.tc : Thread Cert.Kernel18Ideal.nD Cert.Kernel18Ideal.τ).loc Cert.Kernel18Ideal.main_arg25)
      ∧ m' ((c.tc : Thread Cert.Reference18Ideal.nD Cert.Reference18Ideal.τ).loc Cert.Reference18Ideal.main_arg26) = m ((c.tc : Thread Cert.Kernel18Ideal.nD Cert.Kernel18Ideal.τ).loc Cert.Kernel18Ideal.main_arg26)
      ∧ m' ((c.tc : Thread Cert.Reference18Ideal.nD Cert.Reference18Ideal.τ).loc Cert.Reference18Ideal.main_arg27) = m ((c.tc : Thread Cert.Kernel18Ideal.nD Cert.Kernel18Ideal.τ).loc Cert.Kernel18Ideal.main_arg27)
      ∧ m' ((c.tc : Thread Cert.Reference18Ideal.nD Cert.Reference18Ideal.τ).loc Cert.Reference18Ideal.main_arg28) = m ((c.tc : Thread Cert.Kernel18Ideal.nD Cert.Kernel18Ideal.τ).loc Cert.Kernel18Ideal.main_arg28)
      ∧ m' ((c.tc : Thread Cert.Reference18Ideal.nD Cert.Reference18Ideal.τ).loc Cert.Reference18Ideal.main_arg29) = m ((c.tc : Thread Cert.Kernel18Ideal.nD Cert.Kernel18Ideal.τ).loc Cert.Kernel18Ideal.main_arg29)
      ∧ m' ((c.tc : Thread Cert.Reference18Ideal.nD Cert.Reference18Ideal.τ).loc Cert.Reference18Ideal.main_arg30) = m ((c.tc : Thread Cert.Kernel18Ideal.nD Cert.Kernel18Ideal.τ).loc Cert.Kernel18Ideal.main_arg30)
      ∧ m' ((c.tc : Thread Cert.Reference18Ideal.nD Cert.Reference18Ideal.τ).loc Cert.Reference18Ideal.main_arg31) = m ((c.tc : Thread Cert.Kernel18Ideal.nD Cert.Kernel18Ideal.τ).loc Cert.Kernel18Ideal.main_arg31)
      ∧ m' ((c.tc : Thread Cert.Reference18Ideal.nD Cert.Reference18Ideal.τ).loc Cert.Reference18Ideal.main_arg32) = m ((c.tc : Thread Cert.Kernel18Ideal.nD Cert.Kernel18Ideal.τ).loc Cert.Kernel18Ideal.main_arg32)
      ∧ m' ((c.tc : Thread Cert.Reference18Ideal.nD Cert.Reference18Ideal.τ).loc Cert.Reference18Ideal.main_arg33) = m ((c.tc : Thread Cert.Kernel18Ideal.nD Cert.Kernel18Ideal.τ).loc Cert.Kernel18Ideal.main_arg33)
      ∧ m' ((c.tc : Thread Cert.Reference18Ideal.nD Cert.Reference18Ideal.τ).loc Cert.Reference18Ideal.main_arg34) = m ((c.tc : Thread Cert.Kernel18Ideal.nD Cert.Kernel18Ideal.τ).loc Cert.Kernel18Ideal.main_arg34)
      ∧ m' ((c.tc : Thread Cert.Reference18Ideal.nD Cert.Reference18Ideal.τ).loc Cert.Reference18Ideal.main_arg35) = m ((c.tc : Thread Cert.Kernel18Ideal.nD Cert.Kernel18Ideal.τ).loc Cert.Kernel18Ideal.main_arg35)
      ∧ m' ((c.tc : Thread Cert.Reference18Ideal.nD Cert.Reference18Ideal.τ).loc Cert.Reference18Ideal.main_arg36) = m ((c.tc : Thread Cert.Kernel18Ideal.nD Cert.Kernel18Ideal.τ).loc Cert.Kernel18Ideal.main_arg36)
      ∧ m' ((c.tc : Thread Cert.Reference18Ideal.nD Cert.Reference18Ideal.τ).loc Cert.Reference18Ideal.main_arg37) = m ((c.tc : Thread Cert.Kernel18Ideal.nD Cert.Kernel18Ideal.τ).loc Cert.Kernel18Ideal.main_arg37)
      ∧ m' ((c.tc : Thread Cert.Reference18Ideal.nD Cert.Reference18Ideal.τ).loc Cert.Reference18Ideal.main_arg38) = m ((c.tc : Thread Cert.Kernel18Ideal.nD Cert.Kernel18Ideal.τ).loc Cert.Kernel18Ideal.main_arg38)
      ∧ m' ((c.tc : Thread Cert.Reference18Ideal.nD Cert.Reference18Ideal.τ).loc Cert.Reference18Ideal.main_arg39) = m ((c.tc : Thread Cert.Kernel18Ideal.nD Cert.Kernel18Ideal.τ).loc Cert.Kernel18Ideal.main_arg39)
      ∧ m' ((c.tc : Thread Cert.Reference18Ideal.nD Cert.Reference18Ideal.τ).loc Cert.Reference18Ideal.main_arg40) = m ((c.tc : Thread Cert.Kernel18Ideal.nD Cert.Kernel18Ideal.τ).loc Cert.Kernel18Ideal.main_arg40)
      ∧ m' ((c.tc : Thread Cert.Reference18Ideal.nD Cert.Reference18Ideal.τ).loc Cert.Reference18Ideal.main_arg41) = m ((c.tc : Thread Cert.Kernel18Ideal.nD Cert.Kernel18Ideal.τ).loc Cert.Kernel18Ideal.main_arg41)
      ∧ m' ((c.tc : Thread Cert.Reference18Ideal.nD Cert.Reference18Ideal.τ).loc Cert.Reference18Ideal.main_arg42) = m ((c.tc : Thread Cert.Kernel18Ideal.nD Cert.Kernel18Ideal.τ).loc Cert.Kernel18Ideal.main_arg42)
      ∧ m' ((c.tc : Thread Cert.Reference18Ideal.nD Cert.Reference18Ideal.τ).loc Cert.Reference18Ideal.main_arg43) = m ((c.tc : Thread Cert.Kernel18Ideal.nD Cert.Kernel18Ideal.τ).loc Cert.Kernel18Ideal.main_arg43)
      ∧ m' ((c.tc : Thread Cert.Reference18Ideal.nD Cert.Reference18Ideal.τ).loc Cert.Reference18Ideal.main_arg44) = m ((c.tc : Thread Cert.Kernel18Ideal.nD Cert.Kernel18Ideal.τ).loc Cert.Kernel18Ideal.main_arg44)
      ∧ m' ((c.tc : Thread Cert.Reference18Ideal.nD Cert.Reference18Ideal.τ).loc Cert.Reference18Ideal.main_arg45) = m ((c.tc : Thread Cert.Kernel18Ideal.nD Cert.Kernel18Ideal.τ).loc Cert.Kernel18Ideal.main_arg45)
      ∧ m' ((c.tc : Thread Cert.Reference18Ideal.nD Cert.Reference18Ideal.τ).loc Cert.Reference18Ideal.main_arg46) = m ((c.tc : Thread Cert.Kernel18Ideal.nD Cert.Kernel18Ideal.τ).loc Cert.Kernel18Ideal.main_arg46)
      ∧ m' ((c.tc : Thread Cert.Reference18Ideal.nD Cert.Reference18Ideal.τ).loc Cert.Reference18Ideal.main_arg47) = m ((c.tc : Thread Cert.Kernel18Ideal.nD Cert.Kernel18Ideal.τ).loc Cert.Kernel18Ideal.main_arg47)
      ∧ m' ((c.tc : Thread Cert.Reference18Ideal.nD Cert.Reference18Ideal.τ).loc Cert.Reference18Ideal.main_arg48) = m ((c.tc : Thread Cert.Kernel18Ideal.nD Cert.Kernel18Ideal.τ).loc Cert.Kernel18Ideal.main_arg48)
      ∧ m' ((c.tc : Thread Cert.Reference18Ideal.nD Cert.Reference18Ideal.τ).loc Cert.Reference18Ideal.main_arg49) = m ((c.tc : Thread Cert.Kernel18Ideal.nD Cert.Kernel18Ideal.τ).loc Cert.Kernel18Ideal.main_arg49)
      ∧ m' ((c.tc : Thread Cert.Reference18Ideal.nD Cert.Reference18Ideal.τ).loc Cert.Reference18Ideal.main_arg50) = m ((c.tc : Thread Cert.Kernel18Ideal.nD Cert.Kernel18Ideal.τ).loc Cert.Kernel18Ideal.main_arg50)
      ∧ m' ((c.tc : Thread Cert.Reference18Ideal.nD Cert.Reference18Ideal.τ).loc Cert.Reference18Ideal.main_arg51) = m ((c.tc : Thread Cert.Kernel18Ideal.nD Cert.Kernel18Ideal.τ).loc Cert.Kernel18Ideal.main_arg51)
      ∧ m' ((c.tc : Thread Cert.Reference18Ideal.nD Cert.Reference18Ideal.τ).loc Cert.Reference18Ideal.main_arg52) = m ((c.tc : Thread Cert.Kernel18Ideal.nD Cert.Kernel18Ideal.τ).loc Cert.Kernel18Ideal.main_arg52)
      ∧ m' ((c.tc : Thread Cert.Reference18Ideal.nD Cert.Reference18Ideal.τ).loc Cert.Reference18Ideal.main_arg53) = m ((c.tc : Thread Cert.Kernel18Ideal.nD Cert.Kernel18Ideal.τ).loc Cert.Kernel18Ideal.main_arg53)
      ∧ m' ((c.tc : Thread Cert.Reference18Ideal.nD Cert.Reference18Ideal.τ).loc Cert.Reference18Ideal.main_arg54) = m ((c.tc : Thread Cert.Kernel18Ideal.nD Cert.Kernel18Ideal.τ).loc Cert.Kernel18Ideal.main_arg54)
      ∧ m' ((c.tc : Thread Cert.Reference18Ideal.nD Cert.Reference18Ideal.τ).loc Cert.Reference18Ideal.main_arg55) = m ((c.tc : Thread Cert.Kernel18Ideal.nD Cert.Kernel18Ideal.τ).loc Cert.Kernel18Ideal.main_arg55)
      ∧ m' ((c.tc : Thread Cert.Reference18Ideal.nD Cert.Reference18Ideal.τ).loc Cert.Reference18Ideal.main_arg56) = m ((c.tc : Thread Cert.Kernel18Ideal.nD Cert.Kernel18Ideal.τ).loc Cert.Kernel18Ideal.main_arg56)
      ∧ m' ((c.tc : Thread Cert.Reference18Ideal.nD Cert.Reference18Ideal.τ).loc Cert.Reference18Ideal.main_arg57) = m ((c.tc : Thread Cert.Kernel18Ideal.nD Cert.Kernel18Ideal.τ).loc Cert.Kernel18Ideal.main_arg57)
      ∧ m' ((c.tc : Thread Cert.Reference18Ideal.nD Cert.Reference18Ideal.τ).loc Cert.Reference18Ideal.main_arg58) = m ((c.tc : Thread Cert.Kernel18Ideal.nD Cert.Kernel18Ideal.τ).loc Cert.Kernel18Ideal.main_arg58)
      ∧ m' ((c.tc : Thread Cert.Reference18Ideal.nD Cert.Reference18Ideal.τ).loc Cert.Reference18Ideal.main_arg59) = m ((c.tc : Thread Cert.Kernel18Ideal.nD Cert.Kernel18Ideal.τ).loc Cert.Kernel18Ideal.main_arg59)) →
    ∃ (v0 : (c : Dev Cert.Kernel18Ideal.nD) → Buf (Elt Ideal) ((c.tc : Thread Cert.Kernel18Ideal.nD Cert.Kernel18Ideal.τ).loc Cert.Kernel18Ideal.main_v124_0)) (v1 : (c : Dev Cert.Kernel18Ideal.nD) → Buf (Elt Ideal) ((c.tc : Thread Cert.Kernel18Ideal.nD Cert.Kernel18Ideal.τ).loc Cert.Kernel18Ideal.main_v124_1)) (v2 : (c : Dev Cert.Kernel18Ideal.nD) → Buf (Elt Ideal) ((c.tc : Thread Cert.Kernel18Ideal.nD Cert.Kernel18Ideal.τ).loc Cert.Kernel18Ideal.main_v124_2)) (v3 : (c : Dev Cert.Kernel18Ideal.nD) → Buf (Elt Ideal) ((c.tc : Thread Cert.Kernel18Ideal.nD Cert.Kernel18Ideal.τ).loc Cert.Kernel18Ideal.main_v124_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v124_0) = v0 c
          ∧ r.2.mem ((c.tc : Thread Cert.Kernel18Ideal.nD Cert.Kernel18Ideal.τ).loc Cert.Kernel18Ideal.main_v124_1) = v1 c
          ∧ r.2.mem ((c.tc : Thread Cert.Kernel18Ideal.nD Cert.Kernel18Ideal.τ).loc Cert.Kernel18Ideal.main_v124_2) = v2 c
          ∧ r.2.mem ((c.tc : Thread Cert.Kernel18Ideal.nD Cert.Kernel18Ideal.τ).loc Cert.Kernel18Ideal.main_v124_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
          ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
          ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7)
          ∧ r.2.mem ((c.tc : Thread Cert.Kernel18Ideal.nD Cert.Kernel18Ideal.τ).loc Cert.Kernel18Ideal.main_arg8) = m ((c.tc : Thread Cert.Kernel18Ideal.nD Cert.Kernel18Ideal.τ).loc Cert.Kernel18Ideal.main_arg8)
          ∧ r.2.mem ((c.tc : Thread Cert.Kernel18Ideal.nD Cert.Kernel18Ideal.τ).loc Cert.Kernel18Ideal.main_arg9) = m ((c.tc : Thread Cert.Kernel18Ideal.nD Cert.Kernel18Ideal.τ).loc Cert.Kernel18Ideal.main_arg9)
          ∧ r.2.mem ((c.tc : Thread Cert.Kernel18Ideal.nD Cert.Kernel18Ideal.τ).loc Cert.Kernel18Ideal.main_arg10) = m ((c.tc : Thread Cert.Kernel18Ideal.nD Cert.Kernel18Ideal.τ).loc Cert.Kernel18Ideal.main_arg10)
          ∧ r.2.mem ((c.tc : Thread Cert.Kernel18Ideal.nD Cert.Kernel18Ideal.τ).loc Cert.Kernel18Ideal.main_arg11) = m ((c.tc : Thread Cert.Kernel18Ideal.nD Cert.Kernel18Ideal.τ).loc Cert.Kernel18Ideal.main_arg11)
          ∧ r.2.mem ((c.tc : Thread Cert.Kernel18Ideal.nD Cert.Kernel18Ideal.τ).loc Cert.Kernel18Ideal.main_arg12) = m ((c.tc : Thread Cert.Kernel18Ideal.nD Cert.Kernel18Ideal.τ).loc Cert.Kernel18Ideal.main_arg12)
          ∧ r.2.mem ((c.tc : Thread Cert.Kernel18Ideal.nD Cert.Kernel18Ideal.τ).loc Cert.Kernel18Ideal.main_arg13) = m ((c.tc : Thread Cert.Kernel18Ideal.nD Cert.Kernel18Ideal.τ).loc Cert.Kernel18Ideal.main_arg13)
          ∧ r.2.mem ((c.tc : Thread Cert.Kernel18Ideal.nD Cert.Kernel18Ideal.τ).loc Cert.Kernel18Ideal.main_arg14) = m ((c.tc : Thread Cert.Kernel18Ideal.nD Cert.Kernel18Ideal.τ).loc Cert.Kernel18Ideal.main_arg14)
          ∧ r.2.mem ((c.tc : Thread Cert.Kernel18Ideal.nD Cert.Kernel18Ideal.τ).loc Cert.Kernel18Ideal.main_arg15) = m ((c.tc : Thread Cert.Kernel18Ideal.nD Cert.Kernel18Ideal.τ).loc Cert.Kernel18Ideal.main_arg15)
          ∧ r.2.mem ((c.tc : Thread Cert.Kernel18Ideal.nD Cert.Kernel18Ideal.τ).loc Cert.Kernel18Ideal.main_arg16) = m ((c.tc : Thread Cert.Kernel18Ideal.nD Cert.Kernel18Ideal.τ).loc Cert.Kernel18Ideal.main_arg16)
          ∧ r.2.mem ((c.tc : Thread Cert.Kernel18Ideal.nD Cert.Kernel18Ideal.τ).loc Cert.Kernel18Ideal.main_arg17) = m ((c.tc : Thread Cert.Kernel18Ideal.nD Cert.Kernel18Ideal.τ).loc Cert.Kernel18Ideal.main_arg17)
          ∧ r.2.mem ((c.tc : Thread Cert.Kernel18Ideal.nD Cert.Kernel18Ideal.τ).loc Cert.Kernel18Ideal.main_arg18) = m ((c.tc : Thread Cert.Kernel18Ideal.nD Cert.Kernel18Ideal.τ).loc Cert.Kernel18Ideal.main_arg18)
          ∧ r.2.mem ((c.tc : Thread Cert.Kernel18Ideal.nD Cert.Kernel18Ideal.τ).loc Cert.Kernel18Ideal.main_arg19) = m ((c.tc : Thread Cert.Kernel18Ideal.nD Cert.Kernel18Ideal.τ).loc Cert.Kernel18Ideal.main_arg19)
          ∧ r.2.mem ((c.tc : Thread Cert.Kernel18Ideal.nD Cert.Kernel18Ideal.τ).loc Cert.Kernel18Ideal.main_arg20) = m ((c.tc : Thread Cert.Kernel18Ideal.nD Cert.Kernel18Ideal.τ).loc Cert.Kernel18Ideal.main_arg20)
          ∧ r.2.mem ((c.tc : Thread Cert.Kernel18Ideal.nD Cert.Kernel18Ideal.τ).loc Cert.Kernel18Ideal.main_arg21) = m ((c.tc : Thread Cert.Kernel18Ideal.nD Cert.Kernel18Ideal.τ).loc Cert.Kernel18Ideal.main_arg21)
          ∧ r.2.mem ((c.tc : Thread Cert.Kernel18Ideal.nD Cert.Kernel18Ideal.τ).loc Cert.Kernel18Ideal.main_arg22) = m ((c.tc : Thread Cert.Kernel18Ideal.nD Cert.Kernel18Ideal.τ).loc Cert.Kernel18Ideal.main_arg22)
          ∧ r.2.mem ((c.tc : Thread Cert.Kernel18Ideal.nD Cert.Kernel18Ideal.τ).loc Cert.Kernel18Ideal.main_arg23) = m ((c.tc : Thread Cert.Kernel18Ideal.nD Cert.Kernel18Ideal.τ).loc Cert.Kernel18Ideal.main_arg23)
          ∧ r.2.mem ((c.tc : Thread Cert.Kernel18Ideal.nD Cert.Kernel18Ideal.τ).loc Cert.Kernel18Ideal.main_arg24) = m ((c.tc : Thread Cert.Kernel18Ideal.nD Cert.Kernel18Ideal.τ).loc Cert.Kernel18Ideal.main_arg24)
          ∧ r.2.mem ((c.tc : Thread Cert.Kernel18Ideal.nD Cert.Kernel18Ideal.τ).loc Cert.Kernel18Ideal.main_arg25) = m ((c.tc : Thread Cert.Kernel18Ideal.nD Cert.Kernel18Ideal.τ).loc Cert.Kernel18Ideal.main_arg25)
          ∧ r.2.mem ((c.tc : Thread Cert.Kernel18Ideal.nD Cert.Kernel18Ideal.τ).loc Cert.Kernel18Ideal.main_arg26) = m ((c.tc : Thread Cert.Kernel18Ideal.nD Cert.Kernel18Ideal.τ).loc Cert.Kernel18Ideal.main_arg26)
          ∧ r.2.mem ((c.tc : Thread Cert.Kernel18Ideal.nD Cert.Kernel18Ideal.τ).loc Cert.Kernel18Ideal.main_arg27) = m ((c.tc : Thread Cert.Kernel18Ideal.nD Cert.Kernel18Ideal.τ).loc Cert.Kernel18Ideal.main_arg27)
          ∧ r.2.mem ((c.tc : Thread Cert.Kernel18Ideal.nD Cert.Kernel18Ideal.τ).loc Cert.Kernel18Ideal.main_arg28) = m ((c.tc : Thread Cert.Kernel18Ideal.nD Cert.Kernel18Ideal.τ).loc Cert.Kernel18Ideal.main_arg28)
          ∧ r.2.mem ((c.tc : Thread Cert.Kernel18Ideal.nD Cert.Kernel18Ideal.τ).loc Cert.Kernel18Ideal.main_arg29) = m ((c.tc : Thread Cert.Kernel18Ideal.nD Cert.Kernel18Ideal.τ).loc Cert.Kernel18Ideal.main_arg29)
          ∧ r.2.mem ((c.tc : Thread Cert.Kernel18Ideal.nD Cert.Kernel18Ideal.τ).loc Cert.Kernel18Ideal.main_arg30) = m ((c.tc : Thread Cert.Kernel18Ideal.nD Cert.Kernel18Ideal.τ).loc Cert.Kernel18Ideal.main_arg30)
          ∧ r.2.mem ((c.tc : Thread Cert.Kernel18Ideal.nD Cert.Kernel18Ideal.τ).loc Cert.Kernel18Ideal.main_arg31) = m ((c.tc : Thread Cert.Kernel18Ideal.nD Cert.Kernel18Ideal.τ).loc Cert.Kernel18Ideal.main_arg31)
          ∧ r.2.mem ((c.tc : Thread Cert.Kernel18Ideal.nD Cert.Kernel18Ideal.τ).loc Cert.Kernel18Ideal.main_arg32) = m ((c.tc : Thread Cert.Kernel18Ideal.nD Cert.Kernel18Ideal.τ).loc Cert.Kernel18Ideal.main_arg32)
          ∧ r.2.mem ((c.tc : Thread Cert.Kernel18Ideal.nD Cert.Kernel18Ideal.τ).loc Cert.Kernel18Ideal.main_arg33) = m ((c.tc : Thread Cert.Kernel18Ideal.nD Cert.Kernel18Ideal.τ).loc Cert.Kernel18Ideal.main_arg33)
          ∧ r.2.mem ((c.tc : Thread Cert.Kernel18Ideal.nD Cert.Kernel18Ideal.τ).loc Cert.Kernel18Ideal.main_arg34) = m ((c.tc : Thread Cert.Kernel18Ideal.nD Cert.Kernel18Ideal.τ).loc Cert.Kernel18Ideal.main_arg34)
          ∧ r.2.mem ((c.tc : Thread Cert.Kernel18Ideal.nD Cert.Kernel18Ideal.τ).loc Cert.Kernel18Ideal.main_arg35) = m ((c.tc : Thread Cert.Kernel18Ideal.nD Cert.Kernel18Ideal.τ).loc Cert.Kernel18Ideal.main_arg35)
          ∧ r.2.mem ((c.tc : Thread Cert.Kernel18Ideal.nD Cert.Kernel18Ideal.τ).loc Cert.Kernel18Ideal.main_arg36) = m ((c.tc : Thread Cert.Kernel18Ideal.nD Cert.Kernel18Ideal.τ).loc Cert.Kernel18Ideal.main_arg36)
          ∧ r.2.mem ((c.tc : Thread Cert.Kernel18Ideal.nD Cert.Kernel18Ideal.τ).loc Cert.Kernel18Ideal.main_arg37) = m ((c.tc : Thread Cert.Kernel18Ideal.nD Cert.Kernel18Ideal.τ).loc Cert.Kernel18Ideal.main_arg37)
          ∧ r.2.mem ((c.tc : Thread Cert.Kernel18Ideal.nD Cert.Kernel18Ideal.τ).loc Cert.Kernel18Ideal.main_arg38) = m ((c.tc : Thread Cert.Kernel18Ideal.nD Cert.Kernel18Ideal.τ).loc Cert.Kernel18Ideal.main_arg38)
          ∧ r.2.mem ((c.tc : Thread Cert.Kernel18Ideal.nD Cert.Kernel18Ideal.τ).loc Cert.Kernel18Ideal.main_arg39) = m ((c.tc : Thread Cert.Kernel18Ideal.nD Cert.Kernel18Ideal.τ).loc Cert.Kernel18Ideal.main_arg39)
          ∧ r.2.mem ((c.tc : Thread Cert.Kernel18Ideal.nD Cert.Kernel18Ideal.τ).loc Cert.Kernel18Ideal.main_arg40) = m ((c.tc : Thread Cert.Kernel18Ideal.nD Cert.Kernel18Ideal.τ).loc Cert.Kernel18Ideal.main_arg40)
          ∧ r.2.mem ((c.tc : Thread Cert.Kernel18Ideal.nD Cert.Kernel18Ideal.τ).loc Cert.Kernel18Ideal.main_arg41) = m ((c.tc : Thread Cert.Kernel18Ideal.nD Cert.Kernel18Ideal.τ).loc Cert.Kernel18Ideal.main_arg41)
          ∧ r.2.mem ((c.tc : Thread Cert.Kernel18Ideal.nD Cert.Kernel18Ideal.τ).loc Cert.Kernel18Ideal.main_arg42) = m ((c.tc : Thread Cert.Kernel18Ideal.nD Cert.Kernel18Ideal.τ).loc Cert.Kernel18Ideal.main_arg42)
          ∧ r.2.mem ((c.tc : Thread Cert.Kernel18Ideal.nD Cert.Kernel18Ideal.τ).loc Cert.Kernel18Ideal.main_arg43) = m ((c.tc : Thread Cert.Kernel18Ideal.nD Cert.Kernel18Ideal.τ).loc Cert.Kernel18Ideal.main_arg43)
          ∧ r.2.mem ((c.tc : Thread Cert.Kernel18Ideal.nD Cert.Kernel18Ideal.τ).loc Cert.Kernel18Ideal.main_arg44) = m ((c.tc : Thread Cert.Kernel18Ideal.nD Cert.Kernel18Ideal.τ).loc Cert.Kernel18Ideal.main_arg44)
          ∧ r.2.mem ((c.tc : Thread Cert.Kernel18Ideal.nD Cert.Kernel18Ideal.τ).loc Cert.Kernel18Ideal.main_arg45) = m ((c.tc : Thread Cert.Kernel18Ideal.nD Cert.Kernel18Ideal.τ).loc Cert.Kernel18Ideal.main_arg45)
          ∧ r.2.mem ((c.tc : Thread Cert.Kernel18Ideal.nD Cert.Kernel18Ideal.τ).loc Cert.Kernel18Ideal.main_arg46) = m ((c.tc : Thread Cert.Kernel18Ideal.nD Cert.Kernel18Ideal.τ).loc Cert.Kernel18Ideal.main_arg46)
          ∧ r.2.mem ((c.tc : Thread Cert.Kernel18Ideal.nD Cert.Kernel18Ideal.τ).loc Cert.Kernel18Ideal.main_arg47) = m ((c.tc : Thread Cert.Kernel18Ideal.nD Cert.Kernel18Ideal.τ).loc Cert.Kernel18Ideal.main_arg47)
          ∧ r.2.mem ((c.tc : Thread Cert.Kernel18Ideal.nD Cert.Kernel18Ideal.τ).loc Cert.Kernel18Ideal.main_arg48) = m ((c.tc : Thread Cert.Kernel18Ideal.nD Cert.Kernel18Ideal.τ).loc Cert.Kernel18Ideal.main_arg48)
          ∧ r.2.mem ((c.tc : Thread Cert.Kernel18Ideal.nD Cert.Kernel18Ideal.τ).loc Cert.Kernel18Ideal.main_arg49) = m ((c.tc : Thread Cert.Kernel18Ideal.nD Cert.Kernel18Ideal.τ).loc Cert.Kernel18Ideal.main_arg49)
          ∧ r.2.mem ((c.tc : Thread Cert.Kernel18Ideal.nD Cert.Kernel18Ideal.τ).loc Cert.Kernel18Ideal.main_arg50) = m ((c.tc : Thread Cert.Kernel18Ideal.nD Cert.Kernel18Ideal.τ).loc Cert.Kernel18Ideal.main_arg50)
          ∧ r.2.mem ((c.tc : Thread Cert.Kernel18Ideal.nD Cert.Kernel18Ideal.τ).loc Cert.Kernel18Ideal.main_arg51) = m ((c.tc : Thread Cert.Kernel18Ideal.nD Cert.Kernel18Ideal.τ).loc Cert.Kernel18Ideal.main_arg51)
          ∧ r.2.mem ((c.tc : Thread Cert.Kernel18Ideal.nD Cert.Kernel18Ideal.τ).loc Cert.Kernel18Ideal.main_arg52) = m ((c.tc : Thread Cert.Kernel18Ideal.nD Cert.Kernel18Ideal.τ).loc Cert.Kernel18Ideal.main_arg52)
          ∧ r.2.mem ((c.tc : Thread Cert.Kernel18Ideal.nD Cert.Kernel18Ideal.τ).loc Cert.Kernel18Ideal.main_arg53) = m ((c.tc : Thread Cert.Kernel18Ideal.nD Cert.Kernel18Ideal.τ).loc Cert.Kernel18Ideal.main_arg53)
          ∧ r.2.mem ((c.tc : Thread Cert.Kernel18Ideal.nD Cert.Kernel18Ideal.τ).loc Cert.Kernel18Ideal.main_arg54) = m ((c.tc : Thread Cert.Kernel18Ideal.nD Cert.Kernel18Ideal.τ).loc Cert.Kernel18Ideal.main_arg54)
          ∧ r.2.mem ((c.tc : Thread Cert.Kernel18Ideal.nD Cert.Kernel18Ideal.τ).loc Cert.Kernel18Ideal.main_arg55) = m ((c.tc : Thread Cert.Kernel18Ideal.nD Cert.Kernel18Ideal.τ).loc Cert.Kernel18Ideal.main_arg55)
          ∧ r.2.mem ((c.tc : Thread Cert.Kernel18Ideal.nD Cert.Kernel18Ideal.τ).loc Cert.Kernel18Ideal.main_arg56) = m ((c.tc : Thread Cert.Kernel18Ideal.nD Cert.Kernel18Ideal.τ).loc Cert.Kernel18Ideal.main_arg56)
          ∧ r.2.mem ((c.tc : Thread Cert.Kernel18Ideal.nD Cert.Kernel18Ideal.τ).loc Cert.Kernel18Ideal.main_arg57) = m ((c.tc : Thread Cert.Kernel18Ideal.nD Cert.Kernel18Ideal.τ).loc Cert.Kernel18Ideal.main_arg57)
          ∧ r.2.mem ((c.tc : Thread Cert.Kernel18Ideal.nD Cert.Kernel18Ideal.τ).loc Cert.Kernel18Ideal.main_arg58) = m ((c.tc : Thread Cert.Kernel18Ideal.nD Cert.Kernel18Ideal.τ).loc Cert.Kernel18Ideal.main_arg58)
          ∧ r.2.mem ((c.tc : Thread Cert.Kernel18Ideal.nD Cert.Kernel18Ideal.τ).loc Cert.Kernel18Ideal.main_arg59) = m ((c.tc : Thread Cert.Kernel18Ideal.nD Cert.Kernel18Ideal.τ).loc Cert.Kernel18Ideal.main_arg59))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v390) = v0 c
          ∧ r.2.mem ((c.tc : Thread Cert.Reference18Ideal.nD Cert.Reference18Ideal.τ).loc Cert.Reference18Ideal.main_v421) = v1 c
          ∧ r.2.mem ((c.tc : Thread Cert.Reference18Ideal.nD Cert.Reference18Ideal.τ).loc Cert.Reference18Ideal.main_v452) = v2 c
          ∧ r.2.mem ((c.tc : Thread Cert.Reference18Ideal.nD Cert.Reference18Ideal.τ).loc Cert.Reference18Ideal.main_v483) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5)
          ∧ r.2.mem ((c.tc : Thread Cert.Reference18Ideal.nD Cert.Reference18Ideal.τ).loc Cert.Reference18Ideal.main_arg6) = m' ((c.tc : Thread Cert.Reference18Ideal.nD Cert.Reference18Ideal.τ).loc Cert.Reference18Ideal.main_arg6)
          ∧ r.2.mem ((c.tc : Thread Cert.Reference18Ideal.nD Cert.Reference18Ideal.τ).loc Cert.Reference18Ideal.main_arg7) = m' ((c.tc : Thread Cert.Reference18Ideal.nD Cert.Reference18Ideal.τ).loc Cert.Reference18Ideal.main_arg7)
          ∧ r.2.mem ((c.tc : Thread Cert.Reference18Ideal.nD Cert.Reference18Ideal.τ).loc Cert.Reference18Ideal.main_arg8) = m' ((c.tc : Thread Cert.Reference18Ideal.nD Cert.Reference18Ideal.τ).loc Cert.Reference18Ideal.main_arg8)
          ∧ r.2.mem ((c.tc : Thread Cert.Reference18Ideal.nD Cert.Reference18Ideal.τ).loc Cert.Reference18Ideal.main_arg9) = m' ((c.tc : Thread Cert.Reference18Ideal.nD Cert.Reference18Ideal.τ).loc Cert.Reference18Ideal.main_arg9)
          ∧ r.2.mem ((c.tc : Thread Cert.Reference18Ideal.nD Cert.Reference18Ideal.τ).loc Cert.Reference18Ideal.main_arg10) = m' ((c.tc : Thread Cert.Reference18Ideal.nD Cert.Reference18Ideal.τ).loc Cert.Reference18Ideal.main_arg10)
          ∧ r.2.mem ((c.tc : Thread Cert.Reference18Ideal.nD Cert.Reference18Ideal.τ).loc Cert.Reference18Ideal.main_arg11) = m' ((c.tc : Thread Cert.Reference18Ideal.nD Cert.Reference18Ideal.τ).loc Cert.Reference18Ideal.main_arg11)
          ∧ r.2.mem ((c.tc : Thread Cert.Reference18Ideal.nD Cert.Reference18Ideal.τ).loc Cert.Reference18Ideal.main_arg12) = m' ((c.tc : Thread Cert.Reference18Ideal.nD Cert.Reference18Ideal.τ).loc Cert.Reference18Ideal.main_arg12)
          ∧ r.2.mem ((c.tc : Thread Cert.Reference18Ideal.nD Cert.Reference18Ideal.τ).loc Cert.Reference18Ideal.main_arg13) = m' ((c.tc : Thread Cert.Reference18Ideal.nD Cert.Reference18Ideal.τ).loc Cert.Reference18Ideal.main_arg13)
          ∧ r.2.mem ((c.tc : Thread Cert.Reference18Ideal.nD Cert.Reference18Ideal.τ).loc Cert.Reference18Ideal.main_arg14) = m' ((c.tc : Thread Cert.Reference18Ideal.nD Cert.Reference18Ideal.τ).loc Cert.Reference18Ideal.main_arg14)
          ∧ r.2.mem ((c.tc : Thread Cert.Reference18Ideal.nD Cert.Reference18Ideal.τ).loc Cert.Reference18Ideal.main_arg15) = m' ((c.tc : Thread Cert.Reference18Ideal.nD Cert.Reference18Ideal.τ).loc Cert.Reference18Ideal.main_arg15)
          ∧ r.2.mem ((c.tc : Thread Cert.Reference18Ideal.nD Cert.Reference18Ideal.τ).loc Cert.Reference18Ideal.main_arg16) = m' ((c.tc : Thread Cert.Reference18Ideal.nD Cert.Reference18Ideal.τ).loc Cert.Reference18Ideal.main_arg16)
          ∧ r.2.mem ((c.tc : Thread Cert.Reference18Ideal.nD Cert.Reference18Ideal.τ).loc Cert.Reference18Ideal.main_arg17) = m' ((c.tc : Thread Cert.Reference18Ideal.nD Cert.Reference18Ideal.τ).loc Cert.Reference18Ideal.main_arg17)
          ∧ r.2.mem ((c.tc : Thread Cert.Reference18Ideal.nD Cert.Reference18Ideal.τ).loc Cert.Reference18Ideal.main_arg18) = m' ((c.tc : Thread Cert.Reference18Ideal.nD Cert.Reference18Ideal.τ).loc Cert.Reference18Ideal.main_arg18)
          ∧ r.2.mem ((c.tc : Thread Cert.Reference18Ideal.nD Cert.Reference18Ideal.τ).loc Cert.Reference18Ideal.main_arg19) = m' ((c.tc : Thread Cert.Reference18Ideal.nD Cert.Reference18Ideal.τ).loc Cert.Reference18Ideal.main_arg19)
          ∧ r.2.mem ((c.tc : Thread Cert.Reference18Ideal.nD Cert.Reference18Ideal.τ).loc Cert.Reference18Ideal.main_arg20) = m' ((c.tc : Thread Cert.Reference18Ideal.nD Cert.Reference18Ideal.τ).loc Cert.Reference18Ideal.main_arg20)
          ∧ r.2.mem ((c.tc : Thread Cert.Reference18Ideal.nD Cert.Reference18Ideal.τ).loc Cert.Reference18Ideal.main_arg21) = m' ((c.tc : Thread Cert.Reference18Ideal.nD Cert.Reference18Ideal.τ).loc Cert.Reference18Ideal.main_arg21)
          ∧ r.2.mem ((c.tc : Thread Cert.Reference18Ideal.nD Cert.Reference18Ideal.τ).loc Cert.Reference18Ideal.main_arg22) = m' ((c.tc : Thread Cert.Reference18Ideal.nD Cert.Reference18Ideal.τ).loc Cert.Reference18Ideal.main_arg22)
          ∧ r.2.mem ((c.tc : Thread Cert.Reference18Ideal.nD Cert.Reference18Ideal.τ).loc Cert.Reference18Ideal.main_arg23) = m' ((c.tc : Thread Cert.Reference18Ideal.nD Cert.Reference18Ideal.τ).loc Cert.Reference18Ideal.main_arg23)
          ∧ r.2.mem ((c.tc : Thread Cert.Reference18Ideal.nD Cert.Reference18Ideal.τ).loc Cert.Reference18Ideal.main_arg24) = m' ((c.tc : Thread Cert.Reference18Ideal.nD Cert.Reference18Ideal.τ).loc Cert.Reference18Ideal.main_arg24)
          ∧ r.2.mem ((c.tc : Thread Cert.Reference18Ideal.nD Cert.Reference18Ideal.τ).loc Cert.Reference18Ideal.main_arg25) = m' ((c.tc : Thread Cert.Reference18Ideal.nD Cert.Reference18Ideal.τ).loc Cert.Reference18Ideal.main_arg25)
          ∧ r.2.mem ((c.tc : Thread Cert.Reference18Ideal.nD Cert.Reference18Ideal.τ).loc Cert.Reference18Ideal.main_arg26) = m' ((c.tc : Thread Cert.Reference18Ideal.nD Cert.Reference18Ideal.τ).loc Cert.Reference18Ideal.main_arg26)
          ∧ r.2.mem ((c.tc : Thread Cert.Reference18Ideal.nD Cert.Reference18Ideal.τ).loc Cert.Reference18Ideal.main_arg27) = m' ((c.tc : Thread Cert.Reference18Ideal.nD Cert.Reference18Ideal.τ).loc Cert.Reference18Ideal.main_arg27)
          ∧ r.2.mem ((c.tc : Thread Cert.Reference18Ideal.nD Cert.Reference18Ideal.τ).loc Cert.Reference18Ideal.main_arg28) = m' ((c.tc : Thread Cert.Reference18Ideal.nD Cert.Reference18Ideal.τ).loc Cert.Reference18Ideal.main_arg28)
          ∧ r.2.mem ((c.tc : Thread Cert.Reference18Ideal.nD Cert.Reference18Ideal.τ).loc Cert.Reference18Ideal.main_arg29) = m' ((c.tc : Thread Cert.Reference18Ideal.nD Cert.Reference18Ideal.τ).loc Cert.Reference18Ideal.main_arg29)
          ∧ r.2.mem ((c.tc : Thread Cert.Reference18Ideal.nD Cert.Reference18Ideal.τ).loc Cert.Reference18Ideal.main_arg30) = m' ((c.tc : Thread Cert.Reference18Ideal.nD Cert.Reference18Ideal.τ).loc Cert.Reference18Ideal.main_arg30)
          ∧ r.2.mem ((c.tc : Thread Cert.Reference18Ideal.nD Cert.Reference18Ideal.τ).loc Cert.Reference18Ideal.main_arg31) = m' ((c.tc : Thread Cert.Reference18Ideal.nD Cert.Reference18Ideal.τ).loc Cert.Reference18Ideal.main_arg31)
          ∧ r.2.mem ((c.tc : Thread Cert.Reference18Ideal.nD Cert.Reference18Ideal.τ).loc Cert.Reference18Ideal.main_arg32) = m' ((c.tc : Thread Cert.Reference18Ideal.nD Cert.Reference18Ideal.τ).loc Cert.Reference18Ideal.main_arg32)
          ∧ r.2.mem ((c.tc : Thread Cert.Reference18Ideal.nD Cert.Reference18Ideal.τ).loc Cert.Reference18Ideal.main_arg33) = m' ((c.tc : Thread Cert.Reference18Ideal.nD Cert.Reference18Ideal.τ).loc Cert.Reference18Ideal.main_arg33)
          ∧ r.2.mem ((c.tc : Thread Cert.Reference18Ideal.nD Cert.Reference18Ideal.τ).loc Cert.Reference18Ideal.main_arg34) = m' ((c.tc : Thread Cert.Reference18Ideal.nD Cert.Reference18Ideal.τ).loc Cert.Reference18Ideal.main_arg34)
          ∧ r.2.mem ((c.tc : Thread Cert.Reference18Ideal.nD Cert.Reference18Ideal.τ).loc Cert.Reference18Ideal.main_arg35) = m' ((c.tc : Thread Cert.Reference18Ideal.nD Cert.Reference18Ideal.τ).loc Cert.Reference18Ideal.main_arg35)
          ∧ r.2.mem ((c.tc : Thread Cert.Reference18Ideal.nD Cert.Reference18Ideal.τ).loc Cert.Reference18Ideal.main_arg36) = m' ((c.tc : Thread Cert.Reference18Ideal.nD Cert.Reference18Ideal.τ).loc Cert.Reference18Ideal.main_arg36)
          ∧ r.2.mem ((c.tc : Thread Cert.Reference18Ideal.nD Cert.Reference18Ideal.τ).loc Cert.Reference18Ideal.main_arg37) = m' ((c.tc : Thread Cert.Reference18Ideal.nD Cert.Reference18Ideal.τ).loc Cert.Reference18Ideal.main_arg37)
          ∧ r.2.mem ((c.tc : Thread Cert.Reference18Ideal.nD Cert.Reference18Ideal.τ).loc Cert.Reference18Ideal.main_arg38) = m' ((c.tc : Thread Cert.Reference18Ideal.nD Cert.Reference18Ideal.τ).loc Cert.Reference18Ideal.main_arg38)
          ∧ r.2.mem ((c.tc : Thread Cert.Reference18Ideal.nD Cert.Reference18Ideal.τ).loc Cert.Reference18Ideal.main_arg39) = m' ((c.tc : Thread Cert.Reference18Ideal.nD Cert.Reference18Ideal.τ).loc Cert.Reference18Ideal.main_arg39)
          ∧ r.2.mem ((c.tc : Thread Cert.Reference18Ideal.nD Cert.Reference18Ideal.τ).loc Cert.Reference18Ideal.main_arg40) = m' ((c.tc : Thread Cert.Reference18Ideal.nD Cert.Reference18Ideal.τ).loc Cert.Reference18Ideal.main_arg40)
          ∧ r.2.mem ((c.tc : Thread Cert.Reference18Ideal.nD Cert.Reference18Ideal.τ).loc Cert.Reference18Ideal.main_arg41) = m' ((c.tc : Thread Cert.Reference18Ideal.nD Cert.Reference18Ideal.τ).loc Cert.Reference18Ideal.main_arg41)
          ∧ r.2.mem ((c.tc : Thread Cert.Reference18Ideal.nD Cert.Reference18Ideal.τ).loc Cert.Reference18Ideal.main_arg42) = m' ((c.tc : Thread Cert.Reference18Ideal.nD Cert.Reference18Ideal.τ).loc Cert.Reference18Ideal.main_arg42)
          ∧ r.2.mem ((c.tc : Thread Cert.Reference18Ideal.nD Cert.Reference18Ideal.τ).loc Cert.Reference18Ideal.main_arg43) = m' ((c.tc : Thread Cert.Reference18Ideal.nD Cert.Reference18Ideal.τ).loc Cert.Reference18Ideal.main_arg43)
          ∧ r.2.mem ((c.tc : Thread Cert.Reference18Ideal.nD Cert.Reference18Ideal.τ).loc Cert.Reference18Ideal.main_arg44) = m' ((c.tc : Thread Cert.Reference18Ideal.nD Cert.Reference18Ideal.τ).loc Cert.Reference18Ideal.main_arg44)
          ∧ r.2.mem ((c.tc : Thread Cert.Reference18Ideal.nD Cert.Reference18Ideal.τ).loc Cert.Reference18Ideal.main_arg45) = m' ((c.tc : Thread Cert.Reference18Ideal.nD Cert.Reference18Ideal.τ).loc Cert.Reference18Ideal.main_arg45)
          ∧ r.2.mem ((c.tc : Thread Cert.Reference18Ideal.nD Cert.Reference18Ideal.τ).loc Cert.Reference18Ideal.main_arg46) = m' ((c.tc : Thread Cert.Reference18Ideal.nD Cert.Reference18Ideal.τ).loc Cert.Reference18Ideal.main_arg46)
          ∧ r.2.mem ((c.tc : Thread Cert.Reference18Ideal.nD Cert.Reference18Ideal.τ).loc Cert.Reference18Ideal.main_arg47) = m' ((c.tc : Thread Cert.Reference18Ideal.nD Cert.Reference18Ideal.τ).loc Cert.Reference18Ideal.main_arg47)
          ∧ r.2.mem ((c.tc : Thread Cert.Reference18Ideal.nD Cert.Reference18Ideal.τ).loc Cert.Reference18Ideal.main_arg48) = m' ((c.tc : Thread Cert.Reference18Ideal.nD Cert.Reference18Ideal.τ).loc Cert.Reference18Ideal.main_arg48)
          ∧ r.2.mem ((c.tc : Thread Cert.Reference18Ideal.nD Cert.Reference18Ideal.τ).loc Cert.Reference18Ideal.main_arg49) = m' ((c.tc : Thread Cert.Reference18Ideal.nD Cert.Reference18Ideal.τ).loc Cert.Reference18Ideal.main_arg49)
          ∧ r.2.mem ((c.tc : Thread Cert.Reference18Ideal.nD Cert.Reference18Ideal.τ).loc Cert.Reference18Ideal.main_arg50) = m' ((c.tc : Thread Cert.Reference18Ideal.nD Cert.Reference18Ideal.τ).loc Cert.Reference18Ideal.main_arg50)
          ∧ r.2.mem ((c.tc : Thread Cert.Reference18Ideal.nD Cert.Reference18Ideal.τ).loc Cert.Reference18Ideal.main_arg51) = m' ((c.tc : Thread Cert.Reference18Ideal.nD Cert.Reference18Ideal.τ).loc Cert.Reference18Ideal.main_arg51)
          ∧ r.2.mem ((c.tc : Thread Cert.Reference18Ideal.nD Cert.Reference18Ideal.τ).loc Cert.Reference18Ideal.main_arg52) = m' ((c.tc : Thread Cert.Reference18Ideal.nD Cert.Reference18Ideal.τ).loc Cert.Reference18Ideal.main_arg52)
          ∧ r.2.mem ((c.tc : Thread Cert.Reference18Ideal.nD Cert.Reference18Ideal.τ).loc Cert.Reference18Ideal.main_arg53) = m' ((c.tc : Thread Cert.Reference18Ideal.nD Cert.Reference18Ideal.τ).loc Cert.Reference18Ideal.main_arg53)
          ∧ r.2.mem ((c.tc : Thread Cert.Reference18Ideal.nD Cert.Reference18Ideal.τ).loc Cert.Reference18Ideal.main_arg54) = m' ((c.tc : Thread Cert.Reference18Ideal.nD Cert.Reference18Ideal.τ).loc Cert.Reference18Ideal.main_arg54)
          ∧ r.2.mem ((c.tc : Thread Cert.Reference18Ideal.nD Cert.Reference18Ideal.τ).loc Cert.Reference18Ideal.main_arg55) = m' ((c.tc : Thread Cert.Reference18Ideal.nD Cert.Reference18Ideal.τ).loc Cert.Reference18Ideal.main_arg55)
          ∧ r.2.mem ((c.tc : Thread Cert.Reference18Ideal.nD Cert.Reference18Ideal.τ).loc Cert.Reference18Ideal.main_arg56) = m' ((c.tc : Thread Cert.Reference18Ideal.nD Cert.Reference18Ideal.τ).loc Cert.Reference18Ideal.main_arg56)
          ∧ r.2.mem ((c.tc : Thread Cert.Reference18Ideal.nD Cert.Reference18Ideal.τ).loc Cert.Reference18Ideal.main_arg57) = m' ((c.tc : Thread Cert.Reference18Ideal.nD Cert.Reference18Ideal.τ).loc Cert.Reference18Ideal.main_arg57)
          ∧ r.2.mem ((c.tc : Thread Cert.Reference18Ideal.nD Cert.Reference18Ideal.τ).loc Cert.Reference18Ideal.main_arg58) = m' ((c.tc : Thread Cert.Reference18Ideal.nD Cert.Reference18Ideal.τ).loc Cert.Reference18Ideal.main_arg58)
          ∧ r.2.mem ((c.tc : Thread Cert.Reference18Ideal.nD Cert.Reference18Ideal.τ).loc Cert.Reference18Ideal.main_arg59) = m' ((c.tc : Thread Cert.Reference18Ideal.nD Cert.Reference18Ideal.τ).loc Cert.Reference18Ideal.main_arg59))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v3_0)) (v1 : (c : Dev Cert.Kernel19Ideal.nD) → Buf (Elt Ideal) ((c.tc : Thread Cert.Kernel19Ideal.nD Cert.Kernel19Ideal.τ).loc Cert.Kernel19Ideal.main_v3_1)) (v2 : (c : Dev Cert.Kernel19Ideal.nD) → Buf (Elt Ideal) ((c.tc : Thread Cert.Kernel19Ideal.nD Cert.Kernel19Ideal.τ).loc Cert.Kernel19Ideal.main_v3_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v3_0) = v0 c
          ∧ r.2.mem ((c.tc : Thread Cert.Kernel19Ideal.nD Cert.Kernel19Ideal.τ).loc Cert.Kernel19Ideal.main_v3_1) = v1 c
          ∧ r.2.mem ((c.tc : Thread Cert.Kernel19Ideal.nD Cert.Kernel19Ideal.τ).loc Cert.Kernel19Ideal.main_v3_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v85) = v0 c
          ∧ r.2.mem ((c.tc : Thread Cert.Reference19Ideal.nD Cert.Reference19Ideal.τ).loc Cert.Reference19Ideal.main_v79) = v1 c
          ∧ r.2.mem ((c.tc : Thread Cert.Reference19Ideal.nD Cert.Reference19Ideal.τ).loc Cert.Reference19Ideal.main_v39) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v3_0)) (v1 : (c : Dev Cert.Kernel20Ideal.nD) → Buf (Elt Ideal) ((c.tc : Thread Cert.Kernel20Ideal.nD Cert.Kernel20Ideal.τ).loc Cert.Kernel20Ideal.main_v3_1)) (v2 : (c : Dev Cert.Kernel20Ideal.nD) → Buf (Elt Ideal) ((c.tc : Thread Cert.Kernel20Ideal.nD Cert.Kernel20Ideal.τ).loc Cert.Kernel20Ideal.main_v3_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v3_0) = v0 c
          ∧ r.2.mem ((c.tc : Thread Cert.Kernel20Ideal.nD Cert.Kernel20Ideal.τ).loc Cert.Kernel20Ideal.main_v3_1) = v1 c
          ∧ r.2.mem ((c.tc : Thread Cert.Kernel20Ideal.nD Cert.Kernel20Ideal.τ).loc Cert.Kernel20Ideal.main_v3_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v85) = v0 c
          ∧ r.2.mem ((c.tc : Thread Cert.Reference20Ideal.nD Cert.Reference20Ideal.τ).loc Cert.Reference20Ideal.main_v79) = v1 c
          ∧ r.2.mem ((c.tc : Thread Cert.Reference20Ideal.nD Cert.Reference20Ideal.τ).loc Cert.Reference20Ideal.main_v39) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v34) = v0 c
          ∧ r.2.mem ((c.tc : Thread Cert.Reference21Ideal.nD Cert.Reference21Ideal.τ).loc Cert.Reference21Ideal.main_v35) = v1 c
          ∧ r.2.mem ((c.tc : Thread Cert.Reference21Ideal.nD Cert.Reference21Ideal.τ).loc Cert.Reference21Ideal.main_v17) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v12) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal_pre_finite [hKernel23Ideal : Cert.Kernel23Ideal.Facts] [hReference23Ideal : Cert.Reference23Ideal.Facts] [hPre_finite : Cert.Pre_finite.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal_finite m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v4) = v0 c
          ∧ r.2.mem ((c.tc : Thread Cert.Reference23Ideal.nD Cert.Reference23Ideal.τ).loc Cert.Reference23Ideal.main_v6) = v1 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v3) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Kernel23Ideal_pre_finite (hKernel23Ideal := hKernel23Ideal) (hPre_finite := hPre_finite)
    ∧ quiescent_Reference23Ideal (hReference23Ideal := hReference23Ideal)
    ∧ quiescent_Reference23Ideal_pre_finite (hReference23Ideal := hReference23Ideal) (hPre_finite := hPre_finite)
    ∧ quiescent_Kernel24 (hKernel24 := hKernel24)
    ∧ quiescent_Kernel24Ideal (hKernel24Ideal := hKernel24Ideal)
    ∧ quiescent_Reference24Ideal (hReference24Ideal := hReference24Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal_pre_finite (hKernel23Ideal := hKernel23Ideal) (hReference23Ideal := hReference23Ideal) (hPre_finite := hPre_finite)
    ∧ preserves_Kernel24_Kernel24Ideal
    ∧ algebraic_Kernel24Ideal_Reference24Ideal (hKernel24Ideal := hKernel24Ideal) (hReference24Ideal := hReference24Ideal)
-- ==== Pre_finite.lean ====
abbrev S8704x1024 : Shape := ⟨2, ![8704, 1024]⟩
abbrev S8704x4096 : Shape := ⟨2, ![8704, 4096]⟩
abbrev S_ : Shape := ⟨0, ![]⟩

class Facts : Prop where
  bcast_S_S8704x1024 : S_.BroadcastsInDim S8704x1024 (![] : Fin 0 → Fin S8704x1024.rank)

variable [Facts]

def fn {F : FTy → Type} [FloatOps F] (main_arg0 : FVec F S8704x1024 .f32) (main_arg1 : FVec F S8704x1024 .f32) (main_arg2 : FVec F S8704x4096 .f32) : IVec S8704x1024 1 × IVec S8704x1024 1 :=
  let main_v0 : FVec F S8704x1024 .f32 := Host.absf main_arg0
  let main_cst : FVec F S_ .f32 := constant S_ .f32 0x7F800000#32
  let main_v1 : FVec F S8704x1024 .f32 := broadcastInDim S8704x1024 ![] bcast_S_S8704x1024 main_cst
  let main_v2 : IVec S8704x1024 1 := cmpf .olt main_v0 main_v1
  let main_v3 : FVec F S8704x1024 .f32 := Host.absf main_arg1
  let main_cst_0 : FVec F S_ .f32 := constant S_ .f32 0x7F800000#32
  let main_v4 : FVec F S8704x1024 .f32 := broadcastInDim S8704x1024 ![] bcast_S_S8704x1024 main_cst_0
  let main_v5 : IVec S8704x1024 1 := cmpf .olt main_v3 main_v4
  (main_v2, main_v5)
-- ==== Kernel.lean ====
abbrev S4x2176x1024 : Shape := ⟨3, ![4, 2176, 1024]⟩
abbrev S69632x128 : Shape := ⟨2, ![69632, 128]⟩
abbrev S4x17408x128 : Shape := ⟨3, ![4, 17408, 128]⟩
abbrev S4x1024x128 : Shape := ⟨3, ![4, 1024, 128]⟩
abbrev S4x8x128 : Shape := ⟨3, ![4, 8, 128]⟩
abbrev S1x8x128 : Shape := ⟨3, ![1, 8, 128]⟩
abbrev S8x128 : Shape := ⟨2, ![8, 128]⟩

abbrev nBuf : Space → Nat
  | .hbm => 15
  | .vmem => 20
  | .smem => 0
  | _ => 0

abbrev bufTy : (tb : Table) → Fin (tcTables nBuf tb) → BufTy
  | .hbm, ⟨0, _⟩ => ⟨S4x2176x1024, .f32⟩
  | .hbm, ⟨1, _⟩ => ⟨S4x2176x1024, .f32⟩
  | .hbm, ⟨2, _⟩ => ⟨S4x2176x1024, .f32⟩
  | .hbm, ⟨3, _⟩ => ⟨S69632x128, .f32⟩
  | .hbm, ⟨4, _⟩ => ⟨S69632x128, .f32⟩
  | .hbm, ⟨5, _⟩ => ⟨S69632x128, .f32⟩
  | .hbm, ⟨6, _⟩ => ⟨S4x17408x128, .f32⟩
  | .hbm, ⟨7, _⟩ => ⟨S4x17408x128, .f32⟩
  | .hbm, ⟨8, _⟩ => ⟨S4x17408x128, .f32⟩
  | .hbm, ⟨9, _⟩ => ⟨S69632x128, .f32⟩
  | .hbm, ⟨10, _⟩ => ⟨S4x17408x128, .f32⟩
  | .hbm, ⟨11, _⟩ => ⟨S4x17408x128, .f32⟩
  | .hbm, ⟨12, _⟩ => ⟨S4x17408x128, .f32⟩
  | .hbm, ⟨13, _⟩ => ⟨S4x17408x128, .f32⟩
  | .hbm, ⟨14, _⟩ => ⟨S4x17408x128, .f32⟩
  | .local _ .vmem, ⟨0, _⟩ => ⟨S4x1024x128, .f32⟩
  | .local _ .vmem, ⟨1, _⟩ => ⟨S4x1024x128, .f32⟩
  | .local _ .vmem, ⟨2, _⟩ => ⟨S4x1024x128, .f32⟩
  | .local _ .vmem, ⟨3, _⟩ => ⟨S4x1024x128, .f32⟩
  | .local _ .vmem, ⟨4, _⟩ => ⟨S4x1024x128, .f32⟩
  | .local _ .vmem, ⟨5, _⟩ => ⟨S4x1024x128, .f32⟩
  | .local _ .vmem, ⟨6, _⟩ => ⟨S4x8x128, .f32⟩
  | .local _ .vmem, ⟨7, _⟩ => ⟨S4x1024x128, .f32⟩
  | .local _ .vmem, ⟨8, _⟩ => ⟨S4x1024x128, .f32⟩
  | .local _ .vmem, ⟨9, _⟩ => ⟨S4x1024x128, .f32⟩
  | .local _ .vmem, ⟨10, _⟩ => ⟨S4x1024x128, .f32⟩
  | .local _ .vmem, ⟨11, _⟩ => ⟨S4x8x128, .f32⟩
  | .local _ .vmem, ⟨12, _⟩ => ⟨S4x8x128, .f32⟩
  | .local _ .vmem, ⟨13, _⟩ => ⟨S4x1024x128, .f32⟩
  | .local _ .vmem, ⟨14, _⟩ => ⟨S4x1024x128, .f32⟩
  | .local _ .vmem, ⟨15, _⟩ => ⟨S4x1024x128, .f32⟩
  | .local _ .vmem, ⟨16, _⟩ => ⟨S4x1024x128, .f32⟩
  | .local _ .vmem, ⟨17, _⟩ => ⟨S4x1024x128, .f32⟩
  | .local _ .vmem, ⟨18, _⟩ => ⟨S4x1024x128, .f32⟩
  | .local _ .vmem, ⟨19, _⟩ => ⟨S4x8x128, .f32⟩
  | _, _ => ⟨S4x2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10_0 : Ref sig .tc := ⟨.hbm, 13, rfl⟩
abbrev main_v10_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![17], ![false]⟩

@[reducible] def k0_t1_loop : Scf.Loop 32 :=
  let c0_i32_9 : BitVec 32 := 0#32
  let c128_i32 : BitVec 32 := 128#32
  let v11 : BitVec 32 := Scalar.addi c0_i32_9 c128_i32
  let c1_i32 : BitVec 32 := 1#32
  ⟨c0_i32_9, v11, c1_i32⟩
def k0_mult1 (k0_t1 : Fin k0_t1_loop.trips) : BitVec 32 :=
  let c0_i32_9 : BitVec 32 := 0#32
  let c1_i32 : BitVec 32 := 1#32
  let arg5 : BitVec 32 := Scf.iv c0_i32_9 c1_i32 k0_t1
  let c8_i32 : BitVec 32 := 8#32
  let v25 : BitVec 32 := Scalar.muli arg5 c8_i32
  v25
def k0_off1 (k0_t1 : Fin k0_t1_loop.trips) : Fin 3 → Nat :=
  let c0_23 : Index := 0#32
  let c0_i32_9 : BitVec 32 := 0#32
  let c1_i32 : BitVec 32 := 1#32
  let arg5 : BitVec 32 := Scf.iv c0_i32_9 c1_i32 k0_t1
  let c8_i32 : BitVec 32 := 8#32
  let v25 : BitVec 32 := Scalar.muli arg5 c8_i32
  let v26 : BitVec 32 := v25
  let v27 : Index := Scalar.indexCast v26
  let c0_24 : Index := 0#32
  ![0, v27.toNat, 0]
def k0_off2 (k0_t1 : Fin k0_t1_loop.trips) : Fin 3 → Nat :=
  let c1_29 : Index := 1#32
  let c0_i32_9 : BitVec 32 := 0#32
  let c1_i32 : BitVec 32 := 1#32
  let arg5 : BitVec 32 := Scf.iv c0_i32_9 c1_i32 k0_t1
  let c8_i32 : BitVec 32 := 8#32
  let v25 : BitVec 32 := Scalar.muli arg5 c8_i32
  let v26 : BitVec 32 := v25
  let v39 : Index := Scalar.indexCast v26
  let c0_30 : Index := 0#32
  ![1, v39.toNat, 0]
def k0_off3 (k0_t1 : Fin k0_t1_loop.trips) : Fin 3 → Nat :=
  let c2_35 : Index := 2#32
  let c0_i32_9 : BitVec 32 := 0#32
  let c1_i32 : BitVec 32 := 1#32
  let arg5 : BitVec 32 := Scf.iv c0_i32_9 c1_i32 k0_t1
  let c8_i32 : BitVec 32 := 8#32
  let v25 : BitVec 32 := Scalar.muli arg5 c8_i32
  let v26 : BitVec 32 := v25
  let v51 : Index := Scalar.indexCast v26
  let c0_36 : Index := 0#32
  ![2, v51.toNat, 0]
def k0_off4 (k0_t1 : Fin k0_t1_loop.trips) : Fin 3 → Nat :=
  let c3_41 : Index := 3#32
  let c0_i32_9 : BitVec 32 := 0#32
  let c1_i32 : BitVec 32 := 1#32
  let arg5 : BitVec 32 := Scf.iv c0_i32_9 c1_i32 k0_t1
  let c8_i32 : BitVec 32 := 8#32
  let v25 : BitVec 32 := Scalar.muli arg5 c8_i32
  let v26 : BitVec 32 := v25
  let v63 : Index := Scalar.indexCast v26
  let c0_42 : Index := 0#32
  ![3, v63.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![17], ![false]⟩

@[reducible] def k1_t1_loop : Scf.Loop 32 :=
  let c0_i32_27 : BitVec 32 := 0#32
  let c128_i32 : BitVec 32 := 128#32
  let v31 : BitVec 32 := Scalar.addi c0_i32_27 c128_i32
  let c1_i32 : BitVec 32 := 1#32
  ⟨c0_i32_27, v31, c1_i32⟩
def k1_mult1 (k1_t1 : Fin k1_t1_loop.trips) : BitVec 32 :=
  let c127_i32 : BitVec 32 := 127#32
  let c0_i32_27 : BitVec 32 := 0#32
  let c1_i32 : BitVec 32 := 1#32
  let arg8 : BitVec 32 := Scf.iv c0_i32_27 c1_i32 k1_t1
  let v45 : BitVec 32 := Scalar.subi c127_i32 arg8
  let c8_i32 : BitVec 32 := 8#32
  let v46 : BitVec 32 := Scalar.muli v45 c8_i32
  v46
def k1_mult2 (k1_t1 : Fin k1_t1_loop.trips) : BitVec 32 :=
  let c127_i32 : BitVec 32 := 127#32
  let c0_i32_27 : BitVec 32 := 0#32
  let c1_i32 : BitVec 32 := 1#32
  let arg8 : BitVec 32 := Scf.iv c0_i32_27 c1_i32 k1_t1
  let v45 : BitVec 32 := Scalar.subi c127_i32 arg8
  let c1_i32_41 : BitVec 32 := 1#32
  let v48 : BitVec 32 := Scalar.subi v45 c1_i32_41
  let c0_i32_42 : BitVec 32 := 0#32
  let v49 : BitVec 32 := Scalar.maxsi v48 c0_i32_42
  let c8_i32_43 : BitVec 32 := 8#32
  let v50 : BitVec 32 := Scalar.muli v49 c8_i32_43
  v50
def k1_off1 (k1_t1 : Fin k1_t1_loop.trips) : Fin 3 → Nat :=
  let c0_44 : Index := 0#32
  let c127_i32 : BitVec 32 := 127#32
  let c0_i32_27 : BitVec 32 := 0#32
  let c1_i32 : BitVec 32 := 1#32
  let arg8 : BitVec 32 := Scf.iv c0_i32_27 c1_i32 k1_t1
  let v45 : BitVec 32 := Scalar.subi c127_i32 arg8
  let c8_i32 : BitVec 32 := 8#32
  let v46 : BitVec 32 := Scalar.muli v45 c8_i32
  let v47 : BitVec 32 := v46
  let v52 : Index := Scalar.indexCast v47
  let c0_45 : Index := 0#32
  ![0, v52.toNat, 0]
def k1_off2 (k1_t1 : Fin k1_t1_loop.trips) : Fin 3 → Nat :=
  let c0_49 : Index := 0#32
  let c127_i32 : BitVec 32 := 127#32
  let c0_i32_27 : BitVec 32 := 0#32
  let c1_i32 : BitVec 32 := 1#32
  let arg8 : BitVec 32 := Scf.iv c0_i32_27 c1_i32 k1_t1
  let v45 : BitVec 32 := Scalar.subi c127_i32 arg8
  let c1_i32_41 : BitVec 32 := 1#32
  let v48 : BitVec 32 := Scalar.subi v45 c1_i32_41
  let c0_i32_42 : BitVec 32 := 0#32
  let v49 : BitVec 32 := Scalar.maxsi v48 c0_i32_42
  let c8_i32_43 : BitVec 32 := 8#32
  let v50 : BitVec 32 := Scalar.muli v49 c8_i32_43
  let v51 : BitVec 32 := v50
  let v61 : Index := Scalar.indexCast v51
  let c0_50 : Index := 0#32
  ![0, v61.toNat, 0]
def k1_off3 (k1_t1 : Fin k1_t1_loop.trips) : Fin 3 → Nat :=
  let c1_55 : Index := 1#32
  let c127_i32 : BitVec 32 := 127#32
  let c0_i32_27 : BitVec 32 := 0#32
  let c1_i32 : BitVec 32 := 1#32
  let arg8 : BitVec 32 := Scf.iv c0_i32_27 c1_i32 k1_t1
  let v45 : BitVec 32 := Scalar.subi c127_i32 arg8
  let c8_i32 : BitVec 32 := 8#32
  let v46 : BitVec 32 := Scalar.muli v45 c8_i32
  let v47 : BitVec 32 := v46
  let v74 : Index := Scalar.indexCast v47
  let c0_56 : Index := 0#32
  ![1, v74.toNat, 0]
def k1_off4 (k1_t1 : Fin k1_t1_loop.trips) : Fin 3 → Nat :=
  let c1_60 : Index := 1#32
  let c127_i32 : BitVec 32 := 127#32
  let c0_i32_27 : BitVec 32 := 0#32
  let c1_i32 : BitVec 32 := 1#32
  let arg8 : BitVec 32 := Scf.iv c0_i32_27 c1_i32 k1_t1
  let v45 : BitVec 32 := Scalar.subi c127_i32 arg8
  let c1_i32_41 : BitVec 32 := 1#32
  let v48 : BitVec 32 := Scalar.subi v45 c1_i32_41
  let c0_i32_42 : BitVec 32 := 0#32
  let v49 : BitVec 32 := Scalar.maxsi v48 c0_i32_42
  let c8_i32_43 : BitVec 32 := 8#32
  let v50 : BitVec 32 := Scalar.muli v49 c8_i32_43
  let v51 : BitVec 32 := v50
  let v83 : Index := Scalar.indexCast v51
  let c0_61 : Index := 0#32
  ![1, v83.toNat, 0]
def k1_off5 (k1_t1 : Fin k1_t1_loop.trips) : Fin 3 → Nat :=
  let c2_66 : Index := 2#32
  let c127_i32 : BitVec 32 := 127#32
  let c0_i32_27 : BitVec 32 := 0#32
  let c1_i32 : BitVec 32 := 1#32
  let arg8 : BitVec 32 := Scf.iv c0_i32_27 c1_i32 k1_t1
  let v45 : BitVec 32 := Scalar.subi c127_i32 arg8
  let c8_i32 : BitVec 32 := 8#32
  let v46 : BitVec 32 := Scalar.muli v45 c8_i32
  let v47 : BitVec 32 := v46
  let v96 : Index := Scalar.indexCast v47
  let c0_67 : Index := 0#32
  ![2, v96.toNat, 0]
def k1_off6 (k1_t1 : Fin k1_t1_loop.trips) : Fin 3 → Nat :=
  let c2_71 : Index := 2#32
  let c127_i32 : BitVec 32 := 127#32
  let c0_i32_27 : BitVec 32 := 0#32
  let c1_i32 : BitVec 32 := 1#32
  let arg8 : BitVec 32 := Scf.iv c0_i32_27 c1_i32 k1_t1
  let v45 : BitVec 32 := Scalar.subi c127_i32 arg8
  let c1_i32_41 : BitVec 32 := 1#32
  let v48 : BitVec 32 := Scalar.subi v45 c1_i32_41
  let c0_i32_42 : BitVec 32 := 0#32
  let v49 : BitVec 32 := Scalar.maxsi v48 c0_i32_42
  let c8_i32_43 : BitVec 32 := 8#32
  let v50 : BitVec 32 := Scalar.muli v49 c8_i32_43
  let v51 : BitVec 32 := v50
  let v105 : Index := Scalar.indexCast v51
  let c0_72 : Index := 0#32
  ![2, v105.toNat, 0]
def k1_off7 (k1_t1 : Fin k1_t1_loop.trips) : Fin 3 → Nat :=
  let c3_77 : Index := 3#32
  let c127_i32 : BitVec 32 := 127#32
  let c0_i32_27 : BitVec 32 := 0#32
  let c1_i32 : BitVec 32 := 1#32
  let arg8 : BitVec 32 := Scf.iv c0_i32_27 c1_i32 k1_t1
  let v45 : BitVec 32 := Scalar.subi c127_i32 arg8
  let c8_i32 : BitVec 32 := 8#32
  let v46 : BitVec 32 := Scalar.muli v45 c8_i32
  let v47 : BitVec 32 := v46
  let v118 : Index := Scalar.indexCast v47
  let c0_78 : Index := 0#32
  ![3, v118.toNat, 0]
def k1_off8 (k1_t1 : Fin k1_t1_loop.trips) : Fin 3 → Nat :=
  let c3_82 : Index := 3#32
  let c127_i32 : BitVec 32 := 127#32
  let c0_i32_27 : BitVec 32 := 0#32
  let c1_i32 : BitVec 32 := 1#32
  let arg8 : BitVec 32 := Scf.iv c0_i32_27 c1_i32 k1_t1
  let v45 : BitVec 32 := Scalar.subi c127_i32 arg8
  let c1_i32_41 : BitVec 32 := 1#32
  let v48 : BitVec 32 := Scalar.subi v45 c1_i32_41
  let c0_i32_42 : BitVec 32 := 0#32
  let v49 : BitVec 32 := Scalar.maxsi v48 c0_i32_42
  let c8_i32_43 : BitVec 32 := 8#32
  let v50 : BitVec 32 := Scalar.muli v49 c8_i32_43
  let v51 : BitVec 32 := v50
  let v127 : Index := Scalar.indexCast v51
  let c0_83 : Index := 0#32
  ![3, v127.toNat, 0]
def cc1_transform_0 (i : grid1.Coords) : Fin 3 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  let c0_i32_1 : BitVec 32 := 0#32
  ![c0_i32.toNat, v0.toNat, c0_i32_0.toNat]

def cc1_transform_1 (i : grid1.Coords) : Fin 3 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  let c0_i32_1 : BitVec 32 := 0#32
  ![c0_i32.toNat, v0.toNat, c0_i32_0.toNat]

def cc1_transform_2 (i : grid1.Coords) : Fin 3 → Nat :=
  let arg0 : BitVec 32 := BitVec.ofNat 32 (i 0).val
  let c16_i32 : BitVec 32 := 16#32
  let v0 : BitVec 32 := Scalar.subi c16_i32 arg0
  let c128_i32 : BitVec 32 := 128#32
  let v1 : BitVec 32 := Scalar.muli v0 c128_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  let c0_i32_2 : BitVec 32 := 0#32
  ![c0_i32_0.toNat, v3.toNat, c0_i32_1.toNat]

def cc1_transform_3 (i : grid1.Coords) : Fin 3 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  let c0_i32_1 : BitVec 32 := 0#32
  ![c0_i32.toNat, v0.toNat, c0_i32_0.toNat]

def cc1_transform_4 (i : grid1.Coords) : Fin 3 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  let c0_i32_1 : BitVec 32 := 0#32
  ![c0_i32.toNat, v0.toNat, c0_i32_0.toNat]

def cc1_transform_5 (i : grid1.Coords) : Fin 3 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  let c0_i32_1 : BitVec 32 := 0#32
  ![c0_i32.toNat, v0.toNat, c0_i32_0.toNat]

abbrev stage1_0 : Fin 2 → Memref sig .tc .vmem S4x1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4x8x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4x1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4x1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4x1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S4x2176x1024 : Shape := ⟨3, ![4, 2176, 1024]⟩
abbrev S_ : Shape := ⟨0, ![]⟩
abbrev S4x1024 : Shape := ⟨2, ![4, 1024]⟩
abbrev S2176x4x1024 : Shape := ⟨3, ![2176, 4, 1024]⟩
abbrev S1x4x1024 : Shape := ⟨3, ![1, 4, 1024]⟩
abbrev S4x17408x128 : Shape := ⟨3, ![4, 17408, 128]⟩

abbrev nBuf : Space → Nat
  | .hbm => 93
  | .vmem => 0
  | .smem => 0
  | _ => 0

abbrev bufTy : (tb : Table) → Fin (tcTables nBuf tb) → BufTy
  | .hbm, ⟨0, _⟩ => ⟨S4x2176x1024, .f32⟩
  | .hbm, ⟨1, _⟩ => ⟨S4x2176x1024, .f32⟩
  | .hbm, ⟨2, _⟩ => ⟨S4x2176x1024, .f32⟩
  | .hbm, ⟨3, _⟩ => ⟨S_, .f32⟩
  | .hbm, ⟨4, _⟩ => ⟨S4x1024, .f32⟩
  | .hbm, ⟨5, _⟩ => ⟨S2176x4x1024, .f32⟩
  | .hbm, ⟨6, _⟩ => ⟨S2176x4x1024, .f32⟩
  | .hbm, ⟨7, _⟩ => ⟨S_, .f32⟩
  | .hbm, ⟨8, _⟩ => ⟨S2176x4x1024, .f32⟩
  | .hbm, ⟨9, _⟩ => ⟨S_, .f32⟩
  | .hbm, ⟨10, _⟩ => ⟨S2176x4x1024, .f32⟩
  | .hbm, ⟨11, _⟩ => ⟨S_, .i32⟩
  | .hbm, ⟨12, _⟩ => ⟨S2176x4x1024, .f32⟩
  | .hbm, ⟨13, _⟩ => ⟨S2176x4x1024, .f32⟩
  | .hbm, ⟨14, _⟩ => ⟨S_, .i32⟩
  | .hbm, ⟨15, _⟩ => ⟨S4x1024, .f32⟩
  | .hbm, ⟨16, _⟩ => ⟨S2176x4x1024, .f32⟩
  | .hbm, ⟨17, _⟩ => ⟨S2176x4x1024, .f32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S1x4x1024, .f32⟩
  | .hbm, ⟨23, _⟩ => ⟨S4x1024, .f32⟩
  | .hbm, ⟨24, _⟩ => ⟨S_, .i32⟩
  | .hbm, ⟨25, _⟩ => ⟨S_, .i32⟩
  | .hbm, ⟨26, _⟩ => ⟨S1x4x1024, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S1x4x1024, .f32⟩
  | .hbm, ⟨31, _⟩ => ⟨S_, .i32⟩
  | .hbm, ⟨32, _⟩ => ⟨S_, .i32⟩
  | .hbm, ⟨33, _⟩ => ⟨S2176x4x1024, .f32⟩
  | .hbm, ⟨34, _⟩ => ⟨S1x4x1024, .f32⟩
  | .hbm, ⟨35, _⟩ => ⟨S_, .i32⟩
  | .hbm, ⟨36, _⟩ => ⟨S_, .i32⟩
  | .hbm, ⟨37, _⟩ => ⟨S2176x4x1024, .f32⟩
  | .hbm, ⟨38, _⟩ => ⟨S_, .i32⟩
  | .hbm, ⟨39, _⟩ => ⟨S_, .i32⟩
  | .hbm, ⟨40, _⟩ => ⟨S4x2176x1024, .f32⟩
  | .hbm, ⟨41, _⟩ => ⟨S_, .f32⟩
  | .hbm, ⟨42, _⟩ => ⟨S4x1024, .f32⟩
  | .hbm, ⟨43, _⟩ => ⟨S2176x4x1024, .f32⟩
  | .hbm, ⟨44, _⟩ => ⟨S_, .f32⟩
  | .hbm, ⟨45, _⟩ => ⟨S4x1024, .f32⟩
  | .hbm, ⟨46, _⟩ => ⟨S_, .f32⟩
  | .hbm, ⟨47, _⟩ => ⟨S2176x4x1024, .f32⟩
  | .hbm, ⟨48, _⟩ => ⟨S_, .f32⟩
  | .hbm, ⟨49, _⟩ => ⟨S2176x4x1024, .f32⟩
  | .hbm, ⟨50, _⟩ => ⟨S_, .i32⟩
  | .hbm, ⟨51, _⟩ => ⟨S2176x4x1024, .f32⟩
  | .hbm, ⟨52, _⟩ => ⟨S2176x4x1024, .f32⟩
  | .hbm, ⟨53, _⟩ => ⟨S2176x4x1024, .f32⟩
  | .hbm, ⟨54, _⟩ => ⟨S_, .i32⟩
  | .hbm, ⟨55, _⟩ => ⟨S4x1024, .f32⟩
  | .hbm, ⟨56, _⟩ => ⟨S2176x4x1024, .f32⟩
  | .hbm, ⟨57, _⟩ => ⟨S2176x4x1024, .f32⟩
  | .hbm, ⟨58, _⟩ => ⟨S_, .i32⟩
  | .hbm, ⟨59, _⟩ => ⟨S_, .i1⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S1x4x1024, .f32⟩
  | .hbm, ⟨67, _⟩ => ⟨S4x1024, .f32⟩
  | .hbm, ⟨68, _⟩ => ⟨S_, .i32⟩
  | .hbm, ⟨69, _⟩ => ⟨S_, .i32⟩
  | .hbm, ⟨70, _⟩ => ⟨S1x4x1024, .f32⟩
  | .hbm, ⟨71, _⟩ => ⟨S4x1024, .f32⟩
  | .hbm, ⟨72, _⟩ => ⟨S_, .i32⟩
  | .hbm, ⟨73, _⟩ => ⟨S_, .i32⟩
  | .hbm, ⟨74, _⟩ => ⟨S1x4x1024, .f32⟩
  | .hbm, ⟨75, _⟩ => ⟨S4x1024, .f32⟩
  | .hbm, ⟨76, _⟩ => ⟨S4x1024, .f32⟩
  | .hbm, ⟨77, _⟩ => ⟨S4x1024, .f32⟩
  | .hbm, ⟨78, _⟩ => ⟨S4x1024, .f32⟩
  | .hbm, ⟨79, _⟩ => ⟨S1x4x1024, .f32⟩
  | .hbm, ⟨80, _⟩ => ⟨S_, .i32⟩
  | .hbm, ⟨81, _⟩ => ⟨S_, .i32⟩
  | .hbm, ⟨82, _⟩ => ⟨S2176x4x1024, .f32⟩
  | .hbm, ⟨83, _⟩ => ⟨S1x4x1024, .f32⟩
  | .hbm, ⟨84, _⟩ => ⟨S_, .i32⟩
  | .hbm, ⟨85, _⟩ => ⟨S_, .i32⟩
  | .hbm, ⟨86, _⟩ => ⟨S2176x4x1024, .f32⟩
  | .hbm, ⟨87, _⟩ => ⟨S_, .i32⟩
  | .hbm, ⟨88, _⟩ => ⟨S_, .i32⟩
  | .hbm, ⟨89, _⟩ => ⟨S4x2176x1024, .f32⟩
  | .hbm, ⟨90, _⟩ => ⟨S4x2176x1024, .f32⟩
  | .hbm, ⟨91, _⟩ => ⟨S4x17408x128, .f32⟩
  | .hbm, ⟨92, _⟩ => ⟨S4x17408x128, .f32⟩
  | _, _ => ⟨S4x2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_c : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_v5_5 : Ref sig .tc := ⟨.hbm, 17, rfl⟩
abbrev main_while0c_c_12 : Ref sig .tc := ⟨.hbm, 18, rfl⟩
abbrev main_while0c_v17 : Ref sig .tc := ⟨.hbm, 19, rfl⟩
abbrev main_while0b_call0_c : Ref sig .tc := ⟨.hbm, 20, rfl⟩
abbrev main_while0b_call0_c_0 : Ref sig .tc := ⟨.hbm, 21, rfl⟩
abbrev main_while0b_call0_v0 : Ref sig .tc := ⟨.hbm, 22, rfl⟩
abbrev main_while0b_v17 : Ref sig .tc := ⟨.hbm, 23, rfl⟩
abbrev main_while0b_call1_c : Ref sig .tc := ⟨.hbm, 24, rfl⟩
abbrev main_while0b_call1_c_0 : Ref sig .tc := ⟨.hbm, 25, rfl⟩
abbrev main_while0b_call1_v0 : Ref sig .tc := ⟨.hbm, 26, rfl⟩
abbrev main_while0b_v18 : Ref sig .tc := ⟨.hbm, 27, rfl⟩
abbrev main_while0b_v19 : Ref sig .tc := ⟨.hbm, 28, rfl⟩
abbrev main_while0b_v20 : Ref sig .tc := ⟨.hbm, 29, rfl⟩
abbrev main_while0b_call2_v0 : Ref sig .tc := ⟨.hbm, 30, rfl⟩
abbrev main_while0b_call2_c : Ref sig .tc := ⟨.hbm, 31, rfl⟩
abbrev main_while0b_call2_c_0 : Ref sig .tc := ⟨.hbm, 32, rfl⟩
abbrev main_while0b_v21 : Ref sig .tc := ⟨.hbm, 33, rfl⟩
abbrev main_while0b_call3_v0 : Ref sig .tc := ⟨.hbm, 34, rfl⟩
abbrev main_while0b_call3_c : Ref sig .tc := ⟨.hbm, 35, rfl⟩
abbrev main_while0b_call3_c_0 : Ref sig .tc := ⟨.hbm, 36, rfl⟩
abbrev main_while0b_v22 : Ref sig .tc := ⟨.hbm, 37, rfl⟩
abbrev main_while0b_c_12 : Ref sig .tc := ⟨.hbm, 38, rfl⟩
abbrev main_while0b_v23 : Ref sig .tc := ⟨.hbm, 39, rfl⟩
abbrev main_v6 : Ref sig .tc := ⟨.hbm, 40, rfl⟩
abbrev main_cst_2 : Ref sig .tc := ⟨.hbm, 41, rfl⟩
abbrev main_v7 : Ref sig .tc := ⟨.hbm, 42, rfl⟩
abbrev main_v8 : Ref sig .tc := ⟨.hbm, 43, rfl⟩
abbrev main_cst_3 : Ref sig .tc := ⟨.hbm, 44, rfl⟩
abbrev main_v9 : Ref sig .tc := ⟨.hbm, 45, rfl⟩
abbrev main_cst_4 : Ref sig .tc := ⟨.hbm, 46, rfl⟩
abbrev main_v10 : Ref sig .tc := ⟨.hbm, 47, rfl⟩
abbrev main_cst_5 : Ref sig .tc := ⟨.hbm, 48, rfl⟩
abbrev main_v11 : Ref sig .tc := ⟨.hbm, 49, rfl⟩
abbrev main_c_6 : Ref sig .tc := ⟨.hbm, 50, rfl⟩
abbrev main_v12_0 : Ref sig .tc := ⟨.hbm, 51, rfl⟩
abbrev main_v12_1 : Ref sig .tc := ⟨.hbm, 52, rfl⟩
abbrev main_v12_2 : Ref sig .tc := ⟨.hbm, 53, rfl⟩
abbrev main_v12_3 : Ref sig .tc := ⟨.hbm, 54, rfl⟩
abbrev main_v12_4 : Ref sig .tc := ⟨.hbm, 55, rfl⟩
abbrev main_v12_5 : Ref sig .tc := ⟨.hbm, 56, rfl⟩
abbrev main_v12_6 : Ref sig .tc := ⟨.hbm, 57, rfl⟩
abbrev main_while1c_c_13 : Ref sig .tc := ⟨.hbm, 58, rfl⟩
abbrev main_while1c_v17 : Ref sig .tc := ⟨.hbm, 59, rfl⟩
abbrev main_while1b_c_13 : Ref sig .tc := ⟨.hbm, 60, rfl⟩
abbrev main_while1b_v17 : Ref sig .tc := ⟨.hbm, 61, rfl⟩
abbrev main_while1b_c_14 : Ref sig .tc := ⟨.hbm, 62, rfl⟩
abbrev main_while1b_v18 : Ref sig .tc := ⟨.hbm, 63, rfl⟩
abbrev main_while1b_call4_c : Ref sig .tc := ⟨.hbm, 64, rfl⟩
abbrev main_while1b_call4_c_0 : Ref sig .tc := ⟨.hbm, 65, rfl⟩
abbrev main_while1b_call4_v0 : Ref sig .tc := ⟨.hbm, 66, rfl⟩
abbrev main_while1b_v19 : Ref sig .tc := ⟨.hbm, 67, rfl⟩
abbrev main_while1b_call5_c : Ref sig .tc := ⟨.hbm, 68, rfl⟩
abbrev main_while1b_call5_c_0 : Ref sig .tc := ⟨.hbm, 69, rfl⟩
abbrev main_while1b_call5_v0 : Ref sig .tc := ⟨.hbm, 70, rfl⟩
abbrev main_while1b_v20 : Ref sig .tc := ⟨.hbm, 71, rfl⟩
abbrev main_while1b_call6_c : Ref sig .tc := ⟨.hbm, 72, rfl⟩
abbrev main_while1b_call6_c_0 : Ref sig .tc := ⟨.hbm, 73, rfl⟩
abbrev main_while1b_call6_v0 : Ref sig .tc := ⟨.hbm, 74, rfl⟩
abbrev main_while1b_v21 : Ref sig .tc := ⟨.hbm, 75, rfl⟩
abbrev main_while1b_v22 : Ref sig .tc := ⟨.hbm, 76, rfl⟩
abbrev main_while1b_v23 : Ref sig .tc := ⟨.hbm, 77, rfl⟩
abbrev main_while1b_v24 : Ref sig .tc := ⟨.hbm, 78, rfl⟩
abbrev main_while1b_call7_v0 : Ref sig .tc := ⟨.hbm, 79, rfl⟩
abbrev main_while1b_call7_c : Ref sig .tc := ⟨.hbm, 80, rfl⟩
abbrev main_while1b_call7_c_0 : Ref sig .tc := ⟨.hbm, 81, rfl⟩
abbrev main_while1b_v25 : Ref sig .tc := ⟨.hbm, 82, rfl⟩
abbrev main_while1b_call8_v0 : Ref sig .tc := ⟨.hbm, 83, rfl⟩
abbrev main_while1b_call8_c : Ref sig .tc := ⟨.hbm, 84, rfl⟩
abbrev main_while1b_call8_c_0 : Ref sig .tc := ⟨.hbm, 85, rfl⟩
abbrev main_while1b_v26 : Ref sig .tc := ⟨.hbm, 86, rfl⟩
abbrev main_while1b_c_15 : Ref sig .tc := ⟨.hbm, 87, rfl⟩
abbrev main_while1b_v27 : Ref sig .tc := ⟨.hbm, 88, rfl⟩
abbrev main_v13 : Ref sig .tc := ⟨.hbm, 89, rfl⟩
abbrev main_v14 : Ref sig .tc := ⟨.hbm, 90, rfl⟩
abbrev main_v15 : Ref sig .tc := ⟨.hbm, 91, rfl⟩
abbrev main_v16 : Ref sig .tc := ⟨.hbm, 92, rfl⟩

abbrev nD : Nat := 1
abbrev τ : Topo := Topo.v7x

variable {F : FTy → Type} [FloatOps F]

abbrev main_while0_count : Scf.Loop 32 := ⟨0#32, 2176#32, 1#32⟩

abbrev main_while1_count : Scf.Loop 32 := ⟨0#32, 2176#32, 1#32⟩
-- ==== Kernel2.lean ====
abbrev S8704x1024 : Shape := ⟨2, ![8704, 1024]⟩
abbrev S1024x4096 : Shape := ⟨2, ![1024, 4096]⟩
abbrev S4096x1024 : Shape := ⟨2, ![4096, 1024]⟩
abbrev S256x1024 : Shape := ⟨2, ![256, 1024]⟩
abbrev S1024x512 : Shape := ⟨2, ![1024, 512]⟩
abbrev S256x512 : Shape := ⟨2, ![256, 512]⟩

abbrev nBuf : Space → Nat
  | .hbm => 7
  | .vmem => 11
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .bf16⟩
  | .hbm, ⟨2, _⟩ => ⟨S8704x1024, .bf16⟩
  | .hbm, ⟨3, _⟩ => ⟨S8704x1024, .bf16⟩
  | .hbm, ⟨4, _⟩ => ⟨S1024x4096, .bf16⟩
  | .hbm, ⟨5, _⟩ => ⟨S4096x1024, .bf16⟩
  | .hbm, ⟨6, _⟩ => ⟨S8704x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S4096x1024, .bf16⟩
  | .local _ .vmem, ⟨9, _⟩ => ⟨S256x1024, .f32⟩
  | .local _ .vmem, ⟨10, _⟩ => ⟨S256x1024, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S8704x1024 : Shape := ⟨2, ![8704, 1024]⟩
abbrev S1024x4096 : Shape := ⟨2, ![1024, 4096]⟩
abbrev S8704x4096 : Shape := ⟨2, ![8704, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .bf16⟩
  | .hbm, ⟨2, _⟩ => ⟨S8704x1024, .bf16⟩
  | .hbm, ⟨3, _⟩ => ⟨S8704x1024, .bf16⟩
  | .hbm, ⟨4, _⟩ => ⟨S1024x4096, .bf16⟩
  | .hbm, ⟨5, _⟩ => ⟨S8704x4096, .bf16⟩
  | .hbm, ⟨6, _⟩ => ⟨S_, .f32⟩
  | .hbm, ⟨7, _⟩ => ⟨S8704x1024, .f32⟩
  | .hbm, ⟨8, _⟩ => ⟨S1024x4096, .f32⟩
  | .hbm, ⟨9, _⟩ => ⟨S8704x4096, .f32⟩
  | .hbm, ⟨10, _⟩ => ⟨S8704x4096, .f32⟩
  | .hbm, ⟨11, _⟩ => ⟨S8704x1024, .f32⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Kernel3.lean ====
abbrev S8704x1024 : Shape := ⟨2, ![8704, 1024]⟩
abbrev S1024x1024 : Shape := ⟨2, ![1024, 1024]⟩
abbrev S2176x1024 : Shape := ⟨2, ![2176, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .bf16⟩
  | .hbm, ⟨2, _⟩ => ⟨S1024x1024, .bf16⟩
  | .local _ .vmem, ⟨0, _⟩ => ⟨S2176x1024, .bf16⟩
  | .local _ .vmem, ⟨1, _⟩ => ⟨S2176x1024, .bf16⟩
  | .local _ .vmem, ⟨2, _⟩ => ⟨S2176x1024, .bf16⟩
  | .local _ .vmem, ⟨3, _⟩ => ⟨S2176x1024, .bf16⟩
  | .local _ .vmem, ⟨4, _⟩ => ⟨S1024x1024, .bf16⟩
  | .local _ .vmem, ⟨5, _⟩ => ⟨S1024x1024, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference3Ideal.lean ====
abbrev S8704x1024 : Shape := ⟨2, ![8704, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .bf16⟩
  | .hbm, ⟨2, _⟩ => ⟨S_, .f32⟩
  | .hbm, ⟨3, _⟩ => ⟨S1024x1024, .f32⟩
  | .hbm, ⟨4, _⟩ => ⟨S8704x1024, .f32⟩
  | .hbm, ⟨5, _⟩ => ⟨S8704x1024, .f32⟩
  | .hbm, ⟨6, _⟩ => ⟨S8704x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S8704x1024 : Shape := ⟨2, ![8704, 1024]⟩
abbrev S8704x1536 : Shape := ⟨2, ![8704, 1536]⟩
abbrev S1024x1536 : Shape := ⟨2, ![1024, 1536]⟩
abbrev S2176x1024 : Shape := ⟨2, ![2176, 1024]⟩
abbrev S2176x512 : Shape := ⟨2, ![2176, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8704x1024, .bf16⟩
  | .hbm, ⟨1, _⟩ => ⟨S8704x1536, .bf16⟩
  | .hbm, ⟨2, _⟩ => ⟨S1024x1536, .bf16⟩
  | .local _ .vmem, ⟨0, _⟩ => ⟨S2176x1024, .bf16⟩
  | .local _ .vmem, ⟨1, _⟩ => ⟨S2176x1024, .bf16⟩
  | .local _ .vmem, ⟨2, _⟩ => ⟨S2176x512, .bf16⟩
  | .local _ .vmem, ⟨3, _⟩ => ⟨S2176x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2176x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S8704x1024 : Shape := ⟨2, ![8704, 1024]⟩
abbrev S8704x1536 : Shape := ⟨2, ![8704, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S8704x1536, .bf16⟩
  | .hbm, ⟨2, _⟩ => ⟨S_, .f32⟩
  | .hbm, ⟨3, _⟩ => ⟨S1024x1536, .f32⟩
  | .hbm, ⟨4, _⟩ => ⟨S8704x1024, .f32⟩
  | .hbm, ⟨5, _⟩ => ⟨S8704x1536, .f32⟩
  | .hbm, ⟨6, _⟩ => ⟨S8704x1536, .f32⟩
  | .hbm, ⟨7, _⟩ => ⟨S1536x1024, .f32⟩
  | .hbm, ⟨8, _⟩ => ⟨S1024x1536, .f32⟩
  | .hbm, ⟨9, _⟩ => ⟨S1024x1536, .bf16⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S8704x1024 : Shape := ⟨2, ![8704, 1024]⟩
abbrev S8704x128 : Shape := ⟨2, ![8704, 128]⟩
abbrev S1024x128 : Shape := ⟨2, ![1024, 128]⟩
abbrev S2176x1024 : Shape := ⟨2, ![2176, 1024]⟩
abbrev S2176x128 : Shape := ⟨2, ![2176, 128]⟩

abbrev nBuf : Space → Nat
  | .hbm => 3
  | .vmem => 6
  | .smem => 0
  | _ => 0

abbrev bufTy : (tb : Table) → Fin (tcTables nBuf tb) → BufTy
  | .hbm, ⟨0, _⟩ => ⟨S8704x1024, .bf16⟩
  | .hbm, ⟨1, _⟩ => ⟨S8704x128, .bf16⟩
  | .hbm, ⟨2, _⟩ => ⟨S1024x128, .bf16⟩
  | .local _ .vmem, ⟨0, _⟩ => ⟨S2176x1024, .bf16⟩
  | .local _ .vmem, ⟨1, _⟩ => ⟨S2176x1024, .bf16⟩
  | .local _ .vmem, ⟨2, _⟩ => ⟨S2176x128, .bf16⟩
  | .local _ .vmem, ⟨3, _⟩ => ⟨S2176x128, .bf16⟩
  | .local _ .vmem, ⟨4, _⟩ => ⟨S1024x128, .bf16⟩
  | .local _ .vmem, ⟨5, _⟩ => ⟨S1024x128, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2176x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference5Ideal.lean ====
abbrev S8704x1024 : Shape := ⟨2, ![8704, 1024]⟩
abbrev S8704x128 : Shape := ⟨2, ![8704, 128]⟩
abbrev S_ : Shape := ⟨0, ![]⟩
abbrev S1024x128 : Shape := ⟨2, ![1024, 128]⟩
abbrev S128x1024 : Shape := ⟨2, ![128, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S8704x128, .bf16⟩
  | .hbm, ⟨2, _⟩ => ⟨S_, .f32⟩
  | .hbm, ⟨3, _⟩ => ⟨S1024x128, .f32⟩
  | .hbm, ⟨4, _⟩ => ⟨S8704x1024, .f32⟩
  | .hbm, ⟨5, _⟩ => ⟨S8704x128, .f32⟩
  | .hbm, ⟨6, _⟩ => ⟨S8704x128, .f32⟩
  | .hbm, ⟨7, _⟩ => ⟨S128x1024, .f32⟩
  | .hbm, ⟨8, _⟩ => ⟨S1024x128, .f32⟩
  | .hbm, ⟨9, _⟩ => ⟨S1024x128, .bf16⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S8704x1024 : Shape := ⟨2, ![8704, 1024]⟩
abbrev S2048x1024 : Shape := ⟨2, ![2048, 1024]⟩
abbrev S1024x2048 : Shape := ⟨2, ![1024, 2048]⟩
abbrev S8704x2048 : Shape := ⟨2, ![8704, 2048]⟩
abbrev S256x1024 : Shape := ⟨2, ![256, 1024]⟩
abbrev S256x2048 : Shape := ⟨2, ![256, 2048]⟩
abbrev S1024x512 : Shape := ⟨2, ![1024, 512]⟩
abbrev S256x512 : Shape := ⟨2, ![256, 512]⟩

abbrev nBuf : Space → Nat
  | .hbm => 4
  | .vmem => 5
  | .smem => 0
  | _ => 0

abbrev bufTy : (tb : Table) → Fin (tcTables nBuf tb) → BufTy
  | .hbm, ⟨0, _⟩ => ⟨S8704x1024, .bf16⟩
  | .hbm, ⟨1, _⟩ => ⟨S2048x1024, .bf16⟩
  | .hbm, ⟨2, _⟩ => ⟨S1024x2048, .bf16⟩
  | .hbm, ⟨3, _⟩ => ⟨S8704x2048, .f32⟩
  | .local _ .vmem, ⟨0, _⟩ => ⟨S256x1024, .bf16⟩
  | .local _ .vmem, ⟨1, _⟩ => ⟨S256x1024, .bf16⟩
  | .local _ .vmem, ⟨2, _⟩ => ⟨S1024x2048, .bf16⟩
  | .local _ .vmem, ⟨3, _⟩ => ⟨S256x2048, .f32⟩
  | .local _ .vmem, ⟨4, _⟩ => ⟨S256x2048, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S8704x1024 : Shape := ⟨2, ![8704, 1024]⟩
abbrev S2048x1024 : Shape := ⟨2, ![2048, 1024]⟩
abbrev S_ : Shape := ⟨0, ![]⟩
abbrev S8704x2048 : Shape := ⟨2, ![8704, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S2048x1024, .bf16⟩
  | .hbm, ⟨2, _⟩ => ⟨S_, .f32⟩
  | .hbm, ⟨3, _⟩ => ⟨S8704x2048, .f32⟩
  | .hbm, ⟨4, _⟩ => ⟨S2048x1024, .f32⟩
  | .hbm, ⟨5, _⟩ => ⟨S8704x1024, .f32⟩
  | .hbm, ⟨6, _⟩ => ⟨S8704x1024, .f32⟩
  | .hbm, ⟨7, _⟩ => ⟨S8704x2048, .f32⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S8704x1024 : Shape := ⟨2, ![8704, 1024]⟩
abbrev S1024x1024 : Shape := ⟨2, ![1024, 1024]⟩
abbrev S256x1024 : Shape := ⟨2, ![256, 1024]⟩
abbrev S1024x512 : Shape := ⟨2, ![1024, 512]⟩
abbrev S256x512 : Shape := ⟨2, ![256, 512]⟩

abbrev nBuf : Space → Nat
  | .hbm => 4
  | .vmem => 5
  | .smem => 0
  | _ => 0

abbrev bufTy : (tb : Table) → Fin (tcTables nBuf tb) → BufTy
  | .hbm, ⟨0, _⟩ => ⟨S8704x1024, .bf16⟩
  | .hbm, ⟨1, _⟩ => ⟨S1024x1024, .bf16⟩
  | .hbm, ⟨2, _⟩ => ⟨S1024x1024, .bf16⟩
  | .hbm, ⟨3, _⟩ => ⟨S8704x1024, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S8704x1024 : Shape := ⟨2, ![8704, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S1024x1024, .bf16⟩
  | .hbm, ⟨2, _⟩ => ⟨S_, .f32⟩
  | .hbm, ⟨3, _⟩ => ⟨S8704x1024, .f32⟩
  | .hbm, ⟨4, _⟩ => ⟨S1024x1024, .f32⟩
  | .hbm, ⟨5, _⟩ => ⟨S8704x1024, .f32⟩
  | .hbm, ⟨6, _⟩ => ⟨S8704x1024, .f32⟩
  | .hbm, ⟨7, _⟩ => ⟨S8704x1024, .f32⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S8704x1024 : Shape := ⟨2, ![8704, 1024]⟩
abbrev S8704x1536 : Shape := ⟨2, ![8704, 1536]⟩
abbrev S8704x128 : Shape := ⟨2, ![8704, 128]⟩
abbrev S1024x4624 : Shape := ⟨2, ![1024, 4624]⟩
abbrev S_ : Shape := ⟨0, ![]⟩
abbrev S1024x4736 : Shape := ⟨2, ![1024, 4736]⟩
abbrev S4736x1024 : Shape := ⟨2, ![4736, 1024]⟩
abbrev S256x1024 : Shape := ⟨2, ![256, 1024]⟩
abbrev S256x1536 : Shape := ⟨2, ![256, 1536]⟩
abbrev S256x128 : Shape := ⟨2, ![256, 128]⟩
abbrev S1024x512 : Shape := ⟨2, ![1024, 512]⟩
abbrev S256x512 : Shape := ⟨2, ![256, 512]⟩
abbrev S1536x512 : Shape := ⟨2, ![1536, 512]⟩
abbrev S128x512 : Shape := ⟨2, ![128, 512]⟩

abbrev nBuf : Space → Nat
  | .hbm => 11
  | .vmem => 13
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .bf16⟩
  | .hbm, ⟨2, _⟩ => ⟨S8704x1024, .bf16⟩
  | .hbm, ⟨3, _⟩ => ⟨S8704x1536, .bf16⟩
  | .hbm, ⟨4, _⟩ => ⟨S8704x128, .bf16⟩
  | .hbm, ⟨5, _⟩ => ⟨S1024x4624, .bf16⟩
  | .hbm, ⟨6, _⟩ => ⟨S_, .i32⟩
  | .hbm, ⟨7, _⟩ => ⟨S_, .bf16⟩
  | .hbm, ⟨8, _⟩ => ⟨S1024x4736, .bf16⟩
  | .hbm, ⟨9, _⟩ => ⟨S4736x1024, .bf16⟩
  | .hbm, ⟨10, _⟩ => ⟨S8704x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1536, .bf16⟩
  | .local _ .vmem, ⟨7, _⟩ => ⟨S256x1536, .bf16⟩
  | .local _ .vmem, ⟨8, _⟩ => ⟨S256x128, .bf16⟩
  | .local _ .vmem, ⟨9, _⟩ => ⟨S256x128, .bf16⟩
  | .local _ .vmem, ⟨10, _⟩ => ⟨S4736x1024, .bf16⟩
  | .local _ .vmem, ⟨11, _⟩ => ⟨S256x1024, .f32⟩
  | .local _ .vmem, ⟨12, _⟩ => ⟨S256x1024, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4736x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S8704x1024 : Shape := ⟨2, ![8704, 1024]⟩
abbrev S8704x1536 : Shape := ⟨2, ![8704, 1536]⟩
abbrev S8704x128 : Shape := ⟨2, ![8704, 128]⟩
abbrev S1024x4624 : Shape := ⟨2, ![1024, 4624]⟩
abbrev S8704x16 : Shape := ⟨2, ![8704, 16]⟩
abbrev S8704x4624 : Shape := ⟨2, ![8704, 4624]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .bf16⟩
  | .hbm, ⟨2, _⟩ => ⟨S8704x1024, .bf16⟩
  | .hbm, ⟨3, _⟩ => ⟨S8704x1536, .bf16⟩
  | .hbm, ⟨4, _⟩ => ⟨S8704x128, .bf16⟩
  | .hbm, ⟨5, _⟩ => ⟨S1024x4624, .bf16⟩
  | .hbm, ⟨6, _⟩ => ⟨S8704x16, .bf16⟩
  | .hbm, ⟨7, _⟩ => ⟨S8704x4624, .bf16⟩
  | .hbm, ⟨8, _⟩ => ⟨S_, .f32⟩
  | .hbm, ⟨9, _⟩ => ⟨S8704x1024, .f32⟩
  | .hbm, ⟨10, _⟩ => ⟨S1024x4624, .f32⟩
  | .hbm, ⟨11, _⟩ => ⟨S8704x4624, .f32⟩
  | .hbm, ⟨12, _⟩ => ⟨S8704x4624, .f32⟩
  | .hbm, ⟨13, _⟩ => ⟨S8704x1024, .f32⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩

abbrev nD : Nat := 1
abbrev τ : Topo := Topo.v7x

variable {F : FTy → Type} [FloatOps F]
-- ==== Kernel9.lean ====
abbrev S8704x1024 : Shape := ⟨2, ![8704, 1024]⟩
abbrev S1024x4096 : Shape := ⟨2, ![1024, 4096]⟩
abbrev S8704x4096 : Shape := ⟨2, ![8704, 4096]⟩
abbrev S256x1024 : Shape := ⟨2, ![256, 1024]⟩
abbrev S256x4096 : Shape := ⟨2, ![256, 4096]⟩
abbrev S1024x512 : Shape := ⟨2, ![1024, 512]⟩
abbrev S256x512 : Shape := ⟨2, ![256, 512]⟩

abbrev nBuf : Space → Nat
  | .hbm => 3
  | .vmem => 5
  | .smem => 0
  | _ => 0

abbrev bufTy : (tb : Table) → Fin (tcTables nBuf tb) → BufTy
  | .hbm, ⟨0, _⟩ => ⟨S8704x1024, .bf16⟩
  | .hbm, ⟨1, _⟩ => ⟨S1024x4096, .bf16⟩
  | .hbm, ⟨2, _⟩ => ⟨S8704x4096, .f32⟩
  | .local _ .vmem, ⟨0, _⟩ => ⟨S256x1024, .bf16⟩
  | .local _ .vmem, ⟨1, _⟩ => ⟨S256x1024, .bf16⟩
  | .local _ .vmem, ⟨2, _⟩ => ⟨S1024x4096, .bf16⟩
  | .local _ .vmem, ⟨3, _⟩ => ⟨S256x4096, .f32⟩
  | .local _ .vmem, ⟨4, _⟩ => ⟨S256x4096, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S8704x1024 : Shape := ⟨2, ![8704, 1024]⟩
abbrev S1024x4096 : Shape := ⟨2, ![1024, 4096]⟩
abbrev S8704x4096 : Shape := ⟨2, ![8704, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S1024x4096, .bf16⟩
  | .hbm, ⟨2, _⟩ => ⟨S8704x1024, .f32⟩
  | .hbm, ⟨3, _⟩ => ⟨S1024x4096, .f32⟩
  | .hbm, ⟨4, _⟩ => ⟨S8704x4096, .f32⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel10.lean ====
abbrev S8704x1024 : Shape := ⟨2, ![8704, 1024]⟩
abbrev S1024x4624 : Shape := ⟨2, ![1024, 4624]⟩
abbrev S_ : Shape := ⟨0, ![]⟩
abbrev S1024x4736 : Shape := ⟨2, ![1024, 4736]⟩
abbrev S8704x4736 : Shape := ⟨2, ![8704, 4736]⟩
abbrev S256x1024 : Shape := ⟨2, ![256, 1024]⟩
abbrev S256x4736 : Shape := ⟨2, ![256, 4736]⟩
abbrev S1024x512 : Shape := ⟨2, ![1024, 512]⟩
abbrev S256x512 : Shape := ⟨2, ![256, 512]⟩
abbrev S1024x128 : Shape := ⟨2, ![1024, 128]⟩
abbrev S256x128 : Shape := ⟨2, ![256, 128]⟩

abbrev nBuf : Space → Nat
  | .hbm => 6
  | .vmem => 5
  | .smem => 0
  | _ => 0

abbrev bufTy : (tb : Table) → Fin (tcTables nBuf tb) → BufTy
  | .hbm, ⟨0, _⟩ => ⟨S8704x1024, .bf16⟩
  | .hbm, ⟨1, _⟩ => ⟨S1024x4624, .bf16⟩
  | .hbm, ⟨2, _⟩ => ⟨S_, .i32⟩
  | .hbm, ⟨3, _⟩ => ⟨S_, .bf16⟩
  | .hbm, ⟨4, _⟩ => ⟨S1024x4736, .bf16⟩
  | .hbm, ⟨5, _⟩ => ⟨S8704x4736, .f32⟩
  | .local _ .vmem, ⟨0, _⟩ => ⟨S256x1024, .bf16⟩
  | .local _ .vmem, ⟨1, _⟩ => ⟨S256x1024, .bf16⟩
  | .local _ .vmem, ⟨2, _⟩ => ⟨S1024x4736, .bf16⟩
  | .local _ .vmem, ⟨3, _⟩ => ⟨S256x4736, .f32⟩
  | .local _ .vmem, ⟨4, _⟩ => ⟨S256x4736, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4736 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4736 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S8704x1024 : Shape := ⟨2, ![8704, 1024]⟩
abbrev S1024x4624 : Shape := ⟨2, ![1024, 4624]⟩
abbrev S8704x4624 : Shape := ⟨2, ![8704, 4624]⟩
abbrev S_ : Shape := ⟨0, ![]⟩
abbrev S8704x4736 : Shape := ⟨2, ![8704, 4736]⟩

abbrev nBuf : Space → Nat
  | .hbm => 8
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S1024x4624, .bf16⟩
  | .hbm, ⟨2, _⟩ => ⟨S8704x1024, .f32⟩
  | .hbm, ⟨3, _⟩ => ⟨S1024x4624, .f32⟩
  | .hbm, ⟨4, _⟩ => ⟨S8704x4624, .f32⟩
  | .hbm, ⟨5, _⟩ => ⟨S_, .i32⟩
  | .hbm, ⟨6, _⟩ => ⟨S_, .f32⟩
  | .hbm, ⟨7, _⟩ => ⟨S8704x4736, .f32⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel11.lean ====
abbrev S8704x1024 : Shape := ⟨2, ![8704, 1024]⟩
abbrev S2048x1024 : Shape := ⟨2, ![2048, 1024]⟩
abbrev S256x1024 : Shape := ⟨2, ![256, 1024]⟩
abbrev S1024x512 : Shape := ⟨2, ![1024, 512]⟩
abbrev S256x512 : Shape := ⟨2, ![256, 512]⟩

abbrev nBuf : Space → Nat
  | .hbm => 5
  | .vmem => 9
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .bf16⟩
  | .hbm, ⟨2, _⟩ => ⟨S2048x1024, .bf16⟩
  | .hbm, ⟨3, _⟩ => ⟨S8704x1024, .f32⟩
  | .hbm, ⟨4, _⟩ => ⟨S8704x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S2048x1024, .bf16⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference11Ideal.lean ====
abbrev S8704x1024 : Shape := ⟨2, ![8704, 1024]⟩
abbrev S2048x1024 : Shape := ⟨2, ![2048, 1024]⟩
abbrev S8704x2048 : Shape := ⟨2, ![8704, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .bf16⟩
  | .hbm, ⟨2, _⟩ => ⟨S2048x1024, .bf16⟩
  | .hbm, ⟨3, _⟩ => ⟨S8704x1024, .f32⟩
  | .hbm, ⟨4, _⟩ => ⟨S8704x2048, .bf16⟩
  | .hbm, ⟨5, _⟩ => ⟨S8704x2048, .f32⟩
  | .hbm, ⟨6, _⟩ => ⟨S2048x1024, .f32⟩
  | .hbm, ⟨7, _⟩ => ⟨S8704x1024, .f32⟩
  | .hbm, ⟨8, _⟩ => ⟨S8704x1024, .f32⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel12.lean ====
abbrev S8704x1024 : Shape := ⟨2, ![8704, 1024]⟩
abbrev S1024x1024 : Shape := ⟨2, ![1024, 1024]⟩
abbrev S256x1024 : Shape := ⟨2, ![256, 1024]⟩
abbrev S1024x512 : Shape := ⟨2, ![1024, 512]⟩
abbrev S256x512 : Shape := ⟨2, ![256, 512]⟩

abbrev nBuf : Space → Nat
  | .hbm => 4
  | .vmem => 7
  | .smem => 0
  | _ => 0

abbrev bufTy : (tb : Table) → Fin (tcTables nBuf tb) → BufTy
  | .hbm, ⟨0, _⟩ => ⟨S8704x1024, .bf16⟩
  | .hbm, ⟨1, _⟩ => ⟨S1024x1024, .bf16⟩
  | .hbm, ⟨2, _⟩ => ⟨S8704x1024, .f32⟩
  | .hbm, ⟨3, _⟩ => ⟨S8704x1024, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference12Ideal.lean ====
abbrev S8704x1024 : Shape := ⟨2, ![8704, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S1024x1024, .bf16⟩
  | .hbm, ⟨2, _⟩ => ⟨S8704x1024, .f32⟩
  | .hbm, ⟨3, _⟩ => ⟨S8704x1024, .f32⟩
  | .hbm, ⟨4, _⟩ => ⟨S1024x1024, .f32⟩
  | .hbm, ⟨5, _⟩ => ⟨S8704x1024, .f32⟩
  | .hbm, ⟨6, _⟩ => ⟨S8704x1024, .f32⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S1x1024x1156 : Shape := ⟨3, ![1, 1024, 1156]⟩
abbrev S1024x1156 : Shape := ⟨2, ![1024, 1156]⟩
abbrev S128x1156 : Shape := ⟨2, ![128, 1156]⟩

abbrev nBuf : Space → Nat
  | .hbm => 11
  | .vmem => 16
  | .smem => 0
  | _ => 0

abbrev bufTy : (tb : Table) → Fin (tcTables nBuf tb) → BufTy
  | .hbm, ⟨0, _⟩ => ⟨S1x1024x1156, .f32⟩
  | .hbm, ⟨1, _⟩ => ⟨S1024x1156, .f32⟩
  | .hbm, ⟨2, _⟩ => ⟨S1x1024x1156, .f32⟩
  | .hbm, ⟨3, _⟩ => ⟨S1x1024x1156, .f32⟩
  | .hbm, ⟨4, _⟩ => ⟨S1024x1156, .f32⟩
  | .hbm, ⟨5, _⟩ => ⟨S1024x1156, .f32⟩
  | .hbm, ⟨6, _⟩ => ⟨S1024x1156, .f32⟩
  | .hbm, ⟨7, _⟩ => ⟨S1024x1156, .f32⟩
  | .hbm, ⟨8, _⟩ => ⟨S1024x1156, .f32⟩
  | .hbm, ⟨9, _⟩ => ⟨S1024x1156, .f32⟩
  | .hbm, ⟨10, _⟩ => ⟨S1024x1156, .f32⟩
  | .local _ .vmem, ⟨0, _⟩ => ⟨S128x1156, .f32⟩
  | .local _ .vmem, ⟨1, _⟩ => ⟨S128x1156, .f32⟩
  | .local _ .vmem, ⟨2, _⟩ => ⟨S128x1156, .f32⟩
  | .local _ .vmem, ⟨3, _⟩ => ⟨S128x1156, .f32⟩
  | .local _ .vmem, ⟨4, _⟩ => ⟨S128x1156, .f32⟩
  | .local _ .vmem, ⟨5, _⟩ => ⟨S128x1156, .f32⟩
  | .local _ .vmem, ⟨6, _⟩ => ⟨S128x1156, .f32⟩
  | .local _ .vmem, ⟨7, _⟩ => ⟨S128x1156, .f32⟩
  | .local _ .vmem, ⟨8, _⟩ => ⟨S128x1156, .f32⟩
  | .local _ .vmem, ⟨9, _⟩ => ⟨S128x1156, .f32⟩
  | .local _ .vmem, ⟨10, _⟩ => ⟨S128x1156, .f32⟩
  | .local _ .vmem, ⟨11, _⟩ => ⟨S128x1156, .f32⟩
  | .local _ .vmem, ⟨12, _⟩ => ⟨S128x1156, .f32⟩
  | .local _ .vmem, ⟨13, _⟩ => ⟨S128x1156, .f32⟩
  | .local _ .vmem, ⟨14, _⟩ => ⟨S128x1156, .f32⟩
  | .local _ .vmem, ⟨15, _⟩ => ⟨S128x1156, .f32⟩
  | _, _ => ⟨S1x1024x1156, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1156 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1156 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1156 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1156 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1156 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1156 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1156 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1156 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference13Ideal.lean ====
abbrev S1x1024x1156 : Shape := ⟨3, ![1, 1024, 1156]⟩
abbrev S1024x1156 : Shape := ⟨2, ![1024, 1156]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1x1024x1156, .f32⟩
  | .hbm, ⟨1, _⟩ => ⟨S1024x1156, .f32⟩
  | .hbm, ⟨2, _⟩ => ⟨S1x1024x1156, .f32⟩
  | .hbm, ⟨3, _⟩ => ⟨S1x1024x1156, .f32⟩
  | .hbm, ⟨4, _⟩ => ⟨S1x1024x1156, .f32⟩
  | .hbm, ⟨5, _⟩ => ⟨S_, .f32⟩
  | .hbm, ⟨6, _⟩ => ⟨S1x1024x1156, .f32⟩
  | .hbm, ⟨7, _⟩ => ⟨S1x1024x1156, .f32⟩
  | .hbm, ⟨8, _⟩ => ⟨S_, .f32⟩
  | .hbm, ⟨9, _⟩ => ⟨S1x1024x1156, .f32⟩
  | .hbm, ⟨10, _⟩ => ⟨S1x1024x1156, .f32⟩
  | .hbm, ⟨11, _⟩ => ⟨S1x1024x1156, .f32⟩
  | .hbm, ⟨12, _⟩ => ⟨S_, .f32⟩
  | .hbm, ⟨13, _⟩ => ⟨S1x1024x1156, .f32⟩
  | .hbm, ⟨14, _⟩ => ⟨S1x1024x1156, .f32⟩
  | .hbm, ⟨15, _⟩ => ⟨S1x1024x1156, .f32⟩
  | .hbm, ⟨16, _⟩ => ⟨S_, .f32⟩
  | .hbm, ⟨17, _⟩ => ⟨S1x1024x1156, .f32⟩
  | .hbm, ⟨18, _⟩ => ⟨S1x1024x1156, .f32⟩
  | .hbm, ⟨19, _⟩ => ⟨S1x1024x1156, .f32⟩
  | .hbm, ⟨20, _⟩ => ⟨S_, .f32⟩
  | .hbm, ⟨21, _⟩ => ⟨S1x1024x1156, .f32⟩
  | .hbm, ⟨22, _⟩ => ⟨S1x1024x1156, .f32⟩
  | .hbm, ⟨23, _⟩ => ⟨S_, .f32⟩
  | .hbm, ⟨24, _⟩ => ⟨S1x1024x1156, .f32⟩
  | .hbm, ⟨25, _⟩ => ⟨S1x1024x1156, .f32⟩
  | .hbm, ⟨26, _⟩ => ⟨S1x1024x1156, .f32⟩
  | .hbm, ⟨27, _⟩ => ⟨S_, .f32⟩
  | .hbm, ⟨28, _⟩ => ⟨S1x1024x1156, .f32⟩
  | .hbm, ⟨29, _⟩ => ⟨S1x1024x1156, .f32⟩
  | .hbm, ⟨30, _⟩ => ⟨S1x1024x1156, .f32⟩
  | .hbm, ⟨31, _⟩ => ⟨S_, .f32⟩
  | .hbm, ⟨32, _⟩ => ⟨S1x1024x1156, .f32⟩
  | .hbm, ⟨33, _⟩ => ⟨S1x1024x1156, .f32⟩
  | .hbm, ⟨34, _⟩ => ⟨S1x1024x1156, .f32⟩
  | .hbm, ⟨35, _⟩ => ⟨S_, .f32⟩
  | .hbm, ⟨36, _⟩ => ⟨S1x1024x1156, .f32⟩
  | .hbm, ⟨37, _⟩ => ⟨S1x1024x1156, .f32⟩
  | .hbm, ⟨38, _⟩ => ⟨S1024x1156, .f32⟩
  | .hbm, ⟨39, _⟩ => ⟨S1024x1156, .f32⟩
  | .hbm, ⟨40, _⟩ => ⟨S1024x1156, .f32⟩
  | _, _ => ⟨S1x1024x1156, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel14.lean ====
abbrev S1x512x1024 : Shape := ⟨3, ![1, 512, 1024]⟩
abbrev S512x1024 : Shape := ⟨2, ![512, 1024]⟩
abbrev S128x1024 : Shape := ⟨2, ![128, 1024]⟩

abbrev nBuf : Space → Nat
  | .hbm => 11
  | .vmem => 16
  | .smem => 0
  | _ => 0

abbrev bufTy : (tb : Table) → Fin (tcTables nBuf tb) → BufTy
  | .hbm, ⟨0, _⟩ => ⟨S1x512x1024, .f32⟩
  | .hbm, ⟨1, _⟩ => ⟨S512x1024, .f32⟩
  | .hbm, ⟨2, _⟩ => ⟨S1x512x1024, .f32⟩
  | .hbm, ⟨3, _⟩ => ⟨S1x512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference14Ideal.lean ====
abbrev S1x512x1024 : Shape := ⟨3, ![1, 512, 1024]⟩
abbrev S512x1024 : Shape := ⟨2, ![512, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1x512x1024, .f32⟩
  | .hbm, ⟨1, _⟩ => ⟨S512x1024, .f32⟩
  | .hbm, ⟨2, _⟩ => ⟨S1x512x1024, .f32⟩
  | .hbm, ⟨3, _⟩ => ⟨S1x512x1024, .f32⟩
  | .hbm, ⟨4, _⟩ => ⟨S1x512x1024, .f32⟩
  | .hbm, ⟨5, _⟩ => ⟨S_, .f32⟩
  | .hbm, ⟨6, _⟩ => ⟨S1x512x1024, .f32⟩
  | .hbm, ⟨7, _⟩ => ⟨S1x512x1024, .f32⟩
  | .hbm, ⟨8, _⟩ => ⟨S_, .f32⟩
  | .hbm, ⟨9, _⟩ => ⟨S1x512x1024, .f32⟩
  | .hbm, ⟨10, _⟩ => ⟨S1x512x1024, .f32⟩
  | .hbm, ⟨11, _⟩ => ⟨S1x512x1024, .f32⟩
  | .hbm, ⟨12, _⟩ => ⟨S_, .f32⟩
  | .hbm, ⟨13, _⟩ => ⟨S1x512x1024, .f32⟩
  | .hbm, ⟨14, _⟩ => ⟨S1x512x1024, .f32⟩
  | .hbm, ⟨15, _⟩ => ⟨S1x512x1024, .f32⟩
  | .hbm, ⟨16, _⟩ => ⟨S_, .f32⟩
  | .hbm, ⟨17, _⟩ => ⟨S1x512x1024, .f32⟩
  | .hbm, ⟨18, _⟩ => ⟨S1x512x1024, .f32⟩
  | .hbm, ⟨19, _⟩ => ⟨S1x512x1024, .f32⟩
  | .hbm, ⟨20, _⟩ => ⟨S_, .f32⟩
  | .hbm, ⟨21, _⟩ => ⟨S1x512x1024, .f32⟩
  | .hbm, ⟨22, _⟩ => ⟨S1x512x1024, .f32⟩
  | .hbm, ⟨23, _⟩ => ⟨S_, .f32⟩
  | .hbm, ⟨24, _⟩ => ⟨S1x512x1024, .f32⟩
  | .hbm, ⟨25, _⟩ => ⟨S1x512x1024, .f32⟩
  | .hbm, ⟨26, _⟩ => ⟨S1x512x1024, .f32⟩
  | .hbm, ⟨27, _⟩ => ⟨S_, .f32⟩
  | .hbm, ⟨28, _⟩ => ⟨S1x512x1024, .f32⟩
  | .hbm, ⟨29, _⟩ => ⟨S1x512x1024, .f32⟩
  | .hbm, ⟨30, _⟩ => ⟨S1x512x1024, .f32⟩
  | .hbm, ⟨31, _⟩ => ⟨S_, .f32⟩
  | .hbm, ⟨32, _⟩ => ⟨S1x512x1024, .f32⟩
  | .hbm, ⟨33, _⟩ => ⟨S1x512x1024, .f32⟩
  | .hbm, ⟨34, _⟩ => ⟨S1x512x1024, .f32⟩
  | .hbm, ⟨35, _⟩ => ⟨S_, .f32⟩
  | .hbm, ⟨36, _⟩ => ⟨S1x512x1024, .f32⟩
  | .hbm, ⟨37, _⟩ => ⟨S1x512x1024, .f32⟩
  | .hbm, ⟨38, _⟩ => ⟨S512x1024, .f32⟩
  | .hbm, ⟨39, _⟩ => ⟨S512x1024, .f32⟩
  | .hbm, ⟨40, _⟩ => ⟨S512x1024, .f32⟩
  | _, _ => ⟨S1x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel15.lean ====
abbrev S1x1024x1024 : Shape := ⟨3, ![1, 1024, 1024]⟩
abbrev S1024x1024 : Shape := ⟨2, ![1024, 1024]⟩
abbrev S128x1024 : Shape := ⟨2, ![128, 1024]⟩

abbrev nBuf : Space → Nat
  | .hbm => 11
  | .vmem => 16
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x1024, .f32⟩
  | .hbm, ⟨3, _⟩ => ⟨S1x1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference15Ideal.lean ====
abbrev S1x1024x1024 : Shape := ⟨3, ![1, 1024, 1024]⟩
abbrev S1024x1024 : Shape := ⟨2, ![1024, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x1024, .f32⟩
  | .hbm, ⟨3, _⟩ => ⟨S1x1024x1024, .f32⟩
  | .hbm, ⟨4, _⟩ => ⟨S1x1024x1024, .f32⟩
  | .hbm, ⟨5, _⟩ => ⟨S_, .f32⟩
  | .hbm, ⟨6, _⟩ => ⟨S1x1024x1024, .f32⟩
  | .hbm, ⟨7, _⟩ => ⟨S1x1024x1024, .f32⟩
  | .hbm, ⟨8, _⟩ => ⟨S_, .f32⟩
  | .hbm, ⟨9, _⟩ => ⟨S1x1024x1024, .f32⟩
  | .hbm, ⟨10, _⟩ => ⟨S1x1024x1024, .f32⟩
  | .hbm, ⟨11, _⟩ => ⟨S1x1024x1024, .f32⟩
  | .hbm, ⟨12, _⟩ => ⟨S_, .f32⟩
  | .hbm, ⟨13, _⟩ => ⟨S1x1024x1024, .f32⟩
  | .hbm, ⟨14, _⟩ => ⟨S1x1024x1024, .f32⟩
  | .hbm, ⟨15, _⟩ => ⟨S1x1024x1024, .f32⟩
  | .hbm, ⟨16, _⟩ => ⟨S_, .f32⟩
  | .hbm, ⟨17, _⟩ => ⟨S1x1024x1024, .f32⟩
  | .hbm, ⟨18, _⟩ => ⟨S1x1024x1024, .f32⟩
  | .hbm, ⟨19, _⟩ => ⟨S1x1024x1024, .f32⟩
  | .hbm, ⟨20, _⟩ => ⟨S_, .f32⟩
  | .hbm, ⟨21, _⟩ => ⟨S1x1024x1024, .f32⟩
  | .hbm, ⟨22, _⟩ => ⟨S1x1024x1024, .f32⟩
  | .hbm, ⟨23, _⟩ => ⟨S_, .f32⟩
  | .hbm, ⟨24, _⟩ => ⟨S1x1024x1024, .f32⟩
  | .hbm, ⟨25, _⟩ => ⟨S1x1024x1024, .f32⟩
  | .hbm, ⟨26, _⟩ => ⟨S1x1024x1024, .f32⟩
  | .hbm, ⟨27, _⟩ => ⟨S_, .f32⟩
  | .hbm, ⟨28, _⟩ => ⟨S1x1024x1024, .f32⟩
  | .hbm, ⟨29, _⟩ => ⟨S1x1024x1024, .f32⟩
  | .hbm, ⟨30, _⟩ => ⟨S1x1024x1024, .f32⟩
  | .hbm, ⟨31, _⟩ => ⟨S_, .f32⟩
  | .hbm, ⟨32, _⟩ => ⟨S1x1024x1024, .f32⟩
  | .hbm, ⟨33, _⟩ => ⟨S1x1024x1024, .f32⟩
  | .hbm, ⟨34, _⟩ => ⟨S1x1024x1024, .f32⟩
  | .hbm, ⟨35, _⟩ => ⟨S_, .f32⟩
  | .hbm, ⟨36, _⟩ => ⟨S1x1024x1024, .f32⟩
  | .hbm, ⟨37, _⟩ => ⟨S1x1024x1024, .f32⟩
  | .hbm, ⟨38, _⟩ => ⟨S1024x1024, .f32⟩
  | .hbm, ⟨39, _⟩ => ⟨S1024x1024, .f32⟩
  | .hbm, ⟨40, _⟩ => ⟨S1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel16.lean ====
abbrev S1x256x1024 : Shape := ⟨3, ![1, 256, 1024]⟩
abbrev S256x1024 : Shape := ⟨2, ![256, 1024]⟩
abbrev S128x1024 : Shape := ⟨2, ![128, 1024]⟩

abbrev nBuf : Space → Nat
  | .hbm => 11
  | .vmem => 16
  | .smem => 0
  | _ => 0

abbrev bufTy : (tb : Table) → Fin (tcTables nBuf tb) → BufTy
  | .hbm, ⟨0, _⟩ => ⟨S1x256x1024, .f32⟩
  | .hbm, ⟨1, _⟩ => ⟨S256x1024, .f32⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference16Ideal.lean ====
abbrev S1x256x1024 : Shape := ⟨3, ![1, 256, 1024]⟩
abbrev S256x1024 : Shape := ⟨2, ![256, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S_, .f32⟩
  | .hbm, ⟨6, _⟩ => ⟨S1x256x1024, .f32⟩
  | .hbm, ⟨7, _⟩ => ⟨S1x256x1024, .f32⟩
  | .hbm, ⟨8, _⟩ => ⟨S_, .f32⟩
  | .hbm, ⟨9, _⟩ => ⟨S1x256x1024, .f32⟩
  | .hbm, ⟨10, _⟩ => ⟨S1x256x1024, .f32⟩
  | .hbm, ⟨11, _⟩ => ⟨S1x256x1024, .f32⟩
  | .hbm, ⟨12, _⟩ => ⟨S_, .f32⟩
  | .hbm, ⟨13, _⟩ => ⟨S1x256x1024, .f32⟩
  | .hbm, ⟨14, _⟩ => ⟨S1x256x1024, .f32⟩
  | .hbm, ⟨15, _⟩ => ⟨S1x256x1024, .f32⟩
  | .hbm, ⟨16, _⟩ => ⟨S_, .f32⟩
  | .hbm, ⟨17, _⟩ => ⟨S1x256x1024, .f32⟩
  | .hbm, ⟨18, _⟩ => ⟨S1x256x1024, .f32⟩
  | .hbm, ⟨19, _⟩ => ⟨S1x256x1024, .f32⟩
  | .hbm, ⟨20, _⟩ => ⟨S_, .f32⟩
  | .hbm, ⟨21, _⟩ => ⟨S1x256x1024, .f32⟩
  | .hbm, ⟨22, _⟩ => ⟨S1x256x1024, .f32⟩
  | .hbm, ⟨23, _⟩ => ⟨S_, .f32⟩
  | .hbm, ⟨24, _⟩ => ⟨S1x256x1024, .f32⟩
  | .hbm, ⟨25, _⟩ => ⟨S1x256x1024, .f32⟩
  | .hbm, ⟨26, _⟩ => ⟨S1x256x1024, .f32⟩
  | .hbm, ⟨27, _⟩ => ⟨S_, .f32⟩
  | .hbm, ⟨28, _⟩ => ⟨S1x256x1024, .f32⟩
  | .hbm, ⟨29, _⟩ => ⟨S1x256x1024, .f32⟩
  | .hbm, ⟨30, _⟩ => ⟨S1x256x1024, .f32⟩
  | .hbm, ⟨31, _⟩ => ⟨S_, .f32⟩
  | .hbm, ⟨32, _⟩ => ⟨S1x256x1024, .f32⟩
  | .hbm, ⟨33, _⟩ => ⟨S1x256x1024, .f32⟩
  | .hbm, ⟨34, _⟩ => ⟨S1x256x1024, .f32⟩
  | .hbm, ⟨35, _⟩ => ⟨S_, .f32⟩
  | .hbm, ⟨36, _⟩ => ⟨S1x256x1024, .f32⟩
  | .hbm, ⟨37, _⟩ => ⟨S1x256x1024, .f32⟩
  | .hbm, ⟨38, _⟩ => ⟨S256x1024, .f32⟩
  | .hbm, ⟨39, _⟩ => ⟨S256x1024, .f32⟩
  | .hbm, ⟨40, _⟩ => ⟨S256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel17.lean ====
abbrev S1x4x64x256 : Shape := ⟨4, ![1, 4, 64, 256]⟩
abbrev S256x256 : Shape := ⟨2, ![256, 256]⟩
abbrev S128x256 : Shape := ⟨2, ![128, 256]⟩

abbrev nBuf : Space → Nat
  | .hbm => 11
  | .vmem => 16
  | .smem => 0
  | _ => 0

abbrev bufTy : (tb : Table) → Fin (tcTables nBuf tb) → BufTy
  | .hbm, ⟨0, _⟩ => ⟨S1x4x64x256, .f32⟩
  | .hbm, ⟨1, _⟩ => ⟨S256x256, .f32⟩
  | .hbm, ⟨2, _⟩ => ⟨S1x4x64x256, .f32⟩
  | .hbm, ⟨3, _⟩ => ⟨S1x4x64x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S256x256, .f32⟩
  | .hbm, ⟨9, _⟩ => ⟨S256x256, .f32⟩
  | .hbm, ⟨10, _⟩ => ⟨S256x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | _, _ => ⟨S1x4x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference17Ideal.lean ====
abbrev S1x4x64x256 : Shape := ⟨4, ![1, 4, 64, 256]⟩
abbrev S256x256 : Shape := ⟨2, ![256, 256]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1x4x64x256, .f32⟩
  | .hbm, ⟨1, _⟩ => ⟨S256x256, .f32⟩
  | .hbm, ⟨2, _⟩ => ⟨S1x4x64x256, .f32⟩
  | .hbm, ⟨3, _⟩ => ⟨S1x4x64x256, .f32⟩
  | .hbm, ⟨4, _⟩ => ⟨S1x4x64x256, .f32⟩
  | .hbm, ⟨5, _⟩ => ⟨S_, .f32⟩
  | .hbm, ⟨6, _⟩ => ⟨S1x4x64x256, .f32⟩
  | .hbm, ⟨7, _⟩ => ⟨S1x4x64x256, .f32⟩
  | .hbm, ⟨8, _⟩ => ⟨S_, .f32⟩
  | .hbm, ⟨9, _⟩ => ⟨S1x4x64x256, .f32⟩
  | .hbm, ⟨10, _⟩ => ⟨S1x4x64x256, .f32⟩
  | .hbm, ⟨11, _⟩ => ⟨S1x4x64x256, .f32⟩
  | .hbm, ⟨12, _⟩ => ⟨S_, .f32⟩
  | .hbm, ⟨13, _⟩ => ⟨S1x4x64x256, .f32⟩
  | .hbm, ⟨14, _⟩ => ⟨S1x4x64x256, .f32⟩
  | .hbm, ⟨15, _⟩ => ⟨S1x4x64x256, .f32⟩
  | .hbm, ⟨16, _⟩ => ⟨S_, .f32⟩
  | .hbm, ⟨17, _⟩ => ⟨S1x4x64x256, .f32⟩
  | .hbm, ⟨18, _⟩ => ⟨S1x4x64x256, .f32⟩
  | .hbm, ⟨19, _⟩ => ⟨S1x4x64x256, .f32⟩
  | .hbm, ⟨20, _⟩ => ⟨S_, .f32⟩
  | .hbm, ⟨21, _⟩ => ⟨S1x4x64x256, .f32⟩
  | .hbm, ⟨22, _⟩ => ⟨S1x4x64x256, .f32⟩
  | .hbm, ⟨23, _⟩ => ⟨S_, .f32⟩
  | .hbm, ⟨24, _⟩ => ⟨S1x4x64x256, .f32⟩
  | .hbm, ⟨25, _⟩ => ⟨S1x4x64x256, .f32⟩
  | .hbm, ⟨26, _⟩ => ⟨S1x4x64x256, .f32⟩
  | .hbm, ⟨27, _⟩ => ⟨S_, .f32⟩
  | .hbm, ⟨28, _⟩ => ⟨S1x4x64x256, .f32⟩
  | .hbm, ⟨29, _⟩ => ⟨S1x4x64x256, .f32⟩
  | .hbm, ⟨30, _⟩ => ⟨S1x4x64x256, .f32⟩
  | .hbm, ⟨31, _⟩ => ⟨S_, .f32⟩
  | .hbm, ⟨32, _⟩ => ⟨S1x4x64x256, .f32⟩
  | .hbm, ⟨33, _⟩ => ⟨S1x4x64x256, .f32⟩
  | .hbm, ⟨34, _⟩ => ⟨S1x4x64x256, .f32⟩
  | .hbm, ⟨35, _⟩ => ⟨S_, .f32⟩
  | .hbm, ⟨36, _⟩ => ⟨S1x4x64x256, .f32⟩
  | .hbm, ⟨37, _⟩ => ⟨S1x4x64x256, .f32⟩
  | .hbm, ⟨38, _⟩ => ⟨S256x256, .f32⟩
  | .hbm, ⟨39, _⟩ => ⟨S256x256, .f32⟩
  | .hbm, ⟨40, _⟩ => ⟨S256x256, .f32⟩
  | _, _ => ⟨S1x4x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel18.lean ====
abbrev S16x256 : Shape := ⟨2, ![16, 256]⟩
abbrev S1x1024 : Shape := ⟨2, ![1, 1024]⟩
abbrev S1x4x256 : Shape := ⟨3, ![1, 4, 256]⟩
abbrev S1x4x384 : Shape := ⟨3, ![1, 4, 384]⟩
abbrev S1x1536 : Shape := ⟨2, ![1, 1536]⟩
abbrev S1x16 : Shape := ⟨2, ![1, 16]⟩
abbrev S1x256 : Shape := ⟨2, ![1, 256]⟩
abbrev S1024 : Shape := ⟨1, ![1024]⟩
abbrev S4096 : Shape := ⟨1, ![4096]⟩
abbrev S_ : Shape := ⟨0, ![]⟩
abbrev S1536 : Shape := ⟨1, ![1536]⟩
abbrev S2048 : Shape := ⟨1, ![2048]⟩
abbrev S16 : Shape := ⟨1, ![16]⟩
abbrev S256 : Shape := ⟨1, ![256]⟩
abbrev S20480 : Shape := ⟨1, ![20480]⟩
abbrev S160x128 : Shape := ⟨2, ![160, 128]⟩
abbrev S32x128 : Shape := ⟨2, ![32, 128]⟩

abbrev nBuf : Space → Nat
  | .hbm => 308
  | .vmem => 16
  | .smem => 0
  | _ => 0

abbrev hbmTy0_0 (i : Nat) : BufTy := match i % 128 with
  | 0 => ⟨S16x256, .f32⟩
  | 1 => ⟨S1x1024, .f32⟩
  | 2 => ⟨S1x4x256, .f32⟩
  | 3 => ⟨S1x1024, .f32⟩
  | 4 => ⟨S1x1024, .f32⟩
  | 5 => ⟨S1x1024, .f32⟩
  | 6 => ⟨S1x1024, .f32⟩
  | 7 => ⟨S1x4x384, .f32⟩
  | 8 => ⟨S1x1536, .f32⟩
  | 9 => ⟨S1x16, .f32⟩
  | 10 => ⟨S1x16, .f32⟩
  | 11 => ⟨S1x16, .f32⟩
  | 12 => ⟨S1x1024, .f32⟩
  | 13 => ⟨S1x256, .f32⟩
  | 14 => ⟨S1024, .f32⟩
  | 15 => ⟨S16x256, .f32⟩
  | 16 => ⟨S1x1024, .f32⟩
  | 17 => ⟨S1x4x256, .f32⟩
  | 18 => ⟨S1x1024, .f32⟩
  | 19 => ⟨S1x1024, .f32⟩
  | 20 => ⟨S1x1024, .f32⟩
  | 21 => ⟨S1x1024, .f32⟩
  | 22 => ⟨S1x4x384, .f32⟩
  | 23 => ⟨S1x1536, .f32⟩
  | 24 => ⟨S1x16, .f32⟩
  | 25 => ⟨S1x16, .f32⟩
  | 26 => ⟨S1x16, .f32⟩
  | 27 => ⟨S1x1024, .f32⟩
  | 28 => ⟨S1x256, .f32⟩
  | 29 => ⟨S1024, .f32⟩
  | 30 => ⟨S16x256, .f32⟩
  | 31 => ⟨S1x1024, .f32⟩
  | 32 => ⟨S1x4x256, .f32⟩
  | 33 => ⟨S1x1024, .f32⟩
  | 34 => ⟨S1x1024, .f32⟩
  | 35 => ⟨S1x1024, .f32⟩
  | 36 => ⟨S1x1024, .f32⟩
  | 37 => ⟨S1x4x384, .f32⟩
  | 38 => ⟨S1x1536, .f32⟩
  | 39 => ⟨S1x16, .f32⟩
  | 40 => ⟨S1x16, .f32⟩
  | 41 => ⟨S1x16, .f32⟩
  | 42 => ⟨S1x1024, .f32⟩
  | 43 => ⟨S1x256, .f32⟩
  | 44 => ⟨S1024, .f32⟩
  | 45 => ⟨S16x256, .f32⟩
  | 46 => ⟨S1x1024, .f32⟩
  | 47 => ⟨S1x4x256, .f32⟩
  | 48 => ⟨S1x1024, .f32⟩
  | 49 => ⟨S1x1024, .f32⟩
  | 50 => ⟨S1x1024, .f32⟩
  | 51 => ⟨S1x1024, .f32⟩
  | 52 => ⟨S1x4x384, .f32⟩
  | 53 => ⟨S1x1536, .f32⟩
  | 54 => ⟨S1x16, .f32⟩
  | 55 => ⟨S1x16, .f32⟩
  | 56 => ⟨S1x16, .f32⟩
  | 57 => ⟨S1x1024, .f32⟩
  | 58 => ⟨S1x256, .f32⟩
  | 59 => ⟨S1024, .f32⟩
  | 60 => ⟨S4096, .f32⟩
  | 61 => ⟨S_, .i32⟩
  | 62 => ⟨S_, .f32⟩
  | 63 => ⟨S4096, .f32⟩
  | 64 => ⟨S1024, .f32⟩
  | 65 => ⟨S_, .i32⟩
  | 66 => ⟨S_, .f32⟩
  | 67 => ⟨S1024, .f32⟩
  | 68 => ⟨S1024, .f32⟩
  | 69 => ⟨S_, .i32⟩
  | 70 => ⟨S_, .f32⟩
  | 71 => ⟨S1024, .f32⟩
  | 72 => ⟨S1024, .f32⟩
  | 73 => ⟨S_, .i32⟩
  | 74 => ⟨S_, .f32⟩
  | 75 => ⟨S1024, .f32⟩
  | 76 => ⟨S1024, .f32⟩
  | 77 => ⟨S_, .i32⟩
  | 78 => ⟨S_, .f32⟩
  | 79 => ⟨S1024, .f32⟩
  | 80 => ⟨S1024, .f32⟩
  | 81 => ⟨S_, .i32⟩
  | 82 => ⟨S_, .f32⟩
  | 83 => ⟨S1024, .f32⟩
  | 84 => ⟨S1024, .f32⟩
  | 85 => ⟨S_, .i32⟩
  | 86 => ⟨S_, .f32⟩
  | 87 => ⟨S1024, .f32⟩
  | 88 => ⟨S1536, .f32⟩
  | 89 => ⟨S_, .i32⟩
  | 90 => ⟨S_, .f32⟩
  | 91 => ⟨S2048, .f32⟩
  | 92 => ⟨S1536, .f32⟩
  | 93 => ⟨S_, .i32⟩
  | 94 => ⟨S_, .f32⟩
  | 95 => ⟨S2048, .f32⟩
  | 96 => ⟨S16, .f32⟩
  | 97 => ⟨S_, .i32⟩
  | 98 => ⟨S_, .f32⟩
  | 99 => ⟨S1024, .f32⟩
  | 100 => ⟨S16, .f32⟩
  | 101 => ⟨S_, .i32⟩
  | 102 => ⟨S_, .f32⟩
  | 103 => ⟨S1024, .f32⟩
  | 104 => ⟨S16, .f32⟩
  | 105 => ⟨S_, .i32⟩
  | 106 => ⟨S_, .f32⟩
  | 107 => ⟨S1024, .f32⟩
  | 108 => ⟨S1024, .f32⟩
  | 109 => ⟨S_, .i32⟩
  | 110 => ⟨S_, .f32⟩
  | 111 => ⟨S1024, .f32⟩
  | 112 => ⟨S256, .f32⟩
  | 113 => ⟨S_, .i32⟩
  | 114 => ⟨S_, .f32⟩
  | 115 => ⟨S1024, .f32⟩
  | 116 => ⟨S_, .i32⟩
  | 117 => ⟨S_, .f32⟩
  | 118 => ⟨S1024, .f32⟩
  | 119 => ⟨S20480, .f32⟩
  | 120 => ⟨S160x128, .f32⟩
  | 121 => ⟨S4096, .f32⟩
  | 122 => ⟨S_, .i32⟩
  | 123 => ⟨S_, .f32⟩
  | 124 => ⟨S4096, .f32⟩
  | 125 => ⟨S1024, .f32⟩
  | 126 => ⟨S_, .i32⟩
  | 127 => ⟨S_, .f32⟩
  | _ => ⟨S16x256, .f32⟩

abbrev hbmTy0_1 (i : Nat) : BufTy := match i % 128 with
  | 0 => ⟨S1024, .f32⟩
  | 1 => ⟨S1024, .f32⟩
  | 2 => ⟨S_, .i32⟩
  | 3 => ⟨S_, .f32⟩
  | 4 => ⟨S1024, .f32⟩
  | 5 => ⟨S1024, .f32⟩
  | 6 => ⟨S_, .i32⟩
  | 7 => ⟨S_, .f32⟩
  | 8 => ⟨S1024, .f32⟩
  | 9 => ⟨S1024, .f32⟩
  | 10 => ⟨S_, .i32⟩
  | 11 => ⟨S_, .f32⟩
  | 12 => ⟨S1024, .f32⟩
  | 13 => ⟨S1024, .f32⟩
  | 14 => ⟨S_, .i32⟩
  | 15 => ⟨S_, .f32⟩
  | 16 => ⟨S1024, .f32⟩
  | 17 => ⟨S1024, .f32⟩
  | 18 => ⟨S_, .i32⟩
  | 19 => ⟨S_, .f32⟩
  | 20 => ⟨S1024, .f32⟩
  | 21 => ⟨S1536, .f32⟩
  | 22 => ⟨S_, .i32⟩
  | 23 => ⟨S_, .f32⟩
  | 24 => ⟨S2048, .f32⟩
  | 25 => ⟨S1536, .f32⟩
  | 26 => ⟨S_, .i32⟩
  | 27 => ⟨S_, .f32⟩
  | 28 => ⟨S2048, .f32⟩
  | 29 => ⟨S16, .f32⟩
  | 30 => ⟨S_, .i32⟩
  | 31 => ⟨S_, .f32⟩
  | 32 => ⟨S1024, .f32⟩
  | 33 => ⟨S16, .f32⟩
  | 34 => ⟨S_, .i32⟩
  | 35 => ⟨S_, .f32⟩
  | 36 => ⟨S1024, .f32⟩
  | 37 => ⟨S16, .f32⟩
  | 38 => ⟨S_, .i32⟩
  | 39 => ⟨S_, .f32⟩
  | 40 => ⟨S1024, .f32⟩
  | 41 => ⟨S1024, .f32⟩
  | 42 => ⟨S_, .i32⟩
  | 43 => ⟨S_, .f32⟩
  | 44 => ⟨S1024, .f32⟩
  | 45 => ⟨S256, .f32⟩
  | 46 => ⟨S_, .i32⟩
  | 47 => ⟨S_, .f32⟩
  | 48 => ⟨S1024, .f32⟩
  | 49 => ⟨S_, .i32⟩
  | 50 => ⟨S_, .f32⟩
  | 51 => ⟨S1024, .f32⟩
  | 52 => ⟨S20480, .f32⟩
  | 53 => ⟨S160x128, .f32⟩
  | 54 => ⟨S4096, .f32⟩
  | 55 => ⟨S_, .i32⟩
  | 56 => ⟨S_, .f32⟩
  | 57 => ⟨S4096, .f32⟩
  | 58 => ⟨S1024, .f32⟩
  | 59 => ⟨S_, .i32⟩
  | 60 => ⟨S_, .f32⟩
  | 61 => ⟨S1024, .f32⟩
  | 62 => ⟨S1024, .f32⟩
  | 63 => ⟨S_, .i32⟩
  | 64 => ⟨S_, .f32⟩
  | 65 => ⟨S1024, .f32⟩
  | 66 => ⟨S1024, .f32⟩
  | 67 => ⟨S_, .i32⟩
  | 68 => ⟨S_, .f32⟩
  | 69 => ⟨S1024, .f32⟩
  | 70 => ⟨S1024, .f32⟩
  | 71 => ⟨S_, .i32⟩
  | 72 => ⟨S_, .f32⟩
  | 73 => ⟨S1024, .f32⟩
  | 74 => ⟨S1024, .f32⟩
  | 75 => ⟨S_, .i32⟩
  | 76 => ⟨S_, .f32⟩
  | 77 => ⟨S1024, .f32⟩
  | 78 => ⟨S1024, .f32⟩
  | 79 => ⟨S_, .i32⟩
  | 80 => ⟨S_, .f32⟩
  | 81 => ⟨S1024, .f32⟩
  | 82 => ⟨S1536, .f32⟩
  | 83 => ⟨S_, .i32⟩
  | 84 => ⟨S_, .f32⟩
  | 85 => ⟨S2048, .f32⟩
  | 86 => ⟨S1536, .f32⟩
  | 87 => ⟨S_, .i32⟩
  | 88 => ⟨S_, .f32⟩
  | 89 => ⟨S2048, .f32⟩
  | 90 => ⟨S16, .f32⟩
  | 91 => ⟨S_, .i32⟩
  | 92 => ⟨S_, .f32⟩
  | 93 => ⟨S1024, .f32⟩
  | 94 => ⟨S16, .f32⟩
  | 95 => ⟨S_, .i32⟩
  | 96 => ⟨S_, .f32⟩
  | 97 => ⟨S1024, .f32⟩
  | 98 => ⟨S16, .f32⟩
  | 99 => ⟨S_, .i32⟩
  | 100 => ⟨S_, .f32⟩
  | 101 => ⟨S1024, .f32⟩
  | 102 => ⟨S1024, .f32⟩
  | 103 => ⟨S_, .i32⟩
  | 104 => ⟨S_, .f32⟩
  | 105 => ⟨S1024, .f32⟩
  | 106 => ⟨S256, .f32⟩
  | 107 => ⟨S_, .i32⟩
  | 108 => ⟨S_, .f32⟩
  | 109 => ⟨S1024, .f32⟩
  | 110 => ⟨S_, .i32⟩
  | 111 => ⟨S_, .f32⟩
  | 112 => ⟨S1024, .f32⟩
  | 113 => ⟨S20480, .f32⟩
  | 114 => ⟨S160x128, .f32⟩
  | 115 => ⟨S4096, .f32⟩
  | 116 => ⟨S_, .i32⟩
  | 117 => ⟨S_, .f32⟩
  | 118 => ⟨S4096, .f32⟩
  | 119 => ⟨S1024, .f32⟩
  | 120 => ⟨S_, .i32⟩
  | 121 => ⟨S_, .f32⟩
  | 122 => ⟨S1024, .f32⟩
  | 123 => ⟨S1024, .f32⟩
  | 124 => ⟨S_, .i32⟩
  | 125 => ⟨S_, .f32⟩
  | 126 => ⟨S1024, .f32⟩
  | 127 => ⟨S1024, .f32⟩
  | _ => ⟨S16x256, .f32⟩

abbrev hbmTy0_2 (i : Nat) : BufTy := match i % 128 with
  | 0 => ⟨S_, .i32⟩
  | 1 => ⟨S_, .f32⟩
  | 2 => ⟨S1024, .f32⟩
  | 3 => ⟨S1024, .f32⟩
  | 4 => ⟨S_, .i32⟩
  | 5 => ⟨S_, .f32⟩
  | 6 => ⟨S1024, .f32⟩
  | 7 => ⟨S1024, .f32⟩
  | 8 => ⟨S_, .i32⟩
  | 9 => ⟨S_, .f32⟩
  | 10 => ⟨S1024, .f32⟩
  | 11 => ⟨S1024, .f32⟩
  | 12 => ⟨S_, .i32⟩
  | 13 => ⟨S_, .f32⟩
  | 14 => ⟨S1024, .f32⟩
  | 15 => ⟨S1536, .f32⟩
  | 16 => ⟨S_, .i32⟩
  | 17 => ⟨S_, .f32⟩
  | 18 => ⟨S2048, .f32⟩
  | 19 => ⟨S1536, .f32⟩
  | 20 => ⟨S_, .i32⟩
  | 21 => ⟨S_, .f32⟩
  | 22 => ⟨S2048, .f32⟩
  | 23 => ⟨S16, .f32⟩
  | 24 => ⟨S_, .i32⟩
  | 25 => ⟨S_, .f32⟩
  | 26 => ⟨S1024, .f32⟩
  | 27 => ⟨S16, .f32⟩
  | 28 => ⟨S_, .i32⟩
  | 29 => ⟨S_, .f32⟩
  | 30 => ⟨S1024, .f32⟩
  | 31 => ⟨S16, .f32⟩
  | 32 => ⟨S_, .i32⟩
  | 33 => ⟨S_, .f32⟩
  | 34 => ⟨S1024, .f32⟩
  | 35 => ⟨S1024, .f32⟩
  | 36 => ⟨S_, .i32⟩
  | 37 => ⟨S_, .f32⟩
  | 38 => ⟨S1024, .f32⟩
  | 39 => ⟨S256, .f32⟩
  | 40 => ⟨S_, .i32⟩
  | 41 => ⟨S_, .f32⟩
  | 42 => ⟨S1024, .f32⟩
  | 43 => ⟨S_, .i32⟩
  | 44 => ⟨S_, .f32⟩
  | 45 => ⟨S1024, .f32⟩
  | 46 => ⟨S20480, .f32⟩
  | 47 => ⟨S160x128, .f32⟩
  | 48 => ⟨S160x128, .f32⟩
  | 49 => ⟨S160x128, .f32⟩
  | 50 => ⟨S160x128, .f32⟩
  | 51 => ⟨S160x128, .f32⟩
  | _ => ⟨S16x256, .f32⟩

abbrev hbmTy (i : Nat) : BufTy := match i / 128 with
  | 0 => hbmTy0_0 i
  | 1 => hbmTy0_1 i
  | 2 => hbmTy0_2 i
  | _ => ⟨S16x256, .f32⟩

abbrev bufTy : (tb : Table) → Fin (tcTables nBuf tb) → BufTy
  | .hbm, ⟨i, _⟩ => hbmTy i
  | .local _ .vmem, ⟨0, _⟩ => ⟨S32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | .local _ .vmem, ⟨7, _⟩ => ⟨S32x128, .f32⟩
  | .local _ .vmem, ⟨8, _⟩ => ⟨S32x128, .f32⟩
  | .local _ .vmem, ⟨9, _⟩ => ⟨S32x128, .f32⟩
  | .local _ .vmem, ⟨10, _⟩ => ⟨S32x128, .f32⟩
  | .local _ .vmem, ⟨11, _⟩ => ⟨S32x128, .f32⟩
  | .local _ .vmem, ⟨12, _⟩ => ⟨S32x128, .f32⟩
  | .local _ .vmem, ⟨13, _⟩ => ⟨S32x128, .f32⟩
  | .local _ .vmem, ⟨14, _⟩ => ⟨S32x128, .f32⟩
  | .local _ .vmem, ⟨15, _⟩ => ⟨S32x128, .f32⟩
  | _, _ => ⟨S16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_v0 : Ref sig .tc := ⟨.hbm, 60, rfl⟩
abbrev main_c : Ref sig .tc := ⟨.hbm, 61, rfl⟩
abbrev main_call0_v0 : Ref sig .tc := ⟨.hbm, 62, rfl⟩
abbrev main_v1 : Ref sig .tc := ⟨.hbm, 63, rfl⟩
abbrev main_v2 : Ref sig .tc := ⟨.hbm, 64, rfl⟩
abbrev main_c_0 : Ref sig .tc := ⟨.hbm, 65, rfl⟩
abbrev main_call1_v0 : Ref sig .tc := ⟨.hbm, 66, rfl⟩
abbrev main_v3 : Ref sig .tc := ⟨.hbm, 67, rfl⟩
abbrev main_v4 : Ref sig .tc := ⟨.hbm, 68, rfl⟩
abbrev main_c_1 : Ref sig .tc := ⟨.hbm, 69, rfl⟩
abbrev main_call2_v0 : Ref sig .tc := ⟨.hbm, 70, rfl⟩
abbrev main_v5 : Ref sig .tc := ⟨.hbm, 71, rfl⟩
abbrev main_v6 : Ref sig .tc := ⟨.hbm, 72, rfl⟩
abbrev main_c_2 : Ref sig .tc := ⟨.hbm, 73, rfl⟩
abbrev main_call3_v0 : Ref sig .tc := ⟨.hbm, 74, rfl⟩
abbrev main_v7 : Ref sig .tc := ⟨.hbm, 75, rfl⟩
abbrev main_v8 : Ref sig .tc := ⟨.hbm, 76, rfl⟩
abbrev main_c_3 : Ref sig .tc := ⟨.hbm, 77, rfl⟩
abbrev main_call4_v0 : Ref sig .tc := ⟨.hbm, 78, rfl⟩
abbrev main_v9 : Ref sig .tc := ⟨.hbm, 79, rfl⟩
abbrev main_v10 : Ref sig .tc := ⟨.hbm, 80, rfl⟩
abbrev main_c_4 : Ref sig .tc := ⟨.hbm, 81, rfl⟩
abbrev main_call5_v0 : Ref sig .tc := ⟨.hbm, 82, rfl⟩
abbrev main_v11 : Ref sig .tc := ⟨.hbm, 83, rfl⟩
abbrev main_v12 : Ref sig .tc := ⟨.hbm, 84, rfl⟩
abbrev main_c_5 : Ref sig .tc := ⟨.hbm, 85, rfl⟩
abbrev main_call6_v0 : Ref sig .tc := ⟨.hbm, 86, rfl⟩
abbrev main_v13 : Ref sig .tc := ⟨.hbm, 87, rfl⟩
abbrev main_v14 : Ref sig .tc := ⟨.hbm, 88, rfl⟩
abbrev main_c_6 : Ref sig .tc := ⟨.hbm, 89, rfl⟩
abbrev main_call7_v0 : Ref sig .tc := ⟨.hbm, 90, rfl⟩
abbrev main_v15 : Ref sig .tc := ⟨.hbm, 91, rfl⟩
abbrev main_v16 : Ref sig .tc := ⟨.hbm, 92, rfl⟩
abbrev main_c_7 : Ref sig .tc := ⟨.hbm, 93, rfl⟩
abbrev main_call8_v0 : Ref sig .tc := ⟨.hbm, 94, rfl⟩
abbrev main_v17 : Ref sig .tc := ⟨.hbm, 95, rfl⟩
abbrev main_v18 : Ref sig .tc := ⟨.hbm, 96, rfl⟩
abbrev main_c_8 : Ref sig .tc := ⟨.hbm, 97, rfl⟩
abbrev main_call9_v0 : Ref sig .tc := ⟨.hbm, 98, rfl⟩
abbrev main_v19 : Ref sig .tc := ⟨.hbm, 99, rfl⟩
abbrev main_v20 : Ref sig .tc := ⟨.hbm, 100, rfl⟩
abbrev main_c_9 : Ref sig .tc := ⟨.hbm, 101, rfl⟩
abbrev main_call10_v0 : Ref sig .tc := ⟨.hbm, 102, rfl⟩
abbrev main_v21 : Ref sig .tc := ⟨.hbm, 103, rfl⟩
abbrev main_v22 : Ref sig .tc := ⟨.hbm, 104, rfl⟩
abbrev main_c_10 : Ref sig .tc := ⟨.hbm, 105, rfl⟩
abbrev main_call11_v0 : Ref sig .tc := ⟨.hbm, 106, rfl⟩
abbrev main_v23 : Ref sig .tc := ⟨.hbm, 107, rfl⟩
abbrev main_v24 : Ref sig .tc := ⟨.hbm, 108, rfl⟩
abbrev main_c_11 : Ref sig .tc := ⟨.hbm, 109, rfl⟩
abbrev main_call12_v0 : Ref sig .tc := ⟨.hbm, 110, rfl⟩
abbrev main_v25 : Ref sig .tc := ⟨.hbm, 111, rfl⟩
abbrev main_v26 : Ref sig .tc := ⟨.hbm, 112, rfl⟩
abbrev main_c_12 : Ref sig .tc := ⟨.hbm, 113, rfl⟩
abbrev main_call13_v0 : Ref sig .tc := ⟨.hbm, 114, rfl⟩
abbrev main_v27 : Ref sig .tc := ⟨.hbm, 115, rfl⟩
abbrev main_c_13 : Ref sig .tc := ⟨.hbm, 116, rfl⟩
abbrev main_call14_v0 : Ref sig .tc := ⟨.hbm, 117, rfl⟩
abbrev main_v28 : Ref sig .tc := ⟨.hbm, 118, rfl⟩
abbrev main_v29 : Ref sig .tc := ⟨.hbm, 119, rfl⟩
abbrev main_v30 : Ref sig .tc := ⟨.hbm, 120, rfl⟩
abbrev main_v31 : Ref sig .tc := ⟨.hbm, 121, rfl⟩
abbrev main_c_14 : Ref sig .tc := ⟨.hbm, 122, rfl⟩
abbrev main_call15_v0 : Ref sig .tc := ⟨.hbm, 123, rfl⟩
abbrev main_v32 : Ref sig .tc := ⟨.hbm, 124, rfl⟩
abbrev main_v33 : Ref sig .tc := ⟨.hbm, 125, rfl⟩
abbrev main_c_15 : Ref sig .tc := ⟨.hbm, 126, rfl⟩
abbrev main_call16_v0 : Ref sig .tc := ⟨.hbm, 127, rfl⟩
abbrev main_v34 : Ref sig .tc := ⟨.hbm, 128, rfl⟩
abbrev main_v35 : Ref sig .tc := ⟨.hbm, 129, rfl⟩
abbrev main_c_16 : Ref sig .tc := ⟨.hbm, 130, rfl⟩
abbrev main_call17_v0 : Ref sig .tc := ⟨.hbm, 131, rfl⟩
abbrev main_v36 : Ref sig .tc := ⟨.hbm, 132, rfl⟩
abbrev main_v37 : Ref sig .tc := ⟨.hbm, 133, rfl⟩
abbrev main_c_17 : Ref sig .tc := ⟨.hbm, 134, rfl⟩
abbrev main_call18_v0 : Ref sig .tc := ⟨.hbm, 135, rfl⟩
abbrev main_v38 : Ref sig .tc := ⟨.hbm, 136, rfl⟩
abbrev main_v39 : Ref sig .tc := ⟨.hbm, 137, rfl⟩
abbrev main_c_18 : Ref sig .tc := ⟨.hbm, 138, rfl⟩
abbrev main_call19_v0 : Ref sig .tc := ⟨.hbm, 139, rfl⟩
abbrev main_v40 : Ref sig .tc := ⟨.hbm, 140, rfl⟩
abbrev main_v41 : Ref sig .tc := ⟨.hbm, 141, rfl⟩
abbrev main_c_19 : Ref sig .tc := ⟨.hbm, 142, rfl⟩
abbrev main_call20_v0 : Ref sig .tc := ⟨.hbm, 143, rfl⟩
abbrev main_v42 : Ref sig .tc := ⟨.hbm, 144, rfl⟩
abbrev main_v43 : Ref sig .tc := ⟨.hbm, 145, rfl⟩
abbrev main_c_20 : Ref sig .tc := ⟨.hbm, 146, rfl⟩
abbrev main_call21_v0 : Ref sig .tc := ⟨.hbm, 147, rfl⟩
abbrev main_v44 : Ref sig .tc := ⟨.hbm, 148, rfl⟩
abbrev main_v45 : Ref sig .tc := ⟨.hbm, 149, rfl⟩
abbrev main_c_21 : Ref sig .tc := ⟨.hbm, 150, rfl⟩
abbrev main_call22_v0 : Ref sig .tc := ⟨.hbm, 151, rfl⟩
abbrev main_v46 : Ref sig .tc := ⟨.hbm, 152, rfl⟩
abbrev main_v47 : Ref sig .tc := ⟨.hbm, 153, rfl⟩
abbrev main_c_22 : Ref sig .tc := ⟨.hbm, 154, rfl⟩
abbrev main_call23_v0 : Ref sig .tc := ⟨.hbm, 155, rfl⟩
abbrev main_v48 : Ref sig .tc := ⟨.hbm, 156, rfl⟩
abbrev main_v49 : Ref sig .tc := ⟨.hbm, 157, rfl⟩
abbrev main_c_23 : Ref sig .tc := ⟨.hbm, 158, rfl⟩
abbrev main_call24_v0 : Ref sig .tc := ⟨.hbm, 159, rfl⟩
abbrev main_v50 : Ref sig .tc := ⟨.hbm, 160, rfl⟩
abbrev main_v51 : Ref sig .tc := ⟨.hbm, 161, rfl⟩
abbrev main_c_24 : Ref sig .tc := ⟨.hbm, 162, rfl⟩
abbrev main_call25_v0 : Ref sig .tc := ⟨.hbm, 163, rfl⟩
abbrev main_v52 : Ref sig .tc := ⟨.hbm, 164, rfl⟩
abbrev main_v53 : Ref sig .tc := ⟨.hbm, 165, rfl⟩
abbrev main_c_25 : Ref sig .tc := ⟨.hbm, 166, rfl⟩
abbrev main_call26_v0 : Ref sig .tc := ⟨.hbm, 167, rfl⟩
abbrev main_v54 : Ref sig .tc := ⟨.hbm, 168, rfl⟩
abbrev main_v55 : Ref sig .tc := ⟨.hbm, 169, rfl⟩
abbrev main_c_26 : Ref sig .tc := ⟨.hbm, 170, rfl⟩
abbrev main_call27_v0 : Ref sig .tc := ⟨.hbm, 171, rfl⟩
abbrev main_v56 : Ref sig .tc := ⟨.hbm, 172, rfl⟩
abbrev main_v57 : Ref sig .tc := ⟨.hbm, 173, rfl⟩
abbrev main_c_27 : Ref sig .tc := ⟨.hbm, 174, rfl⟩
abbrev main_call28_v0 : Ref sig .tc := ⟨.hbm, 175, rfl⟩
abbrev main_v58 : Ref sig .tc := ⟨.hbm, 176, rfl⟩
abbrev main_c_28 : Ref sig .tc := ⟨.hbm, 177, rfl⟩
abbrev main_call29_v0 : Ref sig .tc := ⟨.hbm, 178, rfl⟩
abbrev main_v59 : Ref sig .tc := ⟨.hbm, 179, rfl⟩
abbrev main_v60 : Ref sig .tc := ⟨.hbm, 180, rfl⟩
abbrev main_v61 : Ref sig .tc := ⟨.hbm, 181, rfl⟩
abbrev main_v62 : Ref sig .tc := ⟨.hbm, 182, rfl⟩
abbrev main_c_29 : Ref sig .tc := ⟨.hbm, 183, rfl⟩
abbrev main_call30_v0 : Ref sig .tc := ⟨.hbm, 184, rfl⟩
abbrev main_v63 : Ref sig .tc := ⟨.hbm, 185, rfl⟩
abbrev main_v64 : Ref sig .tc := ⟨.hbm, 186, rfl⟩
abbrev main_c_30 : Ref sig .tc := ⟨.hbm, 187, rfl⟩
abbrev main_call31_v0 : Ref sig .tc := ⟨.hbm, 188, rfl⟩
abbrev main_v65 : Ref sig .tc := ⟨.hbm, 189, rfl⟩
abbrev main_v66 : Ref sig .tc := ⟨.hbm, 190, rfl⟩
abbrev main_c_31 : Ref sig .tc := ⟨.hbm, 191, rfl⟩
abbrev main_call32_v0 : Ref sig .tc := ⟨.hbm, 192, rfl⟩
abbrev main_v67 : Ref sig .tc := ⟨.hbm, 193, rfl⟩
abbrev main_v68 : Ref sig .tc := ⟨.hbm, 194, rfl⟩
abbrev main_c_32 : Ref sig .tc := ⟨.hbm, 195, rfl⟩
abbrev main_call33_v0 : Ref sig .tc := ⟨.hbm, 196, rfl⟩
abbrev main_v69 : Ref sig .tc := ⟨.hbm, 197, rfl⟩
abbrev main_v70 : Ref sig .tc := ⟨.hbm, 198, rfl⟩
abbrev main_c_33 : Ref sig .tc := ⟨.hbm, 199, rfl⟩
abbrev main_call34_v0 : Ref sig .tc := ⟨.hbm, 200, rfl⟩
abbrev main_v71 : Ref sig .tc := ⟨.hbm, 201, rfl⟩
abbrev main_v72 : Ref sig .tc := ⟨.hbm, 202, rfl⟩
abbrev main_c_34 : Ref sig .tc := ⟨.hbm, 203, rfl⟩
abbrev main_call35_v0 : Ref sig .tc := ⟨.hbm, 204, rfl⟩
abbrev main_v73 : Ref sig .tc := ⟨.hbm, 205, rfl⟩
abbrev main_v74 : Ref sig .tc := ⟨.hbm, 206, rfl⟩
abbrev main_c_35 : Ref sig .tc := ⟨.hbm, 207, rfl⟩
abbrev main_call36_v0 : Ref sig .tc := ⟨.hbm, 208, rfl⟩
abbrev main_v75 : Ref sig .tc := ⟨.hbm, 209, rfl⟩
abbrev main_v76 : Ref sig .tc := ⟨.hbm, 210, rfl⟩
abbrev main_c_36 : Ref sig .tc := ⟨.hbm, 211, rfl⟩
abbrev main_call37_v0 : Ref sig .tc := ⟨.hbm, 212, rfl⟩
abbrev main_v77 : Ref sig .tc := ⟨.hbm, 213, rfl⟩
abbrev main_v78 : Ref sig .tc := ⟨.hbm, 214, rfl⟩
abbrev main_c_37 : Ref sig .tc := ⟨.hbm, 215, rfl⟩
abbrev main_call38_v0 : Ref sig .tc := ⟨.hbm, 216, rfl⟩
abbrev main_v79 : Ref sig .tc := ⟨.hbm, 217, rfl⟩
abbrev main_v80 : Ref sig .tc := ⟨.hbm, 218, rfl⟩
abbrev main_c_38 : Ref sig .tc := ⟨.hbm, 219, rfl⟩
abbrev main_call39_v0 : Ref sig .tc := ⟨.hbm, 220, rfl⟩
abbrev main_v81 : Ref sig .tc := ⟨.hbm, 221, rfl⟩
abbrev main_v82 : Ref sig .tc := ⟨.hbm, 222, rfl⟩
abbrev main_c_39 : Ref sig .tc := ⟨.hbm, 223, rfl⟩
abbrev main_call40_v0 : Ref sig .tc := ⟨.hbm, 224, rfl⟩
abbrev main_v83 : Ref sig .tc := ⟨.hbm, 225, rfl⟩
abbrev main_v84 : Ref sig .tc := ⟨.hbm, 226, rfl⟩
abbrev main_c_40 : Ref sig .tc := ⟨.hbm, 227, rfl⟩
abbrev main_call41_v0 : Ref sig .tc := ⟨.hbm, 228, rfl⟩
abbrev main_v85 : Ref sig .tc := ⟨.hbm, 229, rfl⟩
abbrev main_v86 : Ref sig .tc := ⟨.hbm, 230, rfl⟩
abbrev main_c_41 : Ref sig .tc := ⟨.hbm, 231, rfl⟩
abbrev main_call42_v0 : Ref sig .tc := ⟨.hbm, 232, rfl⟩
abbrev main_v87 : Ref sig .tc := ⟨.hbm, 233, rfl⟩
abbrev main_v88 : Ref sig .tc := ⟨.hbm, 234, rfl⟩
abbrev main_c_42 : Ref sig .tc := ⟨.hbm, 235, rfl⟩
abbrev main_call43_v0 : Ref sig .tc := ⟨.hbm, 236, rfl⟩
abbrev main_v89 : Ref sig .tc := ⟨.hbm, 237, rfl⟩
abbrev main_c_43 : Ref sig .tc := ⟨.hbm, 238, rfl⟩
abbrev main_call44_v0 : Ref sig .tc := ⟨.hbm, 239, rfl⟩
abbrev main_v90 : Ref sig .tc := ⟨.hbm, 240, rfl⟩
abbrev main_v91 : Ref sig .tc := ⟨.hbm, 241, rfl⟩
abbrev main_v92 : Ref sig .tc := ⟨.hbm, 242, rfl⟩
abbrev main_v93 : Ref sig .tc := ⟨.hbm, 243, rfl⟩
abbrev main_c_44 : Ref sig .tc := ⟨.hbm, 244, rfl⟩
abbrev main_call45_v0 : Ref sig .tc := ⟨.hbm, 245, rfl⟩
abbrev main_v94 : Ref sig .tc := ⟨.hbm, 246, rfl⟩
abbrev main_v95 : Ref sig .tc := ⟨.hbm, 247, rfl⟩
abbrev main_c_45 : Ref sig .tc := ⟨.hbm, 248, rfl⟩
abbrev main_call46_v0 : Ref sig .tc := ⟨.hbm, 249, rfl⟩
abbrev main_v96 : Ref sig .tc := ⟨.hbm, 250, rfl⟩
abbrev main_v97 : Ref sig .tc := ⟨.hbm, 251, rfl⟩
abbrev main_c_46 : Ref sig .tc := ⟨.hbm, 252, rfl⟩
abbrev main_call47_v0 : Ref sig .tc := ⟨.hbm, 253, rfl⟩
abbrev main_v98 : Ref sig .tc := ⟨.hbm, 254, rfl⟩
abbrev main_v99 : Ref sig .tc := ⟨.hbm, 255, rfl⟩
abbrev main_c_47 : Ref sig .tc := ⟨.hbm, 256, rfl⟩
abbrev main_call48_v0 : Ref sig .tc := ⟨.hbm, 257, rfl⟩
abbrev main_v100 : Ref sig .tc := ⟨.hbm, 258, rfl⟩
abbrev main_v101 : Ref sig .tc := ⟨.hbm, 259, rfl⟩
abbrev main_c_48 : Ref sig .tc := ⟨.hbm, 260, rfl⟩
abbrev main_call49_v0 : Ref sig .tc := ⟨.hbm, 261, rfl⟩
abbrev main_v102 : Ref sig .tc := ⟨.hbm, 262, rfl⟩
abbrev main_v103 : Ref sig .tc := ⟨.hbm, 263, rfl⟩
abbrev main_c_49 : Ref sig .tc := ⟨.hbm, 264, rfl⟩
abbrev main_call50_v0 : Ref sig .tc := ⟨.hbm, 265, rfl⟩
abbrev main_v104 : Ref sig .tc := ⟨.hbm, 266, rfl⟩
abbrev main_v105 : Ref sig .tc := ⟨.hbm, 267, rfl⟩
abbrev main_c_50 : Ref sig .tc := ⟨.hbm, 268, rfl⟩
abbrev main_call51_v0 : Ref sig .tc := ⟨.hbm, 269, rfl⟩
abbrev main_v106 : Ref sig .tc := ⟨.hbm, 270, rfl⟩
abbrev main_v107 : Ref sig .tc := ⟨.hbm, 271, rfl⟩
abbrev main_c_51 : Ref sig .tc := ⟨.hbm, 272, rfl⟩
abbrev main_call52_v0 : Ref sig .tc := ⟨.hbm, 273, rfl⟩
abbrev main_v108 : Ref sig .tc := ⟨.hbm, 274, rfl⟩
abbrev main_v109 : Ref sig .tc := ⟨.hbm, 275, rfl⟩
abbrev main_c_52 : Ref sig .tc := ⟨.hbm, 276, rfl⟩
abbrev main_call53_v0 : Ref sig .tc := ⟨.hbm, 277, rfl⟩
abbrev main_v110 : Ref sig .tc := ⟨.hbm, 278, rfl⟩
abbrev main_v111 : Ref sig .tc := ⟨.hbm, 279, rfl⟩
abbrev main_c_53 : Ref sig .tc := ⟨.hbm, 280, rfl⟩
abbrev main_call54_v0 : Ref sig .tc := ⟨.hbm, 281, rfl⟩
abbrev main_v112 : Ref sig .tc := ⟨.hbm, 282, rfl⟩
abbrev main_v113 : Ref sig .tc := ⟨.hbm, 283, rfl⟩
abbrev main_c_54 : Ref sig .tc := ⟨.hbm, 284, rfl⟩
abbrev main_call55_v0 : Ref sig .tc := ⟨.hbm, 285, rfl⟩
abbrev main_v114 : Ref sig .tc := ⟨.hbm, 286, rfl⟩
abbrev main_v115 : Ref sig .tc := ⟨.hbm, 287, rfl⟩
abbrev main_c_55 : Ref sig .tc := ⟨.hbm, 288, rfl⟩
abbrev main_call56_v0 : Ref sig .tc := ⟨.hbm, 289, rfl⟩
abbrev main_v116 : Ref sig .tc := ⟨.hbm, 290, rfl⟩
abbrev main_v117 : Ref sig .tc := ⟨.hbm, 291, rfl⟩
abbrev main_c_56 : Ref sig .tc := ⟨.hbm, 292, rfl⟩
abbrev main_call57_v0 : Ref sig .tc := ⟨.hbm, 293, rfl⟩
abbrev main_v118 : Ref sig .tc := ⟨.hbm, 294, rfl⟩
abbrev main_v119 : Ref sig .tc := ⟨.hbm, 295, rfl⟩
abbrev main_c_57 : Ref sig .tc := ⟨.hbm, 296, rfl⟩
abbrev main_call58_v0 : Ref sig .tc := ⟨.hbm, 297, rfl⟩
abbrev main_v120 : Ref sig .tc := ⟨.hbm, 298, rfl⟩
abbrev main_c_58 : Ref sig .tc := ⟨.hbm, 299, rfl⟩
abbrev main_call59_v0 : Ref sig .tc := ⟨.hbm, 300, rfl⟩
abbrev main_v121 : Ref sig .tc := ⟨.hbm, 301, rfl⟩
abbrev main_v122 : Ref sig .tc := ⟨.hbm, 302, rfl⟩
abbrev main_v123 : Ref sig .tc := ⟨.hbm, 303, rfl⟩
abbrev main_v124_0 : Ref sig .tc := ⟨.hbm, 304, rfl⟩
abbrev main_v124_1 : Ref sig .tc := ⟨.hbm, 305, rfl⟩
abbrev main_v124_2 : Ref sig .tc := ⟨.hbm, 306, rfl⟩
abbrev main_v124_3 : Ref sig .tc := ⟨.hbm, 307, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference18Ideal.lean ====
abbrev S16x256 : Shape := ⟨2, ![16, 256]⟩
abbrev S1x1024 : Shape := ⟨2, ![1, 1024]⟩
abbrev S1x4x256 : Shape := ⟨3, ![1, 4, 256]⟩
abbrev S1x4x384 : Shape := ⟨3, ![1, 4, 384]⟩
abbrev S1x1536 : Shape := ⟨2, ![1, 1536]⟩
abbrev S1x16 : Shape := ⟨2, ![1, 16]⟩
abbrev S1x256 : Shape := ⟨2, ![1, 256]⟩
abbrev S1024 : Shape := ⟨1, ![1024]⟩
abbrev S_ : Shape := ⟨0, ![]⟩
abbrev S4096 : Shape := ⟨1, ![4096]⟩
abbrev S1536 : Shape := ⟨1, ![1536]⟩
abbrev S2048 : Shape := ⟨1, ![2048]⟩
abbrev S16 : Shape := ⟨1, ![16]⟩
abbrev S256 : Shape := ⟨1, ![256]⟩
abbrev S20480 : Shape := ⟨1, ![20480]⟩
abbrev S160x128 : Shape := ⟨2, ![160, 128]⟩

abbrev nBuf : Space → Nat
  | .hbm => 799
  | .vmem => 0
  | .smem => 0
  | _ => 0

abbrev hbmTy0_0 (i : Nat) : BufTy := match i % 128 with
  | 0 => ⟨S16x256, .f32⟩
  | 1 => ⟨S1x1024, .f32⟩
  | 2 => ⟨S1x4x256, .f32⟩
  | 3 => ⟨S1x1024, .f32⟩
  | 4 => ⟨S1x1024, .f32⟩
  | 5 => ⟨S1x1024, .f32⟩
  | 6 => ⟨S1x1024, .f32⟩
  | 7 => ⟨S1x4x384, .f32⟩
  | 8 => ⟨S1x1536, .f32⟩
  | 9 => ⟨S1x16, .f32⟩
  | 10 => ⟨S1x16, .f32⟩
  | 11 => ⟨S1x16, .f32⟩
  | 12 => ⟨S1x1024, .f32⟩
  | 13 => ⟨S1x256, .f32⟩
  | 14 => ⟨S1024, .f32⟩
  | 15 => ⟨S16x256, .f32⟩
  | 16 => ⟨S1x1024, .f32⟩
  | 17 => ⟨S1x4x256, .f32⟩
  | 18 => ⟨S1x1024, .f32⟩
  | 19 => ⟨S1x1024, .f32⟩
  | 20 => ⟨S1x1024, .f32⟩
  | 21 => ⟨S1x1024, .f32⟩
  | 22 => ⟨S1x4x384, .f32⟩
  | 23 => ⟨S1x1536, .f32⟩
  | 24 => ⟨S1x16, .f32⟩
  | 25 => ⟨S1x16, .f32⟩
  | 26 => ⟨S1x16, .f32⟩
  | 27 => ⟨S1x1024, .f32⟩
  | 28 => ⟨S1x256, .f32⟩
  | 29 => ⟨S1024, .f32⟩
  | 30 => ⟨S16x256, .f32⟩
  | 31 => ⟨S1x1024, .f32⟩
  | 32 => ⟨S1x4x256, .f32⟩
  | 33 => ⟨S1x1024, .f32⟩
  | 34 => ⟨S1x1024, .f32⟩
  | 35 => ⟨S1x1024, .f32⟩
  | 36 => ⟨S1x1024, .f32⟩
  | 37 => ⟨S1x4x384, .f32⟩
  | 38 => ⟨S1x1536, .f32⟩
  | 39 => ⟨S1x16, .f32⟩
  | 40 => ⟨S1x16, .f32⟩
  | 41 => ⟨S1x16, .f32⟩
  | 42 => ⟨S1x1024, .f32⟩
  | 43 => ⟨S1x256, .f32⟩
  | 44 => ⟨S1024, .f32⟩
  | 45 => ⟨S16x256, .f32⟩
  | 46 => ⟨S1x1024, .f32⟩
  | 47 => ⟨S1x4x256, .f32⟩
  | 48 => ⟨S1x1024, .f32⟩
  | 49 => ⟨S1x1024, .f32⟩
  | 50 => ⟨S1x1024, .f32⟩
  | 51 => ⟨S1x1024, .f32⟩
  | 52 => ⟨S1x4x384, .f32⟩
  | 53 => ⟨S1x1536, .f32⟩
  | 54 => ⟨S1x16, .f32⟩
  | 55 => ⟨S1x16, .f32⟩
  | 56 => ⟨S1x16, .f32⟩
  | 57 => ⟨S1x1024, .f32⟩
  | 58 => ⟨S1x256, .f32⟩
  | 59 => ⟨S1024, .f32⟩
  | 60 => ⟨S_, .f32⟩
  | 61 => ⟨S16x256, .f32⟩
  | 62 => ⟨S16x256, .f32⟩
  | 63 => ⟨S_, .f32⟩
  | 64 => ⟨S16x256, .f32⟩
  | 65 => ⟨S16x256, .f32⟩
  | 66 => ⟨S16x256, .f32⟩
  | 67 => ⟨S_, .f32⟩
  | 68 => ⟨S16x256, .f32⟩
  | 69 => ⟨S16x256, .f32⟩
  | 70 => ⟨S16x256, .f32⟩
  | 71 => ⟨S_, .f32⟩
  | 72 => ⟨S16x256, .f32⟩
  | 73 => ⟨S16x256, .f32⟩
  | 74 => ⟨S16x256, .f32⟩
  | 75 => ⟨S_, .f32⟩
  | 76 => ⟨S16x256, .f32⟩
  | 77 => ⟨S16x256, .f32⟩
  | 78 => ⟨S_, .f32⟩
  | 79 => ⟨S16x256, .f32⟩
  | 80 => ⟨S16x256, .f32⟩
  | 81 => ⟨S16x256, .f32⟩
  | 82 => ⟨S_, .f32⟩
  | 83 => ⟨S16x256, .f32⟩
  | 84 => ⟨S16x256, .f32⟩
  | 85 => ⟨S16x256, .f32⟩
  | 86 => ⟨S_, .f32⟩
  | 87 => ⟨S16x256, .f32⟩
  | 88 => ⟨S16x256, .f32⟩
  | 89 => ⟨S16x256, .f32⟩
  | 90 => ⟨S_, .f32⟩
  | 91 => ⟨S16x256, .f32⟩
  | 92 => ⟨S16x256, .f32⟩
  | 93 => ⟨S_, .f32⟩
  | 94 => ⟨S1x1024, .f32⟩
  | 95 => ⟨S1x1024, .f32⟩
  | 96 => ⟨S_, .f32⟩
  | 97 => ⟨S1x1024, .f32⟩
  | 98 => ⟨S1x1024, .f32⟩
  | 99 => ⟨S1x1024, .f32⟩
  | 100 => ⟨S_, .f32⟩
  | 101 => ⟨S1x1024, .f32⟩
  | 102 => ⟨S1x1024, .f32⟩
  | 103 => ⟨S1x1024, .f32⟩
  | 104 => ⟨S_, .f32⟩
  | 105 => ⟨S1x1024, .f32⟩
  | 106 => ⟨S1x1024, .f32⟩
  | 107 => ⟨S1x1024, .f32⟩
  | 108 => ⟨S_, .f32⟩
  | 109 => ⟨S1x1024, .f32⟩
  | 110 => ⟨S1x1024, .f32⟩
  | 111 => ⟨S_, .f32⟩
  | 112 => ⟨S1x1024, .f32⟩
  | 113 => ⟨S1x1024, .f32⟩
  | 114 => ⟨S1x1024, .f32⟩
  | 115 => ⟨S_, .f32⟩
  | 116 => ⟨S1x1024, .f32⟩
  | 117 => ⟨S1x1024, .f32⟩
  | 118 => ⟨S1x1024, .f32⟩
  | 119 => ⟨S_, .f32⟩
  | 120 => ⟨S1x1024, .f32⟩
  | 121 => ⟨S1x1024, .f32⟩
  | 122 => ⟨S1x1024, .f32⟩
  | 123 => ⟨S_, .f32⟩
  | 124 => ⟨S1x1024, .f32⟩
  | 125 => ⟨S1x1024, .f32⟩
  | 126 => ⟨S_, .f32⟩
  | 127 => ⟨S1x4x256, .f32⟩
  | _ => ⟨S16x256, .f32⟩

abbrev hbmTy0_1 (i : Nat) : BufTy := match i % 128 with
  | 0 => ⟨S1x4x256, .f32⟩
  | 1 => ⟨S_, .f32⟩
  | 2 => ⟨S1x4x256, .f32⟩
  | 3 => ⟨S1x4x256, .f32⟩
  | 4 => ⟨S1x4x256, .f32⟩
  | 5 => ⟨S_, .f32⟩
  | 6 => ⟨S1x4x256, .f32⟩
  | 7 => ⟨S1x4x256, .f32⟩
  | 8 => ⟨S1x4x256, .f32⟩
  | 9 => ⟨S_, .f32⟩
  | 10 => ⟨S1x4x256, .f32⟩
  | 11 => ⟨S1x4x256, .f32⟩
  | 12 => ⟨S1x4x256, .f32⟩
  | 13 => ⟨S_, .f32⟩
  | 14 => ⟨S1x4x256, .f32⟩
  | 15 => ⟨S1x4x256, .f32⟩
  | 16 => ⟨S_, .f32⟩
  | 17 => ⟨S1x4x256, .f32⟩
  | 18 => ⟨S1x4x256, .f32⟩
  | 19 => ⟨S1x4x256, .f32⟩
  | 20 => ⟨S_, .f32⟩
  | 21 => ⟨S1x4x256, .f32⟩
  | 22 => ⟨S1x4x256, .f32⟩
  | 23 => ⟨S1x4x256, .f32⟩
  | 24 => ⟨S_, .f32⟩
  | 25 => ⟨S1x4x256, .f32⟩
  | 26 => ⟨S1x4x256, .f32⟩
  | 27 => ⟨S1x4x256, .f32⟩
  | 28 => ⟨S_, .f32⟩
  | 29 => ⟨S1x4x256, .f32⟩
  | 30 => ⟨S1x4x256, .f32⟩
  | 31 => ⟨S_, .f32⟩
  | 32 => ⟨S1x1024, .f32⟩
  | 33 => ⟨S1x1024, .f32⟩
  | 34 => ⟨S_, .f32⟩
  | 35 => ⟨S1x1024, .f32⟩
  | 36 => ⟨S1x1024, .f32⟩
  | 37 => ⟨S1x1024, .f32⟩
  | 38 => ⟨S_, .f32⟩
  | 39 => ⟨S1x1024, .f32⟩
  | 40 => ⟨S1x1024, .f32⟩
  | 41 => ⟨S1x1024, .f32⟩
  | 42 => ⟨S_, .f32⟩
  | 43 => ⟨S1x1024, .f32⟩
  | 44 => ⟨S1x1024, .f32⟩
  | 45 => ⟨S1x1024, .f32⟩
  | 46 => ⟨S_, .f32⟩
  | 47 => ⟨S1x1024, .f32⟩
  | 48 => ⟨S1x1024, .f32⟩
  | 49 => ⟨S_, .f32⟩
  | 50 => ⟨S1x1024, .f32⟩
  | 51 => ⟨S1x1024, .f32⟩
  | 52 => ⟨S1x1024, .f32⟩
  | 53 => ⟨S_, .f32⟩
  | 54 => ⟨S1x1024, .f32⟩
  | 55 => ⟨S1x1024, .f32⟩
  | 56 => ⟨S1x1024, .f32⟩
  | 57 => ⟨S_, .f32⟩
  | 58 => ⟨S1x1024, .f32⟩
  | 59 => ⟨S1x1024, .f32⟩
  | 60 => ⟨S1x1024, .f32⟩
  | 61 => ⟨S_, .f32⟩
  | 62 => ⟨S1x1024, .f32⟩
  | 63 => ⟨S1x1024, .f32⟩
  | 64 => ⟨S_, .f32⟩
  | 65 => ⟨S1x1024, .f32⟩
  | 66 => ⟨S1x1024, .f32⟩
  | 67 => ⟨S_, .f32⟩
  | 68 => ⟨S1x1024, .f32⟩
  | 69 => ⟨S1x1024, .f32⟩
  | 70 => ⟨S1x1024, .f32⟩
  | 71 => ⟨S_, .f32⟩
  | 72 => ⟨S1x1024, .f32⟩
  | 73 => ⟨S1x1024, .f32⟩
  | 74 => ⟨S1x1024, .f32⟩
  | 75 => ⟨S_, .f32⟩
  | 76 => ⟨S1x1024, .f32⟩
  | 77 => ⟨S1x1024, .f32⟩
  | 78 => ⟨S1x1024, .f32⟩
  | 79 => ⟨S_, .f32⟩
  | 80 => ⟨S1x1024, .f32⟩
  | 81 => ⟨S1x1024, .f32⟩
  | 82 => ⟨S_, .f32⟩
  | 83 => ⟨S1x1024, .f32⟩
  | 84 => ⟨S1x1024, .f32⟩
  | 85 => ⟨S1x1024, .f32⟩
  | 86 => ⟨S_, .f32⟩
  | 87 => ⟨S1x1024, .f32⟩
  | 88 => ⟨S1x1024, .f32⟩
  | 89 => ⟨S1x1024, .f32⟩
  | 90 => ⟨S_, .f32⟩
  | 91 => ⟨S1x1024, .f32⟩
  | 92 => ⟨S1x1024, .f32⟩
  | 93 => ⟨S1x1024, .f32⟩
  | 94 => ⟨S_, .f32⟩
  | 95 => ⟨S1x1024, .f32⟩
  | 96 => ⟨S1x1024, .f32⟩
  | 97 => ⟨S_, .f32⟩
  | 98 => ⟨S1x1024, .f32⟩
  | 99 => ⟨S1x1024, .f32⟩
  | 100 => ⟨S_, .f32⟩
  | 101 => ⟨S1x1024, .f32⟩
  | 102 => ⟨S1x1024, .f32⟩
  | 103 => ⟨S1x1024, .f32⟩
  | 104 => ⟨S_, .f32⟩
  | 105 => ⟨S1x1024, .f32⟩
  | 106 => ⟨S1x1024, .f32⟩
  | 107 => ⟨S1x1024, .f32⟩
  | 108 => ⟨S_, .f32⟩
  | 109 => ⟨S1x1024, .f32⟩
  | 110 => ⟨S1x1024, .f32⟩
  | 111 => ⟨S1x1024, .f32⟩
  | 112 => ⟨S_, .f32⟩
  | 113 => ⟨S1x1024, .f32⟩
  | 114 => ⟨S1x1024, .f32⟩
  | 115 => ⟨S_, .f32⟩
  | 116 => ⟨S1x1024, .f32⟩
  | 117 => ⟨S1x1024, .f32⟩
  | 118 => ⟨S1x1024, .f32⟩
  | 119 => ⟨S_, .f32⟩
  | 120 => ⟨S1x1024, .f32⟩
  | 121 => ⟨S1x1024, .f32⟩
  | 122 => ⟨S1x1024, .f32⟩
  | 123 => ⟨S_, .f32⟩
  | 124 => ⟨S1x1024, .f32⟩
  | 125 => ⟨S1x1024, .f32⟩
  | 126 => ⟨S1x1024, .f32⟩
  | 127 => ⟨S_, .f32⟩
  | _ => ⟨S16x256, .f32⟩

abbrev hbmTy0_2 (i : Nat) : BufTy := match i % 128 with
  | 0 => ⟨S1x1024, .f32⟩
  | 1 => ⟨S1x1024, .f32⟩
  | 2 => ⟨S_, .f32⟩
  | 3 => ⟨S1x1024, .f32⟩
  | 4 => ⟨S1x1024, .f32⟩
  | 5 => ⟨S_, .f32⟩
  | 6 => ⟨S1x1024, .f32⟩
  | 7 => ⟨S1x1024, .f32⟩
  | 8 => ⟨S1x1024, .f32⟩
  | 9 => ⟨S_, .f32⟩
  | 10 => ⟨S1x1024, .f32⟩
  | 11 => ⟨S1x1024, .f32⟩
  | 12 => ⟨S1x1024, .f32⟩
  | 13 => ⟨S_, .f32⟩
  | 14 => ⟨S1x1024, .f32⟩
  | 15 => ⟨S1x1024, .f32⟩
  | 16 => ⟨S1x1024, .f32⟩
  | 17 => ⟨S_, .f32⟩
  | 18 => ⟨S1x1024, .f32⟩
  | 19 => ⟨S1x1024, .f32⟩
  | 20 => ⟨S_, .f32⟩
  | 21 => ⟨S1x1024, .f32⟩
  | 22 => ⟨S1x1024, .f32⟩
  | 23 => ⟨S1x1024, .f32⟩
  | 24 => ⟨S_, .f32⟩
  | 25 => ⟨S1x1024, .f32⟩
  | 26 => ⟨S1x1024, .f32⟩
  | 27 => ⟨S1x1024, .f32⟩
  | 28 => ⟨S_, .f32⟩
  | 29 => ⟨S1x1024, .f32⟩
  | 30 => ⟨S1x1024, .f32⟩
  | 31 => ⟨S1x1024, .f32⟩
  | 32 => ⟨S_, .f32⟩
  | 33 => ⟨S1x1024, .f32⟩
  | 34 => ⟨S1x1024, .f32⟩
  | 35 => ⟨S_, .f32⟩
  | 36 => ⟨S1x4x384, .f32⟩
  | 37 => ⟨S1x4x384, .f32⟩
  | 38 => ⟨S_, .f32⟩
  | 39 => ⟨S1x4x384, .f32⟩
  | 40 => ⟨S1x4x384, .f32⟩
  | 41 => ⟨S1x4x384, .f32⟩
  | 42 => ⟨S_, .f32⟩
  | 43 => ⟨S1x4x384, .f32⟩
  | 44 => ⟨S1x4x384, .f32⟩
  | 45 => ⟨S1x4x384, .f32⟩
  | 46 => ⟨S_, .f32⟩
  | 47 => ⟨S1x4x384, .f32⟩
  | 48 => ⟨S1x4x384, .f32⟩
  | 49 => ⟨S1x4x384, .f32⟩
  | 50 => ⟨S_, .f32⟩
  | 51 => ⟨S1x4x384, .f32⟩
  | 52 => ⟨S1x4x384, .f32⟩
  | 53 => ⟨S_, .f32⟩
  | 54 => ⟨S1x4x384, .f32⟩
  | 55 => ⟨S1x4x384, .f32⟩
  | 56 => ⟨S1x4x384, .f32⟩
  | 57 => ⟨S_, .f32⟩
  | 58 => ⟨S1x4x384, .f32⟩
  | 59 => ⟨S1x4x384, .f32⟩
  | 60 => ⟨S1x4x384, .f32⟩
  | 61 => ⟨S_, .f32⟩
  | 62 => ⟨S1x4x384, .f32⟩
  | 63 => ⟨S1x4x384, .f32⟩
  | 64 => ⟨S1x4x384, .f32⟩
  | 65 => ⟨S_, .f32⟩
  | 66 => ⟨S1x4x384, .f32⟩
  | 67 => ⟨S1x4x384, .f32⟩
  | 68 => ⟨S_, .f32⟩
  | 69 => ⟨S1x1536, .f32⟩
  | 70 => ⟨S1x1536, .f32⟩
  | 71 => ⟨S_, .f32⟩
  | 72 => ⟨S1x1536, .f32⟩
  | 73 => ⟨S1x1536, .f32⟩
  | 74 => ⟨S1x1536, .f32⟩
  | 75 => ⟨S_, .f32⟩
  | 76 => ⟨S1x1536, .f32⟩
  | 77 => ⟨S1x1536, .f32⟩
  | 78 => ⟨S1x1536, .f32⟩
  | 79 => ⟨S_, .f32⟩
  | 80 => ⟨S1x1536, .f32⟩
  | 81 => ⟨S1x1536, .f32⟩
  | 82 => ⟨S1x1536, .f32⟩
  | 83 => ⟨S_, .f32⟩
  | 84 => ⟨S1x1536, .f32⟩
  | 85 => ⟨S1x1536, .f32⟩
  | 86 => ⟨S_, .f32⟩
  | 87 => ⟨S1x1536, .f32⟩
  | 88 => ⟨S1x1536, .f32⟩
  | 89 => ⟨S1x1536, .f32⟩
  | 90 => ⟨S_, .f32⟩
  | 91 => ⟨S1x1536, .f32⟩
  | 92 => ⟨S1x1536, .f32⟩
  | 93 => ⟨S1x1536, .f32⟩
  | 94 => ⟨S_, .f32⟩
  | 95 => ⟨S1x1536, .f32⟩
  | 96 => ⟨S1x1536, .f32⟩
  | 97 => ⟨S1x1536, .f32⟩
  | 98 => ⟨S_, .f32⟩
  | 99 => ⟨S1x1536, .f32⟩
  | 100 => ⟨S1x1536, .f32⟩
  | 101 => ⟨S_, .f32⟩
  | 102 => ⟨S1x16, .f32⟩
  | 103 => ⟨S1x16, .f32⟩
  | 104 => ⟨S_, .f32⟩
  | 105 => ⟨S1x16, .f32⟩
  | 106 => ⟨S1x16, .f32⟩
  | 107 => ⟨S1x16, .f32⟩
  | 108 => ⟨S_, .f32⟩
  | 109 => ⟨S1x16, .f32⟩
  | 110 => ⟨S1x16, .f32⟩
  | 111 => ⟨S1x16, .f32⟩
  | 112 => ⟨S_, .f32⟩
  | 113 => ⟨S1x16, .f32⟩
  | 114 => ⟨S1x16, .f32⟩
  | 115 => ⟨S1x16, .f32⟩
  | 116 => ⟨S_, .f32⟩
  | 117 => ⟨S1x16, .f32⟩
  | 118 => ⟨S1x16, .f32⟩
  | 119 => ⟨S_, .f32⟩
  | 120 => ⟨S1x16, .f32⟩
  | 121 => ⟨S1x16, .f32⟩
  | 122 => ⟨S1x16, .f32⟩
  | 123 => ⟨S_, .f32⟩
  | 124 => ⟨S1x16, .f32⟩
  | 125 => ⟨S1x16, .f32⟩
  | 126 => ⟨S1x16, .f32⟩
  | 127 => ⟨S_, .f32⟩
  | _ => ⟨S16x256, .f32⟩

abbrev hbmTy0_3 (i : Nat) : BufTy := match i % 128 with
  | 0 => ⟨S1x16, .f32⟩
  | 1 => ⟨S1x16, .f32⟩
  | 2 => ⟨S1x16, .f32⟩
  | 3 => ⟨S_, .f32⟩
  | 4 => ⟨S1x16, .f32⟩
  | 5 => ⟨S1x16, .f32⟩
  | 6 => ⟨S_, .f32⟩
  | 7 => ⟨S1x16, .f32⟩
  | 8 => ⟨S1x16, .f32⟩
  | 9 => ⟨S_, .f32⟩
  | 10 => ⟨S1x16, .f32⟩
  | 11 => ⟨S1x16, .f32⟩
  | 12 => ⟨S1x16, .f32⟩
  | 13 => ⟨S_, .f32⟩
  | 14 => ⟨S1x16, .f32⟩
  | 15 => ⟨S1x16, .f32⟩
  | 16 => ⟨S1x16, .f32⟩
  | 17 => ⟨S_, .f32⟩
  | 18 => ⟨S1x16, .f32⟩
  | 19 => ⟨S1x16, .f32⟩
  | 20 => ⟨S1x16, .f32⟩
  | 21 => ⟨S_, .f32⟩
  | 22 => ⟨S1x16, .f32⟩
  | 23 => ⟨S1x16, .f32⟩
  | 24 => ⟨S_, .f32⟩
  | 25 => ⟨S1x16, .f32⟩
  | 26 => ⟨S1x16, .f32⟩
  | 27 => ⟨S1x16, .f32⟩
  | 28 => ⟨S_, .f32⟩
  | 29 => ⟨S1x16, .f32⟩
  | 30 => ⟨S1x16, .f32⟩
  | 31 => ⟨S1x16, .f32⟩
  | 32 => ⟨S_, .f32⟩
  | 33 => ⟨S1x16, .f32⟩
  | 34 => ⟨S1x16, .f32⟩
  | 35 => ⟨S1x16, .f32⟩
  | 36 => ⟨S_, .f32⟩
  | 37 => ⟨S1x16, .f32⟩
  | 38 => ⟨S1x16, .f32⟩
  | 39 => ⟨S_, .f32⟩
  | 40 => ⟨S1x16, .f32⟩
  | 41 => ⟨S1x16, .f32⟩
  | 42 => ⟨S_, .f32⟩
  | 43 => ⟨S1x16, .f32⟩
  | 44 => ⟨S1x16, .f32⟩
  | 45 => ⟨S1x16, .f32⟩
  | 46 => ⟨S_, .f32⟩
  | 47 => ⟨S1x16, .f32⟩
  | 48 => ⟨S1x16, .f32⟩
  | 49 => ⟨S1x16, .f32⟩
  | 50 => ⟨S_, .f32⟩
  | 51 => ⟨S1x16, .f32⟩
  | 52 => ⟨S1x16, .f32⟩
  | 53 => ⟨S1x16, .f32⟩
  | 54 => ⟨S_, .f32⟩
  | 55 => ⟨S1x16, .f32⟩
  | 56 => ⟨S1x16, .f32⟩
  | 57 => ⟨S_, .f32⟩
  | 58 => ⟨S1x16, .f32⟩
  | 59 => ⟨S1x16, .f32⟩
  | 60 => ⟨S1x16, .f32⟩
  | 61 => ⟨S_, .f32⟩
  | 62 => ⟨S1x16, .f32⟩
  | 63 => ⟨S1x16, .f32⟩
  | 64 => ⟨S1x16, .f32⟩
  | 65 => ⟨S_, .f32⟩
  | 66 => ⟨S1x16, .f32⟩
  | 67 => ⟨S1x16, .f32⟩
  | 68 => ⟨S1x16, .f32⟩
  | 69 => ⟨S_, .f32⟩
  | 70 => ⟨S1x16, .f32⟩
  | 71 => ⟨S1x16, .f32⟩
  | 72 => ⟨S_, .f32⟩
  | 73 => ⟨S1x1024, .f32⟩
  | 74 => ⟨S1x1024, .f32⟩
  | 75 => ⟨S_, .f32⟩
  | 76 => ⟨S1x1024, .f32⟩
  | 77 => ⟨S1x1024, .f32⟩
  | 78 => ⟨S1x1024, .f32⟩
  | 79 => ⟨S_, .f32⟩
  | 80 => ⟨S1x1024, .f32⟩
  | 81 => ⟨S1x1024, .f32⟩
  | 82 => ⟨S1x1024, .f32⟩
  | 83 => ⟨S_, .f32⟩
  | 84 => ⟨S1x1024, .f32⟩
  | 85 => ⟨S1x1024, .f32⟩
  | 86 => ⟨S1x1024, .f32⟩
  | 87 => ⟨S_, .f32⟩
  | 88 => ⟨S1x1024, .f32⟩
  | 89 => ⟨S1x1024, .f32⟩
  | 90 => ⟨S_, .f32⟩
  | 91 => ⟨S1x1024, .f32⟩
  | 92 => ⟨S1x1024, .f32⟩
  | 93 => ⟨S1x1024, .f32⟩
  | 94 => ⟨S_, .f32⟩
  | 95 => ⟨S1x1024, .f32⟩
  | 96 => ⟨S1x1024, .f32⟩
  | 97 => ⟨S1x1024, .f32⟩
  | 98 => ⟨S_, .f32⟩
  | 99 => ⟨S1x1024, .f32⟩
  | 100 => ⟨S1x1024, .f32⟩
  | 101 => ⟨S1x1024, .f32⟩
  | 102 => ⟨S_, .f32⟩
  | 103 => ⟨S1x1024, .f32⟩
  | 104 => ⟨S1x1024, .f32⟩
  | 105 => ⟨S_, .f32⟩
  | 106 => ⟨S1x256, .f32⟩
  | 107 => ⟨S1x256, .f32⟩
  | 108 => ⟨S_, .f32⟩
  | 109 => ⟨S1x256, .f32⟩
  | 110 => ⟨S1x256, .f32⟩
  | 111 => ⟨S1x256, .f32⟩
  | 112 => ⟨S_, .f32⟩
  | 113 => ⟨S1x256, .f32⟩
  | 114 => ⟨S1x256, .f32⟩
  | 115 => ⟨S1x256, .f32⟩
  | 116 => ⟨S_, .f32⟩
  | 117 => ⟨S1x256, .f32⟩
  | 118 => ⟨S1x256, .f32⟩
  | 119 => ⟨S1x256, .f32⟩
  | 120 => ⟨S_, .f32⟩
  | 121 => ⟨S1x256, .f32⟩
  | 122 => ⟨S1x256, .f32⟩
  | 123 => ⟨S_, .f32⟩
  | 124 => ⟨S1x256, .f32⟩
  | 125 => ⟨S1x256, .f32⟩
  | 126 => ⟨S1x256, .f32⟩
  | 127 => ⟨S_, .f32⟩
  | _ => ⟨S16x256, .f32⟩

abbrev hbmTy0_4 (i : Nat) : BufTy := match i % 128 with
  | 0 => ⟨S1x256, .f32⟩
  | 1 => ⟨S1x256, .f32⟩
  | 2 => ⟨S1x256, .f32⟩
  | 3 => ⟨S_, .f32⟩
  | 4 => ⟨S1x256, .f32⟩
  | 5 => ⟨S1x256, .f32⟩
  | 6 => ⟨S1x256, .f32⟩
  | 7 => ⟨S_, .f32⟩
  | 8 => ⟨S1x256, .f32⟩
  | 9 => ⟨S1x256, .f32⟩
  | 10 => ⟨S_, .f32⟩
  | 11 => ⟨S1024, .f32⟩
  | 12 => ⟨S1024, .f32⟩
  | 13 => ⟨S_, .f32⟩
  | 14 => ⟨S1024, .f32⟩
  | 15 => ⟨S1024, .f32⟩
  | 16 => ⟨S1024, .f32⟩
  | 17 => ⟨S_, .f32⟩
  | 18 => ⟨S1024, .f32⟩
  | 19 => ⟨S1024, .f32⟩
  | 20 => ⟨S1024, .f32⟩
  | 21 => ⟨S_, .f32⟩
  | 22 => ⟨S1024, .f32⟩
  | 23 => ⟨S1024, .f32⟩
  | 24 => ⟨S1024, .f32⟩
  | 25 => ⟨S_, .f32⟩
  | 26 => ⟨S1024, .f32⟩
  | 27 => ⟨S1024, .f32⟩
  | 28 => ⟨S_, .f32⟩
  | 29 => ⟨S1024, .f32⟩
  | 30 => ⟨S1024, .f32⟩
  | 31 => ⟨S1024, .f32⟩
  | 32 => ⟨S_, .f32⟩
  | 33 => ⟨S1024, .f32⟩
  | 34 => ⟨S1024, .f32⟩
  | 35 => ⟨S1024, .f32⟩
  | 36 => ⟨S_, .f32⟩
  | 37 => ⟨S1024, .f32⟩
  | 38 => ⟨S1024, .f32⟩
  | 39 => ⟨S1024, .f32⟩
  | 40 => ⟨S_, .f32⟩
  | 41 => ⟨S1024, .f32⟩
  | 42 => ⟨S1024, .f32⟩
  | 43 => ⟨S4096, .f32⟩
  | 44 => ⟨S_, .i32⟩
  | 45 => ⟨S_, .f32⟩
  | 46 => ⟨S4096, .f32⟩
  | 47 => ⟨S1024, .f32⟩
  | 48 => ⟨S_, .i32⟩
  | 49 => ⟨S_, .f32⟩
  | 50 => ⟨S1024, .f32⟩
  | 51 => ⟨S1024, .f32⟩
  | 52 => ⟨S_, .i32⟩
  | 53 => ⟨S_, .f32⟩
  | 54 => ⟨S1024, .f32⟩
  | 55 => ⟨S1024, .f32⟩
  | 56 => ⟨S_, .i32⟩
  | 57 => ⟨S_, .f32⟩
  | 58 => ⟨S1024, .f32⟩
  | 59 => ⟨S1024, .f32⟩
  | 60 => ⟨S_, .i32⟩
  | 61 => ⟨S_, .f32⟩
  | 62 => ⟨S1024, .f32⟩
  | 63 => ⟨S1024, .f32⟩
  | 64 => ⟨S_, .i32⟩
  | 65 => ⟨S_, .f32⟩
  | 66 => ⟨S1024, .f32⟩
  | 67 => ⟨S1024, .f32⟩
  | 68 => ⟨S_, .i32⟩
  | 69 => ⟨S_, .f32⟩
  | 70 => ⟨S1024, .f32⟩
  | 71 => ⟨S1536, .f32⟩
  | 72 => ⟨S_, .i32⟩
  | 73 => ⟨S_, .f32⟩
  | 74 => ⟨S2048, .f32⟩
  | 75 => ⟨S1536, .f32⟩
  | 76 => ⟨S_, .i32⟩
  | 77 => ⟨S_, .f32⟩
  | 78 => ⟨S2048, .f32⟩
  | 79 => ⟨S16, .f32⟩
  | 80 => ⟨S_, .i32⟩
  | 81 => ⟨S_, .f32⟩
  | 82 => ⟨S1024, .f32⟩
  | 83 => ⟨S16, .f32⟩
  | 84 => ⟨S_, .i32⟩
  | 85 => ⟨S_, .f32⟩
  | 86 => ⟨S1024, .f32⟩
  | 87 => ⟨S16, .f32⟩
  | 88 => ⟨S_, .i32⟩
  | 89 => ⟨S_, .f32⟩
  | 90 => ⟨S1024, .f32⟩
  | 91 => ⟨S1024, .f32⟩
  | 92 => ⟨S_, .i32⟩
  | 93 => ⟨S_, .f32⟩
  | 94 => ⟨S1024, .f32⟩
  | 95 => ⟨S256, .f32⟩
  | 96 => ⟨S_, .i32⟩
  | 97 => ⟨S_, .f32⟩
  | 98 => ⟨S1024, .f32⟩
  | 99 => ⟨S_, .i32⟩
  | 100 => ⟨S_, .f32⟩
  | 101 => ⟨S1024, .f32⟩
  | 102 => ⟨S20480, .f32⟩
  | 103 => ⟨S160x128, .f32⟩
  | 104 => ⟨S4096, .f32⟩
  | 105 => ⟨S_, .i32⟩
  | 106 => ⟨S_, .f32⟩
  | 107 => ⟨S4096, .f32⟩
  | 108 => ⟨S1024, .f32⟩
  | 109 => ⟨S_, .i32⟩
  | 110 => ⟨S_, .f32⟩
  | 111 => ⟨S1024, .f32⟩
  | 112 => ⟨S1024, .f32⟩
  | 113 => ⟨S_, .i32⟩
  | 114 => ⟨S_, .f32⟩
  | 115 => ⟨S1024, .f32⟩
  | 116 => ⟨S1024, .f32⟩
  | 117 => ⟨S_, .i32⟩
  | 118 => ⟨S_, .f32⟩
  | 119 => ⟨S1024, .f32⟩
  | 120 => ⟨S1024, .f32⟩
  | 121 => ⟨S_, .i32⟩
  | 122 => ⟨S_, .f32⟩
  | 123 => ⟨S1024, .f32⟩
  | 124 => ⟨S1024, .f32⟩
  | 125 => ⟨S_, .i32⟩
  | 126 => ⟨S_, .f32⟩
  | 127 => ⟨S1024, .f32⟩
  | _ => ⟨S16x256, .f32⟩

abbrev hbmTy0_5 (i : Nat) : BufTy := match i % 128 with
  | 0 => ⟨S1024, .f32⟩
  | 1 => ⟨S_, .i32⟩
  | 2 => ⟨S_, .f32⟩
  | 3 => ⟨S1024, .f32⟩
  | 4 => ⟨S1536, .f32⟩
  | 5 => ⟨S_, .i32⟩
  | 6 => ⟨S_, .f32⟩
  | 7 => ⟨S2048, .f32⟩
  | 8 => ⟨S1536, .f32⟩
  | 9 => ⟨S_, .i32⟩
  | 10 => ⟨S_, .f32⟩
  | 11 => ⟨S2048, .f32⟩
  | 12 => ⟨S16, .f32⟩
  | 13 => ⟨S_, .i32⟩
  | 14 => ⟨S_, .f32⟩
  | 15 => ⟨S1024, .f32⟩
  | 16 => ⟨S16, .f32⟩
  | 17 => ⟨S_, .i32⟩
  | 18 => ⟨S_, .f32⟩
  | 19 => ⟨S1024, .f32⟩
  | 20 => ⟨S16, .f32⟩
  | 21 => ⟨S_, .i32⟩
  | 22 => ⟨S_, .f32⟩
  | 23 => ⟨S1024, .f32⟩
  | 24 => ⟨S1024, .f32⟩
  | 25 => ⟨S_, .i32⟩
  | 26 => ⟨S_, .f32⟩
  | 27 => ⟨S1024, .f32⟩
  | 28 => ⟨S256, .f32⟩
  | 29 => ⟨S_, .i32⟩
  | 30 => ⟨S_, .f32⟩
  | 31 => ⟨S1024, .f32⟩
  | 32 => ⟨S_, .i32⟩
  | 33 => ⟨S_, .f32⟩
  | 34 => ⟨S1024, .f32⟩
  | 35 => ⟨S20480, .f32⟩
  | 36 => ⟨S160x128, .f32⟩
  | 37 => ⟨S4096, .f32⟩
  | 38 => ⟨S_, .i32⟩
  | 39 => ⟨S_, .f32⟩
  | 40 => ⟨S4096, .f32⟩
  | 41 => ⟨S1024, .f32⟩
  | 42 => ⟨S_, .i32⟩
  | 43 => ⟨S_, .f32⟩
  | 44 => ⟨S1024, .f32⟩
  | 45 => ⟨S1024, .f32⟩
  | 46 => ⟨S_, .i32⟩
  | 47 => ⟨S_, .f32⟩
  | 48 => ⟨S1024, .f32⟩
  | 49 => ⟨S1024, .f32⟩
  | 50 => ⟨S_, .i32⟩
  | 51 => ⟨S_, .f32⟩
  | 52 => ⟨S1024, .f32⟩
  | 53 => ⟨S1024, .f32⟩
  | 54 => ⟨S_, .i32⟩
  | 55 => ⟨S_, .f32⟩
  | 56 => ⟨S1024, .f32⟩
  | 57 => ⟨S1024, .f32⟩
  | 58 => ⟨S_, .i32⟩
  | 59 => ⟨S_, .f32⟩
  | 60 => ⟨S1024, .f32⟩
  | 61 => ⟨S1024, .f32⟩
  | 62 => ⟨S_, .i32⟩
  | 63 => ⟨S_, .f32⟩
  | 64 => ⟨S1024, .f32⟩
  | 65 => ⟨S1536, .f32⟩
  | 66 => ⟨S_, .i32⟩
  | 67 => ⟨S_, .f32⟩
  | 68 => ⟨S2048, .f32⟩
  | 69 => ⟨S1536, .f32⟩
  | 70 => ⟨S_, .i32⟩
  | 71 => ⟨S_, .f32⟩
  | 72 => ⟨S2048, .f32⟩
  | 73 => ⟨S16, .f32⟩
  | 74 => ⟨S_, .i32⟩
  | 75 => ⟨S_, .f32⟩
  | 76 => ⟨S1024, .f32⟩
  | 77 => ⟨S16, .f32⟩
  | 78 => ⟨S_, .i32⟩
  | 79 => ⟨S_, .f32⟩
  | 80 => ⟨S1024, .f32⟩
  | 81 => ⟨S16, .f32⟩
  | 82 => ⟨S_, .i32⟩
  | 83 => ⟨S_, .f32⟩
  | 84 => ⟨S1024, .f32⟩
  | 85 => ⟨S1024, .f32⟩
  | 86 => ⟨S_, .i32⟩
  | 87 => ⟨S_, .f32⟩
  | 88 => ⟨S1024, .f32⟩
  | 89 => ⟨S256, .f32⟩
  | 90 => ⟨S_, .i32⟩
  | 91 => ⟨S_, .f32⟩
  | 92 => ⟨S1024, .f32⟩
  | 93 => ⟨S_, .i32⟩
  | 94 => ⟨S_, .f32⟩
  | 95 => ⟨S1024, .f32⟩
  | 96 => ⟨S20480, .f32⟩
  | 97 => ⟨S160x128, .f32⟩
  | 98 => ⟨S4096, .f32⟩
  | 99 => ⟨S_, .i32⟩
  | 100 => ⟨S_, .f32⟩
  | 101 => ⟨S4096, .f32⟩
  | 102 => ⟨S1024, .f32⟩
  | 103 => ⟨S_, .i32⟩
  | 104 => ⟨S_, .f32⟩
  | 105 => ⟨S1024, .f32⟩
  | 106 => ⟨S1024, .f32⟩
  | 107 => ⟨S_, .i32⟩
  | 108 => ⟨S_, .f32⟩
  | 109 => ⟨S1024, .f32⟩
  | 110 => ⟨S1024, .f32⟩
  | 111 => ⟨S_, .i32⟩
  | 112 => ⟨S_, .f32⟩
  | 113 => ⟨S1024, .f32⟩
  | 114 => ⟨S1024, .f32⟩
  | 115 => ⟨S_, .i32⟩
  | 116 => ⟨S_, .f32⟩
  | 117 => ⟨S1024, .f32⟩
  | 118 => ⟨S1024, .f32⟩
  | 119 => ⟨S_, .i32⟩
  | 120 => ⟨S_, .f32⟩
  | 121 => ⟨S1024, .f32⟩
  | 122 => ⟨S1024, .f32⟩
  | 123 => ⟨S_, .i32⟩
  | 124 => ⟨S_, .f32⟩
  | 125 => ⟨S1024, .f32⟩
  | 126 => ⟨S1536, .f32⟩
  | 127 => ⟨S_, .i32⟩
  | _ => ⟨S16x256, .f32⟩

abbrev hbmTy0_6 (i : Nat) : BufTy := match i % 128 with
  | 0 => ⟨S_, .f32⟩
  | 1 => ⟨S2048, .f32⟩
  | 2 => ⟨S1536, .f32⟩
  | 3 => ⟨S_, .i32⟩
  | 4 => ⟨S_, .f32⟩
  | 5 => ⟨S2048, .f32⟩
  | 6 => ⟨S16, .f32⟩
  | 7 => ⟨S_, .i32⟩
  | 8 => ⟨S_, .f32⟩
  | 9 => ⟨S1024, .f32⟩
  | 10 => ⟨S16, .f32⟩
  | 11 => ⟨S_, .i32⟩
  | 12 => ⟨S_, .f32⟩
  | 13 => ⟨S1024, .f32⟩
  | 14 => ⟨S16, .f32⟩
  | 15 => ⟨S_, .i32⟩
  | 16 => ⟨S_, .f32⟩
  | 17 => ⟨S1024, .f32⟩
  | 18 => ⟨S1024, .f32⟩
  | 19 => ⟨S_, .i32⟩
  | 20 => ⟨S_, .f32⟩
  | 21 => ⟨S1024, .f32⟩
  | 22 => ⟨S256, .f32⟩
  | 23 => ⟨S_, .i32⟩
  | 24 => ⟨S_, .f32⟩
  | 25 => ⟨S1024, .f32⟩
  | 26 => ⟨S_, .i32⟩
  | 27 => ⟨S_, .f32⟩
  | 28 => ⟨S1024, .f32⟩
  | 29 => ⟨S20480, .f32⟩
  | 30 => ⟨S160x128, .f32⟩
  | _ => ⟨S16x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S16x256, .f32⟩

abbrev bufTy : (tb : Table) → Fin (tcTables nBuf tb) → BufTy
  | .hbm, ⟨i, _⟩ => hbmTy i
  | _, _ => ⟨S16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_cst : Ref sig .tc := ⟨.hbm, 60, rfl⟩
abbrev main_v0 : Ref sig .tc := ⟨.hbm, 61, rfl⟩
abbrev main_v1 : Ref sig .tc := ⟨.hbm, 62, rfl⟩
abbrev main_cst_0 : Ref sig .tc := ⟨.hbm, 63, rfl⟩
abbrev main_v2 : Ref sig .tc := ⟨.hbm, 64, rfl⟩
abbrev main_v3 : Ref sig .tc := ⟨.hbm, 65, rfl⟩
abbrev main_v4 : Ref sig .tc := ⟨.hbm, 66, rfl⟩
abbrev main_cst_1 : Ref sig .tc := ⟨.hbm, 67, rfl⟩
abbrev main_v5 : Ref sig .tc := ⟨.hbm, 68, rfl⟩
abbrev main_v6 : Ref sig .tc := ⟨.hbm, 69, rfl⟩
abbrev main_v7 : Ref sig .tc := ⟨.hbm, 70, rfl⟩
abbrev main_cst_2 : Ref sig .tc := ⟨.hbm, 71, rfl⟩
abbrev main_v8 : Ref sig .tc := ⟨.hbm, 72, rfl⟩
abbrev main_v9 : Ref sig .tc := ⟨.hbm, 73, rfl⟩
abbrev main_v10 : Ref sig .tc := ⟨.hbm, 74, rfl⟩
abbrev main_cst_3 : Ref sig .tc := ⟨.hbm, 75, rfl⟩
abbrev main_v11 : Ref sig .tc := ⟨.hbm, 76, rfl⟩
abbrev main_v12 : Ref sig .tc := ⟨.hbm, 77, rfl⟩
abbrev main_cst_4 : Ref sig .tc := ⟨.hbm, 78, rfl⟩
abbrev main_v13 : Ref sig .tc := ⟨.hbm, 79, rfl⟩
abbrev main_v14 : Ref sig .tc := ⟨.hbm, 80, rfl⟩
abbrev main_v15 : Ref sig .tc := ⟨.hbm, 81, rfl⟩
abbrev main_cst_5 : Ref sig .tc := ⟨.hbm, 82, rfl⟩
abbrev main_v16 : Ref sig .tc := ⟨.hbm, 83, rfl⟩
abbrev main_v17 : Ref sig .tc := ⟨.hbm, 84, rfl⟩
abbrev main_v18 : Ref sig .tc := ⟨.hbm, 85, rfl⟩
abbrev main_cst_6 : Ref sig .tc := ⟨.hbm, 86, rfl⟩
abbrev main_v19 : Ref sig .tc := ⟨.hbm, 87, rfl⟩
abbrev main_v20 : Ref sig .tc := ⟨.hbm, 88, rfl⟩
abbrev main_v21 : Ref sig .tc := ⟨.hbm, 89, rfl⟩
abbrev main_cst_7 : Ref sig .tc := ⟨.hbm, 90, rfl⟩
abbrev main_v22 : Ref sig .tc := ⟨.hbm, 91, rfl⟩
abbrev main_v23 : Ref sig .tc := ⟨.hbm, 92, rfl⟩
abbrev main_cst_8 : Ref sig .tc := ⟨.hbm, 93, rfl⟩
abbrev main_v24 : Ref sig .tc := ⟨.hbm, 94, rfl⟩
abbrev main_v25 : Ref sig .tc := ⟨.hbm, 95, rfl⟩
abbrev main_cst_9 : Ref sig .tc := ⟨.hbm, 96, rfl⟩
abbrev main_v26 : Ref sig .tc := ⟨.hbm, 97, rfl⟩
abbrev main_v27 : Ref sig .tc := ⟨.hbm, 98, rfl⟩
abbrev main_v28 : Ref sig .tc := ⟨.hbm, 99, rfl⟩
abbrev main_cst_10 : Ref sig .tc := ⟨.hbm, 100, rfl⟩
abbrev main_v29 : Ref sig .tc := ⟨.hbm, 101, rfl⟩
abbrev main_v30 : Ref sig .tc := ⟨.hbm, 102, rfl⟩
abbrev main_v31 : Ref sig .tc := ⟨.hbm, 103, rfl⟩
abbrev main_cst_11 : Ref sig .tc := ⟨.hbm, 104, rfl⟩
abbrev main_v32 : Ref sig .tc := ⟨.hbm, 105, rfl⟩
abbrev main_v33 : Ref sig .tc := ⟨.hbm, 106, rfl⟩
abbrev main_v34 : Ref sig .tc := ⟨.hbm, 107, rfl⟩
abbrev main_cst_12 : Ref sig .tc := ⟨.hbm, 108, rfl⟩
abbrev main_v35 : Ref sig .tc := ⟨.hbm, 109, rfl⟩
abbrev main_v36 : Ref sig .tc := ⟨.hbm, 110, rfl⟩
abbrev main_cst_13 : Ref sig .tc := ⟨.hbm, 111, rfl⟩
abbrev main_v37 : Ref sig .tc := ⟨.hbm, 112, rfl⟩
abbrev main_v38 : Ref sig .tc := ⟨.hbm, 113, rfl⟩
abbrev main_v39 : Ref sig .tc := ⟨.hbm, 114, rfl⟩
abbrev main_cst_14 : Ref sig .tc := ⟨.hbm, 115, rfl⟩
abbrev main_v40 : Ref sig .tc := ⟨.hbm, 116, rfl⟩
abbrev main_v41 : Ref sig .tc := ⟨.hbm, 117, rfl⟩
abbrev main_v42 : Ref sig .tc := ⟨.hbm, 118, rfl⟩
abbrev main_cst_15 : Ref sig .tc := ⟨.hbm, 119, rfl⟩
abbrev main_v43 : Ref sig .tc := ⟨.hbm, 120, rfl⟩
abbrev main_v44 : Ref sig .tc := ⟨.hbm, 121, rfl⟩
abbrev main_v45 : Ref sig .tc := ⟨.hbm, 122, rfl⟩
abbrev main_cst_16 : Ref sig .tc := ⟨.hbm, 123, rfl⟩
abbrev main_v46 : Ref sig .tc := ⟨.hbm, 124, rfl⟩
abbrev main_v47 : Ref sig .tc := ⟨.hbm, 125, rfl⟩
abbrev main_cst_17 : Ref sig .tc := ⟨.hbm, 126, rfl⟩
abbrev main_v48 : Ref sig .tc := ⟨.hbm, 127, rfl⟩
abbrev main_v49 : Ref sig .tc := ⟨.hbm, 128, rfl⟩
abbrev main_cst_18 : Ref sig .tc := ⟨.hbm, 129, rfl⟩
abbrev main_v50 : Ref sig .tc := ⟨.hbm, 130, rfl⟩
abbrev main_v51 : Ref sig .tc := ⟨.hbm, 131, rfl⟩
abbrev main_v52 : Ref sig .tc := ⟨.hbm, 132, rfl⟩
abbrev main_cst_19 : Ref sig .tc := ⟨.hbm, 133, rfl⟩
abbrev main_v53 : Ref sig .tc := ⟨.hbm, 134, rfl⟩
abbrev main_v54 : Ref sig .tc := ⟨.hbm, 135, rfl⟩
abbrev main_v55 : Ref sig .tc := ⟨.hbm, 136, rfl⟩
abbrev main_cst_20 : Ref sig .tc := ⟨.hbm, 137, rfl⟩
abbrev main_v56 : Ref sig .tc := ⟨.hbm, 138, rfl⟩
abbrev main_v57 : Ref sig .tc := ⟨.hbm, 139, rfl⟩
abbrev main_v58 : Ref sig .tc := ⟨.hbm, 140, rfl⟩
abbrev main_cst_21 : Ref sig .tc := ⟨.hbm, 141, rfl⟩
abbrev main_v59 : Ref sig .tc := ⟨.hbm, 142, rfl⟩
abbrev main_v60 : Ref sig .tc := ⟨.hbm, 143, rfl⟩
abbrev main_cst_22 : Ref sig .tc := ⟨.hbm, 144, rfl⟩
abbrev main_v61 : Ref sig .tc := ⟨.hbm, 145, rfl⟩
abbrev main_v62 : Ref sig .tc := ⟨.hbm, 146, rfl⟩
abbrev main_v63 : Ref sig .tc := ⟨.hbm, 147, rfl⟩
abbrev main_cst_23 : Ref sig .tc := ⟨.hbm, 148, rfl⟩
abbrev main_v64 : Ref sig .tc := ⟨.hbm, 149, rfl⟩
abbrev main_v65 : Ref sig .tc := ⟨.hbm, 150, rfl⟩
abbrev main_v66 : Ref sig .tc := ⟨.hbm, 151, rfl⟩
abbrev main_cst_24 : Ref sig .tc := ⟨.hbm, 152, rfl⟩
abbrev main_v67 : Ref sig .tc := ⟨.hbm, 153, rfl⟩
abbrev main_v68 : Ref sig .tc := ⟨.hbm, 154, rfl⟩
abbrev main_v69 : Ref sig .tc := ⟨.hbm, 155, rfl⟩
abbrev main_cst_25 : Ref sig .tc := ⟨.hbm, 156, rfl⟩
abbrev main_v70 : Ref sig .tc := ⟨.hbm, 157, rfl⟩
abbrev main_v71 : Ref sig .tc := ⟨.hbm, 158, rfl⟩
abbrev main_cst_26 : Ref sig .tc := ⟨.hbm, 159, rfl⟩
abbrev main_v72 : Ref sig .tc := ⟨.hbm, 160, rfl⟩
abbrev main_v73 : Ref sig .tc := ⟨.hbm, 161, rfl⟩
abbrev main_cst_27 : Ref sig .tc := ⟨.hbm, 162, rfl⟩
abbrev main_v74 : Ref sig .tc := ⟨.hbm, 163, rfl⟩
abbrev main_v75 : Ref sig .tc := ⟨.hbm, 164, rfl⟩
abbrev main_v76 : Ref sig .tc := ⟨.hbm, 165, rfl⟩
abbrev main_cst_28 : Ref sig .tc := ⟨.hbm, 166, rfl⟩
abbrev main_v77 : Ref sig .tc := ⟨.hbm, 167, rfl⟩
abbrev main_v78 : Ref sig .tc := ⟨.hbm, 168, rfl⟩
abbrev main_v79 : Ref sig .tc := ⟨.hbm, 169, rfl⟩
abbrev main_cst_29 : Ref sig .tc := ⟨.hbm, 170, rfl⟩
abbrev main_v80 : Ref sig .tc := ⟨.hbm, 171, rfl⟩
abbrev main_v81 : Ref sig .tc := ⟨.hbm, 172, rfl⟩
abbrev main_v82 : Ref sig .tc := ⟨.hbm, 173, rfl⟩
abbrev main_cst_30 : Ref sig .tc := ⟨.hbm, 174, rfl⟩
abbrev main_v83 : Ref sig .tc := ⟨.hbm, 175, rfl⟩
abbrev main_v84 : Ref sig .tc := ⟨.hbm, 176, rfl⟩
abbrev main_cst_31 : Ref sig .tc := ⟨.hbm, 177, rfl⟩
abbrev main_v85 : Ref sig .tc := ⟨.hbm, 178, rfl⟩
abbrev main_v86 : Ref sig .tc := ⟨.hbm, 179, rfl⟩
abbrev main_v87 : Ref sig .tc := ⟨.hbm, 180, rfl⟩
abbrev main_cst_32 : Ref sig .tc := ⟨.hbm, 181, rfl⟩
abbrev main_v88 : Ref sig .tc := ⟨.hbm, 182, rfl⟩
abbrev main_v89 : Ref sig .tc := ⟨.hbm, 183, rfl⟩
abbrev main_v90 : Ref sig .tc := ⟨.hbm, 184, rfl⟩
abbrev main_cst_33 : Ref sig .tc := ⟨.hbm, 185, rfl⟩
abbrev main_v91 : Ref sig .tc := ⟨.hbm, 186, rfl⟩
abbrev main_v92 : Ref sig .tc := ⟨.hbm, 187, rfl⟩
abbrev main_v93 : Ref sig .tc := ⟨.hbm, 188, rfl⟩
abbrev main_cst_34 : Ref sig .tc := ⟨.hbm, 189, rfl⟩
abbrev main_v94 : Ref sig .tc := ⟨.hbm, 190, rfl⟩
abbrev main_v95 : Ref sig .tc := ⟨.hbm, 191, rfl⟩
abbrev main_cst_35 : Ref sig .tc := ⟨.hbm, 192, rfl⟩
abbrev main_v96 : Ref sig .tc := ⟨.hbm, 193, rfl⟩
abbrev main_v97 : Ref sig .tc := ⟨.hbm, 194, rfl⟩
abbrev main_cst_36 : Ref sig .tc := ⟨.hbm, 195, rfl⟩
abbrev main_v98 : Ref sig .tc := ⟨.hbm, 196, rfl⟩
abbrev main_v99 : Ref sig .tc := ⟨.hbm, 197, rfl⟩
abbrev main_v100 : Ref sig .tc := ⟨.hbm, 198, rfl⟩
abbrev main_cst_37 : Ref sig .tc := ⟨.hbm, 199, rfl⟩
abbrev main_v101 : Ref sig .tc := ⟨.hbm, 200, rfl⟩
abbrev main_v102 : Ref sig .tc := ⟨.hbm, 201, rfl⟩
abbrev main_v103 : Ref sig .tc := ⟨.hbm, 202, rfl⟩
abbrev main_cst_38 : Ref sig .tc := ⟨.hbm, 203, rfl⟩
abbrev main_v104 : Ref sig .tc := ⟨.hbm, 204, rfl⟩
abbrev main_v105 : Ref sig .tc := ⟨.hbm, 205, rfl⟩
abbrev main_v106 : Ref sig .tc := ⟨.hbm, 206, rfl⟩
abbrev main_cst_39 : Ref sig .tc := ⟨.hbm, 207, rfl⟩
abbrev main_v107 : Ref sig .tc := ⟨.hbm, 208, rfl⟩
abbrev main_v108 : Ref sig .tc := ⟨.hbm, 209, rfl⟩
abbrev main_cst_40 : Ref sig .tc := ⟨.hbm, 210, rfl⟩
abbrev main_v109 : Ref sig .tc := ⟨.hbm, 211, rfl⟩
abbrev main_v110 : Ref sig .tc := ⟨.hbm, 212, rfl⟩
abbrev main_v111 : Ref sig .tc := ⟨.hbm, 213, rfl⟩
abbrev main_cst_41 : Ref sig .tc := ⟨.hbm, 214, rfl⟩
abbrev main_v112 : Ref sig .tc := ⟨.hbm, 215, rfl⟩
abbrev main_v113 : Ref sig .tc := ⟨.hbm, 216, rfl⟩
abbrev main_v114 : Ref sig .tc := ⟨.hbm, 217, rfl⟩
abbrev main_cst_42 : Ref sig .tc := ⟨.hbm, 218, rfl⟩
abbrev main_v115 : Ref sig .tc := ⟨.hbm, 219, rfl⟩
abbrev main_v116 : Ref sig .tc := ⟨.hbm, 220, rfl⟩
abbrev main_v117 : Ref sig .tc := ⟨.hbm, 221, rfl⟩
abbrev main_cst_43 : Ref sig .tc := ⟨.hbm, 222, rfl⟩
abbrev main_v118 : Ref sig .tc := ⟨.hbm, 223, rfl⟩
abbrev main_v119 : Ref sig .tc := ⟨.hbm, 224, rfl⟩
abbrev main_cst_44 : Ref sig .tc := ⟨.hbm, 225, rfl⟩
abbrev main_v120 : Ref sig .tc := ⟨.hbm, 226, rfl⟩
abbrev main_v121 : Ref sig .tc := ⟨.hbm, 227, rfl⟩
abbrev main_cst_45 : Ref sig .tc := ⟨.hbm, 228, rfl⟩
abbrev main_v122 : Ref sig .tc := ⟨.hbm, 229, rfl⟩
abbrev main_v123 : Ref sig .tc := ⟨.hbm, 230, rfl⟩
abbrev main_v124 : Ref sig .tc := ⟨.hbm, 231, rfl⟩
abbrev main_cst_46 : Ref sig .tc := ⟨.hbm, 232, rfl⟩
abbrev main_v125 : Ref sig .tc := ⟨.hbm, 233, rfl⟩
abbrev main_v126 : Ref sig .tc := ⟨.hbm, 234, rfl⟩
abbrev main_v127 : Ref sig .tc := ⟨.hbm, 235, rfl⟩
abbrev main_cst_47 : Ref sig .tc := ⟨.hbm, 236, rfl⟩
abbrev main_v128 : Ref sig .tc := ⟨.hbm, 237, rfl⟩
abbrev main_v129 : Ref sig .tc := ⟨.hbm, 238, rfl⟩
abbrev main_v130 : Ref sig .tc := ⟨.hbm, 239, rfl⟩
abbrev main_cst_48 : Ref sig .tc := ⟨.hbm, 240, rfl⟩
abbrev main_v131 : Ref sig .tc := ⟨.hbm, 241, rfl⟩
abbrev main_v132 : Ref sig .tc := ⟨.hbm, 242, rfl⟩
abbrev main_cst_49 : Ref sig .tc := ⟨.hbm, 243, rfl⟩
abbrev main_v133 : Ref sig .tc := ⟨.hbm, 244, rfl⟩
abbrev main_v134 : Ref sig .tc := ⟨.hbm, 245, rfl⟩
abbrev main_v135 : Ref sig .tc := ⟨.hbm, 246, rfl⟩
abbrev main_cst_50 : Ref sig .tc := ⟨.hbm, 247, rfl⟩
abbrev main_v136 : Ref sig .tc := ⟨.hbm, 248, rfl⟩
abbrev main_v137 : Ref sig .tc := ⟨.hbm, 249, rfl⟩
abbrev main_v138 : Ref sig .tc := ⟨.hbm, 250, rfl⟩
abbrev main_cst_51 : Ref sig .tc := ⟨.hbm, 251, rfl⟩
abbrev main_v139 : Ref sig .tc := ⟨.hbm, 252, rfl⟩
abbrev main_v140 : Ref sig .tc := ⟨.hbm, 253, rfl⟩
abbrev main_v141 : Ref sig .tc := ⟨.hbm, 254, rfl⟩
abbrev main_cst_52 : Ref sig .tc := ⟨.hbm, 255, rfl⟩
abbrev main_v142 : Ref sig .tc := ⟨.hbm, 256, rfl⟩
abbrev main_v143 : Ref sig .tc := ⟨.hbm, 257, rfl⟩
abbrev main_cst_53 : Ref sig .tc := ⟨.hbm, 258, rfl⟩
abbrev main_v144 : Ref sig .tc := ⟨.hbm, 259, rfl⟩
abbrev main_v145 : Ref sig .tc := ⟨.hbm, 260, rfl⟩
abbrev main_cst_54 : Ref sig .tc := ⟨.hbm, 261, rfl⟩
abbrev main_v146 : Ref sig .tc := ⟨.hbm, 262, rfl⟩
abbrev main_v147 : Ref sig .tc := ⟨.hbm, 263, rfl⟩
abbrev main_v148 : Ref sig .tc := ⟨.hbm, 264, rfl⟩
abbrev main_cst_55 : Ref sig .tc := ⟨.hbm, 265, rfl⟩
abbrev main_v149 : Ref sig .tc := ⟨.hbm, 266, rfl⟩
abbrev main_v150 : Ref sig .tc := ⟨.hbm, 267, rfl⟩
abbrev main_v151 : Ref sig .tc := ⟨.hbm, 268, rfl⟩
abbrev main_cst_56 : Ref sig .tc := ⟨.hbm, 269, rfl⟩
abbrev main_v152 : Ref sig .tc := ⟨.hbm, 270, rfl⟩
abbrev main_v153 : Ref sig .tc := ⟨.hbm, 271, rfl⟩
abbrev main_v154 : Ref sig .tc := ⟨.hbm, 272, rfl⟩
abbrev main_cst_57 : Ref sig .tc := ⟨.hbm, 273, rfl⟩
abbrev main_v155 : Ref sig .tc := ⟨.hbm, 274, rfl⟩
abbrev main_v156 : Ref sig .tc := ⟨.hbm, 275, rfl⟩
abbrev main_cst_58 : Ref sig .tc := ⟨.hbm, 276, rfl⟩
abbrev main_v157 : Ref sig .tc := ⟨.hbm, 277, rfl⟩
abbrev main_v158 : Ref sig .tc := ⟨.hbm, 278, rfl⟩
abbrev main_v159 : Ref sig .tc := ⟨.hbm, 279, rfl⟩
abbrev main_cst_59 : Ref sig .tc := ⟨.hbm, 280, rfl⟩
abbrev main_v160 : Ref sig .tc := ⟨.hbm, 281, rfl⟩
abbrev main_v161 : Ref sig .tc := ⟨.hbm, 282, rfl⟩
abbrev main_v162 : Ref sig .tc := ⟨.hbm, 283, rfl⟩
abbrev main_cst_60 : Ref sig .tc := ⟨.hbm, 284, rfl⟩
abbrev main_v163 : Ref sig .tc := ⟨.hbm, 285, rfl⟩
abbrev main_v164 : Ref sig .tc := ⟨.hbm, 286, rfl⟩
abbrev main_v165 : Ref sig .tc := ⟨.hbm, 287, rfl⟩
abbrev main_cst_61 : Ref sig .tc := ⟨.hbm, 288, rfl⟩
abbrev main_v166 : Ref sig .tc := ⟨.hbm, 289, rfl⟩
abbrev main_v167 : Ref sig .tc := ⟨.hbm, 290, rfl⟩
abbrev main_cst_62 : Ref sig .tc := ⟨.hbm, 291, rfl⟩
abbrev main_v168 : Ref sig .tc := ⟨.hbm, 292, rfl⟩
abbrev main_v169 : Ref sig .tc := ⟨.hbm, 293, rfl⟩
abbrev main_cst_63 : Ref sig .tc := ⟨.hbm, 294, rfl⟩
abbrev main_v170 : Ref sig .tc := ⟨.hbm, 295, rfl⟩
abbrev main_v171 : Ref sig .tc := ⟨.hbm, 296, rfl⟩
abbrev main_v172 : Ref sig .tc := ⟨.hbm, 297, rfl⟩
abbrev main_cst_64 : Ref sig .tc := ⟨.hbm, 298, rfl⟩
abbrev main_v173 : Ref sig .tc := ⟨.hbm, 299, rfl⟩
abbrev main_v174 : Ref sig .tc := ⟨.hbm, 300, rfl⟩
abbrev main_v175 : Ref sig .tc := ⟨.hbm, 301, rfl⟩
abbrev main_cst_65 : Ref sig .tc := ⟨.hbm, 302, rfl⟩
abbrev main_v176 : Ref sig .tc := ⟨.hbm, 303, rfl⟩
abbrev main_v177 : Ref sig .tc := ⟨.hbm, 304, rfl⟩
abbrev main_v178 : Ref sig .tc := ⟨.hbm, 305, rfl⟩
abbrev main_cst_66 : Ref sig .tc := ⟨.hbm, 306, rfl⟩
abbrev main_v179 : Ref sig .tc := ⟨.hbm, 307, rfl⟩
abbrev main_v180 : Ref sig .tc := ⟨.hbm, 308, rfl⟩
abbrev main_cst_67 : Ref sig .tc := ⟨.hbm, 309, rfl⟩
abbrev main_v181 : Ref sig .tc := ⟨.hbm, 310, rfl⟩
abbrev main_v182 : Ref sig .tc := ⟨.hbm, 311, rfl⟩
abbrev main_v183 : Ref sig .tc := ⟨.hbm, 312, rfl⟩
abbrev main_cst_68 : Ref sig .tc := ⟨.hbm, 313, rfl⟩
abbrev main_v184 : Ref sig .tc := ⟨.hbm, 314, rfl⟩
abbrev main_v185 : Ref sig .tc := ⟨.hbm, 315, rfl⟩
abbrev main_v186 : Ref sig .tc := ⟨.hbm, 316, rfl⟩
abbrev main_cst_69 : Ref sig .tc := ⟨.hbm, 317, rfl⟩
abbrev main_v187 : Ref sig .tc := ⟨.hbm, 318, rfl⟩
abbrev main_v188 : Ref sig .tc := ⟨.hbm, 319, rfl⟩
abbrev main_v189 : Ref sig .tc := ⟨.hbm, 320, rfl⟩
abbrev main_cst_70 : Ref sig .tc := ⟨.hbm, 321, rfl⟩
abbrev main_v190 : Ref sig .tc := ⟨.hbm, 322, rfl⟩
abbrev main_v191 : Ref sig .tc := ⟨.hbm, 323, rfl⟩
abbrev main_cst_71 : Ref sig .tc := ⟨.hbm, 324, rfl⟩
abbrev main_v192 : Ref sig .tc := ⟨.hbm, 325, rfl⟩
abbrev main_v193 : Ref sig .tc := ⟨.hbm, 326, rfl⟩
abbrev main_cst_72 : Ref sig .tc := ⟨.hbm, 327, rfl⟩
abbrev main_v194 : Ref sig .tc := ⟨.hbm, 328, rfl⟩
abbrev main_v195 : Ref sig .tc := ⟨.hbm, 329, rfl⟩
abbrev main_v196 : Ref sig .tc := ⟨.hbm, 330, rfl⟩
abbrev main_cst_73 : Ref sig .tc := ⟨.hbm, 331, rfl⟩
abbrev main_v197 : Ref sig .tc := ⟨.hbm, 332, rfl⟩
abbrev main_v198 : Ref sig .tc := ⟨.hbm, 333, rfl⟩
abbrev main_v199 : Ref sig .tc := ⟨.hbm, 334, rfl⟩
abbrev main_cst_74 : Ref sig .tc := ⟨.hbm, 335, rfl⟩
abbrev main_v200 : Ref sig .tc := ⟨.hbm, 336, rfl⟩
abbrev main_v201 : Ref sig .tc := ⟨.hbm, 337, rfl⟩
abbrev main_v202 : Ref sig .tc := ⟨.hbm, 338, rfl⟩
abbrev main_cst_75 : Ref sig .tc := ⟨.hbm, 339, rfl⟩
abbrev main_v203 : Ref sig .tc := ⟨.hbm, 340, rfl⟩
abbrev main_v204 : Ref sig .tc := ⟨.hbm, 341, rfl⟩
abbrev main_cst_76 : Ref sig .tc := ⟨.hbm, 342, rfl⟩
abbrev main_v205 : Ref sig .tc := ⟨.hbm, 343, rfl⟩
abbrev main_v206 : Ref sig .tc := ⟨.hbm, 344, rfl⟩
abbrev main_v207 : Ref sig .tc := ⟨.hbm, 345, rfl⟩
abbrev main_cst_77 : Ref sig .tc := ⟨.hbm, 346, rfl⟩
abbrev main_v208 : Ref sig .tc := ⟨.hbm, 347, rfl⟩
abbrev main_v209 : Ref sig .tc := ⟨.hbm, 348, rfl⟩
abbrev main_v210 : Ref sig .tc := ⟨.hbm, 349, rfl⟩
abbrev main_cst_78 : Ref sig .tc := ⟨.hbm, 350, rfl⟩
abbrev main_v211 : Ref sig .tc := ⟨.hbm, 351, rfl⟩
abbrev main_v212 : Ref sig .tc := ⟨.hbm, 352, rfl⟩
abbrev main_v213 : Ref sig .tc := ⟨.hbm, 353, rfl⟩
abbrev main_cst_79 : Ref sig .tc := ⟨.hbm, 354, rfl⟩
abbrev main_v214 : Ref sig .tc := ⟨.hbm, 355, rfl⟩
abbrev main_v215 : Ref sig .tc := ⟨.hbm, 356, rfl⟩
abbrev main_cst_80 : Ref sig .tc := ⟨.hbm, 357, rfl⟩
abbrev main_v216 : Ref sig .tc := ⟨.hbm, 358, rfl⟩
abbrev main_v217 : Ref sig .tc := ⟨.hbm, 359, rfl⟩
abbrev main_cst_81 : Ref sig .tc := ⟨.hbm, 360, rfl⟩
abbrev main_v218 : Ref sig .tc := ⟨.hbm, 361, rfl⟩
abbrev main_v219 : Ref sig .tc := ⟨.hbm, 362, rfl⟩
abbrev main_v220 : Ref sig .tc := ⟨.hbm, 363, rfl⟩
abbrev main_cst_82 : Ref sig .tc := ⟨.hbm, 364, rfl⟩
abbrev main_v221 : Ref sig .tc := ⟨.hbm, 365, rfl⟩
abbrev main_v222 : Ref sig .tc := ⟨.hbm, 366, rfl⟩
abbrev main_v223 : Ref sig .tc := ⟨.hbm, 367, rfl⟩
abbrev main_cst_83 : Ref sig .tc := ⟨.hbm, 368, rfl⟩
abbrev main_v224 : Ref sig .tc := ⟨.hbm, 369, rfl⟩
abbrev main_v225 : Ref sig .tc := ⟨.hbm, 370, rfl⟩
abbrev main_v226 : Ref sig .tc := ⟨.hbm, 371, rfl⟩
abbrev main_cst_84 : Ref sig .tc := ⟨.hbm, 372, rfl⟩
abbrev main_v227 : Ref sig .tc := ⟨.hbm, 373, rfl⟩
abbrev main_v228 : Ref sig .tc := ⟨.hbm, 374, rfl⟩
abbrev main_cst_85 : Ref sig .tc := ⟨.hbm, 375, rfl⟩
abbrev main_v229 : Ref sig .tc := ⟨.hbm, 376, rfl⟩
abbrev main_v230 : Ref sig .tc := ⟨.hbm, 377, rfl⟩
abbrev main_v231 : Ref sig .tc := ⟨.hbm, 378, rfl⟩
abbrev main_cst_86 : Ref sig .tc := ⟨.hbm, 379, rfl⟩
abbrev main_v232 : Ref sig .tc := ⟨.hbm, 380, rfl⟩
abbrev main_v233 : Ref sig .tc := ⟨.hbm, 381, rfl⟩
abbrev main_v234 : Ref sig .tc := ⟨.hbm, 382, rfl⟩
abbrev main_cst_87 : Ref sig .tc := ⟨.hbm, 383, rfl⟩
abbrev main_v235 : Ref sig .tc := ⟨.hbm, 384, rfl⟩
abbrev main_v236 : Ref sig .tc := ⟨.hbm, 385, rfl⟩
abbrev main_v237 : Ref sig .tc := ⟨.hbm, 386, rfl⟩
abbrev main_cst_88 : Ref sig .tc := ⟨.hbm, 387, rfl⟩
abbrev main_v238 : Ref sig .tc := ⟨.hbm, 388, rfl⟩
abbrev main_v239 : Ref sig .tc := ⟨.hbm, 389, rfl⟩
abbrev main_cst_89 : Ref sig .tc := ⟨.hbm, 390, rfl⟩
abbrev main_v240 : Ref sig .tc := ⟨.hbm, 391, rfl⟩
abbrev main_v241 : Ref sig .tc := ⟨.hbm, 392, rfl⟩
abbrev main_cst_90 : Ref sig .tc := ⟨.hbm, 393, rfl⟩
abbrev main_v242 : Ref sig .tc := ⟨.hbm, 394, rfl⟩
abbrev main_v243 : Ref sig .tc := ⟨.hbm, 395, rfl⟩
abbrev main_v244 : Ref sig .tc := ⟨.hbm, 396, rfl⟩
abbrev main_cst_91 : Ref sig .tc := ⟨.hbm, 397, rfl⟩
abbrev main_v245 : Ref sig .tc := ⟨.hbm, 398, rfl⟩
abbrev main_v246 : Ref sig .tc := ⟨.hbm, 399, rfl⟩
abbrev main_v247 : Ref sig .tc := ⟨.hbm, 400, rfl⟩
abbrev main_cst_92 : Ref sig .tc := ⟨.hbm, 401, rfl⟩
abbrev main_v248 : Ref sig .tc := ⟨.hbm, 402, rfl⟩
abbrev main_v249 : Ref sig .tc := ⟨.hbm, 403, rfl⟩
abbrev main_v250 : Ref sig .tc := ⟨.hbm, 404, rfl⟩
abbrev main_cst_93 : Ref sig .tc := ⟨.hbm, 405, rfl⟩
abbrev main_v251 : Ref sig .tc := ⟨.hbm, 406, rfl⟩
abbrev main_v252 : Ref sig .tc := ⟨.hbm, 407, rfl⟩
abbrev main_cst_94 : Ref sig .tc := ⟨.hbm, 408, rfl⟩
abbrev main_v253 : Ref sig .tc := ⟨.hbm, 409, rfl⟩
abbrev main_v254 : Ref sig .tc := ⟨.hbm, 410, rfl⟩
abbrev main_v255 : Ref sig .tc := ⟨.hbm, 411, rfl⟩
abbrev main_cst_95 : Ref sig .tc := ⟨.hbm, 412, rfl⟩
abbrev main_v256 : Ref sig .tc := ⟨.hbm, 413, rfl⟩
abbrev main_v257 : Ref sig .tc := ⟨.hbm, 414, rfl⟩
abbrev main_v258 : Ref sig .tc := ⟨.hbm, 415, rfl⟩
abbrev main_cst_96 : Ref sig .tc := ⟨.hbm, 416, rfl⟩
abbrev main_v259 : Ref sig .tc := ⟨.hbm, 417, rfl⟩
abbrev main_v260 : Ref sig .tc := ⟨.hbm, 418, rfl⟩
abbrev main_v261 : Ref sig .tc := ⟨.hbm, 419, rfl⟩
abbrev main_cst_97 : Ref sig .tc := ⟨.hbm, 420, rfl⟩
abbrev main_v262 : Ref sig .tc := ⟨.hbm, 421, rfl⟩
abbrev main_v263 : Ref sig .tc := ⟨.hbm, 422, rfl⟩
abbrev main_cst_98 : Ref sig .tc := ⟨.hbm, 423, rfl⟩
abbrev main_v264 : Ref sig .tc := ⟨.hbm, 424, rfl⟩
abbrev main_v265 : Ref sig .tc := ⟨.hbm, 425, rfl⟩
abbrev main_cst_99 : Ref sig .tc := ⟨.hbm, 426, rfl⟩
abbrev main_v266 : Ref sig .tc := ⟨.hbm, 427, rfl⟩
abbrev main_v267 : Ref sig .tc := ⟨.hbm, 428, rfl⟩
abbrev main_v268 : Ref sig .tc := ⟨.hbm, 429, rfl⟩
abbrev main_cst_100 : Ref sig .tc := ⟨.hbm, 430, rfl⟩
abbrev main_v269 : Ref sig .tc := ⟨.hbm, 431, rfl⟩
abbrev main_v270 : Ref sig .tc := ⟨.hbm, 432, rfl⟩
abbrev main_v271 : Ref sig .tc := ⟨.hbm, 433, rfl⟩
abbrev main_cst_101 : Ref sig .tc := ⟨.hbm, 434, rfl⟩
abbrev main_v272 : Ref sig .tc := ⟨.hbm, 435, rfl⟩
abbrev main_v273 : Ref sig .tc := ⟨.hbm, 436, rfl⟩
abbrev main_v274 : Ref sig .tc := ⟨.hbm, 437, rfl⟩
abbrev main_cst_102 : Ref sig .tc := ⟨.hbm, 438, rfl⟩
abbrev main_v275 : Ref sig .tc := ⟨.hbm, 439, rfl⟩
abbrev main_v276 : Ref sig .tc := ⟨.hbm, 440, rfl⟩
abbrev main_cst_103 : Ref sig .tc := ⟨.hbm, 441, rfl⟩
abbrev main_v277 : Ref sig .tc := ⟨.hbm, 442, rfl⟩
abbrev main_v278 : Ref sig .tc := ⟨.hbm, 443, rfl⟩
abbrev main_v279 : Ref sig .tc := ⟨.hbm, 444, rfl⟩
abbrev main_cst_104 : Ref sig .tc := ⟨.hbm, 445, rfl⟩
abbrev main_v280 : Ref sig .tc := ⟨.hbm, 446, rfl⟩
abbrev main_v281 : Ref sig .tc := ⟨.hbm, 447, rfl⟩
abbrev main_v282 : Ref sig .tc := ⟨.hbm, 448, rfl⟩
abbrev main_cst_105 : Ref sig .tc := ⟨.hbm, 449, rfl⟩
abbrev main_v283 : Ref sig .tc := ⟨.hbm, 450, rfl⟩
abbrev main_v284 : Ref sig .tc := ⟨.hbm, 451, rfl⟩
abbrev main_v285 : Ref sig .tc := ⟨.hbm, 452, rfl⟩
abbrev main_cst_106 : Ref sig .tc := ⟨.hbm, 453, rfl⟩
abbrev main_v286 : Ref sig .tc := ⟨.hbm, 454, rfl⟩
abbrev main_v287 : Ref sig .tc := ⟨.hbm, 455, rfl⟩
abbrev main_cst_107 : Ref sig .tc := ⟨.hbm, 456, rfl⟩
abbrev main_v288 : Ref sig .tc := ⟨.hbm, 457, rfl⟩
abbrev main_v289 : Ref sig .tc := ⟨.hbm, 458, rfl⟩
abbrev main_cst_108 : Ref sig .tc := ⟨.hbm, 459, rfl⟩
abbrev main_v290 : Ref sig .tc := ⟨.hbm, 460, rfl⟩
abbrev main_v291 : Ref sig .tc := ⟨.hbm, 461, rfl⟩
abbrev main_v292 : Ref sig .tc := ⟨.hbm, 462, rfl⟩
abbrev main_cst_109 : Ref sig .tc := ⟨.hbm, 463, rfl⟩
abbrev main_v293 : Ref sig .tc := ⟨.hbm, 464, rfl⟩
abbrev main_v294 : Ref sig .tc := ⟨.hbm, 465, rfl⟩
abbrev main_v295 : Ref sig .tc := ⟨.hbm, 466, rfl⟩
abbrev main_cst_110 : Ref sig .tc := ⟨.hbm, 467, rfl⟩
abbrev main_v296 : Ref sig .tc := ⟨.hbm, 468, rfl⟩
abbrev main_v297 : Ref sig .tc := ⟨.hbm, 469, rfl⟩
abbrev main_v298 : Ref sig .tc := ⟨.hbm, 470, rfl⟩
abbrev main_cst_111 : Ref sig .tc := ⟨.hbm, 471, rfl⟩
abbrev main_v299 : Ref sig .tc := ⟨.hbm, 472, rfl⟩
abbrev main_v300 : Ref sig .tc := ⟨.hbm, 473, rfl⟩
abbrev main_cst_112 : Ref sig .tc := ⟨.hbm, 474, rfl⟩
abbrev main_v301 : Ref sig .tc := ⟨.hbm, 475, rfl⟩
abbrev main_v302 : Ref sig .tc := ⟨.hbm, 476, rfl⟩
abbrev main_v303 : Ref sig .tc := ⟨.hbm, 477, rfl⟩
abbrev main_cst_113 : Ref sig .tc := ⟨.hbm, 478, rfl⟩
abbrev main_v304 : Ref sig .tc := ⟨.hbm, 479, rfl⟩
abbrev main_v305 : Ref sig .tc := ⟨.hbm, 480, rfl⟩
abbrev main_v306 : Ref sig .tc := ⟨.hbm, 481, rfl⟩
abbrev main_cst_114 : Ref sig .tc := ⟨.hbm, 482, rfl⟩
abbrev main_v307 : Ref sig .tc := ⟨.hbm, 483, rfl⟩
abbrev main_v308 : Ref sig .tc := ⟨.hbm, 484, rfl⟩
abbrev main_v309 : Ref sig .tc := ⟨.hbm, 485, rfl⟩
abbrev main_cst_115 : Ref sig .tc := ⟨.hbm, 486, rfl⟩
abbrev main_v310 : Ref sig .tc := ⟨.hbm, 487, rfl⟩
abbrev main_v311 : Ref sig .tc := ⟨.hbm, 488, rfl⟩
abbrev main_cst_116 : Ref sig .tc := ⟨.hbm, 489, rfl⟩
abbrev main_v312 : Ref sig .tc := ⟨.hbm, 490, rfl⟩
abbrev main_v313 : Ref sig .tc := ⟨.hbm, 491, rfl⟩
abbrev main_cst_117 : Ref sig .tc := ⟨.hbm, 492, rfl⟩
abbrev main_v314 : Ref sig .tc := ⟨.hbm, 493, rfl⟩
abbrev main_v315 : Ref sig .tc := ⟨.hbm, 494, rfl⟩
abbrev main_v316 : Ref sig .tc := ⟨.hbm, 495, rfl⟩
abbrev main_cst_118 : Ref sig .tc := ⟨.hbm, 496, rfl⟩
abbrev main_v317 : Ref sig .tc := ⟨.hbm, 497, rfl⟩
abbrev main_v318 : Ref sig .tc := ⟨.hbm, 498, rfl⟩
abbrev main_v319 : Ref sig .tc := ⟨.hbm, 499, rfl⟩
abbrev main_cst_119 : Ref sig .tc := ⟨.hbm, 500, rfl⟩
abbrev main_v320 : Ref sig .tc := ⟨.hbm, 501, rfl⟩
abbrev main_v321 : Ref sig .tc := ⟨.hbm, 502, rfl⟩
abbrev main_v322 : Ref sig .tc := ⟨.hbm, 503, rfl⟩
abbrev main_cst_120 : Ref sig .tc := ⟨.hbm, 504, rfl⟩
abbrev main_v323 : Ref sig .tc := ⟨.hbm, 505, rfl⟩
abbrev main_v324 : Ref sig .tc := ⟨.hbm, 506, rfl⟩
abbrev main_cst_121 : Ref sig .tc := ⟨.hbm, 507, rfl⟩
abbrev main_v325 : Ref sig .tc := ⟨.hbm, 508, rfl⟩
abbrev main_v326 : Ref sig .tc := ⟨.hbm, 509, rfl⟩
abbrev main_v327 : Ref sig .tc := ⟨.hbm, 510, rfl⟩
abbrev main_cst_122 : Ref sig .tc := ⟨.hbm, 511, rfl⟩
abbrev main_v328 : Ref sig .tc := ⟨.hbm, 512, rfl⟩
abbrev main_v329 : Ref sig .tc := ⟨.hbm, 513, rfl⟩
abbrev main_v330 : Ref sig .tc := ⟨.hbm, 514, rfl⟩
abbrev main_cst_123 : Ref sig .tc := ⟨.hbm, 515, rfl⟩
abbrev main_v331 : Ref sig .tc := ⟨.hbm, 516, rfl⟩
abbrev main_v332 : Ref sig .tc := ⟨.hbm, 517, rfl⟩
abbrev main_v333 : Ref sig .tc := ⟨.hbm, 518, rfl⟩
abbrev main_cst_124 : Ref sig .tc := ⟨.hbm, 519, rfl⟩
abbrev main_v334 : Ref sig .tc := ⟨.hbm, 520, rfl⟩
abbrev main_v335 : Ref sig .tc := ⟨.hbm, 521, rfl⟩
abbrev main_cst_125 : Ref sig .tc := ⟨.hbm, 522, rfl⟩
abbrev main_v336 : Ref sig .tc := ⟨.hbm, 523, rfl⟩
abbrev main_v337 : Ref sig .tc := ⟨.hbm, 524, rfl⟩
abbrev main_cst_126 : Ref sig .tc := ⟨.hbm, 525, rfl⟩
abbrev main_v338 : Ref sig .tc := ⟨.hbm, 526, rfl⟩
abbrev main_v339 : Ref sig .tc := ⟨.hbm, 527, rfl⟩
abbrev main_v340 : Ref sig .tc := ⟨.hbm, 528, rfl⟩
abbrev main_cst_127 : Ref sig .tc := ⟨.hbm, 529, rfl⟩
abbrev main_v341 : Ref sig .tc := ⟨.hbm, 530, rfl⟩
abbrev main_v342 : Ref sig .tc := ⟨.hbm, 531, rfl⟩
abbrev main_v343 : Ref sig .tc := ⟨.hbm, 532, rfl⟩
abbrev main_cst_128 : Ref sig .tc := ⟨.hbm, 533, rfl⟩
abbrev main_v344 : Ref sig .tc := ⟨.hbm, 534, rfl⟩
abbrev main_v345 : Ref sig .tc := ⟨.hbm, 535, rfl⟩
abbrev main_v346 : Ref sig .tc := ⟨.hbm, 536, rfl⟩
abbrev main_cst_129 : Ref sig .tc := ⟨.hbm, 537, rfl⟩
abbrev main_v347 : Ref sig .tc := ⟨.hbm, 538, rfl⟩
abbrev main_v348 : Ref sig .tc := ⟨.hbm, 539, rfl⟩
abbrev main_cst_130 : Ref sig .tc := ⟨.hbm, 540, rfl⟩
abbrev main_v349 : Ref sig .tc := ⟨.hbm, 541, rfl⟩
abbrev main_v350 : Ref sig .tc := ⟨.hbm, 542, rfl⟩
abbrev main_v351 : Ref sig .tc := ⟨.hbm, 543, rfl⟩
abbrev main_cst_131 : Ref sig .tc := ⟨.hbm, 544, rfl⟩
abbrev main_v352 : Ref sig .tc := ⟨.hbm, 545, rfl⟩
abbrev main_v353 : Ref sig .tc := ⟨.hbm, 546, rfl⟩
abbrev main_v354 : Ref sig .tc := ⟨.hbm, 547, rfl⟩
abbrev main_cst_132 : Ref sig .tc := ⟨.hbm, 548, rfl⟩
abbrev main_v355 : Ref sig .tc := ⟨.hbm, 549, rfl⟩
abbrev main_v356 : Ref sig .tc := ⟨.hbm, 550, rfl⟩
abbrev main_v357 : Ref sig .tc := ⟨.hbm, 551, rfl⟩
abbrev main_cst_133 : Ref sig .tc := ⟨.hbm, 552, rfl⟩
abbrev main_v358 : Ref sig .tc := ⟨.hbm, 553, rfl⟩
abbrev main_v359 : Ref sig .tc := ⟨.hbm, 554, rfl⟩
abbrev main_v360 : Ref sig .tc := ⟨.hbm, 555, rfl⟩
abbrev main_c : Ref sig .tc := ⟨.hbm, 556, rfl⟩
abbrev main_call0_v0 : Ref sig .tc := ⟨.hbm, 557, rfl⟩
abbrev main_v361 : Ref sig .tc := ⟨.hbm, 558, rfl⟩
abbrev main_v362 : Ref sig .tc := ⟨.hbm, 559, rfl⟩
abbrev main_c_134 : Ref sig .tc := ⟨.hbm, 560, rfl⟩
abbrev main_call1_v0 : Ref sig .tc := ⟨.hbm, 561, rfl⟩
abbrev main_v363 : Ref sig .tc := ⟨.hbm, 562, rfl⟩
abbrev main_v364 : Ref sig .tc := ⟨.hbm, 563, rfl⟩
abbrev main_c_135 : Ref sig .tc := ⟨.hbm, 564, rfl⟩
abbrev main_call2_v0 : Ref sig .tc := ⟨.hbm, 565, rfl⟩
abbrev main_v365 : Ref sig .tc := ⟨.hbm, 566, rfl⟩
abbrev main_v366 : Ref sig .tc := ⟨.hbm, 567, rfl⟩
abbrev main_c_136 : Ref sig .tc := ⟨.hbm, 568, rfl⟩
abbrev main_call3_v0 : Ref sig .tc := ⟨.hbm, 569, rfl⟩
abbrev main_v367 : Ref sig .tc := ⟨.hbm, 570, rfl⟩
abbrev main_v368 : Ref sig .tc := ⟨.hbm, 571, rfl⟩
abbrev main_c_137 : Ref sig .tc := ⟨.hbm, 572, rfl⟩
abbrev main_call4_v0 : Ref sig .tc := ⟨.hbm, 573, rfl⟩
abbrev main_v369 : Ref sig .tc := ⟨.hbm, 574, rfl⟩
abbrev main_v370 : Ref sig .tc := ⟨.hbm, 575, rfl⟩
abbrev main_c_138 : Ref sig .tc := ⟨.hbm, 576, rfl⟩
abbrev main_call5_v0 : Ref sig .tc := ⟨.hbm, 577, rfl⟩
abbrev main_v371 : Ref sig .tc := ⟨.hbm, 578, rfl⟩
abbrev main_v372 : Ref sig .tc := ⟨.hbm, 579, rfl⟩
abbrev main_c_139 : Ref sig .tc := ⟨.hbm, 580, rfl⟩
abbrev main_call6_v0 : Ref sig .tc := ⟨.hbm, 581, rfl⟩
abbrev main_v373 : Ref sig .tc := ⟨.hbm, 582, rfl⟩
abbrev main_v374 : Ref sig .tc := ⟨.hbm, 583, rfl⟩
abbrev main_c_140 : Ref sig .tc := ⟨.hbm, 584, rfl⟩
abbrev main_call7_v0 : Ref sig .tc := ⟨.hbm, 585, rfl⟩
abbrev main_v375 : Ref sig .tc := ⟨.hbm, 586, rfl⟩
abbrev main_v376 : Ref sig .tc := ⟨.hbm, 587, rfl⟩
abbrev main_c_141 : Ref sig .tc := ⟨.hbm, 588, rfl⟩
abbrev main_call8_v0 : Ref sig .tc := ⟨.hbm, 589, rfl⟩
abbrev main_v377 : Ref sig .tc := ⟨.hbm, 590, rfl⟩
abbrev main_v378 : Ref sig .tc := ⟨.hbm, 591, rfl⟩
abbrev main_c_142 : Ref sig .tc := ⟨.hbm, 592, rfl⟩
abbrev main_call9_v0 : Ref sig .tc := ⟨.hbm, 593, rfl⟩
abbrev main_v379 : Ref sig .tc := ⟨.hbm, 594, rfl⟩
abbrev main_v380 : Ref sig .tc := ⟨.hbm, 595, rfl⟩
abbrev main_c_143 : Ref sig .tc := ⟨.hbm, 596, rfl⟩
abbrev main_call10_v0 : Ref sig .tc := ⟨.hbm, 597, rfl⟩
abbrev main_v381 : Ref sig .tc := ⟨.hbm, 598, rfl⟩
abbrev main_v382 : Ref sig .tc := ⟨.hbm, 599, rfl⟩
abbrev main_c_144 : Ref sig .tc := ⟨.hbm, 600, rfl⟩
abbrev main_call11_v0 : Ref sig .tc := ⟨.hbm, 601, rfl⟩
abbrev main_v383 : Ref sig .tc := ⟨.hbm, 602, rfl⟩
abbrev main_v384 : Ref sig .tc := ⟨.hbm, 603, rfl⟩
abbrev main_c_145 : Ref sig .tc := ⟨.hbm, 604, rfl⟩
abbrev main_call12_v0 : Ref sig .tc := ⟨.hbm, 605, rfl⟩
abbrev main_v385 : Ref sig .tc := ⟨.hbm, 606, rfl⟩
abbrev main_v386 : Ref sig .tc := ⟨.hbm, 607, rfl⟩
abbrev main_c_146 : Ref sig .tc := ⟨.hbm, 608, rfl⟩
abbrev main_call13_v0 : Ref sig .tc := ⟨.hbm, 609, rfl⟩
abbrev main_v387 : Ref sig .tc := ⟨.hbm, 610, rfl⟩
abbrev main_c_147 : Ref sig .tc := ⟨.hbm, 611, rfl⟩
abbrev main_call14_v0 : Ref sig .tc := ⟨.hbm, 612, rfl⟩
abbrev main_v388 : Ref sig .tc := ⟨.hbm, 613, rfl⟩
abbrev main_v389 : Ref sig .tc := ⟨.hbm, 614, rfl⟩
abbrev main_v390 : Ref sig .tc := ⟨.hbm, 615, rfl⟩
abbrev main_v391 : Ref sig .tc := ⟨.hbm, 616, rfl⟩
abbrev main_c_148 : Ref sig .tc := ⟨.hbm, 617, rfl⟩
abbrev main_call15_v0 : Ref sig .tc := ⟨.hbm, 618, rfl⟩
abbrev main_v392 : Ref sig .tc := ⟨.hbm, 619, rfl⟩
abbrev main_v393 : Ref sig .tc := ⟨.hbm, 620, rfl⟩
abbrev main_c_149 : Ref sig .tc := ⟨.hbm, 621, rfl⟩
abbrev main_call16_v0 : Ref sig .tc := ⟨.hbm, 622, rfl⟩
abbrev main_v394 : Ref sig .tc := ⟨.hbm, 623, rfl⟩
abbrev main_v395 : Ref sig .tc := ⟨.hbm, 624, rfl⟩
abbrev main_c_150 : Ref sig .tc := ⟨.hbm, 625, rfl⟩
abbrev main_call17_v0 : Ref sig .tc := ⟨.hbm, 626, rfl⟩
abbrev main_v396 : Ref sig .tc := ⟨.hbm, 627, rfl⟩
abbrev main_v397 : Ref sig .tc := ⟨.hbm, 628, rfl⟩
abbrev main_c_151 : Ref sig .tc := ⟨.hbm, 629, rfl⟩
abbrev main_call18_v0 : Ref sig .tc := ⟨.hbm, 630, rfl⟩
abbrev main_v398 : Ref sig .tc := ⟨.hbm, 631, rfl⟩
abbrev main_v399 : Ref sig .tc := ⟨.hbm, 632, rfl⟩
abbrev main_c_152 : Ref sig .tc := ⟨.hbm, 633, rfl⟩
abbrev main_call19_v0 : Ref sig .tc := ⟨.hbm, 634, rfl⟩
abbrev main_v400 : Ref sig .tc := ⟨.hbm, 635, rfl⟩
abbrev main_v401 : Ref sig .tc := ⟨.hbm, 636, rfl⟩
abbrev main_c_153 : Ref sig .tc := ⟨.hbm, 637, rfl⟩
abbrev main_call20_v0 : Ref sig .tc := ⟨.hbm, 638, rfl⟩
abbrev main_v402 : Ref sig .tc := ⟨.hbm, 639, rfl⟩
abbrev main_v403 : Ref sig .tc := ⟨.hbm, 640, rfl⟩
abbrev main_c_154 : Ref sig .tc := ⟨.hbm, 641, rfl⟩
abbrev main_call21_v0 : Ref sig .tc := ⟨.hbm, 642, rfl⟩
abbrev main_v404 : Ref sig .tc := ⟨.hbm, 643, rfl⟩
abbrev main_v405 : Ref sig .tc := ⟨.hbm, 644, rfl⟩
abbrev main_c_155 : Ref sig .tc := ⟨.hbm, 645, rfl⟩
abbrev main_call22_v0 : Ref sig .tc := ⟨.hbm, 646, rfl⟩
abbrev main_v406 : Ref sig .tc := ⟨.hbm, 647, rfl⟩
abbrev main_v407 : Ref sig .tc := ⟨.hbm, 648, rfl⟩
abbrev main_c_156 : Ref sig .tc := ⟨.hbm, 649, rfl⟩
abbrev main_call23_v0 : Ref sig .tc := ⟨.hbm, 650, rfl⟩
abbrev main_v408 : Ref sig .tc := ⟨.hbm, 651, rfl⟩
abbrev main_v409 : Ref sig .tc := ⟨.hbm, 652, rfl⟩
abbrev main_c_157 : Ref sig .tc := ⟨.hbm, 653, rfl⟩
abbrev main_call24_v0 : Ref sig .tc := ⟨.hbm, 654, rfl⟩
abbrev main_v410 : Ref sig .tc := ⟨.hbm, 655, rfl⟩
abbrev main_v411 : Ref sig .tc := ⟨.hbm, 656, rfl⟩
abbrev main_c_158 : Ref sig .tc := ⟨.hbm, 657, rfl⟩
abbrev main_call25_v0 : Ref sig .tc := ⟨.hbm, 658, rfl⟩
abbrev main_v412 : Ref sig .tc := ⟨.hbm, 659, rfl⟩
abbrev main_v413 : Ref sig .tc := ⟨.hbm, 660, rfl⟩
abbrev main_c_159 : Ref sig .tc := ⟨.hbm, 661, rfl⟩
abbrev main_call26_v0 : Ref sig .tc := ⟨.hbm, 662, rfl⟩
abbrev main_v414 : Ref sig .tc := ⟨.hbm, 663, rfl⟩
abbrev main_v415 : Ref sig .tc := ⟨.hbm, 664, rfl⟩
abbrev main_c_160 : Ref sig .tc := ⟨.hbm, 665, rfl⟩
abbrev main_call27_v0 : Ref sig .tc := ⟨.hbm, 666, rfl⟩
abbrev main_v416 : Ref sig .tc := ⟨.hbm, 667, rfl⟩
abbrev main_v417 : Ref sig .tc := ⟨.hbm, 668, rfl⟩
abbrev main_c_161 : Ref sig .tc := ⟨.hbm, 669, rfl⟩
abbrev main_call28_v0 : Ref sig .tc := ⟨.hbm, 670, rfl⟩
abbrev main_v418 : Ref sig .tc := ⟨.hbm, 671, rfl⟩
abbrev main_c_162 : Ref sig .tc := ⟨.hbm, 672, rfl⟩
abbrev main_call29_v0 : Ref sig .tc := ⟨.hbm, 673, rfl⟩
abbrev main_v419 : Ref sig .tc := ⟨.hbm, 674, rfl⟩
abbrev main_v420 : Ref sig .tc := ⟨.hbm, 675, rfl⟩
abbrev main_v421 : Ref sig .tc := ⟨.hbm, 676, rfl⟩
abbrev main_v422 : Ref sig .tc := ⟨.hbm, 677, rfl⟩
abbrev main_c_163 : Ref sig .tc := ⟨.hbm, 678, rfl⟩
abbrev main_call30_v0 : Ref sig .tc := ⟨.hbm, 679, rfl⟩
abbrev main_v423 : Ref sig .tc := ⟨.hbm, 680, rfl⟩
abbrev main_v424 : Ref sig .tc := ⟨.hbm, 681, rfl⟩
abbrev main_c_164 : Ref sig .tc := ⟨.hbm, 682, rfl⟩
abbrev main_call31_v0 : Ref sig .tc := ⟨.hbm, 683, rfl⟩
abbrev main_v425 : Ref sig .tc := ⟨.hbm, 684, rfl⟩
abbrev main_v426 : Ref sig .tc := ⟨.hbm, 685, rfl⟩
abbrev main_c_165 : Ref sig .tc := ⟨.hbm, 686, rfl⟩
abbrev main_call32_v0 : Ref sig .tc := ⟨.hbm, 687, rfl⟩
abbrev main_v427 : Ref sig .tc := ⟨.hbm, 688, rfl⟩
abbrev main_v428 : Ref sig .tc := ⟨.hbm, 689, rfl⟩
abbrev main_c_166 : Ref sig .tc := ⟨.hbm, 690, rfl⟩
abbrev main_call33_v0 : Ref sig .tc := ⟨.hbm, 691, rfl⟩
abbrev main_v429 : Ref sig .tc := ⟨.hbm, 692, rfl⟩
abbrev main_v430 : Ref sig .tc := ⟨.hbm, 693, rfl⟩
abbrev main_c_167 : Ref sig .tc := ⟨.hbm, 694, rfl⟩
abbrev main_call34_v0 : Ref sig .tc := ⟨.hbm, 695, rfl⟩
abbrev main_v431 : Ref sig .tc := ⟨.hbm, 696, rfl⟩
abbrev main_v432 : Ref sig .tc := ⟨.hbm, 697, rfl⟩
abbrev main_c_168 : Ref sig .tc := ⟨.hbm, 698, rfl⟩
abbrev main_call35_v0 : Ref sig .tc := ⟨.hbm, 699, rfl⟩
abbrev main_v433 : Ref sig .tc := ⟨.hbm, 700, rfl⟩
abbrev main_v434 : Ref sig .tc := ⟨.hbm, 701, rfl⟩
abbrev main_c_169 : Ref sig .tc := ⟨.hbm, 702, rfl⟩
abbrev main_call36_v0 : Ref sig .tc := ⟨.hbm, 703, rfl⟩
abbrev main_v435 : Ref sig .tc := ⟨.hbm, 704, rfl⟩
abbrev main_v436 : Ref sig .tc := ⟨.hbm, 705, rfl⟩
abbrev main_c_170 : Ref sig .tc := ⟨.hbm, 706, rfl⟩
abbrev main_call37_v0 : Ref sig .tc := ⟨.hbm, 707, rfl⟩
abbrev main_v437 : Ref sig .tc := ⟨.hbm, 708, rfl⟩
abbrev main_v438 : Ref sig .tc := ⟨.hbm, 709, rfl⟩
abbrev main_c_171 : Ref sig .tc := ⟨.hbm, 710, rfl⟩
abbrev main_call38_v0 : Ref sig .tc := ⟨.hbm, 711, rfl⟩
abbrev main_v439 : Ref sig .tc := ⟨.hbm, 712, rfl⟩
abbrev main_v440 : Ref sig .tc := ⟨.hbm, 713, rfl⟩
abbrev main_c_172 : Ref sig .tc := ⟨.hbm, 714, rfl⟩
abbrev main_call39_v0 : Ref sig .tc := ⟨.hbm, 715, rfl⟩
abbrev main_v441 : Ref sig .tc := ⟨.hbm, 716, rfl⟩
abbrev main_v442 : Ref sig .tc := ⟨.hbm, 717, rfl⟩
abbrev main_c_173 : Ref sig .tc := ⟨.hbm, 718, rfl⟩
abbrev main_call40_v0 : Ref sig .tc := ⟨.hbm, 719, rfl⟩
abbrev main_v443 : Ref sig .tc := ⟨.hbm, 720, rfl⟩
abbrev main_v444 : Ref sig .tc := ⟨.hbm, 721, rfl⟩
abbrev main_c_174 : Ref sig .tc := ⟨.hbm, 722, rfl⟩
abbrev main_call41_v0 : Ref sig .tc := ⟨.hbm, 723, rfl⟩
abbrev main_v445 : Ref sig .tc := ⟨.hbm, 724, rfl⟩
abbrev main_v446 : Ref sig .tc := ⟨.hbm, 725, rfl⟩
abbrev main_c_175 : Ref sig .tc := ⟨.hbm, 726, rfl⟩
abbrev main_call42_v0 : Ref sig .tc := ⟨.hbm, 727, rfl⟩
abbrev main_v447 : Ref sig .tc := ⟨.hbm, 728, rfl⟩
abbrev main_v448 : Ref sig .tc := ⟨.hbm, 729, rfl⟩
abbrev main_c_176 : Ref sig .tc := ⟨.hbm, 730, rfl⟩
abbrev main_call43_v0 : Ref sig .tc := ⟨.hbm, 731, rfl⟩
abbrev main_v449 : Ref sig .tc := ⟨.hbm, 732, rfl⟩
abbrev main_c_177 : Ref sig .tc := ⟨.hbm, 733, rfl⟩
abbrev main_call44_v0 : Ref sig .tc := ⟨.hbm, 734, rfl⟩
abbrev main_v450 : Ref sig .tc := ⟨.hbm, 735, rfl⟩
abbrev main_v451 : Ref sig .tc := ⟨.hbm, 736, rfl⟩
abbrev main_v452 : Ref sig .tc := ⟨.hbm, 737, rfl⟩
abbrev main_v453 : Ref sig .tc := ⟨.hbm, 738, rfl⟩
abbrev main_c_178 : Ref sig .tc := ⟨.hbm, 739, rfl⟩
abbrev main_call45_v0 : Ref sig .tc := ⟨.hbm, 740, rfl⟩
abbrev main_v454 : Ref sig .tc := ⟨.hbm, 741, rfl⟩
abbrev main_v455 : Ref sig .tc := ⟨.hbm, 742, rfl⟩
abbrev main_c_179 : Ref sig .tc := ⟨.hbm, 743, rfl⟩
abbrev main_call46_v0 : Ref sig .tc := ⟨.hbm, 744, rfl⟩
abbrev main_v456 : Ref sig .tc := ⟨.hbm, 745, rfl⟩
abbrev main_v457 : Ref sig .tc := ⟨.hbm, 746, rfl⟩
abbrev main_c_180 : Ref sig .tc := ⟨.hbm, 747, rfl⟩
abbrev main_call47_v0 : Ref sig .tc := ⟨.hbm, 748, rfl⟩
abbrev main_v458 : Ref sig .tc := ⟨.hbm, 749, rfl⟩
abbrev main_v459 : Ref sig .tc := ⟨.hbm, 750, rfl⟩
abbrev main_c_181 : Ref sig .tc := ⟨.hbm, 751, rfl⟩
abbrev main_call48_v0 : Ref sig .tc := ⟨.hbm, 752, rfl⟩
abbrev main_v460 : Ref sig .tc := ⟨.hbm, 753, rfl⟩
abbrev main_v461 : Ref sig .tc := ⟨.hbm, 754, rfl⟩
abbrev main_c_182 : Ref sig .tc := ⟨.hbm, 755, rfl⟩
abbrev main_call49_v0 : Ref sig .tc := ⟨.hbm, 756, rfl⟩
abbrev main_v462 : Ref sig .tc := ⟨.hbm, 757, rfl⟩
abbrev main_v463 : Ref sig .tc := ⟨.hbm, 758, rfl⟩
abbrev main_c_183 : Ref sig .tc := ⟨.hbm, 759, rfl⟩
abbrev main_call50_v0 : Ref sig .tc := ⟨.hbm, 760, rfl⟩
abbrev main_v464 : Ref sig .tc := ⟨.hbm, 761, rfl⟩
abbrev main_v465 : Ref sig .tc := ⟨.hbm, 762, rfl⟩
abbrev main_c_184 : Ref sig .tc := ⟨.hbm, 763, rfl⟩
abbrev main_call51_v0 : Ref sig .tc := ⟨.hbm, 764, rfl⟩
abbrev main_v466 : Ref sig .tc := ⟨.hbm, 765, rfl⟩
abbrev main_v467 : Ref sig .tc := ⟨.hbm, 766, rfl⟩
abbrev main_c_185 : Ref sig .tc := ⟨.hbm, 767, rfl⟩
abbrev main_call52_v0 : Ref sig .tc := ⟨.hbm, 768, rfl⟩
abbrev main_v468 : Ref sig .tc := ⟨.hbm, 769, rfl⟩
abbrev main_v469 : Ref sig .tc := ⟨.hbm, 770, rfl⟩
abbrev main_c_186 : Ref sig .tc := ⟨.hbm, 771, rfl⟩
abbrev main_call53_v0 : Ref sig .tc := ⟨.hbm, 772, rfl⟩
abbrev main_v470 : Ref sig .tc := ⟨.hbm, 773, rfl⟩
abbrev main_v471 : Ref sig .tc := ⟨.hbm, 774, rfl⟩
abbrev main_c_187 : Ref sig .tc := ⟨.hbm, 775, rfl⟩
abbrev main_call54_v0 : Ref sig .tc := ⟨.hbm, 776, rfl⟩
abbrev main_v472 : Ref sig .tc := ⟨.hbm, 777, rfl⟩
abbrev main_v473 : Ref sig .tc := ⟨.hbm, 778, rfl⟩
abbrev main_c_188 : Ref sig .tc := ⟨.hbm, 779, rfl⟩
abbrev main_call55_v0 : Ref sig .tc := ⟨.hbm, 780, rfl⟩
abbrev main_v474 : Ref sig .tc := ⟨.hbm, 781, rfl⟩
abbrev main_v475 : Ref sig .tc := ⟨.hbm, 782, rfl⟩
abbrev main_c_189 : Ref sig .tc := ⟨.hbm, 783, rfl⟩
abbrev main_call56_v0 : Ref sig .tc := ⟨.hbm, 784, rfl⟩
abbrev main_v476 : Ref sig .tc := ⟨.hbm, 785, rfl⟩
abbrev main_v477 : Ref sig .tc := ⟨.hbm, 786, rfl⟩
abbrev main_c_190 : Ref sig .tc := ⟨.hbm, 787, rfl⟩
abbrev main_call57_v0 : Ref sig .tc := ⟨.hbm, 788, rfl⟩
abbrev main_v478 : Ref sig .tc := ⟨.hbm, 789, rfl⟩
abbrev main_v479 : Ref sig .tc := ⟨.hbm, 790, rfl⟩
abbrev main_c_191 : Ref sig .tc := ⟨.hbm, 791, rfl⟩
abbrev main_call58_v0 : Ref sig .tc := ⟨.hbm, 792, rfl⟩
abbrev main_v480 : Ref sig .tc := ⟨.hbm, 793, rfl⟩
abbrev main_c_192 : Ref sig .tc := ⟨.hbm, 794, rfl⟩
abbrev main_call59_v0 : Ref sig .tc := ⟨.hbm, 795, rfl⟩
abbrev main_v481 : Ref sig .tc := ⟨.hbm, 796, rfl⟩
abbrev main_v482 : Ref sig .tc := ⟨.hbm, 797, rfl⟩
abbrev main_v483 : Ref sig .tc := ⟨.hbm, 798, rfl⟩

abbrev nD : Nat := 1
abbrev τ : Topo := Topo.v7x

variable {F : FTy → Type} [FloatOps F]
-- ==== Kernel19.lean ====
abbrev S8704x4736 : Shape := ⟨2, ![8704, 4736]⟩
abbrev S4x2064x1024 : Shape := ⟨3, ![4, 2064, 1024]⟩
abbrev S4x1024 : Shape := ⟨2, ![4, 1024]⟩
abbrev S_ : Shape := ⟨0, ![]⟩
abbrev S4x112x1024 : Shape := ⟨3, ![4, 112, 1024]⟩
abbrev S4x2176x1024 : Shape := ⟨3, ![4, 2176, 1024]⟩
abbrev S8704x1024 : Shape := ⟨2, ![8704, 1024]⟩
abbrev S1x1024 : Shape := ⟨2, ![1, 1024]⟩
abbrev S256x512 : Shape := ⟨2, ![256, 512]⟩
abbrev S8x512 : Shape := ⟨2, ![8, 512]⟩
abbrev S4x512 : Shape := ⟨2, ![4, 512]⟩
abbrev S1x512 : Shape := ⟨2, ![1, 512]⟩
abbrev S512 : Shape := ⟨1, ![512]⟩

abbrev nBuf : Space → Nat
  | .hbm => 10
  | .vmem => 16
  | .smem => 0
  | _ => 0

abbrev bufTy : (tb : Table) → Fin (tcTables nBuf tb) → BufTy
  | .hbm, ⟨0, _⟩ => ⟨S8704x4736, .f32⟩
  | .hbm, ⟨1, _⟩ => ⟨S4x2064x1024, .f32⟩
  | .hbm, ⟨2, _⟩ => ⟨S4x1024, .f32⟩
  | .hbm, ⟨3, _⟩ => ⟨S_, .f32⟩
  | .hbm, ⟨4, _⟩ => ⟨S4x112x1024, .f32⟩
  | .hbm, ⟨5, _⟩ => ⟨S4x2176x1024, .f32⟩
  | .hbm, ⟨6, _⟩ => ⟨S8704x1024, .f32⟩
  | .hbm, ⟨7, _⟩ => ⟨S8704x1024, .bf16⟩
  | .hbm, ⟨8, _⟩ => ⟨S4x1024, .f32⟩
  | .hbm, ⟨9, _⟩ => ⟨S1x1024, .f32⟩
  | .local _ .vmem, ⟨0, _⟩ => ⟨S256x512, .f32⟩
  | .local _ .vmem, ⟨1, _⟩ => ⟨S256x512, .f32⟩
  | .local _ .vmem, ⟨2, _⟩ => ⟨S8x512, .f32⟩
  | .local _ .vmem, ⟨3, _⟩ => ⟨S8x512, .f32⟩
  | .local _ .vmem, ⟨4, _⟩ => ⟨S256x512, .f32⟩
  | .local _ .vmem, ⟨5, _⟩ => ⟨S256x512, .f32⟩
  | .local _ .vmem, ⟨6, _⟩ => ⟨S8x512, .f32⟩
  | .local _ .vmem, ⟨7, _⟩ => ⟨S8x512, .f32⟩
  | .local _ .vmem, ⟨8, _⟩ => ⟨S4x512, .f32⟩
  | .local _ .vmem, ⟨9, _⟩ => ⟨S4x512, .f32⟩
  | .local _ .vmem, ⟨10, _⟩ => ⟨S256x512, .bf16⟩
  | .local _ .vmem, ⟨11, _⟩ => ⟨S256x512, .bf16⟩
  | .local _ .vmem, ⟨12, _⟩ => ⟨S4x512, .f32⟩
  | .local _ .vmem, ⟨13, _⟩ => ⟨S4x512, .f32⟩
  | .local _ .vmem, ⟨14, _⟩ => ⟨S1x512, .f32⟩
  | .local _ .vmem, ⟨15, _⟩ => ⟨S1x512, .f32⟩
  | _, _ => ⟨S8704x4736, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 34], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 arg0
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1087_i32 : BitVec 32 := 1087#32
  let v2 : BitVec 32 := Scalar.minsi v1 c1087_i32
  let c0_i32 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference19Ideal.lean ====
abbrev S8704x4736 : Shape := ⟨2, ![8704, 4736]⟩
abbrev S4x2064x1024 : Shape := ⟨3, ![4, 2064, 1024]⟩
abbrev S4x1024 : Shape := ⟨2, ![4, 1024]⟩
abbrev S8704x1024 : Shape := ⟨2, ![8704, 1024]⟩
abbrev S_ : Shape := ⟨0, ![]⟩
abbrev S1x1024 : Shape := ⟨2, ![1, 1024]⟩
abbrev S4x2176x1024 : Shape := ⟨3, ![4, 2176, 1024]⟩
abbrev S4x3x1024 : Shape := ⟨3, ![4, 3, 1024]⟩
abbrev S4x2179x1024 : Shape := ⟨3, ![4, 2179, 1024]⟩
abbrev S1x1x1024 : Shape := ⟨3, ![1, 1, 1024]⟩
abbrev S4x112x1024 : Shape := ⟨3, ![4, 112, 1024]⟩
abbrev S1024 : Shape := ⟨1, ![1024]⟩

abbrev nBuf : Space → Nat
  | .hbm => 112
  | .vmem => 0
  | .smem => 0
  | _ => 0

abbrev bufTy : (tb : Table) → Fin (tcTables nBuf tb) → BufTy
  | .hbm, ⟨0, _⟩ => ⟨S8704x4736, .f32⟩
  | .hbm, ⟨1, _⟩ => ⟨S4x2064x1024, .f32⟩
  | .hbm, ⟨2, _⟩ => ⟨S4x1024, .f32⟩
  | .hbm, ⟨3, _⟩ => ⟨S8704x1024, .f32⟩
  | .hbm, ⟨4, _⟩ => ⟨S_, .f32⟩
  | .hbm, ⟨5, _⟩ => ⟨S1x1024, .f32⟩
  | .hbm, ⟨6, _⟩ => ⟨S4x2176x1024, .f32⟩
  | .hbm, ⟨7, _⟩ => ⟨S_, .f32⟩
  | .hbm, ⟨8, _⟩ => ⟨S4x3x1024, .f32⟩
  | .hbm, ⟨9, _⟩ => ⟨S4x2179x1024, .f32⟩
  | .hbm, ⟨10, _⟩ => ⟨S_, .f32⟩
  | .hbm, ⟨11, _⟩ => ⟨S4x3x1024, .f32⟩
  | .hbm, ⟨12, _⟩ => ⟨S4x2176x1024, .f32⟩
  | .hbm, ⟨13, _⟩ => ⟨S1x1024, .f32⟩
  | .hbm, ⟨14, _⟩ => ⟨S1x1x1024, .f32⟩
  | .hbm, ⟨15, _⟩ => ⟨S4x2176x1024, .f32⟩
  | .hbm, ⟨16, _⟩ => ⟨S4x2176x1024, .f32⟩
  | .hbm, ⟨17, _⟩ => ⟨S_, .f32⟩
  | .hbm, ⟨18, _⟩ => ⟨S4x2176x1024, .f32⟩
  | .hbm, ⟨19, _⟩ => ⟨S4x2176x1024, .f32⟩
  | .hbm, ⟨20, _⟩ => ⟨S4x2176x1024, .f32⟩
  | .hbm, ⟨21, _⟩ => ⟨S1x1024, .f32⟩
  | .hbm, ⟨22, _⟩ => ⟨S1x1x1024, .f32⟩
  | .hbm, ⟨23, _⟩ => ⟨S4x2176x1024, .f32⟩
  | .hbm, ⟨24, _⟩ => ⟨S4x2176x1024, .f32⟩
  | .hbm, ⟨25, _⟩ => ⟨S4x2176x1024, .f32⟩
  | .hbm, ⟨26, _⟩ => ⟨S4x2176x1024, .f32⟩
  | .hbm, ⟨27, _⟩ => ⟨S1x1024, .f32⟩
  | .hbm, ⟨28, _⟩ => ⟨S1x1x1024, .f32⟩
  | .hbm, ⟨29, _⟩ => ⟨S4x2176x1024, .f32⟩
  | .hbm, ⟨30, _⟩ => ⟨S4x2176x1024, .f32⟩
  | .hbm, ⟨31, _⟩ => ⟨S4x2176x1024, .f32⟩
  | .hbm, ⟨32, _⟩ => ⟨S4x2176x1024, .f32⟩
  | .hbm, ⟨33, _⟩ => ⟨S1x1024, .f32⟩
  | .hbm, ⟨34, _⟩ => ⟨S1x1x1024, .f32⟩
  | .hbm, ⟨35, _⟩ => ⟨S4x2176x1024, .f32⟩
  | .hbm, ⟨36, _⟩ => ⟨S4x2176x1024, .f32⟩
  | .hbm, ⟨37, _⟩ => ⟨S4x2176x1024, .f32⟩
  | .hbm, ⟨38, _⟩ => ⟨S1x1x1024, .f32⟩
  | .hbm, ⟨39, _⟩ => ⟨S4x2176x1024, .f32⟩
  | .hbm, ⟨40, _⟩ => ⟨S4x2176x1024, .f32⟩
  | .hbm, ⟨41, _⟩ => ⟨S_, .f32⟩
  | .hbm, ⟨42, _⟩ => ⟨S4x112x1024, .f32⟩
  | .hbm, ⟨43, _⟩ => ⟨S4x2176x1024, .f32⟩
  | .hbm, ⟨44, _⟩ => ⟨S_, .f32⟩
  | .hbm, ⟨45, _⟩ => ⟨S1024, .f32⟩
  | .hbm, ⟨46, _⟩ => ⟨S1x1x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4x2176x1024, .f32⟩
  | .hbm, ⟨51, _⟩ => ⟨S_, .f32⟩
  | .hbm, ⟨52, _⟩ => ⟨S1024, .f32⟩
  | .hbm, ⟨53, _⟩ => ⟨S1x1x1024, .f32⟩
  | .hbm, ⟨54, _⟩ => ⟨S4x2176x1024, .f32⟩
  | .hbm, ⟨55, _⟩ => ⟨S4x2176x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S_, .f32⟩
  | .hbm, ⟨60, _⟩ => ⟨S4x1024, .f32⟩
  | .hbm, ⟨61, _⟩ => ⟨S_, .f32⟩
  | .hbm, ⟨62, _⟩ => ⟨S4x2179x1024, .f32⟩
  | .hbm, ⟨63, _⟩ => ⟨S4x2176x1024, .f32⟩
  | .hbm, ⟨64, _⟩ => ⟨S_, .f32⟩
  | .hbm, ⟨65, _⟩ => ⟨S1024, .f32⟩
  | .hbm, ⟨66, _⟩ => ⟨S1x1x1024, .f32⟩
  | .hbm, ⟨67, _⟩ => ⟨S4x2176x1024, .f32⟩
  | .hbm, ⟨68, _⟩ => ⟨S4x2176x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S_, .f32⟩
  | .hbm, ⟨73, _⟩ => ⟨S4x1024, .f32⟩
  | .hbm, ⟨74, _⟩ => ⟨S4x1024, .f32⟩
  | .hbm, ⟨75, _⟩ => ⟨S_, .f32⟩
  | .hbm, ⟨76, _⟩ => ⟨S4x2179x1024, .f32⟩
  | .hbm, ⟨77, _⟩ => ⟨S4x2179x1024, .f32⟩
  | .hbm, ⟨78, _⟩ => ⟨S4x2176x1024, .f32⟩
  | .hbm, ⟨79, _⟩ => ⟨S_, .f32⟩
  | .hbm, ⟨80, _⟩ => ⟨S1024, .f32⟩
  | .hbm, ⟨81, _⟩ => ⟨S1x1x1024, .f32⟩
  | .hbm, ⟨82, _⟩ => ⟨S4x2176x1024, .f32⟩
  | .hbm, ⟨83, _⟩ => ⟨S4x2176x1024, .f32⟩
  | .hbm, ⟨84, _⟩ => ⟨S_, .f32⟩
  | .hbm, ⟨85, _⟩ => ⟨S1024, .f32⟩
  | .hbm, ⟨86, _⟩ => ⟨S1x1024, .f32⟩
  | .hbm, ⟨87, _⟩ => ⟨S_, .f32⟩
  | .hbm, ⟨88, _⟩ => ⟨S4x1024, .f32⟩
  | .hbm, ⟨89, _⟩ => ⟨S4x1024, .f32⟩
  | .hbm, ⟨90, _⟩ => ⟨S_, .f32⟩
  | .hbm, ⟨91, _⟩ => ⟨S4x2179x1024, .f32⟩
  | .hbm, ⟨92, _⟩ => ⟨S4x2179x1024, .f32⟩
  | .hbm, ⟨93, _⟩ => ⟨S4x2176x1024, .f32⟩
  | .hbm, ⟨94, _⟩ => ⟨S_, .f32⟩
  | .hbm, ⟨95, _⟩ => ⟨S1024, .f32⟩
  | .hbm, ⟨96, _⟩ => ⟨S1x1x1024, .f32⟩
  | .hbm, ⟨97, _⟩ => ⟨S4x2176x1024, .f32⟩
  | .hbm, ⟨98, _⟩ => ⟨S4x2176x1024, .f32⟩
  | .hbm, ⟨99, _⟩ => ⟨S_, .f32⟩
  | .hbm, ⟨100, _⟩ => ⟨S1024, .f32⟩
  | .hbm, ⟨101, _⟩ => ⟨S1x1024, .f32⟩
  | .hbm, ⟨102, _⟩ => ⟨S_, .f32⟩
  | .hbm, ⟨103, _⟩ => ⟨S4x1024, .f32⟩
  | .hbm, ⟨104, _⟩ => ⟨S4x1024, .f32⟩
  | .hbm, ⟨105, _⟩ => ⟨S_, .f32⟩
  | .hbm, ⟨106, _⟩ => ⟨S4x2179x1024, .f32⟩
  | .hbm, ⟨107, _⟩ => ⟨S4x2179x1024, .f32⟩
  | .hbm, ⟨108, _⟩ => ⟨S4x3x1024, .f32⟩
  | .hbm, ⟨109, _⟩ => ⟨S4x2176x1024, .f32⟩
  | .hbm, ⟨110, _⟩ => ⟨S8704x1024, .f32⟩
  | .hbm, ⟨111, _⟩ => ⟨S8704x1024, .bf16⟩
  | _, _ => ⟨S8704x4736, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_3 : Ref sig .tc := ⟨.hbm, 41, rfl⟩
abbrev main_v34 : Ref sig .tc := ⟨.hbm, 42, rfl⟩
abbrev main_v35 : Ref sig .tc := ⟨.hbm, 43, rfl⟩
abbrev main_cst_4 : Ref sig .tc := ⟨.hbm, 44, rfl⟩
abbrev main_v36 : Ref sig .tc := ⟨.hbm, 45, rfl⟩
abbrev main_v37 : Ref sig .tc := ⟨.hbm, 46, rfl⟩
abbrev main_cst_5 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_6 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_7 : Ref sig .tc := ⟨.hbm, 56, rfl⟩
abbrev main_v45 : Ref sig .tc := ⟨.hbm, 57, rfl⟩
abbrev main_v46 : Ref sig .tc := ⟨.hbm, 58, rfl⟩
abbrev main_cst_8 : Ref sig .tc := ⟨.hbm, 59, rfl⟩
abbrev main_v47 : Ref sig .tc := ⟨.hbm, 60, rfl⟩
abbrev main_cst_9 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_11 : Ref sig .tc := ⟨.hbm, 69, rfl⟩
abbrev main_v54 : Ref sig .tc := ⟨.hbm, 70, rfl⟩
abbrev main_v55 : Ref sig .tc := ⟨.hbm, 71, rfl⟩
abbrev main_cst_12 : Ref sig .tc := ⟨.hbm, 72, rfl⟩
abbrev main_v56 : Ref sig .tc := ⟨.hbm, 73, rfl⟩
abbrev main_v57 : Ref sig .tc := ⟨.hbm, 74, rfl⟩
abbrev main_cst_13 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_14 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_15 : Ref sig .tc := ⟨.hbm, 84, rfl⟩
abbrev main_v65 : Ref sig .tc := ⟨.hbm, 85, rfl⟩
abbrev main_v66 : Ref sig .tc := ⟨.hbm, 86, rfl⟩
abbrev main_cst_16 : Ref sig .tc := ⟨.hbm, 87, rfl⟩
abbrev main_v67 : Ref sig .tc := ⟨.hbm, 88, rfl⟩
abbrev main_v68 : Ref sig .tc := ⟨.hbm, 89, rfl⟩
abbrev main_cst_17 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_18 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_19 : Ref sig .tc := ⟨.hbm, 99, rfl⟩
abbrev main_v76 : Ref sig .tc := ⟨.hbm, 100, rfl⟩
abbrev main_v77 : Ref sig .tc := ⟨.hbm, 101, rfl⟩
abbrev main_cst_20 : Ref sig .tc := ⟨.hbm, 102, rfl⟩
abbrev main_v78 : Ref sig .tc := ⟨.hbm, 103, rfl⟩
abbrev main_v79 : Ref sig .tc := ⟨.hbm, 104, rfl⟩
abbrev main_cst_21 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩

abbrev nD : Nat := 1
abbrev τ : Topo := Topo.v7x

variable {F : FTy → Type} [FloatOps F]
-- ==== Kernel20.lean ====
abbrev S8704x4736 : Shape := ⟨2, ![8704, 4736]⟩
abbrev S4x2064x1536 : Shape := ⟨3, ![4, 2064, 1536]⟩
abbrev S4x1536 : Shape := ⟨2, ![4, 1536]⟩
abbrev S_ : Shape := ⟨0, ![]⟩
abbrev S4x112x1536 : Shape := ⟨3, ![4, 112, 1536]⟩
abbrev S4x2176x1536 : Shape := ⟨3, ![4, 2176, 1536]⟩
abbrev S8704x1536 : Shape := ⟨2, ![8704, 1536]⟩
abbrev S1x1536 : Shape := ⟨2, ![1, 1536]⟩
abbrev S256x512 : Shape := ⟨2, ![256, 512]⟩
abbrev S8x512 : Shape := ⟨2, ![8, 512]⟩
abbrev S4x512 : Shape := ⟨2, ![4, 512]⟩
abbrev S1x512 : Shape := ⟨2, ![1, 512]⟩
abbrev S512 : Shape := ⟨1, ![512]⟩

abbrev nBuf : Space → Nat
  | .hbm => 10
  | .vmem => 16
  | .smem => 0
  | _ => 0

abbrev bufTy : (tb : Table) → Fin (tcTables nBuf tb) → BufTy
  | .hbm, ⟨0, _⟩ => ⟨S8704x4736, .f32⟩
  | .hbm, ⟨1, _⟩ => ⟨S4x2064x1536, .f32⟩
  | .hbm, ⟨2, _⟩ => ⟨S4x1536, .f32⟩
  | .hbm, ⟨3, _⟩ => ⟨S_, .f32⟩
  | .hbm, ⟨4, _⟩ => ⟨S4x112x1536, .f32⟩
  | .hbm, ⟨5, _⟩ => ⟨S4x2176x1536, .f32⟩
  | .hbm, ⟨6, _⟩ => ⟨S8704x1536, .f32⟩
  | .hbm, ⟨7, _⟩ => ⟨S8704x1536, .bf16⟩
  | .hbm, ⟨8, _⟩ => ⟨S4x1536, .f32⟩
  | .hbm, ⟨9, _⟩ => ⟨S1x1536, .f32⟩
  | .local _ .vmem, ⟨0, _⟩ => ⟨S256x512, .f32⟩
  | .local _ .vmem, ⟨1, _⟩ => ⟨S256x512, .f32⟩
  | .local _ .vmem, ⟨2, _⟩ => ⟨S8x512, .f32⟩
  | .local _ .vmem, ⟨3, _⟩ => ⟨S8x512, .f32⟩
  | .local _ .vmem, ⟨4, _⟩ => ⟨S256x512, .f32⟩
  | .local _ .vmem, ⟨5, _⟩ => ⟨S256x512, .f32⟩
  | .local _ .vmem, ⟨6, _⟩ => ⟨S8x512, .f32⟩
  | .local _ .vmem, ⟨7, _⟩ => ⟨S8x512, .f32⟩
  | .local _ .vmem, ⟨8, _⟩ => ⟨S4x512, .f32⟩
  | .local _ .vmem, ⟨9, _⟩ => ⟨S4x512, .f32⟩
  | .local _ .vmem, ⟨10, _⟩ => ⟨S256x512, .bf16⟩
  | .local _ .vmem, ⟨11, _⟩ => ⟨S256x512, .bf16⟩
  | .local _ .vmem, ⟨12, _⟩ => ⟨S4x512, .f32⟩
  | .local _ .vmem, ⟨13, _⟩ => ⟨S4x512, .f32⟩
  | .local _ .vmem, ⟨14, _⟩ => ⟨S1x512, .f32⟩
  | .local _ .vmem, ⟨15, _⟩ => ⟨S1x512, .f32⟩
  | _, _ => ⟨S8704x4736, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![3, 34], ![false, false]⟩

def cc0_transform_0 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let v3 : BitVec 32 := Scalar.addi c6_i32 arg0
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1087_i32 : BitVec 32 := 1087#32
  let v2 : BitVec 32 := Scalar.minsi v1 c1087_i32
  let c0_i32 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference20Ideal.lean ====
abbrev S8704x4736 : Shape := ⟨2, ![8704, 4736]⟩
abbrev S4x2064x1536 : Shape := ⟨3, ![4, 2064, 1536]⟩
abbrev S4x1536 : Shape := ⟨2, ![4, 1536]⟩
abbrev S8704x1536 : Shape := ⟨2, ![8704, 1536]⟩
abbrev S_ : Shape := ⟨0, ![]⟩
abbrev S1x1536 : Shape := ⟨2, ![1, 1536]⟩
abbrev S4x2176x1536 : Shape := ⟨3, ![4, 2176, 1536]⟩
abbrev S4x3x1536 : Shape := ⟨3, ![4, 3, 1536]⟩
abbrev S4x2179x1536 : Shape := ⟨3, ![4, 2179, 1536]⟩
abbrev S1x1x1536 : Shape := ⟨3, ![1, 1, 1536]⟩
abbrev S4x112x1536 : Shape := ⟨3, ![4, 112, 1536]⟩
abbrev S1536 : Shape := ⟨1, ![1536]⟩

abbrev nBuf : Space → Nat
  | .hbm => 112
  | .vmem => 0
  | .smem => 0
  | _ => 0

abbrev bufTy : (tb : Table) → Fin (tcTables nBuf tb) → BufTy
  | .hbm, ⟨0, _⟩ => ⟨S8704x4736, .f32⟩
  | .hbm, ⟨1, _⟩ => ⟨S4x2064x1536, .f32⟩
  | .hbm, ⟨2, _⟩ => ⟨S4x1536, .f32⟩
  | .hbm, ⟨3, _⟩ => ⟨S8704x1536, .f32⟩
  | .hbm, ⟨4, _⟩ => ⟨S_, .f32⟩
  | .hbm, ⟨5, _⟩ => ⟨S1x1536, .f32⟩
  | .hbm, ⟨6, _⟩ => ⟨S4x2176x1536, .f32⟩
  | .hbm, ⟨7, _⟩ => ⟨S_, .f32⟩
  | .hbm, ⟨8, _⟩ => ⟨S4x3x1536, .f32⟩
  | .hbm, ⟨9, _⟩ => ⟨S4x2179x1536, .f32⟩
  | .hbm, ⟨10, _⟩ => ⟨S_, .f32⟩
  | .hbm, ⟨11, _⟩ => ⟨S4x3x1536, .f32⟩
  | .hbm, ⟨12, _⟩ => ⟨S4x2176x1536, .f32⟩
  | .hbm, ⟨13, _⟩ => ⟨S1x1536, .f32⟩
  | .hbm, ⟨14, _⟩ => ⟨S1x1x1536, .f32⟩
  | .hbm, ⟨15, _⟩ => ⟨S4x2176x1536, .f32⟩
  | .hbm, ⟨16, _⟩ => ⟨S4x2176x1536, .f32⟩
  | .hbm, ⟨17, _⟩ => ⟨S_, .f32⟩
  | .hbm, ⟨18, _⟩ => ⟨S4x2176x1536, .f32⟩
  | .hbm, ⟨19, _⟩ => ⟨S4x2176x1536, .f32⟩
  | .hbm, ⟨20, _⟩ => ⟨S4x2176x1536, .f32⟩
  | .hbm, ⟨21, _⟩ => ⟨S1x1536, .f32⟩
  | .hbm, ⟨22, _⟩ => ⟨S1x1x1536, .f32⟩
  | .hbm, ⟨23, _⟩ => ⟨S4x2176x1536, .f32⟩
  | .hbm, ⟨24, _⟩ => ⟨S4x2176x1536, .f32⟩
  | .hbm, ⟨25, _⟩ => ⟨S4x2176x1536, .f32⟩
  | .hbm, ⟨26, _⟩ => ⟨S4x2176x1536, .f32⟩
  | .hbm, ⟨27, _⟩ => ⟨S1x1536, .f32⟩
  | .hbm, ⟨28, _⟩ => ⟨S1x1x1536, .f32⟩
  | .hbm, ⟨29, _⟩ => ⟨S4x2176x1536, .f32⟩
  | .hbm, ⟨30, _⟩ => ⟨S4x2176x1536, .f32⟩
  | .hbm, ⟨31, _⟩ => ⟨S4x2176x1536, .f32⟩
  | .hbm, ⟨32, _⟩ => ⟨S4x2176x1536, .f32⟩
  | .hbm, ⟨33, _⟩ => ⟨S1x1536, .f32⟩
  | .hbm, ⟨34, _⟩ => ⟨S1x1x1536, .f32⟩
  | .hbm, ⟨35, _⟩ => ⟨S4x2176x1536, .f32⟩
  | .hbm, ⟨36, _⟩ => ⟨S4x2176x1536, .f32⟩
  | .hbm, ⟨37, _⟩ => ⟨S4x2176x1536, .f32⟩
  | .hbm, ⟨38, _⟩ => ⟨S1x1x1536, .f32⟩
  | .hbm, ⟨39, _⟩ => ⟨S4x2176x1536, .f32⟩
  | .hbm, ⟨40, _⟩ => ⟨S4x2176x1536, .f32⟩
  | .hbm, ⟨41, _⟩ => ⟨S_, .f32⟩
  | .hbm, ⟨42, _⟩ => ⟨S4x112x1536, .f32⟩
  | .hbm, ⟨43, _⟩ => ⟨S4x2176x1536, .f32⟩
  | .hbm, ⟨44, _⟩ => ⟨S_, .f32⟩
  | .hbm, ⟨45, _⟩ => ⟨S1536, .f32⟩
  | .hbm, ⟨46, _⟩ => ⟨S1x1x1536, .f32⟩
  | .hbm, ⟨47, _⟩ => ⟨S_, .f32⟩
  | .hbm, ⟨48, _⟩ => ⟨S1536, .f32⟩
  | .hbm, ⟨49, _⟩ => ⟨S1x1536, .f32⟩
  | .hbm, ⟨50, _⟩ => ⟨S4x2176x1536, .f32⟩
  | .hbm, ⟨51, _⟩ => ⟨S_, .f32⟩
  | .hbm, ⟨52, _⟩ => ⟨S1536, .f32⟩
  | .hbm, ⟨53, _⟩ => ⟨S1x1x1536, .f32⟩
  | .hbm, ⟨54, _⟩ => ⟨S4x2176x1536, .f32⟩
  | .hbm, ⟨55, _⟩ => ⟨S4x2176x1536, .f32⟩
  | .hbm, ⟨56, _⟩ => ⟨S_, .f32⟩
  | .hbm, ⟨57, _⟩ => ⟨S1536, .f32⟩
  | .hbm, ⟨58, _⟩ => ⟨S1x1536, .f32⟩
  | .hbm, ⟨59, _⟩ => ⟨S_, .f32⟩
  | .hbm, ⟨60, _⟩ => ⟨S4x1536, .f32⟩
  | .hbm, ⟨61, _⟩ => ⟨S_, .f32⟩
  | .hbm, ⟨62, _⟩ => ⟨S4x2179x1536, .f32⟩
  | .hbm, ⟨63, _⟩ => ⟨S4x2176x1536, .f32⟩
  | .hbm, ⟨64, _⟩ => ⟨S_, .f32⟩
  | .hbm, ⟨65, _⟩ => ⟨S1536, .f32⟩
  | .hbm, ⟨66, _⟩ => ⟨S1x1x1536, .f32⟩
  | .hbm, ⟨67, _⟩ => ⟨S4x2176x1536, .f32⟩
  | .hbm, ⟨68, _⟩ => ⟨S4x2176x1536, .f32⟩
  | .hbm, ⟨69, _⟩ => ⟨S_, .f32⟩
  | .hbm, ⟨70, _⟩ => ⟨S1536, .f32⟩
  | .hbm, ⟨71, _⟩ => ⟨S1x1536, .f32⟩
  | .hbm, ⟨72, _⟩ => ⟨S_, .f32⟩
  | .hbm, ⟨73, _⟩ => ⟨S4x1536, .f32⟩
  | .hbm, ⟨74, _⟩ => ⟨S4x1536, .f32⟩
  | .hbm, ⟨75, _⟩ => ⟨S_, .f32⟩
  | .hbm, ⟨76, _⟩ => ⟨S4x2179x1536, .f32⟩
  | .hbm, ⟨77, _⟩ => ⟨S4x2179x1536, .f32⟩
  | .hbm, ⟨78, _⟩ => ⟨S4x2176x1536, .f32⟩
  | .hbm, ⟨79, _⟩ => ⟨S_, .f32⟩
  | .hbm, ⟨80, _⟩ => ⟨S1536, .f32⟩
  | .hbm, ⟨81, _⟩ => ⟨S1x1x1536, .f32⟩
  | .hbm, ⟨82, _⟩ => ⟨S4x2176x1536, .f32⟩
  | .hbm, ⟨83, _⟩ => ⟨S4x2176x1536, .f32⟩
  | .hbm, ⟨84, _⟩ => ⟨S_, .f32⟩
  | .hbm, ⟨85, _⟩ => ⟨S1536, .f32⟩
  | .hbm, ⟨86, _⟩ => ⟨S1x1536, .f32⟩
  | .hbm, ⟨87, _⟩ => ⟨S_, .f32⟩
  | .hbm, ⟨88, _⟩ => ⟨S4x1536, .f32⟩
  | .hbm, ⟨89, _⟩ => ⟨S4x1536, .f32⟩
  | .hbm, ⟨90, _⟩ => ⟨S_, .f32⟩
  | .hbm, ⟨91, _⟩ => ⟨S4x2179x1536, .f32⟩
  | .hbm, ⟨92, _⟩ => ⟨S4x2179x1536, .f32⟩
  | .hbm, ⟨93, _⟩ => ⟨S4x2176x1536, .f32⟩
  | .hbm, ⟨94, _⟩ => ⟨S_, .f32⟩
  | .hbm, ⟨95, _⟩ => ⟨S1536, .f32⟩
  | .hbm, ⟨96, _⟩ => ⟨S1x1x1536, .f32⟩
  | .hbm, ⟨97, _⟩ => ⟨S4x2176x1536, .f32⟩
  | .hbm, ⟨98, _⟩ => ⟨S4x2176x1536, .f32⟩
  | .hbm, ⟨99, _⟩ => ⟨S_, .f32⟩
  | .hbm, ⟨100, _⟩ => ⟨S1536, .f32⟩
  | .hbm, ⟨101, _⟩ => ⟨S1x1536, .f32⟩
  | .hbm, ⟨102, _⟩ => ⟨S_, .f32⟩
  | .hbm, ⟨103, _⟩ => ⟨S4x1536, .f32⟩
  | .hbm, ⟨104, _⟩ => ⟨S4x1536, .f32⟩
  | .hbm, ⟨105, _⟩ => ⟨S_, .f32⟩
  | .hbm, ⟨106, _⟩ => ⟨S4x2179x1536, .f32⟩
  | .hbm, ⟨107, _⟩ => ⟨S4x2179x1536, .f32⟩
  | .hbm, ⟨108, _⟩ => ⟨S4x3x1536, .f32⟩
  | .hbm, ⟨109, _⟩ => ⟨S4x2176x1536, .f32⟩
  | .hbm, ⟨110, _⟩ => ⟨S8704x1536, .f32⟩
  | .hbm, ⟨111, _⟩ => ⟨S8704x1536, .bf16⟩
  | _, _ => ⟨S8704x4736, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_3 : Ref sig .tc := ⟨.hbm, 41, rfl⟩
abbrev main_v34 : Ref sig .tc := ⟨.hbm, 42, rfl⟩
abbrev main_v35 : Ref sig .tc := ⟨.hbm, 43, rfl⟩
abbrev main_cst_4 : Ref sig .tc := ⟨.hbm, 44, rfl⟩
abbrev main_v36 : Ref sig .tc := ⟨.hbm, 45, rfl⟩
abbrev main_v37 : Ref sig .tc := ⟨.hbm, 46, rfl⟩
abbrev main_cst_5 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_6 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_7 : Ref sig .tc := ⟨.hbm, 56, rfl⟩
abbrev main_v45 : Ref sig .tc := ⟨.hbm, 57, rfl⟩
abbrev main_v46 : Ref sig .tc := ⟨.hbm, 58, rfl⟩
abbrev main_cst_8 : Ref sig .tc := ⟨.hbm, 59, rfl⟩
abbrev main_v47 : Ref sig .tc := ⟨.hbm, 60, rfl⟩
abbrev main_cst_9 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_11 : Ref sig .tc := ⟨.hbm, 69, rfl⟩
abbrev main_v54 : Ref sig .tc := ⟨.hbm, 70, rfl⟩
abbrev main_v55 : Ref sig .tc := ⟨.hbm, 71, rfl⟩
abbrev main_cst_12 : Ref sig .tc := ⟨.hbm, 72, rfl⟩
abbrev main_v56 : Ref sig .tc := ⟨.hbm, 73, rfl⟩
abbrev main_v57 : Ref sig .tc := ⟨.hbm, 74, rfl⟩
abbrev main_cst_13 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_14 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_15 : Ref sig .tc := ⟨.hbm, 84, rfl⟩
abbrev main_v65 : Ref sig .tc := ⟨.hbm, 85, rfl⟩
abbrev main_v66 : Ref sig .tc := ⟨.hbm, 86, rfl⟩
abbrev main_cst_16 : Ref sig .tc := ⟨.hbm, 87, rfl⟩
abbrev main_v67 : Ref sig .tc := ⟨.hbm, 88, rfl⟩
abbrev main_v68 : Ref sig .tc := ⟨.hbm, 89, rfl⟩
abbrev main_cst_17 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_18 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_19 : Ref sig .tc := ⟨.hbm, 99, rfl⟩
abbrev main_v76 : Ref sig .tc := ⟨.hbm, 100, rfl⟩
abbrev main_v77 : Ref sig .tc := ⟨.hbm, 101, rfl⟩
abbrev main_cst_20 : Ref sig .tc := ⟨.hbm, 102, rfl⟩
abbrev main_v78 : Ref sig .tc := ⟨.hbm, 103, rfl⟩
abbrev main_v79 : Ref sig .tc := ⟨.hbm, 104, rfl⟩
abbrev main_cst_21 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩

abbrev nD : Nat := 1
abbrev τ : Topo := Topo.v7x

variable {F : FTy → Type} [FloatOps F]
-- ==== Kernel21.lean ====
abbrev S8704x1024 : Shape := ⟨2, ![8704, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S8704x1024, .f32⟩
  | .hbm, ⟨1, _⟩ => ⟨S8704x1024, .f32⟩
  | .hbm, ⟨2, _⟩ => ⟨S1x1024, .f32⟩
  | .hbm, ⟨3, _⟩ => ⟨S8704x1024, .f32⟩
  | .hbm, ⟨4, _⟩ => ⟨S8704x1024, .f32⟩
  | .hbm, ⟨5, _⟩ => ⟨S8704x1024, .bf16⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S1x1024, .f32⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference21Ideal.lean ====
abbrev S8704x1024 : Shape := ⟨2, ![8704, 1024]⟩
abbrev S1x1024 : Shape := ⟨2, ![1, 1024]⟩
abbrev S_ : Shape := ⟨0, ![]⟩
abbrev S8704 : Shape := ⟨1, ![8704]⟩
abbrev S8704x1 : Shape := ⟨2, ![8704, 1]⟩
abbrev S1024 : Shape := ⟨1, ![1024]⟩

abbrev nBuf : Space → Nat
  | .hbm => 48
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S8704x1024, .f32⟩
  | .hbm, ⟨2, _⟩ => ⟨S1x1024, .f32⟩
  | .hbm, ⟨3, _⟩ => ⟨S8704x1024, .f32⟩
  | .hbm, ⟨4, _⟩ => ⟨S8704x1024, .f32⟩
  | .hbm, ⟨5, _⟩ => ⟨S_, .f32⟩
  | .hbm, ⟨6, _⟩ => ⟨S8704, .f32⟩
  | .hbm, ⟨7, _⟩ => ⟨S8704x1, .f32⟩
  | .hbm, ⟨8, _⟩ => ⟨S_, .f32⟩
  | .hbm, ⟨9, _⟩ => ⟨S8704x1, .f32⟩
  | .hbm, ⟨10, _⟩ => ⟨S8704x1, .f32⟩
  | .hbm, ⟨11, _⟩ => ⟨S_, .f32⟩
  | .hbm, ⟨12, _⟩ => ⟨S8704x1, .f32⟩
  | .hbm, ⟨13, _⟩ => ⟨S8704x1, .f32⟩
  | .hbm, ⟨14, _⟩ => ⟨S8704x1, .f32⟩
  | .hbm, ⟨15, _⟩ => ⟨S8704x1, .f32⟩
  | .hbm, ⟨16, _⟩ => ⟨S_, .f32⟩
  | .hbm, ⟨17, _⟩ => ⟨S8704x1, .f32⟩
  | .hbm, ⟨18, _⟩ => ⟨S8704x1, .f32⟩
  | .hbm, ⟨19, _⟩ => ⟨S8704x1024, .f32⟩
  | .hbm, ⟨20, _⟩ => ⟨S8704x1024, .f32⟩
  | .hbm, ⟨21, _⟩ => ⟨S8704x1024, .f32⟩
  | .hbm, ⟨22, _⟩ => ⟨S8704x1024, .f32⟩
  | .hbm, ⟨23, _⟩ => ⟨S8704x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S8704x1024, .f32⟩
  | .hbm, ⟨28, _⟩ => ⟨S8704x1024, .f32⟩
  | .hbm, ⟨29, _⟩ => ⟨S8704x1024, .f32⟩
  | .hbm, ⟨30, _⟩ => ⟨S_, .f32⟩
  | .hbm, ⟨31, _⟩ => ⟨S8704, .f32⟩
  | .hbm, ⟨32, _⟩ => ⟨S8704x1, .f32⟩
  | .hbm, ⟨33, _⟩ => ⟨S8704x1024, .f32⟩
  | .hbm, ⟨34, _⟩ => ⟨S8704x1024, .f32⟩
  | .hbm, ⟨35, _⟩ => ⟨S8704x1024, .f32⟩
  | .hbm, ⟨36, _⟩ => ⟨S8704x1, .f32⟩
  | .hbm, ⟨37, _⟩ => ⟨S_, .f32⟩
  | .hbm, ⟨38, _⟩ => ⟨S8704x1, .f32⟩
  | .hbm, ⟨39, _⟩ => ⟨S8704x1, .f32⟩
  | .hbm, ⟨40, _⟩ => ⟨S_, .f32⟩
  | .hbm, ⟨41, _⟩ => ⟨S8704, .f32⟩
  | .hbm, ⟨42, _⟩ => ⟨S8704x1024, .f32⟩
  | .hbm, ⟨43, _⟩ => ⟨S8704x1024, .f32⟩
  | .hbm, ⟨44, _⟩ => ⟨S8704x1024, .f32⟩
  | .hbm, ⟨45, _⟩ => ⟨S8704x1024, .f32⟩
  | .hbm, ⟨46, _⟩ => ⟨S8704x1024, .f32⟩
  | .hbm, ⟨47, _⟩ => ⟨S8704x1024, .bf16⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel22.lean ====
abbrev S8704x1024 : Shape := ⟨2, ![8704, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8704x1024, .f32⟩
  | .hbm, ⟨1, _⟩ => ⟨S1x1024, .f32⟩
  | .hbm, ⟨2, _⟩ => ⟨S8704x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference22Ideal.lean ====
abbrev S8704x1024 : Shape := ⟨2, ![8704, 1024]⟩
abbrev S1x1024 : Shape := ⟨2, ![1, 1024]⟩
abbrev S_ : Shape := ⟨0, ![]⟩
abbrev S8704 : Shape := ⟨1, ![8704]⟩
abbrev S8704x1 : Shape := ⟨2, ![8704, 1]⟩

abbrev nBuf : Space → Nat
  | .hbm => 18
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S1x1024, .f32⟩
  | .hbm, ⟨2, _⟩ => ⟨S8704x1024, .f32⟩
  | .hbm, ⟨3, _⟩ => ⟨S_, .f32⟩
  | .hbm, ⟨4, _⟩ => ⟨S8704, .f32⟩
  | .hbm, ⟨5, _⟩ => ⟨S8704x1, .f32⟩
  | .hbm, ⟨6, _⟩ => ⟨S_, .f32⟩
  | .hbm, ⟨7, _⟩ => ⟨S8704x1, .f32⟩
  | .hbm, ⟨8, _⟩ => ⟨S8704x1, .f32⟩
  | .hbm, ⟨9, _⟩ => ⟨S_, .f32⟩
  | .hbm, ⟨10, _⟩ => ⟨S8704x1, .f32⟩
  | .hbm, ⟨11, _⟩ => ⟨S8704x1, .f32⟩
  | .hbm, ⟨12, _⟩ => ⟨S8704x1, .f32⟩
  | .hbm, ⟨13, _⟩ => ⟨S8704x1024, .f32⟩
  | .hbm, ⟨14, _⟩ => ⟨S8704x1024, .f32⟩
  | .hbm, ⟨15, _⟩ => ⟨S8704x1024, .f32⟩
  | .hbm, ⟨16, _⟩ => ⟨S8704x1024, .f32⟩
  | .hbm, ⟨17, _⟩ => ⟨S8704x1024, .bf16⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel23.lean ====
abbrev S8704x1024 : Shape := ⟨2, ![8704, 1024]⟩
abbrev S8704x4096 : Shape := ⟨2, ![8704, 4096]⟩
abbrev S256x1024 : Shape := ⟨2, ![256, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8704x1024, .f32⟩
  | .hbm, ⟨1, _⟩ => ⟨S8704x1024, .f32⟩
  | .hbm, ⟨2, _⟩ => ⟨S8704x4096, .f32⟩
  | .hbm, ⟨3, _⟩ => ⟨S8704x1024, .f32⟩
  | .hbm, ⟨4, _⟩ => ⟨S8704x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference23Ideal.lean ====
abbrev S8704x1024 : Shape := ⟨2, ![8704, 1024]⟩
abbrev S8704x4096 : Shape := ⟨2, ![8704, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S8704x1024, .f32⟩
  | .hbm, ⟨2, _⟩ => ⟨S8704x4096, .f32⟩
  | .hbm, ⟨3, _⟩ => ⟨S8704x1024, .f32⟩
  | .hbm, ⟨4, _⟩ => ⟨S8704x1024, .f32⟩
  | .hbm, ⟨5, _⟩ => ⟨S8704x1024, .f32⟩
  | .hbm, ⟨6, _⟩ => ⟨S_, .f32⟩
  | .hbm, ⟨7, _⟩ => ⟨S8704x1024, .f32⟩
  | .hbm, ⟨8, _⟩ => ⟨S8704x1024, .f32⟩
  | .hbm, ⟨9, _⟩ => ⟨S_, .f32⟩
  | .hbm, ⟨10, _⟩ => ⟨S8704x1024, .f32⟩
  | .hbm, ⟨11, _⟩ => ⟨S8704x1024, .f32⟩
  | .hbm, ⟨12, _⟩ => ⟨S_, .f32⟩
  | .hbm, ⟨13, _⟩ => ⟨S8704x1024, .f32⟩
  | .hbm, ⟨14, _⟩ => ⟨S8704x1024, .f32⟩
  | .hbm, ⟨15, _⟩ => ⟨S8704x1024, .f32⟩
  | .hbm, ⟨16, _⟩ => ⟨S8704x1024, .f32⟩
  | .hbm, ⟨17, _⟩ => ⟨S8704x1024, .f32⟩
  | .hbm, ⟨18, _⟩ => ⟨S8704x1024, .f32⟩
  | .hbm, ⟨19, _⟩ => ⟨S8704x1024, .f32⟩
  | .hbm, ⟨20, _⟩ => ⟨S8704x1024, .f32⟩
  | .hbm, ⟨21, _⟩ => ⟨S8704x1024, .f32⟩
  | .hbm, ⟨22, _⟩ => ⟨S8704x1024, .f32⟩
  | .hbm, ⟨23, _⟩ => ⟨S8704x1024, .f32⟩
  | .hbm, ⟨24, _⟩ => ⟨S8704x1024, .bf16⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v1_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v1_1 : Ref sig .tc := ⟨.hbm, 15, rfl⟩
abbrev main_v1_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v5 : Ref sig .tc := ⟨.hbm, 23, rfl⟩
abbrev main_v6 : Ref sig .tc := ⟨.hbm, 24, rfl⟩

abbrev nD : Nat := 1
abbrev τ : Topo := Topo.v7x

variable {F : FTy → Type} [FloatOps F]
-- ==== Kernel24.lean ====
abbrev S8704x1024 : Shape := ⟨2, ![8704, 1024]⟩
abbrev S8704x4096 : Shape := ⟨2, ![8704, 4096]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8704x1024, .f32⟩
  | .hbm, ⟨1, _⟩ => ⟨S8704x4096, .f32⟩
  | .hbm, ⟨2, _⟩ => ⟨S8704x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference24Ideal.lean ====
abbrev S8704x1024 : Shape := ⟨2, ![8704, 1024]⟩
abbrev S8704x4096 : Shape := ⟨2, ![8704, 4096]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S8704x4096, .f32⟩
  | .hbm, ⟨2, _⟩ => ⟨S8704x1024, .f32⟩
  | .hbm, ⟨3, _⟩ => ⟨S8704x1024, .f32⟩
  | .hbm, ⟨4, _⟩ => ⟨S8704x1024, .f32⟩
  | .hbm, ⟨5, _⟩ => ⟨S_, .f32⟩
  | .hbm, ⟨6, _⟩ => ⟨S8704x1024, .f32⟩
  | .hbm, ⟨7, _⟩ => ⟨S8704x1024, .f32⟩
  | .hbm, ⟨8, _⟩ => ⟨S_, .f32⟩
  | .hbm, ⟨9, _⟩ => ⟨S8704x1024, .f32⟩
  | .hbm, ⟨10, _⟩ => ⟨S8704x1024, .f32⟩
  | .hbm, ⟨11, _⟩ => ⟨S8704x1024, .f32⟩
  | .hbm, ⟨12, _⟩ => ⟨S8704x1024, .f32⟩
  | .hbm, ⟨13, _⟩ => ⟨S8704x1024, .bf16⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩

abbrev nD : Nat := 1
abbrev τ : Topo := Topo.v7x

variable {F : FTy → Type} [FloatOps F]
-- ==== Proof.Natural.lean ====
/-
  Arrays of rank three read at natural coordinates. An index of such an array is a triple of bounded numbers; the recurrences of this
  certificate step through rows by arithmetic, so their closed forms read the arrays at plain natural numbers (`rd`, each coordinate
  taken modulo its extent, so that it is total), and `rd_of` turns any actual index into such a reading.
-/
module

public import Idealize.ShloMosaic.Lib.ValueIdxCore
public import Idealize.ShloMosaic.Lib.ValueLayout
public import Idealize.ShloMosaic.Lib.Pipeline.Value

@[expose] public section

noncomputable section

namespace Cert.Scan

open Idealize.ShloMosaic

variable {α : Type} {n0 n1 n2 : ℕ} [NeZero n0] [NeZero n1] [NeZero n2]

/-- The entry of a rank-three array at natural coordinates. -/
def rd (x : (⟨3, ![n0, n1, n2]⟩ : Shape).Idx → α) (s r l : ℕ) : α :=
  x (ValueIdx.ix3 (Fin.ofNat n0 s) (Fin.ofNat n1 r) (Fin.ofNat n2 l))

/-- An entry at an index whose coordinates are known is the entry at those natural coordinates. -/
theorem rd_of (x : (⟨3, ![n0, n1, n2]⟩ : Shape).Idx → α) (y : (⟨3, ![n0, n1, n2]⟩ : Shape).Idx) (s r l : ℕ)
    (h0 : (y 0).val = s) (h1 : (y 1).val = r) (h2 : (y 2).val = l) : x y = rd x s r l := by
  unfold rd
  congr 1
  funext d
  match d with
  | ⟨0, _⟩ => subst h0; exact Fin.ext (Nat.mod_eq_of_lt (y 0).isLt).symm
  | ⟨1, _⟩ => subst h1; exact Fin.ext (Nat.mod_eq_of_lt (y 1).isLt).symm
  | ⟨2, _⟩ => subst h2; exact Fin.ext (Nat.mod_eq_of_lt (y 2).isLt).symm

/-- An array given by a function of natural coordinates reads that function, where the coordinates are within its extents. -/
theorem rd_mk (f : ℕ → ℕ → ℕ → α) (s r l : ℕ) (h0 : s < n0) (h1 : r < n1) (h2 : l < n2) :
    rd (n0 := n0) (n1 := n1) (n2 := n2) (fun y => f (y 0).val (y 1).val (y 2).val) s r l = f s r l := by
  show f (s % n0) (r % n1) (l % n2) = f s r l
  rw [Nat.mod_eq_of_lt h0, Nat.mod_eq_of_lt h1, Nat.mod_eq_of_lt h2]

end Cert.Scan

end
-- ==== Proof.FwdBlock.lean ====
/-
  What one grid point of the forward scan computes. A point holds 128 tokens, eight rows of each of four batches a token; its loop carries
  the state of each batch. `hB` is that state after so many tokens of the block, and the loop's carried value and the pieces it writes
  are its values, whatever the state the block began with.
-/
module

public import proofs.«01_k».proof.Proof.Natural
public import proofs.«01_k».proof.Proof.Gen.KernelIdeal.Loops
public import Idealize.ShloMosaic.Lib.Pipeline.FrameBody
public import Idealize.ShloMosaic.Lib.Tactic

@[expose] public section

set_option maxRecDepth 16384

noncomputable section

namespace Cert.KernelIdeal.Scan

open Idealize.ShloMosaic Idealize.ShloMosaic.TcCoe Idealize.ShloMosaic.Tactic Idealize.ShloMosaic.ValueIdx
open Cert.KernelIdeal Cert.KernelIdeal.Gen Cert.Scan

variable {F : FTy → Type} [FloatOps F]

/-- The carried values of the four batches. -/
abbrev Four (F : FTy → Type) := FVec F S8x128 .f32 × FVec F S8x128 .f32 × FVec F S8x128 .f32 × FVec F S8x128 .f32

/-- Four row blocks given by one function of batch, row and lane. -/
abbrev four (f : ℕ → ℕ → ℕ → F .f32) : Four F :=
  (fun j => f 0 (j 0).val (j 1).val, fun j => f 1 (j 0).val (j 1).val, fun j => f 2 (j 0).val (j 1).val,
   fun j => f 3 (j 0).val (j 1).val)

/-- The state of batch `s`, row `r` of a token, lane `l`, after `n` tokens of a block that began in state `c`. -/
def hB (a b : Vec F S4x1024x128 .f32) (c : ℕ → ℕ → ℕ → F .f32) : ℕ → ℕ → ℕ → ℕ → F .f32
  | 0, s, r, l => c s r l
  | n + 1, s, r, l => FloatOps.addf (FloatOps.mulf (rd a s (8 * n + r) l) (hB a b c n s r l)) (rd b s (8 * n + r) l)

/-- The block of states that the point writes: at row `r` the state after token `r / 8`. -/
def outB (a b : Vec F S4x1024x128 .f32) (c : ℕ → ℕ → ℕ → F .f32) : Vec F S4x1024x128 .f32 :=
  fun y => hB a b c ((y 1).val / 8 + 1) (y 0).val ((y 1).val % 8) (y 2).val

/-- Eight rows of one batch of an array, read by a rectangle with known offsets, at natural coordinates. -/
theorem ld_rd {off : Fin 3 → ℕ} (inb : ∀ a, off a + S1x8x128.size a ≤ S4x1024x128.size a) (x : Vec F S4x1024x128 .f32) (s o : ℕ)
    (ho : off = ![s, o, 0]) (i : Fin 8) (j : Fin 128) :
    View.ld x (Rect.unit (s := S4x1024x128) off S1x8x128.size inb) (ix3 (0 : Fin 1) i j) = rd x s (o + i.val) j.val := by
  subst ho
  exact rd_of x _ _ _ _ (by show s + 1 * 0 = s; omega) (by show o + 1 * i.val = _; omega) (by show 0 + 1 * j.val = _; omega)

/-- One step of the recurrence on eight rows. -/
theorem step_apply {off : Fin 3 → ℕ} (inb : ∀ a, off a + S1x8x128.size a ≤ S4x1024x128.size a) (a b : Vec F S4x1024x128 .f32) (s o : ℕ)
    (ho : off = ![s, o, 0]) (h : FVec F S8x128 .f32) (i : Fin 8) (j : Fin 128) :
    k0_pay12 h (View.ld a (Rect.unit (s := S4x1024x128) off S1x8x128.size inb))
        (View.ld b (Rect.unit (s := S4x1024x128) off S1x8x128.size inb)) (ix2 i j)
      = FloatOps.addf (FloatOps.mulf (rd a s (o + i.val) j.val) (h (ix2 i j))) (rd b s (o + i.val) j.val) := by
  rw [← ld_rd inb a s o ho i j, ← ld_rd inb b s o ho i j]
  unfold k0_pay12
  exact congrArg₂ FloatOps.addf (congrArg (FloatOps.mulf · (h (ix2 i j))) (shapeCast_1ab_ab_apply _ _ i j)) (shapeCast_1ab_ab_apply _ _ i j)

section Loop

variable (𝒱 : Variants) (c : Dev nD) (bd : Option 𝒱.V) (i : grid0.Coords) (arg1 : Memref sig .tc .vmem S4x1024x128 .f32) (harg1 : arg1.IsWhole)
  (arg2 : Memref sig .tc .vmem S4x1024x128 .f32) (harg2 : arg2.IsWhole) (arg3 : Memref sig .tc .vmem S4x1024x128 .f32) (harg3 : arg3.IsWhole)
  (arg4 : Memref sig .tc .vmem S4x8x128 .f32) (harg4 : arg4.IsWhole) (a b : Vec F S4x1024x128 .f32)

/-- What one trip carries on. -/
theorem tripR_eq (k : Fin k0_t1_loop.trips) (f : ℕ → ℕ → ℕ → F .f32) :
    tripR_k0_t1 (F := F) 𝒱 c bd i arg1 harg1 arg2 harg2 arg3 harg3 arg4 harg4 (harg1.unread a) (harg2.unread b) k (four f)
      = four (fun s r l => FloatOps.addf (FloatOps.mulf (rd a s (8 * k.val + r) l) (f s r l)) (rd b s (8 * k.val + r) l)) := by
  unfold tripR_k0_t1 trip_k0_t1
  dsimp only
  sl_unfold_run_names
  simp only [View.readAt_eq_ld, harg1.read_unread, harg2.read_unread]
  refine Prod.ext (funext fun j => ?_) (Prod.ext (funext fun j => ?_) (Prod.ext (funext fun j => ?_) (funext fun j => ?_))) <;>
    rw [eq_ix2 j]
  · exact step_apply _ a b 0 _ (k0_off1_eq k) _ _ _
  · exact step_apply _ a b 1 _ (k0_off2_eq k) _ _ _
  · exact step_apply _ a b 2 _ (k0_off3_eq k) _ _ _
  · exact step_apply _ a b 3 _ (k0_off4_eq k) _ _ _

/-- One piece of a trip: eight rows of one batch, holding the next state of that batch. -/
theorem piece_apply {off : Fin 3 → ℕ} (inb : ∀ d, off d + S1x8x128.size d ≤ S4x1024x128.size d) (G : Vec F S4x1024x128 .f32) (s k : ℕ)
    (ho : off = ![s, 8 * k, 0]) (g : FVec F S8x128 .f32) (h : S8x128.ShapeCasts S1x8x128) (f : ℕ → ℕ → ℕ → ℕ → F .f32)
    (hG : ∀ y, G y = f ((y 1).val / 8 + 1) (y 0).val ((y 1).val % 8) (y 2).val)
    (hf : ∀ s r l, f (k + 1) s r l = FloatOps.addf (FloatOps.mulf (rd a s (8 * k + r) l) (f k s r l)) (rd b s (8 * k + r) l))
    (hg : ∀ (i : Fin 8) (j : Fin 128), g (ix2 i j) = f k s i.val j.val) (x : S1x8x128.Idx) :
    shapeCast S1x8x128 (k0_pay12 g (View.ld a (Rect.unit (s := S4x1024x128) off S1x8x128.size inb))
        (View.ld b (Rect.unit (s := S4x1024x128) off S1x8x128.size inb))) h x
      = G ((Rect.unit (s := S4x1024x128) off S1x8x128.size inb).emb x) := by
  have hv (i : Fin 8) (j : Fin 128) := (step_apply inb a b s _ ho g i j).trans ((by rw [hg, hf] :
    _ = f (k + 1) s i.val j.val))
  subst ho
  rw [hG]
  refine ((congrArg _ (eq_ix3 x)).trans (shapeCast_ab_1ab_apply _ h (x 0) (x 1) (x 2))).trans ((hv (x 1) (x 2)).trans ?_)
  have h0 : (x 0).val < 1 := (x 0).isLt
  have h1 : (x 1).val < 8 := (x 1).isLt
  have e0 : s = s + 1 * (x 0).val := by omega
  have e1 : k = (8 * k + 1 * (x 1).val) / 8 := by omega
  have e2 : (x 1).val = (8 * k + 1 * (x 1).val) % 8 := by omega
  have e3 : (x 2).val = 0 + 1 * (x 2).val := by omega
  show f (k + 1) s (x 1).val (x 2).val = f ((8 * k + 1 * (x 1).val) / 8 + 1) (s + 1 * (x 0).val) ((8 * k + 1 * (x 1).val) % 8) (0 + 1 * (x 2).val)
  rw [← e0, ← e1, ← e2, ← e3]

/-- The pieces one trip writes: each holds the next state, and together they cover the trip's rows. -/
theorem tripL_eq (k : Fin k0_t1_loop.trips) (f : ℕ → ℕ → ℕ → ℕ → F .f32) (G : Vec F S4x1024x128 .f32)
    (hG : ∀ y, G y = f ((y 1).val / 8 + 1) (y 0).val ((y 1).val % 8) (y 2).val)
    (hf : ∀ s r l, f (k.val + 1) s r l = FloatOps.addf (FloatOps.mulf (rd a s (8 * k.val + r) l) (f k.val s r l)) (rd b s (8 * k.val + r) l)) :
    (∀ p ∈ tripL_k0_t1 (F := F) 𝒱 c bd i arg1 harg1 arg2 harg2 arg3 harg3 arg4 harg4 (harg1.unread a) (harg2.unread b) k (four (f k.val)),
      ∀ x, p.2 x = G (p.1.emb x)) ∧
    ∀ y : S4x1024x128.Idx, 8 * k.val ≤ (y 1).val → (y 1).val < 8 * (k.val + 1) →
      ∃ p ∈ tripL_k0_t1 (F := F) 𝒱 c bd i arg1 harg1 arg2 harg2 arg3 harg3 arg4 harg4 (harg1.unread a) (harg2.unread b) k (four (f k.val)),
        y ∈ p.1.set := by
  unfold tripL_k0_t1 trip_k0_t1
  dsimp only
  sl_unfold_run_names
  simp only [View.readAt_eq_ld, harg1.read_unread, harg2.read_unread]
  constructor
  · intro p hp
    simp only [List.mem_cons, List.not_mem_nil, or_false] at hp
    rcases hp with rfl | rfl | rfl | rfl
    · exact fun x => piece_apply a b _ G 3 k.val (k0_off4_eq k) _ _ f hG hf (fun _ _ => rfl) x
    · exact fun x => piece_apply a b _ G 2 k.val (k0_off3_eq k) _ _ f hG hf (fun _ _ => rfl) x
    · exact fun x => piece_apply a b _ G 1 k.val (k0_off2_eq k) _ _ f hG hf (fun _ _ => rfl) x
    · exact fun x => piece_apply a b _ G 0 k.val (k0_off1_eq k) _ _ f hG hf (fun _ _ => rfl) x
  · intro y hlo hhi
    have h0 : (y 0).val < 4 := (y 0).isLt
    have h2 : (y 2).val < 128 := (y 2).isLt
    have key : ∀ {off : Fin 3 → ℕ} (inb : ∀ d, off d + S1x8x128.size d ≤ S4x1024x128.size d), off = ![(y 0).val, 8 * k.val, 0] →
        y ∈ (Rect.unit (s := S4x1024x128) off S1x8x128.size inb).set := by
      intro off inb ho
      subst ho
      rw [Rect.mem_set_unit]
      intro d
      match d with
      | ⟨0, _⟩ => exact ⟨le_refl (y 0).val, Nat.lt_succ_self (y 0).val⟩
      | ⟨1, _⟩ => exact ⟨hlo, by show (y 1).val < 8 * k.val + 8; omega⟩
      | ⟨2, _⟩ => exact ⟨Nat.zero_le _, by show (y 2).val < 0 + 128; omega⟩
    obtain h | h | h | h : (y 0).val = 0 ∨ (y 0).val = 1 ∨ (y 0).val = 2 ∨ (y 0).val = 3 := by omega
    · exact ⟨_, List.mem_cons_of_mem _ (List.mem_cons_of_mem _ (List.mem_cons_of_mem _ List.mem_cons_self)), key (k0_off1_inb k) (by rw [h]; exact k0_off1_eq k)⟩
    · exact ⟨_, List.mem_cons_of_mem _ (List.mem_cons_of_mem _ List.mem_cons_self), key (k0_off2_inb k) (by rw [h]; exact k0_off2_eq k)⟩
    · exact ⟨_, List.mem_cons_of_mem _ List.mem_cons_self, key (k0_off3_inb k) (by rw [h]; exact k0_off3_eq k)⟩
    · exact ⟨_, List.mem_cons_self, key (k0_off4_inb k) (by rw [h]; exact k0_off4_eq k)⟩

/-- The loop before trip `k`: the carried value is the state after `k` tokens, and the pieces written so far hold the states of the
    tokens before and cover their rows. -/
theorem st_eq (f₀ : ℕ → ℕ → ℕ → F .f32) (init : Four F) (hinit : init = four f₀) : ∀ k : ℕ, k ≤ 128 →
    (st_k0_t1 (F := F) 𝒱 c bd i arg1 harg1 arg2 harg2 arg3 harg3 arg4 harg4 (harg1.unread a) (harg2.unread b) init k).1 = four (hB a b f₀ k) ∧
    (∀ p ∈ (st_k0_t1 (F := F) 𝒱 c bd i arg1 harg1 arg2 harg2 arg3 harg3 arg4 harg4 (harg1.unread a) (harg2.unread b) init k).2,
      ∀ x, p.2 x = outB a b f₀ (p.1.emb x)) ∧
    ∀ y : S4x1024x128.Idx, (y 1).val < 8 * k →
      ∃ p ∈ (st_k0_t1 (F := F) 𝒱 c bd i arg1 harg1 arg2 harg2 arg3 harg3 arg4 harg4 (harg1.unread a) (harg2.unread b) init k).2, y ∈ p.1.set
  | 0, _ => ⟨hinit, fun p hp => absurd hp List.not_mem_nil, fun y hy => absurd hy (by omega)⟩
  | k + 1, hk => by
    obtain ⟨h1, h2, h3⟩ := st_eq f₀ init hinit k (by omega)
    have hlt : k < k0_t1_loop.trips := by have : k0_t1_loop.trips = 128 := by decide +kernel
                                          omega
    have hs := st_k0_t1_succ (F := F) 𝒱 c bd i arg1 harg1 arg2 harg2 arg3 harg3 arg4 harg4 (harg1.unread a) (harg2.unread b) init ⟨k, hlt⟩
    dsimp only at hs
    rw [hs, h1]
    obtain ⟨hp, hc⟩ := tripL_eq 𝒱 c bd i arg1 harg1 arg2 harg2 arg3 harg3 arg4 harg4 a b ⟨k, hlt⟩ (hB a b f₀) (outB a b f₀)
      (fun _ => rfl) (fun _ _ _ => rfl)
    refine ⟨tripR_eq 𝒱 c bd i arg1 harg1 arg2 harg2 arg3 harg3 arg4 harg4 a b ⟨k, hlt⟩ (hB a b f₀ k), fun p hm => ?_, fun y hy => ?_⟩
    · rcases List.mem_append.mp hm with hm | hm
      · exact hp p hm
      · exact h2 p hm
    · by_cases hlo : 8 * k ≤ (y 1).val
      · obtain ⟨p, hm, hy'⟩ := hc y hlo hy
        exact ⟨p, List.mem_append_left _ hm, hy'⟩
      · obtain ⟨p, hm, hy'⟩ := h3 y (by omega)
        exact ⟨p, List.mem_append_right _ hm, hy'⟩

end Loop

end Cert.KernelIdeal.Scan

end
-- ==== Proof.FwdBody.lean ====
/-
  The forward scan's body at a grid point, as a triple: handed its two input blocks and the state before (at the first point, a scratch at
  anything, which the body zeroes), it leaves the block of states and the state after its 128 tokens.
-/
module

public import proofs.«01_k».proof.Proof.FwdBlock
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameSuffix
public import Idealize.ShloMosaic.Lib.Ring
public import Idealize.ShloMosaic.Lib.WordCmp
public import Idealize.ShloMosaic.Lib.Writes
public import Idealize.ShloMosaic.Lib.WritesUnit

@[expose] public section

set_option maxRecDepth 16384

noncomputable section

namespace Cert.KernelIdeal.Scan

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen Cert.Scan

variable {F : FTy → Type} [FloatOps F]

local notation "𝕄" => MT nD τ sig Unit (Elt F) ℕ (UR sig nD τ) ℕ

/-- The body's one condition: the grid's first point. -/
abbrev first0 (i : grid0.Coords) : Prop :=
  (Scalar.cmpi .ne (Scalar.extui (Scalar.cmpi .eq (BitVec.ofNat 32 (i 0).val) 0#32)) 0#32) = 1#1

theorem first0_iff : ∀ t : Fin cfg0.N, first0 (grid0.coords t) ↔ t.val = 0 :=
  (fun t => by
    have ht : t.val < 17 := Nat.lt_of_lt_of_eq t.isLt N_0
    have e0 : (grid0.coords t 0).val = t.val / 1 % 17 := Pipeline.Grid.coords_val t 0 (by decide) rfl
    simp only [first0, e0]
    word_cmp
   : ∀ t : Fin grid0.N, first0 (grid0.coords t) ↔ t.val = 0)

/-- The carried scratch's contents given by batch, row and lane. -/
abbrev block (f : ℕ → ℕ → ℕ → F .f32) : Vec F S4x8x128 .f32 := fun y => f (y 0).val (y 1).val (y 2).val

/-- The zero state. -/
abbrev zeroState : ℕ → ℕ → ℕ → F .f32 := fun _ _ _ => Scalar.ofBits .f32 0x00000000#32

/-- One batch's rows of a state, loaded and with the unit axis dropped. -/
theorem load_block (f : ℕ → ℕ → ℕ → F .f32) (s : ℕ) {off : Fin 3 → ℕ} (inb : ∀ a, off a + S1x8x128.size a ≤ S4x8x128.size a)
    (ho : off = ![s, 0, 0]) (h : S1x8x128.ShapeCasts S8x128) :
    shapeCast S8x128 (View.ld (block f : Vec F S4x8x128 .f32) (Rect.unit (s := S4x8x128) off S1x8x128.size inb)) h
      = fun j => f s (j 0).val (j 1).val := by
  subst ho
  funext j
  refine (congrArg _ (eq_ix2 j)).trans ((shapeCast_1ab_ab_apply _ h (j 0) (j 1)).trans ?_)
  show f (s + 1 * 0) (0 + 1 * (j 0).val) (0 + 1 * (j 1).val) = _
  rw [Nat.mul_zero, Nat.add_zero, Nat.one_mul, Nat.one_mul, Nat.zero_add, Nat.zero_add]

/-- Four stores of one batch each leave, in any buffer of that shape, the state they were given, whatever was there. -/
theorem store_blocks {κ : Kind} {sp : Space} (v : View sig κ sp S4x8x128 .f32) (g : v.ty.Contents (Elt F)) (f : ℕ → ℕ → ℕ → F .f32)
    (p0 p1 p2 p3 : FVec F S8x128 .f32) (hp : (p0, p1, p2, p3) = four f) (h : S8x128.ShapeCasts S1x8x128)
    (i0 : ∀ a, (![0, 0, 0] : Fin 3 → ℕ) a + S1x8x128.size a ≤ S4x8x128.size a)
    (i1 : ∀ a, (![1, 0, 0] : Fin 3 → ℕ) a + S1x8x128.size a ≤ S4x8x128.size a)
    (i2 : ∀ a, (![2, 0, 0] : Fin 3 → ℕ) a + S1x8x128.size a ≤ S4x8x128.size a)
    (i3 : ∀ a, (![3, 0, 0] : Fin 3 → ℕ) a + S1x8x128.size a ≤ S4x8x128.size a) (L : List (View.Piece (Elt F) S4x8x128 .f32)) :
    v.read (Elt F) (v.writes (Elt F) g
      (⟨Rect.unit (s := S4x8x128) ![3, 0, 0] S1x8x128.size i3, shapeCast S1x8x128 p3 h⟩ ::
       ⟨Rect.unit (s := S4x8x128) ![2, 0, 0] S1x8x128.size i2, shapeCast S1x8x128 p2 h⟩ ::
       ⟨Rect.unit (s := S4x8x128) ![1, 0, 0] S1x8x128.size i1, shapeCast S1x8x128 p1 h⟩ ::
       ⟨Rect.unit (s := S4x8x128) ![0, 0, 0] S1x8x128.size i0, shapeCast S1x8x128 p0 h⟩ :: L)) = block f := by
  obtain ⟨rfl, rfl, rfl, rfl⟩ : p0 = _ ∧ p1 = _ ∧ p2 = _ ∧ p3 = _ := by
    simpa only [Prod.mk.injEq] using hp
  have cast (s : ℕ) (j : S1x8x128.Idx) : shapeCast S1x8x128 (fun j : S8x128.Idx => f s (j 0).val (j 1).val) h j
      = f s (j 1).val (j 2).val :=
    (congrArg _ (eq_ix3 j)).trans (shapeCast_ab_1ab_apply _ h (j 0) (j 1) (j 2))
  have hit (s : ℕ) (inb : ∀ a, (![s, 0, 0] : Fin 3 → ℕ) a + S1x8x128.size a ≤ S4x8x128.size a)
      (L : List (View.Piece (Elt F) S4x8x128 .f32)) (y : S4x8x128.Idx) (hy : (y 0).val = s) :
      v.read (Elt F) (v.writes (Elt F) g (⟨Rect.unit (s := S4x8x128) ![s, 0, 0] S1x8x128.size inb,
        shapeCast S1x8x128 (fun j : S8x128.Idx => f s (j 0).val (j 1).val) h⟩ :: L)) y = block f y := by
    subst hy
    refine (View.read_writes_cons_unit_of_mem v g inb _ L y (ix3 (0 : Fin 1) (y 1) (y 2)) rfl fun a => ?_).trans (cast _ _)
    match a with
    | ⟨0, _⟩ => rfl
    | ⟨1, _⟩ => exact (Nat.zero_add _).symm
    | ⟨2, _⟩ => exact (Nat.zero_add _).symm
  have miss (s : ℕ) (inb : ∀ a, (![s, 0, 0] : Fin 3 → ℕ) a + S1x8x128.size a ≤ S4x8x128.size a) (w : S1x8x128.Idx → F .f32)
      (L : List (View.Piece (Elt F) S4x8x128 .f32)) (y : S4x8x128.Idx) (hy : (y 0).val < s ∨ s + 1 ≤ (y 0).val) :
      v.read (Elt F) (v.writes (Elt F) g (⟨Rect.unit (s := S4x8x128) ![s, 0, 0] S1x8x128.size inb, w⟩ :: L)) y
        = v.read (Elt F) (v.writes (Elt F) g L) y :=
    View.read_writes_cons_unit_of_not_mem v g inb w L y rfl 0 hy
  funext y
  have h0 : (y 0).val < 4 := (y 0).isLt
  obtain hy | hy | hy | hy : (y 0).val = 0 ∨ (y 0).val = 1 ∨ (y 0).val = 2 ∨ (y 0).val = 3 := by omega
  · rw [miss 3 _ _ _ y (by omega), miss 2 _ _ _ y (by omega), miss 1 _ _ _ y (by omega), hit 0 _ _ y hy]
  · rw [miss 3 _ _ _ y (by omega), miss 2 _ _ _ y (by omega), hit 1 _ _ y hy]
  · rw [miss 3 _ _ _ y (by omega), hit 2 _ _ y hy]
  · rw [hit 3 _ _ y hy]

/-- A buffer just filled with zeros, loaded one batch at a time. -/
theorem load_zero {κ : Kind} {sp : Space} (v : View sig κ sp S4x8x128 .f32) (s : ℕ) {off : Fin 3 → ℕ}
    (inb : ∀ a, off a + S1x8x128.size a ≤ S4x8x128.size a) (ho : off = ![s, 0, 0]) (h : S1x8x128.ShapeCasts S8x128)
    (i0 : ∀ a, (![0, 0, 0] : Fin 3 → ℕ) a + S4x8x128.size a ≤ S4x8x128.size a) :
    shapeCast S8x128 (v.readCov (Val := Elt F) [⟨Rect.unit (s := S4x8x128) ![0, 0, 0] S4x8x128.size i0, k0_pay7⟩]
        (Rect.unit (s := S4x8x128) off S1x8x128.size inb).toLoadRect) h = fun j => zeroState s (j 0).val (j 1).val := by
  have e : v.read (Elt F) (v.writes (Elt F) v.junk [⟨Rect.unit (s := S4x8x128) ![0, 0, 0] S4x8x128.size i0, k0_pay7⟩])
      = block (zeroState (F := F)) := by
    funext y
    refine (View.read_writes_cons_unit_of_mem v _ i0 _ [] y y rfl fun a => ?_).trans ?_
    · match a with
      | ⟨0, _⟩ => exact (Nat.zero_add _).symm
      | ⟨1, _⟩ => exact (Nat.zero_add _).symm
      | ⟨2, _⟩ => exact (Nat.zero_add _).symm
    · unfold k0_pay7
      exact congrFun (shapeCast_self _ _) y
  rw [← load_block (zeroState (F := F)) s inb ho h, ← e]
  rfl

/-- A buffer at a known state, loaded one batch at a time. -/
theorem load_state {arg4 : Memref sig .tc .vmem S4x8x128 .f32} (harg4 : arg4.IsWhole) (f : ℕ → ℕ → ℕ → F .f32) (s : ℕ) {off : Fin 3 → ℕ}
    (inb : ∀ a, off a + S1x8x128.size a ≤ S4x8x128.size a) (ho : off = ![s, 0, 0]) (h : S1x8x128.ShapeCasts S8x128) :
    shapeCast S8x128 (arg4.view.readAt (Elt F) (Rect.unit (s := S4x8x128) off S1x8x128.size inb).toLoadRect (harg4.unread (block f))) h
      = fun j => f s (j 0).val (j 1).val := by
  rw [View.readAt_eq_ld, harg4.read_unread]
  exact load_block f s inb ho h

theorem four_ext {f : ℕ → ℕ → ℕ → F .f32} {v0 v1 v2 v3 : FVec F S8x128 .f32} (h0 : v0 = fun j => f 0 (j 0).val (j 1).val)
    (h1 : v1 = fun j => f 1 (j 0).val (j 1).val) (h2 : v2 = fun j => f 2 (j 0).val (j 1).val) (h3 : v3 = fun j => f 3 (j 0).val (j 1).val) :
    ((v0, v1, v2, v3) : Four F) = four f := by rw [h0, h1, h2, h3]

section Loop

variable (c : Dev nD) (i : grid0.Coords) (arg1 : Memref sig .tc .vmem S4x1024x128 .f32) (harg1 : arg1.IsWhole)
  (arg2 : Memref sig .tc .vmem S4x1024x128 .f32) (harg2 : arg2.IsWhole) (arg3 : Memref sig .tc .vmem S4x1024x128 .f32) (harg3 : arg3.IsWhole)
  (arg4 : Memref sig .tc .vmem S4x8x128 .f32) (harg4 : arg4.IsWhole) (a b : Vec F S4x1024x128 .f32)

theorem trips0 : Scf.trips k0_t1_loop.lb k0_t1_loop.ub k0_t1_loop.st = 128 := by decide +kernel

/-- The output's buffer after the loop holds the block of states. -/
theorem read_loop (f₀ : ℕ → ℕ → ℕ → F .f32) (init : Four F) (hinit : init = four f₀) (g : arg3.view.ty.Contents (Elt F)) :
    arg3.view.read (Elt F) (arg3.view.writes (Elt F) g (st_k0_t1 (F := F) Variants.none c none i arg1 harg1 arg2 harg2 arg3 harg3 arg4 harg4
      (harg1.unread a) (harg2.unread b) init (Scf.trips k0_t1_loop.lb k0_t1_loop.ub k0_t1_loop.st)).2) = outB a b f₀ := by
  rw [trips0]
  obtain ⟨-, hp, hc⟩ := st_eq Variants.none c none i arg1 harg1 arg2 harg2 arg3 harg3 arg4 harg4 a b f₀ init hinit 128 le_rfl
  funext y
  exact View.read_writes_apply_of_pieces _ _ _ _ hp y (hc y (by have : (y 1).val < 1024 := (y 1).isLt; omega))

/-- The carried value after the loop is the state after the block's tokens. -/
theorem carry_loop (f₀ : ℕ → ℕ → ℕ → F .f32) (init : Four F) (hinit : init = four f₀) :
    (st_k0_t1 (F := F) Variants.none c none i arg1 harg1 arg2 harg2 arg3 harg3 arg4 harg4 (harg1.unread a) (harg2.unread b) init
      (Scf.trips k0_t1_loop.lb k0_t1_loop.ub k0_t1_loop.st)).1 = four (hB a b f₀ 128) := by
  rw [trips0]
  exact (st_eq Variants.none c none i arg1 harg1 arg2 harg2 arg3 harg3 arg4 harg4 a b f₀ init hinit 128 le_rfl).1

end Loop

/-- The triple of the body at the first point. -/
theorem body_first (c : Dev nD) (i : grid0.Coords) (arg1 : Memref sig .tc .vmem S4x1024x128 .f32) (harg1 : arg1.IsWhole)
    (arg2 : Memref sig .tc .vmem S4x1024x128 .f32) (harg2 : arg2.IsWhole) (arg3 : Memref sig .tc .vmem S4x1024x128 .f32) (harg3 : arg3.IsWhole)
    (arg4 : Memref sig .tc .vmem S4x8x128 .f32) (harg4 : arg4.IsWhole) (hc0 : first0 i) (a b : Vec F S4x1024x128 .f32)
    (E : Set ℕ) (K : PUnit → sProp 𝕄) :
    iprop(owns (c : Thread nD τ) arg1 fullShare a ∗ owns (c : Thread nD τ) arg2 fullShare b ∗ (∃ d, owns (c : Thread nD τ) arg3 fullShare d)
        ∗ (∃ d, owns (c : Thread nD τ) arg4 fullShare d)
        ∗ (iprop(owns (c : Thread nD τ) arg1 fullShare a ∗ owns (c : Thread nD τ) arg2 fullShare b
            ∗ owns (c : Thread nD τ) arg3 fullShare (outB a b zeroState)
            ∗ owns (c : Thread nD τ) arg4 fullShare (block (hB a b zeroState 128))) -∗ K ⟨⟩))
      ⊢ wp frame (wpE (defs₀ (F := F)) Variants.none c none) E (cc0_lru_scan i arg1 harg1 arg2 harg2 arg3 harg3 arg4 harg4) K := by
  simp only [cc0_lru_scan_eq_skeleton]; unfold cc0_lru_scan_skel
  simp only [k0_part2_eq_skeleton]
  unfold owns
  iintro ⟨⟨%f0, %hf0, H0⟩, ⟨%f1, %hf1, H1⟩, ⟨%d2, %f2, -, H2⟩, ⟨%ds0, %fs0, -, HS0⟩, Hk⟩
  obtain rfl := harg1.eq_unread hf0; obtain rfl := harg2.eq_unread hf1
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    refine read_loop c i arg1 harg1 arg2 harg2 arg3 harg3 arg4 harg4 a b zeroState _ ?_ _
    sl_unfold_run_names
    exact four_ext (load_zero arg4.view 0 _ rfl _ _) (load_zero arg4.view 1 _ rfl _ _) (load_zero arg4.view 2 _ rfl _ _) (load_zero arg4.view 3 _ rfl _ _)
  iexists _; isplitr; swap; · iexact HS0
  ipureintro
  sl_unfold_run_names
  exact store_blocks _ _ _ _ _ _ _ (carry_loop c i arg1 harg1 arg2 harg2 arg3 harg3 arg4 harg4 a b zeroState _
    (four_ext (load_zero arg4.view 0 _ rfl _ _) (load_zero arg4.view 1 _ rfl _ _) (load_zero arg4.view 2 _ rfl _ _) (load_zero arg4.view 3 _ rfl _ _))) _ _ _ _ _ _

/-- The triple of the body at a later point. -/
theorem body_later (c : Dev nD) (i : grid0.Coords) (arg1 : Memref sig .tc .vmem S4x1024x128 .f32) (harg1 : arg1.IsWhole)
    (arg2 : Memref sig .tc .vmem S4x1024x128 .f32) (harg2 : arg2.IsWhole) (arg3 : Memref sig .tc .vmem S4x1024x128 .f32) (harg3 : arg3.IsWhole)
    (arg4 : Memref sig .tc .vmem S4x8x128 .f32) (harg4 : arg4.IsWhole) (hc0 : ¬first0 i) (a b : Vec F S4x1024x128 .f32)
    (f : ℕ → ℕ → ℕ → F .f32)
    (E : Set ℕ) (K : PUnit → sProp 𝕄) :
    iprop(owns (c : Thread nD τ) arg1 fullShare a ∗ owns (c : Thread nD τ) arg2 fullShare b ∗ (∃ d, owns (c : Thread nD τ) arg3 fullShare d)
        ∗ owns (c : Thread nD τ) arg4 fullShare (block f)
        ∗ (iprop(owns (c : Thread nD τ) arg1 fullShare a ∗ owns (c : Thread nD τ) arg2 fullShare b
            ∗ owns (c : Thread nD τ) arg3 fullShare (outB a b f)
            ∗ owns (c : Thread nD τ) arg4 fullShare (block (hB a b f 128))) -∗ K ⟨⟩))
      ⊢ wp frame (wpE (defs₀ (F := F)) Variants.none c none) E (cc0_lru_scan i arg1 harg1 arg2 harg2 arg3 harg3 arg4 harg4) K := by
  simp only [cc0_lru_scan_eq_skeleton]; unfold cc0_lru_scan_skel
  simp only [k0_part2_eq_skeleton]
  unfold owns
  iintro ⟨⟨%f0, %hf0, H0⟩, ⟨%f1, %hf1, H1⟩, ⟨%d2, %f2, -, H2⟩, ⟨%fs0, %hfs0, HS0⟩, Hk⟩
  obtain rfl := harg1.eq_unread hf0; obtain rfl := harg2.eq_unread hf1; obtain rfl := harg4.eq_unread hfs0
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    refine read_loop c i arg1 harg1 arg2 harg2 arg3 harg3 arg4 harg4 a b f _ ?_ _
    sl_unfold_run_names
    exact four_ext (load_state harg4 f 0 _ rfl _ ) (load_state harg4 f 1 _ rfl _ ) (load_state harg4 f 2 _ rfl _ ) (load_state harg4 f 3 _ rfl _ )
  iexists _; isplitr; swap; · iexact HS0
  ipureintro
  sl_unfold_run_names
  exact store_blocks _ _ _ _ _ _ _ (carry_loop c i arg1 harg1 arg2 harg2 arg3 harg3 arg4 harg4 a b f _
    (four_ext (load_state harg4 f 0 _ rfl _ ) (load_state harg4 f 1 _ rfl _ ) (load_state harg4 f 2 _ rfl _ ) (load_state harg4 f 3 _ rfl _ ))) _ _ _ _ _ _

end Cert.KernelIdeal.Scan

end
-- ==== Proof.BwdBlock.lean ====
/-
  What one grid point of the backward scan computes. The grid runs from the last block of tokens to the first, and within a block the loop
  runs from token 127 to token 0: trip `k` works on token `127 - k`. `agB` is the gradient that reaches a token from the ones after it, `gB`
  the whole gradient of that token's state; the loop's carried value and the pieces it writes are these.
-/
module

public import proofs.«01_k».proof.Proof.FwdBlock
public import Idealize.ShloMosaic.Lib.Pipeline.FrameBody
public import Idealize.ShloMosaic.Lib.Tactic

@[expose] public section

set_option maxRecDepth 16384

noncomputable section

namespace Cert.KernelIdeal.Scan

open Idealize.ShloMosaic Idealize.ShloMosaic.TcCoe Idealize.ShloMosaic.Tactic Idealize.ShloMosaic.ValueIdx
open Cert.KernelIdeal Cert.KernelIdeal.Gen Cert.Scan

variable {F : FTy → Type} [FloatOps F]

/-- The gradient carried into trip `n` of a block that began with the gradient `c`: what the later tokens pass back to token `127 - n`. -/
def agB (a dh : Vec F S4x1024x128 .f32) (c : ℕ → ℕ → ℕ → F .f32) : ℕ → ℕ → ℕ → ℕ → F .f32
  | 0, s, r, l => c s r l
  | n + 1, s, r, l => FloatOps.mulf (rd a s (1016 - 8 * n + r) l) (FloatOps.addf (rd dh s (1016 - 8 * n + r) l) (agB a dh c n s r l))

/-- The gradient of the state of token `127 - n`. -/
def gB (a dh : Vec F S4x1024x128 .f32) (c : ℕ → ℕ → ℕ → F .f32) (n s r l : ℕ) : F .f32 :=
  FloatOps.addf (rd dh s (1016 - 8 * n + r) l) (agB a dh c n s r l)

/-- The gradient of `b`: at a row, the gradient of the state of its token. -/
def dbF (a dh : Vec F S4x1024x128 .f32) (c : ℕ → ℕ → ℕ → F .f32) (s r l : ℕ) : F .f32 := gB a dh c (127 - r / 8) s (r % 8) l

/-- The gradient of `a`: the same times the state before the token, which for the block's first token is `hb`. -/
def daF (a h dh : Vec F S4x1024x128 .f32) (hb c : ℕ → ℕ → ℕ → F .f32) (s r l : ℕ) : F .f32 :=
  FloatOps.mulf (dbF a dh c s r l) (if r / 8 = 0 then hb s (r % 8) l else rd h s (r - 8) l)

/-- An array of a block's shape, given by a function of natural coordinates. -/
abbrev arr (f : ℕ → ℕ → ℕ → F .f32) : Vec F S4x1024x128 .f32 := fun y => f (y 0).val (y 1).val (y 2).val

theorem gpay_apply {off : Fin 3 → ℕ} (inb : ∀ a, off a + S1x8x128.size a ≤ S4x1024x128.size a) (dh : Vec F S4x1024x128 .f32) (s o : ℕ)
    (ho : off = ![s, o, 0]) (g : FVec F S8x128 .f32) (i : Fin 8) (j : Fin 128) :
    k1_pay3 g (View.ld dh (Rect.unit (s := S4x1024x128) off S1x8x128.size inb)) (ix2 i j)
      = FloatOps.addf (rd dh s (o + i.val) j.val) (g (ix2 i j)) := by
  rw [← ld_rd inb dh s o ho i j]
  unfold k1_pay3
  exact congrArg (FloatOps.addf · (g (ix2 i j))) (shapeCast_1ab_ab_apply _ _ i j)

theorem cpay_apply {off : Fin 3 → ℕ} (inb : ∀ a, off a + S1x8x128.size a ≤ S4x1024x128.size a) (a dh : Vec F S4x1024x128 .f32) (s o : ℕ)
    (ho : off = ![s, o, 0]) (g : FVec F S8x128 .f32) (i : Fin 8) (j : Fin 128) :
    k1_pay6 g (View.ld dh (Rect.unit (s := S4x1024x128) off S1x8x128.size inb))
        (View.ld a (Rect.unit (s := S4x1024x128) off S1x8x128.size inb)) (ix2 i j)
      = FloatOps.mulf (rd a s (o + i.val) j.val) (FloatOps.addf (rd dh s (o + i.val) j.val) (g (ix2 i j))) := by
  rw [← ld_rd inb a s o ho i j, ← gpay_apply inb dh s o ho g i j]
  unfold k1_pay6
  exact congrArg (FloatOps.mulf · _) (shapeCast_1ab_ab_apply _ _ i j)

/-- The word compared with zero to find the block's first token. -/
theorem first_word : ∀ k : Fin k1_t1_loop.trips, Scalar.cmpi .eq (Scalar.subi (127#32) (Scf.iv 0#32 1#32 k.val)) 0#32
    = if 127 - k.val = 0 then 1#1 else 0#1 := by decide +kernel

theorem trips1_lt (k : Fin k1_t1_loop.trips) : k.val < 128 :=
  lt_of_lt_of_eq k.isLt (by decide +kernel)

theorem off2_eq : ∀ k : Fin k1_t1_loop.trips, k1_off2 k = ![0, 1008 - 8 * k.val, 0] := by decide +kernel
theorem off4_eq : ∀ k : Fin k1_t1_loop.trips, k1_off4 k = ![1, 1008 - 8 * k.val, 0] := by decide +kernel
theorem off6_eq : ∀ k : Fin k1_t1_loop.trips, k1_off6 k = ![2, 1008 - 8 * k.val, 0] := by decide +kernel
theorem off8_eq : ∀ k : Fin k1_t1_loop.trips, k1_off8 k = ![3, 1008 - 8 * k.val, 0] := by decide +kernel

/-- A piece of eight rows whose payload has a function's values holds that function over its rectangle. -/
theorem piece_of {off : Fin 3 → ℕ} (inb : ∀ d, off d + S1x8x128.size d ≤ S4x1024x128.size d) (f : ℕ → ℕ → ℕ → F .f32) (s o : ℕ)
    (ho : off = ![s, o, 0]) (v : FVec F S8x128 .f32) (h : S8x128.ShapeCasts S1x8x128)
    (hv : ∀ (i : Fin 8) (j : Fin 128), v (ix2 i j) = f s (o + i.val) j.val) (x : S1x8x128.Idx) :
    shapeCast S1x8x128 v h x = arr f ((Rect.unit (s := S4x1024x128) off S1x8x128.size inb).emb x) := by
  subst ho
  refine ((congrArg _ (eq_ix3 x)).trans (shapeCast_ab_1ab_apply _ h (x 0) (x 1) (x 2))).trans ((hv (x 1) (x 2)).trans ?_)
  have h0 : (x 0).val < 1 := (x 0).isLt
  show f s (o + (x 1).val) (x 2).val = f (s + 1 * (x 0).val) (o + 1 * (x 1).val) (0 + 1 * (x 2).val)
  congr 1 <;> omega

/-- The piece of the gradient of `a` that one batch of a trip writes. -/
theorem da_piece (a h dh : Vec F S4x1024x128 .f32) (hb c : ℕ → ℕ → ℕ → F .f32) (k : Fin k1_t1_loop.trips) (s : ℕ)
    {off off' : Fin 3 → ℕ} (inb : ∀ d, off d + S1x8x128.size d ≤ S4x1024x128.size d) (inb' : ∀ d, off' d + S1x8x128.size d ≤ S4x1024x128.size d)
    (ho : off = ![s, 1016 - 8 * k.val, 0]) (ho' : off' = ![s, 1008 - 8 * k.val, 0]) (x : S1x8x128.Idx) :
    k1_pay5 (fun j => hb s (j 0).val (j 1).val) (fun j => agB a dh c k.val s (j 0).val (j 1).val)
        (Scalar.subi (127#32) (Scf.iv 0#32 1#32 k.val)) (View.ld dh (Rect.unit (s := S4x1024x128) off S1x8x128.size inb))
        (View.ld h (Rect.unit (s := S4x1024x128) off' S1x8x128.size inb')) x
      = arr (daF a h dh hb c) ((Rect.unit (s := S4x1024x128) off S1x8x128.size inb).emb x) := by
  have hk := trips1_lt k
  unfold k1_pay5
  refine piece_of inb _ s _ ho _ _ (fun i j => ?_) x
  have e1 : (1016 - 8 * k.val + i.val) / 8 = 127 - k.val := by omega
  have e2 : (1016 - 8 * k.val + i.val) % 8 = i.val := by omega
  have e3 : 127 - (127 - k.val) = k.val := by omega
  unfold daF dbF gB
  rw [e1, e2, e3, first_word k]
  refine congrArg₂ FloatOps.mulf (gpay_apply inb dh s _ ho _ i j) ?_
  by_cases h0 : 127 - k.val = 0
  · rw [if_pos h0, if_pos h0]; rfl
  · rw [if_neg h0, if_neg h0]
    refine (shapeCast_1ab_ab_apply _ _ i j).trans ((ld_rd inb' h s _ ho' i j).trans ?_)
    congr 1; omega

/-- The piece of the gradient of `b` that one batch of a trip writes. -/
theorem db_piece (a dh : Vec F S4x1024x128 .f32) (c : ℕ → ℕ → ℕ → F .f32) (k : Fin k1_t1_loop.trips) (s : ℕ)
    {off : Fin 3 → ℕ} (inb : ∀ d, off d + S1x8x128.size d ≤ S4x1024x128.size d)
    (ho : off = ![s, 1016 - 8 * k.val, 0]) (x : S1x8x128.Idx) :
    k1_pay4 (fun j => agB a dh c k.val s (j 0).val (j 1).val) (View.ld dh (Rect.unit (s := S4x1024x128) off S1x8x128.size inb)) x
      = arr (dbF a dh c) ((Rect.unit (s := S4x1024x128) off S1x8x128.size inb).emb x) := by
  have hk := trips1_lt k
  unfold k1_pay4
  refine piece_of inb _ s _ ho _ _ (fun i j => ?_) x
  have e1 : (1016 - 8 * k.val + i.val) / 8 = 127 - k.val := by omega
  have e2 : (1016 - 8 * k.val + i.val) % 8 = i.val := by omega
  have e3 : 127 - (127 - k.val) = k.val := by omega
  unfold dbF gB
  rw [e1, e2, e3]
  exact gpay_apply inb dh s _ ho _ i j

section Loop

variable (𝒱 : Variants) (c : Dev nD) (bd : Option 𝒱.V) (i : grid1.Coords) (arg1 : Memref sig .tc .vmem S4x1024x128 .f32) (harg1 : arg1.IsWhole)
  (arg2 : Memref sig .tc .vmem S4x1024x128 .f32) (harg2 : arg2.IsWhole) (arg3 : Memref sig .tc .vmem S4x8x128 .f32) (harg3 : arg3.IsWhole)
  (arg4 : Memref sig .tc .vmem S4x1024x128 .f32) (harg4 : arg4.IsWhole) (arg5 : Memref sig .tc .vmem S4x1024x128 .f32) (harg5 : arg5.IsWhole)
  (arg6 : Memref sig .tc .vmem S4x1024x128 .f32) (harg6 : arg6.IsWhole) (arg7 : Memref sig .tc .vmem S4x8x128 .f32) (harg7 : arg7.IsWhole)
  (a h dh : Vec F S4x1024x128 .f32) (hb : ℕ → ℕ → ℕ → F .f32)

/-- What one trip carries on. -/
theorem tripR1_eq (k : Fin k1_t1_loop.trips) (f : ℕ → ℕ → ℕ → F .f32) :
    tripR_k1_t1 (F := F) 𝒱 c bd i arg1 harg1 arg2 harg2 arg3 harg3 arg4 harg4 arg5 harg5 arg6 harg6 arg7 harg7
        (four hb).1 (four hb).2.1 (four hb).2.2.1 (four hb).2.2.2 (harg1.unread a) (harg2.unread h) (harg4.unread dh) k (four f)
      = four (fun s r l => FloatOps.mulf (rd a s (1016 - 8 * k.val + r) l) (FloatOps.addf (rd dh s (1016 - 8 * k.val + r) l) (f s r l))) := by
  unfold tripR_k1_t1 trip_k1_t1
  dsimp only
  sl_unfold_run_names
  simp only [View.readAt_eq_ld, harg1.read_unread, harg2.read_unread, harg4.read_unread]
  refine Prod.ext (funext fun j => ?_) (Prod.ext (funext fun j => ?_) (Prod.ext (funext fun j => ?_) (funext fun j => ?_))) <;>
    rw [eq_ix2 j]
  · exact cpay_apply _ a dh 0 _ (k1_off1_eq k) _ _ _
  · exact cpay_apply _ a dh 1 _ (k1_off3_eq k) _ _ _
  · exact cpay_apply _ a dh 2 _ (k1_off5_eq k) _ _ _
  · exact cpay_apply _ a dh 3 _ (k1_off7_eq k) _ _ _

/-- A trip's rows of a batch lie in that batch's rectangle. -/
theorem mem_rows {off : Fin 3 → ℕ} (inb : ∀ d, off d + S1x8x128.size d ≤ S4x1024x128.size d) (y : S4x1024x128.Idx) (o : ℕ)
    (ho : off = ![(y 0).val, o, 0]) (hlo : o ≤ (y 1).val) (hhi : (y 1).val < o + 8) :
    y ∈ (Rect.unit (s := S4x1024x128) off S1x8x128.size inb).set := by
  have h2 : (y 2).val < 128 := (y 2).isLt
  subst ho
  rw [Rect.mem_set_unit]
  intro d
  match d with
  | ⟨0, _⟩ => exact ⟨le_refl (y 0).val, Nat.lt_succ_self (y 0).val⟩
  | ⟨1, _⟩ => exact ⟨hlo, hhi⟩
  | ⟨2, _⟩ => exact ⟨Nat.zero_le _, by show (y 2).val < 0 + 128; omega⟩

/-- The pieces one trip writes hold the two gradients and cover the trip's rows. -/
theorem tripL1_eq (k : Fin k1_t1_loop.trips) (c₀ : ℕ → ℕ → ℕ → F .f32) :
    let P := tripL_k1_t1 (F := F) 𝒱 c bd i arg1 harg1 arg2 harg2 arg3 harg3 arg4 harg4 arg5 harg5 arg6 harg6 arg7 harg7
        (four hb).1 (four hb).2.1 (four hb).2.2.1 (four hb).2.2.2 (harg1.unread a) (harg2.unread h) (harg4.unread dh) k (four (agB a dh c₀ k.val))
    ((∀ p ∈ P.1, ∀ x, p.2 x = arr (daF a h dh hb c₀) (p.1.emb x)) ∧ (∀ p ∈ P.2, ∀ x, p.2 x = arr (dbF a dh c₀) (p.1.emb x))) ∧
    ∀ y : S4x1024x128.Idx, 1016 - 8 * k.val ≤ (y 1).val → (y 1).val < 1016 - 8 * k.val + 8 →
      (∃ p ∈ P.1, y ∈ p.1.set) ∧ ∃ p ∈ P.2, y ∈ p.1.set := by
  unfold tripL_k1_t1 trip_k1_t1
  dsimp only
  sl_unfold_run_names
  simp only [View.readAt_eq_ld, harg1.read_unread, harg2.read_unread, harg4.read_unread]
  refine ⟨⟨fun p hp => ?_, fun p hp => ?_⟩, fun y hlo hhi => ?_⟩
  · simp only [List.mem_cons, List.not_mem_nil, or_false] at hp
    rcases hp with rfl | rfl | rfl | rfl
    · exact fun x => da_piece a h dh hb c₀ k 3 _ _ (k1_off7_eq k) (off8_eq k) x
    · exact fun x => da_piece a h dh hb c₀ k 2 _ _ (k1_off5_eq k) (off6_eq k) x
    · exact fun x => da_piece a h dh hb c₀ k 1 _ _ (k1_off3_eq k) (off4_eq k) x
    · exact fun x => da_piece a h dh hb c₀ k 0 _ _ (k1_off1_eq k) (off2_eq k) x
  · simp only [List.mem_cons, List.not_mem_nil, or_false] at hp
    rcases hp with rfl | rfl | rfl | rfl
    · exact fun x => db_piece a dh c₀ k 3 _ (k1_off7_eq k) x
    · exact fun x => db_piece a dh c₀ k 2 _ (k1_off5_eq k) x
    · exact fun x => db_piece a dh c₀ k 1 _ (k1_off3_eq k) x
    · exact fun x => db_piece a dh c₀ k 0 _ (k1_off1_eq k) x
  · have h0 : (y 0).val < 4 := (y 0).isLt
    obtain h | h | h | h : (y 0).val = 0 ∨ (y 0).val = 1 ∨ (y 0).val = 2 ∨ (y 0).val = 3 := by omega
    · have hm := mem_rows (k1_off1_inb k) y _ (by rw [h]; exact k1_off1_eq k) hlo hhi
      exact ⟨⟨_, List.mem_cons_of_mem _ (List.mem_cons_of_mem _ (List.mem_cons_of_mem _ List.mem_cons_self)), hm⟩,
        ⟨_, List.mem_cons_of_mem _ (List.mem_cons_of_mem _ (List.mem_cons_of_mem _ List.mem_cons_self)), hm⟩⟩
    · have hm := mem_rows (k1_off3_inb k) y _ (by rw [h]; exact k1_off3_eq k) hlo hhi
      exact ⟨⟨_, List.mem_cons_of_mem _ (List.mem_cons_of_mem _ List.mem_cons_self), hm⟩,
        ⟨_, List.mem_cons_of_mem _ (List.mem_cons_of_mem _ List.mem_cons_self), hm⟩⟩
    · have hm := mem_rows (k1_off5_inb k) y _ (by rw [h]; exact k1_off5_eq k) hlo hhi
      exact ⟨⟨_, List.mem_cons_of_mem _ List.mem_cons_self, hm⟩, ⟨_, List.mem_cons_of_mem _ List.mem_cons_self, hm⟩⟩
    · have hm := mem_rows (k1_off7_inb k) y _ (by rw [h]; exact k1_off7_eq k) hlo hhi
      exact ⟨⟨_, List.mem_cons_self, hm⟩, ⟨_, List.mem_cons_self, hm⟩⟩

/-- The loop before trip `k`: the carried value is the gradient passed back so far, and the pieces written hold the two gradients of the
    tokens done and cover their rows. -/
theorem st1_eq (c₀ : ℕ → ℕ → ℕ → F .f32) (init v : Four F) (hinit : init = four c₀) (hv : v = four hb) : ∀ k : ℕ, k ≤ 128 →
    let S := st_k1_t1 (F := F) 𝒱 c bd i arg1 harg1 arg2 harg2 arg3 harg3 arg4 harg4 arg5 harg5 arg6 harg6 arg7 harg7
        v.1 v.2.1 v.2.2.1 v.2.2.2 (harg1.unread a) (harg2.unread h) (harg4.unread dh) init k
    S.1 = four (agB a dh c₀ k) ∧
    ((∀ p ∈ S.2.1, ∀ x, p.2 x = arr (daF a h dh hb c₀) (p.1.emb x)) ∧ (∀ p ∈ S.2.2, ∀ x, p.2 x = arr (dbF a dh c₀) (p.1.emb x))) ∧
    ∀ y : S4x1024x128.Idx, 1024 - 8 * k ≤ (y 1).val → (∃ p ∈ S.2.1, y ∈ p.1.set) ∧ ∃ p ∈ S.2.2, y ∈ p.1.set
  | 0, _ => ⟨hinit, ⟨fun p hp => absurd hp List.not_mem_nil, fun p hp => absurd hp List.not_mem_nil⟩,
      fun y hy => absurd hy (by have : (y 1).val < 1024 := (y 1).isLt; omega)⟩
  | k + 1, hk => by
    obtain ⟨h1, ⟨h2, h2'⟩, h3⟩ := st1_eq c₀ init v hinit hv k (by omega)
    subst hv
    have hlt : k < k1_t1_loop.trips := by have : k1_t1_loop.trips = 128 := by decide +kernel
                                          omega
    have hs := st_k1_t1_succ (F := F) 𝒱 c bd i arg1 harg1 arg2 harg2 arg3 harg3 arg4 harg4 arg5 harg5 arg6 harg6 arg7 harg7
      (four hb).1 (four hb).2.1 (four hb).2.2.1 (four hb).2.2.2 (harg1.unread a) (harg2.unread h) (harg4.unread dh) init ⟨k, hlt⟩
    dsimp only at hs
    dsimp only
    rw [hs, h1]
    obtain ⟨⟨hp, hp'⟩, hc⟩ := tripL1_eq 𝒱 c bd i arg1 harg1 arg2 harg2 arg3 harg3 arg4 harg4 arg5 harg5 arg6 harg6 arg7 harg7 a h dh hb ⟨k, hlt⟩ c₀
    refine ⟨tripR1_eq 𝒱 c bd i arg1 harg1 arg2 harg2 arg3 harg3 arg4 harg4 arg5 harg5 arg6 harg6 arg7 harg7 a h dh hb ⟨k, hlt⟩ (agB a dh c₀ k),
      ⟨fun p hm => ?_, fun p hm => ?_⟩, fun y hy => ?_⟩
    · rcases List.mem_append.mp hm with hm | hm
      · exact hp p hm
      · exact h2 p hm
    · rcases List.mem_append.mp hm with hm | hm
      · exact hp' p hm
      · exact h2' p hm
    · by_cases hlo : 1024 - 8 * k ≤ (y 1).val
      · obtain ⟨⟨p, hm, hy'⟩, ⟨p', hm', hy''⟩⟩ := h3 y hlo
        exact ⟨⟨p, List.mem_append_right _ hm, hy'⟩, ⟨p', List.mem_append_right _ hm', hy''⟩⟩
      · obtain ⟨⟨p, hm, hy'⟩, ⟨p', hm', hy''⟩⟩ := hc y (by show 1016 - 8 * k ≤ _; omega) (by show _ < 1016 - 8 * k + 8; omega)
        exact ⟨⟨p, List.mem_append_left _ hm, hy'⟩, ⟨p', List.mem_append_left _ hm', hy''⟩⟩

end Loop

end Cert.KernelIdeal.Scan

end
-- ==== Proof.BwdBody.lean ====
/-
  The backward scan's body at a grid point, as a triple: handed the blocks of `a`, of the states and of their gradients, the eight rows
  before the block, and the gradient carried so far (at the first point, a scratch at anything, which the body zeroes), it leaves the
  blocks of the two gradients and the gradient to carry to the block before.
-/
module

public import proofs.«01_k».proof.Proof.FwdBody
public import proofs.«01_k».proof.Proof.BwdBlock
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameSuffix
public import Idealize.ShloMosaic.Lib.Ring
public import Idealize.ShloMosaic.Lib.WordCmp
public import Idealize.ShloMosaic.Lib.Writes
public import Idealize.ShloMosaic.Lib.WritesUnit

@[expose] public section

set_option maxRecDepth 16384

noncomputable section

namespace Cert.KernelIdeal.Scan

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen Cert.Scan

variable {F : FTy → Type} [FloatOps F]

local notation "𝕄" => MT nD τ sig Unit (Elt F) ℕ (UR sig nD τ) ℕ

/-- The body's one condition: the grid's first point. -/
abbrev first1 (i : grid1.Coords) : Prop :=
  (Scalar.cmpi .ne (Scalar.extui (Scalar.cmpi .eq (BitVec.ofNat 32 (i 0).val) 0#32)) 0#32) = 1#1

theorem first1_iff : ∀ t : Fin cfg1.N, first1 (grid1.coords t) ↔ t.val = 0 :=
  (fun t => by
    have ht : t.val < 17 := Nat.lt_of_lt_of_eq t.isLt N_1
    have e0 : (grid1.coords t 0).val = t.val / 1 % 17 := Pipeline.Grid.coords_val t 0 (by decide) rfl
    simp only [first1, e0]
    word_cmp
   : ∀ t : Fin grid1.N, first1 (grid1.coords t) ↔ t.val = 0)

/-- The state before the block's first token: the rows read before the block, and zero for the sequence's first block. -/
def hbB (i : grid1.Coords) (p : ℕ → ℕ → ℕ → F .f32) : ℕ → ℕ → ℕ → F .f32 := fun s r l =>
  Scalar.select (Scalar.cmpi .eq (BitVec.ofNat 32 (i 0).val) 16#32) (Scalar.ofBits .f32 0x00000000#32) (p s r l)

theorem hbB_eq : ∀ (t : Fin cfg1.N) (p : ℕ → ℕ → ℕ → F .f32) (s r l : ℕ),
    hbB (grid1.coords t) p s r l = if t.val = 16 then Scalar.ofBits .f32 0x00000000#32 else p s r l :=
  (fun t p s r l => by
    have hw : ∀ t : Fin grid1.N, Scalar.cmpi .eq (BitVec.ofNat 32 (grid1.coords t 0).val) 16#32 = if t.val = 16 then 1#1 else 0#1 := by
      decide +kernel
    unfold hbB
    rw [hw t]
    by_cases h : t.val = 16
    · rw [if_pos h, if_pos h]; rfl
    · rw [if_neg h, if_neg h]; rfl
   : ∀ (t : Fin grid1.N) (p : ℕ → ℕ → ℕ → F .f32) (s r l : ℕ),
    hbB (grid1.coords t) p s r l = if t.val = 16 then Scalar.ofBits .f32 0x00000000#32 else p s r l)

/-- One batch of the state before the block. -/
theorem pay_hb {i : grid1.Coords} {v : Vec F S1x8x128 .f32} {p : ℕ → ℕ → ℕ → F .f32} {s : ℕ}
    (hv : shapeCast S8x128 v shapeCasts_S1x8x128_S8x128 = fun j => p s (j 0).val (j 1).val) :
    k1_pay24 i v = fun j => hbB i p s (j 0).val (j 1).val := by
  unfold k1_pay24
  dsimp only
  rw [hv]
  funext j
  unfold hbB Scalar.select
  split <;> rfl

section Loop

variable (c : Dev nD) (i : grid1.Coords) (arg1 : Memref sig .tc .vmem S4x1024x128 .f32) (harg1 : arg1.IsWhole)
    (arg2 : Memref sig .tc .vmem S4x1024x128 .f32) (harg2 : arg2.IsWhole) (arg3 : Memref sig .tc .vmem S4x8x128 .f32) (harg3 : arg3.IsWhole)
    (arg4 : Memref sig .tc .vmem S4x1024x128 .f32) (harg4 : arg4.IsWhole) (arg5 : Memref sig .tc .vmem S4x1024x128 .f32) (harg5 : arg5.IsWhole)
    (arg6 : Memref sig .tc .vmem S4x1024x128 .f32) (harg6 : arg6.IsWhole) (arg7 : Memref sig .tc .vmem S4x8x128 .f32) (harg7 : arg7.IsWhole)
  (a h dh : Vec F S4x1024x128 .f32) (hb : ℕ → ℕ → ℕ → F .f32)

theorem trips1 : Scf.trips k1_t1_loop.lb k1_t1_loop.ub k1_t1_loop.st = 128 := by decide +kernel

/-- The buffers of the two outputs after the loop. -/
theorem read_loop1 (f₀ : ℕ → ℕ → ℕ → F .f32) (init : Four F) (hinit : init = four f₀) (v0 v1 v2 v3 : FVec F S8x128 .f32)
    (hv : ((v0, v1, v2, v3) : Four F) = four hb) (g : arg5.view.ty.Contents (Elt F)) (g' : arg6.view.ty.Contents (Elt F)) :
    let S := st_k1_t1 (F := F) Variants.none c none i arg1 harg1 arg2 harg2 arg3 harg3 arg4 harg4 arg5 harg5 arg6 harg6 arg7 harg7
      v0 v1 v2 v3 (harg1.unread a) (harg2.unread h) (harg4.unread dh) init (Scf.trips k1_t1_loop.lb k1_t1_loop.ub k1_t1_loop.st)
    arg5.view.read (Elt F) (arg5.view.writes (Elt F) g S.2.1) = arr (daF a h dh hb f₀)
      ∧ arg6.view.read (Elt F) (arg6.view.writes (Elt F) g' S.2.2) = arr (dbF a dh f₀) := by
  rw [trips1]
  obtain ⟨-, ⟨hp, hp'⟩, hc⟩ := st1_eq Variants.none c none i arg1 harg1 arg2 harg2 arg3 harg3 arg4 harg4 arg5 harg5 arg6 harg6 arg7 harg7 a h dh hb f₀ init (v0, v1, v2, v3) hinit hv 128 le_rfl
  refine ⟨funext fun y => ?_, funext fun y => ?_⟩
  · exact View.read_writes_apply_of_pieces _ _ _ _ hp y (hc y (by omega)).1
  · exact View.read_writes_apply_of_pieces _ _ _ _ hp' y (hc y (by omega)).2

/-- The carried value after the loop. -/
theorem carry_loop1 (f₀ : ℕ → ℕ → ℕ → F .f32) (init : Four F) (hinit : init = four f₀) (v0 v1 v2 v3 : FVec F S8x128 .f32)
    (hv : ((v0, v1, v2, v3) : Four F) = four hb) :
    (st_k1_t1 (F := F) Variants.none c none i arg1 harg1 arg2 harg2 arg3 harg3 arg4 harg4 arg5 harg5 arg6 harg6 arg7 harg7
      v0 v1 v2 v3 (harg1.unread a) (harg2.unread h) (harg4.unread dh) init (Scf.trips k1_t1_loop.lb k1_t1_loop.ub k1_t1_loop.st)).1
      = four (agB a dh f₀ 128) := by
  rw [trips1]
  exact (st1_eq Variants.none c none i arg1 harg1 arg2 harg2 arg3 harg3 arg4 harg4 arg5 harg5 arg6 harg6 arg7 harg7 a h dh hb f₀ init (v0, v1, v2, v3) hinit hv 128 le_rfl).1

end Loop

/-- The triple of the body at the first point. -/
theorem body_first1 (c : Dev nD) (i : grid1.Coords) (arg1 : Memref sig .tc .vmem S4x1024x128 .f32) (harg1 : arg1.IsWhole)
    (arg2 : Memref sig .tc .vmem S4x1024x128 .f32) (harg2 : arg2.IsWhole) (arg3 : Memref sig .tc .vmem S4x8x128 .f32) (harg3 : arg3.IsWhole)
    (arg4 : Memref sig .tc .vmem S4x1024x128 .f32) (harg4 : arg4.IsWhole) (arg5 : Memref sig .tc .vmem S4x1024x128 .f32) (harg5 : arg5.IsWhole)
    (arg6 : Memref sig .tc .vmem S4x1024x128 .f32) (harg6 : arg6.IsWhole) (arg7 : Memref sig .tc .vmem S4x8x128 .f32) (harg7 : arg7.IsWhole)
    (hc0 : first1 i) (a h dh : Vec F S4x1024x128 .f32) (p : ℕ → ℕ → ℕ → F .f32)
    (E : Set ℕ) (K : PUnit → sProp 𝕄) :
    iprop(owns (c : Thread nD τ) arg1 fullShare a ∗ owns (c : Thread nD τ) arg2 fullShare h ∗ owns (c : Thread nD τ) arg3 fullShare (block p) ∗ owns (c : Thread nD τ) arg4 fullShare dh ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare a ∗ owns (c : Thread nD τ) arg2 fullShare h ∗ owns (c : Thread nD τ) arg3 fullShare (block p) ∗ owns (c : Thread nD τ) arg4 fullShare dh
            ∗ owns (c : Thread nD τ) arg5 fullShare (arr (daF a h dh (hbB i p) zeroState)) ∗ owns (c : Thread nD τ) arg6 fullShare (arr (dbF a dh zeroState))
            ∗ owns (c : Thread nD τ) arg7 fullShare (block (agB a dh zeroState 128))) -∗ K ⟨⟩))
      ⊢ wp frame (wpE (defs₀ (F := F)) Variants.none c none) E (cc1_lru_scan_bwd i arg1 harg1 arg2 harg2 arg3 harg3 arg4 harg4 arg5 harg5 arg6 harg6 arg7 harg7) K := by
  simp only [cc1_lru_scan_bwd_eq_skeleton]; unfold cc1_lru_scan_bwd_skel
  simp only [k1_part3_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
  obtain rfl := harg1.eq_unread hf0; obtain rfl := harg2.eq_unread hf1; obtain rfl := harg3.eq_unread hf2; obtain rfl := harg4.eq_unread hf3
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    refine (read_loop1 c i arg1 harg1 arg2 harg2 arg3 harg3 arg4 harg4 arg5 harg5 arg6 harg6 arg7 harg7 a h dh (hbB i p) zeroState _ ?_ _ _ _ _ ?_ _ f5).1
    · sl_unfold_run_names
      exact four_ext (load_zero arg7.view 0 _ rfl _ _) (load_zero arg7.view 1 _ rfl _ _) (load_zero arg7.view 2 _ rfl _ _) (load_zero arg7.view 3 _ rfl _ _)
    · sl_unfold_run_names
      exact (four_ext (pay_hb (load_state harg3 p 0 _ rfl _)) (pay_hb (load_state harg3 p 1 _ rfl _)) (pay_hb (load_state harg3 p 2 _ rfl _)) (pay_hb (load_state harg3 p 3 _ rfl _)))
  isplitl [H5]
  · iexists _; isplitr; swap; · iexact H5
    ipureintro
    refine (read_loop1 c i arg1 harg1 arg2 harg2 arg3 harg3 arg4 harg4 arg5 harg5 arg6 harg6 arg7 harg7 a h dh (hbB i p) zeroState _ ?_ _ _ _ _ ?_ f4 _).2
    · sl_unfold_run_names
      exact four_ext (load_zero arg7.view 0 _ rfl _ _) (load_zero arg7.view 1 _ rfl _ _) (load_zero arg7.view 2 _ rfl _ _) (load_zero arg7.view 3 _ rfl _ _)
    · sl_unfold_run_names
      exact (four_ext (pay_hb (load_state harg3 p 0 _ rfl _)) (pay_hb (load_state harg3 p 1 _ rfl _)) (pay_hb (load_state harg3 p 2 _ rfl _)) (pay_hb (load_state harg3 p 3 _ rfl _)))
  iexists _; isplitr; swap; · iexact HS0
  ipureintro
  sl_unfold_run_names
  exact store_blocks _ _ _ _ _ _ _ (carry_loop1 c i arg1 harg1 arg2 harg2 arg3 harg3 arg4 harg4 arg5 harg5 arg6 harg6 arg7 harg7 a h dh (hbB i p) zeroState _
    (four_ext (load_zero arg7.view 0 _ rfl _ _) (load_zero arg7.view 1 _ rfl _ _) (load_zero arg7.view 2 _ rfl _ _) (load_zero arg7.view 3 _ rfl _ _)) _ _ _ _
    (four_ext (pay_hb (load_state harg3 p 0 _ rfl _)) (pay_hb (load_state harg3 p 1 _ rfl _)) (pay_hb (load_state harg3 p 2 _ rfl _)) (pay_hb (load_state harg3 p 3 _ rfl _)))) _ _ _ _ _ _

/-- The triple of the body at a later point. -/
theorem body_later1 (c : Dev nD) (i : grid1.Coords) (arg1 : Memref sig .tc .vmem S4x1024x128 .f32) (harg1 : arg1.IsWhole)
    (arg2 : Memref sig .tc .vmem S4x1024x128 .f32) (harg2 : arg2.IsWhole) (arg3 : Memref sig .tc .vmem S4x8x128 .f32) (harg3 : arg3.IsWhole)
    (arg4 : Memref sig .tc .vmem S4x1024x128 .f32) (harg4 : arg4.IsWhole) (arg5 : Memref sig .tc .vmem S4x1024x128 .f32) (harg5 : arg5.IsWhole)
    (arg6 : Memref sig .tc .vmem S4x1024x128 .f32) (harg6 : arg6.IsWhole) (arg7 : Memref sig .tc .vmem S4x8x128 .f32) (harg7 : arg7.IsWhole)
    (hc0 : ¬first1 i) (a h dh : Vec F S4x1024x128 .f32) (p f : ℕ → ℕ → ℕ → F .f32)
    (E : Set ℕ) (K : PUnit → sProp 𝕄) :
    iprop(owns (c : Thread nD τ) arg1 fullShare a ∗ owns (c : Thread nD τ) arg2 fullShare h ∗ owns (c : Thread nD τ) arg3 fullShare (block p) ∗ owns (c : Thread nD τ) arg4 fullShare dh ∗ (∃ d, owns (c : Thread nD τ) arg5 fullShare d) ∗ (∃ d, owns (c : Thread nD τ) arg6 fullShare d)
        ∗ owns (c : Thread nD τ) arg7 fullShare (block f)
        ∗ (iprop(owns (c : Thread nD τ) arg1 fullShare a ∗ owns (c : Thread nD τ) arg2 fullShare h ∗ owns (c : Thread nD τ) arg3 fullShare (block p) ∗ owns (c : Thread nD τ) arg4 fullShare dh
            ∗ owns (c : Thread nD τ) arg5 fullShare (arr (daF a h dh (hbB i p) f)) ∗ owns (c : Thread nD τ) arg6 fullShare (arr (dbF a dh f))
            ∗ owns (c : Thread nD τ) arg7 fullShare (block (agB a dh f 128))) -∗ K ⟨⟩))
      ⊢ wp frame (wpE (defs₀ (F := F)) Variants.none c none) E (cc1_lru_scan_bwd i arg1 harg1 arg2 harg2 arg3 harg3 arg4 harg4 arg5 harg5 arg6 harg6 arg7 harg7) K := by
  simp only [cc1_lru_scan_bwd_eq_skeleton]; unfold cc1_lru_scan_bwd_skel
  simp only [k1_part3_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
  obtain rfl := harg1.eq_unread hf0; obtain rfl := harg2.eq_unread hf1; obtain rfl := harg3.eq_unread hf2; obtain rfl := harg4.eq_unread hf3; obtain rfl := harg7.eq_unread hfs0
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    refine (read_loop1 c i arg1 harg1 arg2 harg2 arg3 harg3 arg4 harg4 arg5 harg5 arg6 harg6 arg7 harg7 a h dh (hbB i p) f _ ?_ _ _ _ _ ?_ _ f5).1
    · sl_unfold_run_names
      exact four_ext (load_state harg7 f 0 _ rfl _) (load_state harg7 f 1 _ rfl _) (load_state harg7 f 2 _ rfl _) (load_state harg7 f 3 _ rfl _)
    · sl_unfold_run_names
      exact (four_ext (pay_hb (load_state harg3 p 0 _ rfl _)) (pay_hb (load_state harg3 p 1 _ rfl _)) (pay_hb (load_state harg3 p 2 _ rfl _)) (pay_hb (load_state harg3 p 3 _ rfl _)))
  isplitl [H5]
  · iexists _; isplitr; swap; · iexact H5
    ipureintro
    refine (read_loop1 c i arg1 harg1 arg2 harg2 arg3 harg3 arg4 harg4 arg5 harg5 arg6 harg6 arg7 harg7 a h dh (hbB i p) f _ ?_ _ _ _ _ ?_ f4 _).2
    · sl_unfold_run_names
      exact four_ext (load_state harg7 f 0 _ rfl _) (load_state harg7 f 1 _ rfl _) (load_state harg7 f 2 _ rfl _) (load_state harg7 f 3 _ rfl _)
    · sl_unfold_run_names
      exact (four_ext (pay_hb (load_state harg3 p 0 _ rfl _)) (pay_hb (load_state harg3 p 1 _ rfl _)) (pay_hb (load_state harg3 p 2 _ rfl _)) (pay_hb (load_state harg3 p 3 _ rfl _)))
  iexists _; isplitr; swap; · iexact HS0
  ipureintro
  sl_unfold_run_names
  exact store_blocks _ _ _ _ _ _ _ (carry_loop1 c i arg1 harg1 arg2 harg2 arg3 harg3 arg4 harg4 arg5 harg5 arg6 harg6 arg7 harg7 a h dh (hbB i p) f _
    (four_ext (load_state harg7 f 0 _ rfl _) (load_state harg7 f 1 _ rfl _) (load_state harg7 f 2 _ rfl _) (load_state harg7 f 3 _ rfl _)) _ _ _ _
    (four_ext (pay_hb (load_state harg3 p 0 _ rfl _)) (pay_hb (load_state harg3 p 1 _ rfl _)) (pay_hb (load_state harg3 p 2 _ rfl _)) (pay_hb (load_state harg3 p 3 _ rfl _)))) _ _ _ _ _ _

end Cert.KernelIdeal.Scan

end
-- ==== Proof.FwdRegion.lean ====
/-
  The region of the forward scan, from any contents of its arrays. `hAt a b n` is the state after `n` tokens of the recurrence over the whole
  arrays; block by block the kernel carries it, and the region's output array is left at the states after each token.
-/
module

public import proofs.«01_k».proof.Proof.FwdBody
public import proofs.«01_k».proof.Proof.Gen.KernelIdeal.Regions
public import Idealize.ShloMosaic.Lib.Pipeline.ValueKit
public import Idealize.ShloMosaic.Lib.Pipeline.RegionArraysS
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameSuffix
public import Idealize.ShloMosaic.Lib.Ring
public import Idealize.ShloMosaic.Lib.WordCmp
public import Idealize.ShloMosaic.Lib.Writes
public import Idealize.ShloMosaic.Lib.WritesUnit

@[expose] public section

set_option maxRecDepth 16384

noncomputable section

namespace Cert.KernelIdeal.Scan

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen Cert.Scan

variable {F : FTy → Type} [FloatOps F]

local notation "𝕄" => MT nD τ sig Unit (Elt F) ℕ (UR sig nD τ) ℕ

/-- An array of the scan's layout: a batch axis, eight rows to a token, 128 lanes. -/
abbrev Seq (F : FTy → Type) : Type := Vec F S4x17408x128 .f32

/-- The state after `n` tokens. -/
def hAt (a b : Seq F) : ℕ → ℕ → ℕ → ℕ → F .f32
  | 0, _, _, _ => Scalar.ofBits .f32 0x00000000#32
  | n + 1, s, r, l => FloatOps.addf (FloatOps.mulf (rd a s (8 * n + r) l) (hAt a b n s r l)) (rd b s (8 * n + r) l)

/-- The states of all tokens. -/
def hSeq (a b : Seq F) : Seq F := fun y => hAt a b ((y 1).val / 8 + 1) (y 0).val ((y 1).val % 8) (y 2).val

/-- Within a block that starts at token `128 * t` the block's states are the sequence's. -/
theorem hB_hAt (A B : Seq F) (a b : Vec F S4x1024x128 .f32) (t : ℕ)
    (ha : ∀ s r l, s < 4 → r < 1024 → l < 128 → rd a s r l = rd A s (1024 * t + r) l)
    (hb : ∀ s r l, s < 4 → r < 1024 → l < 128 → rd b s r l = rd B s (1024 * t + r) l)
    (s r l : ℕ) (hs : s < 4) (hr : r < 8) (hl : l < 128) : ∀ n, n ≤ 128 → hB a b (hAt A B (128 * t)) n s r l = hAt A B (128 * t + n) s r l
  | 0, _ => rfl
  | n + 1, hn => by
    have e : 1024 * t + (8 * n + r) = 8 * (128 * t + n) + r := by ring
    show FloatOps.addf (FloatOps.mulf (rd a s (8 * n + r) l) (hB a b (hAt A B (128 * t)) n s r l)) (rd b s (8 * n + r) l)
      = FloatOps.addf (FloatOps.mulf (rd A s (8 * (128 * t + n) + r) l) (hAt A B (128 * t + n) s r l)) (rd B s (8 * (128 * t + n) + r) l)
    rw [ha s _ l hs (by omega) hl, hb s _ l hs (by omega) hl, e, hB_hAt A B a b t ha hb s r l hs hr hl n (by omega)]

/-- The state carried out of such a block. -/
theorem block_hAt (A B : Seq F) (a b : Vec F S4x1024x128 .f32) (t : ℕ)
    (ha : ∀ s r l, s < 4 → r < 1024 → l < 128 → rd a s r l = rd A s (1024 * t + r) l)
    (hb : ∀ s r l, s < 4 → r < 1024 → l < 128 → rd b s r l = rd B s (1024 * t + r) l) :
    (block (hB a b (hAt A B (128 * t)) 128) : Vec F S4x8x128 .f32) = block (hAt A B (128 * (t + 1))) :=
  funext fun y => (hB_hAt A B a b t ha hb _ _ _ (y 0).isLt (y 1).isLt (y 2).isLt 128 le_rfl).trans (by rw [Nat.mul_add, Nat.mul_one])

/-! ## The windows' blocks -/

variable (W : Dev nD → Valuation τ sig (Elt F))

/-- The arrays of the region, at the valuation on entry. -/
abbrev arrA (c : Dev nD) : Seq F := W c (Proc.devRef .tc main_v3)
abbrev arrB (c : Dev nD) : Seq F := W c (Proc.devRef .tc main_v4)

/-- A window's block at a point, cut from the array on entry. -/
def fblk (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

theorem idx0 : ∀ t : Fin grid0.N, win0_0.index t = ![0, t.val, 0] ∧ win0_1.index t = ![0, t.val, 0] ∧ win0_2.index t = ![0, t.val, 0] := by
  decide +kernel

theorem fblk0_rd (c : Dev nD) (t : Fin cfg0.N) (s r l : ℕ) (hs : s < 4) (hr : r < 1024) (hl : l < 128) :
    rd (n0 := 4) (n1 := 1024) (n2 := 128) (fblk W c 0 t) s r l = rd (arrA W c) s (1024 * t.val + r) l := by
  obtain ⟨e0, e1, e2⟩ := idx0 t
  refine rd_of (arrA W c) (((cfg0.win 0).blk t).view.emb (ValueIdx.ix3 (Fin.ofNat 4 s) (Fin.ofNat 1024 r) (Fin.ofNat 128 l))) s (1024 * t.val + r) l ?_ ?_ ?_
  · blk_simp [e0]; exact Nat.mod_eq_of_lt hs
  · blk_simp [e0]; show t.val * 1024 + r % 1024 = _; omega
  · blk_simp [e0]; exact Nat.mod_eq_of_lt hl

theorem fblk1_rd (c : Dev nD) (t : Fin cfg0.N) (s r l : ℕ) (hs : s < 4) (hr : r < 1024) (hl : l < 128) :
    rd (n0 := 4) (n1 := 1024) (n2 := 128) (fblk W c 1 t) s r l = rd (arrB W c) s (1024 * t.val + r) l := by
  obtain ⟨e0, e1, e2⟩ := idx0 t
  refine rd_of (arrB W c) (((cfg0.win 1).blk t).view.emb (ValueIdx.ix3 (Fin.ofNat 4 s) (Fin.ofNat 1024 r) (Fin.ofNat 128 l))) s (1024 * t.val + r) l ?_ ?_ ?_
  · blk_simp [e1]; exact Nat.mod_eq_of_lt hs
  · blk_simp [e1]; show t.val * 1024 + r % 1024 = _; omega
  · blk_simp [e1]; exact Nat.mod_eq_of_lt hl

/-! ## The proof data -/

/-- The carried scratch. -/
abbrev scF : Memref sig .tc .vmem S4x8x128 .f32 := Memref.whole cc0_scratch0

/-- A buffer at some contents. -/
abbrev some_ (c : Dev nD) (r : Ref sig .tc) : sProp 𝕄 :=
  iprop(∃ f : Buf (Elt F) ((c : Thread nD τ).loc r), ((c : Thread nD τ).loc r) ↦{fullShare} f)

/-- The scoped buffers that are neither this region's staging buffers nor its scratch. -/
def restF (c : Dev nD) : sProp 𝕄 :=
  iprop(some_ (F := F) c cc1_stg0_0 ∗ some_ (F := F) c cc1_stg0_1 ∗ some_ (F := F) c cc1_stg1_0 ∗ some_ (F := F) c cc1_stg1_1 ∗ some_ (F := F) c cc1_stg2_0 ∗ some_ (F := F) c cc1_stg2_1 ∗ some_ (F := F) c cc1_stg3_0
    ∗ some_ (F := F) c cc1_stg3_1 ∗ some_ (F := F) c cc1_stg4_0 ∗ some_ (F := F) c cc1_stg4_1 ∗ some_ (F := F) c cc1_stg5_0 ∗ some_ (F := F) c cc1_stg5_1 ∗ some_ (F := F) c cc1_scratch0)

theorem scoped0 (c : Dev nD) : (Pipeline.scopedRest (Val := Elt F) spec0 c : sProp 𝕄)
    = iprop((∃ d, owns (c : Thread nD τ) scF fullShare d) ∗ restF c) := by
  rw [scopedRest0_eq]
  simp only [scF, owns_whole]
  rfl

/-- What the scratch holds before point `n`. -/
def scrF (c : Dev nD) : ℕ → sProp 𝕄
  | 0 => iprop(∃ d, owns (c : Thread nD τ) scF fullShare d)
  | n + 1 => owns (c : Thread nD τ) scF fullShare (block (hAt (arrA W c) (arrB W c) (128 * (n + 1))))

/-- The invariant before point `n`. -/
def phiF (c : Dev nD) (n : ℕ) (_ : n ≤ cfg0.N) : sProp 𝕄 := iprop(scrF W c n ∗ restF c)

/-- The region's proof data. -/
def datF (c : Dev nD) : Dat τ (Elt F) Unit ℕ (UR sig nD τ) ℕ cfg0 c where
  A w := W c (Proc.devRef .tc (Pipeline.arrRef spec0 w))
  after w t := match w with
    | ⟨0, _⟩ => fblk W c 0 t
    | ⟨1, _⟩ => fblk W c 1 t
    | ⟨2, _⟩ => outB (fblk W c 0 t) (fblk W c 1 t) (hAt (arrA W c) (arrB W c) (128 * t.val))
  Φ t := phiF W c t.val (Nat.le_of_lt_succ t.isLt)
  q _ := fullShare
  owed _ := 0

theorem A_eqF (c : Dev nD) (w : Fin cfg0.W) : (datF W c).A w = W c (Proc.devRef .tc (Pipeline.arrRef spec0 w)) := by
  dsimp only [datF]

theorem after0F (c : Dev nD) (t : Fin cfg0.N) : (datF W c).after 0 t = fblk W c 0 t := by dsimp only [datF]
theorem after1F (c : Dev nD) (t : Fin cfg0.N) : (datF W c).after 1 t = fblk W c 1 t := by dsimp only [datF]
theorem after2F (c : Dev nD) (t : Fin cfg0.N) :
    (datF W c).after 2 t = outB (fblk W c 0 t) (fblk W c 1 t) (hAt (arrA W c) (arrB W c) (128 * t.val)) := by dsimp only [datF]

theorem before0F (c : Dev nD) (t : Fin cfg0.N) (d) : (datF W c).before 0 t d = fblk W c 0 t :=
  ((datF W c).before_in_eq_fetched 0 rfl (fun _ => rfl) (fun _ _ _ => rfl)
    (fun t => by rw [after0F]; unfold Dat.blockOf fblk; rw [A_eqF]; try rfl) t d).trans (by unfold Dat.fetched Dat.blockOf fblk; rw [A_eqF]; try rfl)
theorem before1F (c : Dev nD) (t : Fin cfg0.N) (d) : (datF W c).before 1 t d = fblk W c 1 t :=
  ((datF W c).before_in_eq_fetched 1 rfl (fun _ => rfl) (fun _ _ _ => rfl)
    (fun t => by rw [after1F]; unfold Dat.blockOf fblk; rw [A_eqF]; try rfl) t d).trans (by unfold Dat.fetched Dat.blockOf fblk; rw [A_eqF]; try rfl)

theorem phiF_castSucc (c : Dev nD) (t : Fin cfg0.N) : (datF W c).Φ t.castSucc = phiF W c t.val (Nat.le_of_lt t.isLt) := by
  dsimp only [datF]; exact Pipeline.Dat.Φ_castSucc (phiF W c) t

/-! ## The body at a point -/

def preF (c : Dev nD) (t : Fin cfg0.N) : sProp 𝕄 :=
  iprop((datF W c).Φ t.castSucc ∗ (datF W c).owesAt () t.castSucc
    ∗ (∃ d, owns (c : Thread nD τ) (st0_0 t) fullShare ((datF W c).before 0 t d))
    ∗ (∃ d, owns (c : Thread nD τ) (st0_1 t) fullShare ((datF W c).before 1 t d))
    ∗ (∃ d, owns (c : Thread nD τ) (st0_2 t) fullShare ((datF W c).before 2 t d)))

def postF (c : Dev nD) (t : Fin cfg0.N) : sProp 𝕄 :=
  iprop((datF W c).Φ t.succ ∗ (datF W c).owesAt () t.succ
    ∗ owns (c : Thread nD τ) (st0_0 t) fullShare ((datF W c).after 0 t)
    ∗ owns (c : Thread nD τ) (st0_1 t) fullShare ((datF W c).after 1 t)
    ∗ owns (c : Thread nD τ) (st0_2 t) fullShare ((datF W c).after 2 t))

theorem soundF (c : Dev nD) (t : Fin cfg0.N) :
    preF W c t ⊢ wp frame (wpE (defs₀ (F := F)) Variants.none c none) Set.univ (bodyAt0 t) (fun _ => postF W c t) := by
  have hout := block_hAt (arrA W c) (arrB W c) (fblk W c 0 t) (fblk W c 1 t) t.val (fblk0_rd W c t) (fblk1_rd W c t)
  unfold preF postF bodyAt0
  simp only [before0F, before1F]
  rw [show (datF W c).owesAt () t.succ = (datF W c).owesAt () t.castSucc from rfl, after0F, after1F, after2F,
    show (datF W c).Φ t.succ = phiF W c (t.val + 1) t.isLt from rfl, phiF_castSucc]
  unfold phiF
  rw [show scrF W c (t.val + 1) = owns (c : Thread nD τ) scF fullShare (block (hAt (arrA W c) (arrB W c) (128 * (t.val + 1)))) from rfl, ← hout]
  by_cases hz : t.val = 0
  · rw [hz, show scrF W c 0 = iprop(∃ d, owns (c : Thread nD τ) scF fullShare d) from rfl]
    iintro ⟨⟨HS, HR⟩, Ho, ⟨%d0, H0⟩, ⟨%d1, H1⟩, ⟨%d2, H2⟩⟩
    iapply (body_first c (grid0.coords t) (st0_0 t) _ (st0_1 t) _ (st0_2 t) _ scF _ ((first0_iff t).mpr hz) (fblk W c 0 t) (fblk W c 1 t) Set.univ _)
    isplitl [H0]; · iexact H0
    isplitl [H1]; · iexact H1
    isplitl [H2]; · iexists _; iexact H2
    isplitl [HS]; · iexact HS
    iintro ⟨H0, H1, H2, HS⟩
    isplitl [HS HR]
    · isplitl [HS]; · iexact HS
      iexact HR
    isplitl [Ho]; · iexact Ho
    isplitl [H0]; · iexact H0
    isplitl [H1]; · iexact H1
    iexact H2
  · obtain ⟨n, hn⟩ := Nat.exists_eq_succ_of_ne_zero hz
    rw [show scrF W c t.val = owns (c : Thread nD τ) scF fullShare (block (hAt (arrA W c) (arrB W c) (128 * t.val))) from by rw [hn]; rfl]
    iintro ⟨⟨HS, HR⟩, Ho, ⟨%d0, H0⟩, ⟨%d1, H1⟩, ⟨%d2, H2⟩⟩
    iapply (body_later c (grid0.coords t) (st0_0 t) _ (st0_1 t) _ (st0_2 t) _ scF _ (fun h => hz ((first0_iff t).mp h)) (fblk W c 0 t) (fblk W c 1 t)
      (hAt (arrA W c) (arrB W c) (128 * t.val)) Set.univ _)
    isplitl [H0]; · iexact H0
    isplitl [H1]; · iexact H1
    isplitl [H2]; · iexists _; iexact H2
    isplitl [HS]; · iexact HS
    iintro ⟨H0, H1, H2, HS⟩
    isplitl [HS HR]
    · isplitl [HS]; · iexact HS
      iexact HR
    isplitl [Ho]; · iexact Ho
    isplitl [H0]; · iexact H0
    isplitl [H1]; · iexact H1
    iexact H2

theorem obligationF (c : Dev nD) : BodyObligation (datF W c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (soundF W c t) rfl .rfl fun _ => .rfl

/-! ## What the region leaves -/

/-- The output array ends at the states of all tokens. -/
theorem finalF (c : Dev nD) : (datF W c).arrAt 2 cfg0.N = hSeq (arrA W c) (arrB W c) := by
  refine (datF W c).arrAt_eq_of_covers 2 _ (by decide +kernel) fun t hf y => ?_
  obtain ⟨e0, e1, e2⟩ := idx0 t
  blk_simp
  rw [after2F]
  have h0 : (y 0).val < 4 := (y 0).isLt
  have h1 : (y 1).val < 1024 := (y 1).isLt
  have h2 : (y 2).val < 128 := (y 2).isLt
  have g0 : (((cfg0.win 2).blk t).view.emb y 0).val = (y 0).val := by blk_simp [e2]
  have g1 : (((cfg0.win 2).blk t).view.emb y 1).val = 1024 * t.val + (y 1).val := by blk_simp [e2]; omega
  have g2 : (((cfg0.win 2).blk t).view.emb y 2).val = (y 2).val := by blk_simp [e2]
  show hB _ _ _ ((y 1).val / 8 + 1) (y 0).val ((y 1).val % 8) (y 2).val = hAt _ _ _ _ _ _
  rw [g0, g1, g2, hB_hAt (arrA W c) (arrB W c) (fblk W c 0 t) (fblk W c 1 t) t.val (fblk0_rd W c t) (fblk1_rd W c t) _ _ _ h0 (by omega) h2 _ (by omega)]
  congr 1 <;> omega

end Cert.KernelIdeal.Scan

end
-- ==== Proof.BwdRegion.lean ====
/-
  The region of the backward scan, from any contents of its arrays. `agAt a dh n` is the gradient passed back by the last `n` tokens of the
  whole sequence; block by block, from the last to the first, the kernel carries it, and the region's output arrays are left at the
  gradients of `a` and of `b`.
-/
module

public import proofs.«01_k».proof.Proof.BwdBody
public import proofs.«01_k».proof.Proof.FwdRegion
public import proofs.«01_k».proof.Proof.Gen.KernelIdeal.Regions
public import Idealize.ShloMosaic.Lib.Pipeline.ValueKit
public import Idealize.ShloMosaic.Lib.Pipeline.RegionArraysS
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameSuffix
public import Idealize.ShloMosaic.Lib.Ring
public import Idealize.ShloMosaic.Lib.WordCmp
public import Idealize.ShloMosaic.Lib.Writes
public import Idealize.ShloMosaic.Lib.WritesUnit

@[expose] public section

set_option maxRecDepth 16384

noncomputable section

namespace Cert.KernelIdeal.Scan

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen Cert.Scan

variable {F : FTy → Type} [FloatOps F]

local notation "𝕄" => MT nD τ sig Unit (Elt F) ℕ (UR sig nD τ) ℕ

/-- The gradient that the last `n` tokens pass back to token `2175 - n`. -/
def agAt (a dh : Seq F) : ℕ → ℕ → ℕ → ℕ → F .f32
  | 0, _, _, _ => Scalar.ofBits .f32 0x00000000#32
  | n + 1, s, r, l => FloatOps.mulf (rd a s (8 * (2175 - n) + r) l) (FloatOps.addf (rd dh s (8 * (2175 - n) + r) l) (agAt a dh n s r l))

/-- The gradient of the state of token `2175 - n`. -/
def gAt (a dh : Seq F) (n s r l : ℕ) : F .f32 := FloatOps.addf (rd dh s (8 * (2175 - n) + r) l) (agAt a dh n s r l)

/-- The gradient of `b`, of all tokens. -/
def dbSeq (a dh : Seq F) : Seq F := fun y => gAt a dh (2175 - (y 1).val / 8) (y 0).val ((y 1).val % 8) (y 2).val

/-- The gradient of `a`, of all tokens: the state's gradient times the state before, which is zero before the first token. -/
def daSeq (a h dh : Seq F) : Seq F := fun y =>
  FloatOps.mulf (dbSeq a dh y) (if (y 1).val / 8 = 0 then Scalar.ofBits .f32 0x00000000#32 else rd h (y 0).val ((y 1).val - 8) (y 2).val)

section Block

variable (A H DH : Seq F) (a h dh : Vec F S4x1024x128 .f32) (t : ℕ) (ht : t < 17)
  (ha : ∀ s r l, s < 4 → r < 1024 → l < 128 → rd a s r l = rd A s (1024 * (16 - t) + r) l)
  (hh : ∀ s r l, s < 4 → r < 1024 → l < 128 → rd h s r l = rd H s (1024 * (16 - t) + r) l)
  (hd : ∀ s r l, s < 4 → r < 1024 → l < 128 → rd dh s r l = rd DH s (1024 * (16 - t) + r) l)

include ht ha hd in
/-- Within a block the gradients passed back are the sequence's. -/
theorem agB_agAt (s r l : ℕ) (hs : s < 4) (hr : r < 8) (hl : l < 128) : ∀ n, n ≤ 128 →
    agB a dh (agAt A DH (128 * t)) n s r l = agAt A DH (128 * t + n) s r l
  | 0, _ => rfl
  | n + 1, hn => by
    have e : 1024 * (16 - t) + (1016 - 8 * n + r) = 8 * (2175 - (128 * t + n)) + r := by omega
    show FloatOps.mulf (rd a s (1016 - 8 * n + r) l) (FloatOps.addf (rd dh s (1016 - 8 * n + r) l) (agB a dh (agAt A DH (128 * t)) n s r l))
      = FloatOps.mulf (rd A s (8 * (2175 - (128 * t + n)) + r) l) (FloatOps.addf (rd DH s (8 * (2175 - (128 * t + n)) + r) l) (agAt A DH (128 * t + n) s r l))
    rw [ha s _ l hs (by omega) hl, hd s _ l hs (by omega) hl, e, agB_agAt s r l hs hr hl n (by omega)]

include ht ha hd in
/-- The gradient carried out of such a block. -/
theorem block_agAt : (block (agB a dh (agAt A DH (128 * t)) 128) : Vec F S4x8x128 .f32) = block (agAt A DH (128 * (t + 1))) :=
  funext fun y => (agB_agAt A DH a dh t ht ha hd _ _ _ (y 0).isLt (y 1).isLt (y 2).isLt 128 le_rfl).trans (by rw [Nat.mul_add, Nat.mul_one])

include ht ha hd in
/-- The block of the gradient of `b`. -/
theorem dbF_dbSeq (s r l : ℕ) (hs : s < 4) (hr : r < 1024) (hl : l < 128) :
    dbF a dh (agAt A DH (128 * t)) s r l = gAt A DH (2175 - (1024 * (16 - t) + r) / 8) s ((1024 * (16 - t) + r) % 8) l := by
  have e1 : (1024 * (16 - t) + r) % 8 = r % 8 := by omega
  have e2 : 2175 - (1024 * (16 - t) + r) / 8 = 128 * t + (127 - r / 8) := by omega
  have e3 : 1024 * (16 - t) + (1016 - 8 * (127 - r / 8) + r % 8) = 8 * (2175 - (128 * t + (127 - r / 8))) + r % 8 := by omega
  unfold dbF gB gAt
  rw [agB_agAt A DH a dh t ht ha hd s (r % 8) l hs (by omega) hl _ (by omega), hd s _ l hs (by omega) hl, e1, e2, e3]

include ht ha hh hd in
/-- The block of the gradient of `a`, where the state before the block is the sequence's, or zero before its first token. -/
theorem daF_daSeq (hb : ℕ → ℕ → ℕ → F .f32)
    (hhb : ∀ s r l, hb s r l = if t = 16 then Scalar.ofBits .f32 0x00000000#32 else rd H s (8 * (128 * (16 - t) - 1) + r) l)
    (s r l : ℕ) (hs : s < 4) (hr : r < 1024) (hl : l < 128) :
    daF a h dh hb (agAt A DH (128 * t)) s r l
      = FloatOps.mulf (gAt A DH (2175 - (1024 * (16 - t) + r) / 8) s ((1024 * (16 - t) + r) % 8) l)
          (if (1024 * (16 - t) + r) / 8 = 0 then Scalar.ofBits .f32 0x00000000#32 else rd H s (1024 * (16 - t) + r - 8) l) := by
  unfold daF
  rw [dbF_dbSeq A DH a dh t ht ha hd s r l hs hr hl]
  congr 1
  by_cases h0 : r / 8 = 0
  · rw [if_pos h0, hhb]
    by_cases h1 : t = 16
    · rw [if_pos h1, if_pos (by omega)]
    · rw [if_neg h1, if_neg (by omega)]
      congr 1; omega
  · rw [if_neg h0, if_neg (by omega), hh s _ l hs (by omega) hl]
    congr 1; omega

end Block

/-! ## The windows' blocks -/

variable (W : Dev nD → Valuation τ sig (Elt F))

/-- The arrays of the region, at the valuation on entry. -/
abbrev arrA1 (c : Dev nD) : Seq F := W c (Proc.devRef .tc main_v7)
abbrev arrH1 (c : Dev nD) : Seq F := W c (Proc.devRef .tc main_v8)
abbrev arrD1 (c : Dev nD) : Seq F := W c (Proc.devRef .tc main_v9)

/-- A window's block at a point, cut from the array on entry. -/
def bblk (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

theorem idx1 : ∀ t : Fin grid1.N, (win1_0.index t = ![0, 16 - t.val, 0] ∧ win1_1.index t = ![0, 16 - t.val, 0] ∧ win1_3.index t = ![0, 16 - t.val, 0])
    ∧ win1_2.index t = ![0, 128 * (16 - t.val) - 1, 0] ∧ win1_4.index t = ![0, 16 - t.val, 0] ∧ win1_5.index t = ![0, 16 - t.val, 0] := by
  decide +kernel

theorem bblk0_rd (c : Dev nD) (t : Fin cfg1.N) (s r l : ℕ) (hs : s < 4) (hr : r < 1024) (hl : l < 128) :
    rd (n0 := 4) (n1 := 1024) (n2 := 128) (bblk W c 0 t) s r l = rd (arrA1 W c) s (1024 * (16 - t.val) + r) l := by
  obtain ⟨⟨e0, e1, e3⟩, e2, e4, e5⟩ := idx1 t
  refine rd_of (arrA1 W c) (((cfg1.win 0).blk t).view.emb (ValueIdx.ix3 (Fin.ofNat 4 s) (Fin.ofNat 1024 r) (Fin.ofNat 128 l))) s (1024 * (16 - t.val) + r) l ?_ ?_ ?_
  · blk_simp [e0]; exact Nat.mod_eq_of_lt hs
  · blk_simp [e0]; show (16 - t.val) * 1024 + r % 1024 = _; omega
  · blk_simp [e0]; exact Nat.mod_eq_of_lt hl

theorem bblk1_rd (c : Dev nD) (t : Fin cfg1.N) (s r l : ℕ) (hs : s < 4) (hr : r < 1024) (hl : l < 128) :
    rd (n0 := 4) (n1 := 1024) (n2 := 128) (bblk W c 1 t) s r l = rd (arrH1 W c) s (1024 * (16 - t.val) + r) l := by
  obtain ⟨⟨e0, e1, e3⟩, e2, e4, e5⟩ := idx1 t
  refine rd_of (arrH1 W c) (((cfg1.win 1).blk t).view.emb (ValueIdx.ix3 (Fin.ofNat 4 s) (Fin.ofNat 1024 r) (Fin.ofNat 128 l))) s (1024 * (16 - t.val) + r) l ?_ ?_ ?_
  · blk_simp [e1]; exact Nat.mod_eq_of_lt hs
  · blk_simp [e1]; show (16 - t.val) * 1024 + r % 1024 = _; omega
  · blk_simp [e1]; exact Nat.mod_eq_of_lt hl

theorem bblk3_rd (c : Dev nD) (t : Fin cfg1.N) (s r l : ℕ) (hs : s < 4) (hr : r < 1024) (hl : l < 128) :
    rd (n0 := 4) (n1 := 1024) (n2 := 128) (bblk W c 3 t) s r l = rd (arrD1 W c) s (1024 * (16 - t.val) + r) l := by
  obtain ⟨⟨e0, e1, e3⟩, e2, e4, e5⟩ := idx1 t
  refine rd_of (arrD1 W c) (((cfg1.win 3).blk t).view.emb (ValueIdx.ix3 (Fin.ofNat 4 s) (Fin.ofNat 1024 r) (Fin.ofNat 128 l))) s (1024 * (16 - t.val) + r) l ?_ ?_ ?_
  · blk_simp [e3]; exact Nat.mod_eq_of_lt hs
  · blk_simp [e3]; show (16 - t.val) * 1024 + r % 1024 = _; omega
  · blk_simp [e3]; exact Nat.mod_eq_of_lt hl

/-- The eight rows before the block. -/
abbrev rowsBefore (c : Dev nD) (t : ℕ) : ℕ → ℕ → ℕ → F .f32 := fun s r l => rd (arrH1 W c) s (8 * (128 * (16 - t) - 1) + r) l

theorem bblk2_eq (c : Dev nD) (t : Fin cfg1.N) : bblk W c 2 t = (block (rowsBefore W c t.val) : Vec F S4x8x128 .f32) := by
  obtain ⟨⟨e0, e1, e3⟩, e2, e4, e5⟩ := idx1 t
  funext y
  refine rd_of (arrH1 W c) (((cfg1.win 2).blk t).view.emb y) _ _ _ ?_ ?_ ?_
  · blk_simp [e2]
  · blk_simp [e2]; omega
  · blk_simp [e2]

/-! ## The proof data -/

/-- The carried scratch. -/
abbrev scB : Memref sig .tc .vmem S4x8x128 .f32 := Memref.whole cc1_scratch0

/-- The scoped buffers that are neither this region's staging buffers nor its scratch. -/
def restB (c : Dev nD) : sProp 𝕄 :=
  iprop(some_ (F := F) c cc0_stg0_0 ∗ some_ (F := F) c cc0_stg0_1 ∗ some_ (F := F) c cc0_stg1_0 ∗ some_ (F := F) c cc0_stg1_1
    ∗ some_ (F := F) c cc0_stg2_0 ∗ some_ (F := F) c cc0_stg2_1 ∗ some_ (F := F) c cc0_scratch0)

theorem scoped1_in (c : Dev nD) : (Pipeline.scopedRest (Val := Elt F) spec1 c : sProp 𝕄)
    ⊢ iprop((∃ d, owns (c : Thread nD τ) scB fullShare d) ∗ restB c) := by
  rw [scopedRest1_eq]
  simp only [scB, owns_whole]
  unfold restB
  iintro ⟨H0, H1, H2, H3, H4, H5, H6, H7⟩
  isplitl [H7]; · iexact H7
  isplitl [H0]; · iexact H0
  isplitl [H1]; · iexact H1
  isplitl [H2]; · iexact H2
  isplitl [H3]; · iexact H3
  isplitl [H4]; · iexact H4
  isplitl [H5]; · iexact H5
  iexact H6

theorem scoped1_out (c : Dev nD) : iprop((∃ d, owns (c : Thread nD τ) scB fullShare d) ∗ restB c)
    ⊢ (Pipeline.scopedRest (Val := Elt F) spec1 c : sProp 𝕄) := by
  rw [scopedRest1_eq]
  simp only [scB, owns_whole]
  unfold restB
  iintro ⟨H7, H0, H1, H2, H3, H4, H5, H6⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- What the scratch holds before point `n`. -/
def scrB (c : Dev nD) : ℕ → sProp 𝕄
  | 0 => iprop(∃ d, owns (c : Thread nD τ) scB fullShare d)
  | n + 1 => owns (c : Thread nD τ) scB fullShare (block (agAt (arrA1 W c) (arrD1 W c) (128 * (n + 1))))

/-- The invariant before point `n`. -/
def phiB (c : Dev nD) (n : ℕ) (_ : n ≤ cfg1.N) : sProp 𝕄 := iprop(scrB W c n ∗ restB c)

/-- The region's proof data: the array that two windows read is shared between them. -/
def datB (c : Dev nD) : Dat τ (Elt F) Unit ℕ (UR sig nD τ) ℕ cfg1 c where
  A w := W c (Proc.devRef .tc (Pipeline.arrRef spec1 w))
  after w t := match w with
    | ⟨0, _⟩ => bblk W c 0 t
    | ⟨1, _⟩ => bblk W c 1 t
    | ⟨2, _⟩ => bblk W c 2 t
    | ⟨3, _⟩ => bblk W c 3 t
    | ⟨4, _⟩ => arr (daF (bblk W c 0 t) (bblk W c 1 t) (bblk W c 3 t) (hbB (grid1.coords t) (rowsBefore W c t.val)) (agAt (arrA1 W c) (arrD1 W c) (128 * t.val)))
    | ⟨5, _⟩ => arr (dbF (bblk W c 0 t) (bblk W c 3 t) (agAt (arrA1 W c) (arrD1 W c) (128 * t.val)))
  Φ t := phiB W c t.val (Nat.le_of_lt_succ t.isLt)
  q w := Pipeline.shareOf spec1 w
  owed _ := 0

theorem A_eqB (c : Dev nD) (w : Fin cfg1.W) : (datB W c).A w = W c (Proc.devRef .tc (Pipeline.arrRef spec1 w)) := by
  dsimp only [datB]

theorem after0B (c : Dev nD) (t : Fin cfg1.N) : (datB W c).after 0 t = bblk W c 0 t := by dsimp only [datB]
theorem after1B (c : Dev nD) (t : Fin cfg1.N) : (datB W c).after 1 t = bblk W c 1 t := by dsimp only [datB]
theorem after2B (c : Dev nD) (t : Fin cfg1.N) : (datB W c).after 2 t = bblk W c 2 t := by dsimp only [datB]
theorem after3B (c : Dev nD) (t : Fin cfg1.N) : (datB W c).after 3 t = bblk W c 3 t := by dsimp only [datB]
theorem after4B (c : Dev nD) (t : Fin cfg1.N) : (datB W c).after 4 t = arr (daF (bblk W c 0 t) (bblk W c 1 t) (bblk W c 3 t)
    (hbB (grid1.coords t) (rowsBefore W c t.val)) (agAt (arrA1 W c) (arrD1 W c) (128 * t.val))) := by dsimp only [datB]
theorem after5B (c : Dev nD) (t : Fin cfg1.N) : (datB W c).after 5 t = arr (dbF (bblk W c 0 t) (bblk W c 3 t)
    (agAt (arrA1 W c) (arrD1 W c) (128 * t.val))) := by dsimp only [datB]

theorem before0B (c : Dev nD) (t : Fin cfg1.N) (d) : (datB W c).before 0 t d = bblk W c 0 t :=
  ((datB W c).before_in_eq_fetched 0 rfl (fun _ => rfl) (fun _ _ _ => rfl)
    (fun t => by rw [after0B]; unfold Dat.blockOf bblk; rw [A_eqB]; try rfl) t d).trans (by unfold Dat.fetched Dat.blockOf bblk; rw [A_eqB]; try rfl)
theorem before1B (c : Dev nD) (t : Fin cfg1.N) (d) : (datB W c).before 1 t d = bblk W c 1 t :=
  ((datB W c).before_in_eq_fetched 1 rfl (fun _ => rfl) (fun _ _ _ => rfl)
    (fun t => by rw [after1B]; unfold Dat.blockOf bblk; rw [A_eqB]; try rfl) t d).trans (by unfold Dat.fetched Dat.blockOf bblk; rw [A_eqB]; try rfl)
theorem before2B (c : Dev nD) (t : Fin cfg1.N) (d) : (datB W c).before 2 t d = bblk W c 2 t :=
  ((datB W c).before_in_eq_fetched 2 rfl (fun _ => rfl) (fun _ _ _ => rfl)
    (fun t => by rw [after2B]; unfold Dat.blockOf bblk; rw [A_eqB]; try rfl) t d).trans (by unfold Dat.fetched Dat.blockOf bblk; rw [A_eqB]; try rfl)
theorem before3B (c : Dev nD) (t : Fin cfg1.N) (d) : (datB W c).before 3 t d = bblk W c 3 t :=
  ((datB W c).before_in_eq_fetched 3 rfl (fun _ => rfl) (fun _ _ _ => rfl)
    (fun t => by rw [after3B]; unfold Dat.blockOf bblk; rw [A_eqB]; try rfl) t d).trans (by unfold Dat.fetched Dat.blockOf bblk; rw [A_eqB]; try rfl)

theorem phiB_castSucc (c : Dev nD) (t : Fin cfg1.N) : (datB W c).Φ t.castSucc = phiB W c t.val (Nat.le_of_lt t.isLt) := by
  dsimp only [datB]; exact Pipeline.Dat.Φ_castSucc (phiB W c) t

/-! ## The body at a point -/

def preB (c : Dev nD) (t : Fin cfg1.N) : sProp 𝕄 :=
  iprop((datB W c).Φ t.castSucc ∗ (datB W c).owesAt () t.castSucc
    ∗ (∃ d, owns (c : Thread nD τ) (st1_0 t) fullShare ((datB W c).before 0 t d))
    ∗ (∃ d, owns (c : Thread nD τ) (st1_1 t) fullShare ((datB W c).before 1 t d))
    ∗ (∃ d, owns (c : Thread nD τ) (st1_2 t) fullShare ((datB W c).before 2 t d))
    ∗ (∃ d, owns (c : Thread nD τ) (st1_3 t) fullShare ((datB W c).before 3 t d))
    ∗ (∃ d, owns (c : Thread nD τ) (st1_4 t) fullShare ((datB W c).before 4 t d))
    ∗ (∃ d, owns (c : Thread nD τ) (st1_5 t) fullShare ((datB W c).before 5 t d)))

def postB (c : Dev nD) (t : Fin cfg1.N) : sProp 𝕄 :=
  iprop((datB W c).Φ t.succ ∗ (datB W c).owesAt () t.succ
    ∗ owns (c : Thread nD τ) (st1_0 t) fullShare ((datB W c).after 0 t)
    ∗ owns (c : Thread nD τ) (st1_1 t) fullShare ((datB W c).after 1 t)
    ∗ owns (c : Thread nD τ) (st1_2 t) fullShare ((datB W c).after 2 t)
    ∗ owns (c : Thread nD τ) (st1_3 t) fullShare ((datB W c).after 3 t)
    ∗ owns (c : Thread nD τ) (st1_4 t) fullShare ((datB W c).after 4 t)
    ∗ owns (c : Thread nD τ) (st1_5 t) fullShare ((datB W c).after 5 t))

theorem lt17 (t : Fin cfg1.N) : t.val < 17 := lt_of_lt_of_eq t.isLt N_1

theorem soundB (c : Dev nD) (t : Fin cfg1.N) :
    preB W c t ⊢ wp frame (wpE (defs₀ (F := F)) Variants.none c none) Set.univ (bodyAt1 t) (fun _ => postB W c t) := by
  have hout := block_agAt (arrA1 W c) (arrD1 W c) (bblk W c 0 t) (bblk W c 3 t) t.val (lt17 t) (bblk0_rd W c t) (bblk3_rd W c t)
  unfold preB postB bodyAt1
  simp only [before0B, before1B, before2B, before3B]
  rw [show (datB W c).owesAt () t.succ = (datB W c).owesAt () t.castSucc from rfl, after0B, after1B, after2B, after3B, after4B, after5B,
    show (datB W c).Φ t.succ = phiB W c (t.val + 1) t.isLt from rfl, phiB_castSucc, bblk2_eq]
  unfold phiB
  rw [show scrB W c (t.val + 1) = owns (c : Thread nD τ) scB fullShare (block (agAt (arrA1 W c) (arrD1 W c) (128 * (t.val + 1)))) from rfl, ← hout]
  by_cases hz : t.val = 0
  · rw [show scrB W c t.val = iprop(∃ d, owns (c : Thread nD τ) scB fullShare d) from by rw [hz]; rfl,
      show agAt (arrA1 W c) (arrD1 W c) (128 * t.val) = zeroState from by rw [hz]; rfl]
    iintro ⟨⟨HS, HR⟩, Ho, ⟨%d0, H0⟩, ⟨%d1, H1⟩, ⟨%d2, H2⟩, ⟨%d3, H3⟩, ⟨%d4, H4⟩, ⟨%d5, H5⟩⟩
    iapply (body_first1 c (grid1.coords t) (st1_0 t) _ (st1_1 t) _ (st1_2 t) _ (st1_3 t) _ (st1_4 t) _ (st1_5 t) _ scB _ ((first1_iff t).mpr hz)
      (bblk W c 0 t) (bblk W c 1 t) (bblk W c 3 t) (rowsBefore W c t.val) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS HR]
    · isplitl [HS]; · iexact HS
      iexact HR
    isplitl [Ho]; · iexact Ho
    isplitl [H0]; · iexact H0
    isplitl [H1]; · iexact H1
    isplitl [H2]; · iexact H2
    isplitl [H3]; · iexact H3
    isplitl [H4]; · iexact H4
    iexact H5
  · obtain ⟨n, hn⟩ := Nat.exists_eq_succ_of_ne_zero hz
    rw [show scrB W c t.val = owns (c : Thread nD τ) scB fullShare (block (agAt (arrA1 W c) (arrD1 W c) (128 * t.val))) from by rw [hn]; rfl]
    iintro ⟨⟨HS, HR⟩, Ho, ⟨%d0, H0⟩, ⟨%d1, H1⟩, ⟨%d2, H2⟩, ⟨%d3, H3⟩, ⟨%d4, H4⟩, ⟨%d5, H5⟩⟩
    iapply (body_later1 c (grid1.coords t) (st1_0 t) _ (st1_1 t) _ (st1_2 t) _ (st1_3 t) _ (st1_4 t) _ (st1_5 t) _ scB _ (fun h => hz ((first1_iff t).mp h))
      (bblk W c 0 t) (bblk W c 1 t) (bblk W c 3 t) (rowsBefore W c t.val)
      (agAt (arrA1 W c) (arrD1 W c) (128 * t.val)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS HR]
    · isplitl [HS]; · iexact HS
      iexact HR
    isplitl [Ho]; · iexact Ho
    isplitl [H0]; · iexact H0
    isplitl [H1]; · iexact H1
    isplitl [H2]; · iexact H2
    isplitl [H3]; · iexact H3
    isplitl [H4]; · iexact H4
    iexact H5

theorem obligationB (c : Dev nD) : BodyObligation (datB W c) (defs₀ (F := F)) Variants.none () Set.univ := fun t => by
  rw [bigSep_W1, bigSep_W1, show defs₀ (F := F) .tc cfg1.body (cfg1.bodyArgs t (cfg1.slots t)) = bodyAt1 t from by unfold defs₀; rw [Defs.onTc_tc]]
  exact triple_restated (soundB W c t) rfl .rfl fun _ => .rfl

/-! ## What the region leaves -/

/-- The first output array ends at the gradient of `a`. -/
theorem final4 (c : Dev nD) : (datB W c).arrAt 4 cfg1.N = daSeq (arrA1 W c) (arrH1 W c) (arrD1 W c) := by
  refine (datB W c).arrAt_eq_of_covers 4 _ (by decide +kernel) fun t hf y => ?_
  obtain ⟨⟨e0, e1, e3⟩, e2, e4, e5⟩ := idx1 t
  blk_simp
  rw [after4B]
  have h0 : (y 0).val < 4 := (y 0).isLt
  have h1 : (y 1).val < 1024 := (y 1).isLt
  have h2 : (y 2).val < 128 := (y 2).isLt
  have g0 : (((cfg1.win 4).blk t).view.emb y 0).val = (y 0).val := by blk_simp [e4]
  have g1 : (((cfg1.win 4).blk t).view.emb y 1).val = 1024 * (16 - t.val) + (y 1).val := by blk_simp [e4]; omega
  have g2 : (((cfg1.win 4).blk t).view.emb y 2).val = (y 2).val := by blk_simp [e4]
  refine (daF_daSeq (arrA1 W c) (arrH1 W c) (arrD1 W c) (bblk W c 0 t) (bblk W c 1 t) (bblk W c 3 t) t.val (lt17 t) (bblk0_rd W c t) (bblk1_rd W c t)
    (bblk3_rd W c t) _ (hbB_eq t _) (y 0).val (y 1).val (y 2).val h0 h1 h2).trans ?_
  unfold daSeq dbSeq
  rw [g0, g1, g2]

/-- The second at the gradient of `b`. -/
theorem final5 (c : Dev nD) : (datB W c).arrAt 5 cfg1.N = dbSeq (arrA1 W c) (arrD1 W c) := by
  refine (datB W c).arrAt_eq_of_covers 5 _ (by decide +kernel) fun t hf y => ?_
  obtain ⟨⟨e0, e1, e3⟩, e2, e4, e5⟩ := idx1 t
  blk_simp
  rw [after5B]
  have h0 : (y 0).val < 4 := (y 0).isLt
  have h1 : (y 1).val < 1024 := (y 1).isLt
  have h2 : (y 2).val < 128 := (y 2).isLt
  have g0 : (((cfg1.win 5).blk t).view.emb y 0).val = (y 0).val := by blk_simp [e5]
  have g1 : (((cfg1.win 5).blk t).view.emb y 1).val = 1024 * (16 - t.val) + (y 1).val := by blk_simp [e5]; omega
  have g2 : (((cfg1.win 5).blk t).view.emb y 2).val = (y 2).val := by blk_simp [e5]
  refine (dbF_dbSeq (arrA1 W c) (arrD1 W c) (bblk W c 0 t) (bblk W c 3 t) t.val (lt17 t) (bblk0_rd W c t)
    (bblk3_rd W c t) (y 0).val (y 1).val (y 2).val h0 h1 h2).trans ?_
  unfold dbSeq
  rw [g0, g1, g2]

end Cert.KernelIdeal.Scan

end
-- ==== Proof.Run.lean ====
/-
  The run of the kernel's program: the states by the forward scan, then the gradients by the backward scan. The program ends with the two
  gradients of the recurrence in its result arrays, its arguments unchanged and every semaphore at zero.
-/
module

public import proofs.«01_k».proof.Proof.BwdRegion
public import proofs.«01_k».proof.Proof.Gen.KernelIdeal.Regions
public import Idealize.ShloMosaic.Lib.Pipeline.RegionArrays
public import Idealize.ShloMosaic.Lib.Pipeline.RegionArraysS

@[expose] public section

set_option maxRecDepth 16384

noncomputable section

namespace Cert.KernelIdeal.Scan

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen Cert.Scan

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the first region leaves. -/
def outs : Outs (F := F) := fun _ r c => Pipeline.afterRegion (datF (V1 m) c) (V1 m c) (Proc.devRef .tc r)

/-- The arrays that the second region enters with. -/
abbrev W3 (c : Dev nD) : Valuation τ sig (Elt F) := V3 m (outs m) c

/-- The proof data of the two regions. -/
def pdats : (p : Fin 2) → (c : Dev nD) → Dat τ (Elt F) Unit ℕ (UR sig nD τ) ℕ (cfgs p) c
  | ⟨0, _⟩ => fun c => datF (V1 m) c
  | ⟨1, _⟩ => fun c => datB (W3 m) c

abbrev lvSet : GSem nD τ sig → Finset Unit := fun g => if g.1.2 = .tc then {()} else ∅
abbrev lvl : GSem nD τ sig → Unit → ℕ := fun _ _ => 0

/-- Beside the buffers, between two items: nothing owed. -/
abbrev idleE : Fin 3 → Dev nD → sProp 𝕄 := fun _ c => iprop(∃ Wd, owes (c : Thread nD τ) (0 : CellTallies nD τ sig Unit) Wd)

theorem cut (p : Fin 2) : Pipeline.LevelCut (pcfgs (F := F)) adm () lvSet lvl p (fun _ => 0) (fun _ => 0) where
  hι c w s := by simp [lvSet]
  hιb c w s := le_rfl
  hD c g i h := absurd h (lt_irrefl _)

/-- The first region. -/
def reg0 : RegionSeg (pcfgs (F := F)) adm (pdats m) () defs₀ Variants.none lvSet lvl 0 :=
  RegionSeg.ofHeldIn (pcfgs (F := F)) adm (pdats m) () defs₀ Variants.none lvSet lvl 0 (fun _ => 0) (Pipeline.ucRefs τ sig)
    (fun _ => BI.emp) (fun _ => BI.emp) launch0.toP rfl (fun c => (obligationF (V1 m) c).loose) (fun _ _ => rfl) (fun _ => rfl)
    (fun c => (datF (V1 m) c).share_full fun _ => rfl)
    (fun c => by
      show _ ⊢ phiF (V1 m) c 0 (Nat.zero_le _)
      unfold phiF
      iintro ⟨H, -⟩
      iapply (show (Pipeline.scopedRest (Val := Elt F) spec0 c : sProp 𝕄) ⊢ _ from by rw [scoped0]; exact .rfl) $$ H)
    (fun c => by
      show phiF (V1 m) c 17 le_rfl ⊢ iprop(Pipeline.scopedRest (Val := Elt F) spec0 c ∗ BI.emp)
      unfold phiF
      rw [scoped0, show scrF (V1 m) c 17 = owns (c : Thread nD τ) scF fullShare (block (hAt (arrA (V1 m) c) (arrB (V1 m) c) (128 * 17))) from rfl]
      iintro ⟨HS, HR⟩
      isplitl [HS HR]
      · isplitl [HS]; · iexists _; iexact HS
        iexact HR
      iempintro)
    (fun _ => 0) (cut 0) (fun _ => BI.emp) (V1 m) (fun c w => A_eqF (V1 m) c w)

theorem arr_unscoped0 : ∀ w, (Pipeline.arrRef spec0 w).isScoped = false := by decide

theorem reg0_pre (c : Dev nD) : iprop(StableHlo.held (c : Thread nD τ) (Pipeline.ucRefs τ sig) (V1 m c) ∗ idleE (F := F) 0 c) ⊢ (reg0 m).pre c := by
  refine BIBase.Entails.trans ?_ (RegionSeg.ofHeldIn_pre (Pipeline.arrRefs_sub_ucRefs _ arr_unscoped0) c)
  iintro ⟨H, HO⟩
  isplitl [H]; · iexact H
  isplitl [HO]; · iexact HO
  isplitl <;> iempintro

theorem V2_after (c : Dev nD) : ∀ b ∈ Pipeline.ucRefs τ sig, Pipeline.afterRegion (datF (V1 m) c) (V1 m c) b = V2 m (outs m) c b := by
  intro b hb
  obtain ⟨r, -, rfl⟩ := Finset.mem_map.mp (Finset.mem_filter.mp hb).1
  show Pipeline.afterRegion (datF (V1 m) c) (V1 m c) (Proc.devRef .tc r) = V2 m (outs m) c (Proc.devRef .tc r)
  by_cases h : r = main_v5
  · subst h; unfold V2; rw [Function.update_self]; rfl
  · rw [V2_of m (outs m) c r (by simpa using h)]
    exact Pipeline.afterRegion_keeps (datF (V1 m) c) (V1 m c) winFacts0.arr_inj (A_eqF (V1 m) c) r fun w e => by
      subst e; revert h; revert w; decide

theorem reg0_post (c : Dev nD) : (reg0 m).post c ⊢ iprop(StableHlo.held (c : Thread nD τ) (Pipeline.ucRefs τ sig) (V2 m (outs m) c) ∗ idleE (F := F) 1 c) := by
  refine BIBase.Entails.trans (RegionSeg.ofHeldIn_post (Pipeline.arrRefs_sub_ucRefs _ arr_unscoped0) c) ?_
  rw [← StableHlo.held_congr (c : Thread nD τ) (V2_after m c)]
  iintro ⟨H, HO, -⟩
  isplitl [H]; · iexact H
  iexact HO

/-- The second region, over its arrays: the others ride along. -/
def reg1 : RegionSeg (pcfgs (F := F)) adm (pdats m) () defs₀ Variants.none lvSet lvl 1 :=
  RegionSeg.ofArrays (pcfgs (F := F)) adm (pdats m) () defs₀ Variants.none lvSet lvl 1 (fun _ => 0)
    (fun _ => BI.emp) (fun _ => BI.emp) launch₀1.toP rfl (fun c => (obligationB (W3 m) c).loose) (fun _ _ => rfl) (fun _ => rfl)
    (fun c => by
      show _ ⊢ phiB (W3 m) c 0 (Nat.zero_le _)
      unfold phiB
      iintro ⟨H, -⟩
      iapply (scoped1_in c) $$ H)
    (fun c => by
      show phiB (W3 m) c 17 le_rfl ⊢ iprop(Pipeline.scopedRest (Val := Elt F) spec1 c ∗ BI.emp)
      unfold phiB
      rw [show scrB (W3 m) c 17 = owns (c : Thread nD τ) scB fullShare (block (agAt (arrA1 (W3 m) c) (arrD1 (W3 m) c) (128 * 17))) from rfl]
      iintro ⟨HS, HR⟩
      isplitl [HS HR]
      · iapply (scoped1_out c)
        isplitl [HS]; · iexists _; iexact HS
        iexact HR
      iempintro)
    (fun _ => 0) (cut 1) (fun c => Pipeline.unscopedRest spec1 c (fun b => W3 m c (Proc.devRef .tc b)))

theorem reg1_pre (c : Dev nD) : iprop(StableHlo.held (c : Thread nD τ) (Pipeline.ucRefs τ sig) (W3 m c) ∗ idleE (F := F) 1 c) ⊢ (reg1 m).pre c := by
  show _ ⊢ iprop((pdats m 1 c).arrays ((pdats m 1 c).arrAt · 0) ∗ BI.emp ∗ Pipeline.unscopedRest spec1 c (fun b => W3 m c (Proc.devRef .tc b))
    ∗ ∃ Wd, owes (c : Thread nD τ) (0 : CellTallies nD τ sig Unit) Wd)
  rw [← Pipeline.unscopedBufs_held (Ix := Unit) (Name := ℕ) (U := UR sig nD τ) (Lvl := ℕ) c (W3 m c)]
  iintro ⟨H, HO⟩
  ihave H' := (Pipeline.arrays_of_unscopedBufs_shared (p := 1) (pcfgs (F := F)) adm (pdats m) winFacts₀1 sharedIn1 arr_whole1 c (fun _ _ => rfl)
    (fun b => W3 m c (Proc.devRef .tc b)) (A_eqB (W3 m) c)) $$ H
  icases H' with ⟨Ha, Hr⟩
  isplitl [Ha]; · iexact Ha
  isplitr; · iempintro
  isplitl [Hr]; · iexact Hr
  iexact HO

/-- The last state of a thread. -/
abbrev lastT (c : Dev nD) : sProp 𝕄 :=
  iprop((datB (W3 m) c).arrays ((datB (W3 m) c).arrAt · cfg1.N) ∗ Pipeline.unscopedRest spec1 c (fun b => W3 m c (Proc.devRef .tc b)))

theorem reg1_post (c : Dev nD) : (reg1 m).post c ⊢ iprop(lastT m c ∗ idleE (F := F) 2 c) := by
  show iprop((pdats m 1 c).arrays ((pdats m 1 c).arrAt · cfg1.N) ∗ BI.emp ∗ Pipeline.unscopedRest spec1 c (fun b => W3 m c (Proc.devRef .tc b))
    ∗ ∃ Wd, owes (c : Thread nD τ) (0 : CellTallies nD τ sig Unit) Wd) ⊢ _
  iintro ⟨Ha, -, Hr, HO⟩
  isplitr [HO]
  · isplitl [Ha]; · iexact Ha
    iexact Hr
  iexact HO

/-- What a final state says of core `c`. -/
def ends (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2))
  ∧ s.mem ((c : Thread nD τ).loc main_v10_0) = daSeq (arrA1 (W3 m) c) (arrH1 (W3 m) c) (arrD1 (W3 m) c)
  ∧ s.mem ((c : Thread nD τ).loc main_v10_1) = dbSeq (arrA1 (W3 m) c) (arrD1 (W3 m) c)

theorem keeps_arg (c : Dev nD) (r : Ref sig .tc) (h1 : r ∉ hostOps0_W) (h2 : r ∉ ([main_v5] : List (Ref sig .tc))) (h3 : r ∉ hostOps1_W) :
    W3 m c (Proc.devRef .tc r) = m ((c : Thread nD τ).loc r) :=
  (V3_of m (outs m) c r h3).trans ((V2_of m (outs m) c r h2).trans (V1_of m c r h1))

theorem read_last (c : Dev nD) (s' : Phys nD τ sig (Elt F)) : iprop(lastT m c ∗ SI s') ⊢ |={Set.univ}=> iprop(⌜ends m c s'.mem⌝ ∗ SI s') := by
  unfold lastT Dat.arrays
  rw [bigSep_W1, unscopedRest1_eq]
  iintro ⟨⟨⟨-, -, -, -, H4, H5⟩, H0, H1, H2, -⟩, HSI⟩
  icombine HSI H4 gives %h4
  icombine HSI H5 gives %h5
  icombine HSI H0 gives %h0
  icombine HSI H1 gives %h1
  icombine HSI H2 gives %h2
  imodintro
  isplitr
  · ipureintro
    rw [show (cfg1.win 4).arr.view.set = Finset.univ from (arr_whole1 4).set_eq_univ] at h4
    rw [show (cfg1.win 5).arr.view.set = Finset.univ from (arr_whole1 5).set_eq_univ] at h5
    exact ⟨⟨(Buf.eq_of_forall_mem_univ h0).trans (keeps_arg m c main_arg0 (by decide) (by decide) (by decide)),
      (Buf.eq_of_forall_mem_univ h1).trans (keeps_arg m c main_arg1 (by decide) (by decide) (by decide)),
      (Buf.eq_of_forall_mem_univ h2).trans (keeps_arg m c main_arg2 (by decide) (by decide) (by decide))⟩,
      (Buf.eq_of_forall_mem_univ h4).trans (final4 (W3 m) c), (Buf.eq_of_forall_mem_univ h5).trans (final5 (W3 m) c)⟩
  · iexact HSI

abbrev EP : Emb (UR sig nD τ) 𝕄 := emb₁

set_option backward.isDefEq.respectTransparency.types false in
/-- The run of the whole program. -/
theorem run_main : θ_run defs (onTc (τ := τ) (main (F := F))) ⟨m, fun _ => 0, ρ⟩ (fun r => (∀ c : Dev nD, ends m c r.2) ∧ r.2.sem = fun _ => 0) := by
  refine Pipeline.θ_run_regions_kit_dev_sems (pcfgs (F := F)) adm (pdats m) () cellOf_inj EP defs₀ Variants.none lvSet lvl m ρ main
    (segs m (outs m) Variants.none lvSet lvl idleE () (pdats m) (reg0 m) (reg1 m))
    (fun c Q => by
      rewrite [main_chain c, Seg.run_eq_chain,
        show (segs m (outs m) Variants.none lvSet lvl idleE () (pdats m) (reg0 m) (reg1 m) c).map Seg.prog = [
          StableHlo.seq hostOps0,
          Prog.lift (.customCall (Pipeline.entry 0) ()),
          StableHlo.seq hostOps1,
          Prog.lift (.customCall (Pipeline.entry 1) ()) ] from rfl]
      dsimp (config := { failIfUnchanged := false }) only
      exact .rfl)
    (fun c => by simp only [segs, Seg.pipes_host, Seg.pipes_region, Seg.pipes_nil]; decide) 0 (fun g h => if_neg h) (fun _ => iprop(emp))
    (initOf (Pipeline.cells cfgs cellOf_inj) (Pipeline.launchToks cfgs cellOf_inj)) ?_
    (T₀ := fun c => iprop(StableHlo.held (c : Thread nD τ) (Pipeline.ucRefs τ sig) (V0 m c) ∗ idleE 0 c))
    (Tₙ := lastT m)
    (hch := fun c => ⟨.rfl, reg0_pre m c, reg0_post m c, reg1_pre m c, reg1_post m c⟩)
    (hinit := ?_) (QY := fun c s => ends m c s)
    (hfin := fun c s' => read_last m c s') (hQ := fun _ h hz => ⟨h, funext fun g => hz g (.inr (regions_no_unscoped g.2))⟩)
  · iintro Hu
    imodintro
    isplitl [Hu]
    · iapply (show (ownU _ : sProp 𝕄) ⊢ BI.own (EP (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · refine Pipeline.initEach lvSet lvl fun c => ?_
    rw [show unscopedBufs c (fun b => m ((c : Thread nD τ).loc b)) = StableHlo.held (c : Thread nD τ) (Pipeline.ucRefs τ sig) (V0 m c) from
      Pipeline.unscopedBufs_held c (V0 m c)]
    iintro ⟨⟨Hh, -, HO, -, -, -⟩, -⟩
    imodintro
    isplitl [Hh]; · iexact Hh
    iexists ∅; iexact HO

end Cert.KernelIdeal.Scan

end
-- ==== Proof.RefOps.lean ====
/-
  The reference as lists of host operations: @main is three stretches of operations around its two loops, and each loop's
  body is a list of stretches, one per statement or per call of a module-local function. The functions' bodies are the
  stretches `idxOps` (one row read at a running index) and `updOps` (one row written at a running index), each over the
  buffers of the call.
-/
module

public import proofs.«01_k».proof.Proof.Gen.ReferenceIdeal
public import Idealize.ShloMosaic.Lib.StableHlo.RunLoop

@[expose] public section

set_option maxRecDepth 16384

noncomputable section

namespace Cert.ReferenceIdeal.Scan

open Cert.ReferenceIdeal Cert.ReferenceIdeal.Gen
open Idealize.ShloMosaic Idealize.ShloMosaic.Rounds
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- One row of a stack of rows, read at a running index: the operations of one call. -/
abbrev idxOps (arg0 : StableHlo.TRef sig ⟨S2176x4x1024, .f32⟩) (arg1 : StableHlo.TRef sig ⟨S_, .i32⟩) (φ : fn_dynamic_index_in_dim.Bufs) :
    List (HloOp τ sig (Elt F)) :=
  [ StableHlo.TRef.nullary φ.c (constantI S_ 32 0#32),
    StableHlo.TRef.nullary φ.c_0 (constantI S_ 32 0#32),
    StableHlo.TRef.unaryIndexed arg0 ![arg1, φ.c, φ.c_0] φ.v0 (fun x i => Host.dynamicSlice S1x4x1024 x (fun k => (i k (Shape.Idx.first h_S_)).toInt) sliceFits_S2176x4x1024_S1x4x1024),
    StableHlo.TRef.reshape φ.v0 φ.v1 (rfl : (.f32 : EltTy) = .f32) shapeCasts_S1x4x1024_S4x1024 ]

/-- One row of a stack of rows, written at a running index: the operations of one call. -/
abbrev updOps (arg0 : StableHlo.TRef sig ⟨S2176x4x1024, .f32⟩) (arg1 : StableHlo.TRef sig ⟨S4x1024, .f32⟩) (arg2 : StableHlo.TRef sig ⟨S_, .i32⟩)
    (φ : fn_dynamic_update_index_in_dim.Bufs) : List (HloOp τ sig (Elt F)) :=
  [ StableHlo.TRef.unary arg1 φ.v0 (broadcastInDim S1x4x1024 ![1, 2] bcast_S4x1024_S1x4x1024_1_2),
    StableHlo.TRef.nullary φ.c (constantI S_ 32 0#32),
    StableHlo.TRef.nullary φ.c_0 (constantI S_ 32 0#32),
    StableHlo.TRef.binaryIndexed arg0 φ.v0 ![arg2, φ.c, φ.c_0] φ.v1 (fun x u i => Host.dynamicUpdateSlice x u (fun k => (i k (Shape.Idx.first h_S_)).toInt) updateFits_S2176x4x1024_S1x4x1024) ]

/-- The condition of loop 0. -/
abbrev cond0 : List (HloOp τ sig (Elt F)) :=
  [ StableHlo.nullary main_while0c_c_12 (constantI S_ 32 2176#32),
    StableHlo.binary main_v5_2 main_while0c_c_12 main_while0c_v17 (cmpi .slt : (⟨S_, .i32⟩ : BufTy).Contents (Elt F) → (⟨S_, .i32⟩ : BufTy).Contents (Elt F) → (⟨S_, .i1⟩ : BufTy).Contents (Elt F)) ]

/-- A stretch of the body of loop 0. -/
abbrev body0a : List (HloOp τ sig (Elt F)) :=
  [ StableHlo.binary main_while0b_v17 main_v5_3 main_while0b_v19 (mulf : (⟨S4x1024, .f32⟩ : BufTy).Contents (Elt F) → (⟨S4x1024, .f32⟩ : BufTy).Contents (Elt F) → (⟨S4x1024, .f32⟩ : BufTy).Contents (Elt F)),
    StableHlo.binary main_while0b_v19 main_while0b_v18 main_while0b_v20 (addf : (⟨S4x1024, .f32⟩ : BufTy).Contents (Elt F) → (⟨S4x1024, .f32⟩ : BufTy).Contents (Elt F) → (⟨S4x1024, .f32⟩ : BufTy).Contents (Elt F)) ]

/-- A stretch of the body of loop 0. -/
abbrev body0b : List (HloOp τ sig (Elt F)) :=
  [ StableHlo.nullary main_while0b_c_12 (constantI S_ 32 1#32),
    StableHlo.binary main_v5_2 main_while0b_c_12 main_while0b_v23 (addi : (⟨S_, .i32⟩ : BufTy).Contents (Elt F) → (⟨S_, .i32⟩ : BufTy).Contents (Elt F) → (⟨S_, .i32⟩ : BufTy).Contents (Elt F)),
    StableHlo.unary main_while0b_v23 main_v5_2 id,
    StableHlo.unary main_while0b_v20 main_v5_3 id,
    StableHlo.unary main_while0b_v21 main_v5_4 id,
    StableHlo.unary main_while0b_v22 main_v5_5 id ]

/-- The body of loop 0, stretch by stretch. -/
abbrev body0 : List (List (HloOp τ sig (Elt F))) :=
  [ idxOps (.of main_v5_0) (.of main_v5_2) main_while0b_call0,
    idxOps (.of main_v5_1) (.of main_v5_2) main_while0b_call1,
    body0a,
    updOps (.of main_v5_4) (.of main_while0b_v20) (.of main_v5_2) main_while0b_call2,
    updOps (.of main_v5_5) (.of main_v5_3) (.of main_v5_2) main_while0b_call3,
    body0b ]

/-- The condition of loop 1. -/
abbrev cond1 : List (HloOp τ sig (Elt F)) :=
  [ StableHlo.nullary main_while1c_c_13 (constantI S_ 32 2176#32),
    StableHlo.binary main_v12_3 main_while1c_c_13 main_while1c_v17 (cmpi .slt : (⟨S_, .i32⟩ : BufTy).Contents (Elt F) → (⟨S_, .i32⟩ : BufTy).Contents (Elt F) → (⟨S_, .i1⟩ : BufTy).Contents (Elt F)) ]

/-- A stretch of the body of loop 1. -/
abbrev body1a : List (HloOp τ sig (Elt F)) :=
  [ StableHlo.nullary main_while1b_c_13 (constantI S_ 32 2176#32),
    StableHlo.binary main_while1b_c_13 main_v12_3 main_while1b_v17 (subi : (⟨S_, .i32⟩ : BufTy).Contents (Elt F) → (⟨S_, .i32⟩ : BufTy).Contents (Elt F) → (⟨S_, .i32⟩ : BufTy).Contents (Elt F)),
    StableHlo.nullary main_while1b_c_14 (constantI S_ 32 1#32),
    StableHlo.binary main_while1b_v17 main_while1b_c_14 main_while1b_v18 (subi : (⟨S_, .i32⟩ : BufTy).Contents (Elt F) → (⟨S_, .i32⟩ : BufTy).Contents (Elt F) → (⟨S_, .i32⟩ : BufTy).Contents (Elt F)) ]

/-- A stretch of the body of loop 1. -/
abbrev body1b : List (HloOp τ sig (Elt F)) :=
  [ StableHlo.binary main_v12_4 main_while1b_v19 main_while1b_v22 (addf : (⟨S4x1024, .f32⟩ : BufTy).Contents (Elt F) → (⟨S4x1024, .f32⟩ : BufTy).Contents (Elt F) → (⟨S4x1024, .f32⟩ : BufTy).Contents (Elt F)),
    StableHlo.binary main_while1b_v21 main_while1b_v22 main_while1b_v23 (mulf : (⟨S4x1024, .f32⟩ : BufTy).Contents (Elt F) → (⟨S4x1024, .f32⟩ : BufTy).Contents (Elt F) → (⟨S4x1024, .f32⟩ : BufTy).Contents (Elt F)),
    StableHlo.binary main_while1b_v22 main_while1b_v20 main_while1b_v24 (mulf : (⟨S4x1024, .f32⟩ : BufTy).Contents (Elt F) → (⟨S4x1024, .f32⟩ : BufTy).Contents (Elt F) → (⟨S4x1024, .f32⟩ : BufTy).Contents (Elt F)) ]

/-- A stretch of the body of loop 1. -/
abbrev body1c : List (HloOp τ sig (Elt F)) :=
  [ StableHlo.nullary main_while1b_c_15 (constantI S_ 32 1#32),
    StableHlo.binary main_v12_3 main_while1b_c_15 main_while1b_v27 (addi : (⟨S_, .i32⟩ : BufTy).Contents (Elt F) → (⟨S_, .i32⟩ : BufTy).Contents (Elt F) → (⟨S_, .i32⟩ : BufTy).Contents (Elt F)),
    StableHlo.unary main_while1b_v27 main_v12_3 id,
    StableHlo.unary main_while1b_v23 main_v12_4 id,
    StableHlo.unary main_while1b_v25 main_v12_5 id,
    StableHlo.unary main_while1b_v26 main_v12_6 id ]

/-- The body of loop 1, stretch by stretch. -/
abbrev body1 : List (List (HloOp τ sig (Elt F))) :=
  [ body1a,
    idxOps (.of main_v12_0) (.of main_while1b_v18) main_while1b_call4,
    idxOps (.of main_v12_1) (.of main_while1b_v18) main_while1b_call5,
    idxOps (.of main_v12_2) (.of main_while1b_v18) main_while1b_call6,
    body1b,
    updOps (.of main_v12_5) (.of main_while1b_v24) (.of main_while1b_v18) main_while1b_call7,
    updOps (.of main_v12_6) (.of main_while1b_v22) (.of main_while1b_v18) main_while1b_call8,
    body1c ]

/-- @main before the first loop. -/
abbrev preOps : List (HloOp τ sig (Elt F)) :=
  [ StableHlo.nullary main_cst (constant S_ .f32 0x00000000#32),
    StableHlo.unary main_cst main_v0 (broadcastInDim S4x1024 ![] bcast_S_S4x1024 : (⟨S_, .f32⟩ : BufTy).Contents (Elt F) → (⟨S4x1024, .f32⟩ : BufTy).Contents (Elt F)),
    StableHlo.unary main_arg0 main_v1 ((transpose S2176x4x1024 [1, 0, 2] · transposes_S4x2176x1024_S2176x4x1024_1_0_2) : (⟨S4x2176x1024, .f32⟩ : BufTy).Contents (Elt F) → (⟨S2176x4x1024, .f32⟩ : BufTy).Contents (Elt F)),
    StableHlo.unary main_arg1 main_v2 ((transpose S2176x4x1024 [1, 0, 2] · transposes_S4x2176x1024_S2176x4x1024_1_0_2) : (⟨S4x2176x1024, .f32⟩ : BufTy).Contents (Elt F) → (⟨S2176x4x1024, .f32⟩ : BufTy).Contents (Elt F)),
    StableHlo.nullary main_cst_0 (constant S_ .f32 0x00000000#32),
    StableHlo.unary main_cst_0 main_v3 (broadcastInDim S2176x4x1024 ![] bcast_S_S2176x4x1024 : (⟨S_, .f32⟩ : BufTy).Contents (Elt F) → (⟨S2176x4x1024, .f32⟩ : BufTy).Contents (Elt F)),
    StableHlo.nullary main_cst_1 (constant S_ .f32 0x00000000#32),
    StableHlo.unary main_cst_1 main_v4 (broadcastInDim S2176x4x1024 ![] bcast_S_S2176x4x1024 : (⟨S_, .f32⟩ : BufTy).Contents (Elt F) → (⟨S2176x4x1024, .f32⟩ : BufTy).Contents (Elt F)),
    StableHlo.nullary main_c (constantI S_ 32 0#32),
    StableHlo.unary main_v1 main_v5_0 id,
    StableHlo.unary main_v2 main_v5_1 id,
    StableHlo.unary main_c main_v5_2 id,
    StableHlo.unary main_v0 main_v5_3 id,
    StableHlo.unary main_v3 main_v5_4 id,
    StableHlo.unary main_v4 main_v5_5 id ]

/-- @main between the loops. -/
abbrev midOps : List (HloOp τ sig (Elt F)) :=
  [ StableHlo.unary main_v5_4 main_v6 ((transpose S4x2176x1024 [1, 0, 2] · transposes_S2176x4x1024_S4x2176x1024_1_0_2) : (⟨S2176x4x1024, .f32⟩ : BufTy).Contents (Elt F) → (⟨S4x2176x1024, .f32⟩ : BufTy).Contents (Elt F)),
    StableHlo.nullary main_cst_2 (constant S_ .f32 0x00000000#32),
    StableHlo.unary main_cst_2 main_v7 (broadcastInDim S4x1024 ![] bcast_S_S4x1024 : (⟨S_, .f32⟩ : BufTy).Contents (Elt F) → (⟨S4x1024, .f32⟩ : BufTy).Contents (Elt F)),
    StableHlo.unary main_arg2 main_v8 ((transpose S2176x4x1024 [1, 0, 2] · transposes_S4x2176x1024_S2176x4x1024_1_0_2) : (⟨S4x2176x1024, .f32⟩ : BufTy).Contents (Elt F) → (⟨S2176x4x1024, .f32⟩ : BufTy).Contents (Elt F)),
    StableHlo.nullary main_cst_3 (constant S_ .f32 0x00000000#32),
    StableHlo.unary main_cst_3 main_v9 (broadcastInDim S4x1024 ![] bcast_S_S4x1024 : (⟨S_, .f32⟩ : BufTy).Contents (Elt F) → (⟨S4x1024, .f32⟩ : BufTy).Contents (Elt F)),
    StableHlo.nullary main_cst_4 (constant S_ .f32 0x00000000#32),
    StableHlo.unary main_cst_4 main_v10 (broadcastInDim S2176x4x1024 ![] bcast_S_S2176x4x1024 : (⟨S_, .f32⟩ : BufTy).Contents (Elt F) → (⟨S2176x4x1024, .f32⟩ : BufTy).Contents (Elt F)),
    StableHlo.nullary main_cst_5 (constant S_ .f32 0x00000000#32),
    StableHlo.unary main_cst_5 main_v11 (broadcastInDim S2176x4x1024 ![] bcast_S_S2176x4x1024 : (⟨S_, .f32⟩ : BufTy).Contents (Elt F) → (⟨S2176x4x1024, .f32⟩ : BufTy).Contents (Elt F)),
    StableHlo.nullary main_c_6 (constantI S_ 32 0#32),
    StableHlo.unary main_v8 main_v12_0 id,
    StableHlo.unary main_v5_5 main_v12_1 id,
    StableHlo.unary main_v1 main_v12_2 id,
    StableHlo.unary main_c_6 main_v12_3 id,
    StableHlo.unary main_v9 main_v12_4 id,
    StableHlo.unary main_v10 main_v12_5 id,
    StableHlo.unary main_v11 main_v12_6 id ]

/-- @main after the second loop. -/
abbrev postOps : List (HloOp τ sig (Elt F)) :=
  [ StableHlo.unary main_v12_6 main_v13 ((transpose S4x2176x1024 [1, 0, 2] · transposes_S2176x4x1024_S4x2176x1024_1_0_2) : (⟨S2176x4x1024, .f32⟩ : BufTy).Contents (Elt F) → (⟨S4x2176x1024, .f32⟩ : BufTy).Contents (Elt F)),
    StableHlo.unary main_v12_5 main_v14 ((transpose S4x2176x1024 [1, 0, 2] · transposes_S2176x4x1024_S4x2176x1024_1_0_2) : (⟨S2176x4x1024, .f32⟩ : BufTy).Contents (Elt F) → (⟨S4x2176x1024, .f32⟩ : BufTy).Contents (Elt F)),
    StableHlo.reshape main_v14 main_v15 (rfl : (.f32 : EltTy) = .f32) shapeCasts_S4x2176x1024_S4x17408x128,
    StableHlo.reshape main_v13 main_v16 (rfl : (.f32 : EltTy) = .f32) shapeCasts_S4x2176x1024_S4x17408x128 ]

theorem plain_one {ops : List (HloOp τ sig (Elt F))} (hs : ops.Forall fun op => op.bufs ⊆ StableHlo.tcRefs τ sig)
    (hf : ∀ op ∈ ops, op.fresh = ∅) : StableHlo.Plain [ops] := StableHlo.Plain.cons hs StableHlo.Plain.nil hf

theorem idxOps_sub (x : StableHlo.TRef sig ⟨S2176x4x1024, .f32⟩) (i : StableHlo.TRef sig ⟨S_, .i32⟩) (φ : fn_dynamic_index_in_dim.Bufs) : (idxOps x i φ : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩

theorem updOps_sub (x : StableHlo.TRef sig ⟨S2176x4x1024, .f32⟩) (u : StableHlo.TRef sig ⟨S4x1024, .f32⟩) (i : StableHlo.TRef sig ⟨S_, .i32⟩) (φ : fn_dynamic_update_index_in_dim.Bufs) : (updOps x u i φ : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩

theorem body0a_sub : (body0a : List (HloOp τ sig (Elt F))).Forall fun op => op.bufs ⊆ StableHlo.tcRefs τ sig :=
  ⟨StableHlo.binary_bufs_sub .., StableHlo.binary_bufs_sub ..⟩

theorem body0b_sub : (body0b : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩

theorem body0_plain : StableHlo.Plain (body0 (F := F)) :=
  StableHlo.Plain.cons (idxOps_sub (.of main_v5_0) (.of main_v5_2) main_while0b_call0) (StableHlo.Plain.cons (idxOps_sub (.of main_v5_1) (.of main_v5_2) main_while0b_call1) (StableHlo.Plain.cons body0a_sub (StableHlo.Plain.cons (updOps_sub (.of main_v5_4) (.of main_while0b_v20) (.of main_v5_2) main_while0b_call2) (StableHlo.Plain.cons (updOps_sub (.of main_v5_5) (.of main_v5_3) (.of main_v5_2) main_while0b_call3) (StableHlo.Plain.cons body0b_sub (StableHlo.Plain.nil))))))

theorem body1a_sub : (body1a : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub ..⟩

theorem body1b_sub : (body1b : List (HloOp τ sig (Elt F))).Forall fun op => op.bufs ⊆ StableHlo.tcRefs τ sig :=
  ⟨StableHlo.binary_bufs_sub .., StableHlo.binary_bufs_sub .., StableHlo.binary_bufs_sub ..⟩

theorem body1c_sub : (body1c : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩

theorem body1_plain : StableHlo.Plain (body1 (F := F)) :=
  StableHlo.Plain.cons body1a_sub (StableHlo.Plain.cons (idxOps_sub (.of main_v12_0) (.of main_while1b_v18) main_while1b_call4) (StableHlo.Plain.cons (idxOps_sub (.of main_v12_1) (.of main_while1b_v18) main_while1b_call5) (StableHlo.Plain.cons (idxOps_sub (.of main_v12_2) (.of main_while1b_v18) main_while1b_call6) (StableHlo.Plain.cons body1b_sub (StableHlo.Plain.cons (updOps_sub (.of main_v12_5) (.of main_while1b_v24) (.of main_while1b_v18) main_while1b_call7) (StableHlo.Plain.cons (updOps_sub (.of main_v12_6) (.of main_while1b_v22) (.of main_while1b_v18) main_while1b_call8) (StableHlo.Plain.cons body1c_sub (StableHlo.Plain.nil))))))))

theorem preOps_sub : (preOps : List (HloOp τ sig (Elt F))).Forall fun op => op.bufs ⊆ StableHlo.tcRefs τ sig :=
  ⟨StableHlo.nullary_bufs_sub .., StableHlo.unary_bufs_sub .., StableHlo.unary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩

theorem preOps_plain : StableHlo.Plain [preOps (F := F)] := StableHlo.Plain.cons preOps_sub StableHlo.Plain.nil

theorem midOps_sub : (midOps : List (HloOp τ sig (Elt F))).Forall fun op => op.bufs ⊆ StableHlo.tcRefs τ sig :=
  ⟨StableHlo.unary_bufs_sub .., StableHlo.nullary_bufs_sub .., StableHlo.unary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

theorem midOps_plain : StableHlo.Plain [midOps (F := F)] := StableHlo.Plain.cons midOps_sub StableHlo.Plain.nil

theorem postOps_sub : (postOps : List (HloOp τ sig (Elt F))).Forall fun op => op.bufs ⊆ StableHlo.tcRefs τ sig :=
  ⟨StableHlo.unary_bufs_sub .., StableHlo.unary_bufs_sub .., StableHlo.reshape_bufs_sub .., StableHlo.reshape_bufs_sub ..⟩

theorem postOps_plain : StableHlo.Plain [postOps (F := F)] := StableHlo.Plain.cons postOps_sub StableHlo.Plain.nil

theorem body0_chain : main_while0_body (F := F) = Pipeline.chain ((body0 (F := F)).map fun ops => (StableHlo.seq ops : Prog (TpuEff nD τ sig (Elt F) (HostLoop.Sig (Pipeline.Sig Λ₀ (Fin 0) fun p => (pcfgs (F := F) p).Adm) 2) .tc) PUnit)) := by
  rewrite [List.map_cons, StableHlo.chain_seq_cons]
  repeat rewrite [List.map_cons, StableHlo.chain_seq_cons]
  chain_rfl

theorem body1_chain : main_while1_body (F := F) = Pipeline.chain ((body1 (F := F)).map fun ops => (StableHlo.seq ops : Prog (TpuEff nD τ sig (Elt F) (HostLoop.Sig (Pipeline.Sig Λ₀ (Fin 0) fun p => (pcfgs (F := F) p).Adm) 2) .tc) PUnit)) := by
  rewrite [List.map_cons, StableHlo.chain_seq_cons]
  repeat rewrite [List.map_cons, StableHlo.chain_seq_cons]
  chain_rfl

theorem main_chain (c : Dev nD) : main (F := F) c = Pipeline.chain
    [ (StableHlo.seq preOps : Prog (TpuEff nD τ sig (Elt F) (HostLoop.Sig (Pipeline.Sig Λ₀ (Fin 0) fun p => (pcfgs (F := F) p).Adm) 2) .tc) PUnit), HostLoop.enter 0, StableHlo.seq midOps, HostLoop.enter 1, StableHlo.seq postOps ] := by
  rewrite [StableHlo.chain_seq_cons, Pipeline.chain_cons, StableHlo.chain_seq_cons, Pipeline.chain_cons, StableHlo.chain_seq_cons]
  chain_rfl

end Cert.ReferenceIdeal.Scan

end
-- ==== Proof.RefReads.lean ====
/-
  What one pass through each stretch of the reference leaves in the buffers its two loops carry, in terms of what they held
  before: `rowAt` reads one row of a stack of rows at a running index, `setRow` writes one.
-/
module

public import proofs.«01_k».proof.Proof.RefOps
public import Idealize.ShloMosaic.Lib.StableHlo.RunRead

@[expose] public section

set_option maxRecDepth 16384

noncomputable section

namespace Cert.ReferenceIdeal.Scan

open Cert.ReferenceIdeal Cert.ReferenceIdeal.Gen
open Idealize.ShloMosaic Idealize.ShloMosaic.Rounds
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A stack of rows: one row per token. -/
abbrev Stk (F : FTy → Type) := (⟨S2176x4x1024, .f32⟩ : BufTy).Contents (Elt F)
/-- One row: the channels of one token, of each sequence. -/
abbrev Row (F : FTy → Type) := (⟨S4x1024, .f32⟩ : BufTy).Contents (Elt F)
/-- A running index. -/
abbrev Ctr (F : FTy → Type) := (⟨S_, .i32⟩ : BufTy).Contents (Elt F)

/-- The zero a loop starts its running index from. -/
abbrev zeroC : Ctr F := constantI S_ 32 0#32

/-- Row `i` of a stack. -/
def rowAt (x : Stk F) (i : Ctr F) : Row F :=
  shapeCast S4x1024 (Host.dynamicSlice S1x4x1024 x
    (fun k => ((![i, zeroC, zeroC] : Fin 3 → Ctr F) k (Shape.Idx.first h_S_)).toInt) sliceFits_S2176x4x1024_S1x4x1024)
    shapeCasts_S1x4x1024_S4x1024

/-- A stack with row `i` replaced. -/
def setRow (x : Stk F) (u : Row F) (i : Ctr F) : Stk F :=
  Host.dynamicUpdateSlice x (broadcastInDim S1x4x1024 ![1, 2] bcast_S4x1024_S1x4x1024_1_2 u)
    (fun k => ((![i, zeroC, zeroC] : Fin 3 → Ctr F) k (Shape.Idx.first h_S_)).toInt) updateFits_S2176x4x1024_S1x4x1024

/-- A row of zeros. -/
abbrev zeroRow : Row F := broadcastInDim S4x1024 ![] bcast_S_S4x1024 (constant S_ .f32 0x00000000#32)

/-- Tokens first: the stack of an argument's rows. -/
abbrev toStk (x : (⟨S4x2176x1024, .f32⟩ : BufTy).Contents (Elt F)) : Stk F :=
  transpose S2176x4x1024 [1, 0, 2] x transposes_S4x2176x1024_S2176x4x1024_1_0_2

/-- A stack of rows in the layout of the results. -/
abbrev ofStk (x : Stk F) : (⟨S4x17408x128, .f32⟩ : BufTy).Contents (Elt F) :=
  shapeCast S4x17408x128 (transpose S4x2176x1024 [1, 0, 2] x transposes_S2176x4x1024_S4x2176x1024_1_0_2) shapeCasts_S4x2176x1024_S4x17408x128

/-- One more turn of a loop. -/
abbrev incC (i : Ctr F) : Ctr F := addi i (constantI S_ 32 1#32)

/-- The row the second loop visits at running index `i`: the last one first. -/
abbrev revC (i : Ctr F) : Ctr F := subi (subi (constantI S_ 32 2176#32) i) (constantI S_ 32 1#32)

variable (V : Valuation τ sig (Elt F))

theorem pre_v5_0 : StableHlo.after preOps V main_v5_0 = toStk (V main_arg0) := by
  after_reads_simp [StableHlo.unaryIndexed_result_read, StableHlo.binaryIndexed_result_read, StableHlo.indexContents_tref_cons]
  try simp only [StableHlo.indexContents_tref_empty, StableHlo.TRef.toBuf, StableHlo.TRef.ofBuf, cast_eq, id_eq]
  all_goals rfl

theorem pre_v5_1 : StableHlo.after preOps V main_v5_1 = toStk (V main_arg1) := by
  after_reads_simp [StableHlo.unaryIndexed_result_read, StableHlo.binaryIndexed_result_read, StableHlo.indexContents_tref_cons]
  try simp only [StableHlo.indexContents_tref_empty, StableHlo.TRef.toBuf, StableHlo.TRef.ofBuf, cast_eq, id_eq]
  all_goals rfl

theorem pre_v5_2 : StableHlo.after preOps V main_v5_2 = zeroC := by
  after_reads_simp [StableHlo.unaryIndexed_result_read, StableHlo.binaryIndexed_result_read, StableHlo.indexContents_tref_cons]
  try simp only [StableHlo.indexContents_tref_empty, StableHlo.TRef.toBuf, StableHlo.TRef.ofBuf, cast_eq, id_eq]
  all_goals rfl

theorem pre_v5_3 : StableHlo.after preOps V main_v5_3 = zeroRow := by
  after_reads_simp [StableHlo.unaryIndexed_result_read, StableHlo.binaryIndexed_result_read, StableHlo.indexContents_tref_cons]
  try simp only [StableHlo.indexContents_tref_empty, StableHlo.TRef.toBuf, StableHlo.TRef.ofBuf, cast_eq, id_eq]
  all_goals rfl

theorem pre_v1 : StableHlo.after preOps V main_v1 = toStk (V main_arg0) := by
  after_reads_simp [StableHlo.unaryIndexed_result_read, StableHlo.binaryIndexed_result_read, StableHlo.indexContents_tref_cons]
  try simp only [StableHlo.indexContents_tref_empty, StableHlo.TRef.toBuf, StableHlo.TRef.ofBuf, cast_eq, id_eq]
  all_goals rfl

theorem pre_arg0 : StableHlo.after preOps V main_arg0 = V main_arg0 := by
  after_reads_simp

theorem pre_arg1 : StableHlo.after preOps V main_arg1 = V main_arg1 := by
  after_reads_simp

theorem pre_arg2 : StableHlo.after preOps V main_arg2 = V main_arg2 := by
  after_reads_simp

theorem mid_v12_0 : StableHlo.after midOps V main_v12_0 = toStk (V main_arg2) := by
  after_reads_simp [StableHlo.unaryIndexed_result_read, StableHlo.binaryIndexed_result_read, StableHlo.indexContents_tref_cons]
  try simp only [StableHlo.indexContents_tref_empty, StableHlo.TRef.toBuf, StableHlo.TRef.ofBuf, cast_eq, id_eq]
  all_goals rfl

theorem mid_v12_1 : StableHlo.after midOps V main_v12_1 = V main_v5_5 := by
  after_reads_simp [StableHlo.unaryIndexed_result_read, StableHlo.binaryIndexed_result_read, StableHlo.indexContents_tref_cons]
  try simp only [StableHlo.indexContents_tref_empty, StableHlo.TRef.toBuf, StableHlo.TRef.ofBuf, cast_eq, id_eq]
  all_goals rfl

theorem mid_v12_2 : StableHlo.after midOps V main_v12_2 = V main_v1 := by
  after_reads_simp [StableHlo.unaryIndexed_result_read, StableHlo.binaryIndexed_result_read, StableHlo.indexContents_tref_cons]
  try simp only [StableHlo.indexContents_tref_empty, StableHlo.TRef.toBuf, StableHlo.TRef.ofBuf, cast_eq, id_eq]
  all_goals rfl

theorem mid_v12_3 : StableHlo.after midOps V main_v12_3 = zeroC := by
  after_reads_simp [StableHlo.unaryIndexed_result_read, StableHlo.binaryIndexed_result_read, StableHlo.indexContents_tref_cons]
  try simp only [StableHlo.indexContents_tref_empty, StableHlo.TRef.toBuf, StableHlo.TRef.ofBuf, cast_eq, id_eq]
  all_goals rfl

theorem mid_v12_4 : StableHlo.after midOps V main_v12_4 = zeroRow := by
  after_reads_simp [StableHlo.unaryIndexed_result_read, StableHlo.binaryIndexed_result_read, StableHlo.indexContents_tref_cons]
  try simp only [StableHlo.indexContents_tref_empty, StableHlo.TRef.toBuf, StableHlo.TRef.ofBuf, cast_eq, id_eq]
  all_goals rfl

theorem mid_arg0 : StableHlo.after midOps V main_arg0 = V main_arg0 := by
  after_reads_simp

theorem mid_arg1 : StableHlo.after midOps V main_arg1 = V main_arg1 := by
  after_reads_simp

theorem mid_arg2 : StableHlo.after midOps V main_arg2 = V main_arg2 := by
  after_reads_simp

theorem post_v15 : StableHlo.after postOps V main_v15 = ofStk (V main_v12_5) := by
  after_reads_simp [StableHlo.unaryIndexed_result_read, StableHlo.binaryIndexed_result_read, StableHlo.indexContents_tref_cons]
  try simp only [StableHlo.indexContents_tref_empty, StableHlo.TRef.toBuf, StableHlo.TRef.ofBuf, cast_eq, id_eq]
  all_goals rfl

theorem post_v16 : StableHlo.after postOps V main_v16 = ofStk (V main_v12_6) := by
  after_reads_simp [StableHlo.unaryIndexed_result_read, StableHlo.binaryIndexed_result_read, StableHlo.indexContents_tref_cons]
  try simp only [StableHlo.indexContents_tref_empty, StableHlo.TRef.toBuf, StableHlo.TRef.ofBuf, cast_eq, id_eq]
  all_goals rfl

theorem post_arg0 : StableHlo.after postOps V main_arg0 = V main_arg0 := by
  after_reads_simp

theorem post_arg1 : StableHlo.after postOps V main_arg1 = V main_arg1 := by
  after_reads_simp

theorem post_arg2 : StableHlo.after postOps V main_arg2 = V main_arg2 := by
  after_reads_simp

theorem cond0_v5_5 : StableHlo.after cond0 V main_v5_5 = V main_v5_5 := by
  after_reads_simp

theorem cond0_v1 : StableHlo.after cond0 V main_v1 = V main_v1 := by
  after_reads_simp

theorem cond0_arg0 : StableHlo.after cond0 V main_arg0 = V main_arg0 := by
  after_reads_simp

theorem cond0_arg1 : StableHlo.after cond0 V main_arg1 = V main_arg1 := by
  after_reads_simp

theorem cond0_arg2 : StableHlo.after cond0 V main_arg2 = V main_arg2 := by
  after_reads_simp

theorem cond1_v12_5 : StableHlo.after cond1 V main_v12_5 = V main_v12_5 := by
  after_reads_simp

theorem cond1_v12_6 : StableHlo.after cond1 V main_v12_6 = V main_v12_6 := by
  after_reads_simp

theorem cond1_arg0 : StableHlo.after cond1 V main_arg0 = V main_arg0 := by
  after_reads_simp

theorem cond1_arg1 : StableHlo.after cond1 V main_arg1 = V main_arg1 := by
  after_reads_simp

theorem cond1_arg2 : StableHlo.after cond1 V main_arg2 = V main_arg2 := by
  after_reads_simp

theorem trip0_v5_2 : StableHlo.afterL body0 (StableHlo.after cond0 V) main_v5_2 = incC (V main_v5_2) := by
  simp only [StableHlo.afterL_cons, StableHlo.afterL_nil]
  after_reads_simp [StableHlo.unaryIndexed_result_read, StableHlo.binaryIndexed_result_read, StableHlo.indexContents_tref_cons]
  try simp only [StableHlo.indexContents_tref_empty, StableHlo.TRef.toBuf, StableHlo.TRef.ofBuf, cast_eq, id_eq]
  all_goals rfl

theorem trip0_v5_3 : StableHlo.afterL body0 (StableHlo.after cond0 V) main_v5_3 = addf (mulf (rowAt (V main_v5_0) (V main_v5_2)) (V main_v5_3)) (rowAt (V main_v5_1) (V main_v5_2)) := by
  simp only [StableHlo.afterL_cons, StableHlo.afterL_nil]
  after_reads_simp [StableHlo.unaryIndexed_result_read, StableHlo.binaryIndexed_result_read, StableHlo.indexContents_tref_cons]
  try simp only [StableHlo.indexContents_tref_empty, StableHlo.TRef.toBuf, StableHlo.TRef.ofBuf, cast_eq, id_eq]
  all_goals rfl

theorem trip0_v5_5 : StableHlo.afterL body0 (StableHlo.after cond0 V) main_v5_5 = setRow (V main_v5_5) (V main_v5_3) (V main_v5_2) := by
  simp only [StableHlo.afterL_cons, StableHlo.afterL_nil]
  after_reads_simp [StableHlo.unaryIndexed_result_read, StableHlo.binaryIndexed_result_read, StableHlo.indexContents_tref_cons]
  try simp only [StableHlo.indexContents_tref_empty, StableHlo.TRef.toBuf, StableHlo.TRef.ofBuf, cast_eq, id_eq]
  all_goals rfl

theorem trip0_v5_0 : StableHlo.afterL body0 (StableHlo.after cond0 V) main_v5_0 = V main_v5_0 := by
  simp only [StableHlo.afterL_cons, StableHlo.afterL_nil]
  after_reads_simp

theorem trip0_v5_1 : StableHlo.afterL body0 (StableHlo.after cond0 V) main_v5_1 = V main_v5_1 := by
  simp only [StableHlo.afterL_cons, StableHlo.afterL_nil]
  after_reads_simp

theorem trip0_v1 : StableHlo.afterL body0 (StableHlo.after cond0 V) main_v1 = V main_v1 := by
  simp only [StableHlo.afterL_cons, StableHlo.afterL_nil]
  after_reads_simp

theorem trip0_arg0 : StableHlo.afterL body0 (StableHlo.after cond0 V) main_arg0 = V main_arg0 := by
  simp only [StableHlo.afterL_cons, StableHlo.afterL_nil]
  after_reads_simp

theorem trip0_arg1 : StableHlo.afterL body0 (StableHlo.after cond0 V) main_arg1 = V main_arg1 := by
  simp only [StableHlo.afterL_cons, StableHlo.afterL_nil]
  after_reads_simp

theorem trip0_arg2 : StableHlo.afterL body0 (StableHlo.after cond0 V) main_arg2 = V main_arg2 := by
  simp only [StableHlo.afterL_cons, StableHlo.afterL_nil]
  after_reads_simp

theorem trip1_v12_3 : StableHlo.afterL body1 (StableHlo.after cond1 V) main_v12_3 = incC (V main_v12_3) := by
  simp only [StableHlo.afterL_cons, StableHlo.afterL_nil]
  after_reads_simp [StableHlo.unaryIndexed_result_read, StableHlo.binaryIndexed_result_read, StableHlo.indexContents_tref_cons]
  try simp only [StableHlo.indexContents_tref_empty, StableHlo.TRef.toBuf, StableHlo.TRef.ofBuf, cast_eq, id_eq]
  all_goals rfl

theorem trip1_v12_4 : StableHlo.afterL body1 (StableHlo.after cond1 V) main_v12_4 = mulf (rowAt (V main_v12_2) (revC (V main_v12_3))) (addf (V main_v12_4) (rowAt (V main_v12_0) (revC (V main_v12_3)))) := by
  simp only [StableHlo.afterL_cons, StableHlo.afterL_nil]
  after_reads_simp [StableHlo.unaryIndexed_result_read, StableHlo.binaryIndexed_result_read, StableHlo.indexContents_tref_cons]
  try simp only [StableHlo.indexContents_tref_empty, StableHlo.TRef.toBuf, StableHlo.TRef.ofBuf, cast_eq, id_eq]
  all_goals rfl

theorem trip1_v12_5 : StableHlo.afterL body1 (StableHlo.after cond1 V) main_v12_5 = setRow (V main_v12_5) (mulf (addf (V main_v12_4) (rowAt (V main_v12_0) (revC (V main_v12_3)))) (rowAt (V main_v12_1) (revC (V main_v12_3)))) (revC (V main_v12_3)) := by
  simp only [StableHlo.afterL_cons, StableHlo.afterL_nil]
  after_reads_simp [StableHlo.unaryIndexed_result_read, StableHlo.binaryIndexed_result_read, StableHlo.indexContents_tref_cons]
  try simp only [StableHlo.indexContents_tref_empty, StableHlo.TRef.toBuf, StableHlo.TRef.ofBuf, cast_eq, id_eq]
  all_goals rfl

theorem trip1_v12_6 : StableHlo.afterL body1 (StableHlo.after cond1 V) main_v12_6 = setRow (V main_v12_6) (addf (V main_v12_4) (rowAt (V main_v12_0) (revC (V main_v12_3)))) (revC (V main_v12_3)) := by
  simp only [StableHlo.afterL_cons, StableHlo.afterL_nil]
  after_reads_simp [StableHlo.unaryIndexed_result_read, StableHlo.binaryIndexed_result_read, StableHlo.indexContents_tref_cons]
  try simp only [StableHlo.indexContents_tref_empty, StableHlo.TRef.toBuf, StableHlo.TRef.ofBuf, cast_eq, id_eq]
  all_goals rfl

theorem trip1_v12_0 : StableHlo.afterL body1 (StableHlo.after cond1 V) main_v12_0 = V main_v12_0 := by
  simp only [StableHlo.afterL_cons, StableHlo.afterL_nil]
  after_reads_simp

theorem trip1_v12_1 : StableHlo.afterL body1 (StableHlo.after cond1 V) main_v12_1 = V main_v12_1 := by
  simp only [StableHlo.afterL_cons, StableHlo.afterL_nil]
  after_reads_simp

theorem trip1_v12_2 : StableHlo.afterL body1 (StableHlo.after cond1 V) main_v12_2 = V main_v12_2 := by
  simp only [StableHlo.afterL_cons, StableHlo.afterL_nil]
  after_reads_simp

theorem trip1_arg0 : StableHlo.afterL body1 (StableHlo.after cond1 V) main_arg0 = V main_arg0 := by
  simp only [StableHlo.afterL_cons, StableHlo.afterL_nil]
  after_reads_simp

theorem trip1_arg1 : StableHlo.afterL body1 (StableHlo.after cond1 V) main_arg1 = V main_arg1 := by
  simp only [StableHlo.afterL_cons, StableHlo.afterL_nil]
  after_reads_simp

theorem trip1_arg2 : StableHlo.afterL body1 (StableHlo.after cond1 V) main_arg2 = V main_arg2 := by
  simp only [StableHlo.afterL_cons, StableHlo.afterL_nil]
  after_reads_simp

end Cert.ReferenceIdeal.Scan

end
-- ==== Proof.RefRun.lean ====
/-
  The reference's run: its three stretches and two loops as segments, one after the other. Each loop's condition, run for the
  `k`-th time, is `k < 2176`, because its running index is `k`.
-/
module

public import proofs.«01_k».proof.Proof.RefReads
public import Idealize.ShloMosaic.Lib.Pipeline.Regions
public import Idealize.ShloMosaic.Lib.Pipeline.RegionsLoop
public import Idealize.ShloMosaic.Lib.Scf.ExitTest

@[expose] public section

set_option maxRecDepth 16384

noncomputable section

namespace Cert.ReferenceIdeal.Scan

open Cert.ReferenceIdeal Cert.ReferenceIdeal.Gen
open Idealize.ShloMosaic.Pipeline (CSeg Ticket PCfg ucRefs unscopedBufs_held sub_ucRefs)
open Idealize.ShloMosaic Idealize.ShloMosaic.Rounds
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Option PUnit) ℕ

/-- No pipeline is prefetched, there being none. -/
abbrev adm : (p : Fin 0) → (pcfgs (F := F) p).Adm := fun p => p.elim0
/-- There is no pipeline to hold a ticket for. -/
abbrev tk : Fin 0 → Ticket (Ix := Unit) (Name := ℕ) (U := Option PUnit) (Lvl := ℕ) (nD := nD) (τ := τ) (pcfgs (F := F)) (adm (F := F)) := fun j => j.elim0
/-- No cell is waited on. -/
abbrev noL : GSem nD τ sig → Finset Unit := fun _ => ∅
/-- Every cell at one level. -/
abbrev lv0 : GSem nD τ sig → Unit → ℕ := fun _ _ => 0

/-- What rides along with the buffers: the core owes nothing. -/
abbrev owesNone (c : Dev nD) : sProp 𝕄 := iprop(∃ W, owes (c : Thread nD τ) (0 : CellTallies nD τ sig Unit) W)

variable (m : (ℓ : Loc nD τ sig) → Buf (Elt F) ℓ)

/-- At the launch. -/
abbrev U0 (c : Dev nD) : Valuation τ sig (Elt F) := StableHlo.launchContents m c
/-- Where the first loop is entered. -/
abbrev U1 (c : Dev nD) : Valuation τ sig (Elt F) := StableHlo.after preOps (U0 m c)
/-- Before the first loop's `k`-th turn. -/
abbrev T0 (k : ℕ) (c : Dev nD) : Valuation τ sig (Elt F) := StableHlo.atTrip cond0 body0 (U1 m) k c
/-- Where the first loop is left. -/
abbrev U2 (c : Dev nD) : Valuation τ sig (Elt F) := StableHlo.after cond0 (T0 m 2176 c)
/-- Where the second loop is entered. -/
abbrev U3 (c : Dev nD) : Valuation τ sig (Elt F) := StableHlo.after midOps (U2 m c)
/-- Before the second loop's `k`-th turn. -/
abbrev T1 (k : ℕ) (c : Dev nD) : Valuation τ sig (Elt F) := StableHlo.atTrip cond1 body1 (U3 m) k c
/-- Where the second loop is left. -/
abbrev U4 (c : Dev nD) : Valuation τ sig (Elt F) := StableHlo.after cond1 (T1 m 2176 c)
/-- At the end. -/
abbrev U5 (c : Dev nD) : Valuation τ sig (Elt F) := StableHlo.after postOps (U4 m c)

/-- The running index of turn `k`. -/
abbrev ctr (k : ℕ) : Ctr F := fun _ => BitVec.ofNat 32 k

theorem incC_ctr (k : ℕ) : incC (ctr (F := F) k) = ctr (k + 1) := by
  funext y
  show BitVec.ofNat 32 k + 1#32 = BitVec.ofNat 32 (k + 1)
  rw [BitVec.ofNat_add]

theorem ctr0 (k : ℕ) (c : Dev nD) : T0 m k c main_v5_2 = ctr k := by
  induction k with
  | zero => exact (pre_v5_2 _).trans rfl
  | succ n ih => exact (trip0_v5_2 _).trans ((congrArg incC ih).trans (incC_ctr n))

theorem ctr1 (k : ℕ) (c : Dev nD) : T1 m k c main_v12_3 = ctr k := by
  induction k with
  | zero => exact (mid_v12_3 _).trans rfl
  | succ n ih => exact (trip1_v12_3 _).trans ((congrArg incC ih).trans (incC_ctr n))

theorem lt_iff (k : ℕ) (hk : k ≤ 2176) : IntOp.cmpi .slt (BitVec.ofNat 32 k) 2176#32 = 1#1 ↔ k < 2176 := by
  have h := Scf.cmpi_slt_iv_ub_iff (lb := 0#32) (ub := 2176#32) (st := 1#32) main_while0_ok (k := k) (by
    rw [show Scf.trips 0#32 2176#32 1#32 = 2176 from by decide]; exact hk)
  rw [show Scf.trips 0#32 2176#32 1#32 = 2176 from by decide] at h
  rw [← h]
  have e : Scf.iv 0#32 1#32 k = BitVec.ofNat 32 k := by
    unfold Scf.iv
    simp
  rw [e]

set_option backward.isDefEq.respectTransparency.types false in
/-- Loop 0's condition, run for the `k`-th time. -/
theorem cond0_holds : StableHlo.LoopCond (Ix := Unit) (Name := ℕ) (U := Option PUnit) (Lvl := ℕ) (pcfgs (F := F)) defs₀ Variants.none loops
    (owesNone (F := F)) main_while0_cond cond0 body0 (U1 m) 2176 := fun k hk c bd => by
  have hctr := ctr0 m k c
  unfold main_while0_cond
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (T0 m k c) main_v5_2 HostLoop.idx0)
        (HloOp.result _ (T0 m k c) main_while0c_c_12 HostLoop.idx0) = 1#1) (k < 2176)
    rw [StableHlo.nullary_result_ne _ _ _ _ (by decide), StableHlo.nullary_result, hctr]
    exact lt_iff k hk
  isplitl [Hb]; · iexact Hb
  isplitl [Hh]; · rw [StableHlo.after_cons, StableHlo.after_cons, StableHlo.after_nil]; iexact Hh
  iexact HR

set_option backward.isDefEq.respectTransparency.types false in
/-- Loop 1's condition, run for the `k`-th time. -/
theorem cond1_holds : StableHlo.LoopCond (Ix := Unit) (Name := ℕ) (U := Option PUnit) (Lvl := ℕ) (pcfgs (F := F)) defs₀ Variants.none loops
    (owesNone (F := F)) main_while1_cond cond1 body1 (U3 m) 2176 := fun k hk c bd => by
  have hctr := ctr1 m k c
  unfold main_while1_cond
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (T1 m k c) main_v12_3 HostLoop.idx0)
        (HloOp.result _ (T1 m k c) main_while1c_c_13 HostLoop.idx0) = 1#1) (k < 2176)
    rw [StableHlo.nullary_result_ne _ _ _ _ (by decide), StableHlo.nullary_result, hctr]
    exact lt_iff k hk
  isplitl [Hb]; · iexact Hb
  isplitl [Hh]; · rw [StableHlo.after_cons, StableHlo.after_cons, StableHlo.after_nil]; iexact Hh
  iexact HR

/-- The reference's segments. -/
def segs : List (CSeg (pcfgs (F := F)) adm defs₀ Variants.none noL lv0 loops tk) :=
  StableHlo.segsOf _ _ _ _ _ _ _ _ owesNone [preOps] preOps_plain (U0 m)
    ++ (StableHlo.loopSeg _ _ _ _ _ _ _ _ 0 main_while0_cond main_while0_body rfl cond0 body0 body0_plain body0_chain 2176 (U1 m) owesNone (cond0_holds m)
    :: (StableHlo.segsOf _ _ _ _ _ _ _ _ owesNone [midOps] midOps_plain (U2 m)
    ++ (StableHlo.loopSeg _ _ _ _ _ _ _ _ 1 main_while1_cond main_while1_body rfl cond1 body1 body1_plain body1_chain 2176 (U3 m) owesNone (cond1_holds m)
    :: StableHlo.segsOf _ _ _ _ _ _ _ _ owesNone [postOps] postOps_plain (U4 m))))

theorem segs_prog : (segs m).map CSeg.prog
    = [ (StableHlo.seq preOps : Prog (TpuEff nD τ sig (Elt F) (HostLoop.Sig (Pipeline.Sig Λ₀ (Fin 0) fun p => (pcfgs (F := F) p).Adm) 2) .tc) PUnit),
        HostLoop.enter 0, StableHlo.seq midOps, HostLoop.enter 1, StableHlo.seq postOps ] := by
  unfold segs
  rw [List.map_append, List.map_cons, List.map_append, List.map_cons, StableHlo.segsOf_prog, StableHlo.segsOf_prog, StableHlo.segsOf_prog]
  rfl

theorem segs_chains : CSeg.Chains (fun c => iprop(StableHlo.held (c : Thread nD τ) (ucRefs τ sig) (U0 m c) ∗ owesNone c)) (segs m)
    (fun c => iprop(StableHlo.held (c : Thread nD τ) (ucRefs τ sig) (U5 m c) ∗ owesNone c)) := by
  unfold segs
  exact CSeg.Chains.append (StableHlo.segsOf_chains _ _ _ _ _ _ _ _ owesNone [preOps] preOps_plain _)
    ⟨fun _ => .rfl, CSeg.Chains.append (StableHlo.segsOf_chains _ _ _ _ _ _ _ _ owesNone [midOps] midOps_plain _)
      ⟨fun _ => .rfl, StableHlo.segsOf_chains _ _ _ _ _ _ _ _ owesNone [postOps] postOps_plain _⟩⟩

/-- From any memory with the counters at zero the reference runs to its end, every buffer of it at what its stretches and turns left
    there, the counters at zero. -/
theorem run_ref [∀ e, Nonempty (Elt F e)] (ρ : Dev nD → PrngReg) :
    θ_run defs (onTc (τ := τ) (main (F := F))) ⟨m, fun _ => 0, ρ⟩
      (fun r => (∀ (c : Dev nD) (b : Ref sig .tc), (Proc.devRef .tc b : DevRef τ sig).isScoped = false →
        r.2.mem ((c.tc : Thread nD τ).loc b) = U5 m c (Proc.devRef .tc b)) ∧ r.2.sem = fun _ => 0) :=
  Pipeline.θ_run_regions_loop_kit_sems (Ix := Unit) (Name := ℕ) (U := Option PUnit) (Lvl := ℕ) (J := Fin 0) (P := Fin 0) (Val := Elt F)
    pcfgs adm (fun k => k.1.elim0) defs₀ Variants.none noL lv0 loops tk m ρ main (segs m)
    (fun c Q => by
      rw [main_chain c]
      show wp _ _ _ (Pipeline.chain ((segs m).map CSeg.prog)) Q ⊢ _
      rw [segs_prog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(StableHlo.held (c : Thread nD τ) (ucRefs τ sig) (U0 m c) ∗ owesNone c))
    (Tₙ := fun c => iprop(StableHlo.held (c : Thread nD τ) (ucRefs τ sig) (U5 m c)))
    (hch := segs_chains m)
    (hinit := by
      refine Pipeline.initEach noL lv0 fun c => ?_
      rw [show unscopedBufs c (fun b => m ((c : Thread nD τ).loc b)) = StableHlo.held (c : Thread nD τ) (ucRefs τ sig) (U0 m c) from unscopedBufs_held c (U0 m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = U5 m c b)
    (hfin := fun c s' => by
      unfold StableHlo.held
      iintro ⟨Hh, HSI⟩
      ihave Hr := (pointsTo_read_all (ucRefs τ sig) (fun b => ((c : Dev nD), b)) (fun b => U5 m c b) s') $$ [Hh HSI]
      · isplitl [Hh] <;> iassumption
      icases Hr with ⟨%h, HSI⟩
      imodintro
      isplitr; · ipureintro; exact h
      iexact HSI)
    (hQ := fun s h hs => ⟨fun c b hb => h c _ (StableHlo.devRef_mem_ucRefs b hb), funext fun g => by
      rcases g with ⟨⟨c, k⟩, x⟩
      cases k with
      | tc =>
        cases x with
        | reg x => exact absurd x.isLt (Nat.not_lt_zero _)
        | dma x => exact absurd x.isLt (Nat.not_lt_zero _)
      | _ => exact hs _ (Or.inl (by simp))⟩)

end Cert.ReferenceIdeal.Scan

end
-- ==== Proof.RefValue.lean ====
/-
  What the reference computes, in the closed forms the kernel's scans have: `hAt` (the state after so many tokens) and `gAt`
  (the gradient of the state, so many tokens from the end). The arrays in the scan's layout, `a`, `b` and `d`, hold the same
  numbers as the stacks of rows the reference's loops read (`Stacked`): channel `128 k + l` of token `t` is row `8 t + k`, lane `l`.
-/
module

public import proofs.«01_k».proof.Proof.RefRun
public import proofs.«01_k».proof.Proof.FwdRegion
public import proofs.«01_k».proof.Proof.BwdRegion

@[expose] public section

set_option maxRecDepth 16384

noncomputable section

namespace Cert.ReferenceIdeal.Scan

open Cert.ReferenceIdeal Cert.ReferenceIdeal.Gen
open Idealize.ShloMosaic Idealize.ShloMosaic.Rounds
open Idealize.ShloMosaic.TcCoe
open Cert.Scan (rd rd_of rd_mk)
open Cert.KernelIdeal.Scan (Seq hAt hSeq agAt gAt dbSeq daSeq)
open Idealize.SL.Sem

variable {F : FTy → Type} [FloatOps F]

/-! ## One row at a running index -/

theorem start0 (j : ℕ) (hj : j < 2176) :
    (min (max ((BitVec.ofNat 32 j).toInt) 0) ((2176 - 1 : ℕ) : Int)).toNat = j := by
  have e : (BitVec.ofNat 32 j).toInt = (j : Int) := by
    rw [BitVec.toInt_eq_toNat_of_lt (by rw [BitVec.toNat_ofNat]; omega), BitVec.toNat_ofNat]
    omega
  rw [e]
  omega

theorem rowAt_ctr (x : Stk F) (j : ℕ) (hj : j < 2176) (y : S4x1024.Idx) :
    rowAt x (ctr j) y = x (ValueIdx.ix3 ⟨j, hj⟩ (y 0) (y 1)) := by
  unfold rowAt
  refine (shapeCast_apply _ _ y (ValueIdx.ix3 ⟨0, Nat.one_pos⟩ (y 0) (y 1)) ?_).trans ?_
  · rw [Shape.rowMajor_val_three, Shape.rowMajor_val_two]
    show (0 * 4 + (y 0).val) * 1024 + (y 1).val = (y 0).val * 1024 + (y 1).val
    omega
  · unfold Host.dynamicSlice
    refine extractStridedSlice_apply _ _ _ _ _ fun a => ?_
    match a with
    | ⟨0, _⟩ =>
      show j = (min (max ((BitVec.ofNat 32 j).toInt) 0) ((2176 - 1 : ℕ) : Int)).toNat + 0
      rw [start0 j hj]; rfl
    | ⟨1, _⟩ =>
      show (y 0).val = 0 + (y 0).val
      omega
    | ⟨2, _⟩ =>
      show (y 1).val = 0 + (y 1).val
      omega

theorem setRow_ctr (x : Stk F) (u : Row F) (j : ℕ) (hj : j < 2176) (z : S2176x4x1024.Idx) :
    setRow x u (ctr j) z = if (z 0).val = j then u (ValueIdx.ix2 (z 1) (z 2)) else x z := by
  unfold setRow Host.dynamicUpdateSlice updateSlice
  have e0 : (min (max ((BitVec.ofNat 32 j).toInt) 0) ((2176 - 1 : ℕ) : Int)).toNat = j := start0 j hj
  have e1 : ∀ n : ℕ, (min (max ((0#32 : BitVec 32).toInt) 0) ((n - n : ℕ) : Int)).toNat = 0 := fun n => by
    rw [show (0#32 : BitVec 32).toInt = 0 from by decide]; omega
  by_cases hz : (z 0).val = j
  · rw [if_pos hz]
    refine (dif_pos fun a => ?_).trans ?_
    · match a with
      | ⟨0, _⟩ =>
        show (min (max ((BitVec.ofNat 32 j).toInt) 0) ((2176 - 1 : ℕ) : Int)).toNat ≤ (z 0).val
          ∧ (z 0).val < (min (max ((BitVec.ofNat 32 j).toInt) 0) ((2176 - 1 : ℕ) : Int)).toNat + 1
        rw [e0]; omega
      | ⟨1, _⟩ =>
        show (min (max ((0#32 : BitVec 32).toInt) 0) ((4 - 4 : ℕ) : Int)).toNat ≤ (z 1).val
          ∧ (z 1).val < (min (max ((0#32 : BitVec 32).toInt) 0) ((4 - 4 : ℕ) : Int)).toNat + 4
        rw [e1]; have := (z 1).isLt; have h4 : S2176x4x1024.size 1 = 4 := rfl; omega
      | ⟨2, _⟩ =>
        show (min (max ((0#32 : BitVec 32).toInt) 0) ((1024 - 1024 : ℕ) : Int)).toNat ≤ (z 2).val
          ∧ (z 2).val < (min (max ((0#32 : BitVec 32).toInt) 0) ((1024 - 1024 : ℕ) : Int)).toNat + 1024
        rw [e1]; have := (z 2).isLt; have h4 : S2176x4x1024.size 2 = 1024 := rfl; omega
    · unfold broadcastInDim
      refine congrArg u (funext fun a => ?_)
      match a with
      | ⟨0, _⟩ =>
        refine (dif_neg (show ¬ (4 : ℕ) = 1 by decide)).trans (Fin.ext ?_)
        show (z 1).val - (min (max ((0#32 : BitVec 32).toInt) 0) ((4 - 4 : ℕ) : Int)).toNat = (z 1).val
        rw [e1]; omega
      | ⟨1, _⟩ =>
        refine (dif_neg (show ¬ (1024 : ℕ) = 1 by decide)).trans (Fin.ext ?_)
        show (z 2).val - (min (max ((0#32 : BitVec 32).toInt) 0) ((1024 - 1024 : ℕ) : Int)).toNat = (z 2).val
        rw [e1]; omega
  · rw [if_neg hz]
    refine dif_neg fun hin => hz ?_
    have h0 : (min (max ((BitVec.ofNat 32 j).toInt) 0) ((2176 - 1 : ℕ) : Int)).toNat ≤ (z 0).val
          ∧ (z 0).val < (min (max ((BitVec.ofNat 32 j).toInt) 0) ((2176 - 1 : ℕ) : Int)).toNat + 1 := hin 0
    rw [e0] at h0
    omega

theorem revC_ctr (k : ℕ) (hk : k < 2176) : revC (ctr (F := F) k) = ctr (2175 - k) := by
  funext y
  show 2176#32 - BitVec.ofNat 32 k - 1#32 = BitVec.ofNat 32 (2175 - k)
  apply BitVec.eq_of_toNat_eq
  simp only [BitVec.toNat_sub, BitVec.toNat_ofNat]
  omega

/-! ## Stacks of rows and arrays in the scan's layout -/

/-- A stack holds an array's numbers: channel `128 k + l` of token `t` is row `8 t + k`, lane `l`. -/
def Stacked (x : Stk F) (a : Seq F) : Prop :=
  ∀ z : S2176x4x1024.Idx, x z = rd (n0 := 4) (n1 := 17408) (n2 := 128) a (z 1).val (8 * (z 0).val + (z 2).val / 128) ((z 2).val % 128)

theorem rowAt_stacked {x : Stk F} {a : Seq F} (h : Stacked x a) (j : ℕ) (hj : j < 2176) (y : S4x1024.Idx) :
    rowAt x (ctr j) y = rd (n0 := 4) (n1 := 17408) (n2 := 128) a (y 0).val (8 * j + (y 1).val / 128) ((y 1).val % 128) :=
  (rowAt_ctr x j hj y).trans (h _)

variable (a b d : Seq F)

/-! ## The first loop -/

/-- What the first loop carries before turn `k`. -/
structure Inv0 (k : ℕ) (V : Valuation τ sig (Elt F)) : Prop where
  fst : Stacked (V main_v5_0) a
  snd : Stacked (V main_v5_1) b
  cnt : V main_v5_2 = ctr k
  cur : ∀ y : S4x1024.Idx, (V main_v5_3 : Row F) y = hAt a b k (y 0).val ((y 1).val / 128) ((y 1).val % 128)
  old : ∀ z : S2176x4x1024.Idx, (z 0).val < k → (V main_v5_5 : Stk F) z = hAt a b (z 0).val (z 1).val ((z 2).val / 128) ((z 2).val % 128)

theorem Inv0.step {k : ℕ} {V : Valuation τ sig (Elt F)} (h : Inv0 a b k V) (hk : k < 2176) :
    Inv0 a b (k + 1) (StableHlo.afterL body0 (StableHlo.after cond0 V)) where
  fst := by rw [trip0_v5_0]; exact h.fst
  snd := by rw [trip0_v5_1]; exact h.snd
  cnt := by rw [trip0_v5_2, h.cnt, incC_ctr]
  cur y := by
    rw [trip0_v5_3, h.cnt]
    show FloatOps.addf (FloatOps.mulf (rowAt _ (ctr k) y) ((V main_v5_3 : Row F) y)) (rowAt _ (ctr k) y) = _
    rw [rowAt_stacked h.fst k hk, rowAt_stacked h.snd k hk, h.cur]
    rfl
  old z hz := by
    rw [trip0_v5_5, h.cnt, setRow_ctr _ _ k hk]
    by_cases hzk : (z 0).val = k
    · rw [if_pos hzk, h.cur, hzk]
    · rw [if_neg hzk]
      exact h.old z (by omega)

/-! ## The second loop -/

/-- What the second loop carries before turn `k`. -/
structure Inv1 (k : ℕ) (V : Valuation τ sig (Elt F)) : Prop where
  ct : Stacked (V main_v12_0) d
  prev : ∀ z : S2176x4x1024.Idx, (V main_v12_1 : Stk F) z = hAt a b (z 0).val (z 1).val ((z 2).val / 128) ((z 2).val % 128)
  dec : Stacked (V main_v12_2) a
  cnt : V main_v12_3 = ctr k
  cur : ∀ y : S4x1024.Idx, (V main_v12_4 : Row F) y = agAt a d k (y 0).val ((y 1).val / 128) ((y 1).val % 128)
  da : ∀ z : S2176x4x1024.Idx, 2176 - k ≤ (z 0).val → (V main_v12_5 : Stk F) z
    = FloatOps.mulf (gAt a d (2175 - (z 0).val) (z 1).val ((z 2).val / 128) ((z 2).val % 128)) (hAt a b (z 0).val (z 1).val ((z 2).val / 128) ((z 2).val % 128))
  db : ∀ z : S2176x4x1024.Idx, 2176 - k ≤ (z 0).val → (V main_v12_6 : Stk F) z = gAt a d (2175 - (z 0).val) (z 1).val ((z 2).val / 128) ((z 2).val % 128)

/-- The reference adds what a token gets from the loss to what it gets from the next token, the kernel the other way round: where
    addition commutes this is one number. -/
theorem Inv1.step (hc : ∀ x y : F .f32, FloatOps.addf x y = FloatOps.addf y x) {k : ℕ} {V : Valuation τ sig (Elt F)} (h : Inv1 a b d k V) (hk : k < 2176) :
    Inv1 a b d (k + 1) (StableHlo.afterL body1 (StableHlo.after cond1 V)) := by
  have hg : ∀ y : S4x1024.Idx, (addf (V main_v12_4 : Row F) (rowAt (V main_v12_0 : Stk F) (ctr (2175 - k))) : Row F) y
      = gAt a d k (y 0).val ((y 1).val / 128) ((y 1).val % 128) := fun y => by
    show FloatOps.addf ((V main_v12_4 : Row F) y) (rowAt (V main_v12_0 : Stk F) (ctr (2175 - k)) y) = _
    rw [rowAt_stacked h.ct _ (by omega), h.cur, hc]
    rfl
  refine ⟨?_, ?_, ?_, ?_, ?_, ?_, ?_⟩
  · rw [trip1_v12_0]; exact h.ct
  · rw [trip1_v12_1]; exact h.prev
  · rw [trip1_v12_2]; exact h.dec
  · rw [trip1_v12_3, h.cnt, incC_ctr]
  · intro y
    rw [trip1_v12_4, h.cnt, revC_ctr k hk]
    show FloatOps.mulf (rowAt _ (ctr (2175 - k)) y) _ = _
    refine (congrArg _ (hg y)).trans ?_
    rw [rowAt_stacked h.dec _ (by omega)]
    rfl
  · intro z hz
    rw [trip1_v12_5, h.cnt, revC_ctr k hk, setRow_ctr _ _ _ (by omega)]
    by_cases hzk : (z 0).val = 2175 - k
    · rw [if_pos hzk]
      show FloatOps.mulf _ (rowAt _ (ctr (2175 - k)) (ValueIdx.ix2 (z 1) (z 2))) = _
      refine (congrArg (fun t => FloatOps.mulf t _) (hg _)).trans ?_
      rw [rowAt_ctr _ _ (by omega), h.prev, hzk, show 2175 - (2175 - k) = k by omega]
    · rw [if_neg hzk]
      exact h.da z (by omega)
  · intro z hz
    rw [trip1_v12_6, h.cnt, revC_ctr k hk, setRow_ctr _ _ _ (by omega)]
    by_cases hzk : (z 0).val = 2175 - k
    · rw [if_pos hzk]
      refine (hg _).trans ?_
      rw [hzk, show 2175 - (2175 - k) = k by omega]
    · rw [if_neg hzk]
      exact h.db z (by omega)

/-! ## The run, closed -/

variable {a b d}
variable (m : (ℓ : Loc nD τ sig) → Buf (Elt F) ℓ)

theorem inv0 (c : Dev nD) (ha : Stacked (toStk (U0 m c main_arg0)) a) (hb : Stacked (toStk (U0 m c main_arg1)) b) :
    ∀ k ≤ 2176, Inv0 a b k (T0 m k c)
  | 0, _ => ⟨by show Stacked (StableHlo.after preOps (U0 m c) main_v5_0) a; rw [pre_v5_0]; exact ha, by show Stacked (StableHlo.after preOps (U0 m c) main_v5_1) b; rw [pre_v5_1]; exact hb,
      pre_v5_2 _, fun y => by show (StableHlo.after preOps (U0 m c) main_v5_3 : Row F) y = _; rw [pre_v5_3]; rfl, fun z hz => absurd hz (Nat.not_lt_zero _)⟩
  | k + 1, hk => (inv0 c ha hb k (by omega)).step a b (by omega)

theorem T0_keeps (c : Dev nD) : ∀ k, T0 m k c main_v1 = toStk (U0 m c main_arg0) ∧ T0 m k c main_arg0 = U0 m c main_arg0
    ∧ T0 m k c main_arg1 = U0 m c main_arg1 ∧ T0 m k c main_arg2 = U0 m c main_arg2
  | 0 => ⟨pre_v1 _, pre_arg0 _, pre_arg1 _, pre_arg2 _⟩
  | k + 1 => by
    obtain ⟨h1, h2, h3, h4⟩ := T0_keeps c k
    exact ⟨(trip0_v1 _).trans h1, (trip0_arg0 _).trans h2, (trip0_arg1 _).trans h3, (trip0_arg2 _).trans h4⟩

theorem U3_keeps (c : Dev nD) : U3 m c main_arg0 = U0 m c main_arg0
    ∧ U3 m c main_arg1 = U0 m c main_arg1 ∧ U3 m c main_arg2 = U0 m c main_arg2 := by
  obtain ⟨h1, h2, h3, h4⟩ := T0_keeps m c 2176
  exact ⟨((mid_arg0 _).trans (cond0_arg0 _)).trans h2, ((mid_arg1 _).trans (cond0_arg1 _)).trans h3, ((mid_arg2 _).trans (cond0_arg2 _)).trans h4⟩

theorem T1_keeps (c : Dev nD) : ∀ k, T1 m k c main_arg0 = U0 m c main_arg0
    ∧ T1 m k c main_arg1 = U0 m c main_arg1 ∧ T1 m k c main_arg2 = U0 m c main_arg2
  | 0 => U3_keeps m c
  | k + 1 => by
    obtain ⟨h2, h3, h4⟩ := T1_keeps c k
    exact ⟨(trip1_arg0 _).trans h2, (trip1_arg1 _).trans h3, (trip1_arg2 _).trans h4⟩

theorem U5_keeps (c : Dev nD) : U5 m c main_arg0 = U0 m c main_arg0
    ∧ U5 m c main_arg1 = U0 m c main_arg1 ∧ U5 m c main_arg2 = U0 m c main_arg2 := by
  obtain ⟨h2, h3, h4⟩ := T1_keeps m c 2176
  exact ⟨((post_arg0 _).trans (cond1_arg0 _)).trans h2, ((post_arg1 _).trans (cond1_arg1 _)).trans h3, ((post_arg2 _).trans (cond1_arg2 _)).trans h4⟩

theorem inv1 (hc : ∀ x y : F .f32, FloatOps.addf x y = FloatOps.addf y x) (c : Dev nD) (ha : Stacked (toStk (U0 m c main_arg0)) a)
    (hb : Stacked (toStk (U0 m c main_arg1)) b) (hd : Stacked (toStk (U0 m c main_arg2)) d) : ∀ k ≤ 2176, Inv1 a b d k (T1 m k c)
  | 0, _ => by
    have h0 := inv0 m c ha hb 2176 le_rfl
    obtain ⟨h1, h2, h3, h4⟩ := T0_keeps m c 2176
    refine ⟨?_, ?_, ?_, mid_v12_3 _, ?_, ?_, ?_⟩
    · show Stacked (StableHlo.after midOps (StableHlo.after cond0 (T0 m 2176 c)) main_v12_0) d
      rw [mid_v12_0, cond0_arg2, h4]; exact hd
    · intro z
      show (StableHlo.after midOps (StableHlo.after cond0 (T0 m 2176 c)) main_v12_1 : Stk F) z = _
      rw [mid_v12_1, cond0_v5_5]
      exact h0.old z (z 0).isLt
    · show Stacked (StableHlo.after midOps (StableHlo.after cond0 (T0 m 2176 c)) main_v12_2) a
      rw [mid_v12_2, cond0_v1, h1]; exact ha
    · intro y
      show (StableHlo.after midOps (StableHlo.after cond0 (T0 m 2176 c)) main_v12_4 : Row F) y = _
      rw [mid_v12_4]; rfl
    · intro z hz; have := (z 0).isLt; have h4 : S2176x4x1024.size 0 = 2176 := rfl; omega
    · intro z hz; have := (z 0).isLt; have h4 : S2176x4x1024.size 0 = 2176 := rfl; omega
  | k + 1, hk => (inv1 hc c ha hb hd k (by omega)).step a b d hc (by omega)

/-- A stack read in the layout of the results. -/
theorem ofStk_at (x : Stk F) (y : S4x17408x128.Idx) (t r : ℕ) (ht : (y 1).val = 8 * t + r) (hr : r < 8) (z : S2176x4x1024.Idx)
    (h0 : (z 0).val = t) (h1 : (z 1).val = (y 0).val) (h2 : (z 2).val = 128 * r + (y 2).val) : ofStk x y = x z := by
  refine (shapeCast_apply _ _ y (ValueIdx.ix3 (z 1) (z 0) (z 2)) ?_).trans ?_
  · rw [Shape.rowMajor_val_three, Shape.rowMajor_val_three]
    show ((z 1).val * 2176 + (z 0).val) * 1024 + (z 2).val = ((y 0).val * 17408 + (y 1).val) * 128 + (y 2).val
    omega
  · refine transpose_apply _ _ _ _ _ fun b => ?_
    match b with
    | ⟨0, _⟩ => rfl
    | ⟨1, _⟩ => rfl
    | ⟨2, _⟩ => rfl

theorem results (hc : ∀ x y : F .f32, FloatOps.addf x y = FloatOps.addf y x) (c : Dev nD) (ha : Stacked (toStk (U0 m c main_arg0)) a)
    (hb : Stacked (toStk (U0 m c main_arg1)) b) (hd : Stacked (toStk (U0 m c main_arg2)) d) :
    U5 m c main_v15 = daSeq a (hSeq a b) d ∧ U5 m c main_v16 = dbSeq a d := by
  have h := inv1 m hc c ha hb hd 2176 le_rfl
  have hz : ∀ y : S4x17408x128.Idx, ∃ z : S2176x4x1024.Idx, (z 0).val = (y 1).val / 8 ∧ (z 1).val = (y 0).val ∧ (z 2).val = 128 * ((y 1).val % 8) + (y 2).val := fun y => by
    have b0 : (y 0).val < 4 := (y 0).isLt
    have b1 : (y 1).val < 17408 := (y 1).isLt
    have b2 : (y 2).val < 128 := (y 2).isLt
    exact ⟨ValueIdx.ix3 ⟨(y 1).val / 8, by omega⟩ ⟨(y 0).val, b0⟩ ⟨128 * ((y 1).val % 8) + (y 2).val, by omega⟩, rfl, rfl, rfl⟩
  constructor
  · show StableHlo.after postOps (StableHlo.after cond1 (T1 m 2176 c)) main_v15 = _
    rw [post_v15, cond1_v12_5]
    funext y
    obtain ⟨z, h0, h1, h2⟩ := hz y
    have b1 : (y 1).val < 17408 := (y 1).isLt
    have b2 : (y 2).val < 128 := (y 2).isLt
    refine (ofStk_at _ y ((y 1).val / 8) ((y 1).val % 8) (by omega) (by omega) z h0 h1 h2).trans ((h.da z (by omega)).trans ?_)
    rw [h0, h1, h2, show (128 * ((y 1).val % 8) + (y 2).val) / 128 = (y 1).val % 8 by omega,
      show (128 * ((y 1).val % 8) + (y 2).val) % 128 = (y 2).val by omega]
    show _ = FloatOps.mulf (dbSeq a d y) _
    refine congrArg₂ FloatOps.mulf rfl ?_
    by_cases hy : (y 1).val / 8 = 0
    · rw [if_pos hy, hy]; rfl
    · rw [if_neg hy]
      unfold hSeq
      refine Eq.trans ?_ (rd_mk (n0 := 4) (n1 := 17408) (n2 := 128) (fun s R l => hAt a b (R / 8 + 1) s (R % 8) l) _ _ _ (y 0).isLt (by omega) b2).symm
      show hAt a b ((y 1).val / 8) _ _ _ = hAt a b (((y 1).val - 8) / 8 + 1) _ (((y 1).val - 8) % 8) _
      rw [show ((y 1).val - 8) / 8 + 1 = (y 1).val / 8 by omega, show ((y 1).val - 8) % 8 = (y 1).val % 8 by omega]
  · show StableHlo.after postOps (StableHlo.after cond1 (T1 m 2176 c)) main_v16 = _
    rw [post_v16, cond1_v12_6]
    funext y
    obtain ⟨z, h0, h1, h2⟩ := hz y
    have b1 : (y 1).val < 17408 := (y 1).isLt
    have b2 : (y 2).val < 128 := (y 2).isLt
    refine (ofStk_at _ y ((y 1).val / 8) ((y 1).val % 8) (by omega) (by omega) z h0 h1 h2).trans ((h.db z (by omega)).trans ?_)
    rw [h0, h1, h2, show (128 * ((y 1).val % 8) + (y 2).val) / 128 = (y 1).val % 8 by omega,
      show (128 * ((y 1).val % 8) + (y 2).val) % 128 = (y 2).val by omega]
    rfl

end Cert.ReferenceIdeal.Scan

end
-- ==== Proof.Agree.lean ====
/-
  The kernel's arrays and the reference's, from the same arguments: the kernel's program reshapes each argument twice and keeps its
  row-major order, the reference puts tokens first. Read at the ideal numbers, the two programs end with equal results.
-/
module

public import proofs.«01_k».proof.Proof.Run
public import proofs.«01_k».proof.Proof.RefValue
public import Idealize.ShloMosaic.Lib.Pointwise.Reshape
public import Idealize.ShloMosaic.Lib.StableHlo.RunRead

@[expose] public section

set_option maxRecDepth 16384

noncomputable section

namespace Cert.Agree

open Idealize.ShloMosaic Idealize.ShloMosaic.TcCoe
open Cert.Scan (rd rd_of)
open Cert.KernelIdeal Cert.KernelIdeal.Gen Cert.KernelIdeal.Scan
open Idealize.SL.Sem

variable {F : FTy → Type} [FloatOps F]

/-- An argument in the scan's layout. -/
abbrev scanForm (x : (⟨S4x2176x1024, .f32⟩ : BufTy).Contents (Elt F)) : Seq F :=
  shapeCast S4x17408x128 (shapeCast S69632x128 x shapeCasts_S4x2176x1024_S69632x128) shapeCasts_S69632x128_S4x17408x128

theorem stacked_scanForm (x : (⟨S4x2176x1024, .f32⟩ : BufTy).Contents (Elt F)) :
    Cert.ReferenceIdeal.Scan.Stacked (Cert.ReferenceIdeal.Scan.toStk x) (scanForm x) := fun z => by
  have b0 : (z 0).val < 2176 := (z 0).isLt
  have b1 : (z 1).val < 4 := (z 1).isLt
  have b2 : (z 2).val < 1024 := (z 2).isLt
  let k : S4x2176x1024.Idx := ValueIdx.ix3 ⟨(z 1).val, b1⟩ ⟨(z 0).val, b0⟩ ⟨(z 2).val, b2⟩
  let y : S4x17408x128.Idx := ValueIdx.ix3 ⟨(z 1).val, b1⟩ ⟨8 * (z 0).val + (z 2).val / 128, by omega⟩ ⟨(z 2).val % 128, by omega⟩
  refine (transpose_apply _ _ _ _ k fun b => ?_).trans (Eq.trans ?_ (rd_of (scanForm x) y _ _ _ rfl rfl rfl))
  · match b with
    | ⟨0, _⟩ => rfl
    | ⟨1, _⟩ => rfl
    | ⟨2, _⟩ => rfl
  · unfold scanForm
    rw [shapeCast_comp]
    refine (shapeCast_apply _ _ y k ?_).symm
    rw [Shape.rowMajor_val_three, Shape.rowMajor_val_three]
    show ((z 1).val * 2176 + (z 0).val) * 1024 + (z 2).val = ((z 1).val * 17408 + (8 * (z 0).val + (z 2).val / 128)) * 128 + (z 2).val % 128
    omega

variable (m : (ℓ : Loc nD τ sig) → Buf (Elt F) ℓ) (c : Dev nD)

theorem arrA_eq : arrA (V1 m) c = scanForm (m ((c : Thread nD τ).loc main_arg0)) := by
  show StableHlo.after hostOps0 _ (Proc.devRef .tc main_v3) = _
  after_reads_simp
  rfl

theorem arrB_eq : arrB (V1 m) c = scanForm (m ((c : Thread nD τ).loc main_arg1)) := by
  show StableHlo.after hostOps0 _ (Proc.devRef .tc main_v4) = _
  after_reads_simp
  rfl

theorem V2_v0 : V2 m (outs m) c main_v0 = shapeCast S69632x128 (m ((c : Thread nD τ).loc main_arg0)) shapeCasts_S4x2176x1024_S69632x128 := by
  rw [V2_of m (outs m) c main_v0 (by decide)]
  show StableHlo.after hostOps0 _ (Proc.devRef .tc main_v0) = _
  after_reads_simp
  rfl

theorem V2_v2 : V2 m (outs m) c main_v2 = shapeCast S69632x128 (m ((c : Thread nD τ).loc main_arg2)) shapeCasts_S4x2176x1024_S69632x128 := by
  rw [V2_of m (outs m) c main_v2 (by decide)]
  show StableHlo.after hostOps0 _ (Proc.devRef .tc main_v2) = _
  after_reads_simp
  rfl

theorem V2_v5 : V2 m (outs m) c main_v5 = hSeq (arrA (V1 m) c) (arrB (V1 m) c) := by
  unfold V2
  rw [Function.update_self]
  exact (Pipeline.afterRegion_arr (datF (V1 m) c) (V1 m c) winFacts0.arr_inj 2).trans (finalF (V1 m) c)

theorem arrA1_eq : arrA1 (W3 m) c = scanForm (m ((c : Thread nD τ).loc main_arg0)) := by
  show StableHlo.after hostOps1 (V2 m (outs m) c) (Proc.devRef .tc main_v7) = _
  after_reads_simp
  rw [V2_v0]
  rfl

theorem arrD1_eq : arrD1 (W3 m) c = scanForm (m ((c : Thread nD τ).loc main_arg2)) := by
  show StableHlo.after hostOps1 (V2 m (outs m) c) (Proc.devRef .tc main_v9) = _
  after_reads_simp
  rw [V2_v2]
  rfl

theorem arrH1_eq : arrH1 (W3 m) c = hSeq (scanForm (m ((c : Thread nD τ).loc main_arg0))) (scanForm (m ((c : Thread nD τ).loc main_arg1))) := by
  show StableHlo.after hostOps1 (V2 m (outs m) c) (Proc.devRef .tc main_v8) = _
  after_reads_simp
  rw [V2_v5, arrA_eq, arrB_eq]
  exact shapeCast_shapeCast _ shapeCasts_S4x17408x128_S69632x128 shapeCasts_S69632x128_S4x17408x128

/-- The kernel's program ends with the gradients of its arguments, in the scan's closed forms. -/
theorem kernel_results {s : MemSt nD τ sig (Elt F)} (h : ends m c s) :
    s.mem ((c : Thread nD τ).loc main_v10_0)
        = daSeq (scanForm (m ((c : Thread nD τ).loc main_arg0))) (hSeq (scanForm (m ((c : Thread nD τ).loc main_arg0))) (scanForm (m ((c : Thread nD τ).loc main_arg1)))) (scanForm (m ((c : Thread nD τ).loc main_arg2)))
      ∧ s.mem ((c : Thread nD τ).loc main_v10_1) = dbSeq (scanForm (m ((c : Thread nD τ).loc main_arg0))) (scanForm (m ((c : Thread nD τ).loc main_arg2))) := by
  obtain ⟨_, h4, h5⟩ := h
  rw [arrA1_eq, arrD1_eq] at h5
  rw [arrA1_eq, arrD1_eq, arrH1_eq] at h4
  exact ⟨h4, h5⟩

end Cert.Agree

end
-- ==== Proof.Adam.lean ====
/-
  One AdamW step, entry by entry: the new moments and the change of a weight over the ideal numbers, as one function each
  of the weight's, the gradient's and the moments' entries. Every program of an AdamW call is read through these.
-/
module

public import Idealize.ShloMosaic.Lib.Pipeline.Value
public import Idealize.ShloMosaic.Lib.Pipeline.ValueKit
public import Idealize.ShloMosaic.Lib.KernelVsHost
public import Idealize.ShloMosaic.Lib.IdealHost

@[expose] public section

noncomputable section

namespace Cert.Adam

open Idealize.ShloMosaic

/-- The real number a word of 32 bits stands for. -/
abbrev lit (b : BitVec 32) : EReal := Ideal.ofBits .f32 b

/-- The first moment. -/
def moment (g p : EReal) : EReal := lit 0x3F666666#32 * p + lit 0x3DCCCCCD#32 * g

/-- The second moment. -/
def square (g q : EReal) : EReal := lit 0x3F7FBE77#32 * q + lit 0x3A83126F#32 * (g * g)

/-- The change of a weight. -/
def delta (w g p q : EReal) : EReal :=
  lit 0xBA83126F#32 * (Ideal.div (Ideal.div (moment g p) (lit 0x3F26BD02#32)) (Ideal.sqrt (Ideal.div (square g q) (lit 0x3C231ACC#32)) + lit 0x322BCC77#32)
    + lit 0x3C23D70A#32 * w)

section Arrays

variable {s t : Shape} (hs : s.ShapeCasts t) (ht : t.ShapeCasts s) (w p q : Vec Ideal s .f32) (g : Vec Ideal t .f32)

/-- The new arrays, the weights and the moments being laid out as the gradient is. -/
def newDelta : Vec Ideal t .f32 := fun y => delta (shapeCast t w hs y) (g y) (shapeCast t p hs y) (shapeCast t q hs y)

def newMoment : Vec Ideal t .f32 := fun y => moment (g y) (shapeCast t p hs y)

def newSquare : Vec Ideal t .f32 := fun y => square (g y) (shapeCast t q hs y)

/-- The step in the weights' layout, laid out as the gradient is, is the step in the gradient's layout. -/
theorem reference_delta : shapeCast t (fun y => delta (w y) (shapeCast s g ht y) (p y) (q y)) hs = newDelta hs w p q g :=
  funext fun y => congrArg (fun x : EReal => delta (shapeCast t w hs y) x (shapeCast t p hs y) (shapeCast t q hs y)) (congrFun (shapeCast_shapeCast ..) y)

theorem reference_moment : shapeCast t (fun y => moment (shapeCast s g ht y) (p y)) hs = newMoment hs p g :=
  funext fun y => congrArg (fun x : EReal => moment x (shapeCast t p hs y)) (congrFun (shapeCast_shapeCast ..) y)

theorem reference_square : shapeCast t (fun y => square (shapeCast s g ht y) (q y)) hs = newSquare hs q g :=
  funext fun y => congrArg (fun x : EReal => square x (shapeCast t q hs y)) (congrFun (shapeCast_shapeCast ..) y)

end Arrays

theorem moment_zero : moment 0 0 = 0 := by simp [moment]

theorem square_zero : square 0 0 = 0 := by simp [square]

/-- Where the weight, the gradient and the moments are zero the weight does not change. -/
theorem delta_zero : delta 0 0 0 0 = 0 := by
  have h1 : lit 0x3F26BD02#32 ≠ 0 := by simp [lit, Ideal.ofBits, Ideal.ieee, -EReal.coe_mul]
  have h2 : lit 0x3C231ACC#32 ≠ 0 := by simp [lit, Ideal.ofBits, Ideal.ieee, -EReal.coe_mul]
  have h3 : lit 0x322BCC77#32 ≠ 0 := by simp [lit, Ideal.ofBits, Ideal.ieee, -EReal.coe_mul]
  have hs : Ideal.sqrt 0 = 0 := by
    show (if (0 : ℝ) < 0 then ⊥ else ((Real.sqrt 0 : ℝ) : EReal)) = 0
    simp
  rw [delta, moment_zero, square_zero, Ideal.zero_div h1, Ideal.zero_div h2, hs, zero_add, Ideal.zero_div h3]
  simp

theorem origin : (![0, 0] : Fin 2 → ℕ) = fun _ => 0 := by funext d; fin_cases d <;> rfl

end Cert.Adam

end
-- ==== Proof.AdamEvenIn.lean ====
/-
  The AdamW step of the first layer's input projection, a device's 1156 columns of it.
-/
module

public import proofs.«01_k».proof.Defs
public import proofs.«01_k».proof.Proof.Adam
public import proofs.«01_k».proof.Proof.Gen.Kernel13Ideal.Value
public import proofs.«01_k».proof.Proof.Gen.Reference13Ideal
public import proofs.«01_k».proof.Proof.Gen.Reference13Ideal.Run
public import Idealize.ShloMosaic.Lib.StableHlo.RunRead
public import Idealize.ShloMosaic.Lib.Quiescent

@[expose] public section

set_option maxRecDepth 16384

noncomputable section

namespace Cert.Kernel13Ideal.Update

open Cert.Kernel13Ideal Cert.Kernel13Ideal.Gen Cert.Adam Idealize.ShloMosaic Idealize.ShloMosaic.TcCoe Idealize.SL.Sem

/-- What the body leaves in its results, entry by entry. -/
theorem out_at (w g p q : Vec Ideal S128x1156 .f32) (y : S128x1156.Idx) :
    out0_4 w g p q y = g y ∧ out0_5 w g p q y = delta (w y) (g y) (p y) (q y) ∧ out0_6 w g p q y = moment (g y) (p y)
      ∧ out0_7 w g p q y = square (g y) (q y) := by
  simp only [out0_4, out0_5, out0_6, out0_7, View.canon_unit_zero (S := S128x1156) origin, View.ld_unit_zero (S := S128x1156) origin,
    k0_pay1, k0_pay4, k0_pay5, k0_pay2, k0_pay3, shapeCast_self]
  exact ⟨trivial, rfl, rfl, rfl⟩

variable (m : (ℓ : Loc nD τ sig) → Buf (Elt Ideal) ℓ) (c : Dev nD)

/-- A device's weights, gradient and moments. -/
abbrev w : Vec Ideal S1x1024x1156 .f32 := m ((c : Thread nD τ).loc main_arg0)
abbrev g : Vec Ideal S1024x1156 .f32 := m ((c : Thread nD τ).loc main_arg1)
abbrev p : Vec Ideal S1x1024x1156 .f32 := m ((c : Thread nD τ).loc main_arg2)
abbrev q : Vec Ideal S1x1024x1156 .f32 := m ((c : Thread nD τ).loc main_arg3)

/-- The weights and the moments as the call reads them. -/
theorem arguments : V m c main_v0 = shapeCast S1024x1156 (w m c) Facts₀.shapeCasts_S1x1024x1156_S1024x1156
    ∧ V m c main_v1 = shapeCast S1024x1156 (p m c) Facts₀.shapeCasts_S1x1024x1156_S1024x1156 ∧ V m c main_v2 = shapeCast S1024x1156 (q m c) Facts₀.shapeCasts_S1x1024x1156_S1024x1156 := by
  refine ⟨?_, ?_, ?_⟩
  · show StableHlo.after hostOps0 _ (Proc.devRef .tc main_v0) = _
    after_reads_simp
    rfl
  · show StableHlo.after hostOps0 _ (Proc.devRef .tc main_v1) = _
    after_reads_simp
    rfl
  · show StableHlo.after hostOps0 _ (Proc.devRef .tc main_v2) = _
    after_reads_simp
    rfl

theorem final_gradient : (dats m 0 c).arrAt 4 cfg0.N = g m c := by
  refine (dats m 0 c).arrAt_eq_of_covers 4 _ (by decide +kernel) fun t hf y => ?_
  blk_simp
  rw [after0_4, (out_at ..).1, g, ← V_main_arg1 m c]
  rfl

theorem final_delta : (dats m 0 c).arrAt 5 cfg0.N = newDelta Facts₀.shapeCasts_S1x1024x1156_S1024x1156 (w m c) (p m c) (q m c) (g m c) := by
  refine (dats m 0 c).arrAt_eq_of_covers 5 _ (by decide +kernel) fun t hf y => ?_
  blk_simp
  rw [after0_5, (out_at ..).2.1, newDelta, ← (arguments m c).1, ← (arguments m c).2.1, ← (arguments m c).2.2, g, ← V_main_arg1 m c]
  rfl

theorem final_moment : (dats m 0 c).arrAt 6 cfg0.N = newMoment Facts₀.shapeCasts_S1x1024x1156_S1024x1156 (p m c) (g m c) := by
  refine (dats m 0 c).arrAt_eq_of_covers 6 _ (by decide +kernel) fun t hf y => ?_
  blk_simp
  rw [after0_6, (out_at ..).2.2.1, newMoment, ← (arguments m c).2.1, g, ← V_main_arg1 m c]
  rfl

theorem final_square : (dats m 0 c).arrAt 7 cfg0.N = newSquare Facts₀.shapeCasts_S1x1024x1156_S1024x1156 (q m c) (g m c) := by
  refine (dats m 0 c).arrAt_eq_of_covers 7 _ (by decide +kernel) fun t hf y => ?_
  blk_simp
  rw [after0_7, (out_at ..).2.2.2, newSquare, ← (arguments m c).2.2, g, ← V_main_arg1 m c]
  rfl

theorem agree : Cert.algebraic_Kernel13Ideal_Reference13Ideal := fun m ρ m' ρ' _ h => by
  refine ⟨fun c => g m c, fun c => newDelta Facts₀.shapeCasts_S1x1024x1156_S1024x1156 (w m c) (p m c) (q m c) (g m c),
    fun c => newMoment Facts₀.shapeCasts_S1x1024x1156_S1024x1156 (p m c) (g m c), fun c => newSquare Facts₀.shapeCasts_S1x1024x1156_S1024x1156 (q m c) (g m c), ?_, ?_⟩
  · exact (θ_run defs _ _).mono (fun r hr c => ⟨(hr c).1.trans (final_gradient m c), (hr c).2.1.trans (final_delta m c),
      (hr c).2.2.1.trans (final_moment m c), (hr c).2.2.2.1.trans (final_square m c), (hr c).2.2.2.2⟩) (Value.run_blocks m ρ)
  · refine (θ_run Cert.Reference13Ideal.defs _ _).mono (fun r hr c => ⟨(hr c).1.trans (h c).2.1, (hr c).2.1.trans ?_, (hr c).2.2.1.trans ?_,
      (hr c).2.2.2.1.trans ?_, (hr c).2.2.2.2⟩) (Cert.Reference13Ideal.Value.run m' ρ')
    · rw [(h c).1, (h c).2.1, (h c).2.2.1, (h c).2.2.2]
      exact reference_delta _ Cert.Reference13Ideal.Facts₀.shapeCasts_S1024x1156_S1x1024x1156 (w m c) (p m c) (q m c) (g m c)
    · rw [(h c).2.1, (h c).2.2.1]
      exact reference_moment _ Cert.Reference13Ideal.Facts₀.shapeCasts_S1024x1156_S1x1024x1156 (p m c) (g m c)
    · rw [(h c).2.1, (h c).2.2.2]
      exact reference_square _ Cert.Reference13Ideal.Facts₀.shapeCasts_S1024x1156_S1x1024x1156 (q m c) (g m c)

theorem frame_reference : Cert.quiescent_Reference13Ideal := fun m ρ _ =>
  (θ_run Cert.Reference13Ideal.defs _ _).mono (fun r h => ⟨fun c => (h c).2.2.2.2, sem_eq_zero_of_no_sems rfl r.2⟩) (Cert.Reference13Ideal.Value.run m ρ)

end Cert.Kernel13Ideal.Update

end
-- ==== Proof.AdamEvenOut.lean ====
/-
  The AdamW step of the first layer's output projection, a device's 512 rows of it.
-/
module

public import proofs.«01_k».proof.Defs
public import proofs.«01_k».proof.Proof.Adam
public import proofs.«01_k».proof.Proof.Gen.Kernel14Ideal.Value
public import proofs.«01_k».proof.Proof.Gen.Reference14Ideal
public import proofs.«01_k».proof.Proof.Gen.Reference14Ideal.Run
public import Idealize.ShloMosaic.Lib.StableHlo.RunRead
public import Idealize.ShloMosaic.Lib.Quiescent

@[expose] public section

set_option maxRecDepth 16384

noncomputable section

namespace Cert.Kernel14Ideal.Update

open Cert.Kernel14Ideal Cert.Kernel14Ideal.Gen Cert.Adam Idealize.ShloMosaic Idealize.ShloMosaic.TcCoe Idealize.SL.Sem

/-- What the body leaves in its results, entry by entry. -/
theorem out_at (w g p q : Vec Ideal S128x1024 .f32) (y : S128x1024.Idx) :
    out0_4 w g p q y = g y ∧ out0_5 w g p q y = delta (w y) (g y) (p y) (q y) ∧ out0_6 w g p q y = moment (g y) (p y)
      ∧ out0_7 w g p q y = square (g y) (q y) := by
  simp only [out0_4, out0_5, out0_6, out0_7, View.canon_unit_zero (S := S128x1024) origin, View.ld_unit_zero (S := S128x1024) origin,
    k0_pay1, k0_pay4, k0_pay5, k0_pay2, k0_pay3, shapeCast_self]
  exact ⟨trivial, rfl, rfl, rfl⟩

variable (m : (ℓ : Loc nD τ sig) → Buf (Elt Ideal) ℓ) (c : Dev nD)

/-- A device's weights, gradient and moments. -/
abbrev w : Vec Ideal S1x512x1024 .f32 := m ((c : Thread nD τ).loc main_arg0)
abbrev g : Vec Ideal S512x1024 .f32 := m ((c : Thread nD τ).loc main_arg1)
abbrev p : Vec Ideal S1x512x1024 .f32 := m ((c : Thread nD τ).loc main_arg2)
abbrev q : Vec Ideal S1x512x1024 .f32 := m ((c : Thread nD τ).loc main_arg3)

/-- The weights and the moments as the call reads them. -/
theorem arguments : V m c main_v0 = shapeCast S512x1024 (w m c) Facts₀.shapeCasts_S1x512x1024_S512x1024
    ∧ V m c main_v1 = shapeCast S512x1024 (p m c) Facts₀.shapeCasts_S1x512x1024_S512x1024 ∧ V m c main_v2 = shapeCast S512x1024 (q m c) Facts₀.shapeCasts_S1x512x1024_S512x1024 := by
  refine ⟨?_, ?_, ?_⟩
  · show StableHlo.after hostOps0 _ (Proc.devRef .tc main_v0) = _
    after_reads_simp
    rfl
  · show StableHlo.after hostOps0 _ (Proc.devRef .tc main_v1) = _
    after_reads_simp
    rfl
  · show StableHlo.after hostOps0 _ (Proc.devRef .tc main_v2) = _
    after_reads_simp
    rfl

theorem final_gradient : (dats m 0 c).arrAt 4 cfg0.N = g m c := by
  refine (dats m 0 c).arrAt_eq_of_covers 4 _ (by decide +kernel) fun t hf y => ?_
  blk_simp
  rw [after0_4, (out_at ..).1, g, ← V_main_arg1 m c]
  rfl

theorem final_delta : (dats m 0 c).arrAt 5 cfg0.N = newDelta Facts₀.shapeCasts_S1x512x1024_S512x1024 (w m c) (p m c) (q m c) (g m c) := by
  refine (dats m 0 c).arrAt_eq_of_covers 5 _ (by decide +kernel) fun t hf y => ?_
  blk_simp
  rw [after0_5, (out_at ..).2.1, newDelta, ← (arguments m c).1, ← (arguments m c).2.1, ← (arguments m c).2.2, g, ← V_main_arg1 m c]
  rfl

theorem final_moment : (dats m 0 c).arrAt 6 cfg0.N = newMoment Facts₀.shapeCasts_S1x512x1024_S512x1024 (p m c) (g m c) := by
  refine (dats m 0 c).arrAt_eq_of_covers 6 _ (by decide +kernel) fun t hf y => ?_
  blk_simp
  rw [after0_6, (out_at ..).2.2.1, newMoment, ← (arguments m c).2.1, g, ← V_main_arg1 m c]
  rfl

theorem final_square : (dats m 0 c).arrAt 7 cfg0.N = newSquare Facts₀.shapeCasts_S1x512x1024_S512x1024 (q m c) (g m c) := by
  refine (dats m 0 c).arrAt_eq_of_covers 7 _ (by decide +kernel) fun t hf y => ?_
  blk_simp
  rw [after0_7, (out_at ..).2.2.2, newSquare, ← (arguments m c).2.2, g, ← V_main_arg1 m c]
  rfl

theorem agree : Cert.algebraic_Kernel14Ideal_Reference14Ideal := fun m ρ m' ρ' _ h => by
  refine ⟨fun c => g m c, fun c => newDelta Facts₀.shapeCasts_S1x512x1024_S512x1024 (w m c) (p m c) (q m c) (g m c),
    fun c => newMoment Facts₀.shapeCasts_S1x512x1024_S512x1024 (p m c) (g m c), fun c => newSquare Facts₀.shapeCasts_S1x512x1024_S512x1024 (q m c) (g m c), ?_, ?_⟩
  · exact (θ_run defs _ _).mono (fun r hr c => ⟨(hr c).1.trans (final_gradient m c), (hr c).2.1.trans (final_delta m c),
      (hr c).2.2.1.trans (final_moment m c), (hr c).2.2.2.1.trans (final_square m c), (hr c).2.2.2.2⟩) (Value.run_blocks m ρ)
  · refine (θ_run Cert.Reference14Ideal.defs _ _).mono (fun r hr c => ⟨(hr c).1.trans (h c).2.1, (hr c).2.1.trans ?_, (hr c).2.2.1.trans ?_,
      (hr c).2.2.2.1.trans ?_, (hr c).2.2.2.2⟩) (Cert.Reference14Ideal.Value.run m' ρ')
    · rw [(h c).1, (h c).2.1, (h c).2.2.1, (h c).2.2.2]
      exact reference_delta _ Cert.Reference14Ideal.Facts₀.shapeCasts_S512x1024_S1x512x1024 (w m c) (p m c) (q m c) (g m c)
    · rw [(h c).2.1, (h c).2.2.1]
      exact reference_moment _ Cert.Reference14Ideal.Facts₀.shapeCasts_S512x1024_S1x512x1024 (p m c) (g m c)
    · rw [(h c).2.1, (h c).2.2.2]
      exact reference_square _ Cert.Reference14Ideal.Facts₀.shapeCasts_S512x1024_S1x512x1024 (q m c) (g m c)

theorem frame_reference : Cert.quiescent_Reference14Ideal := fun m ρ _ =>
  (θ_run Cert.Reference14Ideal.defs _ _).mono (fun r h => ⟨fun c => (h c).2.2.2.2, sem_eq_zero_of_no_sems rfl r.2⟩) (Cert.Reference14Ideal.Value.run m ρ)

end Cert.Kernel14Ideal.Update

end
-- ==== Proof.AdamOddIn.lean ====
/-
  The AdamW step of the attention layer's input projection, a device's 1024 columns of it.
-/
module

public import proofs.«01_k».proof.Defs
public import proofs.«01_k».proof.Proof.Adam
public import proofs.«01_k».proof.Proof.Gen.Kernel15Ideal.Value
public import proofs.«01_k».proof.Proof.Gen.Reference15Ideal
public import proofs.«01_k».proof.Proof.Gen.Reference15Ideal.Run
public import Idealize.ShloMosaic.Lib.StableHlo.RunRead
public import Idealize.ShloMosaic.Lib.Quiescent

@[expose] public section

set_option maxRecDepth 16384

noncomputable section

namespace Cert.Kernel15Ideal.Update

open Cert.Kernel15Ideal Cert.Kernel15Ideal.Gen Cert.Adam Idealize.ShloMosaic Idealize.ShloMosaic.TcCoe Idealize.SL.Sem

/-- What the body leaves in its results, entry by entry. -/
theorem out_at (w g p q : Vec Ideal S128x1024 .f32) (y : S128x1024.Idx) :
    out0_4 w g p q y = g y ∧ out0_5 w g p q y = delta (w y) (g y) (p y) (q y) ∧ out0_6 w g p q y = moment (g y) (p y)
      ∧ out0_7 w g p q y = square (g y) (q y) := by
  simp only [out0_4, out0_5, out0_6, out0_7, View.canon_unit_zero (S := S128x1024) origin, View.ld_unit_zero (S := S128x1024) origin,
    k0_pay1, k0_pay4, k0_pay5, k0_pay2, k0_pay3, shapeCast_self]
  exact ⟨trivial, rfl, rfl, rfl⟩

variable (m : (ℓ : Loc nD τ sig) → Buf (Elt Ideal) ℓ) (c : Dev nD)

/-- A device's weights, gradient and moments. -/
abbrev w : Vec Ideal S1x1024x1024 .f32 := m ((c : Thread nD τ).loc main_arg0)
abbrev g : Vec Ideal S1024x1024 .f32 := m ((c : Thread nD τ).loc main_arg1)
abbrev p : Vec Ideal S1x1024x1024 .f32 := m ((c : Thread nD τ).loc main_arg2)
abbrev q : Vec Ideal S1x1024x1024 .f32 := m ((c : Thread nD τ).loc main_arg3)

/-- The weights and the moments as the call reads them. -/
theorem arguments : V m c main_v0 = shapeCast S1024x1024 (w m c) Facts₀.shapeCasts_S1x1024x1024_S1024x1024
    ∧ V m c main_v1 = shapeCast S1024x1024 (p m c) Facts₀.shapeCasts_S1x1024x1024_S1024x1024 ∧ V m c main_v2 = shapeCast S1024x1024 (q m c) Facts₀.shapeCasts_S1x1024x1024_S1024x1024 := by
  refine ⟨?_, ?_, ?_⟩
  · show StableHlo.after hostOps0 _ (Proc.devRef .tc main_v0) = _
    after_reads_simp
    rfl
  · show StableHlo.after hostOps0 _ (Proc.devRef .tc main_v1) = _
    after_reads_simp
    rfl
  · show StableHlo.after hostOps0 _ (Proc.devRef .tc main_v2) = _
    after_reads_simp
    rfl

theorem final_gradient : (dats m 0 c).arrAt 4 cfg0.N = g m c := by
  refine (dats m 0 c).arrAt_eq_of_covers 4 _ (by decide +kernel) fun t hf y => ?_
  blk_simp
  rw [after0_4, (out_at ..).1, g, ← V_main_arg1 m c]
  rfl

theorem final_delta : (dats m 0 c).arrAt 5 cfg0.N = newDelta Facts₀.shapeCasts_S1x1024x1024_S1024x1024 (w m c) (p m c) (q m c) (g m c) := by
  refine (dats m 0 c).arrAt_eq_of_covers 5 _ (by decide +kernel) fun t hf y => ?_
  blk_simp
  rw [after0_5, (out_at ..).2.1, newDelta, ← (arguments m c).1, ← (arguments m c).2.1, ← (arguments m c).2.2, g, ← V_main_arg1 m c]
  rfl

theorem final_moment : (dats m 0 c).arrAt 6 cfg0.N = newMoment Facts₀.shapeCasts_S1x1024x1024_S1024x1024 (p m c) (g m c) := by
  refine (dats m 0 c).arrAt_eq_of_covers 6 _ (by decide +kernel) fun t hf y => ?_
  blk_simp
  rw [after0_6, (out_at ..).2.2.1, newMoment, ← (arguments m c).2.1, g, ← V_main_arg1 m c]
  rfl

theorem final_square : (dats m 0 c).arrAt 7 cfg0.N = newSquare Facts₀.shapeCasts_S1x1024x1024_S1024x1024 (q m c) (g m c) := by
  refine (dats m 0 c).arrAt_eq_of_covers 7 _ (by decide +kernel) fun t hf y => ?_
  blk_simp
  rw [after0_7, (out_at ..).2.2.2, newSquare, ← (arguments m c).2.2, g, ← V_main_arg1 m c]
  rfl

theorem agree : Cert.algebraic_Kernel15Ideal_Reference15Ideal := fun m ρ m' ρ' _ h => by
  refine ⟨fun c => g m c, fun c => newDelta Facts₀.shapeCasts_S1x1024x1024_S1024x1024 (w m c) (p m c) (q m c) (g m c),
    fun c => newMoment Facts₀.shapeCasts_S1x1024x1024_S1024x1024 (p m c) (g m c), fun c => newSquare Facts₀.shapeCasts_S1x1024x1024_S1024x1024 (q m c) (g m c), ?_, ?_⟩
  · exact (θ_run defs _ _).mono (fun r hr c => ⟨(hr c).1.trans (final_gradient m c), (hr c).2.1.trans (final_delta m c),
      (hr c).2.2.1.trans (final_moment m c), (hr c).2.2.2.1.trans (final_square m c), (hr c).2.2.2.2⟩) (Value.run_blocks m ρ)
  · refine (θ_run Cert.Reference15Ideal.defs _ _).mono (fun r hr c => ⟨(hr c).1.trans (h c).2.1, (hr c).2.1.trans ?_, (hr c).2.2.1.trans ?_,
      (hr c).2.2.2.1.trans ?_, (hr c).2.2.2.2⟩) (Cert.Reference15Ideal.Value.run m' ρ')
    · rw [(h c).1, (h c).2.1, (h c).2.2.1, (h c).2.2.2]
      exact reference_delta _ Cert.Reference15Ideal.Facts₀.shapeCasts_S1024x1024_S1x1024x1024 (w m c) (p m c) (q m c) (g m c)
    · rw [(h c).2.1, (h c).2.2.1]
      exact reference_moment _ Cert.Reference15Ideal.Facts₀.shapeCasts_S1024x1024_S1x1024x1024 (p m c) (g m c)
    · rw [(h c).2.1, (h c).2.2.2]
      exact reference_square _ Cert.Reference15Ideal.Facts₀.shapeCasts_S1024x1024_S1x1024x1024 (q m c) (g m c)

theorem frame_reference : Cert.quiescent_Reference15Ideal := fun m ρ _ =>
  (θ_run Cert.Reference15Ideal.defs _ _).mono (fun r h => ⟨fun c => (h c).2.2.2.2, sem_eq_zero_of_no_sems rfl r.2⟩) (Cert.Reference15Ideal.Value.run m ρ)

end Cert.Kernel15Ideal.Update

end
-- ==== Proof.AdamOddOut.lean ====
/-
  The AdamW step of the attention layer's output projection, a device's 256 rows of it.
-/
module

public import proofs.«01_k».proof.Defs
public import proofs.«01_k».proof.Proof.Adam
public import proofs.«01_k».proof.Proof.Gen.Kernel16Ideal.Value
public import proofs.«01_k».proof.Proof.Gen.Reference16Ideal
public import proofs.«01_k».proof.Proof.Gen.Reference16Ideal.Run
public import Idealize.ShloMosaic.Lib.StableHlo.RunRead
public import Idealize.ShloMosaic.Lib.Quiescent

@[expose] public section

set_option maxRecDepth 16384

noncomputable section

namespace Cert.Kernel16Ideal.Update

open Cert.Kernel16Ideal Cert.Kernel16Ideal.Gen Cert.Adam Idealize.ShloMosaic Idealize.ShloMosaic.TcCoe Idealize.SL.Sem

/-- What the body leaves in its results, entry by entry. -/
theorem out_at (w g p q : Vec Ideal S128x1024 .f32) (y : S128x1024.Idx) :
    out0_4 w g p q y = g y ∧ out0_5 w g p q y = delta (w y) (g y) (p y) (q y) ∧ out0_6 w g p q y = moment (g y) (p y)
      ∧ out0_7 w g p q y = square (g y) (q y) := by
  simp only [out0_4, out0_5, out0_6, out0_7, View.canon_unit_zero (S := S128x1024) origin, View.ld_unit_zero (S := S128x1024) origin,
    k0_pay1, k0_pay4, k0_pay5, k0_pay2, k0_pay3, shapeCast_self]
  exact ⟨trivial, rfl, rfl, rfl⟩

variable (m : (ℓ : Loc nD τ sig) → Buf (Elt Ideal) ℓ) (c : Dev nD)

/-- A device's weights, gradient and moments. -/
abbrev w : Vec Ideal S1x256x1024 .f32 := m ((c : Thread nD τ).loc main_arg0)
abbrev g : Vec Ideal S256x1024 .f32 := m ((c : Thread nD τ).loc main_arg1)
abbrev p : Vec Ideal S1x256x1024 .f32 := m ((c : Thread nD τ).loc main_arg2)
abbrev q : Vec Ideal S1x256x1024 .f32 := m ((c : Thread nD τ).loc main_arg3)

/-- The weights and the moments as the call reads them. -/
theorem arguments : V m c main_v0 = shapeCast S256x1024 (w m c) Facts₀.shapeCasts_S1x256x1024_S256x1024
    ∧ V m c main_v1 = shapeCast S256x1024 (p m c) Facts₀.shapeCasts_S1x256x1024_S256x1024 ∧ V m c main_v2 = shapeCast S256x1024 (q m c) Facts₀.shapeCasts_S1x256x1024_S256x1024 := by
  refine ⟨?_, ?_, ?_⟩
  · show StableHlo.after hostOps0 _ (Proc.devRef .tc main_v0) = _
    after_reads_simp
    rfl
  · show StableHlo.after hostOps0 _ (Proc.devRef .tc main_v1) = _
    after_reads_simp
    rfl
  · show StableHlo.after hostOps0 _ (Proc.devRef .tc main_v2) = _
    after_reads_simp
    rfl

theorem final_gradient : (dats m 0 c).arrAt 4 cfg0.N = g m c := by
  refine (dats m 0 c).arrAt_eq_of_covers 4 _ (by decide +kernel) fun t hf y => ?_
  blk_simp
  rw [after0_4, (out_at ..).1, g, ← V_main_arg1 m c]
  rfl

theorem final_delta : (dats m 0 c).arrAt 5 cfg0.N = newDelta Facts₀.shapeCasts_S1x256x1024_S256x1024 (w m c) (p m c) (q m c) (g m c) := by
  refine (dats m 0 c).arrAt_eq_of_covers 5 _ (by decide +kernel) fun t hf y => ?_
  blk_simp
  rw [after0_5, (out_at ..).2.1, newDelta, ← (arguments m c).1, ← (arguments m c).2.1, ← (arguments m c).2.2, g, ← V_main_arg1 m c]
  rfl

theorem final_moment : (dats m 0 c).arrAt 6 cfg0.N = newMoment Facts₀.shapeCasts_S1x256x1024_S256x1024 (p m c) (g m c) := by
  refine (dats m 0 c).arrAt_eq_of_covers 6 _ (by decide +kernel) fun t hf y => ?_
  blk_simp
  rw [after0_6, (out_at ..).2.2.1, newMoment, ← (arguments m c).2.1, g, ← V_main_arg1 m c]
  rfl

theorem final_square : (dats m 0 c).arrAt 7 cfg0.N = newSquare Facts₀.shapeCasts_S1x256x1024_S256x1024 (q m c) (g m c) := by
  refine (dats m 0 c).arrAt_eq_of_covers 7 _ (by decide +kernel) fun t hf y => ?_
  blk_simp
  rw [after0_7, (out_at ..).2.2.2, newSquare, ← (arguments m c).2.2, g, ← V_main_arg1 m c]
  rfl

theorem agree : Cert.algebraic_Kernel16Ideal_Reference16Ideal := fun m ρ m' ρ' _ h => by
  refine ⟨fun c => g m c, fun c => newDelta Facts₀.shapeCasts_S1x256x1024_S256x1024 (w m c) (p m c) (q m c) (g m c),
    fun c => newMoment Facts₀.shapeCasts_S1x256x1024_S256x1024 (p m c) (g m c), fun c => newSquare Facts₀.shapeCasts_S1x256x1024_S256x1024 (q m c) (g m c), ?_, ?_⟩
  · exact (θ_run defs _ _).mono (fun r hr c => ⟨(hr c).1.trans (final_gradient m c), (hr c).2.1.trans (final_delta m c),
      (hr c).2.2.1.trans (final_moment m c), (hr c).2.2.2.1.trans (final_square m c), (hr c).2.2.2.2⟩) (Value.run_blocks m ρ)
  · refine (θ_run Cert.Reference16Ideal.defs _ _).mono (fun r hr c => ⟨(hr c).1.trans (h c).2.1, (hr c).2.1.trans ?_, (hr c).2.2.1.trans ?_,
      (hr c).2.2.2.1.trans ?_, (hr c).2.2.2.2⟩) (Cert.Reference16Ideal.Value.run m' ρ')
    · rw [(h c).1, (h c).2.1, (h c).2.2.1, (h c).2.2.2]
      exact reference_delta _ Cert.Reference16Ideal.Facts₀.shapeCasts_S256x1024_S1x256x1024 (w m c) (p m c) (q m c) (g m c)
    · rw [(h c).2.1, (h c).2.2.1]
      exact reference_moment _ Cert.Reference16Ideal.Facts₀.shapeCasts_S256x1024_S1x256x1024 (p m c) (g m c)
    · rw [(h c).2.1, (h c).2.2.2]
      exact reference_square _ Cert.Reference16Ideal.Facts₀.shapeCasts_S256x1024_S1x256x1024 (q m c) (g m c)

theorem frame_reference : Cert.quiescent_Reference16Ideal := fun m ρ _ =>
  (θ_run Cert.Reference16Ideal.defs _ _).mono (fun r h => ⟨fun c => (h c).2.2.2.2, sem_eq_zero_of_no_sems rfl r.2⟩) (Cert.Reference16Ideal.Value.run m ρ)

end Cert.Kernel16Ideal.Update

end
-- ==== Proof.AdamGates.lean ====
/-
  The AdamW step of an RG-LRU gate's four blocks, a device's 64 rows of each.
-/
module

public import proofs.«01_k».proof.Defs
public import proofs.«01_k».proof.Proof.Adam
public import proofs.«01_k».proof.Proof.Gen.Kernel17Ideal.Value
public import proofs.«01_k».proof.Proof.Gen.Reference17Ideal
public import proofs.«01_k».proof.Proof.Gen.Reference17Ideal.Run
public import Idealize.ShloMosaic.Lib.StableHlo.RunRead
public import Idealize.ShloMosaic.Lib.Quiescent

@[expose] public section

set_option maxRecDepth 16384

noncomputable section

namespace Cert.Kernel17Ideal.Update

open Cert.Kernel17Ideal Cert.Kernel17Ideal.Gen Cert.Adam Idealize.ShloMosaic Idealize.ShloMosaic.TcCoe Idealize.SL.Sem

/-- What the body leaves in its results, entry by entry. -/
theorem out_at (w g p q : Vec Ideal S128x256 .f32) (y : S128x256.Idx) :
    out0_4 w g p q y = g y ∧ out0_5 w g p q y = delta (w y) (g y) (p y) (q y) ∧ out0_6 w g p q y = moment (g y) (p y)
      ∧ out0_7 w g p q y = square (g y) (q y) := by
  simp only [out0_4, out0_5, out0_6, out0_7, View.canon_unit_zero (S := S128x256) origin, View.ld_unit_zero (S := S128x256) origin,
    k0_pay1, k0_pay4, k0_pay5, k0_pay2, k0_pay3, shapeCast_self]
  exact ⟨trivial, rfl, rfl, rfl⟩

variable (m : (ℓ : Loc nD τ sig) → Buf (Elt Ideal) ℓ) (c : Dev nD)

/-- A device's weights, gradient and moments. -/
abbrev w : Vec Ideal S1x4x64x256 .f32 := m ((c : Thread nD τ).loc main_arg0)
abbrev g : Vec Ideal S256x256 .f32 := m ((c : Thread nD τ).loc main_arg1)
abbrev p : Vec Ideal S1x4x64x256 .f32 := m ((c : Thread nD τ).loc main_arg2)
abbrev q : Vec Ideal S1x4x64x256 .f32 := m ((c : Thread nD τ).loc main_arg3)

/-- The weights and the moments as the call reads them. -/
theorem arguments : V m c main_v0 = shapeCast S256x256 (w m c) Facts₀.shapeCasts_S1x4x64x256_S256x256
    ∧ V m c main_v1 = shapeCast S256x256 (p m c) Facts₀.shapeCasts_S1x4x64x256_S256x256 ∧ V m c main_v2 = shapeCast S256x256 (q m c) Facts₀.shapeCasts_S1x4x64x256_S256x256 := by
  refine ⟨?_, ?_, ?_⟩
  · show StableHlo.after hostOps0 _ (Proc.devRef .tc main_v0) = _
    after_reads_simp
    rfl
  · show StableHlo.after hostOps0 _ (Proc.devRef .tc main_v1) = _
    after_reads_simp
    rfl
  · show StableHlo.after hostOps0 _ (Proc.devRef .tc main_v2) = _
    after_reads_simp
    rfl

theorem final_gradient : (dats m 0 c).arrAt 4 cfg0.N = g m c := by
  refine (dats m 0 c).arrAt_eq_of_covers 4 _ (by decide +kernel) fun t hf y => ?_
  blk_simp
  rw [after0_4, (out_at ..).1, g, ← V_main_arg1 m c]
  rfl

theorem final_delta : (dats m 0 c).arrAt 5 cfg0.N = newDelta Facts₀.shapeCasts_S1x4x64x256_S256x256 (w m c) (p m c) (q m c) (g m c) := by
  refine (dats m 0 c).arrAt_eq_of_covers 5 _ (by decide +kernel) fun t hf y => ?_
  blk_simp
  rw [after0_5, (out_at ..).2.1, newDelta, ← (arguments m c).1, ← (arguments m c).2.1, ← (arguments m c).2.2, g, ← V_main_arg1 m c]
  rfl

theorem final_moment : (dats m 0 c).arrAt 6 cfg0.N = newMoment Facts₀.shapeCasts_S1x4x64x256_S256x256 (p m c) (g m c) := by
  refine (dats m 0 c).arrAt_eq_of_covers 6 _ (by decide +kernel) fun t hf y => ?_
  blk_simp
  rw [after0_6, (out_at ..).2.2.1, newMoment, ← (arguments m c).2.1, g, ← V_main_arg1 m c]
  rfl

theorem final_square : (dats m 0 c).arrAt 7 cfg0.N = newSquare Facts₀.shapeCasts_S1x4x64x256_S256x256 (q m c) (g m c) := by
  refine (dats m 0 c).arrAt_eq_of_covers 7 _ (by decide +kernel) fun t hf y => ?_
  blk_simp
  rw [after0_7, (out_at ..).2.2.2, newSquare, ← (arguments m c).2.2, g, ← V_main_arg1 m c]
  rfl

theorem agree : Cert.algebraic_Kernel17Ideal_Reference17Ideal := fun m ρ m' ρ' _ h => by
  refine ⟨fun c => g m c, fun c => newDelta Facts₀.shapeCasts_S1x4x64x256_S256x256 (w m c) (p m c) (q m c) (g m c),
    fun c => newMoment Facts₀.shapeCasts_S1x4x64x256_S256x256 (p m c) (g m c), fun c => newSquare Facts₀.shapeCasts_S1x4x64x256_S256x256 (q m c) (g m c), ?_, ?_⟩
  · exact (θ_run defs _ _).mono (fun r hr c => ⟨(hr c).1.trans (final_gradient m c), (hr c).2.1.trans (final_delta m c),
      (hr c).2.2.1.trans (final_moment m c), (hr c).2.2.2.1.trans (final_square m c), (hr c).2.2.2.2⟩) (Value.run_blocks m ρ)
  · refine (θ_run Cert.Reference17Ideal.defs _ _).mono (fun r hr c => ⟨(hr c).1.trans (h c).2.1, (hr c).2.1.trans ?_, (hr c).2.2.1.trans ?_,
      (hr c).2.2.2.1.trans ?_, (hr c).2.2.2.2⟩) (Cert.Reference17Ideal.Value.run m' ρ')
    · rw [(h c).1, (h c).2.1, (h c).2.2.1, (h c).2.2.2]
      exact reference_delta _ Cert.Reference17Ideal.Facts₀.shapeCasts_S256x256_S1x4x64x256 (w m c) (p m c) (q m c) (g m c)
    · rw [(h c).2.1, (h c).2.2.1]
      exact reference_moment _ Cert.Reference17Ideal.Facts₀.shapeCasts_S256x256_S1x4x64x256 (p m c) (g m c)
    · rw [(h c).2.1, (h c).2.2.2]
      exact reference_square _ Cert.Reference17Ideal.Facts₀.shapeCasts_S256x256_S1x4x64x256 (q m c) (g m c)

theorem frame_reference : Cert.quiescent_Reference17Ideal := fun m ρ _ =>
  (θ_run Cert.Reference17Ideal.defs _ _).mono (fun r h => ⟨fun c => (h c).2.2.2.2, sem_eq_zero_of_no_sems rfl r.2⟩) (Cert.Reference17Ideal.Value.run m ρ)

end Cert.Kernel17Ideal.Update

end
-- ==== Proof.Packed.lean ====
/-
  Fifteen small arrays packed into one: flattened, padded with zeros to multiples of 1024 and set end to end. What is done to
  every entry of the packed array is done to every entry of the arrays.
-/
module

public import proofs.«01_k».proof.Defs
public import proofs.«01_k».proof.Proof.Adam
public import proofs.«01_k».proof.Proof.Gen.Kernel18Ideal
public import Idealize.ShloMosaic.Lib.KernelVsHost

@[expose] public section

noncomputable section

namespace Cert.Packed

open Cert.Kernel18Ideal Cert.Kernel18Ideal.Gen Idealize.ShloMosaic

/-- The step's small arrays: one value of the type for each entry. -/
structure Pieces (α : Type) where
  a0 : S16x256.Idx → α
  a1 : S1x1024.Idx → α
  a2 : S1x4x256.Idx → α
  a3 : S1x1024.Idx → α
  a4 : S1x1024.Idx → α
  a5 : S1x1024.Idx → α
  a6 : S1x1024.Idx → α
  a7 : S1x4x384.Idx → α
  a8 : S1x1536.Idx → α
  a9 : S1x16.Idx → α
  a10 : S1x16.Idx → α
  a11 : S1x16.Idx → α
  a12 : S1x1024.Idx → α
  a13 : S1x256.Idx → α
  a14 : S1024.Idx → α

variable {α β : Type}

/-- A function of every entry. -/
def Pieces.map (f : α → β) (s : Pieces α) : Pieces β where
  a0 y := f (s.a0 y)
  a1 y := f (s.a1 y)
  a2 y := f (s.a2 y)
  a3 y := f (s.a3 y)
  a4 y := f (s.a4 y)
  a5 y := f (s.a5 y)
  a6 y := f (s.a6 y)
  a7 y := f (s.a7 y)
  a8 y := f (s.a8 y)
  a9 y := f (s.a9 y)
  a10 y := f (s.a10 y)
  a11 y := f (s.a11 y)
  a12 y := f (s.a12 y)
  a13 y := f (s.a13 y)
  a14 y := f (s.a14 y)

/-- The arrays flattened and padded. -/
def Pieces.parts (z : S_.Idx → α) (s : Pieces α) : List ((n : ℕ) × ((⟨1, ![n]⟩ : Shape).Idx → α)) :=
  [⟨4096, pad S4096 ![0] ![0] ![0] (shapeCast S4096 s.a0 shapeCasts_S16x256_S4096) z pads_S4096_S4096_000 h_S_⟩,
   ⟨1024, pad S1024 ![0] ![0] ![0] (shapeCast S1024 s.a1 shapeCasts_S1x1024_S1024) z pads_S1024_S1024_000 h_S_⟩,
   ⟨1024, pad S1024 ![0] ![0] ![0] (shapeCast S1024 s.a2 shapeCasts_S1x4x256_S1024) z pads_S1024_S1024_000 h_S_⟩,
   ⟨1024, pad S1024 ![0] ![0] ![0] (shapeCast S1024 s.a3 shapeCasts_S1x1024_S1024) z pads_S1024_S1024_000 h_S_⟩,
   ⟨1024, pad S1024 ![0] ![0] ![0] (shapeCast S1024 s.a4 shapeCasts_S1x1024_S1024) z pads_S1024_S1024_000 h_S_⟩,
   ⟨1024, pad S1024 ![0] ![0] ![0] (shapeCast S1024 s.a5 shapeCasts_S1x1024_S1024) z pads_S1024_S1024_000 h_S_⟩,
   ⟨1024, pad S1024 ![0] ![0] ![0] (shapeCast S1024 s.a6 shapeCasts_S1x1024_S1024) z pads_S1024_S1024_000 h_S_⟩,
   ⟨2048, pad S2048 ![0] ![512] ![0] (shapeCast S1536 s.a7 shapeCasts_S1x4x384_S1536) z pads_S1536_S2048_05120 h_S_⟩,
   ⟨2048, pad S2048 ![0] ![512] ![0] (shapeCast S1536 s.a8 shapeCasts_S1x1536_S1536) z pads_S1536_S2048_05120 h_S_⟩,
   ⟨1024, pad S1024 ![0] ![1008] ![0] (shapeCast S16 s.a9 shapeCasts_S1x16_S16) z pads_S16_S1024_010080 h_S_⟩,
   ⟨1024, pad S1024 ![0] ![1008] ![0] (shapeCast S16 s.a10 shapeCasts_S1x16_S16) z pads_S16_S1024_010080 h_S_⟩,
   ⟨1024, pad S1024 ![0] ![1008] ![0] (shapeCast S16 s.a11 shapeCasts_S1x16_S16) z pads_S16_S1024_010080 h_S_⟩,
   ⟨1024, pad S1024 ![0] ![0] ![0] (shapeCast S1024 s.a12 shapeCasts_S1x1024_S1024) z pads_S1024_S1024_000 h_S_⟩,
   ⟨1024, pad S1024 ![0] ![768] ![0] (shapeCast S256 s.a13 shapeCasts_S1x256_S256) z pads_S256_S1024_07680 h_S_⟩,
   ⟨1024, pad S1024 ![0] ![0] ![0] s.a14 z pads_S1024_S1024_000 h_S_⟩]

theorem pad_map {s t u : Shape} (f : α → β) (lo hi i : Fin s.rank → ℕ) (x : s.Idx → α) (z : u.Idx → α) (h : s.Pads lo hi i t) (hu : 0 < u.numel) (y : t.Idx) :
    pad t lo hi i (fun y => f (x y)) (fun y => f (z y)) h hu y = f (pad t lo hi i x z h hu y) := by
  unfold pad
  split <;> rfl

/-- Every number below a sum of lengths lies in one of them. -/
theorem exists_part : ∀ (ns : List ℕ) (c : ℕ), c < ns.sum → ∃ (k : ℕ) (hk : k < ns.length), (ns.take k).sum ≤ c ∧ c < (ns.take k).sum + ns[k]
  | [], _, h => absurd h (Nat.not_lt_zero _)
  | n :: ns, c, h => by
    by_cases hc : c < n
    · exact ⟨0, Nat.zero_lt_succ _, Nat.zero_le _, by simpa using hc⟩
    · obtain ⟨k, hk, h1, h2⟩ := exists_part ns (c - n) (by rw [List.sum_cons] at h; omega)
      refine ⟨k + 1, Nat.succ_lt_succ hk, ?_, ?_⟩
      · rw [List.take_succ_cons, List.sum_cons]; omega
      · rw [List.take_succ_cons, List.sum_cons, List.getElem_cons_succ]; omega

/-- Arrays of one axis, with their lengths, as a list of arrays. -/
abbrev lines (ps : List ((n : ℕ) × ((⟨1, ![n]⟩ : Shape).Idx → α))) : List ((s : Shape) × (s.Idx → α)) := ps.map fun p => ⟨⟨1, ![p.1]⟩, p.2⟩

theorem lengths (ps : List ((n : ℕ) × ((⟨1, ![n]⟩ : Shape).Idx → α))) (N : ℕ) :
    ((lines ps).map (·.1)).map (fun s => if h : s.rank = (⟨1, ![N]⟩ : Shape).rank then s.size ((0 : Fin 1).cast h.symm) else 0) = ps.map (·.1) := by
  rw [List.map_map, List.map_map]
  exact List.map_congr_left fun p _ => rfl

/-- A function of every entry of arrays set end to end. -/
theorem concatenate_map (f : α → β) (ps : List ((n : ℕ) × ((⟨1, ![n]⟩ : Shape).Idx → α))) (N : ℕ)
    (h : Shape.Concatenates ((lines ps).map (·.1)) ⟨1, ![N]⟩ 0)
    (h' : Shape.Concatenates ((lines (ps.map fun p => (⟨p.1, fun y => f (p.2 y)⟩ : (n : ℕ) × ((⟨1, ![n]⟩ : Shape).Idx → β)))).map (·.1)) ⟨1, ![N]⟩ 0)
    (j : (⟨1, ![N]⟩ : Shape).Idx) :
    concatenate ⟨1, ![N]⟩ 0 (lines (ps.map fun p => (⟨p.1, fun y => f (p.2 y)⟩ : (n : ℕ) × ((⟨1, ![n]⟩ : Shape).Idx → β)))) h' j
      = f (concatenate ⟨1, ![N]⟩ 0 (lines ps) h j) := by
  have hs : (ps.map (·.1)).sum = N := by rw [← lengths ps N]; exact h.2.2
  obtain ⟨k, hk, h1, h2⟩ := exists_part (ps.map (·.1)) (j 0).val (by rw [hs]; exact (j 0).isLt)
  have hk' : k < ps.length := by simpa using hk
  rw [List.getElem_map] at h2
  have ha : (ps.map (·.1)).take k = (ps.take k).map (·.1) := by rw [List.map_take]
  rw [ha] at h1 h2
  let z : (⟨1, ![ps[k].1]⟩ : Shape).Idx := ValueIdx.ix1 ⟨(j 0).val - ((ps.take k).map (·.1)).sum, by omega⟩
  have hz : ((ps.take k).map (·.1)).sum + (z 0).val = (j 0).val := by
    show _ + ((j 0).val - _) = _
    omega
  refine (concatenate_apply_piece (t := ⟨1, ![N]⟩) 0 _ h' j k (by simpa using hk') ⟨1, ![ps[k].1]⟩ (fun y => f (ps[k].2 y)) (by simp) rfl _ ?_ z
    (fun b hb => absurd (Subsingleton.elim _ _) hb) hz).trans (congrArg f
    (concatenate_apply_piece (t := ⟨1, ![N]⟩) 0 _ h j k (by simpa using hk') ⟨1, ![ps[k].1]⟩ ps[k].2 (by simp) rfl _ ?_ z
    (fun b hb => absurd (Subsingleton.elim _ _) hb) hz)).symm
  · rw [← List.map_take, ← List.map_take, lengths, List.map_map]; rfl
  · rw [← List.map_take, lengths]

theorem piece_map (f : α → β) {n : ℕ} {a : (⟨1, ![n]⟩ : Shape).Idx → β} {b : (⟨1, ![n]⟩ : Shape).Idx → α} (h : ∀ y, a y = f (b y)) :
    (⟨n, a⟩ : (n : ℕ) × ((⟨1, ![n]⟩ : Shape).Idx → β)) = ⟨n, fun y => f (b y)⟩ := by
  rw [funext h]

theorem parts_map (f : α → β) (z : S_.Idx → α) (s : Pieces α) :
    (s.map f).parts (fun y => f (z y)) = (s.parts z).map fun p => ⟨p.1, fun y => f (p.2 y)⟩ := by
  simp only [Pieces.parts, Pieces.map, List.map]
  repeat' refine congrArg₂ List.cons (piece_map f fun y => pad_map f _ _ _ _ z _ _ y) ?_
  rfl

/-- The packed array. -/
def Pieces.pack (z : S_.Idx → α) (s : Pieces α) : S160x128.Idx → α :=
  shapeCast S160x128 (concatenate S20480 0 (lines (s.parts z)) concatenates_S4096_S1024_S1024_S1024_S1024_S1024_S1024_S2048_S2048_S1024_S1024_S1024_S1024_S1024_S1024_S20480_d0) shapeCasts_S20480_S160x128

theorem concatenate_congr {t : Shape} {a : Fin t.rank} {xs ys : List ((s : Shape) × (s.Idx → α))} (e : xs = ys)
    (h : Shape.Concatenates (xs.map (·.1)) t a) (h' : Shape.Concatenates (ys.map (·.1)) t a) : concatenate t a xs h = concatenate t a ys h' := by
  subst e; rfl

/-- A function of every entry of the packed array is that function of every entry of the arrays. -/
theorem pack_map (f : α → β) (z : S_.Idx → α) (s : Pieces α) : (s.map f).pack (fun y => f (z y)) = fun y => f (s.pack z y) :=
  funext fun _ => (congrFun (concatenate_congr (congrArg lines (parts_map f z s)) concatenates_S4096_S1024_S1024_S1024_S1024_S1024_S1024_S2048_S2048_S1024_S1024_S1024_S1024_S1024_S1024_S20480_d0 concatenates_S4096_S1024_S1024_S1024_S1024_S1024_S1024_S2048_S2048_S1024_S1024_S1024_S1024_S1024_S1024_S20480_d0) _).trans (concatenate_map f (s.parts z) _ concatenates_S4096_S1024_S1024_S1024_S1024_S1024_S1024_S2048_S2048_S1024_S1024_S1024_S1024_S1024_S1024_S20480_d0 concatenates_S4096_S1024_S1024_S1024_S1024_S1024_S1024_S2048_S2048_S1024_S1024_S1024_S1024_S1024_S1024_S20480_d0 _)

/-- A function of the entries of four lots of arrays. -/
def Pieces.map₄ (f : α → α → α → α → β) (w g p q : Pieces α) : Pieces β where
  a0 y := f (w.a0 y) (g.a0 y) (p.a0 y) (q.a0 y)
  a1 y := f (w.a1 y) (g.a1 y) (p.a1 y) (q.a1 y)
  a2 y := f (w.a2 y) (g.a2 y) (p.a2 y) (q.a2 y)
  a3 y := f (w.a3 y) (g.a3 y) (p.a3 y) (q.a3 y)
  a4 y := f (w.a4 y) (g.a4 y) (p.a4 y) (q.a4 y)
  a5 y := f (w.a5 y) (g.a5 y) (p.a5 y) (q.a5 y)
  a6 y := f (w.a6 y) (g.a6 y) (p.a6 y) (q.a6 y)
  a7 y := f (w.a7 y) (g.a7 y) (p.a7 y) (q.a7 y)
  a8 y := f (w.a8 y) (g.a8 y) (p.a8 y) (q.a8 y)
  a9 y := f (w.a9 y) (g.a9 y) (p.a9 y) (q.a9 y)
  a10 y := f (w.a10 y) (g.a10 y) (p.a10 y) (q.a10 y)
  a11 y := f (w.a11 y) (g.a11 y) (p.a11 y) (q.a11 y)
  a12 y := f (w.a12 y) (g.a12 y) (p.a12 y) (q.a12 y)
  a13 y := f (w.a13 y) (g.a13 y) (p.a13 y) (q.a13 y)
  a14 y := f (w.a14 y) (g.a14 y) (p.a14 y) (q.a14 y)

/-- A function of the entries of four packed arrays, one that takes the padding to the padding, is that function of the
    entries of the arrays. -/
theorem pack_map₄ (f : α → α → α → α → α) (z : S_.Idx → α) (hz : (fun y => f (z y) (z y) (z y) (z y)) = z) (w g p q : Pieces α) :
    (Pieces.map₄ f w g p q).pack z = fun y => f (w.pack z y) (g.pack z y) (p.pack z y) (q.pack z y) := by
  have e (h : α → α → α → α → α) := pack_map (fun t : α × α × α × α => h t.1 t.2.1 t.2.2.1 t.2.2.2) (fun y => (z y, z y, z y, z y))
    (Pieces.map₄ (fun a b c d => (a, b, c, d)) w g p q)
  have hw : w.pack z = _ := e fun a _ _ _ => a
  have hg : g.pack z = _ := e fun _ b _ _ => b
  have hp : p.pack z = _ := e fun _ _ c _ => c
  have hq : q.pack z = _ := e fun _ _ _ d => d
  have hf := e f
  rw [hz] at hf
  rw [hw, hg, hp, hq]
  exact hf

end Cert.Packed
-- ==== Proof.AdamSmall.lean ====
/-
  The AdamW step of the fifteen small weights, which the call takes packed into one array: weight by weight and then packed,
  it is the same, for what pads the arrays stays zero.
-/
module

public import proofs.«01_k».proof.Defs
public import proofs.«01_k».proof.Proof.Adam
public import proofs.«01_k».proof.Proof.Packed
public import proofs.«01_k».proof.Proof.Gen.Kernel18Ideal.Value
public import proofs.«01_k».proof.Proof.Gen.Reference18Ideal
public import proofs.«01_k».proof.Proof.Gen.Reference18Ideal.Run
public import Idealize.ShloMosaic.Lib.StableHlo.RunRead
public import Idealize.ShloMosaic.Lib.Quiescent

@[expose] public section

set_option maxRecDepth 16384

noncomputable section

namespace Cert.Kernel18Ideal.Update

open Cert.Kernel18Ideal Cert.Kernel18Ideal.Gen Cert.Adam Cert.Packed Idealize.ShloMosaic Idealize.ShloMosaic.TcCoe Idealize.SL.Sem

/-- What the body leaves in its results, entry by entry. -/
theorem out_at (w g p q : Vec Ideal S32x128 .f32) (y : S32x128.Idx) :
    out0_4 w g p q y = g y ∧ out0_5 w g p q y = delta (w y) (g y) (p y) (q y) ∧ out0_6 w g p q y = moment (g y) (p y)
      ∧ out0_7 w g p q y = square (g y) (q y) := by
  simp only [out0_4, out0_5, out0_6, out0_7, View.canon_unit_zero (S := S32x128) origin, View.ld_unit_zero (S := S32x128) origin,
    k0_pay1, k0_pay4, k0_pay5, k0_pay2, k0_pay3, shapeCast_self]
  exact ⟨trivial, rfl, rfl, rfl⟩

/-- The word zero as a number: what pads. -/
abbrev pad₀ : S_.Idx → EReal := sitofp (F := Ideal) .f32 (constantI S_ 32 0#32)

theorem pad₀_apply (y : S_.Idx) : pad₀ y = 0 := sitofp_zero (φ := .f32)

variable (m : (ℓ : Loc nD τ sig) → Buf (Elt Ideal) ℓ) (c : Dev nD)

/-- A device's weights, gradients and moments. -/
def w : Pieces EReal := ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14)⟩
def g : Pieces EReal := ⟨m ((c : Thread nD τ).loc main_arg15), m ((c : Thread nD τ).loc main_arg16), m ((c : Thread nD τ).loc main_arg17), m ((c : Thread nD τ).loc main_arg18), m ((c : Thread nD τ).loc main_arg19), m ((c : Thread nD τ).loc main_arg20), m ((c : Thread nD τ).loc main_arg21), m ((c : Thread nD τ).loc main_arg22), m ((c : Thread nD τ).loc main_arg23), m ((c : Thread nD τ).loc main_arg24), m ((c : Thread nD τ).loc main_arg25), m ((c : Thread nD τ).loc main_arg26), m ((c : Thread nD τ).loc main_arg27), m ((c : Thread nD τ).loc main_arg28), m ((c : Thread nD τ).loc main_arg29)⟩
def p : Pieces EReal := ⟨m ((c : Thread nD τ).loc main_arg30), m ((c : Thread nD τ).loc main_arg31), m ((c : Thread nD τ).loc main_arg32), m ((c : Thread nD τ).loc main_arg33), m ((c : Thread nD τ).loc main_arg34), m ((c : Thread nD τ).loc main_arg35), m ((c : Thread nD τ).loc main_arg36), m ((c : Thread nD τ).loc main_arg37), m ((c : Thread nD τ).loc main_arg38), m ((c : Thread nD τ).loc main_arg39), m ((c : Thread nD τ).loc main_arg40), m ((c : Thread nD τ).loc main_arg41), m ((c : Thread nD τ).loc main_arg42), m ((c : Thread nD τ).loc main_arg43), m ((c : Thread nD τ).loc main_arg44)⟩
def q : Pieces EReal := ⟨m ((c : Thread nD τ).loc main_arg45), m ((c : Thread nD τ).loc main_arg46), m ((c : Thread nD τ).loc main_arg47), m ((c : Thread nD τ).loc main_arg48), m ((c : Thread nD τ).loc main_arg49), m ((c : Thread nD τ).loc main_arg50), m ((c : Thread nD τ).loc main_arg51), m ((c : Thread nD τ).loc main_arg52), m ((c : Thread nD τ).loc main_arg53), m ((c : Thread nD τ).loc main_arg54), m ((c : Thread nD τ).loc main_arg55), m ((c : Thread nD τ).loc main_arg56), m ((c : Thread nD τ).loc main_arg57), m ((c : Thread nD τ).loc main_arg58), m ((c : Thread nD τ).loc main_arg59)⟩

set_option maxHeartbeats 16000000 in
/-- What the call reads: each of the four packed. -/
theorem arguments : V m c main_v30 = (w m c).pack pad₀ ∧ V m c main_v61 = (g m c).pack pad₀
    ∧ V m c main_v92 = (p m c).pack pad₀ ∧ V m c main_v123 = (q m c).pack pad₀ := by
  show StableHlo.after (List.flatten _) _ (Proc.devRef .tc main_v30) = _ ∧ StableHlo.after (List.flatten _) _ (Proc.devRef .tc main_v61) = _
    ∧ StableHlo.after (List.flatten _) _ (Proc.devRef .tc main_v92) = _ ∧ StableHlo.after (List.flatten _) _ (Proc.devRef .tc main_v123) = _
  refine ⟨?_, ?_, ?_, ?_⟩
  all_goals
    after_reads_simp
    refine congrArg (fun x => shapeCast S160x128 x shapeCasts_S20480_S160x128) (concatenate_congr ?_ _ _)
    iterate 15 (refine congrArg₂ List.cons (congrArg (Sigma.mk _) ?_) ?_; swap)
    · rfl
    all_goals
      dsimp only [Matrix.cons_val]
      after_reads_simp
      rfl

/-- The step, entry by entry of the packed arrays. -/
def newDelta : Vec Ideal S160x128 .f32 := (Pieces.map₄ delta (w m c) (g m c) (p m c) (q m c)).pack pad₀

def newMoment : Vec Ideal S160x128 .f32 := (Pieces.map₄ (fun _ b p _ => moment b p) (w m c) (g m c) (p m c) (q m c)).pack pad₀

def newSquare : Vec Ideal S160x128 .f32 := (Pieces.map₄ (fun _ b _ q => square b q) (w m c) (g m c) (p m c) (q m c)).pack pad₀

theorem newDelta_eq : newDelta m c = fun y => delta ((w m c).pack pad₀ y) ((g m c).pack pad₀ y) ((p m c).pack pad₀ y) ((q m c).pack pad₀ y) :=
  pack_map₄ delta _ (funext fun y => by rw [pad₀_apply, delta_zero]) _ _ _ _

theorem newMoment_eq : newMoment m c = fun y => moment ((g m c).pack pad₀ y) ((p m c).pack pad₀ y) :=
  pack_map₄ (fun _ b p _ => moment b p) _ (funext fun y => by rw [pad₀_apply, moment_zero]) _ _ _ _

theorem newSquare_eq : newSquare m c = fun y => square ((g m c).pack pad₀ y) ((q m c).pack pad₀ y) :=
  pack_map₄ (fun _ b _ q => square b q) _ (funext fun y => by rw [pad₀_apply, square_zero]) _ _ _ _

theorem final_gradient : (dats m 0 c).arrAt 4 cfg0.N = (g m c).pack pad₀ := by
  refine (dats m 0 c).arrAt_eq_of_covers 4 _ (by decide +kernel) fun t hf y => ?_
  blk_simp
  rw [after0_4, (out_at ..).1, ← (arguments m c).2.1]
  rfl

theorem final_delta : (dats m 0 c).arrAt 5 cfg0.N = newDelta m c := by
  refine (dats m 0 c).arrAt_eq_of_covers 5 _ (by decide +kernel) fun t hf y => ?_
  blk_simp
  rw [after0_5, (out_at ..).2.1, newDelta_eq, ← (arguments m c).1, ← (arguments m c).2.1, ← (arguments m c).2.2.1, ← (arguments m c).2.2.2]
  rfl

theorem final_moment : (dats m 0 c).arrAt 6 cfg0.N = newMoment m c := by
  refine (dats m 0 c).arrAt_eq_of_covers 6 _ (by decide +kernel) fun t hf y => ?_
  blk_simp
  rw [after0_6, (out_at ..).2.2.1, newMoment_eq, ← (arguments m c).2.1, ← (arguments m c).2.2.1]
  rfl

theorem final_square : (dats m 0 c).arrAt 7 cfg0.N = newSquare m c := by
  refine (dats m 0 c).arrAt_eq_of_covers 7 _ (by decide +kernel) fun t hf y => ?_
  blk_simp
  rw [after0_7, (out_at ..).2.2.2, newSquare_eq, ← (arguments m c).2.1, ← (arguments m c).2.2.2]
  rfl

end Cert.Kernel18Ideal.Update

namespace Cert.Reference18Ideal.Update

open Cert.Adam Cert.Packed Idealize.ShloMosaic

variable (m : (ℓ : Loc Cert.Reference18Ideal.nD Cert.Reference18Ideal.τ Cert.Reference18Ideal.sig) → Buf (Elt Ideal) ℓ) (c : Dev Cert.Reference18Ideal.nD)

/-- The same arrays as the reference is given them. -/
def w : Pieces EReal := ⟨m ((c.tc : Thread Cert.Reference18Ideal.nD Cert.Reference18Ideal.τ).loc Cert.Reference18Ideal.main_arg0), m ((c.tc : Thread Cert.Reference18Ideal.nD Cert.Reference18Ideal.τ).loc Cert.Reference18Ideal.main_arg1), m ((c.tc : Thread Cert.Reference18Ideal.nD Cert.Reference18Ideal.τ).loc Cert.Reference18Ideal.main_arg2), m ((c.tc : Thread Cert.Reference18Ideal.nD Cert.Reference18Ideal.τ).loc Cert.Reference18Ideal.main_arg3), m ((c.tc : Thread Cert.Reference18Ideal.nD Cert.Reference18Ideal.τ).loc Cert.Reference18Ideal.main_arg4), m ((c.tc : Thread Cert.Reference18Ideal.nD Cert.Reference18Ideal.τ).loc Cert.Reference18Ideal.main_arg5), m ((c.tc : Thread Cert.Reference18Ideal.nD Cert.Reference18Ideal.τ).loc Cert.Reference18Ideal.main_arg6), m ((c.tc : Thread Cert.Reference18Ideal.nD Cert.Reference18Ideal.τ).loc Cert.Reference18Ideal.main_arg7), m ((c.tc : Thread Cert.Reference18Ideal.nD Cert.Reference18Ideal.τ).loc Cert.Reference18Ideal.main_arg8), m ((c.tc : Thread Cert.Reference18Ideal.nD Cert.Reference18Ideal.τ).loc Cert.Reference18Ideal.main_arg9), m ((c.tc : Thread Cert.Reference18Ideal.nD Cert.Reference18Ideal.τ).loc Cert.Reference18Ideal.main_arg10), m ((c.tc : Thread Cert.Reference18Ideal.nD Cert.Reference18Ideal.τ).loc Cert.Reference18Ideal.main_arg11), m ((c.tc : Thread Cert.Reference18Ideal.nD Cert.Reference18Ideal.τ).loc Cert.Reference18Ideal.main_arg12), m ((c.tc : Thread Cert.Reference18Ideal.nD Cert.Reference18Ideal.τ).loc Cert.Reference18Ideal.main_arg13), m ((c.tc : Thread Cert.Reference18Ideal.nD Cert.Reference18Ideal.τ).loc Cert.Reference18Ideal.main_arg14)⟩
def g : Pieces EReal := ⟨m ((c.tc : Thread Cert.Reference18Ideal.nD Cert.Reference18Ideal.τ).loc Cert.Reference18Ideal.main_arg15), m ((c.tc : Thread Cert.Reference18Ideal.nD Cert.Reference18Ideal.τ).loc Cert.Reference18Ideal.main_arg16), m ((c.tc : Thread Cert.Reference18Ideal.nD Cert.Reference18Ideal.τ).loc Cert.Reference18Ideal.main_arg17), m ((c.tc : Thread Cert.Reference18Ideal.nD Cert.Reference18Ideal.τ).loc Cert.Reference18Ideal.main_arg18), m ((c.tc : Thread Cert.Reference18Ideal.nD Cert.Reference18Ideal.τ).loc Cert.Reference18Ideal.main_arg19), m ((c.tc : Thread Cert.Reference18Ideal.nD Cert.Reference18Ideal.τ).loc Cert.Reference18Ideal.main_arg20), m ((c.tc : Thread Cert.Reference18Ideal.nD Cert.Reference18Ideal.τ).loc Cert.Reference18Ideal.main_arg21), m ((c.tc : Thread Cert.Reference18Ideal.nD Cert.Reference18Ideal.τ).loc Cert.Reference18Ideal.main_arg22), m ((c.tc : Thread Cert.Reference18Ideal.nD Cert.Reference18Ideal.τ).loc Cert.Reference18Ideal.main_arg23), m ((c.tc : Thread Cert.Reference18Ideal.nD Cert.Reference18Ideal.τ).loc Cert.Reference18Ideal.main_arg24), m ((c.tc : Thread Cert.Reference18Ideal.nD Cert.Reference18Ideal.τ).loc Cert.Reference18Ideal.main_arg25), m ((c.tc : Thread Cert.Reference18Ideal.nD Cert.Reference18Ideal.τ).loc Cert.Reference18Ideal.main_arg26), m ((c.tc : Thread Cert.Reference18Ideal.nD Cert.Reference18Ideal.τ).loc Cert.Reference18Ideal.main_arg27), m ((c.tc : Thread Cert.Reference18Ideal.nD Cert.Reference18Ideal.τ).loc Cert.Reference18Ideal.main_arg28), m ((c.tc : Thread Cert.Reference18Ideal.nD Cert.Reference18Ideal.τ).loc Cert.Reference18Ideal.main_arg29)⟩
def p : Pieces EReal := ⟨m ((c.tc : Thread Cert.Reference18Ideal.nD Cert.Reference18Ideal.τ).loc Cert.Reference18Ideal.main_arg30), m ((c.tc : Thread Cert.Reference18Ideal.nD Cert.Reference18Ideal.τ).loc Cert.Reference18Ideal.main_arg31), m ((c.tc : Thread Cert.Reference18Ideal.nD Cert.Reference18Ideal.τ).loc Cert.Reference18Ideal.main_arg32), m ((c.tc : Thread Cert.Reference18Ideal.nD Cert.Reference18Ideal.τ).loc Cert.Reference18Ideal.main_arg33), m ((c.tc : Thread Cert.Reference18Ideal.nD Cert.Reference18Ideal.τ).loc Cert.Reference18Ideal.main_arg34), m ((c.tc : Thread Cert.Reference18Ideal.nD Cert.Reference18Ideal.τ).loc Cert.Reference18Ideal.main_arg35), m ((c.tc : Thread Cert.Reference18Ideal.nD Cert.Reference18Ideal.τ).loc Cert.Reference18Ideal.main_arg36), m ((c.tc : Thread Cert.Reference18Ideal.nD Cert.Reference18Ideal.τ).loc Cert.Reference18Ideal.main_arg37), m ((c.tc : Thread Cert.Reference18Ideal.nD Cert.Reference18Ideal.τ).loc Cert.Reference18Ideal.main_arg38), m ((c.tc : Thread Cert.Reference18Ideal.nD Cert.Reference18Ideal.τ).loc Cert.Reference18Ideal.main_arg39), m ((c.tc : Thread Cert.Reference18Ideal.nD Cert.Reference18Ideal.τ).loc Cert.Reference18Ideal.main_arg40), m ((c.tc : Thread Cert.Reference18Ideal.nD Cert.Reference18Ideal.τ).loc Cert.Reference18Ideal.main_arg41), m ((c.tc : Thread Cert.Reference18Ideal.nD Cert.Reference18Ideal.τ).loc Cert.Reference18Ideal.main_arg42), m ((c.tc : Thread Cert.Reference18Ideal.nD Cert.Reference18Ideal.τ).loc Cert.Reference18Ideal.main_arg43), m ((c.tc : Thread Cert.Reference18Ideal.nD Cert.Reference18Ideal.τ).loc Cert.Reference18Ideal.main_arg44)⟩
def q : Pieces EReal := ⟨m ((c.tc : Thread Cert.Reference18Ideal.nD Cert.Reference18Ideal.τ).loc Cert.Reference18Ideal.main_arg45), m ((c.tc : Thread Cert.Reference18Ideal.nD Cert.Reference18Ideal.τ).loc Cert.Reference18Ideal.main_arg46), m ((c.tc : Thread Cert.Reference18Ideal.nD Cert.Reference18Ideal.τ).loc Cert.Reference18Ideal.main_arg47), m ((c.tc : Thread Cert.Reference18Ideal.nD Cert.Reference18Ideal.τ).loc Cert.Reference18Ideal.main_arg48), m ((c.tc : Thread Cert.Reference18Ideal.nD Cert.Reference18Ideal.τ).loc Cert.Reference18Ideal.main_arg49), m ((c.tc : Thread Cert.Reference18Ideal.nD Cert.Reference18Ideal.τ).loc Cert.Reference18Ideal.main_arg50), m ((c.tc : Thread Cert.Reference18Ideal.nD Cert.Reference18Ideal.τ).loc Cert.Reference18Ideal.main_arg51), m ((c.tc : Thread Cert.Reference18Ideal.nD Cert.Reference18Ideal.τ).loc Cert.Reference18Ideal.main_arg52), m ((c.tc : Thread Cert.Reference18Ideal.nD Cert.Reference18Ideal.τ).loc Cert.Reference18Ideal.main_arg53), m ((c.tc : Thread Cert.Reference18Ideal.nD Cert.Reference18Ideal.τ).loc Cert.Reference18Ideal.main_arg54), m ((c.tc : Thread Cert.Reference18Ideal.nD Cert.Reference18Ideal.τ).loc Cert.Reference18Ideal.main_arg55), m ((c.tc : Thread Cert.Reference18Ideal.nD Cert.Reference18Ideal.τ).loc Cert.Reference18Ideal.main_arg56), m ((c.tc : Thread Cert.Reference18Ideal.nD Cert.Reference18Ideal.τ).loc Cert.Reference18Ideal.main_arg57), m ((c.tc : Thread Cert.Reference18Ideal.nD Cert.Reference18Ideal.τ).loc Cert.Reference18Ideal.main_arg58), m ((c.tc : Thread Cert.Reference18Ideal.nD Cert.Reference18Ideal.τ).loc Cert.Reference18Ideal.main_arg59)⟩

end Cert.Reference18Ideal.Update

namespace Cert.Kernel18Ideal.Update

open Cert.Kernel18Ideal Cert.Kernel18Ideal.Gen Cert.Adam Cert.Packed Idealize.ShloMosaic Idealize.ShloMosaic.TcCoe Idealize.SL.Sem

set_option maxHeartbeats 16000000 in
theorem agree : Cert.algebraic_Kernel18Ideal_Reference18Ideal := fun m ρ m' ρ' _ h => by
  have hw (c) : Cert.Reference18Ideal.Update.w m' c = w m c := by simp only [Cert.Reference18Ideal.Update.w, w, h c]
  have hg (c) : Cert.Reference18Ideal.Update.g m' c = g m c := by simp only [Cert.Reference18Ideal.Update.g, g, h c]
  have hp (c) : Cert.Reference18Ideal.Update.p m' c = p m c := by simp only [Cert.Reference18Ideal.Update.p, p, h c]
  have hq (c) : Cert.Reference18Ideal.Update.q m' c = q m c := by simp only [Cert.Reference18Ideal.Update.q, q, h c]
  refine ⟨fun c => (g m c).pack pad₀, fun c => newDelta m c, fun c => newMoment m c, fun c => newSquare m c, ?_, ?_⟩
  · exact (θ_run defs _ _).mono (fun r hr c => ⟨(hr c).1.trans (final_gradient m c), (hr c).2.1.trans (final_delta m c),
      (hr c).2.2.1.trans (final_moment m c), (hr c).2.2.2.1.trans (final_square m c), (hr c).2.2.2.2⟩) (Value.run_blocks m ρ)
  · refine (θ_run Cert.Reference18Ideal.defs _ _).mono (fun r hr c => ⟨(hr c).1.trans ?_, (hr c).2.1.trans ?_, (hr c).2.2.1.trans ?_,
      (hr c).2.2.2.1.trans ?_, (hr c).2.2.2.2⟩) (Cert.Reference18Ideal.Value.run m' ρ')
    · beta_reduce; rw [← hg]; rfl
    · beta_reduce; rw [newDelta, ← hw, ← hg, ← hp, ← hq]; rfl
    · beta_reduce; rw [newMoment, ← hw, ← hg, ← hp, ← hq]; rfl
    · beta_reduce; rw [newSquare, ← hw, ← hg, ← hp, ← hq]; rfl

theorem frame_reference : Cert.quiescent_Reference18Ideal := fun m ρ _ =>
  (θ_run Cert.Reference18Ideal.defs _ _).mono (fun r h => ⟨fun c => (h c).2.2.2.2, sem_eq_zero_of_no_sems rfl r.2⟩) (Cert.Reference18Ideal.Value.run m ρ)

end Cert.Kernel18Ideal.Update

end
-- ==== Proof.Products.lean ====
/-
  Matrix products at natural coordinates, over the ideal numbers: entries of rank-two arrays, what a block product, a
  host product and a concatenation read there, and sums over a contracted axis cut into parts. Every program of a plain
  product below is read through these.
-/
module

public import Idealize.ShloMosaic.Lib.ValueIdxCore
public import Idealize.ShloMosaic.Lib.ValueLayout
public import Idealize.ShloMosaic.Lib.Pipeline.Value
public import Idealize.ShloMosaic.Lib.MatmulPlain
public import Idealize.ShloMosaic.Lib.Pipeline.ValueKit
public import Idealize.ShloMosaic.Lib.KernelVsHost

@[expose] public section

noncomputable section

namespace Cert.Products

open Idealize.ShloMosaic
open Idealize.ShloMosaic.ValueIdx (contrEquiv1 contrEquiv1_symm_val)
open scoped BigOperators

section Entries

variable {α : Type} {a b : ℕ} [NeZero a] [NeZero b]

/-- The entry of a rank-two array at natural coordinates. -/
def at2 (x : (⟨2, ![a, b]⟩ : Shape).Idx → α) (i j : ℕ) : α := x (ValueIdx.ix2 (Fin.ofNat a i) (Fin.ofNat b j))

/-- An entry at an index whose coordinates are known is the entry at those natural coordinates. -/
theorem at2_of (x : (⟨2, ![a, b]⟩ : Shape).Idx → α) (y : (⟨2, ![a, b]⟩ : Shape).Idx) (i j : ℕ)
    (h0 : (y 0).val = i) (h1 : (y 1).val = j) : x y = at2 x i j := by
  unfold at2
  congr 1
  funext d
  match d with
  | ⟨0, _⟩ => subst h0; exact Fin.ext (Nat.mod_eq_of_lt (y 0).isLt).symm
  | ⟨1, _⟩ => subst h1; exact Fin.ext (Nat.mod_eq_of_lt (y 1).isLt).symm

/-- An array given by a function of natural coordinates reads that function, where the coordinates are within its extents. -/
theorem at2_mk (f : ℕ → ℕ → α) (i j : ℕ) (h0 : i < a) (h1 : j < b) :
    at2 (a := a) (b := b) (fun y => f (y 0).val (y 1).val) i j = f i j := by
  show f (i % a) (j % b) = f i j
  rw [Nat.mod_eq_of_lt h0, Nat.mod_eq_of_lt h1]

/-- Two arrays with the same entries are equal. -/
theorem ext2 (x z : (⟨2, ![a, b]⟩ : Shape).Idx → α) (h : ∀ i j, i < a → j < b → at2 x i j = at2 z i j) : x = z := by
  funext y
  rw [at2_of x y _ _ rfl rfl, at2_of z y _ _ rfl rfl]
  exact h _ _ (y 0).isLt (y 1).isLt

/-- A block loaded from an array reads the array at the block's offset. -/
theorem at2_ld {F : FTy → Type} {e : EltTy} {s0 s1 : ℕ} [NeZero s0] [NeZero s1] (x : Vec F ⟨2, ![a, b]⟩ e) (o0 o1 : ℕ)
    (inb : ∀ d : Fin 2, ![o0, o1] d + ![s0, s1] d ≤ ![a, b] d) (i j : ℕ) (h0 : i < s0) (h1 : j < s1) :
    at2 (a := s0) (b := s1) (View.ld x (Rect.unit (s := ⟨2, ![a, b]⟩) ![o0, o1] ![s0, s1] inb)) i j = at2 x (o0 + i) (o1 + j) := by
  refine at2_of x _ _ _ ?_ ?_
  · show o0 + 1 * (i % s0) = o0 + i
    rw [Nat.mod_eq_of_lt h0, Nat.one_mul]
  · show o1 + 1 * (j % s1) = o1 + j
    rw [Nat.mod_eq_of_lt h1, Nat.one_mul]

/-- A block's contents, read through its embedding into the array, are the array's at the block's offset. -/
theorem at2_emb {s0 s1 : ℕ} [NeZero s0] [NeZero s1] (x : (⟨2, ![a, b]⟩ : Shape).Idx → α)
    (emb : (⟨2, ![s0, s1]⟩ : Shape).Idx → (⟨2, ![a, b]⟩ : Shape).Idx) (o0 o1 : ℕ)
    (h : ∀ y, (emb y 0).val = o0 + (y 0).val ∧ (emb y 1).val = o1 + (y 1).val) (i j : ℕ) (hi : i < s0) (hj : j < s1) :
    at2 (a := s0) (b := s1) (fun y => x (emb y)) i j = at2 x (o0 + i) (o1 + j) := by
  obtain ⟨e0, e1⟩ := h (ValueIdx.ix2 (Fin.ofNat s0 i) (Fin.ofNat s1 j))
  refine at2_of x _ _ _ (e0.trans ?_) (e1.trans ?_)
  · show o0 + i % s0 = o0 + i
    rw [Nat.mod_eq_of_lt hi]
  · show o1 + j % s1 = o1 + j
    rw [Nat.mod_eq_of_lt hj]

/-- A cast to the same shape reads the same entries. -/
theorem at2_shapeCast (x : (⟨2, ![a, b]⟩ : Shape).Idx → α) (h : (⟨2, ![a, b]⟩ : Shape).ShapeCasts ⟨2, ![a, b]⟩) (i j : ℕ) :
    at2 (shapeCast ⟨2, ![a, b]⟩ x h) i j = at2 x i j := by
  rw [shapeCast_self]

/-- Exchanging the axes exchanges the coordinates. -/
theorem at2_transpose (x : (⟨2, ![a, b]⟩ : Shape).Idx → α) (h : Shape.Transposes ⟨2, ![a, b]⟩ [1, 0] ⟨2, ![b, a]⟩) (i j : ℕ) :
    at2 (transpose ⟨2, ![b, a]⟩ [1, 0] x h) i j = at2 x j i := by
  refine transpose_apply [1, 0] x h _ _ ?_
  intro d
  match d with
  | ⟨0, _⟩ => rfl
  | ⟨1, _⟩ => rfl

end Entries

/-! ## Products -/

section Products

variable {M K N : ℕ} [NeZero M] [NeZero K] [NeZero N] {φ₁ φ₂ : FTy}

/-- The product of two arrays of entries over the first `K` contracted coordinates. -/
def mul (K : ℕ) (f g : ℕ → ℕ → EReal) (i j : ℕ) : EReal := ∑ k ∈ Finset.range K, f i k * g k j

theorem mul_congr {K : ℕ} {f f' g g' : ℕ → ℕ → EReal} {i i' j j' : ℕ} (hf : ∀ k, k < K → f i k = f' i' k) (hg : ∀ k, k < K → g k j = g' k j') :
    mul K f g i j = mul K f' g' i' j' :=
  Finset.sum_congr rfl fun k hk => by rw [hf k (Finset.mem_range.mp hk), hg k (Finset.mem_range.mp hk)]

/-- A contracted axis cut in two. -/
theorem mul_add (K L : ℕ) (f g : ℕ → ℕ → EReal) (i j : ℕ) :
    mul (K + L) f g i j = mul K f g i j + mul L (fun i k => f i (K + k)) (fun k j => g (K + k) j) i j :=
  Finset.sum_range_add ..

/-- A contracted axis cut in equal parts. -/
theorem mul_blocks (K : ℕ) (f g : ℕ → ℕ → EReal) (i j : ℕ) : ∀ n : ℕ,
    ∑ s ∈ Finset.range n, mul K (fun i k => f i (K * s + k)) (fun k j => g (K * s + k) j) i j = mul (K * n) f g i j
  | 0 => rfl
  | n + 1 => by
    rw [Finset.sum_range_succ, mul_blocks K f g i j n, Nat.mul_succ, mul_add]

/-- The factors of each term exchanged. -/
theorem mul_swap (K : ℕ) (f g : ℕ → ℕ → EReal) (i j : ℕ) : mul K f g i j = mul K (fun j k => g k j) (fun k i => f i k) j i :=
  Finset.sum_congr rfl fun _ _ => mul_comm _ _

theorem sum_fin (K : ℕ) [NeZero K] (f : ℕ → EReal) : ∑ k : Fin K, f k.val = ∑ k ∈ Finset.range K, f k :=
  (Finset.sum_range f).symm

theorem ofNat_val (K : ℕ) [NeZero K] (k : Fin K) : Fin.ofNat K k.val = k := Fin.ext (Nat.mod_eq_of_lt k.isLt)

/-- A sum over the indices of one contracted axis, the operands' entries named by its coordinate. -/
theorem contr_sum {sl sr so : Shape} (d : DotDims sl sr so) (K : ℕ) [NeZero K] (hr : d.contr.rank = 1) (hs : d.contr.size ⟨0, by rw [hr]; exact Nat.one_pos⟩ = K)
    (f : sl.Idx → EReal) (g : sr.Idx → EReal) (j : so.Idx) (F G : ℕ → EReal)
    (hf : ∀ kk : d.contr.Idx, f (d.lhsIdx j kk) = F (kk ⟨0, by rw [hr]; exact Nat.one_pos⟩).val)
    (hg : ∀ kk : d.contr.Idx, g (d.rhsIdx j kk) = G (kk ⟨0, by rw [hr]; exact Nat.one_pos⟩).val) :
    ∑ kk : d.contr.Idx, f (d.lhsIdx j kk) * g (d.rhsIdx j kk) = ∑ k ∈ Finset.range K, F k * G k := by
  rw [← sum_fin K (fun k => F k * G k), ← Equiv.sum_comp (contrEquiv1 d K hr hs).symm]
  refine Finset.sum_congr rfl fun k _ => ?_
  rw [hf, hg, contrEquiv1_symm_val d K hr hs k]

/-- The product contracting the first axis of both operands. -/
def transposedLhs (K M N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, (by decide : ([] ++ [1] ++ [0] : List (Fin 2)).Perm (List.finRange 2)),
    (by decide : ([] ++ [1] ++ [0] : List (Fin 2)).Perm (List.finRange 2)), rfl, Nat.two_pos, fun b => by fin_cases b <;> rfl⟩

/-- The terms of a plain product. -/
theorem plain_sum (f : (⟨2, ![M, K]⟩ : Shape).Idx → EReal) (g : (⟨2, ![K, N]⟩ : Shape).Idx → EReal) (i j : ℕ) :
    ∑ kk : (DotDims.plain M K N).contr.Idx, f ((DotDims.plain M K N).lhsIdx (ValueIdx.ix2 (Fin.ofNat M i) (Fin.ofNat N j)) kk)
        * g ((DotDims.plain M K N).rhsIdx (ValueIdx.ix2 (Fin.ofNat M i) (Fin.ofNat N j)) kk)
      = mul K (at2 f) (at2 g) i j :=
  contr_sum (DotDims.plain M K N) K rfl rfl f g _ (fun k => at2 f i k) (fun k => at2 g k j)
    (fun kk => (at2_of f _ (i % M) _ rfl rfl).trans (by unfold at2; congr 2; exact Fin.ext (Nat.mod_mod i M)))
    (fun kk => (at2_of g _ _ (j % N) rfl rfl).trans (by unfold at2; congr 2; exact Fin.ext (Nat.mod_mod j N)))

/-- The terms of a product contracting the second axis of both operands. -/
theorem rhs_sum (f : (⟨2, ![M, K]⟩ : Shape).Idx → EReal) (g : (⟨2, ![N, K]⟩ : Shape).Idx → EReal) (i j : ℕ) :
    ∑ kk : (DotDims.transposedRhs M K N).contr.Idx, f ((DotDims.transposedRhs M K N).lhsIdx (ValueIdx.ix2 (Fin.ofNat M i) (Fin.ofNat N j)) kk)
        * g ((DotDims.transposedRhs M K N).rhsIdx (ValueIdx.ix2 (Fin.ofNat M i) (Fin.ofNat N j)) kk)
      = mul K (at2 f) (fun k j => at2 g j k) i j :=
  contr_sum (DotDims.transposedRhs M K N) K rfl rfl f g _ (fun k => at2 f i k) (fun k => at2 g j k)
    (fun kk => (at2_of f _ (i % M) _ rfl rfl).trans (by unfold at2; congr 2; exact Fin.ext (Nat.mod_mod i M)))
    (fun kk => (at2_of g _ (j % N) _ rfl rfl).trans (by unfold at2; congr 2; exact Fin.ext (Nat.mod_mod j N)))

/-- The terms of a product contracting the first axis of both operands. -/
theorem lhs_sum (f : (⟨2, ![K, M]⟩ : Shape).Idx → EReal) (g : (⟨2, ![K, N]⟩ : Shape).Idx → EReal) (i j : ℕ) :
    ∑ kk : (transposedLhs K M N).contr.Idx, f ((transposedLhs K M N).lhsIdx (ValueIdx.ix2 (Fin.ofNat M i) (Fin.ofNat N j)) kk)
        * g ((transposedLhs K M N).rhsIdx (ValueIdx.ix2 (Fin.ofNat M i) (Fin.ofNat N j)) kk)
      = mul K (fun i k => at2 f k i) (at2 g) i j :=
  contr_sum (transposedLhs K M N) K rfl rfl f g _ (fun k => at2 f k i) (fun k => at2 g k j)
    (fun kk => (at2_of f _ _ (i % M) rfl rfl).trans (by unfold at2; congr 2; exact Fin.ext (Nat.mod_mod i M)))
    (fun kk => (at2_of g _ _ (j % N) rfl rfl).trans (by unfold at2; congr 2; exact Fin.ext (Nat.mod_mod j N)))

/-- A block product onto zero. -/
theorem at2_matmul (d : DotDims ⟨2, ![M, K]⟩ ⟨2, ![K, N]⟩ ⟨2, ![M, N]⟩) (hd : d = DotDims.plain M K N) (prec : Option ContractPrecision)
    (lhs : FVec Ideal ⟨2, ![M, K]⟩ φ₁) (rhs : FVec Ideal ⟨2, ![K, N]⟩ φ₂) (i j : ℕ) :
    at2 (matmul d prec lhs rhs (constant ⟨2, ![M, N]⟩ .f32 0x00000000#32)) i j = mul K (at2 lhs) (at2 rhs) i j := by
  subst hd
  exact (Ideal.matmul_constant_zero_apply _ prec lhs rhs _).trans (plain_sum lhs rhs i j)

/-- A block product onto zero, contracting the first axes. -/
theorem at2_matmul_lhs (d : DotDims ⟨2, ![K, M]⟩ ⟨2, ![K, N]⟩ ⟨2, ![M, N]⟩) (hd : d = transposedLhs K M N) (prec : Option ContractPrecision)
    (lhs : FVec Ideal ⟨2, ![K, M]⟩ φ₁) (rhs : FVec Ideal ⟨2, ![K, N]⟩ φ₂) (i j : ℕ) :
    at2 (matmul d prec lhs rhs (constant ⟨2, ![M, N]⟩ .f32 0x00000000#32)) i j = mul K (fun i k => at2 lhs k i) (at2 rhs) i j := by
  subst hd
  exact (Ideal.matmul_constant_zero_apply _ prec lhs rhs _).trans (lhs_sum lhs rhs i j)

section Steps

variable {P Q : ℕ} [NeZero P] [NeZero Q] (d : DotDims ⟨2, ![M, K]⟩ ⟨2, ![K, N]⟩ ⟨2, ![M, N]⟩) (hd : d = DotDims.plain M K N)
  (x : Vec Ideal ⟨2, ![M, K]⟩ .bf16) (w : Vec Ideal ⟨2, ![P, Q]⟩ .bf16) (o c : ℕ)
  (inb : ∀ d : Fin 2, ![o, c] d + ![K, N] d ≤ ![P, Q] d) (i j : ℕ) (hi : i < M) (hj : j < N)

include hd hi hj

/-- One step of a block: rows of an operand times a block of the weights' rows and columns. -/
theorem at2_step (inbx : ∀ d : Fin 2, ![0, 0] d + ![M, K] d ≤ ![M, K] d) :
    at2 (matmul (F := Ideal) (φ₁ := .bf16) (φ₂ := .bf16) d none (View.ld x (Rect.unit (s := ⟨2, ![M, K]⟩) ![0, 0] ![M, K] inbx))
        (View.ld w (Rect.unit (s := ⟨2, ![P, Q]⟩) ![o, c] ![K, N] inb)) (constant ⟨2, ![M, N]⟩ .f32 0x00000000#32)) i j
      = mul K (at2 x) (fun k j => at2 w (o + k) j) i (c + j) := by
  refine (at2_matmul d hd none _ _ i j).trans (mul_congr (fun k hk => ?_) fun k hk => at2_ld w o c inb k j hk hj)
  exact (at2_ld x 0 0 inbx i k hi hk).trans (by rw [Nat.zero_add, Nat.zero_add])

/-- The same, the weights' block through a cast to its own shape. -/
theorem at2_step_cast (inbx : ∀ d : Fin 2, ![0, 0] d + ![M, K] d ≤ ![M, K] d) (h : (⟨2, ![K, N]⟩ : Shape).ShapeCasts ⟨2, ![K, N]⟩) :
    at2 (matmul (F := Ideal) (φ₁ := .bf16) (φ₂ := .bf16) d none (View.ld x (Rect.unit (s := ⟨2, ![M, K]⟩) ![0, 0] ![M, K] inbx))
        (shapeCast ⟨2, ![K, N]⟩ (View.ld w (Rect.unit (s := ⟨2, ![P, Q]⟩) ![o, c] ![K, N] inb)) h) (constant ⟨2, ![M, N]⟩ .f32 0x00000000#32)) i j
      = mul K (at2 x) (fun k j => at2 w (o + k) j) i (c + j) := by
  refine (at2_matmul d hd none _ _ i j).trans (mul_congr (fun k hk => ?_) fun k hk => (at2_shapeCast _ _ k j).trans (at2_ld w o c inb k j hk hj))
  exact (at2_ld x 0 0 inbx i k hi hk).trans (by rw [Nat.zero_add, Nat.zero_add])

omit hi in
/-- The same, the rows read whole. -/
theorem at2_step_whole (h : (⟨2, ![K, N]⟩ : Shape).ShapeCasts ⟨2, ![K, N]⟩) :
    at2 (matmul (F := Ideal) (φ₁ := .bf16) (φ₂ := .bf16) d none x
        (shapeCast ⟨2, ![K, N]⟩ (View.ld w (Rect.unit (s := ⟨2, ![P, Q]⟩) ![o, c] ![K, N] inb)) h) (constant ⟨2, ![M, N]⟩ .f32 0x00000000#32)) i j
      = mul K (at2 x) (fun k j => at2 w (o + k) j) i (c + j) :=
  (at2_matmul d hd none _ _ i j).trans (mul_congr (fun _ _ => rfl) fun k hk => (at2_shapeCast _ _ k j).trans (at2_ld w o c inb k j hk hj))

end Steps

theorem rows_zero (K : ℕ) (f g : ℕ → ℕ → EReal) (i j : ℕ) : mul K f (fun k j => g (0 + k) j) i j = mul K f g i j :=
  mul_congr (fun _ _ => rfl) fun k _ => by rw [Nat.zero_add]

/-- A host product. -/
theorem at2_dot (d : DotDims ⟨2, ![M, K]⟩ ⟨2, ![K, N]⟩ ⟨2, ![M, N]⟩) (hd : d = DotDims.plain M K N) (prec : Option ContractPrecision)
    (lhs : FVec Ideal ⟨2, ![M, K]⟩ φ₁) (rhs : FVec Ideal ⟨2, ![K, N]⟩ φ₂) (i j : ℕ) :
    at2 (Host.dotGeneral d prec lhs rhs) i j = mul K (at2 lhs) (at2 rhs) i j := by
  subst hd
  exact (Ideal.dotGeneral_apply _ prec _ lhs rhs _).trans (plain_sum lhs rhs i j)

/-- A host product contracting the second axes. -/
theorem at2_dot_rhs (d : DotDims ⟨2, ![M, K]⟩ ⟨2, ![N, K]⟩ ⟨2, ![M, N]⟩) (hd : d = DotDims.transposedRhs M K N) (prec : Option ContractPrecision)
    (lhs : FVec Ideal ⟨2, ![M, K]⟩ φ₁) (rhs : FVec Ideal ⟨2, ![N, K]⟩ φ₂) (i j : ℕ) :
    at2 (Host.dotGeneral d prec lhs rhs) i j = mul K (at2 lhs) (fun k j => at2 rhs j k) i j := by
  subst hd
  exact (Ideal.dotGeneral_apply _ prec _ lhs rhs _).trans (rhs_sum lhs rhs i j)

/-- A host product contracting the first axes. -/
theorem at2_dot_lhs (d : DotDims ⟨2, ![K, M]⟩ ⟨2, ![K, N]⟩ ⟨2, ![M, N]⟩) (hd : d = transposedLhs K M N) (prec : Option ContractPrecision)
    (lhs : FVec Ideal ⟨2, ![K, M]⟩ φ₁) (rhs : FVec Ideal ⟨2, ![K, N]⟩ φ₂) (i j : ℕ) :
    at2 (Host.dotGeneral d prec lhs rhs) i j = mul K (fun i k => at2 lhs k i) (at2 rhs) i j := by
  subst hd
  exact (Ideal.dotGeneral_apply _ prec _ lhs rhs _).trans (lhs_sum lhs rhs i j)

end Products

/-! ## A product accumulated over blocks of rows -/

section Accumulated

variable {K M N : ℕ} [NeZero K] [NeZero M] [NeZero N]

/-- One step of an accumulation: what is held plus the product of two blocks of rows. -/
theorem accumulate (d : DotDims ⟨2, ![K, M]⟩ ⟨2, ![K, N]⟩ ⟨2, ![M, N]⟩) (hd : d = transposedLhs K M N) (acc : FVec Ideal ⟨2, ![M, N]⟩ .f32)
    (x : FVec Ideal ⟨2, ![K, M]⟩ .bf16) (z : FVec Ideal ⟨2, ![K, N]⟩ .bf16) (h : (⟨2, ![M, N]⟩ : Shape).ShapeCasts ⟨2, ![M, N]⟩) (y : (⟨2, ![M, N]⟩ : Shape).Idx) :
    shapeCast ⟨2, ![M, N]⟩ (addf acc (matmul d none x z (constant ⟨2, ![M, N]⟩ .f32 0x00000000#32))) h y
      = acc y + mul K (fun i k => at2 x k i) (at2 z) (y 0).val (y 1).val := by
  refine (at2_of _ y _ _ rfl rfl).trans ((at2_shapeCast _ h _ _).trans ?_)
  exact congrArg₂ (· + ·) (at2_of acc y _ _ rfl rfl).symm (at2_matmul_lhs d hd none x z _ _)

/-- An accumulation begins at zero. -/
theorem accumulate_start (h : (⟨2, ![M, N]⟩ : Shape).ShapeCasts ⟨2, ![M, N]⟩) (y : (⟨2, ![M, N]⟩ : Shape).Idx) :
    shapeCast ⟨2, ![M, N]⟩ (constant (F := Ideal) ⟨2, ![M, N]⟩ .f32 0x00000000#32) h y = (0 : EReal) :=
  (at2_of _ y _ _ rfl rfl).trans ((at2_shapeCast _ h _ _).trans Ideal.ofBits_zero_f32)

/-- The product of block `s` of 2176 rows, in the block of columns beginning at `o`. -/
def part (u z : ℕ → ℕ → EReal) (o s i j : ℕ) : EReal := mul 2176 (fun i k => u (2176 * s + k) i) (fun k j => z (2176 * s + k) (o + j)) i j

/-- Four blocks make the product over all rows. -/
theorem parts (u z : ℕ → ℕ → EReal) (o i j : ℕ) :
    ∑ s ∈ Finset.range 4, part u z o s i j = mul 8704 (fun i k => u k i) z i (o + j) :=
  mul_blocks 2176 (fun i k => u k i) (fun k j => z k (o + j)) i j 4

/-- The gradient of a projection in its weights: the transposed input times the gradient of the result. -/
def weightGradient (u : FVec Ideal ⟨2, ![K, M]⟩ .bf16) (z : FVec Ideal ⟨2, ![K, N]⟩ .bf16) : FVec Ideal ⟨2, ![M, N]⟩ .bf16 := fun y =>
  mul K (fun i k => at2 u k i) (at2 z) (y 0).val (y 1).val

/-- A host product of the two, taken the other way around and transposed, is that gradient. -/
theorem weightGradient_transposed (d : DotDims ⟨2, ![K, N]⟩ ⟨2, ![K, M]⟩ ⟨2, ![N, M]⟩) (hd : d = transposedLhs K N M)
    (u : FVec Ideal ⟨2, ![K, M]⟩ .bf16) (z : FVec Ideal ⟨2, ![K, N]⟩ .bf16) (h1 h2) (h3 : Shape.Transposes ⟨2, ![N, M]⟩ [1, 0] ⟨2, ![M, N]⟩) (h4) :
    truncf (F := Ideal) (φ := .f32) .bf16 (transpose ⟨2, ![M, N]⟩ [1, 0] (Host.dotGeneral (F := Ideal) d none (extf (φ := .bf16) .f32 z h1)
        (extf (φ := .bf16) .f32 u h2)) h3) h4 = weightGradient u z := by
  refine ext2 _ _ fun i j hi hj => (at2_transpose _ h3 i j).trans ((at2_dot_lhs d hd none _ _ j i).trans ((mul_swap ..).trans ?_))
  exact (at2_mk (fun i j => mul K (fun i k => at2 u k i) (at2 z) i j) i j hi hj).symm

end Accumulated

/-! ## Blocks of columns -/

/-- A block of columns stored at column `o1` holds the values of `f` there. -/
theorem cols_tileAt {a b s0 s1 : ℕ} [NeZero s0] [NeZero s1] (f : ℕ → ℕ → EReal) (y : (⟨2, ![a, b]⟩ : Shape).Idx) (o1 : ℕ)
    (p : (⟨2, ![s0, s1]⟩ : Shape).Idx → EReal) (hp : ∀ i j, i < s0 → j < s1 → at2 p i j = f i (o1 + j)) :
    View.TileAt (Val := Elt Ideal) (e := .f32) (S := ⟨2, ![a, b]⟩) y ![0, o1] ![s0, s1] p (f (y 0).val (y 1).val) := by
  intro x hx
  have h0 : (y 0).val = 0 + (x 0).val := hx 0
  have h1 : (y 1).val = o1 + (x 1).val := hx 1
  refine (at2_of p x _ _ rfl rfl).trans ((hp _ _ (x 0).isLt (x 1).isLt).trans ?_)
  rw [h0, h1, Nat.zero_add]

/-! ## Padding and slices -/

section Padded

variable {a b n : ℕ} [NeZero a] [NeZero b] [NeZero n] {φ : FTy} (p : ℕ) (x : FVec Ideal ⟨2, ![a, b]⟩ φ)
  (h : (⟨2, ![a, b]⟩ : Shape).Pads ![0, 0] ![0, p] ![0, 0] ⟨2, ![a, n]⟩) (hu : 0 < (⟨0, ![]⟩ : Shape).numel) (i j : ℕ)

/-- Columns of zeros after an array's own: within the array its entries. -/
theorem at2_pad (hj : j < b) (hn : j < n) :
    at2 (a := a) (b := n) (pad ⟨2, ![a, n]⟩ ![0, 0] ![0, p] ![0, 0] x (sitofp (F := Ideal) φ (constantI ⟨0, ![]⟩ 32 0#32)) h hu) i j = at2 x i j := by
  refine pad_apply_of_inside _ _ _ x _ h hu _ _ fun d => ?_
  match d with
  | ⟨0, _⟩ => show i % a = 0 + i % a * (0 + 1); omega
  | ⟨1, _⟩ =>
    show j % n = 0 + j % b * (0 + 1)
    rw [Nat.mod_eq_of_lt hj, Nat.mod_eq_of_lt hn]; omega

/-- … and past it zero. -/
theorem at2_pad_zero (hj : b ≤ j) (hn : j < n) :
    at2 (a := a) (b := n) (pad ⟨2, ![a, n]⟩ ![0, 0] ![0, p] ![0, 0] x (sitofp (F := Ideal) φ (constantI ⟨0, ![]⟩ 32 0#32)) h hu) i j = (0 : EReal) := by
  refine (pad_apply_of_not_inside _ _ _ x _ h hu _ (1 : Fin 2) fun hin => ?_).trans sitofp_zero
  have e : (j % n - 0) / (0 + 1) < b := hin.2.2
  rw [Nat.mod_eq_of_lt hn, Nat.sub_zero, Nat.zero_add, Nat.div_one] at e
  omega

end Padded

/-- The first columns of an array. -/
theorem at2_slice {α : Type} {a b n : ℕ} [NeZero a] [NeZero b] [NeZero n] (x : (⟨2, ![a, n]⟩ : Shape).Idx → α)
    (h : (⟨2, ![a, n]⟩ : Shape).Slices ![0, 0] ⟨2, ![a, b]⟩) (i j : ℕ) (hj : j < b) (hn : j < n) :
    at2 (extractStridedSlice ⟨2, ![a, b]⟩ ![0, 0] x h) i j = at2 x i j := by
  refine extractStridedSlice_apply _ x h _ _ fun d => ?_
  match d with
  | ⟨0, _⟩ => exact (Nat.zero_add _).symm
  | ⟨1, _⟩ =>
    show j % n = 0 + j % b
    rw [Nat.mod_eq_of_lt hj, Nat.mod_eq_of_lt hn, Nat.zero_add]

/-- A product with zeros. -/
theorem mul_zero_right {K : ℕ} {f g : ℕ → ℕ → EReal} {i j : ℕ} (h : ∀ k, k < K → g k j = 0) : mul K f g i j = 0 :=
  Finset.sum_eq_zero fun k hk => by rw [h k (Finset.mem_range.mp hk), mul_zero]

/-! ## Side by side -/

/-- Arrays side by side: in the columns of the `k`-th, which begin at `pre`, the entries of that array. -/
theorem at2_concat {α : Type} {a b n : ℕ} [NeZero a] [NeZero b] [NeZero n] (xs : List ((s : Shape) × (s.Idx → α)))
    (h : Shape.Concatenates (xs.map (·.1)) ⟨2, ![a, n]⟩ 1) (k : ℕ) (hk : k < xs.length) (x : (⟨2, ![a, b]⟩ : Shape).Idx → α)
    (hx : xs[k] = ⟨⟨2, ![a, b]⟩, x⟩) (pre : ℕ)
    (hpre : (((xs.take k).map (·.1)).map fun s => if h : s.rank = (⟨2, ![a, n]⟩ : Shape).rank then s.size ((1 : Fin 2).cast h.symm) else 0).sum = pre)
    (i j : ℕ) (hj : j < b) (hn : pre + j < n) :
    at2 (concatenate ⟨2, ![a, n]⟩ 1 xs h) i (pre + j) = at2 x i j := by
  refine concatenate_apply_piece (t := ⟨2, ![a, n]⟩) 1 xs h _ k hk ⟨2, ![a, b]⟩ x hx rfl pre hpre _ ?_ ?_
  · intro d hd
    match d with
    | ⟨0, _⟩ => rfl
    | ⟨1, _⟩ => exact absurd rfl hd
  · show pre + j % b = (pre + j) % n
    rw [Nat.mod_eq_of_lt hj, Nat.mod_eq_of_lt hn]

end Cert.Products

end
-- ==== Proof.DProj1.lean ====
/-
  The gradient of the attention layer's input projection in its input: four blocks of the result's gradient, each of 1024 columns, times the
  transposed weights. The kernel's program leaves the four partial products' sum; so does the reference, which multiplies the blocks side by side.
-/
module

public import proofs.«01_k».proof.Defs
public import proofs.«01_k».proof.Proof.Products
public import proofs.«01_k».proof.Proof.Gen.Kernel2Ideal.Value
public import proofs.«01_k».proof.Proof.Gen.Reference2Ideal
public import proofs.«01_k».proof.Proof.Gen.Reference2Ideal.Run
public import Idealize.ShloMosaic.Lib.Quiescent
public import Idealize.ShloMosaic.Lib.StableHlo.RunRead

@[expose] public section

set_option maxRecDepth 16384

noncomputable section

namespace Cert.Kernel2Ideal.Product

open Cert.Kernel2Ideal Cert.Kernel2Ideal.Gen Cert.Products Idealize.ShloMosaic Idealize.ShloMosaic.TcCoe Idealize.SL.Sem

/-- The sum of four partial products, the weights' rows taken 1024 at a time. -/
def four (x0 x1 x2 x3 w : ℕ → ℕ → EReal) (i j : ℕ) : EReal :=
  mul 1024 x0 w i j + mul 1024 x1 (fun k j => w (1024 + k) j) i j + mul 1024 x2 (fun k j => w (2048 + k) j) i j
    + mul 1024 x3 (fun k j => w (3072 + k) j) i j

/-- A product over 4096 coordinates, 1024 at a time. -/
theorem cut_four (f g : ℕ → ℕ → EReal) (i j : ℕ) :
    mul 4096 f g i j = four f (fun i k => f i (1024 + k)) (fun i k => f i (2048 + k)) (fun i k => f i (3072 + k)) g i j := by
  show mul (1024 + 1024 + 1024 + 1024) f g i j = _
  rw [mul_add, mul_add, mul_add]
  rfl

/-- What the body leaves, entry by entry. -/
theorem out_at (x0 x1 x2 x3 : Vec Ideal S256x1024 .bf16) (w : Vec Ideal S4096x1024 .bf16) (y : S256x1024.Idx) :
    out0_5 x0 x1 x2 x3 w y = four (at2 (a := 256) (b := 1024) x0) (at2 (a := 256) (b := 1024) x1) (at2 (a := 256) (b := 1024) x2)
      (at2 (a := 256) (b := 1024) x3) (at2 (a := 4096) (b := 1024) w) (y 0).val (y 1).val := by
  unfold out0_5
  refine View.canon_eq_of_allAt _ y _ (cover0_5 _ _ y) ?_
  repeat' refine View.allAt_cons_unit _ _ _ _ _ ?_ ?_
  all_goals try exact View.allAt_nil _ _
  all_goals
    refine cols_tileAt (a := 256) (b := 1024) (s0 := 256) (s1 := 512) (four _ _ _ _ _) y _ _ fun i j hi hj => ?_
    exact congrArg₂ (· + ·)
        (congrArg₂ (· + ·)
          (congrArg₂ (· + ·)
            ((at2_step_cast (M := 256) (K := 1024) (N := 512) (P := 4096) (Q := 1024) _ rfl x0 w 0 _ _ i j hi hj _ _).trans (rows_zero ..))
            (at2_step_cast (M := 256) (K := 1024) (N := 512) (P := 4096) (Q := 1024) _ rfl x1 w 1024 _ _ i j hi hj _ _))
          (at2_step_cast (M := 256) (K := 1024) (N := 512) (P := 4096) (Q := 1024) _ rfl x2 w 2048 _ _ i j hi hj _ _))
        (at2_step_cast (M := 256) (K := 1024) (N := 512) (P := 4096) (Q := 1024) _ rfl x3 w 3072 _ _ i j hi hj _ _)

variable (m : (ℓ : Loc nD τ sig) → Buf (Elt Ideal) ℓ) (c : Dev nD)

theorem idx : ∀ t : Fin grid0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] := by
  decide +kernel

/-- The four operands' blocks hold 256 of their rows, -/
theorem rows (t : Fin cfg0.N) (i k : ℕ) (hi : i < 256) (hk : k < 1024) :
    at2 (a := 256) (b := 1024) (iblk m c 0 t) i k = at2 (a := 8704) (b := 1024) (m ((c : Thread nD τ).loc main_arg0)) (256 * t.val + i) k
    ∧ at2 (a := 256) (b := 1024) (iblk m c 1 t) i k = at2 (a := 8704) (b := 1024) (m ((c : Thread nD τ).loc main_arg1)) (256 * t.val + i) k
    ∧ at2 (a := 256) (b := 1024) (iblk m c 2 t) i k = at2 (a := 8704) (b := 1024) (m ((c : Thread nD τ).loc main_arg2)) (256 * t.val + i) k
    ∧ at2 (a := 256) (b := 1024) (iblk m c 3 t) i k = at2 (a := 8704) (b := 1024) (m ((c : Thread nD τ).loc main_arg3)) (256 * t.val + i) k := by
  obtain ⟨e0, e1, e2, e3, -, -⟩ := idx t
  rw [← V_main_arg0 m c, ← V_main_arg1 m c, ← V_main_arg2 m c, ← V_main_arg3 m c]
  refine ⟨at2_of (V m c main_arg0) (((cfg0.win 0).blk t).view.emb (ValueIdx.ix2 (Fin.ofNat 256 i) (Fin.ofNat 1024 k))) _ _ ?_ ?_,
    at2_of (V m c main_arg1) (((cfg0.win 1).blk t).view.emb (ValueIdx.ix2 (Fin.ofNat 256 i) (Fin.ofNat 1024 k))) _ _ ?_ ?_,
    at2_of (V m c main_arg2) (((cfg0.win 2).blk t).view.emb (ValueIdx.ix2 (Fin.ofNat 256 i) (Fin.ofNat 1024 k))) _ _ ?_ ?_,
    at2_of (V m c main_arg3) (((cfg0.win 3).blk t).view.emb (ValueIdx.ix2 (Fin.ofNat 256 i) (Fin.ofNat 1024 k))) _ _ ?_ ?_⟩
  all_goals blk_simp [e0, e1, e2, e3]
  all_goals first | exact Nat.mod_eq_of_lt hk | (show t.val * 256 + i % 256 = _; omega)

/-- and the weights' block is the whole array of transposed weights. -/
theorem weights (t : Fin cfg0.N) (k j : ℕ) (hk : k < 4096) (hj : j < 1024) :
    at2 (a := 4096) (b := 1024) (iblk m c 4 t) k j = at2 (a := 1024) (b := 4096) (m ((c : Thread nD τ).loc main_arg4)) j k := by
  obtain ⟨-, -, -, -, e4, -⟩ := idx t
  refine (at2_of (V m c main_v0) (((cfg0.win 4).blk t).view.emb (ValueIdx.ix2 (Fin.ofNat 4096 k) (Fin.ofNat 1024 j))) k j ?_ ?_).trans ?_
  · blk_simp [e4]; exact Nat.mod_eq_of_lt hk
  · blk_simp [e4]; exact Nat.mod_eq_of_lt hj
  · have e : V m c main_v0 = transpose S4096x1024 [1, 0] (m ((c : Thread nD τ).loc main_arg4)) transposes_S1024x4096_S4096x1024_1_0 := by
      show StableHlo.after hostOps0 _ (Proc.devRef .tc main_v0) = _
      after_reads_simp
    rw [e]
    exact at2_transpose _ _ k j

/-- The result: the gradient of the projection in its input. -/
def G (a0 a1 a2 a3 : Vec Ideal S8704x1024 .bf16) (w : Vec Ideal S1024x4096 .bf16) : Vec Ideal S8704x1024 .f32 := fun y =>
  four (at2 (a := 8704) (b := 1024) a0) (at2 (a := 8704) (b := 1024) a1) (at2 (a := 8704) (b := 1024) a2) (at2 (a := 8704) (b := 1024) a3)
    (fun k j => at2 (a := 1024) (b := 4096) w j k) (y 0).val (y 1).val

theorem final : (dats m 0 c).arrAt 5 cfg0.N = G (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 5 _ (by decide +kernel) fun t hf y => ?_
  obtain ⟨-, -, -, -, -, e5⟩ := idx t
  blk_simp
  rw [after0_5, out_at]
  have h0 : (y 0).val < 256 := (y 0).isLt
  have h1 : (y 1).val < 1024 := (y 1).isLt
  have g0 : (((cfg0.win 5).blk t).view.emb y 0).val = 256 * t.val + (y 0).val := by blk_simp [e5]; omega
  have g1 : (((cfg0.win 5).blk t).view.emb y 1).val = (y 1).val := by blk_simp [e5]
  unfold G four
  rw [g0, g1]
  refine congrArg₂ (· + ·) (congrArg₂ (· + ·) (congrArg₂ (· + ·) ?_ ?_) ?_) ?_
  · exact mul_congr (fun k hk => (rows m c t _ k h0 hk).1) fun k hk => weights m c t _ _ (by omega) h1
  · exact mul_congr (fun k hk => (rows m c t _ k h0 hk).2.1) fun k hk => weights m c t _ _ (by omega) h1
  · exact mul_congr (fun k hk => (rows m c t _ k h0 hk).2.2.1) fun k hk => weights m c t _ _ (by omega) h1
  · exact mul_congr (fun k hk => (rows m c t _ k h0 hk).2.2.2) fun k hk => weights m c t _ _ (by omega) h1

/-- The operands, to be set side by side. -/
abbrev sides (a0 a1 a2 a3 : Vec Ideal S8704x1024 .bf16) : List ((s : Shape) × (s.Idx → EReal)) :=
  [⟨S8704x1024, a0⟩, ⟨S8704x1024, a1⟩, ⟨S8704x1024, a2⟩, ⟨S8704x1024, a3⟩]

/-- The reference's product of the operands side by side is the sum of the four partial products. -/
theorem reference (a0 a1 a2 a3 : Vec Ideal S8704x1024 .bf16) (w : Vec Ideal S1024x4096 .bf16)
    (h : Shape.Concatenates [S8704x1024, S8704x1024, S8704x1024, S8704x1024] Cert.Reference2Ideal.S8704x4096 1) (h1 h2) :
    Host.dotGeneral (F := Ideal) Cert.Reference2Ideal.dot_S8704x4096_S1024x4096_S8704x1024_1_1_0_0_n_n none
        (extf (φ := .bf16) .f32 (concatenate Cert.Reference2Ideal.S8704x4096 1 [⟨S8704x1024, a0⟩, ⟨S8704x1024, a1⟩, ⟨S8704x1024, a2⟩, ⟨S8704x1024, a3⟩] h) h1)
        (extf (φ := .bf16) .f32 w h2) = G a0 a1 a2 a3 w := by
  refine ext2 (a := 8704) (b := 1024) _ _ fun i j hi hj => ?_
  refine (at2_dot_rhs (M := 8704) (K := 4096) (N := 1024) _ rfl none _ _ i j).trans ?_
  refine Eq.trans ?_ (at2_mk (a := 8704) (b := 1024) (fun i j => four (at2 (a := 8704) (b := 1024) a0) (at2 (a := 8704) (b := 1024) a1) (at2 (a := 8704) (b := 1024) a2)
    (at2 (a := 8704) (b := 1024) a3) (fun k j => at2 (a := 1024) (b := 4096) w j k) i j) i j hi hj).symm
  refine (cut_four _ _ i j).trans ?_
  unfold four
  refine congrArg₂ (· + ·) (congrArg₂ (· + ·) (congrArg₂ (· + ·) ?_ ?_) ?_) ?_
  · refine mul_congr (fun k hk => ?_) fun k hk => rfl
    exact (congrArg _ (Nat.zero_add k).symm).trans (at2_concat (a := 8704) (b := 1024) (n := 4096) (sides a0 a1 a2 a3) h 0 (by show 0 < 4; decide) a0 rfl 0 rfl i k hk (by omega))
  · exact mul_congr (fun k hk => at2_concat (a := 8704) (b := 1024) (n := 4096) (sides a0 a1 a2 a3) h 1 (by show 1 < 4; decide) a1 rfl 1024 rfl i k hk (by omega)) fun k hk => rfl
  · exact mul_congr (fun k hk => at2_concat (a := 8704) (b := 1024) (n := 4096) (sides a0 a1 a2 a3) h 2 (by show 2 < 4; decide) a2 rfl 2048 rfl i k hk (by omega)) fun k hk => rfl
  · exact mul_congr (fun k hk => at2_concat (a := 8704) (b := 1024) (n := 4096) (sides a0 a1 a2 a3) h 3 (by show 3 < 4; decide) a3 rfl 3072 rfl i k hk (by omega)) fun k hk => rfl

theorem agree : Cert.algebraic_Kernel2Ideal_Reference2Ideal := fun m ρ m' ρ' _ h => by
  refine ⟨fun c => G (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)), ?_, ?_⟩
  · exact (θ_run defs _ _).mono (fun r hr c => ⟨(hr c).1.trans (final m c), (hr c).2⟩) (Value.run_blocks m ρ)
  · refine (θ_run Cert.Reference2Ideal.defs _ _).mono (fun r hr c => ⟨(hr c).1.trans ?_, (hr c).2⟩) (Cert.Reference2Ideal.Value.run m' ρ')
    rw [(h c).1, (h c).2.1, (h c).2.2.1, (h c).2.2.2.1, (h c).2.2.2.2]
    exact reference _ _ _ _ _ _ _ _

theorem frame_reference : Cert.quiescent_Reference2Ideal := fun m ρ _ =>
  (θ_run Cert.Reference2Ideal.defs _ _).mono (fun r h => ⟨fun c => (h c).2, sem_eq_zero_of_no_sems rfl r.2⟩) (Cert.Reference2Ideal.Value.run m ρ)

end Cert.Kernel2Ideal.Product

end
-- ==== Proof.DWeight.lean ====
/-
  The gradient of a square projection in its weights: the transposed input times the gradient of the result, the 8704 rows taken 2176 at a time
  and accumulated in scratch. The kernel's program and the reference leave the sum over all rows.
-/
module

public import proofs.«01_k».proof.Defs
public import proofs.«01_k».proof.Proof.Products
public import proofs.«01_k».proof.Proof.Gen.Kernel3Ideal.Value
public import proofs.«01_k».proof.Proof.Gen.Reference3Ideal
public import proofs.«01_k».proof.Proof.Gen.Reference3Ideal.Run
public import Idealize.ShloMosaic.Lib.Quiescent

@[expose] public section

set_option maxRecDepth 16384

noncomputable section

namespace Cert.Kernel3Ideal.Product

open Cert.Kernel3Ideal Cert.Kernel3Ideal.Gen Cert.Products Idealize.ShloMosaic Idealize.ShloMosaic.TcCoe Idealize.SL.Sem

variable (m : (ℓ : Loc nD τ sig) → Buf (Elt Ideal) ℓ) (c : Dev nD)

theorem idx : ∀ t : Fin grid0.N, win0_0.index t = ![t.val % 4, 0] ∧ win0_1.index t = ![t.val % 4, t.val / 4] ∧ win0_2.index t = ![0, t.val / 4] := by
  decide +kernel

/-- The product of a point's blocks is over 2176 of the rows. -/
theorem part_eq (t : Fin cfg0.N) (y : S1024x1024.Idx) :
    mul 2176 (fun i k => at2 (a := 2176) (b := 1024) (iblk m c 0 t) k i) (at2 (a := 2176) (b := 1024) (iblk m c 1 t)) (y 0).val (y 1).val
      = part (at2 (a := 8704) (b := 1024) (m ((c : Thread nD τ).loc main_arg0))) (at2 (a := 8704) (b := 1024) (m ((c : Thread nD τ).loc main_arg1)))
        (1024 * (t.val / 4)) (t.val % 4) (y 0).val (y 1).val := by
  obtain ⟨e0, e1, -⟩ := idx t
  rw [← V_main_arg0 m c, ← V_main_arg1 m c]
  refine mul_congr (fun k hk => ?_) fun k hk => ?_
  · exact (at2_emb (a := 8704) (b := 1024) (s0 := 2176) (s1 := 1024) (V m c main_arg0) ((cfg0.win 0).blk t).view.emb (2176 * (t.val % 4)) 0
      (fun y => by constructor <;> blk_simp [e0] <;> omega) k _ hk (y 0).isLt).trans (by rw [Nat.zero_add])
  · exact at2_emb (a := 8704) (b := 1024) (s0 := 2176) (s1 := 1024) (V m c main_arg1) ((cfg0.win 1).blk t).view.emb (2176 * (t.val % 4)) (1024 * (t.val / 4))
      (fun y => by constructor <;> blk_simp [e1] <;> omega) k _ hk (y 1).isLt

/-- The accumulator after a point is the sum over the blocks of rows so far. -/
theorem acc_at (t : Fin cfg0.N) (y : S1024x1024.Idx) :
    (outsAt0 m c t.val t.isLt).2 y = 0 + ∑ s ∈ Finset.range (t.val % 4 + 1),
      part (at2 (a := 8704) (b := 1024) (m ((c : Thread nD τ).loc main_arg0))) (at2 (a := 8704) (b := 1024) (m ((c : Thread nD τ).loc main_arg1)))
        (1024 * (t.val / 4)) s (y 0).val (y 1).val := by
  refine Pipeline.eq_sum_of_reset_step_apply_divmod (fun n h => (outsAt0 m c n h).2) 4 (fun _ => (0 : EReal))
    (fun q s y => part (at2 (a := 8704) (b := 1024) (m ((c : Thread nD τ).loc main_arg0))) (at2 (a := 8704) (b := 1024) (m ((c : Thread nD τ).loc main_arg1)))
        (1024 * q) s (y 0).val (y 1).val) (fun t h y => ?_) (fun t h y => ?_) t y
  · rw [outsAt0_A m c t h (by omega)]; frame_out
    refine (accumulate (K := 2176) (M := 1024) (N := 1024) _ rfl (k0_pay1 (F := Ideal)) _ _ _ y).trans (congrArg₂ (· + ·) ?_ (part_eq m c t y))
    exact accumulate_start (M := 1024) (N := 1024) shapeCasts_S1024x1024_S1024x1024 y
  · by_cases h1 : t.val % 4 = 3
    · rw [outsAt0_C m c t h h1]; frame_out
      refine (accumulate (K := 2176) (M := 1024) (N := 1024) _ rfl _ _ _ _ y).trans (congrArg₂ (· + ·) ?_ (part_eq m c t y))
      exact congrFun ((Memref.isWhole_whole cc0_scratch0).read_unread _) y
    · rw [outsAt0_B m c t h h1]; frame_out
      refine (accumulate (K := 2176) (M := 1024) (N := 1024) _ rfl _ _ _ _ y).trans (congrArg₂ (· + ·) ?_ (part_eq m c t y))
      exact congrFun ((Memref.isWhole_whole cc0_scratch0).read_unread _) y

/-- The last point of a block of columns writes the accumulator back. -/
theorem out_at (t : Fin cfg0.N) (h : t.val % 4 = 3) (y : S1024x1024.Idx) : (outsAt0 m c t.val t.isLt).1 y = (outsAt0 m c t.val t.isLt).2 y := by
  rw [outsAt0_C m c t (by omega) h]; frame_out
  rfl

theorem final : (dats m 0 c).arrAt 2 cfg0.N = weightGradient (K := 8704) (M := 1024) (N := 1024) (m ((c : Thread nD τ).loc main_arg0)) (m ((c : Thread nD τ).loc main_arg1)) := by
  refine (dats m 0 c).arrAt_eq_of_covers 2 _ (by decide +kernel) fun t hf y => ?_
  have ht : t.val % 4 = 3 := (flush0_2 t).mp hf
  obtain ⟨-, -, e2⟩ := idx t
  blk_simp
  rw [after0_2, out_at m c t ht, acc_at, zero_add, ht, parts]
  have g0 : (((cfg0.win 2).blk t).view.emb y 0).val = (y 0).val := by blk_simp [e2]
  have g1 : (((cfg0.win 2).blk t).view.emb y 1).val = 1024 * (t.val / 4) + (y 1).val := by blk_simp [e2]; omega
  unfold weightGradient
  rw [g0, g1]

theorem agree : Cert.algebraic_Kernel3Ideal_Reference3Ideal := fun m ρ m' ρ' _ h => by
  refine ⟨fun c => weightGradient (K := 8704) (M := 1024) (N := 1024) (m ((c.tc : Thread nD τ).loc main_arg0)) (m ((c.tc : Thread nD τ).loc main_arg1)), ?_, ?_⟩
  · exact (θ_run defs _ _).mono (fun r hr c => ⟨(hr c).1.trans (final m c), (hr c).2⟩) (Value.run_blocks m ρ)
  · refine (θ_run Cert.Reference3Ideal.defs _ _).mono (fun r hr c => ⟨(hr c).1.trans ?_, (hr c).2⟩) (Cert.Reference3Ideal.Value.run m' ρ')
    rw [(h c).1, (h c).2]
    exact weightGradient_transposed (K := 8704) (M := 1024) (N := 1024) _ rfl _ _ _ _ _ _

theorem frame_reference : Cert.quiescent_Reference3Ideal := fun m ρ _ =>
  (θ_run Cert.Reference3Ideal.defs _ _).mono (fun r h => ⟨fun c => (h c).2, sem_eq_zero_of_no_sems rfl r.2⟩) (Cert.Reference3Ideal.Value.run m ρ)

end Cert.Kernel3Ideal.Product

end
-- ==== Proof.DWeight1536.lean ====
/-
  The same gradient for the 1536 columns of the state-space part of the first layer's input projection, taken in three blocks of 512 columns.
-/
module

public import proofs.«01_k».proof.Defs
public import proofs.«01_k».proof.Proof.Products
public import proofs.«01_k».proof.Proof.Gen.Kernel4Ideal.Value
public import proofs.«01_k».proof.Proof.Gen.Reference4Ideal
public import proofs.«01_k».proof.Proof.Gen.Reference4Ideal.Run
public import Idealize.ShloMosaic.Lib.Quiescent

@[expose] public section

set_option maxRecDepth 16384

noncomputable section

namespace Cert.Kernel4Ideal.Product

open Cert.Kernel4Ideal Cert.Kernel4Ideal.Gen Cert.Products Idealize.ShloMosaic Idealize.ShloMosaic.TcCoe Idealize.SL.Sem

variable (m : (ℓ : Loc nD τ sig) → Buf (Elt Ideal) ℓ) (c : Dev nD)

theorem idx : ∀ t : Fin grid0.N, win0_0.index t = ![t.val % 4, 0] ∧ win0_1.index t = ![t.val % 4, t.val / 4] ∧ win0_2.index t = ![0, t.val / 4] := by
  decide +kernel

/-- The product of a point's blocks is over 2176 of the rows. -/
theorem part_eq (t : Fin cfg0.N) (y : S1024x512.Idx) :
    mul 2176 (fun i k => at2 (a := 2176) (b := 1024) (iblk m c 0 t) k i) (at2 (a := 2176) (b := 512) (iblk m c 1 t)) (y 0).val (y 1).val
      = part (at2 (a := 8704) (b := 1024) (m ((c : Thread nD τ).loc main_arg0))) (at2 (a := 8704) (b := 1536) (m ((c : Thread nD τ).loc main_arg1)))
        (512 * (t.val / 4)) (t.val % 4) (y 0).val (y 1).val := by
  obtain ⟨e0, e1, -⟩ := idx t
  rw [← V_main_arg0 m c, ← V_main_arg1 m c]
  refine mul_congr (fun k hk => ?_) fun k hk => ?_
  · exact (at2_emb (a := 8704) (b := 1024) (s0 := 2176) (s1 := 1024) (V m c main_arg0) ((cfg0.win 0).blk t).view.emb (2176 * (t.val % 4)) 0
      (fun y => by constructor <;> blk_simp [e0] <;> omega) k _ hk (y 0).isLt).trans (by rw [Nat.zero_add])
  · exact at2_emb (a := 8704) (b := 1536) (s0 := 2176) (s1 := 512) (V m c main_arg1) ((cfg0.win 1).blk t).view.emb (2176 * (t.val % 4)) (512 * (t.val / 4))
      (fun y => by constructor <;> blk_simp [e1] <;> omega) k _ hk (y 1).isLt

/-- The accumulator after a point is the sum over the blocks of rows so far. -/
theorem acc_at (t : Fin cfg0.N) (y : S1024x512.Idx) :
    (outsAt0 m c t.val t.isLt).2 y = 0 + ∑ s ∈ Finset.range (t.val % 4 + 1),
      part (at2 (a := 8704) (b := 1024) (m ((c : Thread nD τ).loc main_arg0))) (at2 (a := 8704) (b := 1536) (m ((c : Thread nD τ).loc main_arg1)))
        (512 * (t.val / 4)) s (y 0).val (y 1).val := by
  refine Pipeline.eq_sum_of_reset_step_apply_divmod (fun n h => (outsAt0 m c n h).2) 4 (fun _ => (0 : EReal))
    (fun q s y => part (at2 (a := 8704) (b := 1024) (m ((c : Thread nD τ).loc main_arg0))) (at2 (a := 8704) (b := 1536) (m ((c : Thread nD τ).loc main_arg1)))
        (512 * q) s (y 0).val (y 1).val) (fun t h y => ?_) (fun t h y => ?_) t y
  · rw [outsAt0_A m c t h (by omega)]; frame_out
    refine (accumulate (K := 2176) (M := 1024) (N := 512) _ rfl (k0_pay1 (F := Ideal)) _ _ _ y).trans (congrArg₂ (· + ·) ?_ (part_eq m c t y))
    exact accumulate_start (M := 1024) (N := 512) shapeCasts_S1024x512_S1024x512 y
  · by_cases h1 : t.val % 4 = 3
    · rw [outsAt0_C m c t h h1]; frame_out
      refine (accumulate (K := 2176) (M := 1024) (N := 512) _ rfl _ _ _ _ y).trans (congrArg₂ (· + ·) ?_ (part_eq m c t y))
      exact congrFun ((Memref.isWhole_whole cc0_scratch0).read_unread _) y
    · rw [outsAt0_B m c t h h1]; frame_out
      refine (accumulate (K := 2176) (M := 1024) (N := 512) _ rfl _ _ _ _ y).trans (congrArg₂ (· + ·) ?_ (part_eq m c t y))
      exact congrFun ((Memref.isWhole_whole cc0_scratch0).read_unread _) y

/-- The last point of a block of columns writes the accumulator back. -/
theorem out_at (t : Fin cfg0.N) (h : t.val % 4 = 3) (y : S1024x512.Idx) : (outsAt0 m c t.val t.isLt).1 y = (outsAt0 m c t.val t.isLt).2 y := by
  rw [outsAt0_C m c t (by omega) h]; frame_out
  rfl

theorem final : (dats m 0 c).arrAt 2 cfg0.N = weightGradient (K := 8704) (M := 1024) (N := 1536) (m ((c : Thread nD τ).loc main_arg0)) (m ((c : Thread nD τ).loc main_arg1)) := by
  refine (dats m 0 c).arrAt_eq_of_covers 2 _ (by decide +kernel) fun t hf y => ?_
  have ht : t.val % 4 = 3 := (flush0_2 t).mp hf
  obtain ⟨-, -, e2⟩ := idx t
  blk_simp
  rw [after0_2, out_at m c t ht, acc_at, zero_add, ht, parts]
  have g0 : (((cfg0.win 2).blk t).view.emb y 0).val = (y 0).val := by blk_simp [e2]
  have g1 : (((cfg0.win 2).blk t).view.emb y 1).val = 512 * (t.val / 4) + (y 1).val := by blk_simp [e2]; omega
  unfold weightGradient
  rw [g0, g1]

theorem agree : Cert.algebraic_Kernel4Ideal_Reference4Ideal := fun m ρ m' ρ' _ h => by
  refine ⟨fun c => weightGradient (K := 8704) (M := 1024) (N := 1536) (m ((c.tc : Thread nD τ).loc main_arg0)) (m ((c.tc : Thread nD τ).loc main_arg1)), ?_, ?_⟩
  · exact (θ_run defs _ _).mono (fun r hr c => ⟨(hr c).1.trans (final m c), (hr c).2⟩) (Value.run_blocks m ρ)
  · refine (θ_run Cert.Reference4Ideal.defs _ _).mono (fun r hr c => ⟨(hr c).1.trans ?_, (hr c).2⟩) (Cert.Reference4Ideal.Value.run m' ρ')
    rw [(h c).1, (h c).2]
    exact weightGradient_transposed (K := 8704) (M := 1024) (N := 1536) _ rfl _ _ _ _ _ _

theorem frame_reference : Cert.quiescent_Reference4Ideal := fun m ρ _ =>
  (θ_run Cert.Reference4Ideal.defs _ _).mono (fun r h => ⟨fun c => (h c).2, sem_eq_zero_of_no_sems rfl r.2⟩) (Cert.Reference4Ideal.Value.run m ρ)

end Cert.Kernel4Ideal.Product

end
-- ==== Proof.Conv.lean ====
/-
  The gradient of a depthwise convolution over four tokens, read at an index: the kernel's blocks of 256 rows and 512 channels, with the rows after
  a block (for the gradient in the inputs) and before it (for the gradient in the weights) shifted in, and the sums over all rows. Rows are counted
  through the four sequences of 2176, of which the first 112 are padding with gradient zero.
-/
module

public import proofs.«01_k».proof.Proof.Products
public import Idealize.ShloMosaic.Lib.KernelVsHost
public import Idealize.ShloMosaic.Lib.IdealHost
public import Idealize.ShloMosaic.Lib.Pointwise.Reduce

@[expose] public section

set_option maxRecDepth 16384

noncomputable section

namespace Cert.Conv

open Cert.Products Idealize.ShloMosaic

/-! ## What is computed -/

section Spec
variable {c e : ℕ} [NeZero c] [NeZero e]

/-- The incoming gradient of row `n` in channel `j`: zero at a padding row, and after the last row. -/
def grad (dy : (⟨3, ![4, 2064, c]⟩ : Shape).Idx → EReal) (n j : ℕ) : EReal :=
  if n < 8704 ∧ 112 ≤ n % 2176 then dy (ValueIdx.ix3 (Fin.ofNat 4 (n / 2176)) (Fin.ofNat 2064 (n % 2176 - 112)) (Fin.ofNat c j)) else 0

theorem grad_pad (dy : (⟨3, ![4, 2064, c]⟩ : Shape).Idx → EReal) (n j : ℕ) (h : n % 2176 < 112) : grad dy n j = 0 :=
  if_neg fun h' => absurd h'.2 (by omega)

theorem grad_after (dy : (⟨3, ![4, 2064, c]⟩ : Shape).Idx → EReal) (n j : ℕ) (h : 8704 ≤ n) : grad dy n j = 0 :=
  if_neg fun h' => absurd h'.1 (by omega)

/-- The gradient in the inputs: a row goes into its own result and the three after it. -/
def inputs (dy : (⟨3, ![4, 2064, c]⟩ : Shape).Idx → EReal) (w : (⟨2, ![4, c]⟩ : Shape).Idx → EReal) (n j : ℕ) : EReal :=
  at2 w 3 j * grad dy n j + (at2 w 2 j * grad dy (n + 1) j + (at2 w 1 j * grad dy (n + 2) j + at2 w 0 j * grad dy (n + 3) j))

/-- The gradient in the weight of the row `d` before a result, the input's channels beginning at column `o`. -/
def weights (x : (⟨2, ![8704, e]⟩ : Shape).Idx → EReal) (o : ℕ) (dy : (⟨3, ![4, 2064, c]⟩ : Shape).Idx → EReal) (d j : ℕ) : EReal :=
  ∑ n ∈ Finset.range 8704, at2 x (n - d) (o + j) * grad dy n j

/-- The gradient in the bias. -/
def bias (dy : (⟨3, ![4, 2064, c]⟩ : Shape).Idx → EReal) (j : ℕ) : EReal := ∑ n ∈ Finset.range 8704, grad dy n j

/-- The gradient in the inputs, as an array. -/
def inputsOut (dy : (⟨3, ![4, 2064, c]⟩ : Shape).Idx → EReal) (w : (⟨2, ![4, c]⟩ : Shape).Idx → EReal) : (⟨2, ![8704, c]⟩ : Shape).Idx → EReal :=
  fun y => inputs dy w (y 0).val (y 1).val

/-- The gradient in the weights, as an array: the last row belongs to the row itself. -/
def weightsOut (x : (⟨2, ![8704, e]⟩ : Shape).Idx → EReal) (o : ℕ) (dy : (⟨3, ![4, 2064, c]⟩ : Shape).Idx → EReal) : (⟨2, ![4, c]⟩ : Shape).Idx → EReal :=
  fun y => weights x o dy (3 - (y 0).val) (y 1).val

/-- The gradient in the bias, as an array. -/
def biasOut (dy : (⟨3, ![4, 2064, c]⟩ : Shape).Idx → EReal) : (⟨2, ![1, c]⟩ : Shape).Idx → EReal := fun y => bias dy (y 1).val

/-- A sum over all rows, block of 256 by block. -/
theorem sum_blocks (f : ℕ → EReal) : ∀ n : ℕ, ∑ s ∈ Finset.range n, ∑ r ∈ Finset.range 256, f (256 * s + r) = ∑ k ∈ Finset.range (256 * n), f k
  | 0 => rfl
  | n + 1 => by rw [Finset.sum_range_succ, sum_blocks f n, Nat.mul_add, Nat.mul_one, Finset.sum_range_add]

/-- A sum over all rows, sequence by sequence. -/
theorem sum_sequences (f : ℕ → EReal) : ∑ p : Fin 4 × Fin 2176, f (2176 * p.1.val + p.2.val) = ∑ k ∈ Finset.range 8704, f k := by
  rw [Fintype.sum_prod_type]
  have h : ∀ s : Fin 4, ∑ t : Fin 2176, f (2176 * s.val + t.val) = ∑ t ∈ Finset.range 2176, f (2176 * s.val + t) :=
    fun s => sum_fin 2176 fun t => f (2176 * s.val + t)
  rw [Finset.sum_congr rfl fun s _ => h s, sum_fin 4 fun s => ∑ t ∈ Finset.range 2176, f (2176 * s + t)]
  simp only [Finset.sum_range_succ _ 3, Finset.sum_range_succ _ 2, Finset.sum_range_succ _ 1, Finset.sum_range_one]
  rw [show 8704 = 2176 + 2176 + 2176 + 2176 from rfl, Finset.sum_range_add, Finset.sum_range_add, Finset.sum_range_add]
  norm_num

end Spec

/-! ## A block's rows shifted -/

abbrev Blk : Shape := ⟨2, ![256, 512]⟩
abbrev Row : Shape := ⟨2, ![1, 512]⟩

theorem iotas : Blk.Iotas .tc 32 [0] := by decide
theorem rotates : Blk.Rotates 0 none := by decide
theorem same : Row.ShapeCasts Row := by decide
theorem broadcasts : Row.Broadcasts Blk := by decide
theorem reduces : Blk.Reduces [0] ⟨1, ![512]⟩ := by decide
theorem casts : (⟨1, ![512]⟩ : Shape).ShapeCasts Row := by decide

/-- A row over the whole block. -/
theorem broadcast_apply (x : FVec Ideal Row .f32) (y : Blk.Idx) : broadcastTo Blk x broadcasts y = at2 (a := 1) (b := 512) x 0 (y 1).val := by
  refine (broadcastTo_apply x broadcasts y (ValueIdx.ix2 (0 : Fin 1) (y 1)) ?_).trans (at2_of x _ _ _ rfl rfl)
  intro d
  match d with
  | ⟨0, _⟩ => rfl
  | ⟨1, _⟩ => rfl

/-- The rows of a block one up, the row after the block below them. -/
def up (last : FVec Ideal Row .f32) (a : FVec Ideal Blk .f32) : FVec Ideal Blk .f32 :=
  select (cmpi .eq (iota .tc Blk 32 [0] iotas) (broadcast Blk 255#32)) (broadcastTo Blk (shapeCast Row last same) broadcasts) (dynamicRotate 0 255#32 none a rotates)

/-- The rows of a block one down, the row before the block above them. -/
def down (first : FVec Ideal Row .f32) (a : FVec Ideal Blk .f32) : FVec Ideal Blk .f32 :=
  select (cmpi .eq (iota .tc Blk 32 [0] iotas) (broadcast Blk 0#32)) (broadcastTo Blk (shapeCast Row first same) broadcasts) (dynamicRotate 0 1#32 none a rotates)

theorem row_eq (y : Blk.Idx) (k : ℕ) (hk : k < 256) : cmpi .eq (iota .tc Blk 32 [0] iotas) (broadcast Blk (BitVec.ofNat 32 k)) y = 1#1 ↔ (y 0).val = k := by
  have hy : (y 0).val < 256 := (y 0).isLt
  show BitVec.ofBool (BitVec.ofNat 32 (0 * 256 + (y 0).val) == BitVec.ofNat 32 k) = 1#1 ↔ _
  rw [Nat.zero_mul, Nat.zero_add]
  constructor
  · intro h
    have e : (BitVec.ofNat 32 (y 0).val == BitVec.ofNat 32 k) = true := by
      cases hb : BitVec.ofNat 32 (y 0).val == BitVec.ofNat 32 k
      · rw [hb] at h; exact absurd h (by decide)
      · rfl
    have := congrArg BitVec.toNat (eq_of_beq e)
    simp only [BitVec.toNat_ofNat] at this
    omega
  · intro h; rw [h, beq_self_eq_true]; rfl

theorem up_apply (last : FVec Ideal Row .f32) (a : FVec Ideal Blk .f32) (G : ℕ → ℕ → EReal) (R : ℕ)
    (ha : ∀ y : Blk.Idx, a y = G (R + (y 0).val) (y 1).val) (hl : ∀ j, j < 512 → at2 (a := 1) (b := 512) last 0 j = G (R + 256) j) (y : Blk.Idx) :
    up last a y = G (R + (y 0).val + 1) (y 1).val := by
  have hy : (y 0).val < 256 := (y 0).isLt
  show (if _ = 1#1 then _ else _) = _
  by_cases h : (y 0).val = 255
  · rw [if_pos ((row_eq y 255 (by omega)).mpr h), broadcast_apply, at2_shapeCast, hl _ (y 1).isLt, h]
  · rw [if_neg fun e => h ((row_eq y 255 (by omega)).mp e)]
    rw [dynamicRotate_apply 0 255#32 a rotates y (ValueIdx.ix2 (⟨(y 0).val + 1, by omega⟩ : Fin 256) (y 1)) ?_, ha]
    · rfl
    · intro b
      match b with
      | ⟨0, _⟩ => show (y 0).val + 1 = ((y 0).val + 256 - 255 % 256) % 256; omega
      | ⟨1, _⟩ => rfl

/-- A block of the rows `d` before is shifted to one of the rows `d + 1` before; the first rows of all stay open. -/
theorem down_apply (first : FVec Ideal Row .f32) (a : FVec Ideal Blk .f32) (G : ℕ → ℕ → EReal) (R d : ℕ)
    (ha : ∀ y : Blk.Idx, d ≤ R + (y 0).val → a y = G (R + (y 0).val - d) (y 1).val)
    (hf : ∀ j, j < 512 → 0 < R → at2 (a := 1) (b := 512) first 0 j = G (R - (d + 1)) j) (y : Blk.Idx) (hd : d + 1 ≤ R + (y 0).val) :
    down first a y = G (R + (y 0).val - (d + 1)) (y 1).val := by
  have hy : (y 0).val < 256 := (y 0).isLt
  show (if _ = 1#1 then _ else _) = _
  by_cases h : (y 0).val = 0
  · rw [if_pos ((row_eq y 0 (by omega)).mpr h), broadcast_apply, at2_shapeCast, hf _ (y 1).isLt (by omega), h]; rfl
  · rw [if_neg fun e => h ((row_eq y 0 (by omega)).mp e)]
    rw [dynamicRotate_apply 0 1#32 a rotates y (ValueIdx.ix2 (⟨(y 0).val - 1, by omega⟩ : Fin 256) (y 1)) ?_, ha]
    · show G (R + ((y 0).val - 1) - d) (y 1).val = _
      congr 1; omega
    · show d ≤ R + ((y 0).val - 1); omega
    · intro b
      match b with
      | ⟨0, _⟩ => show (y 0).val - 1 = ((y 0).val + 256 - 1 % 256) % 256; omega
      | ⟨1, _⟩ => rfl

/-- The sum of a block's rows, as a row. -/
def total (v : FVec Ideal Blk .f32) : FVec Ideal Row .f32 :=
  shapeCast Row (multiReduction .add [0] ⟨1, ![512]⟩ v 0x00000000#32 reduces (.inl rfl) rfl) casts

theorem total_apply (v : FVec Ideal Blk .f32) (H : ℕ → ℕ → EReal) (hv : ∀ y : Blk.Idx, v y = H (y 0).val (y 1).val) (y : Row.Idx) :
    total v y = ∑ r ∈ Finset.range 256, H r (y 1).val := by
  have e : total v y = ∑ k : Fin 256, v (ValueIdx.ix2 k (y 1)) := by
    unfold total
    refine (shapeCast_addUnit_apply ![512] _ casts y).trans ?_
    exact Ideal.reduceAdd_r2_a0 reduces v _
  rw [e, Finset.sum_congr rfl fun k _ => hv (ValueIdx.ix2 k (y 1))]
  exact sum_fin 256 fun r => H r (y 1).val

/-- A row after a block, zero where there is none. -/
theorem next_row (b : BitVec 1) (r : FVec Ideal Row .f32) (j : ℕ) :
    at2 (a := 1) (b := 512) (Scalar.select b (broadcast Row (Scalar.ofBits .f32 0x00000000#32 : Ideal .f32)) (shapeCast Row r same)) 0 j
      = if b = 1#1 then (0 : EReal) else at2 (a := 1) (b := 512) r 0 j := by
  by_cases h : b = 1#1
  · rw [if_pos h, h]; exact Ideal.ofBits_zero_f32
  · rw [if_neg h]
    unfold Scalar.select
    rw [if_neg (show ¬ b = 1 from h), at2_shapeCast]

/-- The block of the gradient in the inputs, from the block of gradients, the three rows after it and the weights. -/
def block (w0 w1 w2 w3 a0 a1 a2 : FVec Ideal Row .f32) (d : FVec Ideal Blk .f32) : FVec Ideal Blk .f32 :=
  addf (mulf (broadcastTo Blk w3 broadcasts) d)
    (up (addf (addf (addf (broadcast Row (Scalar.ofBits .f32 0x00000000#32)) (mulf w2 a0)) (mulf w1 a1)) (mulf w0 a2))
      (addf (mulf (broadcastTo Blk w2 broadcasts) d)
        (up (addf (addf (broadcast Row (Scalar.ofBits .f32 0x00000000#32)) (mulf w1 a0)) (mulf w0 a1))
          (addf (mulf (broadcastTo Blk w1 broadcasts) d) (up (mulf w0 a0) (mulf (broadcastTo Blk w0 broadcasts) d))))))

theorem block_apply (w0 w1 w2 w3 a0 a1 a2 : FVec Ideal Row .f32) (d : FVec Ideal Blk .f32) (W D : ℕ → ℕ → EReal) (R : ℕ)
    (hw : ∀ j, j < 512 → at2 (a := 1) (b := 512) w0 0 j = W 0 j ∧ at2 (a := 1) (b := 512) w1 0 j = W 1 j ∧ at2 (a := 1) (b := 512) w2 0 j = W 2 j
      ∧ at2 (a := 1) (b := 512) w3 0 j = W 3 j)
    (ha : ∀ j, j < 512 → at2 (a := 1) (b := 512) a0 0 j = D (R + 256) j ∧ at2 (a := 1) (b := 512) a1 0 j = D (R + 257) j
      ∧ at2 (a := 1) (b := 512) a2 0 j = D (R + 258) j)
    (hd : ∀ y : Blk.Idx, d y = D (R + (y 0).val) (y 1).val) (y : Blk.Idx) :
    block w0 w1 w2 w3 a0 a1 a2 d y = W 3 (y 1).val * D (R + (y 0).val) (y 1).val + (W 2 (y 1).val * D (R + (y 0).val + 1) (y 1).val
      + (W 1 (y 1).val * D (R + (y 0).val + 2) (y 1).val + W 0 (y 1).val * D (R + (y 0).val + 3) (y 1).val)) := by
  have z : (Scalar.ofBits .f32 0x00000000#32 : Ideal .f32) = (0 : EReal) := Ideal.ofBits_zero_f32
  have m : ∀ (w : FVec Ideal Row .f32) (k : ℕ), (∀ j, j < 512 → at2 (a := 1) (b := 512) w 0 j = W k j) →
      ∀ y : Blk.Idx, mulf (broadcastTo Blk w broadcasts) d y = W k (y 1).val * D (R + (y 0).val) (y 1).val := fun w k h y => by
    show broadcastTo Blk w broadcasts y * d y = _
    rw [broadcast_apply, h _ (y 1).isLt, hd]
  have u0 := up_apply (mulf w0 a0) (mulf (broadcastTo Blk w0 broadcasts) d) (fun n j => W 0 j * D n j) R (m w0 0 fun j h => (hw j h).1)
    fun j h => by show at2 (a := 1) (b := 512) w0 0 j * at2 (a := 1) (b := 512) a0 0 j = _; rw [(hw j h).1, (ha j h).1]
  have u1 := up_apply (addf (addf (broadcast Row (Scalar.ofBits .f32 0x00000000#32)) (mulf w1 a0)) (mulf w0 a1))
    (addf (mulf (broadcastTo Blk w1 broadcasts) d) (up (mulf w0 a0) (mulf (broadcastTo Blk w0 broadcasts) d)))
    (fun n j => W 1 j * D n j + W 0 j * D (n + 1) j) R (fun y => by
      show mulf (broadcastTo Blk w1 broadcasts) d y + up _ _ y = _
      rw [m w1 1 (fun j h => (hw j h).2.1), u0]) fun j h => by
      show ((Scalar.ofBits .f32 0x00000000#32 : Ideal .f32) + at2 (a := 1) (b := 512) w1 0 j * at2 (a := 1) (b := 512) a0 0 j
        + at2 (a := 1) (b := 512) w0 0 j * at2 (a := 1) (b := 512) a1 0 j : EReal) = _
      rw [z, zero_add, (hw j h).1, (hw j h).2.1, (ha j h).1, (ha j h).2.1]
  have u2 := up_apply (addf (addf (addf (broadcast Row (Scalar.ofBits .f32 0x00000000#32)) (mulf w2 a0)) (mulf w1 a1)) (mulf w0 a2))
    (addf (mulf (broadcastTo Blk w2 broadcasts) d)
        (up (addf (addf (broadcast Row (Scalar.ofBits .f32 0x00000000#32)) (mulf w1 a0)) (mulf w0 a1))
          (addf (mulf (broadcastTo Blk w1 broadcasts) d) (up (mulf w0 a0) (mulf (broadcastTo Blk w0 broadcasts) d)))))
    (fun n j => W 2 j * D n j + (W 1 j * D (n + 1) j + W 0 j * D (n + 2) j)) R (fun y => by
      show mulf (broadcastTo Blk w2 broadcasts) d y + up _ _ y = _
      rw [m w2 2 (fun j h => (hw j h).2.2.1), u1]) fun j h => by
      show ((Scalar.ofBits .f32 0x00000000#32 : Ideal .f32) + at2 (a := 1) (b := 512) w2 0 j * at2 (a := 1) (b := 512) a0 0 j
        + at2 (a := 1) (b := 512) w1 0 j * at2 (a := 1) (b := 512) a1 0 j + at2 (a := 1) (b := 512) w0 0 j * at2 (a := 1) (b := 512) a2 0 j : EReal) = _
      rw [z, zero_add, (hw j h).1, (hw j h).2.1, (hw j h).2.2.1, (ha j h).1, (ha j h).2.1, (ha j h).2.2, add_assoc]
  show mulf (broadcastTo Blk w3 broadcasts) d y + up _ _ y = _
  rw [m w3 3 (fun j h => (hw j h).2.2.2), u2]

end Cert.Conv

end
-- ==== Proof.ConvRef.lean ====
/-
  The gradient of the depthwise convolution as the reference computes it, read at an index, for any number `c` of channels that begin at column `o` of
  the projected inputs: the incoming gradient after the padding, the inputs after three zero rows of each sequence, the sums over all rows, the rows of
  the gradient in the weights put one above the other, and the four shifted products of the gradient in the inputs.
-/
module

public import proofs.«01_k».proof.Proof.Conv

@[expose] public section

set_option maxRecDepth 16384

noncomputable section

namespace Cert.Conv

open Cert.Products Idealize.ShloMosaic
open Idealize.ShloMosaic.ValueIdx (broadcastInDim_scalar_apply hostReduceAdd_apply)

/-- The shape of `n` rows of `c` channels in each of the four sequences. -/
abbrev Seq (n c : ℕ) : Shape := ⟨3, ![4, n, c]⟩
abbrev Scal : Shape := ⟨0, ![]⟩

variable {c e : ℕ} [NeZero c] [NeZero e]

theorem zeros_apply {t : Shape} (h : Scal.BroadcastsInDim t ![]) (y : t.Idx) :
    broadcastInDim t ![] h (constant Scal .f32 0x00000000#32 : FVec Ideal Scal .f32) y = (0 : EReal) :=
  (broadcastInDim_scalar_apply h _ y).trans Ideal.ofBits_zero_f32

section Fiber
variable {n0 n1 n2 : ℕ} {t : Shape}

theorem lt_first (h : (⟨3, ![n0, n1, n2]⟩ : Shape).ReducesTo [0, 1] t) : 0 < t.rank := by rw [h.1]; exact Nat.one_pos

theorem size_first (h : (⟨3, ![n0, n1, n2]⟩ : Shape).ReducesTo [0, 1] t) : t.size ⟨0, lt_first h⟩ = n2 := h.2 ⟨0, lt_first h⟩

/-- The indices whose first two coordinates are dropped to `j`. -/
theorem drop_iff (h : (⟨3, ![n0, n1, n2]⟩ : Shape).ReducesTo [0, 1] t) (j : t.Idx) (i : (⟨3, ![n0, n1, n2]⟩ : Shape).Idx) :
    h.drop i = j ↔ ∃ p : Fin n0 × Fin n1, ValueIdx.ix3 p.1 p.2 ⟨(j ⟨0, lt_first h⟩).val, Shape.coordLt (j ⟨0, lt_first h⟩) (size_first h)⟩ = i := by
  constructor
  · intro q
    refine ⟨(i 0, i 1), ?_⟩
    funext a; apply Fin.ext
    match a with
    | ⟨0, _⟩ => rfl
    | ⟨1, _⟩ => rfl
    | ⟨2, _⟩ => exact (congrArg Fin.val (congrFun q ⟨0, lt_first h⟩)).symm
  · rintro ⟨p, rfl⟩
    funext b
    apply Fin.ext
    match b with
    | ⟨0, _⟩ => rfl
    | ⟨n + 1, hn⟩ => exact absurd hn (by have e : t.rank = 1 := h.1; omega)

/-- A sum over the first two coordinates. -/
theorem sum_drop (h : (⟨3, ![n0, n1, n2]⟩ : Shape).ReducesTo [0, 1] t) (j : t.Idx) (v : (⟨3, ![n0, n1, n2]⟩ : Shape).Idx → EReal) :
    ∑ i ∈ Finset.univ.filter (fun i => h.drop i = j), v i
      = ∑ p : Fin n0 × Fin n1, v (ValueIdx.ix3 p.1 p.2 ⟨(j ⟨0, lt_first h⟩).val, Shape.coordLt (j ⟨0, lt_first h⟩) (size_first h)⟩) :=
  Finset.sum_filter_eq_sum_of_fiber _
    (fun p : Fin n0 × Fin n1 => ValueIdx.ix3 p.1 p.2 ⟨(j ⟨0, lt_first h⟩).val, Shape.coordLt (j ⟨0, lt_first h⟩) (size_first h)⟩)
    (fun _ _ q => Prod.ext (congrFun q 0) (congrFun q 1)) (drop_iff h j) v

end Fiber

/-- A row summed over sequences and rows, through the shapes the reference gives it. -/
theorem row_apply (h : (Seq 2176 c).ReducesTo [0, 1] ⟨1, ![c]⟩) (h' : (⟨3, ![1, 1, c]⟩ : Shape).ReducesTo [0, 1] ⟨1, ![c]⟩) (hu : 0 < Scal.numel)
    (hc : (⟨1, ![c]⟩ : Shape).ShapeCasts ⟨3, ![1, 1, c]⟩) (hb : (⟨1, ![c]⟩ : Shape).BroadcastsInDim ⟨2, ![1, c]⟩ ![1])
    (v : FVec Ideal (Seq 2176 c) .f32) (f : ℕ → ℕ → EReal) (hv : ∀ i, v i = f (2176 * (i 0).val + (i 1).val) (i 2).val)
    (y : (⟨2, ![1, c]⟩ : Shape).Idx) :
    broadcastInDim ⟨2, ![1, c]⟩ ![1] hb (Host.reduceAdd (shapeCast _ (Host.reduceAdd v (constant Scal .f32 0x00000000#32) h hu) hc)
      (constant Scal .f32 0x00000000#32) h' hu) y = ∑ n ∈ Finset.range 8704, f n (y 1).val := by
  have z : (constant Scal .f32 0x00000000#32 : FVec Ideal Scal .f32) (Shape.Idx.first hu) = (0 : EReal) := Ideal.ofBits_zero_f32
  have hy : (y 1).val < c := (y 1).isLt
  refine (broadcastInDim_apply ![1] hb _ y (ValueIdx.ix1 (⟨(y 1).val, hy⟩ : Fin c)) fun a => ?_).trans ?_
  · match a with
    | ⟨0, _⟩ =>
      show (y 1).val = if c = 1 then 0 else (y 1).val
      by_cases h1 : c = 1
      · rw [if_pos h1]; omega
      · rw [if_neg h1]
  · rw [hostReduceAdd_apply, z]
    unfold Ideal.hostReduceAdd
    rw [sum_drop, zero_add, Fintype.sum_prod_type, Fin.sum_univ_one, Fin.sum_univ_one]
    refine (shapeCast_apply _ hc _ (ValueIdx.ix1 (⟨(y 1).val, hy⟩ : Fin c)) ?_).trans ?_
    · rw [rowMajor_val1, rowMajor_val3 _ (1 * c) c rfl rfl]
      show (y 1).val = 0 * (1 * c) + 0 * c + (y 1).val
      omega
    · rw [hostReduceAdd_apply, z]
      unfold Ideal.hostReduceAdd
      rw [sum_drop, zero_add, ← sum_sequences fun n => f n (y 1).val]
      exact Finset.sum_congr rfl fun p _ => hv _

section Reads
variable (dy : FVec Ideal (Seq 2064 c) .f32)

/-- The incoming gradient after the padding of its sequence. -/
theorem padded_apply (hb : Scal.BroadcastsInDim (Seq 112 c) ![]) (h : Shape.Concatenates [Seq 112 c, Seq 2064 c] (Seq 2176 c) 1) (i : (Seq 2176 c).Idx) :
    concatenate (Seq 2176 c) 1 [⟨Seq 112 c, broadcastInDim (Seq 112 c) ![] hb (constant Scal .f32 0x00000000#32)⟩, ⟨Seq 2064 c, dy⟩] h i
      = grad dy (2176 * (i 0).val + (i 1).val) (i 2).val := by
  have h0 : (i 0).val < 4 := (i 0).isLt
  have h1 : (i 1).val < 2176 := (i 1).isLt
  have h2 : (i 2).val < c := (i 2).isLt
  by_cases hp : (i 1).val < 112
  · rw [grad_pad _ _ _ (by omega)]
    refine (concatenate_pair_apply_left 1 _ _ h i rfl (ValueIdx.ix3 (i 0) (⟨(i 1).val, hp⟩ : Fin 112) (i 2)) fun b => ?_).trans (zeros_apply hb _)
    match b with
    | ⟨0, _⟩ => rfl
    | ⟨1, _⟩ => rfl
    | ⟨2, _⟩ => rfl
  · refine (concatenate_pair_apply_right 1 _ _ h i rfl rfl (ValueIdx.ix3 (i 0) (⟨(i 1).val - 112, by omega⟩ : Fin 2064) (i 2)) (fun b hb => ?_) ?_).trans ?_
    · match b, hb with
      | ⟨0, _⟩, _ => rfl
      | ⟨1, _⟩, hb => exact absurd rfl hb
      | ⟨2, _⟩, _ => rfl
    · show (i 1).val - 112 + 112 = (i 1).val
      omega
    · unfold grad
      rw [if_pos (by omega), show (2176 * (i 0).val + (i 1).val) / 2176 = (i 0).val by omega, show (2176 * (i 0).val + (i 1).val) % 2176 = (i 1).val by omega]
      refine congrArg dy (funext fun b => Fin.ext ?_)
      match b with
      | ⟨0, _⟩ => exact (Nat.mod_eq_of_lt h0).symm
      | ⟨1, _⟩ => show (i 1).val - 112 = ((i 1).val - 112) % 2064; omega
      | ⟨2, _⟩ => exact (Nat.mod_eq_of_lt h2).symm

/-- The same with the sequences one after the other. -/
theorem padded_rows (hb : Scal.BroadcastsInDim (Seq 112 c) ![]) (h : Shape.Concatenates [Seq 112 c, Seq 2064 c] (Seq 2176 c) 1)
    (hs : (Seq 2176 c).ShapeCasts ⟨2, ![8704, c]⟩) (y : (⟨2, ![8704, c]⟩ : Shape).Idx) :
    shapeCast ⟨2, ![8704, c]⟩ (concatenate (Seq 2176 c) 1 [⟨Seq 112 c, broadcastInDim (Seq 112 c) ![] hb (constant Scal .f32 0x00000000#32)⟩,
      ⟨Seq 2064 c, dy⟩] h) hs y = grad dy (y 0).val (y 1).val := by
  have h0 : (y 0).val < 8704 := (y 0).isLt
  rw [shapeCast_apply _ hs y (ValueIdx.ix3 (⟨(y 0).val / 2176, by omega⟩ : Fin 4) (⟨(y 0).val % 2176, by omega⟩ : Fin 2176) (y 1)) (by
    rw [rowMajor_val2 _ c rfl, rowMajor_val3 _ (2176 * c) c rfl rfl]
    show (y 0).val / 2176 * (2176 * c) + (y 0).val % 2176 * c + (y 1).val = (y 0).val * c + (y 1).val
    rw [← Nat.mul_assoc, ← Nat.add_mul, Nat.div_add_mod']), padded_apply]
  show grad dy (2176 * ((y 0).val / 2176) + (y 0).val % 2176) (y 1).val = _
  rw [Nat.div_add_mod]

/-- The inputs after three zero rows of each sequence, cut to the rows from `k`. -/
theorem shifted_apply (x : FVec Ideal ⟨2, ![8704, e]⟩ .f32) (o k : ℕ) (hk : k ≤ 3) (hoe : o + c ≤ e) (hb : Scal.BroadcastsInDim (Seq 3 c) ![])
    (hx : (⟨2, ![8704, e]⟩ : Shape).Slices ![0, o] ⟨2, ![8704, c]⟩) (hs : (⟨2, ![8704, c]⟩ : Shape).ShapeCasts (Seq 2176 c))
    (h : Shape.Concatenates [Seq 3 c, Seq 2176 c] (Seq 2179 c) 1) (hk' : (Seq 2179 c).Slices ![0, k, 0] (Seq 2176 c)) (i : (Seq 2176 c).Idx)
    (hi : 3 ≤ (i 1).val) :
    extractStridedSlice (Seq 2176 c) ![0, k, 0] (concatenate (Seq 2179 c) 1 [⟨Seq 3 c, broadcastInDim (Seq 3 c) ![] hb (constant Scal .f32 0x00000000#32)⟩,
      ⟨Seq 2176 c, shapeCast (Seq 2176 c) (extractStridedSlice ⟨2, ![8704, c]⟩ ![0, o] x hx) hs⟩] h) hk' i
      = at2 x (2176 * (i 0).val + (i 1).val - (3 - k)) (o + (i 2).val) := by
  have h0 : (i 0).val < 4 := (i 0).isLt
  have h1 : (i 1).val < 2176 := (i 1).isLt
  have h2 : (i 2).val < c := (i 2).isLt
  refine (extractStridedSlice_apply ![0, k, 0] _ hk' i (ValueIdx.ix3 (i 0) (⟨k + (i 1).val, by omega⟩ : Fin 2179) (i 2)) fun a => ?_).trans ?_
  · match a with
    | ⟨0, _⟩ => exact (Nat.zero_add _).symm
    | ⟨1, _⟩ => rfl
    | ⟨2, _⟩ => exact (Nat.zero_add _).symm
  refine (concatenate_pair_apply_right 1 _ _ h _ rfl rfl (ValueIdx.ix3 (i 0) (⟨k + (i 1).val - 3, by omega⟩ : Fin 2176) (i 2)) (fun b hb => ?_) ?_).trans ?_
  · match b, hb with
    | ⟨0, _⟩, _ => rfl
    | ⟨1, _⟩, hb => exact absurd rfl hb
    | ⟨2, _⟩, _ => rfl
  · show k + (i 1).val - 3 + 3 = k + (i 1).val
    omega
  · rw [shapeCast_apply _ hs _ (ValueIdx.ix2 (⟨2176 * (i 0).val + (i 1).val - (3 - k), by omega⟩ : Fin 8704) (i 2)) (by
      rw [rowMajor_val2 _ c rfl, rowMajor_val3 _ (2176 * c) c rfl rfl]
      show (2176 * (i 0).val + (i 1).val - (3 - k)) * c + (i 2).val = (i 0).val * (2176 * c) + (k + (i 1).val - 3) * c + (i 2).val
      rw [← Nat.mul_assoc, ← Nat.add_mul, show 2176 * (i 0).val + (i 1).val - (3 - k) = (i 0).val * 2176 + (k + (i 1).val - 3) by omega])]
    unfold at2
    refine extractStridedSlice_apply _ x hx _ _ fun a => ?_
    match a with
    | ⟨0, _⟩ =>
      show (2176 * (i 0).val + (i 1).val - (3 - k)) % 8704 = 0 + (2176 * (i 0).val + (i 1).val - (3 - k))
      omega
    | ⟨1, _⟩ => exact Nat.mod_eq_of_lt (by omega)

/-- A row put at row `k` of four. -/
theorem placed_apply (r : FVec Ideal ⟨2, ![1, c]⟩ .f32) (lo hi : ℕ) (h : (⟨2, ![1, c]⟩ : Shape).Pads ![lo, 0] ![hi, 0] ![0, 0] ⟨2, ![4, c]⟩)
    (hu : 0 < Scal.numel) (y : (⟨2, ![4, c]⟩ : Shape).Idx) :
    pad ⟨2, ![4, c]⟩ ![lo, 0] ![hi, 0] ![0, 0] r (constant Scal .f32 0x00000000#32 : FVec Ideal Scal .f32) h hu y
      = if (y 0).val = lo then r (ValueIdx.ix2 (0 : Fin 1) (y 1)) else (0 : EReal) := by
  by_cases hl : (y 0).val = lo
  · rw [if_pos hl]
    refine pad_apply_of_inside _ _ _ r _ h hu y _ fun a => ?_
    match a with
    | ⟨0, _⟩ => exact hl
    | ⟨1, _⟩ => show (y 1).val = 0 + (y 1).val * (0 + 1); omega
  · rw [if_neg hl]
    refine (pad_apply_of_not_inside _ _ _ r _ h hu y (0 : Fin 2) fun hin => hl ?_).trans Ideal.ofBits_zero_f32
    have e1 : lo ≤ (y 0).val := hin.1
    have e2 : ((y 0).val - lo) / (0 + 1) < 1 := hin.2.2
    omega

/-- The gradient times the weight of row `k`, moved `k` rows down among 2179. -/
theorem moved_apply (w : FVec Ideal ⟨2, ![4, c]⟩ .f32) (k hi : ℕ) (hk : k + hi = 3) (hb : Scal.BroadcastsInDim (Seq 112 c) ![])
    (h : Shape.Concatenates [Seq 112 c, Seq 2064 c] (Seq 2176 c) 1) (hw : (⟨2, ![4, c]⟩ : Shape).Slices ![k, 0] ⟨2, ![1, c]⟩)
    (h1 : (⟨2, ![1, c]⟩ : Shape).BroadcastsInDim ⟨3, ![1, 1, c]⟩ ![1, 2]) (h2 : (⟨3, ![1, 1, c]⟩ : Shape).BroadcastsInDim (Seq 2176 c) ![0, 1, 2])
    (hp : (Seq 2176 c).Pads ![0, k, 0] ![0, hi, 0] ![0, 0, 0] (Seq 2179 c)) (hu : 0 < Scal.numel) (i : (Seq 2179 c).Idx) (hi3 : 3 ≤ (i 1).val) :
    pad (Seq 2179 c) ![0, k, 0] ![0, hi, 0] ![0, 0, 0]
      (mulf (concatenate (Seq 2176 c) 1 [⟨Seq 112 c, broadcastInDim (Seq 112 c) ![] hb (constant Scal .f32 0x00000000#32)⟩, ⟨Seq 2064 c, dy⟩] h)
        (broadcastInDim (Seq 2176 c) ![0, 1, 2] h2 (broadcastInDim ⟨3, ![1, 1, c]⟩ ![1, 2] h1 (extractStridedSlice ⟨2, ![1, c]⟩ ![k, 0] w hw))))
      (constant Scal .f32 0x00000000#32 : FVec Ideal Scal .f32) hp hu i
      = at2 w k (i 2).val * grad dy (2176 * (i 0).val + (i 1).val - 3 + hi) (i 2).val := by
  have l0 : (i 0).val < 4 := (i 0).isLt
  have l1 : (i 1).val < 2179 := (i 1).isLt
  have l2 : (i 2).val < c := (i 2).isLt
  by_cases hin : (i 1).val - k < 2176
  · refine (pad_apply_of_inside _ _ _ _ _ hp hu i (ValueIdx.ix3 (i 0) (⟨(i 1).val - k, hin⟩ : Fin 2176) (i 2)) fun a => ?_).trans ?_
    · match a with
      | ⟨0, _⟩ => show (i 0).val = 0 + (i 0).val * (0 + 1); omega
      | ⟨1, _⟩ => show (i 1).val = k + ((i 1).val - k) * (0 + 1); omega
      | ⟨2, _⟩ => show (i 2).val = 0 + (i 2).val * (0 + 1); omega
    · show concatenate _ _ _ _ _ * broadcastInDim _ _ _ _ _ = (_ : EReal)
      rw [padded_apply, mul_comm]
      congr 1
      · have cc : ∀ n : ℕ, n < c → n = if c = 1 then 0 else n := fun n hn => by
          by_cases h1 : c = 1
          · rw [if_pos h1]; omega
          · rw [if_neg h1]
        refine (broadcastInDim_apply ![0, 1, 2] h2 _ _ (ValueIdx.ix3 (0 : Fin 1) (0 : Fin 1) (i 2)) fun a => ?_).trans
          ((broadcastInDim_apply ![1, 2] h1 _ _ (ValueIdx.ix2 (0 : Fin 1) (i 2)) fun a => ?_).trans
            (extractStridedSlice_apply _ w hw _ _ fun a => ?_))
        · match a with
          | ⟨0, _⟩ => rfl
          | ⟨1, _⟩ => rfl
          | ⟨2, _⟩ => exact cc _ l2
        · match a with
          | ⟨0, _⟩ => rfl
          | ⟨1, _⟩ => exact cc _ l2
        · match a with
          | ⟨0, _⟩ => show k % 4 = k + 0; omega
          | ⟨1, _⟩ => show (i 2).val % c = 0 + (i 2).val; rw [Nat.mod_eq_of_lt l2, Nat.zero_add]
      · show grad dy (2176 * (i 0).val + ((i 1).val - k)) (i 2).val = _
        congr 1; omega
  · refine (pad_apply_of_not_inside _ _ _ _ _ hp hu i (1 : Fin 3) fun hq => hin ?_).trans ?_
    · have := hq.2.2
      have e : ((i 1).val - k) / (0 + 1) < 2176 := this
      omega
    · refine Ideal.ofBits_zero_f32.trans ?_
      by_cases hl : (i 0).val < 3
      · rw [grad_pad _ _ _ (by omega), mul_zero]
      · rw [grad_after _ _ _ (by omega), mul_zero]

/-- The gradient in the weight of the row `d` before, as a sum over sequences and rows. -/
theorem weights_apply (x : FVec Ideal ⟨2, ![8704, e]⟩ .f32) (o k d : ℕ) (hk : k + d = 3) (hoe : o + c ≤ e) (hb : Scal.BroadcastsInDim (Seq 3 c) ![])
    (hx : (⟨2, ![8704, e]⟩ : Shape).Slices ![0, o] ⟨2, ![8704, c]⟩) (hs : (⟨2, ![8704, c]⟩ : Shape).ShapeCasts (Seq 2176 c))
    (hc : Shape.Concatenates [Seq 3 c, Seq 2176 c] (Seq 2179 c) 1) (hk' : (Seq 2179 c).Slices ![0, k, 0] (Seq 2176 c))
    (hb' : Scal.BroadcastsInDim (Seq 112 c) ![]) (hc' : Shape.Concatenates [Seq 112 c, Seq 2064 c] (Seq 2176 c) 1) (i : (Seq 2176 c).Idx) :
    mulf (extractStridedSlice (Seq 2176 c) ![0, k, 0] (concatenate (Seq 2179 c) 1
        [⟨Seq 3 c, broadcastInDim (Seq 3 c) ![] hb (constant Scal .f32 0x00000000#32)⟩,
          ⟨Seq 2176 c, shapeCast (Seq 2176 c) (extractStridedSlice ⟨2, ![8704, c]⟩ ![0, o] x hx) hs⟩] hc) hk')
      (concatenate (Seq 2176 c) 1 [⟨Seq 112 c, broadcastInDim (Seq 112 c) ![] hb' (constant Scal .f32 0x00000000#32)⟩, ⟨Seq 2064 c, dy⟩] hc') i
      = at2 x (2176 * (i 0).val + (i 1).val - d) (o + (i 2).val) * grad dy (2176 * (i 0).val + (i 1).val) (i 2).val := by
  have h1 : (i 1).val < 2176 := (i 1).isLt
  show extractStridedSlice _ _ _ _ _ * concatenate _ _ _ _ _ = (_ : EReal)
  rw [padded_apply]
  by_cases hi : 3 ≤ (i 1).val
  · rw [shifted_apply x o k (by omega) hoe hb hx hs hc hk' i hi, show 3 - k = d by omega]
  · rw [grad_pad _ _ _ (by omega), mul_zero, mul_zero]

/-- The row of the gradient in one weight. -/
theorem weight_row (x : FVec Ideal ⟨2, ![8704, e]⟩ .f32) (o k d : ℕ) (hk : k + d = 3) (hoe : o + c ≤ e) (hb : Scal.BroadcastsInDim (Seq 3 c) ![])
    (hx : (⟨2, ![8704, e]⟩ : Shape).Slices ![0, o] ⟨2, ![8704, c]⟩) (hs : (⟨2, ![8704, c]⟩ : Shape).ShapeCasts (Seq 2176 c))
    (hc : Shape.Concatenates [Seq 3 c, Seq 2176 c] (Seq 2179 c) 1) (hk' : (Seq 2179 c).Slices ![0, k, 0] (Seq 2176 c))
    (hb' : Scal.BroadcastsInDim (Seq 112 c) ![]) (hc' : Shape.Concatenates [Seq 112 c, Seq 2064 c] (Seq 2176 c) 1)
    (h : (Seq 2176 c).ReducesTo [0, 1] ⟨1, ![c]⟩) (h' : (⟨3, ![1, 1, c]⟩ : Shape).ReducesTo [0, 1] ⟨1, ![c]⟩) (hu : 0 < Scal.numel)
    (hr : (⟨1, ![c]⟩ : Shape).ShapeCasts ⟨3, ![1, 1, c]⟩) (hd : (⟨1, ![c]⟩ : Shape).BroadcastsInDim ⟨2, ![1, c]⟩ ![1]) (y : (⟨2, ![1, c]⟩ : Shape).Idx) :
    broadcastInDim ⟨2, ![1, c]⟩ ![1] hd (Host.reduceAdd (shapeCast _ (Host.reduceAdd
      (mulf (extractStridedSlice (Seq 2176 c) ![0, k, 0] (concatenate (Seq 2179 c) 1
          [⟨Seq 3 c, broadcastInDim (Seq 3 c) ![] hb (constant Scal .f32 0x00000000#32)⟩,
            ⟨Seq 2176 c, shapeCast (Seq 2176 c) (extractStridedSlice ⟨2, ![8704, c]⟩ ![0, o] x hx) hs⟩] hc) hk')
        (concatenate (Seq 2176 c) 1 [⟨Seq 112 c, broadcastInDim (Seq 112 c) ![] hb' (constant Scal .f32 0x00000000#32)⟩, ⟨Seq 2064 c, dy⟩] hc'))
      (constant Scal .f32 0x00000000#32) h hu) hr) (constant Scal .f32 0x00000000#32) h' hu) y = weights x o dy d (y 1).val :=
  row_apply h h' hu hr hd _ (fun n j => at2 x (n - d) (o + j) * grad dy n j) (weights_apply dy x o k d hk hoe hb hx hs hc hk' hb' hc') y

/-- The gradient in the bias. -/
theorem bias_row (hb' : Scal.BroadcastsInDim (Seq 112 c) ![]) (hc' : Shape.Concatenates [Seq 112 c, Seq 2064 c] (Seq 2176 c) 1)
    (h : (Seq 2176 c).ReducesTo [0, 1] ⟨1, ![c]⟩) (h' : (⟨3, ![1, 1, c]⟩ : Shape).ReducesTo [0, 1] ⟨1, ![c]⟩) (hu : 0 < Scal.numel)
    (hr : (⟨1, ![c]⟩ : Shape).ShapeCasts ⟨3, ![1, 1, c]⟩) (hd : (⟨1, ![c]⟩ : Shape).BroadcastsInDim ⟨2, ![1, c]⟩ ![1]) (y : (⟨2, ![1, c]⟩ : Shape).Idx) :
    broadcastInDim ⟨2, ![1, c]⟩ ![1] hd (Host.reduceAdd (shapeCast _ (Host.reduceAdd
        (concatenate (Seq 2176 c) 1 [⟨Seq 112 c, broadcastInDim (Seq 112 c) ![] hb' (constant Scal .f32 0x00000000#32)⟩, ⟨Seq 2064 c, dy⟩] hc')
      (constant Scal .f32 0x00000000#32) h hu) hr) (constant Scal .f32 0x00000000#32) h' hu) y = bias dy (y 1).val :=
  row_apply h h' hu hr hd _ (fun n j => grad dy n j) (padded_apply dy hb' hc') y

end Reads

/-- Four rows put one above the other. -/
theorem stack (r0 r1 r2 r3 : FVec Ideal ⟨2, ![1, c]⟩ .f32) (g : ℕ → ℕ → EReal)
    (h : ∀ y : (⟨2, ![1, c]⟩ : Shape).Idx, r0 y = g 0 (y 1).val ∧ r1 y = g 1 (y 1).val ∧ r2 y = g 2 (y 1).val ∧ r3 y = g 3 (y 1).val)
    (q0 : (⟨2, ![1, c]⟩ : Shape).Pads ![0, 0] ![3, 0] ![0, 0] ⟨2, ![4, c]⟩) (q1 : (⟨2, ![1, c]⟩ : Shape).Pads ![1, 0] ![2, 0] ![0, 0] ⟨2, ![4, c]⟩)
    (q2 : (⟨2, ![1, c]⟩ : Shape).Pads ![2, 0] ![1, 0] ![0, 0] ⟨2, ![4, c]⟩) (q3 : (⟨2, ![1, c]⟩ : Shape).Pads ![3, 0] ![0, 0] ![0, 0] ⟨2, ![4, c]⟩)
    (hu : 0 < Scal.numel) (y : (⟨2, ![4, c]⟩ : Shape).Idx) :
    addf (addf (addf (pad ⟨2, ![4, c]⟩ ![3, 0] ![0, 0] ![0, 0] r3 (constant Scal .f32 0x00000000#32) q3 hu)
        (pad ⟨2, ![4, c]⟩ ![2, 0] ![1, 0] ![0, 0] r2 (constant Scal .f32 0x00000000#32) q2 hu))
      (pad ⟨2, ![4, c]⟩ ![1, 0] ![2, 0] ![0, 0] r1 (constant Scal .f32 0x00000000#32) q1 hu))
      (pad ⟨2, ![4, c]⟩ ![0, 0] ![3, 0] ![0, 0] r0 (constant Scal .f32 0x00000000#32) q0 hu) y = g (y 0).val (y 1).val := by
  have hy : (y 0).val < 4 := (y 0).isLt
  obtain ⟨e0, e1, e2, e3⟩ := h (ValueIdx.ix2 (0 : Fin 1) (y 1))
  show pad _ _ _ _ _ _ _ _ y + pad _ _ _ _ _ _ _ _ y + pad _ _ _ _ _ _ _ _ y + pad _ _ _ _ _ _ _ _ y = (_ : EReal)
  rw [placed_apply, placed_apply, placed_apply, placed_apply, e0, e1, e2, e3]
  have l : (y 0).val = 0 ∨ (y 0).val = 1 ∨ (y 0).val = 2 ∨ (y 0).val = 3 := by omega
  obtain l | l | l | l := l <;> rw [l] <;> norm_num <;> rfl

/-- The rows after the first three of each sequence, the sequences one after the other. -/
theorem spread (v : FVec Ideal (Seq 2179 c) .f32) (g : ℕ → ℕ → EReal)
    (hv : ∀ i : (Seq 2179 c).Idx, 3 ≤ (i 1).val → v i = g (2176 * (i 0).val + (i 1).val - 3) (i 2).val)
    (h : (Seq 2179 c).Slices ![0, 3, 0] (Seq 2176 c)) (hs : (Seq 2176 c).ShapeCasts ⟨2, ![8704, c]⟩) (y : (⟨2, ![8704, c]⟩ : Shape).Idx) :
    shapeCast ⟨2, ![8704, c]⟩ (extractStridedSlice (Seq 2176 c) ![0, 3, 0] v h) hs y = g (y 0).val (y 1).val := by
  have h0 : (y 0).val < 8704 := (y 0).isLt
  refine (shapeCast_apply _ hs y (ValueIdx.ix3 (⟨(y 0).val / 2176, by omega⟩ : Fin 4) (⟨(y 0).val % 2176, by omega⟩ : Fin 2176) (y 1)) ?_).trans
    ((extractStridedSlice_apply ![0, 3, 0] v h _
      (ValueIdx.ix3 (⟨(y 0).val / 2176, by omega⟩ : Fin 4) (⟨3 + (y 0).val % 2176, by omega⟩ : Fin 2179) (y 1)) fun a => ?_).trans ((hv _ ?_).trans ?_))
  · rw [rowMajor_val2 _ c rfl, rowMajor_val3 _ (2176 * c) c rfl rfl]
    show (y 0).val / 2176 * (2176 * c) + (y 0).val % 2176 * c + (y 1).val = (y 0).val * c + (y 1).val
    rw [← Nat.mul_assoc, ← Nat.add_mul, Nat.div_add_mod']
  · match a with
    | ⟨0, _⟩ => exact (Nat.zero_add _).symm
    | ⟨1, _⟩ => rfl
    | ⟨2, _⟩ => exact (Nat.zero_add _).symm
  · show 3 ≤ 3 + (y 0).val % 2176
    omega
  · show g (2176 * ((y 0).val / 2176) + (3 + (y 0).val % 2176) - 3) (y 1).val = _
    congr 1; omega

/-- The gradient in the inputs, as the four moved products. -/
theorem inputs_apply (dy : FVec Ideal (Seq 2064 c) .f32) (w : FVec Ideal ⟨2, ![4, c]⟩ .f32) (a0 a1 a2 a3 : FVec Ideal (Seq 2179 c) .f32)
    (h : ∀ i : (Seq 2179 c).Idx, 3 ≤ (i 1).val →
      a0 i = at2 w 0 (i 2).val * grad dy (2176 * (i 0).val + (i 1).val - 3 + 3) (i 2).val
      ∧ a1 i = at2 w 1 (i 2).val * grad dy (2176 * (i 0).val + (i 1).val - 3 + 2) (i 2).val
      ∧ a2 i = at2 w 2 (i 2).val * grad dy (2176 * (i 0).val + (i 1).val - 3 + 1) (i 2).val
      ∧ a3 i = at2 w 3 (i 2).val * grad dy (2176 * (i 0).val + (i 1).val - 3 + 0) (i 2).val)
    (hs : (Seq 2179 c).Slices ![0, 3, 0] (Seq 2176 c)) (hc : (Seq 2176 c).ShapeCasts ⟨2, ![8704, c]⟩) (y : (⟨2, ![8704, c]⟩ : Shape).Idx) :
    shapeCast ⟨2, ![8704, c]⟩ (extractStridedSlice (Seq 2176 c) ![0, 3, 0] (addf (addf (addf a3 a2) a1) a0) hs) hc y = inputs dy w (y 0).val (y 1).val := by
  refine spread _ (inputs dy w) (fun i hi => ?_) hs hc y
  obtain ⟨e0, e1, e2, e3⟩ := h i hi
  show a3 i + a2 i + a1 i + a0 i = (_ : EReal)
  rw [e0, e1, e2, e3]
  unfold inputs
  rw [Nat.add_zero, add_assoc, add_assoc]

end Cert.Conv

end
-- ==== Proof.ConvRows.lean ====
/-
  The four rows of the gradient in the weights of a depthwise convolution, as the kernel keeps them in one buffer: a row stored and the others left,
  a row read back, and what a block of 256 rows adds to each of the four. The row above a block comes from the block of eight rows before it.
-/
module

public import proofs.«01_k».proof.Proof.Conv

@[expose] public section

set_option maxRecDepth 16384

noncomputable section

namespace Cert.Conv

open Cert.Products Idealize.ShloMosaic

abbrev Four : Shape := ⟨2, ![4, 512]⟩

section Stored
variable {k : ℕ} (inb : ∀ d : Fin 2, ![k, 0] d + ![1, 512] d ≤ ![4, 512] d)

/-- A stored row is read, the other rows are those of before. -/
theorem canon_row (r : Row.Idx → EReal) (L : List (View.Piece (Elt Ideal) Four .f32)) (y : Four.Idx) :
    View.canon (Val := Elt Ideal) ((⟨Rect.unit (s := Four) ![k, 0] ![1, 512] inb, r⟩ : View.Piece (Elt Ideal) Four .f32) :: L) y
      = if (y 0).val = k then r (ValueIdx.ix2 (0 : Fin 1) (y 1)) else View.canon (Val := Elt Ideal) L y := by
  by_cases h : (y 0).val = k
  · rw [if_pos h]
    have e : y = (Rect.unit (s := Four) ![k, 0] ![1, 512] inb).emb (ValueIdx.ix2 (0 : Fin 1) (y 1)) := by
      funext a
      match a with
      | ⟨0, _⟩ => exact Fin.ext (h.trans (by show k = k + 1 * 0; omega))
      | ⟨1, _⟩ => exact Fin.ext (by show (y 1).val = 0 + 1 * (y 1).val; omega)
    conv_lhs => rw [e]
    exact View.canon_cons_emb (Rect.unit (s := Four) ![k, 0] ![1, 512] inb) r L (ValueIdx.ix2 (0 : Fin 1) (y 1))
  · rw [if_neg h]
    refine View.canon_cons_of_not_mem _ L fun hm => h ?_
    have := (Rect.mem_set_unit (inb := inb)).mp hm 0
    have e0 : k ≤ (y 0).val := this.1
    have e1 : (y 0).val < k + 1 := this.2
    omega

variable {sig : RefSig} {κ : Kind} {sp : Space} (v : View sig κ sp Four .f32)

/-- A row read back past a store of another row. -/
theorem read_skip {j : ℕ} (inb' : ∀ d : Fin 2, ![j, 0] d + ![1, 512] d ≤ ![4, 512] d) (hj : j ≠ k) (r : Row.Idx → EReal)
    (L : List (View.Piece (Elt Ideal) Four .f32)) :
    v.readCov (Val := Elt Ideal) ((⟨Rect.unit (s := Four) ![j, 0] ![1, 512] inb', r⟩ : View.Piece (Elt Ideal) Four .f32) :: L) (Rect.unit (s := Four) ![k, 0] ![1, 512] inb).toLoadRect
      = v.readCov (Val := Elt Ideal) L (Rect.unit (s := Four) ![k, 0] ![1, 512] inb).toLoadRect := by
  rw [View.readCov_eq_canon', View.readCov_eq_canon']
  funext y
  have hy : (y 0).val < 1 := (y 0).isLt
  refine (canon_row inb' r L _).trans (if_neg fun e => hj ?_)
  have e' : k + 1 * (y 0).val = j := e
  omega

/-- A row read back from a buffer of zeros. -/
theorem read_zero (z : Four.Idx → EReal) (hz : ∀ y, z y = 0) (inb' : ∀ d : Fin 2, ![0, 0] d + ![4, 512] d ≤ ![4, 512] d) (y : Row.Idx) :
    (v.readCov (Val := Elt Ideal) [(⟨Rect.unit (s := Four) ![0, 0] ![4, 512] inb', z⟩ : View.Piece (Elt Ideal) Four .f32)]
      (Rect.unit (s := Four) ![k, 0] ![1, 512] inb).toLoadRect : Row.Idx → EReal) y = 0 := by
  rw [View.readCov_eq_canon', View.canon_unit_zero (S := Four) (funext fun a => by match a with | ⟨0, _⟩ => rfl | ⟨1, _⟩ => rfl)]
  exact hz _

end Stored

/-- A row loaded from an array with rows of 512. -/
theorem row_ld {a : ℕ} [NeZero a] (x : Vec Ideal ⟨2, ![a, 512]⟩ .f32) (G : ℕ → ℕ → EReal) (hx : ∀ y, x y = G (y 0).val (y 1).val) (k : ℕ)
    (inb : ∀ d : Fin 2, ![k, 0] d + ![1, 512] d ≤ ![a, 512] d) (y : Row.Idx) :
    View.ld x (Rect.unit (s := ⟨2, ![a, 512]⟩) ![k, 0] ![1, 512] inb) y = G k (y 1).val := by
  refine (hx _).trans ?_
  have hy : (y 0).val < 1 := (y 0).isLt
  show G (k + 1 * (y 0).val) (0 + 1 * (y 1).val) = _
  congr 1 <;> omega

/-- The same at natural coordinates. -/
theorem row_ld_at {a : ℕ} [NeZero a] (x : Vec Ideal ⟨2, ![a, 512]⟩ .f32) (G : ℕ → ℕ → EReal) (hx : ∀ y, x y = G (y 0).val (y 1).val) (k : ℕ)
    (inb : ∀ d : Fin 2, ![k, 0] d + ![1, 512] d ≤ ![a, 512] d) (j : ℕ) (hj : j < 512) :
    at2 (a := 1) (b := 512) (View.ld x (Rect.unit (s := ⟨2, ![a, 512]⟩) ![k, 0] ![1, 512] inb)) 0 j = G k j :=
  (row_ld x G hx k inb _).trans (by show G k (j % 512) = G k j; rw [Nat.mod_eq_of_lt hj])

/-- What a block adds to a row: the products with the gradient, summed over its rows. -/
theorem row_step (p : FVec Ideal Row .f32) (x d : FVec Ideal Blk .f32) (H : ℕ → ℕ → EReal) (hx : ∀ y : Blk.Idx, x y * d y = H (y 0).val (y 1).val)
    (P : ℕ → EReal) (hp : ∀ y : Row.Idx, p y = P (y 1).val) (y : Row.Idx) :
    addf (shapeCast Row p same) (total (mulf x d)) y = P (y 1).val + ∑ r ∈ Finset.range 256, H r (y 1).val := by
  show shapeCast Row p same y + total (mulf x d) y = (_ : EReal)
  rw [total_apply (mulf x d) H hx y, shapeCast_apply p same y y rfl, hp]

/-- What a block leaves in the four rows. -/
theorem rows_step (x d : FVec Ideal Blk .f32) (f1 f2 f3 p0 p1 p2 p3 : FVec Ideal Row .f32) (X D P : ℕ → ℕ → EReal) (R : ℕ)
    (hD : ∀ n j, n < 3 → D n j = 0) (hx : ∀ y : Blk.Idx, x y = X (R + (y 0).val) (y 1).val) (hd : ∀ y : Blk.Idx, d y = D (R + (y 0).val) (y 1).val)
    (hf : ∀ j, j < 512 → 0 < R → at2 (a := 1) (b := 512) f1 0 j = X (R - 1) j ∧ at2 (a := 1) (b := 512) f2 0 j = X (R - 2) j
      ∧ at2 (a := 1) (b := 512) f3 0 j = X (R - 3) j)
    (hp : ∀ y : Row.Idx, p0 y = P 0 (y 1).val ∧ p1 y = P 1 (y 1).val ∧ p2 y = P 2 (y 1).val ∧ p3 y = P 3 (y 1).val)
    (inb0 : ∀ d : Fin 2, ![0, 0] d + ![1, 512] d ≤ ![4, 512] d) (inb1 : ∀ d : Fin 2, ![1, 0] d + ![1, 512] d ≤ ![4, 512] d)
    (inb2 : ∀ d : Fin 2, ![2, 0] d + ![1, 512] d ≤ ![4, 512] d) (inb3 : ∀ d : Fin 2, ![3, 0] d + ![1, 512] d ≤ ![4, 512] d)
    (L : List (View.Piece (Elt Ideal) Four .f32)) (y : Four.Idx) :
    View.canon (Val := Elt Ideal)
      ((⟨Rect.unit (s := Four) ![0, 0] ![1, 512] inb0, addf (shapeCast Row p0 same) (total (mulf (down f3 (down f2 (down f1 x))) d))⟩ : View.Piece (Elt Ideal) Four .f32)
        :: (⟨Rect.unit (s := Four) ![1, 0] ![1, 512] inb1, addf (shapeCast Row p1 same) (total (mulf (down f2 (down f1 x)) d))⟩ : View.Piece (Elt Ideal) Four .f32)
        :: (⟨Rect.unit (s := Four) ![2, 0] ![1, 512] inb2, addf (shapeCast Row p2 same) (total (mulf (down f1 x) d))⟩ : View.Piece (Elt Ideal) Four .f32)
        :: (⟨Rect.unit (s := Four) ![3, 0] ![1, 512] inb3, addf (shapeCast Row p3 same) (total (mulf x d))⟩ : View.Piece (Elt Ideal) Four .f32) :: L) y
      = P (y 0).val (y 1).val + ∑ r ∈ Finset.range 256, X (R + r - (3 - (y 0).val)) (y 1).val * D (R + r) (y 1).val := by
  have u1 := down_apply f1 x X R 0 (fun y _ => hx y) fun j h h' => (hf j h h').1
  have u2 := down_apply f2 (down f1 x) X R 1 u1 fun j h h' => (hf j h h').2.1
  have u3 := down_apply f3 (down f2 (down f1 x)) X R 2 u2 fun j h h' => (hf j h h').2.2
  have g : ∀ (a : FVec Ideal Blk .f32) (n : ℕ), n ≤ 3 → (∀ y : Blk.Idx, n ≤ R + (y 0).val → a y = X (R + (y 0).val - n) (y 1).val) →
      ∀ y : Blk.Idx, a y * d y = X (R + (y 0).val - n) (y 1).val * D (R + (y 0).val) (y 1).val := fun a n hn h y => by
    rw [hd]
    by_cases hy : n ≤ R + (y 0).val
    · rw [h y hy]
    · rw [hD _ _ (by omega), mul_zero, mul_zero]
  have h0 := row_step p0 _ d (fun r j => X (R + r - 3) j * D (R + r) j) (g _ 3 (le_refl 3) u3) (P 0) fun y => (hp y).1
  have h1 := row_step p1 _ d (fun r j => X (R + r - 2) j * D (R + r) j) (g _ 2 (by omega) u2) (P 1) fun y => (hp y).2.1
  have h2 := row_step p2 _ d (fun r j => X (R + r - 1) j * D (R + r) j) (g _ 1 (by omega) u1) (P 2) fun y => (hp y).2.2.1
  have h3 := row_step p3 x d (fun r j => X (R + r - 0) j * D (R + r) j) (g x 0 (by omega) fun y _ => hx y) (P 3) fun y => (hp y).2.2.2
  have hy : (y 0).val < 4 := (y 0).isLt
  rw [canon_row, canon_row, canon_row, canon_row]
  by_cases e0 : (y 0).val = 0
  · rw [if_pos e0, h0, e0]
  by_cases e1 : (y 0).val = 1
  · rw [if_neg e0, if_pos e1, h1, e1]
  by_cases e2 : (y 0).val = 2
  · rw [if_neg e0, if_neg e1, if_pos e2, h2, e2]
  have e3 : (y 0).val = 3 := by omega
  rw [if_neg e0, if_neg e1, if_neg e2, if_pos e3, h3, e3]

/-- What a block leaves in the row of the gradient in the bias. -/
theorem bias_step (p : FVec Ideal Row .f32) (d : FVec Ideal Blk .f32) (D : ℕ → ℕ → EReal) (P : ℕ → EReal) (R : ℕ)
    (hd : ∀ y : Blk.Idx, d y = D (R + (y 0).val) (y 1).val) (hp : ∀ y : Row.Idx, p y = P (y 1).val) (y : Row.Idx) :
    addf (shapeCast Row p same) (total d) y = P (y 1).val + ∑ r ∈ Finset.range 256, D (R + r) (y 1).val := by
  show shapeCast Row p same y + total d y = (_ : EReal)
  rw [total_apply d (fun r j => D (R + r) j) hd y, shapeCast_apply p same y y rfl, hp]

end Cert.Conv

end
-- ==== Proof.ConvLru.lean ====
/-
  The gradient of the depthwise convolution before the RG-LRU. The kernel takes the 1024 channels 512 at a time and the 8704 rows 256 at a time; it reads the
  three rows before a block and after it from blocks of eight rows, and adds up the gradients in the weights and the bias over the blocks of rows.
-/
module

public import proofs.«01_k».proof.Defs
public import proofs.«01_k».proof.Proof.ConvRef
public import proofs.«01_k».proof.Proof.ConvRows
public import proofs.«01_k».proof.Proof.Gen.Kernel19Ideal.Value
public import proofs.«01_k».proof.Proof.Gen.Reference19Ideal
public import proofs.«01_k».proof.Proof.Gen.Reference19Ideal.Run
public import Idealize.ShloMosaic.Lib.StableHlo.RunRead
public import Idealize.ShloMosaic.Lib.Quiescent

@[expose] public section

set_option maxRecDepth 16384

noncomputable section

namespace Cert.Kernel19Ideal.Conv

open Cert.Conv Cert.Kernel19Ideal Cert.Kernel19Ideal.Gen Cert.Products Idealize.ShloMosaic Idealize.ShloMosaic.TcCoe Idealize.SL.Sem

variable (m : (ℓ : Loc nD τ sig) → Buf (Elt Ideal) ℓ) (c : Dev nD)

theorem idx : ∀ t : Fin grid0.N, win0_0.index t = ![t.val % 34, t.val / 34] ∧ win0_1.index t = ![32 * (t.val % 34) - 1, t.val / 34]
    ∧ win0_2.index t = ![t.val % 34, t.val / 34] ∧ win0_3.index t = ![min (32 * (t.val % 34) + 32) 1087, t.val / 34] ∧ win0_4.index t = ![0, t.val / 34]
    ∧ win0_5.index t = ![t.val % 34, t.val / 34] ∧ win0_6.index t = ![0, t.val / 34] ∧ win0_7.index t = ![0, t.val / 34] := by
  decide +kernel

/-- The last block of rows. -/
theorem last_block : ∀ t : Fin grid0.N, Scalar.cmpi .eq (BitVec.ofNat 32 (grid0.coords t 1).val) 33#32 = 1#1 ↔ t.val % 34 = 33 := by
  decide +kernel

abbrev x : Vec Ideal S8704x4736 .f32 := m ((c : Thread nD τ).loc main_arg0)
abbrev dy : Vec Ideal S4x2064x1024 .f32 := m ((c : Thread nD τ).loc main_arg1)
abbrev w : Vec Ideal S4x1024 .f32 := m ((c : Thread nD τ).loc main_arg2)

/-- The inputs, the gradient and the weights at the channels of column `q` of blocks. -/
abbrev X (q n j : ℕ) : EReal := at2 (a := 8704) (b := 4736) (x m c) n (0 + (512 * q + j))
abbrev D (q n j : ℕ) : EReal := grad (c := 1024) (dy m c) n (512 * q + j)
abbrev W (q k j : ℕ) : EReal := at2 (a := 4) (b := 1024) (w m c) k (512 * q + j)

theorem host (y : S8704x1024.Idx) : V m c main_v2 y = grad (c := 1024) (dy m c) (y 0).val (y 1).val := by
  have e : (V m c main_v2 : Vec Ideal S8704x1024 .f32) = shapeCast S8704x1024 (concatenate S4x2176x1024 1 [⟨S4x112x1024, broadcastInDim S4x112x1024 ![] bcast_S_S4x112x1024 (constant S_ .f32 0x00000000#32 : FVec Ideal S_ .f32)⟩,
      ⟨S4x2064x1024, dy m c⟩] concatenates_S4x112x1024_S4x2064x1024_S4x2176x1024_d1) shapeCasts_S4x2176x1024_S8704x1024 := by
    show StableHlo.after hostOps0 _ (Proc.devRef .tc main_v2) = _
    after_reads_simp <;> rfl
  exact (congrFun e y).trans (padded_rows (c := 1024) (dy m c) _ _ _ y)

/-! ## What a point reads -/

theorem x_at (t : Fin cfg0.N) (y : S256x512.Idx) : X0_0 m c t y = X m c (t.val / 34) (256 * (t.val % 34) + (y 0).val) (y 1).val := by
  unfold X0_0 Pipeline.Window.fill
  rw [dif_pos (moved0_0 t y)]
  show V m c main_arg0 (((cfg0.win 0).blk t).view.emb _) = _
  rw [V_main_arg0]
  refine at2_of (a := 8704) (b := 4736) _ _ _ _ ?_ ?_ <;> blk_simp [(idx t).1] <;> dsimp only <;> omega

theorem before_at (t : Fin cfg0.N) (y : S8x512.Idx) (h : 0 < t.val % 34) :
    X0_1 m c t y = X m c (t.val / 34) (256 * (t.val % 34) - (8 - (y 0).val)) (y 1).val := by
  have hy : (y 0).val < 8 := (y 0).isLt
  unfold X0_1 Pipeline.Window.fill
  rw [dif_pos (moved0_1 t y)]
  show V m c main_arg0 (((cfg0.win 1).blk t).view.emb _) = _
  rw [V_main_arg0]
  refine at2_of (a := 8704) (b := 4736) _ _ _ _ ?_ ?_ <;> blk_simp [(idx t).2.1] <;> dsimp only <;> omega

theorem d_at (t : Fin cfg0.N) (y : S256x512.Idx) : iblk m c 2 t y = D m c (t.val / 34) (256 * (t.val % 34) + (y 0).val) (y 1).val := by
  show V m c main_v2 (((cfg0.win 2).blk t).view.emb y) = _
  rw [host]
  congr 1 <;> blk_simp [(idx t).2.2.1] <;> omega

theorem after_at (t : Fin cfg0.N) (y : S8x512.Idx) (h : t.val % 34 < 33) :
    iblk m c 3 t y = D m c (t.val / 34) (256 * (t.val % 34) + 256 + (y 0).val) (y 1).val := by
  show V m c main_v2 (((cfg0.win 3).blk t).view.emb y) = _
  rw [host]
  congr 1 <;> blk_simp [(idx t).2.2.2.1] <;> omega

theorem w_at (t : Fin cfg0.N) (y : S4x512.Idx) : iblk m c 4 t y = W m c (t.val / 34) (y 0).val (y 1).val := by
  show V m c main_arg2 (((cfg0.win 4).blk t).view.emb y) = _
  rw [V_main_arg2]
  refine at2_of (a := 4) (b := 1024) _ _ _ _ ?_ ?_ <;> blk_simp [(idx t).2.2.2.2.1] <;> omega

theorem after_row (t : Fin cfg0.N) (k : ℕ) (hk : k < 3) (inb : ∀ d : Fin 2, ![k, 0] d + ![1, 512] d ≤ ![8, 512] d) (j : ℕ) (hj : j < 512) :
    at2 (a := 1) (b := 512) (Scalar.select (Scalar.cmpi .eq (BitVec.ofNat 32 (grid0.coords t 1).val) 33#32)
      (broadcast Row (Scalar.ofBits .f32 0x00000000#32 : Ideal .f32))
      (shapeCast Row (View.ld (iblk m c 3 t) (Rect.unit (s := S8x512) ![k, 0] ![1, 512] inb)) same)) 0 j
      = D m c (t.val / 34) (256 * (t.val % 34) + 256 + k) j := by
  rw [next_row]
  by_cases h : t.val % 34 = 33
  · rw [if_pos ((last_block t).mpr h)]
    exact (grad_after _ _ _ (by omega)).symm
  · rw [if_neg fun e => h ((last_block t).mp e)]
    exact row_ld_at (a := 8) (iblk m c 3 t) (fun i j => D m c (t.val / 34) (256 * (t.val % 34) + 256 + i) j) (fun y => after_at m c t y (by omega)) k inb j hj

theorem before_row (t : Fin cfg0.N) (k : ℕ) (inb : ∀ d : Fin 2, ![k, 0] d + ![1, 512] d ≤ ![8, 512] d) (j : ℕ) (hj : j < 512) (h : 0 < 256 * (t.val % 34)) :
    at2 (a := 1) (b := 512) (View.ld (X0_1 m c t) (Rect.unit (s := S8x512) ![k, 0] ![1, 512] inb)) 0 j = X m c (t.val / 34) (256 * (t.val % 34) - (8 - k)) j :=
  row_ld_at (a := 8) (X0_1 m c t) (fun i j => X m c (t.val / 34) (256 * (t.val % 34) - (8 - i)) j) (fun y => before_at m c t y (by omega)) k inb j hj

/-! ## What a point leaves -/

/-- The block of the gradient in the inputs. -/
theorem inputs_at (t : Fin cfg0.N) (y : S256x512.Idx) :
    (outsAt0 m c t.val t.isLt).1 y = inputs (c := 1024) (dy m c) (w m c) (256 * (t.val % 34) + (y 0).val) (512 * (t.val / 34) + (y 1).val) := by
  have e := block_apply _ _ _ _ _ _ _ (shapeCast S256x512 (iblk m c 2 t) shapeCasts_S256x512_S256x512) (W m c (t.val / 34)) (D m c (t.val / 34)) (256 * (t.val % 34))
    (fun j hj => ⟨row_ld_at (a := 4) (iblk m c 4 t) _ (w_at m c t) 0 inb_S4x512_S1x512_0_0 j hj, row_ld_at (a := 4) (iblk m c 4 t) _ (w_at m c t) 1 inb_S4x512_S1x512_1_0 j hj,
      row_ld_at (a := 4) (iblk m c 4 t) _ (w_at m c t) 2 inb_S4x512_S1x512_2_0 j hj, row_ld_at (a := 4) (iblk m c 4 t) _ (w_at m c t) 3 inb_S4x512_S1x512_3_0 j hj⟩)
    (fun j hj => ⟨after_row m c t 0 (by omega) inb_S8x512_S1x512_0_0 j hj, after_row m c t 1 (by omega) inb_S8x512_S1x512_1_0 j hj,
      after_row m c t 2 (by omega) inb_S8x512_S1x512_2_0 j hj⟩)
    (fun y => (shapeCast_apply _ shapeCasts_S256x512_S256x512 y y rfl).trans (d_at m c t y)) y
  by_cases h : t.val % 34 = 0
  · rw [outsAt0_A m c t h]; frame_out
    exact e
  · rw [outsAt0_B m c t h]; frame_out
    exact e

/-! The four rows as the kernel writes them: the block, one row further down from each to the next. -/

section Rows
variable (d x : FVec Ideal S256x512 .f32) (f1 f2 f3 p : FVec Ideal S1x512 .f32)

theorem row3 : k0_pay16 (k0_pay14 p) (k0_pay15 (k0_pay5 d) x) = addf (shapeCast Row p same) (total (mulf x (shapeCast S256x512 d shapeCasts_S256x512_S256x512))) := rfl

theorem row2 : k0_pay18 (k0_pay5 d) x f1 p = addf (shapeCast Row p same) (total (mulf (down f1 x) (shapeCast S256x512 d shapeCasts_S256x512_S256x512))) := rfl

theorem row1 : k0_pay20 (k0_pay5 d) x f1 f2 p = addf (shapeCast Row p same) (total (mulf (down f2 (down f1 x)) (shapeCast S256x512 d shapeCasts_S256x512_S256x512))) := rfl

theorem row0 : k0_pay1 (k0_pay5 d) (k0_pay19 x f1 f2) f3 (iota .tc S256x512 32 [0] iota_S256x512_d0_w32) 0#32 p
    = addf (shapeCast Row p same) (total (mulf (down f3 (down f2 (down f1 x))) (shapeCast S256x512 d shapeCasts_S256x512_S256x512))) := rfl

end Rows

/-- The rows of the gradient in the weights, added up over the blocks so far. -/
theorem weights_at (t : Fin cfg0.N) (y : S4x512.Idx) :
    (outsAt0 m c t.val t.isLt).2.1 y = 0 + ∑ s ∈ Finset.range (t.val % 34 + 1), ∑ r ∈ Finset.range 256,
      X m c (t.val / 34) (256 * s + r - (3 - (y 0).val)) (y 1).val * D m c (t.val / 34) (256 * s + r) (y 1).val := by
  have step := fun (t : Fin cfg0.N) (p0 p1 p2 p3 : FVec Ideal Row .f32) (P : ℕ → ℕ → EReal) hp L (y : Four.Idx) =>
    rows_step (X0_0 m c t) (shapeCast S256x512 (iblk m c 2 t) shapeCasts_S256x512_S256x512) _ _ _ p0 p1 p2 p3 (X m c (t.val / 34)) (D m c (t.val / 34)) P (256 * (t.val % 34))
      (fun n j hn => grad_pad _ _ _ (by omega)) (x_at m c t) (fun y => (shapeCast_apply _ shapeCasts_S256x512_S256x512 y y rfl).trans (d_at m c t y))
      (fun j hj h => ⟨before_row m c t 7 inb_S8x512_S1x512_7_0 j hj h, before_row m c t 6 inb_S8x512_S1x512_6_0 j hj h,
        before_row m c t 5 inb_S8x512_S1x512_5_0 j hj h⟩)
      hp inb_S4x512_S1x512_0_0 inb_S4x512_S1x512_1_0 inb_S4x512_S1x512_2_0 inb_S4x512_S1x512_3_0 L y
  have zero : ∀ y, (k0_pay3 (F := Ideal)) y = (0 : EReal) := fun _ => Ideal.ofBits_zero_f32
  refine Pipeline.eq_sum_of_reset_step_apply_divmod (fun n h => (outsAt0 m c n h).2.1) 34 (fun _ => (0 : EReal))
    (fun q s y => ∑ r ∈ Finset.range 256, X m c q (256 * s + r - (3 - (y 0).val)) (y 1).val * D m c q (256 * s + r) (y 1).val)
    (fun t h y => ?_) (fun t h y => ?_) t y
  · rw [outsAt0_A m c t h]; frame_out
    rw [row0, row1, row2, row3]
    refine (step t _ _ _ _ (fun _ _ => 0) (fun y => ⟨?_, ?_, ?_, ?_⟩) _ y).trans rfl
    · rw [read_skip _ _ _ (by omega), read_skip _ _ _ (by omega), read_skip _ _ _ (by omega)]; exact read_zero _ _ _ zero _ y
    · rw [read_skip _ _ _ (by omega), read_skip _ _ _ (by omega)]; exact read_zero _ _ _ zero _ y
    · rw [read_skip _ _ _ (by omega)]; exact read_zero _ _ _ zero _ y
    · exact read_zero _ _ _ zero _ y
  · rw [outsAt0_B m c t h]; frame_out
    rw [row0, row1, row2, row3]
    have hp := fun k inb => row_ld (a := 4) (outsAt0 m c (t.val - 1) (by omega)).2.1 (at2 (a := 4) (b := 512) (outsAt0 m c (t.val - 1) (by omega)).2.1)
      (fun y => at2_of (a := 4) (b := 512) _ y _ _ rfl rfl) k inb
    refine (step t _ _ _ _ (at2 (a := 4) (b := 512) (outsAt0 m c (t.val - 1) (by omega)).2.1)
      (fun y => ⟨hp 0 _ y, hp 1 _ y, hp 2 _ y, hp 3 _ y⟩) _ y).trans ?_
    rw [← at2_of (a := 4) (b := 512) (outsAt0 m c (t.val - 1) (by omega)).2.1 y _ _ rfl rfl]

/-- The gradient in the bias, added up over the blocks so far. -/
theorem bias_at (t : Fin cfg0.N) (y : S1x512.Idx) :
    (outsAt0 m c t.val t.isLt).2.2 y = 0 + ∑ s ∈ Finset.range (t.val % 34 + 1), ∑ r ∈ Finset.range 256, D m c (t.val / 34) (256 * s + r) (y 1).val := by
  have step := fun (t : Fin cfg0.N) (p : FVec Ideal Row .f32) (P : ℕ → EReal) hp (y : Row.Idx) =>
    bias_step p (shapeCast S256x512 (iblk m c 2 t) shapeCasts_S256x512_S256x512) (D m c (t.val / 34)) P (256 * (t.val % 34))
      (fun y => (shapeCast_apply _ shapeCasts_S256x512_S256x512 y y rfl).trans (d_at m c t y)) hp y
  refine Pipeline.eq_sum_of_reset_step_apply_divmod (fun n h => (outsAt0 m c n h).2.2) 34 (fun _ => (0 : EReal))
    (fun q s y => ∑ r ∈ Finset.range 256, D m c q (256 * s + r) (y 1).val) (fun t h y => ?_) (fun t h y => ?_) t y
  · rw [outsAt0_A m c t h]; frame_out
    exact step t _ (fun _ => 0) (fun _ => Ideal.ofBits_zero_f32) y
  · rw [outsAt0_B m c t h]; frame_out
    have hp : ∀ y : Row.Idx, (outsAt0 m c (t.val - 1) (by omega)).2.2 y = at2 (a := 1) (b := 512) (outsAt0 m c (t.val - 1) (by omega)).2.2 0 (y 1).val :=
      fun y => at2_of (a := 1) (b := 512) _ y _ _ (by have : (y 0).val < 1 := (y 0).isLt; omega) rfl
    exact (step t _ (at2 (a := 1) (b := 512) (outsAt0 m c (t.val - 1) (by omega)).2.2 0) hp y).trans (by rw [← hp])

/-! ## The three results -/

theorem inputs_final : (dats m 0 c).arrAt 5 cfg0.N = inputsOut (c := 1024) (dy m c) (w m c) := by
  refine (dats m 0 c).arrAt_eq_of_covers 5 _ (by decide +kernel) fun t hf y => ?_
  obtain ⟨-, -, -, -, -, e5, -⟩ := idx t
  blk_simp
  rw [after0_5, inputs_at]
  have g0 : (((cfg0.win 5).blk t).view.emb y 0).val = 256 * (t.val % 34) + (y 0).val := by blk_simp [e5]; omega
  have g1 : (((cfg0.win 5).blk t).view.emb y 1).val = 512 * (t.val / 34) + (y 1).val := by blk_simp [e5]; omega
  unfold inputsOut
  rw [g0, g1]

theorem weights_final : (dats m 0 c).arrAt 6 cfg0.N = weightsOut (c := 1024) (e := 4736) (x m c) 0 (dy m c) := by
  refine (dats m 0 c).arrAt_eq_of_covers 6 _ (by decide +kernel) fun t hf y => ?_
  have ht : t.val % 34 = 33 := (flush0_6 t).mp hf
  obtain ⟨-, -, -, -, -, -, e6, -⟩ := idx t
  blk_simp
  rw [after0_6, weights_at, zero_add, ht]
  have g0 : (((cfg0.win 6).blk t).view.emb y 0).val = (y 0).val := by blk_simp [e6]
  have g1 : (((cfg0.win 6).blk t).view.emb y 1).val = 512 * (t.val / 34) + (y 1).val := by blk_simp [e6]; omega
  unfold weightsOut
  rw [g0, g1]
  exact sum_blocks (fun n => X m c (t.val / 34) (n - (3 - (y 0).val)) (y 1).val * D m c (t.val / 34) n (y 1).val) 34

theorem bias_final : (dats m 0 c).arrAt 7 cfg0.N = biasOut (c := 1024) (dy m c) := by
  refine (dats m 0 c).arrAt_eq_of_covers 7 _ (by decide +kernel) fun t hf y => ?_
  have ht : t.val % 34 = 33 := (flush0_7 t).mp hf
  obtain ⟨-, -, -, -, -, -, -, e7⟩ := idx t
  blk_simp
  rw [after0_7, bias_at, zero_add, ht]
  have g1 : (((cfg0.win 7).blk t).view.emb y 1).val = 512 * (t.val / 34) + (y 1).val := by blk_simp [e7]; omega
  unfold biasOut
  rw [g1]
  exact sum_blocks (fun n => D m c (t.val / 34) n (y 1).val) 34

/-! ## The reference -/

theorem reference (m' : (ℓ : Loc Cert.Reference19Ideal.nD Cert.Reference19Ideal.τ Cert.Reference19Ideal.sig) → Buf (Elt Ideal) ℓ)
    (ρ' : Dev Cert.Reference19Ideal.nD → PrngReg) :
    θ_run Cert.Reference19Ideal.defs (onTc (τ := Cert.Reference19Ideal.τ) (Cert.Reference19Ideal.main (F := Ideal))) ⟨m', fun _ => 0, ρ'⟩ fun r =>
      ∀ c : Dev Cert.Reference19Ideal.nD,
        r.2.mem ((c.tc : Thread Cert.Reference19Ideal.nD Cert.Reference19Ideal.τ).loc Cert.Reference19Ideal.main_v85)
          = inputsOut (c := 1024) (m' ((c.tc : Thread Cert.Reference19Ideal.nD Cert.Reference19Ideal.τ).loc Cert.Reference19Ideal.main_arg1))
            (m' ((c.tc : Thread Cert.Reference19Ideal.nD Cert.Reference19Ideal.τ).loc Cert.Reference19Ideal.main_arg2))
        ∧ r.2.mem ((c.tc : Thread Cert.Reference19Ideal.nD Cert.Reference19Ideal.τ).loc Cert.Reference19Ideal.main_v79)
          = weightsOut (c := 1024) (e := 4736) (m' ((c.tc : Thread Cert.Reference19Ideal.nD Cert.Reference19Ideal.τ).loc Cert.Reference19Ideal.main_arg0)) 0
            (m' ((c.tc : Thread Cert.Reference19Ideal.nD Cert.Reference19Ideal.τ).loc Cert.Reference19Ideal.main_arg1))
        ∧ r.2.mem ((c.tc : Thread Cert.Reference19Ideal.nD Cert.Reference19Ideal.τ).loc Cert.Reference19Ideal.main_v39)
          = biasOut (c := 1024) (m' ((c.tc : Thread Cert.Reference19Ideal.nD Cert.Reference19Ideal.τ).loc Cert.Reference19Ideal.main_arg1))
        ∧ r.2.mem ((c.tc : Thread Cert.Reference19Ideal.nD Cert.Reference19Ideal.τ).loc Cert.Reference19Ideal.main_arg0)
          = m' ((c.tc : Thread Cert.Reference19Ideal.nD Cert.Reference19Ideal.τ).loc Cert.Reference19Ideal.main_arg0)
        ∧ r.2.mem ((c.tc : Thread Cert.Reference19Ideal.nD Cert.Reference19Ideal.τ).loc Cert.Reference19Ideal.main_arg1)
          = m' ((c.tc : Thread Cert.Reference19Ideal.nD Cert.Reference19Ideal.τ).loc Cert.Reference19Ideal.main_arg1)
        ∧ r.2.mem ((c.tc : Thread Cert.Reference19Ideal.nD Cert.Reference19Ideal.τ).loc Cert.Reference19Ideal.main_arg2)
          = m' ((c.tc : Thread Cert.Reference19Ideal.nD Cert.Reference19Ideal.τ).loc Cert.Reference19Ideal.main_arg2) := by
  refine (θ_run Cert.Reference19Ideal.defs _ _).mono (fun r hr c => ⟨(hr c).1.trans ?_, (hr c).2.1.trans ?_, (hr c).2.2.1.trans ?_, (hr c).2.2.2⟩)
    (Cert.Reference19Ideal.Value.run m' ρ')
  · funext y
    exact inputs_apply (c := 1024) _ _ _ _ _ _ (fun i hi => ⟨moved_apply (c := 1024) _ _ 0 3 rfl _ _ _ _ _ _ _ i hi, moved_apply (c := 1024) _ _ 1 2 rfl _ _ _ _ _ _ _ i hi,
      moved_apply (c := 1024) _ _ 2 1 rfl _ _ _ _ _ _ _ i hi, moved_apply (c := 1024) _ _ 3 0 rfl _ _ _ _ _ _ _ i hi⟩)
      Cert.Reference19Ideal.Gen.slices_S4x2179x1024_S4x2176x1024_0_3_0 Cert.Reference19Ideal.Gen.shapeCasts_S4x2176x1024_S8704x1024 y
  · funext y
    unfold Cert.Reference19Ideal.Value.res_main_v79
    exact stack (c := 1024) _ _ _ _ (fun k j => weights (c := 1024) (e := 4736) _ 0 _ (3 - k) j) (fun y => ⟨weight_row (c := 1024) (e := 4736) _ _ 0 0 3 rfl (by omega) _ _ _ _ _ _ _ _ _ _ _ _ y,
      weight_row (c := 1024) (e := 4736) _ _ 0 1 2 rfl (by omega) _ _ _ _ _ _ _ _ _ _ _ _ y, weight_row (c := 1024) (e := 4736) _ _ 0 2 1 rfl (by omega) _ _ _ _ _ _ _ _ _ _ _ _ y,
      weight_row (c := 1024) (e := 4736) _ _ 0 3 0 rfl (by omega) _ _ _ _ _ _ _ _ _ _ _ _ y⟩) _ _ _ _ _ y
  · funext y
    exact bias_row (c := 1024) _ _ _ _ _ _ _ _ y

theorem agree : Cert.algebraic_Kernel19Ideal_Reference19Ideal := fun m ρ m' ρ' _ h => by
  refine ⟨fun c => inputsOut (c := 1024) (dy m c) (w m c), fun c => weightsOut (c := 1024) (e := 4736) (x m c) 0 (dy m c), fun c => biasOut (c := 1024) (dy m c), ?_, ?_⟩
  · exact (θ_run defs _ _).mono (fun r hr c => ⟨(hr c).1.trans (inputs_final m c), (hr c).2.1.trans (weights_final m c), (hr c).2.2.1.trans (bias_final m c), (hr c).2.2.2⟩)
      (Value.run_blocks m ρ)
  · refine (θ_run Cert.Reference19Ideal.defs _ _).mono (fun r hr c => ⟨(hr c).1.trans ?_, (hr c).2.1.trans ?_, (hr c).2.2.1.trans ?_, (hr c).2.2.2⟩) (reference m' ρ')
    · rw [(h c).2.1, (h c).2.2]
    · rw [(h c).1, (h c).2.1]
    · rw [(h c).2.1]

theorem frame_reference : Cert.quiescent_Reference19Ideal := fun m ρ _ =>
  (θ_run Cert.Reference19Ideal.defs _ _).mono (fun r h => ⟨fun c => (h c).2.2.2, sem_eq_zero_of_no_sems rfl r.2⟩) (Cert.Reference19Ideal.Value.run m ρ)

end Cert.Kernel19Ideal.Conv

end
-- ==== Proof.ConvSsd.lean ====
/-
  The gradient of the depthwise convolution before the state-space scan. The kernel takes the 1536 channels 512 at a time and the 8704 rows 256 at a time; it reads the
  three rows before a block and after it from blocks of eight rows, and adds up the gradients in the weights and the bias over the blocks of rows.
-/
module

public import proofs.«01_k».proof.Defs
public import proofs.«01_k».proof.Proof.ConvRef
public import proofs.«01_k».proof.Proof.ConvRows
public import proofs.«01_k».proof.Proof.Gen.Kernel20Ideal.Value
public import proofs.«01_k».proof.Proof.Gen.Reference20Ideal
public import proofs.«01_k».proof.Proof.Gen.Reference20Ideal.Run
public import Idealize.ShloMosaic.Lib.StableHlo.RunRead
public import Idealize.ShloMosaic.Lib.Quiescent

@[expose] public section

set_option maxRecDepth 16384

noncomputable section

namespace Cert.Kernel20Ideal.Conv

open Cert.Conv Cert.Kernel20Ideal Cert.Kernel20Ideal.Gen Cert.Products Idealize.ShloMosaic Idealize.ShloMosaic.TcCoe Idealize.SL.Sem

variable (m : (ℓ : Loc nD τ sig) → Buf (Elt Ideal) ℓ) (c : Dev nD)

theorem idx : ∀ t : Fin grid0.N, win0_0.index t = ![t.val % 34, 6 + t.val / 34] ∧ win0_1.index t = ![32 * (t.val % 34) - 1, 6 + t.val / 34]
    ∧ win0_2.index t = ![t.val % 34, t.val / 34] ∧ win0_3.index t = ![min (32 * (t.val % 34) + 32) 1087, t.val / 34] ∧ win0_4.index t = ![0, t.val / 34]
    ∧ win0_5.index t = ![t.val % 34, t.val / 34] ∧ win0_6.index t = ![0, t.val / 34] ∧ win0_7.index t = ![0, t.val / 34] := by
  decide +kernel

/-- The last block of rows. -/
theorem last_block : ∀ t : Fin grid0.N, Scalar.cmpi .eq (BitVec.ofNat 32 (grid0.coords t 1).val) 33#32 = 1#1 ↔ t.val % 34 = 33 := by
  decide +kernel

abbrev x : Vec Ideal S8704x4736 .f32 := m ((c : Thread nD τ).loc main_arg0)
abbrev dy : Vec Ideal S4x2064x1536 .f32 := m ((c : Thread nD τ).loc main_arg1)
abbrev w : Vec Ideal S4x1536 .f32 := m ((c : Thread nD τ).loc main_arg2)

/-- The inputs, the gradient and the weights at the channels of column `q` of blocks. -/
abbrev X (q n j : ℕ) : EReal := at2 (a := 8704) (b := 4736) (x m c) n (3072 + (512 * q + j))
abbrev D (q n j : ℕ) : EReal := grad (c := 1536) (dy m c) n (512 * q + j)
abbrev W (q k j : ℕ) : EReal := at2 (a := 4) (b := 1536) (w m c) k (512 * q + j)

theorem host (y : S8704x1536.Idx) : V m c main_v2 y = grad (c := 1536) (dy m c) (y 0).val (y 1).val := by
  have e : (V m c main_v2 : Vec Ideal S8704x1536 .f32) = shapeCast S8704x1536 (concatenate S4x2176x1536 1 [⟨S4x112x1536, broadcastInDim S4x112x1536 ![] bcast_S_S4x112x1536 (constant S_ .f32 0x00000000#32 : FVec Ideal S_ .f32)⟩,
      ⟨S4x2064x1536, dy m c⟩] concatenates_S4x112x1536_S4x2064x1536_S4x2176x1536_d1) shapeCasts_S4x2176x1536_S8704x1536 := by
    show StableHlo.after hostOps0 _ (Proc.devRef .tc main_v2) = _
    after_reads_simp <;> rfl
  exact (congrFun e y).trans (padded_rows (c := 1536) (dy m c) _ _ _ y)

/-! ## What a point reads -/

theorem x_at (t : Fin cfg0.N) (y : S256x512.Idx) : X0_0 m c t y = X m c (t.val / 34) (256 * (t.val % 34) + (y 0).val) (y 1).val := by
  unfold X0_0 Pipeline.Window.fill
  rw [dif_pos (moved0_0 t y)]
  show V m c main_arg0 (((cfg0.win 0).blk t).view.emb _) = _
  rw [V_main_arg0]
  refine at2_of (a := 8704) (b := 4736) _ _ _ _ ?_ ?_ <;> blk_simp [(idx t).1] <;> dsimp only <;> omega

theorem before_at (t : Fin cfg0.N) (y : S8x512.Idx) (h : 0 < t.val % 34) :
    X0_1 m c t y = X m c (t.val / 34) (256 * (t.val % 34) - (8 - (y 0).val)) (y 1).val := by
  have hy : (y 0).val < 8 := (y 0).isLt
  unfold X0_1 Pipeline.Window.fill
  rw [dif_pos (moved0_1 t y)]
  show V m c main_arg0 (((cfg0.win 1).blk t).view.emb _) = _
  rw [V_main_arg0]
  refine at2_of (a := 8704) (b := 4736) _ _ _ _ ?_ ?_ <;> blk_simp [(idx t).2.1] <;> dsimp only <;> omega

theorem d_at (t : Fin cfg0.N) (y : S256x512.Idx) : iblk m c 2 t y = D m c (t.val / 34) (256 * (t.val % 34) + (y 0).val) (y 1).val := by
  show V m c main_v2 (((cfg0.win 2).blk t).view.emb y) = _
  rw [host]
  congr 1 <;> blk_simp [(idx t).2.2.1] <;> omega

theorem after_at (t : Fin cfg0.N) (y : S8x512.Idx) (h : t.val % 34 < 33) :
    iblk m c 3 t y = D m c (t.val / 34) (256 * (t.val % 34) + 256 + (y 0).val) (y 1).val := by
  show V m c main_v2 (((cfg0.win 3).blk t).view.emb y) = _
  rw [host]
  congr 1 <;> blk_simp [(idx t).2.2.2.1] <;> omega

theorem w_at (t : Fin cfg0.N) (y : S4x512.Idx) : iblk m c 4 t y = W m c (t.val / 34) (y 0).val (y 1).val := by
  show V m c main_arg2 (((cfg0.win 4).blk t).view.emb y) = _
  rw [V_main_arg2]
  refine at2_of (a := 4) (b := 1536) _ _ _ _ ?_ ?_ <;> blk_simp [(idx t).2.2.2.2.1] <;> omega

theorem after_row (t : Fin cfg0.N) (k : ℕ) (hk : k < 3) (inb : ∀ d : Fin 2, ![k, 0] d + ![1, 512] d ≤ ![8, 512] d) (j : ℕ) (hj : j < 512) :
    at2 (a := 1) (b := 512) (Scalar.select (Scalar.cmpi .eq (BitVec.ofNat 32 (grid0.coords t 1).val) 33#32)
      (broadcast Row (Scalar.ofBits .f32 0x00000000#32 : Ideal .f32))
      (shapeCast Row (View.ld (iblk m c 3 t) (Rect.unit (s := S8x512) ![k, 0] ![1, 512] inb)) same)) 0 j
      = D m c (t.val / 34) (256 * (t.val % 34) + 256 + k) j := by
  rw [next_row]
  by_cases h : t.val % 34 = 33
  · rw [if_pos ((last_block t).mpr h)]
    exact (grad_after _ _ _ (by omega)).symm
  · rw [if_neg fun e => h ((last_block t).mp e)]
    exact row_ld_at (a := 8) (iblk m c 3 t) (fun i j => D m c (t.val / 34) (256 * (t.val % 34) + 256 + i) j) (fun y => after_at m c t y (by omega)) k inb j hj

theorem before_row (t : Fin cfg0.N) (k : ℕ) (inb : ∀ d : Fin 2, ![k, 0] d + ![1, 512] d ≤ ![8, 512] d) (j : ℕ) (hj : j < 512) (h : 0 < 256 * (t.val % 34)) :
    at2 (a := 1) (b := 512) (View.ld (X0_1 m c t) (Rect.unit (s := S8x512) ![k, 0] ![1, 512] inb)) 0 j = X m c (t.val / 34) (256 * (t.val % 34) - (8 - k)) j :=
  row_ld_at (a := 8) (X0_1 m c t) (fun i j => X m c (t.val / 34) (256 * (t.val % 34) - (8 - i)) j) (fun y => before_at m c t y (by omega)) k inb j hj

/-! ## What a point leaves -/

/-- The block of the gradient in the inputs. -/
theorem inputs_at (t : Fin cfg0.N) (y : S256x512.Idx) :
    (outsAt0 m c t.val t.isLt).1 y = inputs (c := 1536) (dy m c) (w m c) (256 * (t.val % 34) + (y 0).val) (512 * (t.val / 34) + (y 1).val) := by
  have e := block_apply _ _ _ _ _ _ _ (shapeCast S256x512 (iblk m c 2 t) shapeCasts_S256x512_S256x512) (W m c (t.val / 34)) (D m c (t.val / 34)) (256 * (t.val % 34))
    (fun j hj => ⟨row_ld_at (a := 4) (iblk m c 4 t) _ (w_at m c t) 0 inb_S4x512_S1x512_0_0 j hj, row_ld_at (a := 4) (iblk m c 4 t) _ (w_at m c t) 1 inb_S4x512_S1x512_1_0 j hj,
      row_ld_at (a := 4) (iblk m c 4 t) _ (w_at m c t) 2 inb_S4x512_S1x512_2_0 j hj, row_ld_at (a := 4) (iblk m c 4 t) _ (w_at m c t) 3 inb_S4x512_S1x512_3_0 j hj⟩)
    (fun j hj => ⟨after_row m c t 0 (by omega) inb_S8x512_S1x512_0_0 j hj, after_row m c t 1 (by omega) inb_S8x512_S1x512_1_0 j hj,
      after_row m c t 2 (by omega) inb_S8x512_S1x512_2_0 j hj⟩)
    (fun y => (shapeCast_apply _ shapeCasts_S256x512_S256x512 y y rfl).trans (d_at m c t y)) y
  by_cases h : t.val % 34 = 0
  · rw [outsAt0_A m c t h]; frame_out
    exact e
  · rw [outsAt0_B m c t h]; frame_out
    exact e

/-! The four rows as the kernel writes them: the block, one row further down from each to the next. -/

section Rows
variable (d x : FVec Ideal S256x512 .f32) (f1 f2 f3 p : FVec Ideal S1x512 .f32)

theorem row3 : k0_pay16 (k0_pay14 p) (k0_pay15 (k0_pay5 d) x) = addf (shapeCast Row p same) (total (mulf x (shapeCast S256x512 d shapeCasts_S256x512_S256x512))) := rfl

theorem row2 : k0_pay18 (k0_pay5 d) x f1 p = addf (shapeCast Row p same) (total (mulf (down f1 x) (shapeCast S256x512 d shapeCasts_S256x512_S256x512))) := rfl

theorem row1 : k0_pay20 (k0_pay5 d) x f1 f2 p = addf (shapeCast Row p same) (total (mulf (down f2 (down f1 x)) (shapeCast S256x512 d shapeCasts_S256x512_S256x512))) := rfl

theorem row0 : k0_pay1 (k0_pay5 d) (k0_pay19 x f1 f2) f3 (iota .tc S256x512 32 [0] iota_S256x512_d0_w32) 0#32 p
    = addf (shapeCast Row p same) (total (mulf (down f3 (down f2 (down f1 x))) (shapeCast S256x512 d shapeCasts_S256x512_S256x512))) := rfl

end Rows

/-- The rows of the gradient in the weights, added up over the blocks so far. -/
theorem weights_at (t : Fin cfg0.N) (y : S4x512.Idx) :
    (outsAt0 m c t.val t.isLt).2.1 y = 0 + ∑ s ∈ Finset.range (t.val % 34 + 1), ∑ r ∈ Finset.range 256,
      X m c (t.val / 34) (256 * s + r - (3 - (y 0).val)) (y 1).val * D m c (t.val / 34) (256 * s + r) (y 1).val := by
  have step := fun (t : Fin cfg0.N) (p0 p1 p2 p3 : FVec Ideal Row .f32) (P : ℕ → ℕ → EReal) hp L (y : Four.Idx) =>
    rows_step (X0_0 m c t) (shapeCast S256x512 (iblk m c 2 t) shapeCasts_S256x512_S256x512) _ _ _ p0 p1 p2 p3 (X m c (t.val / 34)) (D m c (t.val / 34)) P (256 * (t.val % 34))
      (fun n j hn => grad_pad _ _ _ (by omega)) (x_at m c t) (fun y => (shapeCast_apply _ shapeCasts_S256x512_S256x512 y y rfl).trans (d_at m c t y))
      (fun j hj h => ⟨before_row m c t 7 inb_S8x512_S1x512_7_0 j hj h, before_row m c t 6 inb_S8x512_S1x512_6_0 j hj h,
        before_row m c t 5 inb_S8x512_S1x512_5_0 j hj h⟩)
      hp inb_S4x512_S1x512_0_0 inb_S4x512_S1x512_1_0 inb_S4x512_S1x512_2_0 inb_S4x512_S1x512_3_0 L y
  have zero : ∀ y, (k0_pay3 (F := Ideal)) y = (0 : EReal) := fun _ => Ideal.ofBits_zero_f32
  refine Pipeline.eq_sum_of_reset_step_apply_divmod (fun n h => (outsAt0 m c n h).2.1) 34 (fun _ => (0 : EReal))
    (fun q s y => ∑ r ∈ Finset.range 256, X m c q (256 * s + r - (3 - (y 0).val)) (y 1).val * D m c q (256 * s + r) (y 1).val)
    (fun t h y => ?_) (fun t h y => ?_) t y
  · rw [outsAt0_A m c t h]; frame_out
    rw [row0, row1, row2, row3]
    refine (step t _ _ _ _ (fun _ _ => 0) (fun y => ⟨?_, ?_, ?_, ?_⟩) _ y).trans rfl
    · rw [read_skip _ _ _ (by omega), read_skip _ _ _ (by omega), read_skip _ _ _ (by omega)]; exact read_zero _ _ _ zero _ y
    · rw [read_skip _ _ _ (by omega), read_skip _ _ _ (by omega)]; exact read_zero _ _ _ zero _ y
    · rw [read_skip _ _ _ (by omega)]; exact read_zero _ _ _ zero _ y
    · exact read_zero _ _ _ zero _ y
  · rw [outsAt0_B m c t h]; frame_out
    rw [row0, row1, row2, row3]
    have hp := fun k inb => row_ld (a := 4) (outsAt0 m c (t.val - 1) (by omega)).2.1 (at2 (a := 4) (b := 512) (outsAt0 m c (t.val - 1) (by omega)).2.1)
      (fun y => at2_of (a := 4) (b := 512) _ y _ _ rfl rfl) k inb
    refine (step t _ _ _ _ (at2 (a := 4) (b := 512) (outsAt0 m c (t.val - 1) (by omega)).2.1)
      (fun y => ⟨hp 0 _ y, hp 1 _ y, hp 2 _ y, hp 3 _ y⟩) _ y).trans ?_
    rw [← at2_of (a := 4) (b := 512) (outsAt0 m c (t.val - 1) (by omega)).2.1 y _ _ rfl rfl]

/-- The gradient in the bias, added up over the blocks so far. -/
theorem bias_at (t : Fin cfg0.N) (y : S1x512.Idx) :
    (outsAt0 m c t.val t.isLt).2.2 y = 0 + ∑ s ∈ Finset.range (t.val % 34 + 1), ∑ r ∈ Finset.range 256, D m c (t.val / 34) (256 * s + r) (y 1).val := by
  have step := fun (t : Fin cfg0.N) (p : FVec Ideal Row .f32) (P : ℕ → EReal) hp (y : Row.Idx) =>
    bias_step p (shapeCast S256x512 (iblk m c 2 t) shapeCasts_S256x512_S256x512) (D m c (t.val / 34)) P (256 * (t.val % 34))
      (fun y => (shapeCast_apply _ shapeCasts_S256x512_S256x512 y y rfl).trans (d_at m c t y)) hp y
  refine Pipeline.eq_sum_of_reset_step_apply_divmod (fun n h => (outsAt0 m c n h).2.2) 34 (fun _ => (0 : EReal))
    (fun q s y => ∑ r ∈ Finset.range 256, D m c q (256 * s + r) (y 1).val) (fun t h y => ?_) (fun t h y => ?_) t y
  · rw [outsAt0_A m c t h]; frame_out
    exact step t _ (fun _ => 0) (fun _ => Ideal.ofBits_zero_f32) y
  · rw [outsAt0_B m c t h]; frame_out
    have hp : ∀ y : Row.Idx, (outsAt0 m c (t.val - 1) (by omega)).2.2 y = at2 (a := 1) (b := 512) (outsAt0 m c (t.val - 1) (by omega)).2.2 0 (y 1).val :=
      fun y => at2_of (a := 1) (b := 512) _ y _ _ (by have : (y 0).val < 1 := (y 0).isLt; omega) rfl
    exact (step t _ (at2 (a := 1) (b := 512) (outsAt0 m c (t.val - 1) (by omega)).2.2 0) hp y).trans (by rw [← hp])

/-! ## The three results -/

theorem inputs_final : (dats m 0 c).arrAt 5 cfg0.N = inputsOut (c := 1536) (dy m c) (w m c) := by
  refine (dats m 0 c).arrAt_eq_of_covers 5 _ (by decide +kernel) fun t hf y => ?_
  obtain ⟨-, -, -, -, -, e5, -⟩ := idx t
  blk_simp
  rw [after0_5, inputs_at]
  have g0 : (((cfg0.win 5).blk t).view.emb y 0).val = 256 * (t.val % 34) + (y 0).val := by blk_simp [e5]; omega
  have g1 : (((cfg0.win 5).blk t).view.emb y 1).val = 512 * (t.val / 34) + (y 1).val := by blk_simp [e5]; omega
  unfold inputsOut
  rw [g0, g1]

theorem weights_final : (dats m 0 c).arrAt 6 cfg0.N = weightsOut (c := 1536) (e := 4736) (x m c) 3072 (dy m c) := by
  refine (dats m 0 c).arrAt_eq_of_covers 6 _ (by decide +kernel) fun t hf y => ?_
  have ht : t.val % 34 = 33 := (flush0_6 t).mp hf
  obtain ⟨-, -, -, -, -, -, e6, -⟩ := idx t
  blk_simp
  rw [after0_6, weights_at, zero_add, ht]
  have g0 : (((cfg0.win 6).blk t).view.emb y 0).val = (y 0).val := by blk_simp [e6]
  have g1 : (((cfg0.win 6).blk t).view.emb y 1).val = 512 * (t.val / 34) + (y 1).val := by blk_simp [e6]; omega
  unfold weightsOut
  rw [g0, g1]
  exact sum_blocks (fun n => X m c (t.val / 34) (n - (3 - (y 0).val)) (y 1).val * D m c (t.val / 34) n (y 1).val) 34

theorem bias_final : (dats m 0 c).arrAt 7 cfg0.N = biasOut (c := 1536) (dy m c) := by
  refine (dats m 0 c).arrAt_eq_of_covers 7 _ (by decide +kernel) fun t hf y => ?_
  have ht : t.val % 34 = 33 := (flush0_7 t).mp hf
  obtain ⟨-, -, -, -, -, -, -, e7⟩ := idx t
  blk_simp
  rw [after0_7, bias_at, zero_add, ht]
  have g1 : (((cfg0.win 7).blk t).view.emb y 1).val = 512 * (t.val / 34) + (y 1).val := by blk_simp [e7]; omega
  unfold biasOut
  rw [g1]
  exact sum_blocks (fun n => D m c (t.val / 34) n (y 1).val) 34

/-! ## The reference -/

theorem reference (m' : (ℓ : Loc Cert.Reference20Ideal.nD Cert.Reference20Ideal.τ Cert.Reference20Ideal.sig) → Buf (Elt Ideal) ℓ)
    (ρ' : Dev Cert.Reference20Ideal.nD → PrngReg) :
    θ_run Cert.Reference20Ideal.defs (onTc (τ := Cert.Reference20Ideal.τ) (Cert.Reference20Ideal.main (F := Ideal))) ⟨m', fun _ => 0, ρ'⟩ fun r =>
      ∀ c : Dev Cert.Reference20Ideal.nD,
        r.2.mem ((c.tc : Thread Cert.Reference20Ideal.nD Cert.Reference20Ideal.τ).loc Cert.Reference20Ideal.main_v85)
          = inputsOut (c := 1536) (m' ((c.tc : Thread Cert.Reference20Ideal.nD Cert.Reference20Ideal.τ).loc Cert.Reference20Ideal.main_arg1))
            (m' ((c.tc : Thread Cert.Reference20Ideal.nD Cert.Reference20Ideal.τ).loc Cert.Reference20Ideal.main_arg2))
        ∧ r.2.mem ((c.tc : Thread Cert.Reference20Ideal.nD Cert.Reference20Ideal.τ).loc Cert.Reference20Ideal.main_v79)
          = weightsOut (c := 1536) (e := 4736) (m' ((c.tc : Thread Cert.Reference20Ideal.nD Cert.Reference20Ideal.τ).loc Cert.Reference20Ideal.main_arg0)) 3072
            (m' ((c.tc : Thread Cert.Reference20Ideal.nD Cert.Reference20Ideal.τ).loc Cert.Reference20Ideal.main_arg1))
        ∧ r.2.mem ((c.tc : Thread Cert.Reference20Ideal.nD Cert.Reference20Ideal.τ).loc Cert.Reference20Ideal.main_v39)
          = biasOut (c := 1536) (m' ((c.tc : Thread Cert.Reference20Ideal.nD Cert.Reference20Ideal.τ).loc Cert.Reference20Ideal.main_arg1))
        ∧ r.2.mem ((c.tc : Thread Cert.Reference20Ideal.nD Cert.Reference20Ideal.τ).loc Cert.Reference20Ideal.main_arg0)
          = m' ((c.tc : Thread Cert.Reference20Ideal.nD Cert.Reference20Ideal.τ).loc Cert.Reference20Ideal.main_arg0)
        ∧ r.2.mem ((c.tc : Thread Cert.Reference20Ideal.nD Cert.Reference20Ideal.τ).loc Cert.Reference20Ideal.main_arg1)
          = m' ((c.tc : Thread Cert.Reference20Ideal.nD Cert.Reference20Ideal.τ).loc Cert.Reference20Ideal.main_arg1)
        ∧ r.2.mem ((c.tc : Thread Cert.Reference20Ideal.nD Cert.Reference20Ideal.τ).loc Cert.Reference20Ideal.main_arg2)
          = m' ((c.tc : Thread Cert.Reference20Ideal.nD Cert.Reference20Ideal.τ).loc Cert.Reference20Ideal.main_arg2) := by
  refine (θ_run Cert.Reference20Ideal.defs _ _).mono (fun r hr c => ⟨(hr c).1.trans ?_, (hr c).2.1.trans ?_, (hr c).2.2.1.trans ?_, (hr c).2.2.2⟩)
    (Cert.Reference20Ideal.Value.run m' ρ')
  · funext y
    exact inputs_apply (c := 1536) _ _ _ _ _ _ (fun i hi => ⟨moved_apply (c := 1536) _ _ 0 3 rfl _ _ _ _ _ _ _ i hi, moved_apply (c := 1536) _ _ 1 2 rfl _ _ _ _ _ _ _ i hi,
      moved_apply (c := 1536) _ _ 2 1 rfl _ _ _ _ _ _ _ i hi, moved_apply (c := 1536) _ _ 3 0 rfl _ _ _ _ _ _ _ i hi⟩)
      Cert.Reference20Ideal.Gen.slices_S4x2179x1536_S4x2176x1536_0_3_0 Cert.Reference20Ideal.Gen.shapeCasts_S4x2176x1536_S8704x1536 y
  · funext y
    unfold Cert.Reference20Ideal.Value.res_main_v79
    exact stack (c := 1536) _ _ _ _ (fun k j => weights (c := 1536) (e := 4736) _ 3072 _ (3 - k) j) (fun y => ⟨weight_row (c := 1536) (e := 4736) _ _ 3072 0 3 rfl (by omega) _ _ _ _ _ _ _ _ _ _ _ _ y,
      weight_row (c := 1536) (e := 4736) _ _ 3072 1 2 rfl (by omega) _ _ _ _ _ _ _ _ _ _ _ _ y, weight_row (c := 1536) (e := 4736) _ _ 3072 2 1 rfl (by omega) _ _ _ _ _ _ _ _ _ _ _ _ y,
      weight_row (c := 1536) (e := 4736) _ _ 3072 3 0 rfl (by omega) _ _ _ _ _ _ _ _ _ _ _ _ y⟩) _ _ _ _ _ y
  · funext y
    exact bias_row (c := 1536) _ _ _ _ _ _ _ _ y

theorem agree : Cert.algebraic_Kernel20Ideal_Reference20Ideal := fun m ρ m' ρ' _ h => by
  refine ⟨fun c => inputsOut (c := 1536) (dy m c) (w m c), fun c => weightsOut (c := 1536) (e := 4736) (x m c) 3072 (dy m c), fun c => biasOut (c := 1536) (dy m c), ?_, ?_⟩
  · exact (θ_run defs _ _).mono (fun r hr c => ⟨(hr c).1.trans (inputs_final m c), (hr c).2.1.trans (weights_final m c), (hr c).2.2.1.trans (bias_final m c), (hr c).2.2.2⟩)
      (Value.run_blocks m ρ)
  · refine (θ_run Cert.Reference20Ideal.defs _ _).mono (fun r hr c => ⟨(hr c).1.trans ?_, (hr c).2.1.trans ?_, (hr c).2.2.1.trans ?_, (hr c).2.2.2⟩) (reference m' ρ')
    · rw [(h c).2.1, (h c).2.2]
    · rw [(h c).1, (h c).2.1]
    · rw [(h c).2.1]

theorem frame_reference : Cert.quiescent_Reference20Ideal := fun m ρ _ =>
  (θ_run Cert.Reference20Ideal.defs _ _).mono (fun r h => ⟨fun c => (h c).2.2.2, sem_eq_zero_of_no_sems rfl r.2⟩) (Cert.Reference20Ideal.Value.run m ρ)

end Cert.Kernel20Ideal.Conv

end
-- ==== Proof.Norm.lean ====
/-
  The RMS norm of rows of 1024 channels and its gradient, for any number `a` of rows: as mathematics, as a block of the kernel computes them, and as
  the reference computes them. The gradient in the inputs is the incoming gradient of the residual, plus the gradient through the product, minus the
  gradient through the root. The kernel takes the third power of the root; the reference divides the root by the mean square, halves and adds twice.
  The mean square with the small constant added is never zero, so the two agree on all extended reals.
-/
module

public import proofs.«01_k».proof.Proof.Conv

@[expose] public section

set_option maxRecDepth 16384

noncomputable section

namespace Cert.Norm

open Cert.Products Idealize.ShloMosaic
open Idealize.ShloMosaic.ValueIdx (broadcastInDim_scalar_apply hostReduceAdd_apply)

/-! ## Mathematics -/

section Spec

/-- The number of channels. -/
def size : EReal := Ideal.ofBits .f32 0x44800000#32
/-- The small constant. -/
def eps : EReal := Ideal.ofBits .f32 0x358637BD#32
def minusHalf : EReal := Ideal.ofBits .f32 0xBF000000#32

theorem size_eq : size = ((1024 : ℝ) : EReal) := by
  unfold size
  simp [Ideal.ofBits, Ideal.ieee, -EReal.coe_mul]
  norm_num

theorem minusHalf_eq : minusHalf = ((-(1 / 2) : ℝ) : EReal) := by
  unfold minusHalf
  simp [Ideal.ofBits, Ideal.ieee, -EReal.coe_mul]
  norm_num

theorem eps_pos : 0 < eps := by
  unfold eps
  simp [Ideal.ofBits, Ideal.ieee, -EReal.coe_mul]

/-- The mean of a row, the row given by its channels. -/
def mean (f : ℕ → EReal) : EReal := Ideal.div (∑ k ∈ Finset.range 1024, f k) size
def meanSquare (x : ℕ → EReal) : EReal := mean (fun k => x k * x k) + eps
def root (x : ℕ → EReal) : EReal := Ideal.rsqrt (meanSquare x)

/-- The norm of a row, with its weights. -/
def forward (x w : ℕ → EReal) (j : ℕ) : EReal := x j * root x * w j
/-- The gradient in a row, where `u` is the gradient of the norm and `d` that of the residual. -/
def inputs (x u w d : ℕ → EReal) (j : ℕ) : EReal :=
  (d j + root x * (u j * w j)) - x j * (root x * root x * root x) * mean fun k => u k * w k * x k
/-- What a row adds to the gradient in the weights. -/
def weight (x u : ℕ → EReal) (j : ℕ) : EReal := u j * x j * root x

theorem mul_self_nonneg (x : EReal) : 0 ≤ x * x := by
  induction x with
  | bot => simp
  | top => simp
  | coe x => rw [← EReal.coe_mul]; exact EReal.coe_nonneg.mpr (_root_.mul_self_nonneg x)

theorem mean_eq (f : ℕ → EReal) : mean f = (∑ k ∈ Finset.range 1024, f k) * ((1 / 1024 : ℝ) : EReal) := by
  rw [mean, size_eq, Ideal.div_coe (by norm_num)]

theorem meanSquare_pos (x : ℕ → EReal) : 0 < meanSquare x := by
  have h : 0 ≤ mean fun k => x k * x k := by
    rw [mean_eq]
    exact mul_nonneg (Finset.sum_nonneg fun k _ => mul_self_nonneg (x k)) (EReal.coe_nonneg.mpr (by norm_num))
  refine lt_of_lt_of_le eps_pos ?_
  unfold meanSquare
  exact le_add_of_nonneg_left h

/-- The third power of the root is the root divided by the mean square. -/
theorem cube (v : EReal) (h : 0 < v) : Ideal.rsqrt v * Ideal.rsqrt v * Ideal.rsqrt v = Ideal.div (Ideal.rsqrt v) v := by
  induction v with
  | bot => exact absurd h (by simp)
  | top => rw [Ideal.rsqrt_top, Ideal.zero_div (by simp)]; simp
  | coe v =>
    have hv : 0 < v := EReal.coe_pos.mp h
    have hs : Real.sqrt v ≠ 0 := (Real.sqrt_pos.mpr hv).ne'
    rw [Ideal.div_coe hv.ne', Ideal.rsqrt_coe, if_neg (not_lt.mpr hv.le), if_neg hv.ne', ← EReal.coe_mul, ← EReal.coe_mul, ← EReal.coe_mul]
    congr 1
    field_simp
    rw [Real.sq_sqrt hv.le]

/-- Minus a half of a number, taken twice. -/
theorem halves (z : EReal) : z * minusHalf + z * minusHalf = -z := by
  rw [minusHalf_eq]
  induction z with
  | bot => rw [EReal.bot_mul_coe_of_neg (by norm_num)]; rfl
  | top => rw [EReal.top_mul_coe_of_neg (by norm_num)]; rfl
  | coe z => rw [← EReal.coe_mul, ← EReal.coe_add, ← EReal.coe_neg]; congr 1; ring

/-- The factor of an input in the gradient through the root, as automatic differentiation leaves it. -/
def factor (x u w : ℕ → EReal) : EReal :=
  Ideal.div ((∑ k ∈ Finset.range 1024, x k * (u k * w k)) * (minusHalf * Ideal.div (root x) (meanSquare x))) size

/-- The gradient in a row as automatic differentiation leaves it. -/
theorem inputs_eq (x u w d : ℕ → EReal) (j : ℕ) :
    ((d j + u j * w j * root x) + x j * factor x u w) + factor x u w * x j = inputs x u w d j := by
  have e : x j * factor x u w
      = x j * (root x * root x * root x) * mean (fun k => u k * w k * x k) * minusHalf := by
    unfold factor
    rw [show Ideal.div (root x) (meanSquare x) = _ from (cube _ (meanSquare_pos x)).symm, mean_eq, size_eq, Ideal.div_coe (by norm_num), Finset.sum_congr rfl fun k _ => mul_comm (x k) (u k * w k)]
    unfold root
    ac_rfl
  rw [mul_comm (factor x u w), add_assoc, e, halves, mul_comm (u j * w j), inputs, sub_eq_add_neg]

theorem weight_eq (x u : ℕ → EReal) (j : ℕ) : x j * root x * u j = weight x u j := by unfold weight; ac_rfl

end Spec

/-! ## Shapes -/

abbrev Mat (a : ℕ) : Shape := ⟨2, ![a, 1024]⟩
abbrev Col (a : ℕ) : Shape := ⟨2, ![a, 1]⟩
abbrev Vect (a : ℕ) : Shape := ⟨1, ![a]⟩
abbrev Scal : Shape := ⟨0, ![]⟩

/-- The channels of a row of an array. -/
def row {a : ℕ} [NeZero a] (x : (Mat a).Idx → EReal) (n : ℕ) : ℕ → EReal := at2 (a := a) (b := 1024) x n

section Arrays

variable {a : ℕ} [NeZero a]

theorem row_at (x : FVec Ideal (Mat a) .f32) (y : (Mat a).Idx) : x y = row x (y 0).val (y 1).val :=
  at2_of (a := a) (b := 1024) x y _ _ rfl rfl

theorem row_ix (x : FVec Ideal (Mat a) .f32) (n : Fin a) (k : Fin 1024) : x (ValueIdx.ix2 n k) = row x n.val k.val := row_at x _

/-- A row of a block is the row of the whole array. -/
theorem row_block {s o : ℕ} [NeZero s] (b : FVec Ideal (Mat s) .f32) (x : FVec Ideal (Mat a) .f32)
    (h : ∀ y : (Mat s).Idx, b y = row x (o + (y 0).val) (y 1).val) (n : ℕ) (hn : n < s) : row b n = row x (o + n) := by
  funext k
  refine (h _).trans ?_
  show x (ValueIdx.ix2 (Fin.ofNat a (o + n % s)) (Fin.ofNat 1024 (k % 1024))) = x (ValueIdx.ix2 (Fin.ofNat a (o + n)) (Fin.ofNat 1024 k))
  rw [Nat.mod_eq_of_lt hn]
  congr 2
  exact Fin.ext (Nat.mod_mod k 1024)

/-- The whole arrays of the gradient and the norm. -/
def forwardOut (x : FVec Ideal (Mat a) .f32) (w : FVec Ideal (Mat 1) .f32) : FVec Ideal (Mat a) .f32 := fun y =>
  forward (row x (y 0).val) (row w 0) (y 1).val
def inputsOut (x u : FVec Ideal (Mat a) .f32) (w : FVec Ideal (Mat 1) .f32) (d : FVec Ideal (Mat a) .f32) : FVec Ideal (Mat a) .f32 := fun y =>
  inputs (row x (y 0).val) (row u (y 0).val) (row w 0) (row d (y 0).val) (y 1).val
def weightOut (x u : FVec Ideal (Mat a) .f32) : FVec Ideal (Mat 1) .f32 := fun y =>
  ∑ n ∈ Finset.range a, weight (row x n) (row u n) (y 1).val

/-- A row, or a column, in the place of a whole array. -/
theorem column_apply (v : FVec Ideal (Col a) .f32) (hb : (Col a).Broadcasts (Mat a)) (f : ℕ → EReal) (hv : ∀ y : (Col a).Idx, v y = f (y 0).val)
    (y : (Mat a).Idx) : broadcastTo (Mat a) v hb y = f (y 0).val := by
  refine (broadcastTo_apply v hb y (ValueIdx.ix2 (y 0) (0 : Fin 1)) ?_).trans (hv _)
  intro d
  match d with
  | ⟨0, _⟩ =>
    show (y 0).val = if a = 1 then 0 else (y 0).val
    have : (y 0).val < a := (y 0).isLt
    split <;> omega
  | ⟨1, _⟩ => rfl

theorem spread_apply (w : FVec Ideal (Mat 1) .f32) (hb : (Mat 1).Broadcasts (Mat a)) (y : (Mat a).Idx) : broadcastTo (Mat a) w hb y = row w 0 (y 1).val := by
  refine (broadcastTo_apply w hb y (ValueIdx.ix2 (0 : Fin 1) (y 1)) ?_).trans (row_ix w 0 (y 1))
  intro d
  match d with
  | ⟨0, _⟩ => rfl
  | ⟨1, _⟩ => rfl

/-- A number for each row, as a column. -/
theorem upright_apply (v : FVec Ideal (Vect a) .f32) (hc : (Vect a).ShapeCasts (Col a)) (y : (Col a).Idx) :
    shapeCast (Col a) v hc y = v (ValueIdx.ix1 (y 0)) := by
  have h1 : (y 1).val < 1 := (y 1).isLt
  refine shapeCast_apply _ hc y (ValueIdx.ix1 (y 0)) ?_
  rw [rowMajor_val1, rowMajor_val2 _ 1 rfl]
  show (y 0).val = (y 0).val * 1 + (y 1).val
  omega

/-- A sum over each row, as a column. -/
theorem sums_apply (v : FVec Ideal (Mat a) .f32) (hr : (Mat a).Reduces [1] (Vect a)) (hc : (Vect a).ShapeCasts (Col a)) (f : ℕ → ℕ → EReal)
    (hv : ∀ y : (Mat a).Idx, v y = f (y 0).val (y 1).val) (y : (Col a).Idx) :
    shapeCast (Col a) (multiReduction .add [1] (Vect a) v 0x00000000#32 hr (.inl rfl) rfl) hc y = ∑ k ∈ Finset.range 1024, f (y 0).val k := by
  refine (upright_apply _ hc y).trans ?_
  refine (Ideal.reduceAdd_r2_a1 hr v _).trans ?_
  rw [Finset.sum_congr rfl fun k _ => hv _]
  exact sum_fin 1024 fun k => f (y 0).val k

/-- A sum over the rows, as a row. -/
theorem total_apply (v : FVec Ideal (Mat a) .f32) (hr : (Mat a).Reduces [0] (Vect 1024)) (hc : (Vect 1024).ShapeCasts (Mat 1)) (f : ℕ → ℕ → EReal)
    (hv : ∀ y : (Mat a).Idx, v y = f (y 0).val (y 1).val) (y : (Mat 1).Idx) :
    shapeCast (Mat 1) (multiReduction .add [0] (Vect 1024) v 0x00000000#32 hr (.inl rfl) rfl) hc y = ∑ n ∈ Finset.range a, f n (y 1).val := by
  have e : shapeCast (Mat 1) (multiReduction .add [0] (Vect 1024) v 0x00000000#32 hr (.inl rfl) rfl) hc y = ∑ n : Fin a, v (ValueIdx.ix2 n (y 1)) := by
    refine (shapeCast_addUnit_apply ![1024] _ hc y).trans ?_
    exact Ideal.reduceAdd_r2_a0 hr v _
  rw [e, Finset.sum_congr rfl fun n _ => hv (ValueIdx.ix2 n (y 1))]
  exact sum_fin a fun n => f n (y 1).val

/-! ## A block of the kernel -/

variable (hr : (Mat a).Reduces [1] (Vect a)) (hc : (Vect a).ShapeCasts (Col a)) (hb : (Col a).Broadcasts (Mat a)) (hw : (Mat 1).Broadcasts (Mat a))

/-- The mean of each row. -/
def means (v : FVec Ideal (Mat a) .f32) : FVec Ideal (Col a) .f32 :=
  divf (shapeCast (Col a) (multiReduction .add [1] (Vect a) v 0x00000000#32 hr (.inl rfl) rfl) hc) (broadcast (Col a) (Scalar.ofBits .f32 0x44800000#32 : Ideal .f32))

/-- The root of each row. -/
def roots (x : FVec Ideal (Mat a) .f32) : FVec Ideal (Col a) .f32 :=
  rsqrt (addf (means hr hc (mulf x x)) (broadcast (Col a) (Scalar.ofBits .f32 0x358637BD#32 : Ideal .f32)))

/-- The norm of a block. -/
def norms (x : FVec Ideal (Mat a) .f32) (w : FVec Ideal (Mat 1) .f32) : FVec Ideal (Mat a) .f32 :=
  mulf (mulf x (broadcastTo (Mat a) (roots hr hc x) hb)) (broadcastTo (Mat a) w hw)

/-- The gradient in the inputs of a block. -/
def grads (x u : FVec Ideal (Mat a) .f32) (w : FVec Ideal (Mat 1) .f32) (d : FVec Ideal (Mat a) .f32) : FVec Ideal (Mat a) .f32 :=
  subf (addf d (mulf (broadcastTo (Mat a) (roots hr hc x) hb) (mulf u (broadcastTo (Mat a) w hw))))
    (mulf (mulf x (broadcastTo (Mat a) (mulf (mulf (roots hr hc x) (roots hr hc x)) (roots hr hc x)) hb))
      (broadcastTo (Mat a) (means hr hc (mulf (mulf u (broadcastTo (Mat a) w hw)) x)) hb))

/-- What a block adds to the gradient in the weights, row by row. -/
def terms (x u : FVec Ideal (Mat a) .f32) : FVec Ideal (Mat a) .f32 := mulf (mulf u x) (broadcastTo (Mat a) (roots hr hc x) hb)

theorem means_apply (v : FVec Ideal (Mat a) .f32) (f : ℕ → ℕ → EReal) (hv : ∀ y : (Mat a).Idx, v y = f (y 0).val (y 1).val) (y : (Col a).Idx) :
    means hr hc v y = mean (f (y 0).val) :=
  congrArg (Ideal.div · size) (sums_apply v hr hc f hv y)

theorem roots_apply (x : FVec Ideal (Mat a) .f32) (y : (Col a).Idx) : roots hr hc x y = root (row x (y 0).val) :=
  congrArg (fun z => Ideal.rsqrt (z + eps)) (means_apply hr hc (mulf x x) (fun n k => row x n k * row x n k)
    (fun y => congrArg₂ (· * ·) (row_at x y) (row_at x y)) y)

theorem norms_apply (x : FVec Ideal (Mat a) .f32) (w : FVec Ideal (Mat 1) .f32) : norms hr hc hb hw x w = forwardOut x w := by
  funext y
  exact congrArg₂ (· * ·) (congrArg₂ (· * ·) (row_at x y) (column_apply _ hb (fun n => root (row x n)) (roots_apply hr hc x) y)) (spread_apply w hw y)

theorem grads_apply (x u : FVec Ideal (Mat a) .f32) (w : FVec Ideal (Mat 1) .f32) (d : FVec Ideal (Mat a) .f32) :
    grads hr hc hb hw x u w d = inputsOut x u w d := by
  funext y
  have huw : ∀ y : (Mat a).Idx, mulf u (broadcastTo (Mat a) w hw) y = row u (y 0).val (y 1).val * row w 0 (y 1).val :=
    fun y => congrArg₂ (· * ·) (row_at u y) (spread_apply w hw y)
  refine congrArg₂ (· - ·) (congrArg₂ (· + ·) (row_at d y) (congrArg₂ (· * ·) (column_apply _ hb (fun n => root (row x n)) (roots_apply hr hc x) y) (huw y)))
    (congrArg₂ (· * ·) (congrArg₂ (· * ·) (row_at x y) (column_apply _ hb (fun n => root (row x n) * root (row x n) * root (row x n)) (fun y => ?_) y))
      (column_apply _ hb (fun n => mean fun k => row u n k * row w 0 k * row x n k) (means_apply hr hc _ (fun n k => row u n k * row w 0 k * row x n k) fun y => ?_) y))
  · exact congrArg (fun z => z * z * z) (roots_apply hr hc x y)
  · exact congrArg₂ (· * ·) (huw y) (row_at x y)

theorem terms_apply (x u : FVec Ideal (Mat a) .f32) (y : (Mat a).Idx) : terms hr hc hb x u y = weight (row x (y 0).val) (row u (y 0).val) (y 1).val :=
  congrArg₂ (· * ·) (congrArg₂ (· * ·) (row_at u y) (row_at x y)) (column_apply _ hb (fun n => root (row x n)) (roots_apply hr hc x) y)

/-! ## The reference -/

section Host

variable (h1 : (Mat a).ReducesTo [1] (Vect a)) (h0 : (Mat a).ReducesTo [0] (Vect 1024)) (h2 : (Col a).ReducesTo [1] (Vect a)) (hu : 0 < Scal.numel)
variable (bv : (Vect a).BroadcastsInDim (Col a) ![0]) (bm : (Vect a).BroadcastsInDim (Mat a) ![0]) (bs : Scal.BroadcastsInDim (Col a) ![])
variable (bc : (Col a).BroadcastsInDim (Mat a) ![0, 1]) (br : (Mat 1).BroadcastsInDim (Mat a) ![0, 1]) (hv1 : (Vect 1024).ShapeCasts (Mat 1))

abbrev zero : FVec Ideal Scal .f32 := constant Scal .f32 0x00000000#32

theorem zero_first : zero (Shape.Idx.first hu) = (0 : EReal) := Ideal.ofBits_zero_f32

theorem hostSums_apply (v : FVec Ideal (Mat a) .f32) (f : ℕ → ℕ → EReal) (hv : ∀ y : (Mat a).Idx, v y = f (y 0).val (y 1).val) (i : (Vect a).Idx) :
    Host.reduceAdd v zero h1 hu i = ∑ k ∈ Finset.range 1024, f (i 0).val k := by
  rw [hostReduceAdd_apply, zero_first, Ideal.hostReduceAdd_r2_a1, zero_add, Finset.sum_congr rfl fun k _ => hv _]
  exact sum_fin 1024 fun k => f (i 0).val k

theorem hostTotal_apply (v : FVec Ideal (Mat a) .f32) (f : ℕ → ℕ → EReal) (hv : ∀ y : (Mat a).Idx, v y = f (y 0).val (y 1).val) (y : (Mat 1).Idx) :
    shapeCast (Mat 1) (Host.reduceAdd v zero h0 hu) hv1 y = ∑ n ∈ Finset.range a, f n (y 1).val := by
  have g : ∀ j : (Vect 1024).Idx, Host.reduceAdd v zero h0 hu j = ∑ n ∈ Finset.range a, f n (j 0).val := fun j => by
    rw [hostReduceAdd_apply, zero_first, Ideal.hostReduceAdd_r2_a0, zero_add, Finset.sum_congr rfl fun k _ => hv _]
    exact sum_fin a fun n => f n (j 0).val
  exact (shapeCast_addUnit_apply ![1024] _ hv1 y).trans (g _)

theorem hostSingle_apply (v : FVec Ideal (Col a) .f32) (f : ℕ → EReal) (hv : ∀ y : (Col a).Idx, v y = f (y 0).val) (i : (Vect a).Idx) :
    Host.reduceAdd v zero h2 hu i = f (i 0).val := by
  rw [hostReduceAdd_apply, zero_first, Ideal.hostReduceAdd_r2_a1, zero_add, Fin.sum_univ_one]
  exact hv _

theorem hostUpright_apply (v : FVec Ideal (Vect a) .f32) (y : (Col a).Idx) : broadcastInDim (Col a) ![0] bv v y = v (ValueIdx.ix1 (y 0)) := by
  refine broadcastInDim_apply ![0] bv v y (ValueIdx.ix1 (y 0)) fun d => ?_
  match d with
  | ⟨0, _⟩ =>
    show (y 0).val = if a = 1 then 0 else (y 0).val
    have : (y 0).val < a := (y 0).isLt
    split <;> omega

theorem hostWide_apply (v : FVec Ideal (Vect a) .f32) (y : (Mat a).Idx) : broadcastInDim (Mat a) ![0] bm v y = v (ValueIdx.ix1 (y 0)) := by
  refine broadcastInDim_apply ![0] bm v y (ValueIdx.ix1 (y 0)) fun d => ?_
  match d with
  | ⟨0, _⟩ =>
    show (y 0).val = if a = 1 then 0 else (y 0).val
    have : (y 0).val < a := (y 0).isLt
    split <;> omega

theorem hostColumn_apply (v : FVec Ideal (Col a) .f32) (f : ℕ → EReal) (hv : ∀ y : (Col a).Idx, v y = f (y 0).val) (y : (Mat a).Idx) :
    broadcastInDim (Mat a) ![0, 1] bc v y = f (y 0).val := by
  refine (broadcastInDim_apply ![0, 1] bc v y (ValueIdx.ix2 (y 0) (0 : Fin 1)) fun d => ?_).trans (hv _)
  match d with
  | ⟨0, _⟩ =>
    show (y 0).val = if a = 1 then 0 else (y 0).val
    have : (y 0).val < a := (y 0).isLt
    split <;> omega
  | ⟨1, _⟩ => rfl

theorem hostSpread_apply (w : FVec Ideal (Mat 1) .f32) (y : (Mat a).Idx) : broadcastInDim (Mat a) ![0, 1] br w y = row w 0 (y 1).val := by
  refine (broadcastInDim_apply ![0, 1] br w y (ValueIdx.ix2 (0 : Fin 1) (y 1)) fun d => ?_).trans (row_ix w 0 (y 1))
  match d with
  | ⟨0, _⟩ => rfl
  | ⟨1, _⟩ => rfl

/-- The mean squares of the rows. -/
def hostSquares (x : FVec Ideal (Mat a) .f32) : FVec Ideal (Col a) .f32 :=
  addf (Host.divf (broadcastInDim (Col a) ![0] bv (Host.reduceAdd (mulf x x) zero h1 hu)) (broadcastInDim (Col a) ![] bs (constant Scal .f32 0x44800000#32)))
    (broadcastInDim (Col a) ![] bs (constant Scal .f32 0x358637BD#32))

def hostRoots (x : FVec Ideal (Mat a) .f32) : FVec Ideal (Col a) .f32 := Host.rsqrt (hostSquares h1 hu bv bs x)

/-- The factors of the inputs in the gradient through the root. -/
def hostFactors (x u : FVec Ideal (Mat a) .f32) (w : FVec Ideal (Mat 1) .f32) (hc : (Vect a).ShapeCasts (Col a)) : FVec Ideal (Mat a) .f32 :=
  broadcastInDim (Mat a) ![0] bm (Host.reduceAdd (Host.divf
    (mulf (shapeCast _ (Host.reduceAdd (mulf x (mulf u (broadcastInDim (Mat a) ![0, 1] br w))) zero h1 hu) hc)
      (mulf (broadcastInDim (Col a) ![] bs (constant Scal .f32 0xBF000000#32)) (Host.divf (hostRoots h1 hu bv bs x) (hostSquares h1 hu bv bs x))))
    (broadcastInDim (Col a) ![] bs (constant Scal .f32 0x44800000#32))) zero h2 hu)

def hostNorms (x : FVec Ideal (Mat a) .f32) (w : FVec Ideal (Mat 1) .f32) : FVec Ideal (Mat a) .f32 :=
  mulf (mulf x (broadcastInDim (Mat a) ![0, 1] bc (hostRoots h1 hu bv bs x))) (broadcastInDim (Mat a) ![0, 1] br w)

def hostGrads (x u : FVec Ideal (Mat a) .f32) (w : FVec Ideal (Mat 1) .f32) (d : FVec Ideal (Mat a) .f32) (hc : (Vect a).ShapeCasts (Col a)) :
    FVec Ideal (Mat a) .f32 :=
  addf (addf (addf d (mulf (mulf u (broadcastInDim (Mat a) ![0, 1] br w)) (broadcastInDim (Mat a) ![0, 1] bc (hostRoots h1 hu bv bs x))))
    (mulf x (hostFactors h1 h2 hu bv bm bs br x u w hc))) (mulf (hostFactors h1 h2 hu bv bm bs br x u w hc) x)

def hostWeights (x u : FVec Ideal (Mat a) .f32) : FVec Ideal (Mat 1) .f32 :=
  shapeCast (Mat 1) (Host.reduceAdd (mulf (mulf x (broadcastInDim (Mat a) ![0, 1] bc (hostRoots h1 hu bv bs x))) u) zero h0 hu) hv1

theorem hostSquares_apply (x : FVec Ideal (Mat a) .f32) (y : (Col a).Idx) : hostSquares h1 hu bv bs x y = meanSquare (row x (y 0).val) :=
  congrArg₂ (· + ·) (congrArg₂ Ideal.div
    ((hostUpright_apply bv _ y).trans (hostSums_apply h1 hu (mulf x x) (fun n k => row x n k * row x n k) (fun y => congrArg₂ (· * ·) (row_at x y) (row_at x y)) _))
    (broadcastInDim_scalar_apply bs _ y)) (broadcastInDim_scalar_apply bs _ y)

theorem hostRoots_apply (x : FVec Ideal (Mat a) .f32) (y : (Col a).Idx) : hostRoots h1 hu bv bs x y = root (row x (y 0).val) :=
  congrArg Ideal.rsqrt (hostSquares_apply h1 hu bv bs x y)

theorem hostFactors_apply (x u : FVec Ideal (Mat a) .f32) (w : FVec Ideal (Mat 1) .f32) (hc : (Vect a).ShapeCasts (Col a)) (y : (Mat a).Idx) :
    hostFactors h1 h2 hu bv bm bs br x u w hc y = factor (row x (y 0).val) (row u (y 0).val) (row w 0) := by
  refine (hostWide_apply bm _ y).trans (hostSingle_apply h2 hu _ (fun n => factor (row x n) (row u n) (row w 0)) (fun y => ?_) _)
  refine congrArg₂ Ideal.div (congrArg₂ (· * ·) ((upright_apply _ hc y).trans
      (hostSums_apply h1 hu _ (fun n k => row x n k * (row u n k * row w 0 k)) (fun y => ?_) _))
    (congrArg₂ (· * ·) (broadcastInDim_scalar_apply bs _ y) (congrArg₂ Ideal.div (hostRoots_apply h1 hu bv bs x y) (hostSquares_apply h1 hu bv bs x y))))
    (broadcastInDim_scalar_apply bs _ y)
  exact congrArg₂ (· * ·) (row_at x y) (congrArg₂ (· * ·) (row_at u y) (hostSpread_apply br w y))

theorem hostNorms_apply (x : FVec Ideal (Mat a) .f32) (w : FVec Ideal (Mat 1) .f32) : hostNorms h1 hu bv bs bc br x w = forwardOut x w := by
  funext y
  exact congrArg₂ (· * ·) (congrArg₂ (· * ·) (row_at x y) (hostColumn_apply bc _ (fun n => root (row x n)) (hostRoots_apply h1 hu bv bs x) y))
    (hostSpread_apply br w y)

theorem hostGrads_apply (x u : FVec Ideal (Mat a) .f32) (w : FVec Ideal (Mat 1) .f32) (d : FVec Ideal (Mat a) .f32) (hc : (Vect a).ShapeCasts (Col a)) :
    hostGrads h1 h2 hu bv bm bs bc br x u w d hc = inputsOut x u w d := by
  funext y
  refine Eq.trans ?_ (inputs_eq (row x (y 0).val) (row u (y 0).val) (row w 0) (row d (y 0).val) (y 1).val)
  exact congrArg₂ (· + ·) (congrArg₂ (· + ·) (congrArg₂ (· + ·) (row_at d y) (congrArg₂ (· * ·) (congrArg₂ (· * ·) (row_at u y) (hostSpread_apply br w y))
      (hostColumn_apply bc _ (fun n => root (row x n)) (hostRoots_apply h1 hu bv bs x) y)))
    (congrArg₂ (· * ·) (row_at x y) (hostFactors_apply h1 h2 hu bv bm bs br x u w hc y)))
    (congrArg₂ (· * ·) (hostFactors_apply h1 h2 hu bv bm bs br x u w hc y) (row_at x y))

theorem hostWeights_apply (x u : FVec Ideal (Mat a) .f32) : hostWeights h1 h0 hu bv bs bc hv1 x u = weightOut x u := by
  funext y
  refine hostTotal_apply h0 hu hv1 _ (fun n j => weight (row x n) (row u n) j) (fun y => Eq.trans ?_ (weight_eq (row x (y 0).val) (row u (y 0).val) (y 1).val)) y
  exact congrArg₂ (· * ·) (congrArg₂ (· * ·) (row_at x y) (hostColumn_apply bc _ (fun n => root (row x n)) (hostRoots_apply h1 hu bv bs x) y)) (row_at u y)

end Host

end Arrays

end Cert.Norm

end
-- ==== Proof.NormBwd.lean ====
/-
  The gradient of the RMS norm before each layer, with the incoming gradient of the residual added: blocks of 256 rows, the gradient in the weights
  added up over the blocks. The gradient in the inputs is left twice, as it is and rounded to the shorter format.
-/
module

public import proofs.«01_k».proof.Defs
public import proofs.«01_k».proof.Proof.Norm
public import proofs.«01_k».proof.Proof.Gen.Kernel21Ideal.Value
public import proofs.«01_k».proof.Proof.Gen.Reference21Ideal
public import proofs.«01_k».proof.Proof.Gen.Reference21Ideal.Run
public import Idealize.ShloMosaic.Lib.Quiescent

@[expose] public section

set_option maxRecDepth 16384

noncomputable section

namespace Cert.Kernel21Ideal.Norm

open Cert.Kernel21Ideal Cert.Kernel21Ideal.Gen Cert.Products Cert.Norm Idealize.ShloMosaic Idealize.ShloMosaic.TcCoe Idealize.SL.Sem

variable (m : (ℓ : Loc nD τ sig) → Buf (Elt Ideal) ℓ) (c : Dev nD)

theorem idx : ∀ t : Fin grid0.N, win0_0.index t = ![t.val, 0] ∧ win0_1.index t = ![t.val, 0] ∧ win0_2.index t = ![0, 0] ∧ win0_3.index t = ![t.val, 0]
    ∧ win0_4.index t = ![t.val, 0] ∧ win0_5.index t = ![t.val, 0] ∧ win0_6.index t = ![0, 0] := by
  decide +kernel

abbrev u : FVec Ideal S8704x1024 .f32 := m ((c : Thread nD τ).loc main_arg0)
abbrev x : FVec Ideal S8704x1024 .f32 := m ((c : Thread nD τ).loc main_arg1)
abbrev w : FVec Ideal S1x1024 .f32 := m ((c : Thread nD τ).loc main_arg2)
abbrev d : FVec Ideal S8704x1024 .f32 := m ((c : Thread nD τ).loc main_arg3)

/-! ## The blocks of the arguments -/

theorem u_at (t : Fin cfg0.N) (y : S256x1024.Idx) : iblk m c 0 t y = row (a := 8704) (u m c) (256 * t.val + (y 0).val) (y 1).val := by
  show V m c main_arg0 (((cfg0.win 0).blk t).view.emb y) = _
  rw [V_main_arg0]
  exact at2_of (a := 8704) (b := 1024) _ _ _ _ (by blk_simp [(idx t).1]; omega) (by blk_simp [(idx t).1])

theorem x_at (t : Fin cfg0.N) (y : S256x1024.Idx) : iblk m c 1 t y = row (a := 8704) (x m c) (256 * t.val + (y 0).val) (y 1).val := by
  show V m c main_arg1 (((cfg0.win 1).blk t).view.emb y) = _
  rw [V_main_arg1]
  exact at2_of (a := 8704) (b := 1024) _ _ _ _ (by blk_simp [(idx t).2.1]; omega) (by blk_simp [(idx t).2.1])

theorem w_at (t : Fin cfg0.N) (y : S1x1024.Idx) : iblk m c 2 t y = row (a := 1) (w m c) (0 + (y 0).val) (y 1).val := by
  show V m c main_arg2 (((cfg0.win 2).blk t).view.emb y) = _
  rw [V_main_arg2]
  exact at2_of (a := 1) (b := 1024) _ _ _ _ (by blk_simp [(idx t).2.2.1]) (by blk_simp [(idx t).2.2.1])

theorem d_at (t : Fin cfg0.N) (y : S256x1024.Idx) : iblk m c 3 t y = row (a := 8704) (d m c) (256 * t.val + (y 0).val) (y 1).val := by
  show V m c main_arg3 (((cfg0.win 3).blk t).view.emb y) = _
  rw [V_main_arg3]
  exact at2_of (a := 8704) (b := 1024) _ _ _ _ (by blk_simp [(idx t).2.2.2.1]; omega) (by blk_simp [(idx t).2.2.2.1])

theorem u_row (t : Fin cfg0.N) (n : ℕ) (h : n < 256) : row (a := 256) (iblk m c 0 t) n = row (a := 8704) (u m c) (256 * t.val + n) :=
  row_block (a := 8704) (s := 256) _ (u m c) (u_at m c t) n h
theorem x_row (t : Fin cfg0.N) (n : ℕ) (h : n < 256) : row (a := 256) (iblk m c 1 t) n = row (a := 8704) (x m c) (256 * t.val + n) :=
  row_block (a := 8704) (s := 256) _ (x m c) (x_at m c t) n h
theorem w_row (t : Fin cfg0.N) : row (a := 1) (iblk m c 2 t) 0 = row (a := 1) (w m c) 0 :=
  row_block (a := 1) (s := 1) _ (w m c) (w_at m c t) 0 Nat.one_pos
theorem d_row (t : Fin cfg0.N) (n : ℕ) (h : n < 256) : row (a := 256) (iblk m c 3 t) n = row (a := 8704) (d m c) (256 * t.val + n) :=
  row_block (a := 8704) (s := 256) _ (d m c) (d_at m c t) n h

/-! ## What a point writes -/

theorem payload (x u : FVec Ideal S256x1024 .f32) (w : FVec Ideal S1x1024 .f32) (d : FVec Ideal S256x1024 .f32) :
    k0_pay4 x u w d = grads (a := 256) reduces_S256x1024_S256 shapeCasts_S256_S256x1 broadcasts_S256x1_S256x1024 broadcasts_S1x1024_S256x1024 x u w d := rfl

/-- The gradient in the inputs of a block of rows. -/
theorem grads_at (t : Fin cfg0.N) (y : S256x1024.Idx) :
    k0_pay4 (F := Ideal) (iblk m c 1 t) (iblk m c 0 t) (iblk m c 2 t) (iblk m c 3 t) y
      = inputs (row (a := 8704) (x m c) (256 * t.val + (y 0).val)) (row (a := 8704) (u m c) (256 * t.val + (y 0).val)) (row (a := 1) (w m c) 0)
        (row (a := 8704) (d m c) (256 * t.val + (y 0).val)) (y 1).val := by
  have hy : (y 0).val < 256 := (y 0).isLt
  rw [payload, grads_apply]
  unfold inputsOut
  rw [x_row m c t _ hy, u_row m c t _ hy, w_row, d_row m c t _ hy]

theorem inputs_at (t : Fin cfg0.N) (y : S256x1024.Idx) :
    (outsAt0 m c t.val t.isLt).1 y
      = inputs (row (a := 8704) (x m c) (256 * t.val + (y 0).val)) (row (a := 8704) (u m c) (256 * t.val + (y 0).val)) (row (a := 1) (w m c) 0)
        (row (a := 8704) (d m c) (256 * t.val + (y 0).val)) (y 1).val := by
  by_cases h : t.val % 34 = 0
  · rw [outsAt0_A m c t h]; frame_out
    exact grads_at m c t y
  · rw [outsAt0_B m c t h]; frame_out
    exact grads_at m c t y

theorem rounded_at (t : Fin cfg0.N) (y : S256x1024.Idx) :
    (outsAt0 m c t.val t.isLt).2.1 y
      = inputs (row (a := 8704) (x m c) (256 * t.val + (y 0).val)) (row (a := 8704) (u m c) (256 * t.val + (y 0).val)) (row (a := 1) (w m c) 0)
        (row (a := 8704) (d m c) (256 * t.val + (y 0).val)) (y 1).val := by
  by_cases h : t.val % 34 = 0
  · rw [outsAt0_A m c t h]; frame_out
    exact grads_at m c t y
  · rw [outsAt0_B m c t h]; frame_out
    exact grads_at m c t y

/-- What a row adds to the gradient in the weights. -/
abbrev term (n j : ℕ) : EReal := weight (row (a := 8704) (x m c) n) (row (a := 8704) (u m c) n) j

theorem step (t : Fin cfg0.N) (p : FVec Ideal S1x1024 .f32) (y : S1x1024.Idx) :
    k0_pay1 (F := Ideal) (iblk m c 1 t) (k0_pay3 (iblk m c 1 t)) (iblk m c 0 t) p y = p y + ∑ r ∈ Finset.range 256, term m c (256 * t.val + r) (y 1).val := by
  refine congrArg₂ (· + ·) (shapeCast_apply _ shapeCasts_S1x1024_S1x1024 y y rfl) ?_
  refine total_apply (a := 256) _ reduces_S256x1024_S1024 shapeCasts_S1024_S1x1024 (fun r j => term m c (256 * t.val + r) j) (fun z => ?_) y
  have hz : (z 0).val < 256 := (z 0).isLt
  refine (terms_apply (a := 256) reduces_S256x1024_S256 shapeCasts_S256_S256x1 broadcasts_S256x1_S256x1024 (iblk m c 1 t) (iblk m c 0 t) z).trans ?_
  rw [x_row m c t _ hz, u_row m c t _ hz]

/-- The gradient in the weights, added up over the blocks so far. -/
theorem weights_at (t : Fin cfg0.N) (y : S1x1024.Idx) :
    (outsAt0 m c t.val t.isLt).2.2 y = 0 + ∑ s ∈ Finset.range (t.val % 34 + 1), ∑ r ∈ Finset.range 256, term m c (256 * (34 * (t.val / 34) + s) + r) (y 1).val := by
  refine Pipeline.eq_sum_of_reset_step_apply_divmod (fun n h => (outsAt0 m c n h).2.2) 34 (fun _ => (0 : EReal))
    (fun q s y => ∑ r ∈ Finset.range 256, term m c (256 * (34 * q + s) + r) (y 1).val) (fun t h y => ?_) (fun t h y => ?_) t y
  · rw [outsAt0_A m c t h]; frame_out
    refine (step m c t _ y).trans (congrArg₂ (· + ·) Ideal.ofBits_zero_f32 ?_)
    rw [show 34 * (t.val / 34) + t.val % 34 = t.val by omega]
  · rw [outsAt0_B m c t h]; frame_out
    refine (step m c t _ y).trans (congrArg₂ (· + ·) rfl ?_)
    rw [show 34 * (t.val / 34) + t.val % 34 = t.val by omega]

/-! ## The three results -/

theorem inputs_final : (dats m 0 c).arrAt 4 cfg0.N = inputsOut (a := 8704) (x m c) (u m c) (w m c) (d m c) := by
  refine (dats m 0 c).arrAt_eq_of_covers 4 _ (by decide +kernel) fun t hf y => ?_
  obtain ⟨-, -, -, -, e4, -, -⟩ := idx t
  blk_simp
  rw [after0_4, inputs_at]
  have g0 : (((cfg0.win 4).blk t).view.emb y 0).val = 256 * t.val + (y 0).val := by blk_simp [e4]; omega
  have g1 : (((cfg0.win 4).blk t).view.emb y 1).val = (y 1).val := by blk_simp [e4]
  unfold inputsOut
  rw [g0, g1]

theorem rounded_final : (dats m 0 c).arrAt 5 cfg0.N = inputsOut (a := 8704) (x m c) (u m c) (w m c) (d m c) := by
  refine (dats m 0 c).arrAt_eq_of_covers 5 _ (by decide +kernel) fun t hf y => ?_
  obtain ⟨-, -, -, -, -, e5, -⟩ := idx t
  blk_simp
  rw [after0_5, rounded_at]
  have g0 : (((cfg0.win 5).blk t).view.emb y 0).val = 256 * t.val + (y 0).val := by blk_simp [e5]; omega
  have g1 : (((cfg0.win 5).blk t).view.emb y 1).val = (y 1).val := by blk_simp [e5]
  unfold inputsOut
  rw [g0, g1]

theorem weights_final : (dats m 0 c).arrAt 6 cfg0.N = weightOut (a := 8704) (x m c) (u m c) := by
  refine (dats m 0 c).arrAt_eq_of_covers 6 _ (by decide +kernel) fun t hf y => ?_
  have ht : t.val % 34 = 33 := (flush0_6 t).mp hf
  have hq : t.val / 34 = 0 := by have : t.val < 34 := t.isLt; omega
  obtain ⟨-, -, -, -, -, -, e6⟩ := idx t
  blk_simp
  rw [after0_6, weights_at, zero_add, ht, hq]
  have g1 : (((cfg0.win 6).blk t).view.emb y 1).val = (y 1).val := by blk_simp [e6]
  unfold weightOut
  rw [g1]
  refine Eq.trans ?_ (Cert.Conv.sum_blocks (fun n => term m c n (y 1).val) 34)
  simp only [Nat.mul_zero, Nat.zero_add]

theorem agree : Cert.algebraic_Kernel21Ideal_Reference21Ideal := fun m ρ m' ρ' _ h => by
  refine ⟨fun c => inputsOut (a := 8704) (x m c) (u m c) (w m c) (d m c), fun c => inputsOut (a := 8704) (x m c) (u m c) (w m c) (d m c),
    fun c => weightOut (a := 8704) (x m c) (u m c), ?_, ?_⟩
  · exact (θ_run defs _ _).mono (fun r hr c => ⟨(hr c).1.trans (inputs_final m c), (hr c).2.1.trans (rounded_final m c), (hr c).2.2.1.trans (weights_final m c), (hr c).2.2.2⟩)
      (Value.run_blocks m ρ)
  · refine (θ_run Cert.Reference21Ideal.defs _ _).mono (fun r hr c => ⟨(hr c).1.trans ?_, (hr c).2.1.trans ?_, (hr c).2.2.1.trans ?_, (hr c).2.2.2⟩)
      (Cert.Reference21Ideal.Value.run m' ρ')
    · rw [(h c).1, (h c).2.1, (h c).2.2.1, (h c).2.2.2]
      exact hostGrads_apply (a := 8704) _ _ _ _ _ _ _ _ _ _ _ _ _
    · rw [(h c).1, (h c).2.1, (h c).2.2.1, (h c).2.2.2]
      exact hostGrads_apply (a := 8704) _ _ _ _ _ _ _ _ _ _ _ _ _
    · rw [(h c).1, (h c).2.1]
      exact hostWeights_apply (a := 8704) _ _ _ _ _ _ _ _ _

theorem frame_reference : Cert.quiescent_Reference21Ideal := fun m ρ _ =>
  (θ_run Cert.Reference21Ideal.defs _ _).mono (fun r h => ⟨fun c => (h c).2.2.2, sem_eq_zero_of_no_sems rfl r.2⟩) (Cert.Reference21Ideal.Value.run m ρ)

end Cert.Kernel21Ideal.Norm

end
-- ==== Proof.NormFwd.lean ====
/-
  The RMS norm before each layer: blocks of 512 rows, each row divided by the root of its mean square and multiplied by the weights.
-/
module

public import proofs.«01_k».proof.Defs
public import proofs.«01_k».proof.Proof.Norm
public import proofs.«01_k».proof.Proof.Gen.Kernel22Ideal.Value
public import proofs.«01_k».proof.Proof.Gen.Reference22Ideal
public import proofs.«01_k».proof.Proof.Gen.Reference22Ideal.Run
public import Idealize.ShloMosaic.Lib.Quiescent

@[expose] public section

set_option maxRecDepth 16384

noncomputable section

namespace Cert.Kernel22Ideal.Norm

open Cert.Kernel22Ideal Cert.Kernel22Ideal.Gen Cert.Products Cert.Norm Idealize.ShloMosaic Idealize.ShloMosaic.TcCoe Idealize.SL.Sem

variable (m : (ℓ : Loc nD τ sig) → Buf (Elt Ideal) ℓ) (c : Dev nD)

theorem idx : ∀ t : Fin grid0.N, win0_0.index t = ![t.val, 0] ∧ win0_1.index t = ![0, 0] ∧ win0_2.index t = ![t.val, 0] := by
  decide +kernel

abbrev x : FVec Ideal S8704x1024 .f32 := m ((c : Thread nD τ).loc main_arg0)
abbrev w : FVec Ideal S1x1024 .f32 := m ((c : Thread nD τ).loc main_arg1)

theorem x_at (t : Fin cfg0.N) (y : S512x1024.Idx) : iblk m c 0 t y = row (a := 8704) (x m c) (512 * t.val + (y 0).val) (y 1).val := by
  show V m c main_arg0 (((cfg0.win 0).blk t).view.emb y) = _
  rw [V_main_arg0]
  exact at2_of (a := 8704) (b := 1024) _ _ _ _ (by blk_simp [(idx t).1]; omega) (by blk_simp [(idx t).1])

theorem w_at (t : Fin cfg0.N) (y : S1x1024.Idx) : iblk m c 1 t y = row (a := 1) (w m c) (0 + (y 0).val) (y 1).val := by
  show V m c main_arg1 (((cfg0.win 1).blk t).view.emb y) = _
  rw [V_main_arg1]
  exact at2_of (a := 1) (b := 1024) _ _ _ _ (by blk_simp [(idx t).2.1]) (by blk_simp [(idx t).2.1])

theorem payload (x : FVec Ideal S512x1024 .f32) (w : FVec Ideal S1x1024 .f32) (y : S512x1024.Idx) :
    k0_pay1 (F := Ideal) x w y = norms (a := 512) reduces_S512x1024_S512 shapeCasts_S512_S512x1 broadcasts_S512x1_S512x1024 broadcasts_S1x1024_S512x1024 x w y := rfl

/-- The block a point writes is the norm of its block of rows. -/
theorem block_at (t : Fin cfg0.N) (y : S512x1024.Idx) :
    out0_2 (iblk m c 0 t) (iblk m c 1 t) y = forward (row (a := 8704) (x m c) (512 * t.val + (y 0).val)) (row (a := 1) (w m c) 0) (y 1).val := by
  frame_out
  refine (payload _ _ y).trans ?_
  rw [norms_apply]
  unfold forwardOut
  rw [row_block (a := 8704) (s := 512) (iblk m c 0 t) (x m c) (x_at m c t) _ (y 0).isLt,
    row_block (a := 1) (s := 1) (iblk m c 1 t) (w m c) (w_at m c t) 0 Nat.one_pos]

theorem final : (dats m 0 c).arrAt 2 cfg0.N = forwardOut (a := 8704) (x m c) (w m c) := by
  refine (dats m 0 c).arrAt_eq_of_covers 2 _ (by decide +kernel) fun t hf y => ?_
  obtain ⟨-, -, e2⟩ := idx t
  blk_simp
  rw [after0_2, block_at]
  have g0 : (((cfg0.win 2).blk t).view.emb y 0).val = 512 * t.val + (y 0).val := by blk_simp [e2]; omega
  have g1 : (((cfg0.win 2).blk t).view.emb y 1).val = (y 1).val := by blk_simp [e2]
  unfold forwardOut
  rw [g0, g1]

theorem agree : Cert.algebraic_Kernel22Ideal_Reference22Ideal := fun m ρ m' ρ' _ h => by
  refine ⟨fun c => forwardOut (a := 8704) (x m c) (w m c), ?_, ?_⟩
  · exact (θ_run defs _ _).mono (fun r hr c => ⟨(hr c).1.trans (final m c), (hr c).2⟩) (Value.run_blocks m ρ)
  · refine (θ_run Cert.Reference22Ideal.defs _ _).mono (fun r hr c => ⟨(hr c).1.trans ?_, (hr c).2⟩) (Cert.Reference22Ideal.Value.run m' ρ')
    rw [(h c).1, (h c).2]
    exact hostNorms_apply (a := 8704) _ _ _ _ _ _ _ _

theorem frame_reference : Cert.quiescent_Reference22Ideal := fun m ρ _ =>
  (θ_run Cert.Reference22Ideal.defs _ _).mono (fun r h => ⟨fun c => (h c).2, sem_eq_zero_of_no_sems rfl r.2⟩) (Cert.Reference22Ideal.Value.run m ρ)

end Cert.Kernel22Ideal.Norm

end
-- ==== Proof.Gate.lean ====
/-
  The silu gate `o * silu(g)` and its gradient, for any number `a` of rows: as mathematics, as a block of the kernel computes them, and as the reference
  computes them. The gate's columns are the last 1024 of the 4096 projected ones. The kernel writes the sigmoid by the hyperbolic tangent, the reference
  as `1 / (1 + exp(-g))`; the two are equal on all extended reals. In the gradient in the gate the kernel multiplies by a sum where the reference adds
  two products, which needs the incoming gradient and the gated values to be finite.
-/
module

public import proofs.«01_k».proof.Proof.Products

@[expose] public section

set_option maxRecDepth 16384

noncomputable section

namespace Cert.Gate

open Cert.Products Idealize.ShloMosaic
open Idealize.ShloMosaic.ValueIdx (broadcastInDim_scalar_apply)

/-! ## Mathematics -/

section Spec

def half : EReal := Ideal.ofBits .f32 0x3F000000#32
def one : EReal := Ideal.ofBits .f32 0x3F800000#32

theorem one_eq : one = 1 := Ideal.ofBits_one_f32

theorem half_eq : half = ((1 / 2 : ℝ) : EReal) := by
  unfold half
  simp [Ideal.ofBits, Ideal.ieee, -EReal.coe_mul]
  norm_num

/-- The sigmoid by the hyperbolic tangent. -/
def sigmoid (x : EReal) : EReal := half * (Ideal.tanh (half * x) + one)

theorem real_sigmoid (x : ℝ) : 1 / 2 * (Real.tanh (1 / 2 * x) + 1) = (1 + Real.exp (-x))⁻¹ := by
  have e : Real.exp (-x) = Real.exp (-(1 / 2 * x)) * Real.exp (-(1 / 2 * x)) := by rw [← Real.exp_add]; congr 1; ring
  have p : Real.exp (1 / 2 * x) * Real.exp (-(1 / 2 * x)) = 1 := by rw [← Real.exp_add]; simp
  have h1 := Real.exp_pos (1 / 2 * x)
  have h2 := Real.exp_pos (-(1 / 2 * x))
  rw [Real.tanh_eq_sinh_div_cosh, Real.sinh_eq, Real.cosh_eq, e]
  generalize Real.exp (1 / 2 * x) = u at *
  generalize Real.exp (-(1 / 2 * x)) = v at *
  have hu : u = v⁻¹ := eq_inv_of_mul_eq_one_left p
  subst hu
  field_simp
  ring

theorem sigmoid_eq (x : EReal) : sigmoid x = Ideal.logistic x := by
  unfold sigmoid
  rw [half_eq, one_eq]
  induction x with
  | bot =>
    rw [EReal.coe_mul_bot_of_pos (by norm_num), Ideal.tanh_bot, Ideal.logistic_bot]
    have : (-1 + 1 : EReal) = 0 := by rw [← EReal.coe_one, ← EReal.coe_neg, ← EReal.coe_add]; norm_num
    rw [this, mul_zero]
  | top =>
    rw [EReal.coe_mul_top_of_pos (by norm_num), Ideal.tanh_top, Ideal.logistic_top]
    have : ((1 / 2 : ℝ) : EReal) * ((1 : ℝ) + (1 : ℝ) : EReal) = 1 := by rw [← EReal.coe_add, ← EReal.coe_mul]; norm_num
    exact this
  | coe x =>
    rw [← EReal.coe_mul, Ideal.tanh_coe, Ideal.logistic_coe, ← EReal.coe_one, ← EReal.coe_add, ← EReal.coe_mul, real_sigmoid]

/-- The gated value. -/
def forward (o g : EReal) : EReal := o * (g * Ideal.logistic g)
/-- The gradient in the value and the gradient in the gate, as the reference adds it up. -/
def inValue (d g : EReal) : EReal := d * (g * Ideal.logistic g)
def inGate (d o g : EReal) : EReal := o * d * Ideal.logistic g + g * (o * d) * (Ideal.logistic g * (1 - Ideal.logistic g))

theorem inGate_eq (d o : ℝ) (g : EReal) :
    (d : EReal) * o * (sigmoid g + g * sigmoid g * (one - sigmoid g)) = inGate d o g := by
  unfold inGate
  rw [sigmoid_eq, one_eq, mul_comm (d : EReal), ← EReal.coe_mul]
  generalize o * d = e
  induction g with
  | bot => simp
  | top =>
    have h : (1 - 1 : EReal) = 0 := by rw [← EReal.coe_one, ← EReal.coe_sub]; norm_num
    rw [Ideal.logistic_top, h]; simp
  | coe g =>
    rw [Ideal.logistic_coe]
    generalize (1 + Real.exp (-g))⁻¹ = s
    rw [← EReal.coe_one, ← EReal.coe_sub, ← EReal.coe_mul, ← EReal.coe_mul, ← EReal.coe_add, ← EReal.coe_mul, ← EReal.coe_mul, ← EReal.coe_mul,
      ← EReal.coe_mul, ← EReal.coe_mul, ← EReal.coe_add]
    congr 1
    ring

/-- A number of finite absolute value is real. -/
theorem real_of_abs (x : EReal) (h : Ideal.cmp .olt (max x (-x)) (Ideal.ofBits .f32 0x7F800000#32) = 1#1) : ∃ r : ℝ, x = r := by
  have ht : Ideal.ofBits .f32 0x7F800000#32 = ⊤ := by simp [Ideal.ofBits, Ideal.ieee]
  rw [ht] at h
  induction x with
  | bot => simp [Ideal.cmp] at h
  | top => simp [Ideal.cmp] at h
  | coe r => exact ⟨r, rfl⟩

end Spec

/-! ## Arrays -/

abbrev Mat (a : ℕ) : Shape := ⟨2, ![a, 1024]⟩
abbrev Wide (a : ℕ) : Shape := ⟨2, ![a, 4096]⟩
abbrev Scal : Shape := ⟨0, ![]⟩

variable {a : ℕ} [NeZero a]

/-- The gate's columns of the projected ones. -/
def gate (p : (Wide a).Idx → EReal) (i j : ℕ) : EReal := at2 (a := a) (b := 4096) p i (3072 + j)

def forwardOut (o : FVec Ideal (Mat a) .f32) (p : FVec Ideal (Wide a) .f32) : FVec Ideal (Mat a) .f32 := fun y =>
  forward (o y) (gate p (y 0).val (y 1).val)
def valueOut (d : FVec Ideal (Mat a) .f32) (p : FVec Ideal (Wide a) .f32) : FVec Ideal (Mat a) .f32 := fun y =>
  inValue (d y) (gate p (y 0).val (y 1).val)
def gateOut (d o : FVec Ideal (Mat a) .f32) (p : FVec Ideal (Wide a) .f32) : FVec Ideal (Mat a) .f32 := fun y =>
  inGate (d y) (o y) (gate p (y 0).val (y 1).val)

/-! ## The reference -/

variable (hs : (Wide a).Slices ![0, 3072] (Mat a)) (hb : Scal.BroadcastsInDim (Mat a) ![])

theorem slice_apply (p : FVec Ideal (Wide a) .f32) (y : (Mat a).Idx) :
    extractStridedSlice (Mat a) ![0, 3072] p hs y = gate p (y 0).val (y 1).val := by
  have h0 : (y 0).val < a := (y 0).isLt
  have h1 : (y 1).val < 1024 := (y 1).isLt
  refine extractStridedSlice_apply _ p hs _ _ fun d => ?_
  match d with
  | ⟨0, _⟩ =>
    show (y 0).val % a = 0 + (y 0).val
    rw [Nat.mod_eq_of_lt h0, Nat.zero_add]
  | ⟨1, _⟩ =>
    show (3072 + (y 1).val) % 4096 = 3072 + (y 1).val
    exact Nat.mod_eq_of_lt (by omega)

/-- The sigmoid of the gate's columns. -/
def hostSigmoid (g : FVec Ideal (Mat a) .f32) : FVec Ideal (Mat a) .f32 :=
  Host.divf (broadcastInDim (Mat a) ![] hb (constant Scal .f32 0x3F800000#32))
    (addf (broadcastInDim (Mat a) ![] hb (constant Scal .f32 0x3F800000#32)) (Host.exp (Host.negf g)))

def hostForward (o : FVec Ideal (Mat a) .f32) (p : FVec Ideal (Wide a) .f32) : FVec Ideal (Mat a) .f32 :=
  mulf o (mulf (extractStridedSlice (Mat a) ![0, 3072] p hs) (hostSigmoid hb (extractStridedSlice (Mat a) ![0, 3072] p hs)))

def hostGate (d o : FVec Ideal (Mat a) .f32) (p : FVec Ideal (Wide a) .f32) : FVec Ideal (Mat a) .f32 :=
  addf (mulf (mulf o d) (hostSigmoid hb (extractStridedSlice (Mat a) ![0, 3072] p hs)))
    (mulf (mulf (extractStridedSlice (Mat a) ![0, 3072] p hs) (mulf o d)) (mulf (hostSigmoid hb (extractStridedSlice (Mat a) ![0, 3072] p hs))
      (subf (broadcastInDim (Mat a) ![] hb (constant Scal .f32 0x3F800000#32)) (hostSigmoid hb (extractStridedSlice (Mat a) ![0, 3072] p hs)))))

theorem ones_apply (y : (Mat a).Idx) : broadcastInDim (Mat a) ![] hb (constant Scal .f32 0x3F800000#32 : FVec Ideal Scal .f32) y = (1 : EReal) :=
  (broadcastInDim_scalar_apply hb _ y).trans Ideal.ofBits_one_f32

theorem hostSigmoid_apply (g : FVec Ideal (Mat a) .f32) (y : (Mat a).Idx) : hostSigmoid hb g y = Ideal.logistic (g y) :=
  congrArg₂ Ideal.div (ones_apply hb y) (congrArg (· + Ideal.exp (-(g y))) (ones_apply hb y))

theorem hostForward_apply (o : FVec Ideal (Mat a) .f32) (p : FVec Ideal (Wide a) .f32) : hostForward hs hb o p = forwardOut o p := by
  funext y
  refine (congrArg (fun z => o y * (extractStridedSlice (Mat a) ![0, 3072] p hs y * z)) (hostSigmoid_apply hb _ y)).trans ?_
  rw [slice_apply]
  rfl

theorem hostGate_apply (d o : FVec Ideal (Mat a) .f32) (p : FVec Ideal (Wide a) .f32) : hostGate hs hb d o p = gateOut d o p := by
  funext y
  show o y * d y * hostSigmoid hb _ y + extractStridedSlice (Mat a) ![0, 3072] p hs y * (o y * d y) * (hostSigmoid hb _ y
    * (broadcastInDim (Mat a) ![] hb (constant Scal .f32 0x3F800000#32 : FVec Ideal Scal .f32) y - hostSigmoid hb _ y)) = _
  rw [hostSigmoid_apply, ones_apply, slice_apply]
  rfl

/-- An array whose entries' absolute values are all below infinity has real entries. -/
theorem real_of_finite (x : FVec Ideal (Mat a) .f32)
    (h : cmpf .olt (Host.absf x) (broadcastInDim (Mat a) ![] hb (constant Scal .f32 0x7F800000#32 : FVec Ideal Scal .f32)) = fun _ => 1#1)
    (y : (Mat a).Idx) : ∃ r : ℝ, x y = r := by
  refine real_of_abs (x y) (Eq.trans ?_ (congrFun h y))
  exact congrArg (Ideal.cmp .olt (max (x y) (-(x y)))) (broadcastInDim_scalar_apply hb (constant Scal .f32 0x7F800000#32 : FVec Ideal Scal .f32) y).symm

end Cert.Gate

end
-- ==== Proof.GateBwd.lean ====
/-
  The gradient of the attention's output gate, in the values and in the gate: blocks of 256 rows. The gradient in the gate is stated of a finite incoming
  gradient and finite values.
-/
module

public import proofs.«01_k».proof.Defs
public import proofs.«01_k».proof.Proof.Gate
public import proofs.«01_k».proof.Proof.Gen.Kernel23Ideal.Value
public import proofs.«01_k».proof.Proof.Gen.Reference23Ideal
public import proofs.«01_k».proof.Proof.Gen.Reference23Ideal.Run
public import Idealize.ShloMosaic.Lib.Quiescent

@[expose] public section

set_option maxRecDepth 16384

noncomputable section

/-- The shape relation of the precondition. -/
instance Cert.Pre_finite.facts : Cert.Pre_finite.Facts := ⟨by decide⟩

namespace Cert.Kernel23Ideal.Gate

open Cert.Kernel23Ideal Cert.Kernel23Ideal.Gen Cert.Products Cert.Gate Idealize.ShloMosaic Idealize.ShloMosaic.TcCoe Idealize.SL.Sem

variable (m : (ℓ : Loc nD τ sig) → Buf (Elt Ideal) ℓ) (c : Dev nD)

theorem idx : ∀ t : Fin grid0.N, win0_0.index t = ![t.val, 0] ∧ win0_1.index t = ![t.val, 0] ∧ win0_2.index t = ![t.val, 3] ∧ win0_3.index t = ![t.val, 0]
    ∧ win0_4.index t = ![t.val, 0] := by
  decide +kernel

abbrev d : FVec Ideal S8704x1024 .f32 := m ((c : Thread nD τ).loc main_arg0)
abbrev o : FVec Ideal S8704x1024 .f32 := m ((c : Thread nD τ).loc main_arg1)
abbrev p : FVec Ideal S8704x4096 .f32 := m ((c : Thread nD τ).loc main_arg2)

/-! ## The blocks of the arguments -/

theorem d_at (t : Fin cfg0.N) (y : S256x1024.Idx) :
    iblk m c 0 t y = at2 (a := 8704) (b := 1024) (d m c) (256 * t.val + (y 0).val) (y 1).val := by
  show V m c main_arg0 (((cfg0.win 0).blk t).view.emb y) = _
  rw [V_main_arg0]
  exact at2_of (a := 8704) (b := 1024) _ _ _ _ (by blk_simp [(idx t).1]; omega) (by blk_simp [(idx t).1])

theorem o_at (t : Fin cfg0.N) (y : S256x1024.Idx) :
    iblk m c 1 t y = at2 (a := 8704) (b := 1024) (o m c) (256 * t.val + (y 0).val) (y 1).val := by
  show V m c main_arg1 (((cfg0.win 1).blk t).view.emb y) = _
  rw [V_main_arg1]
  exact at2_of (a := 8704) (b := 1024) _ _ _ _ (by blk_simp [(idx t).2.1]; omega) (by blk_simp [(idx t).2.1])

theorem g_at (t : Fin cfg0.N) (y : S256x1024.Idx) : iblk m c 2 t y = gate (a := 8704) (p m c) (256 * t.val + (y 0).val) (y 1).val := by
  show V m c main_arg2 (((cfg0.win 2).blk t).view.emb y) = _
  rw [V_main_arg2]
  exact at2_of (a := 8704) (b := 4096) _ _ _ _ (by blk_simp [(idx t).2.2.1]; omega) (by blk_simp [(idx t).2.2.1])

/-! ## What a point writes -/

theorem value_payload (g d : FVec Ideal S256x1024 .f32) (y : S256x1024.Idx) : k0_pay2 (F := Ideal) g d y = d y * g y * sigmoid (g y) := rfl

theorem gate_payload (g d o : FVec Ideal S256x1024 .f32) (y : S256x1024.Idx) :
    k0_pay3 (F := Ideal) g d o y = d y * o y * (sigmoid (g y) + g y * sigmoid (g y) * (one - sigmoid (g y))) := rfl

theorem value_at (t : Fin cfg0.N) (y : S256x1024.Idx) :
    out0_3 (iblk m c 0 t) (iblk m c 1 t) (iblk m c 2 t) y
      = inValue (at2 (a := 8704) (b := 1024) (d m c) (256 * t.val + (y 0).val) (y 1).val) (gate (a := 8704) (p m c) (256 * t.val + (y 0).val) (y 1).val) := by
  frame_out
  refine (value_payload _ _ y).trans ?_
  rw [sigmoid_eq, mul_assoc, d_at, g_at]
  rfl

variable (hd : ∀ y, ∃ r : ℝ, d m c y = r) (ho : ∀ y, ∃ r : ℝ, o m c y = r)
include hd ho

theorem gate_at (t : Fin cfg0.N) (y : S256x1024.Idx) :
    out0_4 (iblk m c 0 t) (iblk m c 1 t) (iblk m c 2 t) y
      = inGate (at2 (a := 8704) (b := 1024) (d m c) (256 * t.val + (y 0).val) (y 1).val) (at2 (a := 8704) (b := 1024) (o m c) (256 * t.val + (y 0).val) (y 1).val)
        (gate (a := 8704) (p m c) (256 * t.val + (y 0).val) (y 1).val) := by
  frame_out
  refine (gate_payload _ _ _ y).trans ?_
  rw [d_at, o_at, g_at]
  obtain ⟨r, hr⟩ : ∃ r : ℝ, at2 (a := 8704) (b := 1024) (d m c) (256 * t.val + (y 0).val) (y 1).val = r := hd _
  obtain ⟨s, hs⟩ : ∃ r : ℝ, at2 (a := 8704) (b := 1024) (o m c) (256 * t.val + (y 0).val) (y 1).val = r := ho _
  rw [hr, hs]
  exact inGate_eq r s _

theorem gate_final : (dats m 0 c).arrAt 4 cfg0.N = gateOut (a := 8704) (d m c) (o m c) (p m c) := by
  refine (dats m 0 c).arrAt_eq_of_covers 4 _ (by decide +kernel) fun t hf y => ?_
  obtain ⟨-, -, -, -, e4⟩ := idx t
  blk_simp
  rw [after0_4, gate_at m c hd ho]
  have g0 : (((cfg0.win 4).blk t).view.emb y 0).val = 256 * t.val + (y 0).val := by blk_simp [e4]; omega
  have g1 : (((cfg0.win 4).blk t).view.emb y 1).val = (y 1).val := by blk_simp [e4]
  unfold gateOut
  rw [g0, g1, at2_of (a := 8704) (b := 1024) (d m c) _ _ _ g0 g1, at2_of (a := 8704) (b := 1024) (o m c) _ _ _ g0 g1]

omit hd ho in
theorem value_final : (dats m 0 c).arrAt 3 cfg0.N = valueOut (a := 8704) (d m c) (p m c) := by
  refine (dats m 0 c).arrAt_eq_of_covers 3 _ (by decide +kernel) fun t hf y => ?_
  obtain ⟨-, -, -, e3, -⟩ := idx t
  blk_simp
  rw [after0_3, value_at]
  have g0 : (((cfg0.win 3).blk t).view.emb y 0).val = 256 * t.val + (y 0).val := by blk_simp [e3]; omega
  have g1 : (((cfg0.win 3).blk t).view.emb y 1).val = (y 1).val := by blk_simp [e3]
  unfold valueOut
  rw [g0, g1, at2_of (a := 8704) (b := 1024) (d m c) _ _ _ g0 g1]

omit hd ho

theorem agree : Cert.algebraic_Kernel23Ideal_Reference23Ideal_pre_finite := fun m ρ m' ρ' pre h => by
  refine ⟨fun c => valueOut (a := 8704) (d m c) (p m c), fun c => gateOut (a := 8704) (d m c) (o m c) (p m c), ?_, ?_⟩
  · refine (θ_run defs _ _).mono (fun r hr c => ⟨(hr c).1.trans (value_final m c), (hr c).2.1.trans (gate_final m c ?_ ?_), (hr c).2.2⟩) (Value.run_blocks m ρ)
    · exact real_of_finite (a := 8704) Cert.Pre_finite.Facts.bcast_S_S8704x1024 (d m c) (pre c).1
    · exact real_of_finite (a := 8704) Cert.Pre_finite.Facts.bcast_S_S8704x1024 (o m c) (pre c).2
  · refine (θ_run Cert.Reference23Ideal.defs _ _).mono (fun r hr c => ⟨(hr c).1.trans ?_, (hr c).2.1.trans ?_, (hr c).2.2⟩) (Cert.Reference23Ideal.Value.run m' ρ')
    · rw [(h c).1, (h c).2.2]
      exact hostForward_apply (a := 8704) _ _ _ _
    · rw [(h c).1, (h c).2.1, (h c).2.2]
      exact hostGate_apply (a := 8704) _ _ _ _ _

theorem frame_reference : Cert.quiescent_Reference23Ideal := fun m ρ _ =>
  (θ_run Cert.Reference23Ideal.defs _ _).mono (fun r h => ⟨fun c => (h c).2.2, sem_eq_zero_of_no_sems rfl r.2⟩) (Cert.Reference23Ideal.Value.run m ρ)

theorem frame_reference_finite : Cert.quiescent_Reference23Ideal_pre_finite := fun m ρ _ => frame_reference m ρ trivial

end Cert.Kernel23Ideal.Gate

end
-- ==== Proof.GateFwd.lean ====
/-
  The attention's output gate: blocks of 256 rows, each entry multiplied by the silu of the gate's column.
-/
module

public import proofs.«01_k».proof.Defs
public import proofs.«01_k».proof.Proof.Gate
public import proofs.«01_k».proof.Proof.Gen.Kernel24Ideal.Value
public import proofs.«01_k».proof.Proof.Gen.Reference24Ideal
public import proofs.«01_k».proof.Proof.Gen.Reference24Ideal.Run
public import Idealize.ShloMosaic.Lib.Quiescent

@[expose] public section

set_option maxRecDepth 16384

noncomputable section

namespace Cert.Kernel24Ideal.Gate

open Cert.Kernel24Ideal Cert.Kernel24Ideal.Gen Cert.Products Cert.Gate Idealize.ShloMosaic Idealize.ShloMosaic.TcCoe Idealize.SL.Sem

variable (m : (ℓ : Loc nD τ sig) → Buf (Elt Ideal) ℓ) (c : Dev nD)

theorem idx : ∀ t : Fin grid0.N, win0_0.index t = ![t.val, 0] ∧ win0_1.index t = ![t.val, 3] ∧ win0_2.index t = ![t.val, 0] := by
  decide +kernel

abbrev o : FVec Ideal S8704x1024 .f32 := m ((c : Thread nD τ).loc main_arg0)
abbrev p : FVec Ideal S8704x4096 .f32 := m ((c : Thread nD τ).loc main_arg1)

theorem o_at (t : Fin cfg0.N) (y : S256x1024.Idx) :
    iblk m c 0 t y = at2 (a := 8704) (b := 1024) (o m c) (256 * t.val + (y 0).val) (y 1).val := by
  show V m c main_arg0 (((cfg0.win 0).blk t).view.emb y) = _
  rw [V_main_arg0]
  exact at2_of (a := 8704) (b := 1024) _ _ _ _ (by blk_simp [(idx t).1]; omega) (by blk_simp [(idx t).1])

theorem g_at (t : Fin cfg0.N) (y : S256x1024.Idx) : iblk m c 1 t y = gate (a := 8704) (p m c) (256 * t.val + (y 0).val) (y 1).val := by
  show V m c main_arg1 (((cfg0.win 1).blk t).view.emb y) = _
  rw [V_main_arg1]
  exact at2_of (a := 8704) (b := 4096) _ _ _ _ (by blk_simp [(idx t).2.1]; omega) (by blk_simp [(idx t).2.1])

theorem payload (o g : FVec Ideal S256x1024 .f32) (y : S256x1024.Idx) : k0_pay1 (F := Ideal) o g y = o y * (g y * sigmoid (g y)) := rfl

/-- The block a point writes. -/
theorem block_at (t : Fin cfg0.N) (y : S256x1024.Idx) :
    out0_2 (iblk m c 0 t) (iblk m c 1 t) y
      = forward (at2 (a := 8704) (b := 1024) (o m c) (256 * t.val + (y 0).val) (y 1).val) (gate (a := 8704) (p m c) (256 * t.val + (y 0).val) (y 1).val) := by
  frame_out
  refine (payload _ _ y).trans ?_
  rw [sigmoid_eq, o_at, g_at]
  rfl

theorem final : (dats m 0 c).arrAt 2 cfg0.N = forwardOut (a := 8704) (o m c) (p m c) := by
  refine (dats m 0 c).arrAt_eq_of_covers 2 _ (by decide +kernel) fun t hf y => ?_
  obtain ⟨-, -, e2⟩ := idx t
  blk_simp
  rw [after0_2, block_at]
  have g0 : (((cfg0.win 2).blk t).view.emb y 0).val = 256 * t.val + (y 0).val := by blk_simp [e2]; omega
  have g1 : (((cfg0.win 2).blk t).view.emb y 1).val = (y 1).val := by blk_simp [e2]
  unfold forwardOut
  rw [g0, g1, at2_of (a := 8704) (b := 1024) (o m c) _ _ _ g0 g1]

theorem agree : Cert.algebraic_Kernel24Ideal_Reference24Ideal := fun m ρ m' ρ' _ h => by
  refine ⟨fun c => forwardOut (a := 8704) (o m c) (p m c), ?_, ?_⟩
  · exact (θ_run defs _ _).mono (fun r hr c => ⟨(hr c).1.trans (final m c), (hr c).2⟩) (Value.run_blocks m ρ)
  · refine (θ_run Cert.Reference24Ideal.defs _ _).mono (fun r hr c => ⟨(hr c).1.trans ?_, (hr c).2⟩) (Cert.Reference24Ideal.Value.run m' ρ')
    rw [(h c).1, (h c).2]
    exact hostForward_apply (a := 8704) _ _ _ _

theorem frame_reference : Cert.quiescent_Reference24Ideal := fun m ρ _ =>
  (θ_run Cert.Reference24Ideal.defs _ _).mono (fun r h => ⟨fun c => (h c).2, sem_eq_zero_of_no_sems rfl r.2⟩) (Cert.Reference24Ideal.Value.run m ρ)

end Cert.Kernel24Ideal.Gate

end
-- ==== Proof.DWeight128.lean ====
/-
  The same gradient for the 128 padded columns of the step sizes in the first layer's input projection.
-/
module

public import proofs.«01_k».proof.Defs
public import proofs.«01_k».proof.Proof.Products
public import proofs.«01_k».proof.Proof.Gen.Kernel5Ideal.Value
public import proofs.«01_k».proof.Proof.Gen.Reference5Ideal
public import proofs.«01_k».proof.Proof.Gen.Reference5Ideal.Run
public import Idealize.ShloMosaic.Lib.Quiescent

@[expose] public section

set_option maxRecDepth 16384

noncomputable section

namespace Cert.Kernel5Ideal.Product

open Cert.Kernel5Ideal Cert.Kernel5Ideal.Gen Cert.Products Idealize.ShloMosaic Idealize.ShloMosaic.TcCoe Idealize.SL.Sem

variable (m : (ℓ : Loc nD τ sig) → Buf (Elt Ideal) ℓ) (c : Dev nD)

theorem idx : ∀ t : Fin grid0.N, win0_0.index t = ![t.val % 4, 0] ∧ win0_1.index t = ![t.val % 4, t.val / 4] ∧ win0_2.index t = ![0, t.val / 4] := by
  decide +kernel

/-- The product of a point's blocks is over 2176 of the rows. -/
theorem part_eq (t : Fin cfg0.N) (y : S1024x128.Idx) :
    mul 2176 (fun i k => at2 (a := 2176) (b := 1024) (iblk m c 0 t) k i) (at2 (a := 2176) (b := 128) (iblk m c 1 t)) (y 0).val (y 1).val
      = part (at2 (a := 8704) (b := 1024) (m ((c : Thread nD τ).loc main_arg0))) (at2 (a := 8704) (b := 128) (m ((c : Thread nD τ).loc main_arg1)))
        (128 * (t.val / 4)) (t.val % 4) (y 0).val (y 1).val := by
  obtain ⟨e0, e1, -⟩ := idx t
  rw [← V_main_arg0 m c, ← V_main_arg1 m c]
  refine mul_congr (fun k hk => ?_) fun k hk => ?_
  · exact (at2_emb (a := 8704) (b := 1024) (s0 := 2176) (s1 := 1024) (V m c main_arg0) ((cfg0.win 0).blk t).view.emb (2176 * (t.val % 4)) 0
      (fun y => by constructor <;> blk_simp [e0] <;> omega) k _ hk (y 0).isLt).trans (by rw [Nat.zero_add])
  · exact at2_emb (a := 8704) (b := 128) (s0 := 2176) (s1 := 128) (V m c main_arg1) ((cfg0.win 1).blk t).view.emb (2176 * (t.val % 4)) (128 * (t.val / 4))
      (fun y => by constructor <;> blk_simp [e1] <;> omega) k _ hk (y 1).isLt

/-- The accumulator after a point is the sum over the blocks of rows so far. -/
theorem acc_at (t : Fin cfg0.N) (y : S1024x128.Idx) :
    (outsAt0 m c t.val t.isLt).2 y = 0 + ∑ s ∈ Finset.range (t.val % 4 + 1),
      part (at2 (a := 8704) (b := 1024) (m ((c : Thread nD τ).loc main_arg0))) (at2 (a := 8704) (b := 128) (m ((c : Thread nD τ).loc main_arg1)))
        (128 * (t.val / 4)) s (y 0).val (y 1).val := by
  refine Pipeline.eq_sum_of_reset_step_apply_divmod (fun n h => (outsAt0 m c n h).2) 4 (fun _ => (0 : EReal))
    (fun q s y => part (at2 (a := 8704) (b := 1024) (m ((c : Thread nD τ).loc main_arg0))) (at2 (a := 8704) (b := 128) (m ((c : Thread nD τ).loc main_arg1)))
        (128 * q) s (y 0).val (y 1).val) (fun t h y => ?_) (fun t h y => ?_) t y
  · rw [outsAt0_A m c t h (by omega)]; frame_out
    refine (accumulate (K := 2176) (M := 1024) (N := 128) _ rfl (k0_pay1 (F := Ideal)) _ _ _ y).trans (congrArg₂ (· + ·) ?_ (part_eq m c t y))
    exact accumulate_start (M := 1024) (N := 128) shapeCasts_S1024x128_S1024x128 y
  · by_cases h1 : t.val % 4 = 3
    · rw [outsAt0_C m c t h h1]; frame_out
      refine (accumulate (K := 2176) (M := 1024) (N := 128) _ rfl _ _ _ _ y).trans (congrArg₂ (· + ·) ?_ (part_eq m c t y))
      exact congrFun ((Memref.isWhole_whole cc0_scratch0).read_unread _) y
    · rw [outsAt0_B m c t h h1]; frame_out
      refine (accumulate (K := 2176) (M := 1024) (N := 128) _ rfl _ _ _ _ y).trans (congrArg₂ (· + ·) ?_ (part_eq m c t y))
      exact congrFun ((Memref.isWhole_whole cc0_scratch0).read_unread _) y

/-- The last point of a block of columns writes the accumulator back. -/
theorem out_at (t : Fin cfg0.N) (h : t.val % 4 = 3) (y : S1024x128.Idx) : (outsAt0 m c t.val t.isLt).1 y = (outsAt0 m c t.val t.isLt).2 y := by
  rw [outsAt0_C m c t (by omega) h]; frame_out
  rfl

theorem final : (dats m 0 c).arrAt 2 cfg0.N = weightGradient (K := 8704) (M := 1024) (N := 128) (m ((c : Thread nD τ).loc main_arg0)) (m ((c : Thread nD τ).loc main_arg1)) := by
  refine (dats m 0 c).arrAt_eq_of_covers 2 _ (by decide +kernel) fun t hf y => ?_
  have ht : t.val % 4 = 3 := (flush0_2 t).mp hf
  obtain ⟨-, -, e2⟩ := idx t
  blk_simp
  rw [after0_2, out_at m c t ht, acc_at, zero_add, ht, parts]
  have g0 : (((cfg0.win 2).blk t).view.emb y 0).val = (y 0).val := by blk_simp [e2]
  have g1 : (((cfg0.win 2).blk t).view.emb y 1).val = 128 * (t.val / 4) + (y 1).val := by blk_simp [e2]; omega
  unfold weightGradient
  rw [g0, g1]

theorem agree : Cert.algebraic_Kernel5Ideal_Reference5Ideal := fun m ρ m' ρ' _ h => by
  refine ⟨fun c => weightGradient (K := 8704) (M := 1024) (N := 128) (m ((c.tc : Thread nD τ).loc main_arg0)) (m ((c.tc : Thread nD τ).loc main_arg1)), ?_, ?_⟩
  · exact (θ_run defs _ _).mono (fun r hr c => ⟨(hr c).1.trans (final m c), (hr c).2⟩) (Value.run_blocks m ρ)
  · refine (θ_run Cert.Reference5Ideal.defs _ _).mono (fun r hr c => ⟨(hr c).1.trans ?_, (hr c).2⟩) (Cert.Reference5Ideal.Value.run m' ρ')
    rw [(h c).1, (h c).2]
    exact weightGradient_transposed (K := 8704) (M := 1024) (N := 128) _ rfl _ _ _ _ _ _

theorem frame_reference : Cert.quiescent_Reference5Ideal := fun m ρ _ =>
  (θ_run Cert.Reference5Ideal.defs _ _).mono (fun r h => ⟨fun c => (h c).2, sem_eq_zero_of_no_sems rfl r.2⟩) (Cert.Reference5Ideal.Value.run m ρ)

end Cert.Kernel5Ideal.Product

end
-- ==== Proof.DOut0.lean ====
/-
  The gradient of the first layer's output projection in its input: the result's gradient times the transposed weights.
-/
module

public import proofs.«01_k».proof.Defs
public import proofs.«01_k».proof.Proof.Products
public import proofs.«01_k».proof.Proof.Gen.Kernel6Ideal.Value
public import proofs.«01_k».proof.Proof.Gen.Reference6Ideal
public import proofs.«01_k».proof.Proof.Gen.Reference6Ideal.Run
public import Idealize.ShloMosaic.Lib.StableHlo.RunRead
public import Idealize.ShloMosaic.Lib.Quiescent

@[expose] public section

set_option maxRecDepth 16384

noncomputable section

namespace Cert.Kernel6Ideal.Product

open Cert.Kernel6Ideal Cert.Kernel6Ideal.Gen Cert.Products Idealize.ShloMosaic Idealize.ShloMosaic.TcCoe Idealize.SL.Sem

/-- What the body leaves: its columns are stored 512 at a time. -/
theorem out_at (x : Vec Ideal S256x1024 .bf16) (w : Vec Ideal S1024x2048 .bf16) (y : S256x2048.Idx) :
    out0_2 x w y = mul 1024 (at2 (a := 256) (b := 1024) x) (at2 (a := 1024) (b := 2048) w) (y 0).val (y 1).val := by
  unfold out0_2
  refine View.canon_eq_of_allAt _ y _ (cover0_2 _ _ _ _ y) ?_
  refine View.allAt_cons_unit _ _ _ _ _ ?_ (View.allAt_cons_unit _ _ _ _ _ ?_ (View.allAt_cons_unit _ _ _ _ _ ?_
    (View.allAt_cons_unit _ _ _ _ _ ?_ (View.allAt_nil _ _))))
  all_goals exact cols_tileAt (a := 256) (b := 2048) (s0 := 256) (s1 := 512) _ y _ _ fun i j hi hj =>
    (at2_step_cast (M := 256) (K := 1024) (N := 512) (P := 1024) (Q := 2048) _ rfl x w 0 _ _ i j hi hj _ _).trans (rows_zero ..)

variable (m : (ℓ : Loc nD τ sig) → Buf (Elt Ideal) ℓ) (c : Dev nD)

theorem idx : ∀ t : Fin grid0.N, win0_0.index t = ![t.val, 0] ∧ win0_1.index t = ![0, 0] ∧ win0_2.index t = ![t.val, 0] := by
  decide +kernel

/-- The result, over a device's arguments. -/
def G (d : Vec Ideal S8704x1024 .bf16) (w : Vec Ideal S2048x1024 .bf16) : Vec Ideal S8704x2048 .f32 := fun y =>
  mul 1024 (at2 (a := 8704) (b := 1024) d) (fun k j => at2 (a := 2048) (b := 1024) w j k) (y 0).val (y 1).val

/-- The weights' block is the whole array of transposed weights. -/
theorem weights (t : Fin cfg0.N) (k j : ℕ) (hk : k < 1024) (hj : j < 2048) :
    at2 (a := 1024) (b := 2048) (iblk m c 1 t) k j = at2 (a := 2048) (b := 1024) (m ((c : Thread nD τ).loc main_arg1)) j k := by
  have e : V m c main_v0 = transpose S1024x2048 [1, 0] (m ((c : Thread nD τ).loc main_arg1)) transposes_S2048x1024_S1024x2048_1_0 := by
    show StableHlo.after hostOps0 _ (Proc.devRef .tc main_v0) = _
    after_reads_simp
  refine (at2_emb (a := 1024) (b := 2048) (s0 := 1024) (s1 := 2048) (V m c main_v0) ((cfg0.win 1).blk t).view.emb 0 0
    (fun y => by constructor <;> blk_simp [(idx t).2.1] <;> rfl) k j hk hj).trans ?_
  rw [e, Nat.zero_add, Nat.zero_add]
  exact at2_transpose _ _ k j

theorem final : (dats m 0 c).arrAt 2 cfg0.N = G (m ((c : Thread nD τ).loc main_arg0)) (m ((c : Thread nD τ).loc main_arg1)) := by
  refine (dats m 0 c).arrAt_eq_of_covers 2 _ (by decide +kernel) fun t hf y => ?_
  obtain ⟨e0, -, e2⟩ := idx t
  blk_simp
  rw [after0_2, out_at]
  have g0 : (((cfg0.win 2).blk t).view.emb y 0).val = t.val * 256 + (y 0).val := by blk_simp [e2]
  have g1 : (((cfg0.win 2).blk t).view.emb y 1).val = (y 1).val := by blk_simp [e2]
  unfold G
  rw [g0, g1]
  refine mul_congr (fun k hk => ?_) fun k hk => weights m c t k _ hk (y 1).isLt
  rw [← V_main_arg0 m c]
  exact (at2_emb (a := 8704) (b := 1024) (s0 := 256) (s1 := 1024) (V m c main_arg0) ((cfg0.win 0).blk t).view.emb (t.val * 256) 0
    (fun y => by constructor <;> blk_simp [e0] <;> rfl) _ k (y 0).isLt hk).trans (by rw [Nat.zero_add])

theorem agree : Cert.algebraic_Kernel6Ideal_Reference6Ideal := fun m ρ m' ρ' _ h => by
  refine ⟨fun c => G (m ((c.tc : Thread nD τ).loc main_arg0)) (m ((c.tc : Thread nD τ).loc main_arg1)), ?_, ?_⟩
  · exact (θ_run defs _ _).mono (fun r hr c => ⟨(hr c).1.trans (final m c), (hr c).2⟩) (Value.run_blocks m ρ)
  · refine (θ_run Cert.Reference6Ideal.defs _ _).mono (fun r hr c => ⟨(hr c).1.trans ?_, (hr c).2⟩) (Cert.Reference6Ideal.Value.run m' ρ')
    rw [(h c).1, (h c).2]
    refine ext2 (a := 8704) (b := 2048) _ _ fun i j hi hj => (at2_dot_rhs (M := 8704) (K := 1024) (N := 2048) _ rfl none _ _ i j).trans ?_
    exact (at2_mk (a := 8704) (b := 2048) (fun i j => mul 1024 (at2 (a := 8704) (b := 1024) (m ((c.tc : Thread nD τ).loc main_arg0)))
      (fun k j => at2 (a := 2048) (b := 1024) (m ((c.tc : Thread nD τ).loc main_arg1)) j k) i j) i j hi hj).symm

theorem frame_reference : Cert.quiescent_Reference6Ideal := fun m ρ _ =>
  (θ_run Cert.Reference6Ideal.defs _ _).mono (fun r h => ⟨fun c => (h c).2, sem_eq_zero_of_no_sems rfl r.2⟩) (Cert.Reference6Ideal.Value.run m ρ)

end Cert.Kernel6Ideal.Product

end
-- ==== Proof.DOut1.lean ====
/-
  The gradient of the attention layer's output projection in its input: the result's gradient times the transposed weights.
-/
module

public import proofs.«01_k».proof.Defs
public import proofs.«01_k».proof.Proof.Products
public import proofs.«01_k».proof.Proof.Gen.Kernel7Ideal.Value
public import proofs.«01_k».proof.Proof.Gen.Reference7Ideal
public import proofs.«01_k».proof.Proof.Gen.Reference7Ideal.Run
public import Idealize.ShloMosaic.Lib.StableHlo.RunRead
public import Idealize.ShloMosaic.Lib.Quiescent

@[expose] public section

set_option maxRecDepth 16384

noncomputable section

namespace Cert.Kernel7Ideal.Product

open Cert.Kernel7Ideal Cert.Kernel7Ideal.Gen Cert.Products Idealize.ShloMosaic Idealize.ShloMosaic.TcCoe Idealize.SL.Sem

/-- What the body leaves: its columns are stored 512 at a time. -/
theorem out_at (x : Vec Ideal S256x1024 .bf16) (w : Vec Ideal S1024x1024 .bf16) (y : S256x1024.Idx) :
    out0_2 x w y = mul 1024 (at2 (a := 256) (b := 1024) x) (at2 (a := 1024) (b := 1024) w) (y 0).val (y 1).val := by
  unfold out0_2
  refine View.canon_eq_of_allAt _ y _ (cover0_2 _ _ y) ?_
  refine View.allAt_cons_unit _ _ _ _ _ ?_ (View.allAt_cons_unit _ _ _ _ _ ?_ (View.allAt_nil _ _))
  all_goals exact cols_tileAt (a := 256) (b := 1024) (s0 := 256) (s1 := 512) _ y _ _ fun i j hi hj =>
    (at2_step_cast (M := 256) (K := 1024) (N := 512) (P := 1024) (Q := 1024) _ rfl x w 0 _ _ i j hi hj _ _).trans (rows_zero ..)

variable (m : (ℓ : Loc nD τ sig) → Buf (Elt Ideal) ℓ) (c : Dev nD)

theorem idx : ∀ t : Fin grid0.N, win0_0.index t = ![t.val, 0] ∧ win0_1.index t = ![0, 0] ∧ win0_2.index t = ![t.val, 0] := by
  decide +kernel

/-- The result, over a device's arguments. -/
def G (d : Vec Ideal S8704x1024 .bf16) (w : Vec Ideal S1024x1024 .bf16) : Vec Ideal S8704x1024 .f32 := fun y =>
  mul 1024 (at2 (a := 8704) (b := 1024) d) (fun k j => at2 (a := 1024) (b := 1024) w j k) (y 0).val (y 1).val

/-- The weights' block is the whole array of transposed weights. -/
theorem weights (t : Fin cfg0.N) (k j : ℕ) (hk : k < 1024) (hj : j < 1024) :
    at2 (a := 1024) (b := 1024) (iblk m c 1 t) k j = at2 (a := 1024) (b := 1024) (m ((c : Thread nD τ).loc main_arg1)) j k := by
  have e : V m c main_v0 = transpose S1024x1024 [1, 0] (m ((c : Thread nD τ).loc main_arg1)) transposes_S1024x1024_S1024x1024_1_0 := by
    show StableHlo.after hostOps0 _ (Proc.devRef .tc main_v0) = _
    after_reads_simp
  refine (at2_emb (a := 1024) (b := 1024) (s0 := 1024) (s1 := 1024) (V m c main_v0) ((cfg0.win 1).blk t).view.emb 0 0
    (fun y => by constructor <;> blk_simp [(idx t).2.1] <;> rfl) k j hk hj).trans ?_
  rw [e, Nat.zero_add, Nat.zero_add]
  exact at2_transpose _ _ k j

theorem final : (dats m 0 c).arrAt 2 cfg0.N = G (m ((c : Thread nD τ).loc main_arg0)) (m ((c : Thread nD τ).loc main_arg1)) := by
  refine (dats m 0 c).arrAt_eq_of_covers 2 _ (by decide +kernel) fun t hf y => ?_
  obtain ⟨e0, -, e2⟩ := idx t
  blk_simp
  rw [after0_2, out_at]
  have g0 : (((cfg0.win 2).blk t).view.emb y 0).val = t.val * 256 + (y 0).val := by blk_simp [e2]
  have g1 : (((cfg0.win 2).blk t).view.emb y 1).val = (y 1).val := by blk_simp [e2]
  unfold G
  rw [g0, g1]
  refine mul_congr (fun k hk => ?_) fun k hk => weights m c t k _ hk (y 1).isLt
  rw [← V_main_arg0 m c]
  exact (at2_emb (a := 8704) (b := 1024) (s0 := 256) (s1 := 1024) (V m c main_arg0) ((cfg0.win 0).blk t).view.emb (t.val * 256) 0
    (fun y => by constructor <;> blk_simp [e0] <;> rfl) _ k (y 0).isLt hk).trans (by rw [Nat.zero_add])

theorem agree : Cert.algebraic_Kernel7Ideal_Reference7Ideal := fun m ρ m' ρ' _ h => by
  refine ⟨fun c => G (m ((c.tc : Thread nD τ).loc main_arg0)) (m ((c.tc : Thread nD τ).loc main_arg1)), ?_, ?_⟩
  · exact (θ_run defs _ _).mono (fun r hr c => ⟨(hr c).1.trans (final m c), (hr c).2⟩) (Value.run_blocks m ρ)
  · refine (θ_run Cert.Reference7Ideal.defs _ _).mono (fun r hr c => ⟨(hr c).1.trans ?_, (hr c).2⟩) (Cert.Reference7Ideal.Value.run m' ρ')
    rw [(h c).1, (h c).2]
    refine ext2 (a := 8704) (b := 1024) _ _ fun i j hi hj => (at2_dot_rhs (M := 8704) (K := 1024) (N := 1024) _ rfl none _ _ i j).trans ?_
    exact (at2_mk (a := 8704) (b := 1024) (fun i j => mul 1024 (at2 (a := 8704) (b := 1024) (m ((c.tc : Thread nD τ).loc main_arg0)))
      (fun k j => at2 (a := 1024) (b := 1024) (m ((c.tc : Thread nD τ).loc main_arg1)) j k) i j) i j hi hj).symm

theorem frame_reference : Cert.quiescent_Reference7Ideal := fun m ρ _ =>
  (θ_run Cert.Reference7Ideal.defs _ _).mono (fun r h => ⟨fun c => (h c).2, sem_eq_zero_of_no_sems rfl r.2⟩) (Cert.Reference7Ideal.Value.run m ρ)

end Cert.Kernel7Ideal.Product

end
-- ==== Proof.DProj0.lean ====
/-
  The gradient of the first layer's input projection in its input: five gradients side by side times the transposed weights, of which
  the last block of rows is padded with zeros.
-/
module

public import proofs.«01_k».proof.Defs
public import proofs.«01_k».proof.Proof.Products
public import proofs.«01_k».proof.Proof.Gen.Kernel8Ideal.Value
public import proofs.«01_k».proof.Proof.Gen.Reference8Ideal
public import proofs.«01_k».proof.Proof.Gen.Reference8Ideal.Run
public import Idealize.ShloMosaic.Lib.Quiescent
public import Idealize.ShloMosaic.Lib.StableHlo.RunRead

@[expose] public section

set_option maxRecDepth 16384

noncomputable section

namespace Cert.Kernel8Ideal.Product

open Cert.Kernel8Ideal Cert.Kernel8Ideal.Gen Cert.Products Idealize.ShloMosaic Idealize.ShloMosaic.TcCoe Idealize.SL.Sem

/-- The sum of five partial products, the weights' rows taken as the operands' columns lie: the last operand's first `n`. -/
def five (n : ℕ) (x0 x1 x2 x3 x4 w : ℕ → ℕ → EReal) (i j : ℕ) : EReal :=
  mul 1024 x0 w i j + mul 1024 x1 (fun k j => w (1024 + k) j) i j + mul 1024 x2 (fun k j => w (2048 + k) j) i j
    + mul 1536 x3 (fun k j => w (3072 + k) j) i j + mul n x4 (fun k j => w (4608 + k) j) i j

/-- A product over 4624 coordinates, cut as the operands lie. -/
theorem cut_five (f g : ℕ → ℕ → EReal) (i j : ℕ) :
    mul 4624 f g i j = five 16 f (fun i k => f i (1024 + k)) (fun i k => f i (2048 + k)) (fun i k => f i (3072 + k)) (fun i k => f i (4608 + k)) g i j := by
  show mul (1024 + 1024 + 1024 + 1536 + 16) f g i j = _
  rw [mul_add, mul_add, mul_add, mul_add]
  rfl

/-- What the body leaves, entry by entry. -/
theorem out_at (x0 x1 x2 : Vec Ideal S256x1024 .bf16) (x3 : Vec Ideal S256x1536 .bf16) (x4 : Vec Ideal S256x128 .bf16) (w : Vec Ideal S4736x1024 .bf16)
    (y : S256x1024.Idx) :
    out0_6 x0 x1 x2 x3 x4 w y = five 128 (at2 (a := 256) (b := 1024) x0) (at2 (a := 256) (b := 1024) x1) (at2 (a := 256) (b := 1024) x2)
      (at2 (a := 256) (b := 1536) x3) (at2 (a := 256) (b := 128) x4) (at2 (a := 4736) (b := 1024) w) (y 0).val (y 1).val := by
  unfold out0_6
  refine View.canon_eq_of_allAt _ y _ (cover0_6 _ _ y) ?_
  repeat' refine View.allAt_cons_unit _ _ _ _ _ ?_ ?_
  all_goals try exact View.allAt_nil _ _
  all_goals
    refine cols_tileAt (a := 256) (b := 1024) (s0 := 256) (s1 := 512) (five 128 _ _ _ _ _ _) y _ _ fun i j hi hj => ?_
    exact congrArg₂ (· + ·)
        (congrArg₂ (· + ·)
          (congrArg₂ (· + ·)
            (congrArg₂ (· + ·)
              ((at2_step_cast (M := 256) (K := 1024) (N := 512) (P := 4736) (Q := 1024) _ rfl x0 w 0 _ _ i j hi hj _ _).trans (rows_zero ..))
              (at2_step_cast (M := 256) (K := 1024) (N := 512) (P := 4736) (Q := 1024) _ rfl x1 w 1024 _ _ i j hi hj _ _))
            (at2_step_cast (M := 256) (K := 1024) (N := 512) (P := 4736) (Q := 1024) _ rfl x2 w 2048 _ _ i j hi hj _ _))
          (at2_step_cast (M := 256) (K := 1536) (N := 512) (P := 4736) (Q := 1024) _ rfl x3 w 3072 _ _ i j hi hj _ _))
        (at2_step_cast (M := 256) (K := 128) (N := 512) (P := 4736) (Q := 1024) _ rfl x4 w 4608 _ _ i j hi hj _ _)

variable (m : (ℓ : Loc nD τ sig) → Buf (Elt Ideal) ℓ) (c : Dev nD)

theorem idx : ∀ t : Fin grid0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![t.val, 0] := by
  decide +kernel

/-- The weights' block is the whole array of transposed weights, zeros after its rows. -/
theorem weights (t : Fin cfg0.N) (k j : ℕ) (hk : k < 4736) (hj : j < 1024) :
    at2 (a := 4736) (b := 1024) (iblk m c 5 t) k j
      = if k < 4624 then at2 (a := 1024) (b := 4624) (m ((c : Thread nD τ).loc main_arg5)) j k else (0 : EReal) := by
  have e : V m c main_v1 = transpose S4736x1024 [1, 0] (pad S1024x4736 ![0, 0] ![0, 112] ![0, 0] (m ((c : Thread nD τ).loc main_arg5))
      (sitofp (F := Ideal) .bf16 (constantI S_ 32 0#32)) pads_S1024x4624_S1024x4736_000_01120 h_S_) transposes_S1024x4736_S4736x1024_1_0 := by
    show StableHlo.after (List.flatten [hostOps0, hostOps0_1, hostOps0_2]) _ (Proc.devRef .tc main_v1) = _
    after_reads_simp
    rfl
  refine (at2_emb (a := 4736) (b := 1024) (s0 := 4736) (s1 := 1024) (V m c main_v1) ((cfg0.win 5).blk t).view.emb 0 0
    (fun y => by constructor <;> blk_simp [(idx t).2.2.2.2.2.1] <;> rfl) k j hk hj).trans ?_
  rw [e, Nat.zero_add, Nat.zero_add]
  refine (at2_transpose _ _ k j).trans ?_
  by_cases h : k < 4624
  · rw [if_pos h]; exact at2_pad 112 _ _ _ j k h hk
  · rw [if_neg h]; exact at2_pad_zero 112 _ _ _ j k (by omega) hk

/-- Of the last 128 rows of weights the first 16 count, the others being zero. -/
theorem last_part (f g w : ℕ → ℕ → EReal) (i j : ℕ) (hg : ∀ k, k < 128 → g (4608 + k) j = if 4608 + k < 4624 then w (4608 + k) j else 0) :
    mul 128 f (fun k j => g (4608 + k) j) i j = mul 16 f (fun k j => w (4608 + k) j) i j := by
  show mul (16 + 112) f _ i j = _
  rw [mul_add, mul_zero_right (K := 112) fun k hk => ?_, add_zero]
  · exact mul_congr (fun _ _ => rfl) fun k hk => (hg k (by omega)).trans (if_pos (by omega))
  · exact (hg (16 + k) (by omega)).trans (if_neg (by omega))

/-- The result: the gradient of the projection in its input. -/
def G (a0 a1 a2 : Vec Ideal S8704x1024 .bf16) (a3 : Vec Ideal S8704x1536 .bf16) (a4 : Vec Ideal S8704x128 .bf16) (w : Vec Ideal S1024x4624 .bf16) :
    Vec Ideal S8704x1024 .f32 := fun y =>
  five 16 (at2 (a := 8704) (b := 1024) a0) (at2 (a := 8704) (b := 1024) a1) (at2 (a := 8704) (b := 1024) a2) (at2 (a := 8704) (b := 1536) a3)
    (at2 (a := 8704) (b := 128) a4) (fun k j => at2 (a := 1024) (b := 4624) w j k) (y 0).val (y 1).val

theorem final : (dats m 0 c).arrAt 6 cfg0.N = G (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  obtain ⟨e0, e1, e2, e3, e4, -, e6⟩ := idx t
  blk_simp
  rw [after0_6, out_at]
  have h0 : (y 0).val < 256 := (y 0).isLt
  have h1 : (y 1).val < 1024 := (y 1).isLt
  have g0 : (((cfg0.win 6).blk t).view.emb y 0).val = t.val * 256 + (y 0).val := by blk_simp [e6]
  have g1 : (((cfg0.win 6).blk t).view.emb y 1).val = (y 1).val := by blk_simp [e6]
  unfold G five
  rw [g0, g1, ← V_main_arg0 m c, ← V_main_arg1 m c, ← V_main_arg2 m c, ← V_main_arg3 m c, ← V_main_arg4 m c]
  have hw : ∀ k, k < 4736 → at2 (a := 4736) (b := 1024) (iblk m c 5 t) k (y 1).val = _ := fun k hk => weights m c t k _ hk h1
  refine congrArg₂ (· + ·) (congrArg₂ (· + ·) (congrArg₂ (· + ·) (congrArg₂ (· + ·) ?_ ?_) ?_) ?_) ?_
  · refine mul_congr (fun k hk => ?_) fun k hk => (hw _ (by omega)).trans (if_pos (by omega))
    exact (at2_emb (a := 8704) (b := 1024) (s0 := 256) (s1 := 1024) (V m c main_arg0) ((cfg0.win 0).blk t).view.emb (t.val * 256) 0
      (fun y => by constructor <;> blk_simp [e0] <;> rfl) _ k h0 hk).trans (by rw [Nat.zero_add])
  · refine mul_congr (fun k hk => ?_) fun k hk => (hw _ (by omega)).trans (if_pos (by omega))
    exact (at2_emb (a := 8704) (b := 1024) (s0 := 256) (s1 := 1024) (V m c main_arg1) ((cfg0.win 1).blk t).view.emb (t.val * 256) 0
      (fun y => by constructor <;> blk_simp [e1] <;> rfl) _ k h0 hk).trans (by rw [Nat.zero_add])
  · refine mul_congr (fun k hk => ?_) fun k hk => (hw _ (by omega)).trans (if_pos (by omega))
    exact (at2_emb (a := 8704) (b := 1024) (s0 := 256) (s1 := 1024) (V m c main_arg2) ((cfg0.win 2).blk t).view.emb (t.val * 256) 0
      (fun y => by constructor <;> blk_simp [e2] <;> rfl) _ k h0 hk).trans (by rw [Nat.zero_add])
  · refine mul_congr (fun k hk => ?_) fun k hk => (hw _ (by omega)).trans (if_pos (by omega))
    exact (at2_emb (a := 8704) (b := 1536) (s0 := 256) (s1 := 1536) (V m c main_arg3) ((cfg0.win 3).blk t).view.emb (t.val * 256) 0
      (fun y => by constructor <;> blk_simp [e3] <;> rfl) _ k h0 hk).trans (by rw [Nat.zero_add])
  · refine (last_part _ _ (fun k j => at2 (a := 1024) (b := 4624) (m ((c : Thread nD τ).loc main_arg5)) j k) _ _ fun k hk => hw _ (by omega)).trans ?_
    refine mul_congr (fun k hk => ?_) fun k hk => rfl
    exact (at2_emb (a := 8704) (b := 128) (s0 := 256) (s1 := 128) (V m c main_arg4) ((cfg0.win 4).blk t).view.emb (t.val * 256) 0
      (fun y => by constructor <;> blk_simp [e4] <;> rfl) _ k h0 (by omega)).trans (by rw [Nat.zero_add])

/-- The operands, to be set side by side. -/
abbrev sides (a0 a1 a2 : Vec Ideal S8704x1024 .bf16) (a3 : Vec Ideal S8704x1536 .bf16) (a4 : Vec Ideal Cert.Reference8Ideal.S8704x16 .bf16) :
    List ((s : Shape) × (s.Idx → EReal)) :=
  [⟨S8704x1024, a0⟩, ⟨S8704x1024, a1⟩, ⟨S8704x1024, a2⟩, ⟨S8704x1536, a3⟩, ⟨Cert.Reference8Ideal.S8704x16, a4⟩]

/-- The reference's product of the operands side by side is the sum of the five partial products. -/
theorem reference (a0 a1 a2 : Vec Ideal S8704x1024 .bf16) (a3 : Vec Ideal S8704x1536 .bf16) (a4 : Vec Ideal S8704x128 .bf16) (w : Vec Ideal S1024x4624 .bf16)
    (h : Shape.Concatenates [S8704x1024, S8704x1024, S8704x1024, S8704x1536, Cert.Reference8Ideal.S8704x16] Cert.Reference8Ideal.S8704x4624 1) (hs h1 h2) :
    Host.dotGeneral (F := Ideal) Cert.Reference8Ideal.dot_S8704x4624_S1024x4624_S8704x1024_1_1_0_0_n_n none
        (extf (φ := .bf16) .f32 (concatenate Cert.Reference8Ideal.S8704x4624 1 [⟨S8704x1024, a0⟩, ⟨S8704x1024, a1⟩, ⟨S8704x1024, a2⟩, ⟨S8704x1536, a3⟩,
          ⟨Cert.Reference8Ideal.S8704x16, extractStridedSlice Cert.Reference8Ideal.S8704x16 ![0, 0] a4 hs⟩] h) h1)
        (extf (φ := .bf16) .f32 w h2) = G a0 a1 a2 a3 a4 w := by
  refine ext2 (a := 8704) (b := 1024) _ _ fun i j hi hj => ?_
  refine (at2_dot_rhs (M := 8704) (K := 4624) (N := 1024) _ rfl none _ _ i j).trans ?_
  refine Eq.trans ?_ (at2_mk (a := 8704) (b := 1024) (fun i j => five 16 (at2 (a := 8704) (b := 1024) a0) (at2 (a := 8704) (b := 1024) a1)
    (at2 (a := 8704) (b := 1024) a2) (at2 (a := 8704) (b := 1536) a3) (at2 (a := 8704) (b := 128) a4) (fun k j => at2 (a := 1024) (b := 4624) w j k) i j) i j hi hj).symm
  refine (cut_five _ _ i j).trans ?_
  unfold five
  have hc := fun k hk b (_ : NeZero b) x hx pre hpre l hl hn =>
    at2_concat (a := 8704) (b := b) (n := 4624) (sides a0 a1 a2 a3 (extractStridedSlice Cert.Reference8Ideal.S8704x16 ![0, 0] a4 hs)) h k hk x hx pre hpre i l hl hn
  refine congrArg₂ (· + ·) (congrArg₂ (· + ·) (congrArg₂ (· + ·) (congrArg₂ (· + ·) ?_ ?_) ?_) ?_) ?_
  · exact mul_congr (fun k hk => (congrArg _ (Nat.zero_add k).symm).trans (hc 0 (by show 0 < 5; decide) 1024 _ a0 rfl 0 rfl k hk (by omega))) fun k hk => rfl
  · exact mul_congr (fun k hk => hc 1 (by show 1 < 5; decide) 1024 _ a1 rfl 1024 rfl k hk (by omega)) fun k hk => rfl
  · exact mul_congr (fun k hk => hc 2 (by show 2 < 5; decide) 1024 _ a2 rfl 2048 rfl k hk (by omega)) fun k hk => rfl
  · exact mul_congr (fun k hk => hc 3 (by show 3 < 5; decide) 1536 _ a3 rfl 3072 rfl k hk (by omega)) fun k hk => rfl
  · exact mul_congr (fun k hk => (hc 4 (by show 4 < 5; decide) 16 _ _ rfl 4608 rfl k hk (by omega)).trans
      (at2_slice (a := 8704) (b := 16) (n := 128) a4 hs i k hk (by omega))) fun k hk => rfl

theorem agree : Cert.algebraic_Kernel8Ideal_Reference8Ideal := fun m ρ m' ρ' _ h => by
  refine ⟨fun c => G (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)), ?_, ?_⟩
  · exact (θ_run defs _ _).mono (fun r hr c => ⟨(hr c).1.trans (final m c), (hr c).2⟩) (Value.run_blocks m ρ)
  · refine (θ_run Cert.Reference8Ideal.defs _ _).mono (fun r hr c => ⟨(hr c).1.trans ?_, (hr c).2⟩) (Cert.Reference8Ideal.Value.run m' ρ')
    rw [(h c).1, (h c).2.1, (h c).2.2.1, (h c).2.2.2.1, (h c).2.2.2.2.1, (h c).2.2.2.2.2]
    exact reference _ _ _ _ _ _ _ _ _ _

theorem frame_reference : Cert.quiescent_Reference8Ideal := fun m ρ _ =>
  (θ_run Cert.Reference8Ideal.defs _ _).mono (fun r h => ⟨fun c => (h c).2, sem_eq_zero_of_no_sems rfl r.2⟩) (Cert.Reference8Ideal.Value.run m ρ)

end Cert.Kernel8Ideal.Product

end
-- ==== Proof.Proj1.lean ====
/-
  The attention layer's input projection: queries, keys, values and gates, 4096 columns side by side.
-/
module

public import proofs.«01_k».proof.Defs
public import proofs.«01_k».proof.Proof.Products
public import proofs.«01_k».proof.Proof.Gen.Kernel9Ideal.Value
public import proofs.«01_k».proof.Proof.Gen.Reference9Ideal
public import proofs.«01_k».proof.Proof.Gen.Reference9Ideal.Run
public import Idealize.ShloMosaic.Lib.Quiescent

@[expose] public section

set_option maxRecDepth 16384

noncomputable section

namespace Cert.Kernel9Ideal.Product

open Cert.Kernel9Ideal Cert.Kernel9Ideal.Gen Cert.Products Idealize.ShloMosaic Idealize.ShloMosaic.TcCoe Idealize.SL.Sem

/-- What the body leaves: its columns are stored 512 at a time. -/
theorem out_at (x : Vec Ideal S256x1024 .bf16) (w : Vec Ideal S1024x4096 .bf16) (y : S256x4096.Idx) :
    out0_2 x w y = mul 1024 (at2 (a := 256) (b := 1024) x) (at2 (a := 1024) (b := 4096) w) (y 0).val (y 1).val := by
  unfold out0_2
  refine View.canon_eq_of_allAt _ y _ (cover0_2 _ _ _ _ _ _ _ _ y) ?_
  repeat' refine View.allAt_cons_unit _ _ _ _ _ ?_ ?_
  all_goals try exact View.allAt_nil _ _
  all_goals
    refine cols_tileAt (a := 256) (b := 4096) (s0 := 256) (s1 := 512) _ y _ _ fun i j hi hj => ?_
    exact (at2_step (M := 256) (K := 1024) (N := 512) (P := 1024) (Q := 4096) _ rfl x w 0 _ _ i j hi hj _).trans (rows_zero ..)

variable (m : (ℓ : Loc nD τ sig) → Buf (Elt Ideal) ℓ) (c : Dev nD)

theorem idx : ∀ t : Fin grid0.N, win0_0.index t = ![t.val, 0] ∧ win0_1.index t = ![0, 0] ∧ win0_2.index t = ![t.val, 0] := by
  decide +kernel

/-- The result, over a device's arguments. -/
def G (u : Vec Ideal S8704x1024 .bf16) (w : Vec Ideal S1024x4096 .bf16) : Vec Ideal S8704x4096 .f32 := fun y =>
  mul 1024 (at2 (a := 8704) (b := 1024) u) (at2 (a := 1024) (b := 4096) w) (y 0).val (y 1).val

theorem final : (dats m 0 c).arrAt 2 cfg0.N = G (m ((c : Thread nD τ).loc main_arg0)) (m ((c : Thread nD τ).loc main_arg1)) := by
  refine (dats m 0 c).arrAt_eq_of_covers 2 _ (by decide +kernel) fun t hf y => ?_
  obtain ⟨e0, e1, e2⟩ := idx t
  blk_simp
  rw [after0_2, out_at]
  have g0 : (((cfg0.win 2).blk t).view.emb y 0).val = t.val * 256 + (y 0).val := by blk_simp [e2]
  have g1 : (((cfg0.win 2).blk t).view.emb y 1).val = (y 1).val := by blk_simp [e2]
  unfold G
  rw [g0, g1, ← V_main_arg0 m c, ← V_main_arg1 m c]
  refine mul_congr (fun k hk => ?_) fun k hk => ?_
  · exact (at2_emb (a := 8704) (b := 1024) (s0 := 256) (s1 := 1024) (V m c main_arg0) ((cfg0.win 0).blk t).view.emb (t.val * 256) 0
      (fun y => by constructor <;> blk_simp [e0] <;> rfl) _ k (y 0).isLt hk).trans (by rw [Nat.zero_add])
  · exact (at2_emb (a := 1024) (b := 4096) (s0 := 1024) (s1 := 4096) (V m c main_arg1) ((cfg0.win 1).blk t).view.emb 0 0
      (fun y => by constructor <;> blk_simp [e1] <;> rfl) k _ hk (y 1).isLt).trans (by rw [Nat.zero_add, Nat.zero_add])

theorem agree : Cert.algebraic_Kernel9Ideal_Reference9Ideal := fun m ρ m' ρ' _ h => by
  refine ⟨fun c => G (m ((c.tc : Thread nD τ).loc main_arg0)) (m ((c.tc : Thread nD τ).loc main_arg1)), ?_, ?_⟩
  · exact (θ_run defs _ _).mono (fun r hr c => ⟨(hr c).1.trans (final m c), (hr c).2⟩) (Value.run_blocks m ρ)
  · refine (θ_run Cert.Reference9Ideal.defs _ _).mono (fun r hr c => ⟨(hr c).1.trans ?_, (hr c).2⟩) (Cert.Reference9Ideal.Value.run m' ρ')
    rw [(h c).1, (h c).2]
    refine ext2 (a := 8704) (b := 4096) _ _ fun i j hi hj => (at2_dot (M := 8704) (K := 1024) (N := 4096) _ rfl none _ _ i j).trans ?_
    exact (at2_mk (a := 8704) (b := 4096) (fun i j => mul 1024 (at2 (a := 8704) (b := 1024) (m ((c.tc : Thread nD τ).loc main_arg0)))
      (at2 (a := 1024) (b := 4096) (m ((c.tc : Thread nD τ).loc main_arg1))) i j) i j hi hj).symm

theorem frame_reference : Cert.quiescent_Reference9Ideal := fun m ρ _ =>
  (θ_run Cert.Reference9Ideal.defs _ _).mono (fun r h => ⟨fun c => (h c).2, sem_eq_zero_of_no_sems rfl r.2⟩) (Cert.Reference9Ideal.Value.run m ρ)

end Cert.Kernel9Ideal.Product

end
-- ==== Proof.Proj0.lean ====
/-
  The first layer's input projection: 4624 columns side by side, the last block of them padded to 4736 with zeros.
-/
module

public import proofs.«01_k».proof.Defs
public import proofs.«01_k».proof.Proof.Products
public import proofs.«01_k».proof.Proof.Gen.Kernel10Ideal.Value
public import proofs.«01_k».proof.Proof.Gen.Reference10Ideal
public import proofs.«01_k».proof.Proof.Gen.Reference10Ideal.Run
public import Idealize.ShloMosaic.Lib.StableHlo.RunRead
public import Idealize.ShloMosaic.Lib.Quiescent

@[expose] public section

set_option maxRecDepth 16384

noncomputable section

namespace Cert.Kernel10Ideal.Product

open Cert.Kernel10Ideal Cert.Kernel10Ideal.Gen Cert.Products Idealize.ShloMosaic Idealize.ShloMosaic.TcCoe Idealize.SL.Sem

/-- What the body leaves: its columns are stored 512 at a time, the last 128 by themselves. -/
theorem out_at (c : Dev nD) (i : grid0.Coords) (a1 : Memref sig .tc .vmem S256x1024 .bf16) (h1 : a1.IsWhole) (a2 : Memref sig .tc .vmem S1024x4736 .bf16)
    (h2 : a2.IsWhole) (a3 : Memref sig .tc .vmem S256x4736 .f32) (h3 : a3.IsWhole) (x : Vec Ideal S256x1024 .bf16) (w : Vec Ideal S1024x4736 .bf16)
    (y : S256x4736.Idx) :
    out0_A_2 c i a1 h1 a2 h2 a3 h3 x w y = mul 1024 (at2 (a := 256) (b := 1024) x) (at2 (a := 1024) (b := 4736) w) (y 0).val (y 1).val := by
  unfold out0_A_2
  rw [View.read_writes_junk_eq_canon]
  refine View.canon_eq_of_allAt (kernelRun0_A c i a1 h1 a2 h2 a3 h3 x w).1 y _ (cover0_A_2 c i a1 h1 a2 h2 a3 h3 x w y) ?_
  frame_out
  refine View.allAt_cons_unit _ _ _ _ _ ?_ ?_
  · refine cols_tileAt (a := 256) (b := 4736) (s0 := 256) (s1 := 128) _ y _ _ fun i j hi hj => ?_
    exact (at2_step_whole (M := 256) (K := 1024) (N := 128) (P := 1024) (Q := 4736) _ rfl x w 0 _ _ i j hj _).trans (rows_zero ..)
  repeat' refine View.allAt_cons_unit _ _ _ _ _ ?_ ?_
  all_goals try exact View.allAt_nil _ _
  all_goals
    refine cols_tileAt (a := 256) (b := 4736) (s0 := 256) (s1 := 512) _ y _ _ fun i j hi hj => ?_
    exact (at2_step_whole (M := 256) (K := 1024) (N := 512) (P := 1024) (Q := 4736) _ rfl x w 0 _ _ i j hj _).trans (rows_zero ..)

variable (m : (ℓ : Loc nD τ sig) → Buf (Elt Ideal) ℓ) (c : Dev nD)

theorem idx : ∀ t : Fin grid0.N, win0_0.index t = ![t.val, 0] ∧ win0_1.index t = ![0, 0] ∧ win0_2.index t = ![t.val, 0] := by
  decide +kernel

/-- The result, over a device's arguments: the product, then zeros. -/
def G (u : Vec Ideal S8704x1024 .bf16) (w : Vec Ideal S1024x4624 .bf16) : Vec Ideal S8704x4736 .f32 := fun y =>
  if (y 1).val < 4624 then mul 1024 (at2 (a := 8704) (b := 1024) u) (at2 (a := 1024) (b := 4624) w) (y 0).val (y 1).val else (0 : EReal)

/-- The weights' block is the whole array of weights with zeros after its columns. -/
theorem weights (t : Fin cfg0.N) (k j : ℕ) (hk : k < 1024) (hj : j < 4736) :
    at2 (a := 1024) (b := 4736) (iblk m c 1 t) k j
      = if j < 4624 then at2 (a := 1024) (b := 4624) (m ((c : Thread nD τ).loc main_arg1)) k j else (0 : EReal) := by
  have e : V m c main_v0 = pad S1024x4736 ![0, 0] ![0, 112] ![0, 0] (m ((c : Thread nD τ).loc main_arg1)) (sitofp (F := Ideal) .bf16 (constantI S_ 32 0#32))
      pads_S1024x4624_S1024x4736_000_01120 h_S_ := by
    show StableHlo.after (List.flatten [hostOps0, hostOps0_1]) _ (Proc.devRef .tc main_v0) = _
    after_reads_simp
    rfl
  refine (at2_emb (a := 1024) (b := 4736) (s0 := 1024) (s1 := 4736) (V m c main_v0) ((cfg0.win 1).blk t).view.emb 0 0
    (fun y => by constructor <;> blk_simp [(idx t).2.1] <;> rfl) k j hk hj).trans ?_
  rw [e, Nat.zero_add, Nat.zero_add]
  by_cases h : j < 4624
  · rw [if_pos h]; exact at2_pad 112 _ _ _ k j h hj
  · rw [if_neg h]; exact at2_pad_zero 112 _ _ _ k j (by omega) hj

theorem final : (dats m 0 c).arrAt 2 cfg0.N = G (m ((c : Thread nD τ).loc main_arg0)) (m ((c : Thread nD τ).loc main_arg1)) := by
  refine (dats m 0 c).arrAt_eq_of_covers 2 _ (by decide +kernel) fun t hf y => ?_
  obtain ⟨e0, -, e2⟩ := idx t
  blk_simp
  rw [after0_2]
  refine (out_at c _ _ _ _ _ _ _ _ _ y).trans ?_
  have g0 : (((cfg0.win 2).blk t).view.emb y 0).val = t.val * 256 + (y 0).val := by blk_simp [e2]
  have g1 : (((cfg0.win 2).blk t).view.emb y 1).val = (y 1).val := by blk_simp [e2]
  unfold G
  rw [g0, g1, ← V_main_arg0 m c]
  by_cases h : (y 1).val < 4624
  · rw [if_pos h]
    refine mul_congr (fun k hk => ?_) fun k hk => (weights m c t k _ hk (y 1).isLt).trans (if_pos h)
    exact (at2_emb (a := 8704) (b := 1024) (s0 := 256) (s1 := 1024) (V m c main_arg0) ((cfg0.win 0).blk t).view.emb (t.val * 256) 0
      (fun y => by constructor <;> blk_simp [e0] <;> rfl) _ k (y 0).isLt hk).trans (by rw [Nat.zero_add])
  · rw [if_neg h]
    exact mul_zero_right fun k hk => (weights m c t k _ hk (y 1).isLt).trans (if_neg h)

/-- The plain projection padded with zeros is that result. -/
theorem reference (u : FVec Ideal S8704x1024 .bf16) (w : FVec Ideal S1024x4624 .bf16) (h1 h2) :
    pad S8704x4736 ![0, 0] ![0, 112] ![0, 0] (Host.dotGeneral (F := Ideal) Cert.Reference10Ideal.dot_S8704x1024_S1024x4624_S8704x4624_1_0_0_1_n_n none
      (extf (φ := .bf16) .f32 u h1) (extf (φ := .bf16) .f32 w h2)) (sitofp (F := Ideal) .f32 (constantI S_ 32 0#32))
      Cert.Reference10Ideal.Facts₀.pads_S8704x4624_S8704x4736_000_01120 Cert.Reference10Ideal.Facts₀.h_S_ = G u w := by
  refine ext2 (a := 8704) (b := 4736) _ _ fun i j hi hj => Eq.trans ?_ (at2_mk (a := 8704) (b := 4736)
    (fun i j => if j < 4624 then mul 1024 (at2 (a := 8704) (b := 1024) u) (at2 (a := 1024) (b := 4624) w) i j else (0 : EReal)) i j hi hj).symm
  by_cases h : j < 4624
  · rw [if_pos h]
    exact (at2_pad 112 _ _ _ i j h hj).trans (at2_dot (M := 8704) (K := 1024) (N := 4624) _ rfl none _ _ i j)
  · rw [if_neg h]; exact at2_pad_zero 112 _ _ _ i j (by omega) hj

theorem agree : Cert.algebraic_Kernel10Ideal_Reference10Ideal := fun m ρ m' ρ' _ h => by
  refine ⟨fun c => G (m ((c.tc : Thread nD τ).loc main_arg0)) (m ((c.tc : Thread nD τ).loc main_arg1)), ?_, ?_⟩
  · exact (θ_run defs _ _).mono (fun r hr c => ⟨(hr c).1.trans (final m c), (hr c).2⟩) (Value.run_blocks m ρ)
  · refine (θ_run Cert.Reference10Ideal.defs _ _).mono (fun r hr c => ⟨(hr c).1.trans ?_, (hr c).2⟩) (Cert.Reference10Ideal.Value.run m' ρ')
    rw [(h c).1, (h c).2]
    exact reference _ _ _ _

theorem frame_reference : Cert.quiescent_Reference10Ideal := fun m ρ _ =>
  (θ_run Cert.Reference10Ideal.defs _ _).mono (fun r h => ⟨fun c => (h c).2, sem_eq_zero_of_no_sems rfl r.2⟩) (Cert.Reference10Ideal.Value.run m ρ)

end Cert.Kernel10Ideal.Product

end
-- ==== Proof.Out0.lean ====
/-
  The output projection of the first layer, added to the residual stream: the recurrent half's 1024 columns and the state-space half's,
  side by side, times the weights. The kernel's program adds the two partial products.
-/
module

public import proofs.«01_k».proof.Defs
public import proofs.«01_k».proof.Proof.Products
public import proofs.«01_k».proof.Proof.Gen.Kernel11Ideal.Value
public import proofs.«01_k».proof.Proof.Gen.Reference11Ideal
public import proofs.«01_k».proof.Proof.Gen.Reference11Ideal.Run
public import Idealize.ShloMosaic.Lib.Quiescent

@[expose] public section

set_option maxRecDepth 16384

noncomputable section

namespace Cert.Kernel11Ideal.Product

open Cert.Kernel11Ideal Cert.Kernel11Ideal.Gen Cert.Products Idealize.ShloMosaic Idealize.ShloMosaic.TcCoe Idealize.SL.Sem

/-- The sum of two partial products and the residual. -/
def two (x0 x1 w h : ℕ → ℕ → EReal) (i j : ℕ) : EReal := mul 1024 x0 w i j + mul 1024 x1 (fun k j => w (1024 + k) j) i j + h i j

/-- What the body leaves: its columns are stored 512 at a time. -/
theorem out_at (x0 x1 : Vec Ideal S256x1024 .bf16) (w : Vec Ideal S2048x1024 .bf16) (h : Vec Ideal S256x1024 .f32) (y : S256x1024.Idx) :
    out0_4 x0 x1 w h y = two (at2 (a := 256) (b := 1024) x0) (at2 (a := 256) (b := 1024) x1) (at2 (a := 2048) (b := 1024) w)
      (at2 (a := 256) (b := 1024) h) (y 0).val (y 1).val := by
  unfold out0_4
  refine View.canon_eq_of_allAt _ y _ (cover0_4 _ _ y) ?_
  repeat' refine View.allAt_cons_unit _ _ _ _ _ ?_ ?_
  all_goals try exact View.allAt_nil _ _
  all_goals
    refine cols_tileAt (a := 256) (b := 1024) (s0 := 256) (s1 := 512) (two _ _ _ _) y _ _ fun i j hi hj => ?_
    exact congrArg₂ (· + ·)
        (congrArg₂ (· + ·) ((at2_step (M := 256) (K := 1024) (N := 512) (P := 2048) (Q := 1024) _ rfl x0 w 0 _ _ i j hi hj _).trans (rows_zero ..))
          (at2_step (M := 256) (K := 1024) (N := 512) (P := 2048) (Q := 1024) _ rfl x1 w 1024 _ _ i j hi hj _))
        ((at2_ld (a := 256) (b := 1024) (s0 := 256) (s1 := 512) h 0 _ _ i j hi hj).trans (by rw [Nat.zero_add]))

variable (m : (ℓ : Loc nD τ sig) → Buf (Elt Ideal) ℓ) (c : Dev nD)

theorem idx : ∀ t : Fin grid0.N, win0_0.index t = ![t.val, 0] ∧ win0_1.index t = ![t.val, 0] ∧ win0_2.index t = ![0, 0] ∧ win0_3.index t = ![t.val, 0]
    ∧ win0_4.index t = ![t.val, 0] := by
  decide +kernel

/-- The result, over a device's arguments. -/
def G (u0 u1 : Vec Ideal S8704x1024 .bf16) (w : Vec Ideal S2048x1024 .bf16) (h : Vec Ideal S8704x1024 .f32) : Vec Ideal S8704x1024 .f32 := fun y =>
  two (at2 (a := 8704) (b := 1024) u0) (at2 (a := 8704) (b := 1024) u1) (at2 (a := 2048) (b := 1024) w) (at2 (a := 8704) (b := 1024) h) (y 0).val (y 1).val

theorem final : (dats m 0 c).arrAt 4 cfg0.N = G (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  obtain ⟨e0, e1, e2, e3, e4⟩ := idx t
  blk_simp
  rw [after0_4, out_at]
  have g0 : (((cfg0.win 4).blk t).view.emb y 0).val = t.val * 256 + (y 0).val := by blk_simp [e4]
  have g1 : (((cfg0.win 4).blk t).view.emb y 1).val = (y 1).val := by blk_simp [e4]
  have hw : ∀ k, k < 2048 → at2 (a := 2048) (b := 1024) (iblk m c 2 t) k (y 1).val = at2 (a := 2048) (b := 1024) (V m c main_arg2) k (y 1).val := fun k hk =>
    (at2_emb (a := 2048) (b := 1024) (s0 := 2048) (s1 := 1024) (V m c main_arg2) ((cfg0.win 2).blk t).view.emb 0 0
      (fun y => by constructor <;> blk_simp [e2] <;> rfl) k _ hk (y 1).isLt).trans (by rw [Nat.zero_add, Nat.zero_add])
  unfold G two
  rw [g0, g1, ← V_main_arg0 m c, ← V_main_arg1 m c, ← V_main_arg2 m c, ← V_main_arg3 m c]
  refine congrArg₂ (· + ·) (congrArg₂ (· + ·) (mul_congr (fun k hk => ?_) fun k hk => hw k (by omega)) (mul_congr (fun k hk => ?_) fun k hk => hw _ (by omega))) ?_
  · exact (at2_emb (a := 8704) (b := 1024) (s0 := 256) (s1 := 1024) (V m c main_arg0) ((cfg0.win 0).blk t).view.emb (t.val * 256) 0
      (fun y => by constructor <;> blk_simp [e0] <;> rfl) _ k (y 0).isLt hk).trans (by rw [Nat.zero_add])
  · exact (at2_emb (a := 8704) (b := 1024) (s0 := 256) (s1 := 1024) (V m c main_arg1) ((cfg0.win 1).blk t).view.emb (t.val * 256) 0
      (fun y => by constructor <;> blk_simp [e1] <;> rfl) _ k (y 0).isLt hk).trans (by rw [Nat.zero_add])
  · exact (at2_emb (a := 8704) (b := 1024) (s0 := 256) (s1 := 1024) (V m c main_arg3) ((cfg0.win 3).blk t).view.emb (t.val * 256) 0
      (fun y => by constructor <;> blk_simp [e3] <;> rfl) _ _ (y 0).isLt (y 1).isLt).trans (by rw [Nat.zero_add])

/-- The halves, to be set side by side. -/
abbrev sides (u0 u1 : Vec Ideal S8704x1024 .bf16) : List ((s : Shape) × (s.Idx → EReal)) := [⟨S8704x1024, u0⟩, ⟨S8704x1024, u1⟩]

/-- The reference's product of the halves side by side is the sum of the two partial products. -/
theorem reference (u0 u1 : Vec Ideal S8704x1024 .bf16) (w : Vec Ideal S2048x1024 .bf16) (r : Vec Ideal S8704x1024 .f32)
    (h : Shape.Concatenates [S8704x1024, S8704x1024] Cert.Reference11Ideal.S8704x2048 1) (h1 h2) :
    addf (F := Ideal) (φ := .f32) r (Host.dotGeneral (F := Ideal) Cert.Reference11Ideal.dot_S8704x2048_S2048x1024_S8704x1024_1_0_0_1_n_n none
        (extf (φ := .bf16) .f32 (concatenate Cert.Reference11Ideal.S8704x2048 1 [⟨S8704x1024, u0⟩, ⟨S8704x1024, u1⟩] h) h1)
        (extf (φ := .bf16) .f32 w h2)) = G u0 u1 w r := by
  refine ext2 (a := 8704) (b := 1024) _ _ fun i j hi hj => ?_
  refine (congrArg (at2 (a := 8704) (b := 1024) r i j + ·) (at2_dot (M := 8704) (K := 2048) (N := 1024) _ rfl none _ _ i j)).trans ((add_comm _ _).trans ?_)
  refine Eq.trans ?_ (at2_mk (a := 8704) (b := 1024) (two (at2 (a := 8704) (b := 1024) u0) (at2 (a := 8704) (b := 1024) u1)
    (at2 (a := 2048) (b := 1024) w) (at2 (a := 8704) (b := 1024) r)) i j hi hj).symm
  refine congrArg (· + at2 (a := 8704) (b := 1024) r i j) ((mul_add 1024 1024 _ _ i j).trans (congrArg₂ (· + ·) ?_ ?_))
  · refine mul_congr (fun k hk => ?_) fun k hk => rfl
    exact (congrArg _ (Nat.zero_add k).symm).trans (at2_concat (a := 8704) (b := 1024) (n := 2048) (sides u0 u1) h 0 (by show 0 < 2; decide) u0 rfl 0 rfl i k hk (by omega))
  · exact mul_congr (fun k hk => at2_concat (a := 8704) (b := 1024) (n := 2048) (sides u0 u1) h 1 (by show 1 < 2; decide) u1 rfl 1024 rfl i k hk (by omega)) fun k hk => rfl

theorem agree : Cert.algebraic_Kernel11Ideal_Reference11Ideal := fun m ρ m' ρ' _ h => by
  refine ⟨fun c => G (m ((c.tc : Thread nD τ).loc main_arg0)) (m ((c.tc : Thread nD τ).loc main_arg1)) (m ((c.tc : Thread nD τ).loc main_arg2))
    (m ((c.tc : Thread nD τ).loc main_arg3)), ?_, ?_⟩
  · exact (θ_run defs _ _).mono (fun r hr c => ⟨(hr c).1.trans (final m c), (hr c).2⟩) (Value.run_blocks m ρ)
  · refine (θ_run Cert.Reference11Ideal.defs _ _).mono (fun r hr c => ⟨(hr c).1.trans ?_, (hr c).2⟩) (Cert.Reference11Ideal.Value.run m' ρ')
    rw [(h c).1, (h c).2.1, (h c).2.2.1, (h c).2.2.2]
    exact reference _ _ _ _ _ _ _

theorem frame_reference : Cert.quiescent_Reference11Ideal := fun m ρ _ =>
  (θ_run Cert.Reference11Ideal.defs _ _).mono (fun r h => ⟨fun c => (h c).2, sem_eq_zero_of_no_sems rfl r.2⟩) (Cert.Reference11Ideal.Value.run m ρ)

end Cert.Kernel11Ideal.Product

end
-- ==== Proof.Out1.lean ====
/-
  The output projection of the attention layer, added to the residual stream.
-/
module

public import proofs.«01_k».proof.Defs
public import proofs.«01_k».proof.Proof.Products
public import proofs.«01_k».proof.Proof.Gen.Kernel12Ideal.Value
public import proofs.«01_k».proof.Proof.Gen.Reference12Ideal
public import proofs.«01_k».proof.Proof.Gen.Reference12Ideal.Run
public import Idealize.ShloMosaic.Lib.Quiescent

@[expose] public section

set_option maxRecDepth 16384

noncomputable section

namespace Cert.Kernel12Ideal.Product

open Cert.Kernel12Ideal Cert.Kernel12Ideal.Gen Cert.Products Idealize.ShloMosaic Idealize.ShloMosaic.TcCoe Idealize.SL.Sem

/-- What the body leaves: its columns are stored 512 at a time. -/
theorem out_at (x : Vec Ideal S256x1024 .bf16) (w : Vec Ideal S1024x1024 .bf16) (h : Vec Ideal S256x1024 .f32) (y : S256x1024.Idx) :
    out0_3 x w h y = mul 1024 (at2 (a := 256) (b := 1024) x) (at2 (a := 1024) (b := 1024) w) (y 0).val (y 1).val
      + at2 (a := 256) (b := 1024) h (y 0).val (y 1).val := by
  unfold out0_3
  refine View.canon_eq_of_allAt _ y _ (cover0_3 _ _ y) ?_
  repeat' refine View.allAt_cons_unit _ _ _ _ _ ?_ ?_
  all_goals try exact View.allAt_nil _ _
  all_goals
    refine cols_tileAt (a := 256) (b := 1024) (s0 := 256) (s1 := 512)
        (fun i j => mul 1024 (at2 (a := 256) (b := 1024) x) (at2 (a := 1024) (b := 1024) w) i j + at2 (a := 256) (b := 1024) h i j) y _ _ fun i j hi hj => ?_
    exact congrArg₂ (· + ·) ((at2_step (M := 256) (K := 1024) (N := 512) (P := 1024) (Q := 1024) _ rfl x w 0 _ _ i j hi hj _).trans (rows_zero ..))
        ((at2_ld (a := 256) (b := 1024) (s0 := 256) (s1 := 512) h 0 _ _ i j hi hj).trans (by rw [Nat.zero_add]))

variable (m : (ℓ : Loc nD τ sig) → Buf (Elt Ideal) ℓ) (c : Dev nD)

theorem idx : ∀ t : Fin grid0.N, win0_0.index t = ![t.val, 0] ∧ win0_1.index t = ![0, 0] ∧ win0_2.index t = ![t.val, 0]
    ∧ win0_3.index t = ![t.val, 0] := by
  decide +kernel

/-- The result, over a device's arguments. -/
def G (u : Vec Ideal S8704x1024 .bf16) (w : Vec Ideal S1024x1024 .bf16) (h : Vec Ideal S8704x1024 .f32) : Vec Ideal S8704x1024 .f32 := fun y =>
  mul 1024 (at2 (a := 8704) (b := 1024) u) (at2 (a := 1024) (b := 1024) w) (y 0).val (y 1).val + at2 (a := 8704) (b := 1024) h (y 0).val (y 1).val

theorem final : (dats m 0 c).arrAt 3 cfg0.N = G (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨e0, e1, e2, e3⟩ := idx t
  blk_simp
  rw [after0_3, out_at]
  have g0 : (((cfg0.win 3).blk t).view.emb y 0).val = t.val * 256 + (y 0).val := by blk_simp [e3]
  have g1 : (((cfg0.win 3).blk t).view.emb y 1).val = (y 1).val := by blk_simp [e3]
  unfold G
  rw [g0, g1, ← V_main_arg0 m c, ← V_main_arg1 m c, ← V_main_arg2 m c]
  refine congrArg₂ (· + ·) (mul_congr (fun k hk => ?_) fun k hk => ?_) ?_
  · exact (at2_emb (a := 8704) (b := 1024) (s0 := 256) (s1 := 1024) (V m c main_arg0) ((cfg0.win 0).blk t).view.emb (t.val * 256) 0
      (fun y => by constructor <;> blk_simp [e0] <;> rfl) _ k (y 0).isLt hk).trans (by rw [Nat.zero_add])
  · exact (at2_emb (a := 1024) (b := 1024) (s0 := 1024) (s1 := 1024) (V m c main_arg1) ((cfg0.win 1).blk t).view.emb 0 0
      (fun y => by constructor <;> blk_simp [e1] <;> rfl) k _ hk (y 1).isLt).trans (by rw [Nat.zero_add, Nat.zero_add])
  · exact (at2_emb (a := 8704) (b := 1024) (s0 := 256) (s1 := 1024) (V m c main_arg2) ((cfg0.win 2).blk t).view.emb (t.val * 256) 0
      (fun y => by constructor <;> blk_simp [e2] <;> rfl) _ _ (y 0).isLt (y 1).isLt).trans (by rw [Nat.zero_add])

/-- The reference adds the product to the residual. -/
theorem reference (u : Vec Ideal S8704x1024 .bf16) (w : Vec Ideal S1024x1024 .bf16) (r : Vec Ideal S8704x1024 .f32) (h1 h2) :
    addf (F := Ideal) (φ := .f32) r (Host.dotGeneral (F := Ideal) Cert.Reference12Ideal.dot_S8704x1024_S1024x1024_S8704x1024_1_0_0_1_n_n none
        (extf (φ := .bf16) .f32 u h1) (extf (φ := .bf16) .f32 w h2)) = G u w r := by
  refine ext2 (a := 8704) (b := 1024) _ _ fun i j hi hj => ?_
  refine (congrArg (at2 (a := 8704) (b := 1024) r i j + ·) (at2_dot (M := 8704) (K := 1024) (N := 1024) _ rfl none _ _ i j)).trans ((add_comm _ _).trans ?_)
  exact (at2_mk (a := 8704) (b := 1024) (fun i j => mul 1024 (at2 (a := 8704) (b := 1024) u) (at2 (a := 1024) (b := 1024) w) i j
    + at2 (a := 8704) (b := 1024) r i j) i j hi hj).symm

theorem agree : Cert.algebraic_Kernel12Ideal_Reference12Ideal := fun m ρ m' ρ' _ h => by
  refine ⟨fun c => G (m ((c.tc : Thread nD τ).loc main_arg0)) (m ((c.tc : Thread nD τ).loc main_arg1)) (m ((c.tc : Thread nD τ).loc main_arg2)), ?_, ?_⟩
  · exact (θ_run defs _ _).mono (fun r hr c => ⟨(hr c).1.trans (final m c), (hr c).2⟩) (Value.run_blocks m ρ)
  · refine (θ_run Cert.Reference12Ideal.defs _ _).mono (fun r hr c => ⟨(hr c).1.trans ?_, (hr c).2⟩) (Cert.Reference12Ideal.Value.run m' ρ')
    rw [(h c).1, (h c).2.1, (h c).2.2]
    exact reference _ _ _ _ _

theorem frame_reference : Cert.quiescent_Reference12Ideal := fun m ρ _ =>
  (θ_run Cert.Reference12Ideal.defs _ _).mono (fun r h => ⟨fun c => (h c).2, sem_eq_zero_of_no_sems rfl r.2⟩) (Cert.Reference12Ideal.Value.run m ρ)

end Cert.Kernel12Ideal.Product

end
-- ==== Proof.lean ====
/-
  The certificate: for each of the twenty-four programs the frames of the kernel, of its idealization and of the reference, and the equality of
  their results at the ideal numbers. The scans' are put together here; every other call has a module of its own.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20
public import proofs.«01_k».proof.Proof.Gen.Kernel21
public import proofs.«01_k».proof.Proof.Gen.Kernel22
public import proofs.«01_k».proof.Proof.Gen.Kernel23
public import proofs.«01_k».proof.Proof.Gen.Kernel24
public import proofs.«01_k».proof.Proof.Gen.Kernel20.Frame
public import proofs.«01_k».proof.Proof.Gen.Kernel21.Frame
public import proofs.«01_k».proof.Proof.Gen.Kernel22.Frame
public import proofs.«01_k».proof.Proof.Gen.Kernel23.Frame
public import proofs.«01_k».proof.Proof.Gen.Kernel24.Frame
public import proofs.«01_k».proof.Proof.Gen.Kernel20Ideal
public import proofs.«01_k».proof.Proof.Gen.Kernel21Ideal
public import proofs.«01_k».proof.Proof.Gen.Kernel22Ideal
public import proofs.«01_k».proof.Proof.Gen.Kernel23Ideal
public import proofs.«01_k».proof.Proof.Gen.Kernel24Ideal
public import proofs.«01_k».proof.Proof.Gen.Kernel20Ideal.Value
public import proofs.«01_k».proof.Proof.Gen.Kernel21Ideal.Value
public import proofs.«01_k».proof.Proof.Gen.Kernel22Ideal.Value
public import proofs.«01_k».proof.Proof.Gen.Kernel23Ideal.Value
public import proofs.«01_k».proof.Proof.Gen.Kernel24Ideal.Value
public import proofs.«01_k».proof.Proof.Gen.Reference20Ideal
public import proofs.«01_k».proof.Proof.Gen.Reference21Ideal
public import proofs.«01_k».proof.Proof.Gen.Reference22Ideal
public import proofs.«01_k».proof.Proof.Gen.Reference23Ideal
public import proofs.«01_k».proof.Proof.Gen.Reference24Ideal
public import proofs.«01_k».proof.Proof.Gen.Reference20Ideal.Run
public import proofs.«01_k».proof.Proof.Gen.Reference21Ideal.Run
public import proofs.«01_k».proof.Proof.Gen.Reference22Ideal.Run
public import proofs.«01_k».proof.Proof.Gen.Reference23Ideal.Run
public import proofs.«01_k».proof.Proof.Gen.Reference24Ideal.Run
public import proofs.«01_k».proof.Proof.Agree
public import proofs.«01_k».proof.Proof.AdamEvenIn
public import proofs.«01_k».proof.Proof.AdamEvenOut
public import proofs.«01_k».proof.Proof.AdamOddIn
public import proofs.«01_k».proof.Proof.AdamOddOut
public import proofs.«01_k».proof.Proof.AdamGates
public import proofs.«01_k».proof.Proof.AdamSmall
public import proofs.«01_k».proof.Proof.DProj1
public import proofs.«01_k».proof.Proof.DWeight
public import proofs.«01_k».proof.Proof.DWeight1536
public import proofs.«01_k».proof.Proof.ConvLru
public import proofs.«01_k».proof.Proof.ConvSsd
public import proofs.«01_k».proof.Proof.NormBwd
public import proofs.«01_k».proof.Proof.NormFwd
public import proofs.«01_k».proof.Proof.GateBwd
public import proofs.«01_k».proof.Proof.GateFwd
public import proofs.«01_k».proof.Proof.DWeight128
public import proofs.«01_k».proof.Proof.DOut0
public import proofs.«01_k».proof.Proof.DOut1
public import proofs.«01_k».proof.Proof.DProj0
public import proofs.«01_k».proof.Proof.Proj1
public import proofs.«01_k».proof.Proof.Proj0
public import proofs.«01_k».proof.Proof.Out0
public import proofs.«01_k».proof.Proof.Out1
public import Idealize.ShloMosaic.Adequacy
public import Idealize.ShloMosaic.Init

@[expose] public section

noncomputable section

namespace Cert.Proof

open Idealize.ShloMosaic Idealize.ShloMosaic.TcCoe Idealize.SL.Sem

/-- The two kernel programs have one text: the same bodies under each label, -/
theorem bodies_eq : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl
  | 1, (t, s) => rfl

/-- and the same pipelines over them. -/
theorem tables_eq : Cert.Kernel.defs (F := Bits) = Cert.KernelIdeal.defs (F := Bits) := by
  unfold Cert.Kernel.defs Cert.KernelIdeal.defs
  rw [bodies_eq]
  rfl

/-- The kernel's frame, at its machine numbers: the run is written once, for the idealization's text, which is the same text. -/
theorem frame_kernel : Cert.quiescent_Kernel := fun m ρ _ => by
  have h := (θ_run (Cert.KernelIdeal.defs (F := Bits)) _ _).mono (fun r (h : (∀ c, Cert.KernelIdeal.Scan.ends m c r.2) ∧ r.2.sem = fun _ => 0) =>
      (⟨fun c => (h.1 c).1, h.2⟩ : (∀ c, _) ∧ r.2.sem = fun _ => 0)) (Cert.KernelIdeal.Scan.run_main (F := Bits) m ρ)
  rw [tables_eq]
  exact h

theorem frame_ideal : Cert.quiescent_KernelIdeal := fun m ρ _ =>
  (θ_run Cert.KernelIdeal.defs _ _).mono (fun _ h => ⟨fun c => (h.1 c).1, h.2⟩) (Cert.KernelIdeal.Scan.run_main (F := Ideal) m ρ)

/-- The reference leaves its arguments. -/
theorem ref_args (m : (ℓ : Loc Cert.ReferenceIdeal.nD Cert.ReferenceIdeal.τ Cert.ReferenceIdeal.sig) → Buf (Elt Ideal) ℓ)
    (c : Dev Cert.ReferenceIdeal.nD) (s : MemSt Cert.ReferenceIdeal.nD Cert.ReferenceIdeal.τ Cert.ReferenceIdeal.sig (Elt Ideal))
    (h : ∀ b : Ref Cert.ReferenceIdeal.sig .tc, (Proc.devRef (τ := Cert.ReferenceIdeal.τ) .tc b).isScoped = false
      → s.mem ((c.tc : Thread Cert.ReferenceIdeal.nD Cert.ReferenceIdeal.τ).loc b) = Cert.ReferenceIdeal.Scan.U5 m c (Proc.devRef .tc b)) :
    s.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ s.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ s.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2) := by
  obtain ⟨k0, k1, k2⟩ := Cert.ReferenceIdeal.Scan.U5_keeps m c
  exact ⟨(h Cert.ReferenceIdeal.main_arg0 rfl).trans k0, (h Cert.ReferenceIdeal.main_arg1 rfl).trans k1, (h Cert.ReferenceIdeal.main_arg2 rfl).trans k2⟩

theorem frame_reference : Cert.quiescent_ReferenceIdeal := fun m ρ _ =>
  (θ_run Cert.ReferenceIdeal.defs _ _).mono (fun r h => ⟨fun c => ref_args m c r.2 (h.1 c), h.2⟩) (Cert.ReferenceIdeal.Scan.run_ref (F := Ideal) m ρ)

open Cert.KernelIdeal.Scan in
/-- Both programs end with the gradient of the recurrence: `da` from the states and the adjoint, `db` the adjoint itself. -/
theorem gradients_agree : Cert.algebraic_KernelIdeal_ReferenceIdeal := fun m ρ m' ρ' _ hagree => by
  let a := fun c : Dev Cert.KernelIdeal.nD => Cert.Agree.scanForm (m ((c.tc : Thread Cert.KernelIdeal.nD Cert.KernelIdeal.τ).loc Cert.KernelIdeal.main_arg0))
  let b := fun c : Dev Cert.KernelIdeal.nD => Cert.Agree.scanForm (m ((c.tc : Thread Cert.KernelIdeal.nD Cert.KernelIdeal.τ).loc Cert.KernelIdeal.main_arg1))
  let d := fun c : Dev Cert.KernelIdeal.nD => Cert.Agree.scanForm (m ((c.tc : Thread Cert.KernelIdeal.nD Cert.KernelIdeal.τ).loc Cert.KernelIdeal.main_arg2))
  refine ⟨fun c => daSeq (a c) (hSeq (a c) (b c)) (d c), fun c => dbSeq (a c) (d c), ?_, ?_⟩
  · refine (θ_run Cert.KernelIdeal.defs _ _).mono (fun r h c => ?_) (run_main (F := Ideal) m ρ)
    obtain ⟨e0, e1⟩ := Cert.Agree.kernel_results m c (h.1 c)
    exact ⟨e0, e1, (h.1 c).1⟩
  · refine (θ_run Cert.ReferenceIdeal.defs _ _).mono (fun r h c => ?_) (Cert.ReferenceIdeal.Scan.run_ref (F := Ideal) m' ρ')
    obtain ⟨g0, g1, g2⟩ := hagree c
    have sa : Cert.ReferenceIdeal.Scan.Stacked (F := Ideal) (Cert.ReferenceIdeal.Scan.toStk (Cert.ReferenceIdeal.Scan.U0 m' c Cert.ReferenceIdeal.main_arg0)) (a c) := by
      have e : Cert.ReferenceIdeal.Scan.U0 m' c Cert.ReferenceIdeal.main_arg0 = m ((c.tc : Thread Cert.KernelIdeal.nD Cert.KernelIdeal.τ).loc Cert.KernelIdeal.main_arg0) := g0
      rw [e]; exact Cert.Agree.stacked_scanForm _
    have sb : Cert.ReferenceIdeal.Scan.Stacked (F := Ideal) (Cert.ReferenceIdeal.Scan.toStk (Cert.ReferenceIdeal.Scan.U0 m' c Cert.ReferenceIdeal.main_arg1)) (b c) := by
      have e : Cert.ReferenceIdeal.Scan.U0 m' c Cert.ReferenceIdeal.main_arg1 = m ((c.tc : Thread Cert.KernelIdeal.nD Cert.KernelIdeal.τ).loc Cert.KernelIdeal.main_arg1) := g1
      rw [e]; exact Cert.Agree.stacked_scanForm _
    have sd : Cert.ReferenceIdeal.Scan.Stacked (F := Ideal) (Cert.ReferenceIdeal.Scan.toStk (Cert.ReferenceIdeal.Scan.U0 m' c Cert.ReferenceIdeal.main_arg2)) (d c) := by
      have e : Cert.ReferenceIdeal.Scan.U0 m' c Cert.ReferenceIdeal.main_arg2 = m ((c.tc : Thread Cert.KernelIdeal.nD Cert.KernelIdeal.τ).loc Cert.KernelIdeal.main_arg2) := g2
      rw [e]; exact Cert.Agree.stacked_scanForm _
    obtain ⟨e0, e1⟩ := Cert.ReferenceIdeal.Scan.results (F := Ideal) m' (fun x y => add_comm (G := EReal) x y) c sa sb sd
    exact ⟨((h.1 c) Cert.ReferenceIdeal.main_v15 rfl).trans e0, ((h.1 c) Cert.ReferenceIdeal.main_v16 rfl).trans e1, ref_args m' c r.2 (h.1 c)⟩

/-- The claims: the facts of each program, its frames, and its values. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Pre_finite.facts,
  frame_kernel, frame_ideal, frame_reference,
  fun m ρ _ => Cert.Kernel2.Gen.frame m ρ, fun m ρ _ => Cert.Kernel2Ideal.Gen.frame m ρ, Cert.Kernel2Ideal.Product.frame_reference,
  fun m ρ _ => Cert.Kernel3.Gen.frame m ρ, fun m ρ _ => Cert.Kernel3Ideal.Gen.frame m ρ, Cert.Kernel3Ideal.Product.frame_reference,
  fun m ρ _ => Cert.Kernel4.Gen.frame m ρ, fun m ρ _ => Cert.Kernel4Ideal.Gen.frame m ρ, Cert.Kernel4Ideal.Product.frame_reference,
  fun m ρ _ => Cert.Kernel5.Gen.frame m ρ, fun m ρ _ => Cert.Kernel5Ideal.Gen.frame m ρ, Cert.Kernel5Ideal.Product.frame_reference,
  fun m ρ _ => Cert.Kernel6.Gen.frame m ρ, fun m ρ _ => Cert.Kernel6Ideal.Gen.frame m ρ, Cert.Kernel6Ideal.Product.frame_reference,
  fun m ρ _ => Cert.Kernel7.Gen.frame m ρ, fun m ρ _ => Cert.Kernel7Ideal.Gen.frame m ρ, Cert.Kernel7Ideal.Product.frame_reference,
  fun m ρ _ => Cert.Kernel8.Gen.frame m ρ, fun m ρ _ => Cert.Kernel8Ideal.Gen.frame m ρ, Cert.Kernel8Ideal.Product.frame_reference,
  fun m ρ _ => Cert.Kernel9.Gen.frame m ρ, fun m ρ _ => Cert.Kernel9Ideal.Gen.frame m ρ, Cert.Kernel9Ideal.Product.frame_reference,
  fun m ρ _ => Cert.Kernel10.Gen.frame m ρ, fun m ρ _ => Cert.Kernel10Ideal.Gen.frame m ρ, Cert.Kernel10Ideal.Product.frame_reference,
  fun m ρ _ => Cert.Kernel11.Gen.frame m ρ, fun m ρ _ => Cert.Kernel11Ideal.Gen.frame m ρ, Cert.Kernel11Ideal.Product.frame_reference,
  fun m ρ _ => Cert.Kernel12.Gen.frame m ρ, fun m ρ _ => Cert.Kernel12Ideal.Gen.frame m ρ, Cert.Kernel12Ideal.Product.frame_reference,
  fun m ρ _ => Cert.Kernel13.Gen.frame m ρ, fun m ρ _ => Cert.Kernel13Ideal.Gen.frame m ρ, Cert.Kernel13Ideal.Update.frame_reference,
  fun m ρ _ => Cert.Kernel14.Gen.frame m ρ, fun m ρ _ => Cert.Kernel14Ideal.Gen.frame m ρ, Cert.Kernel14Ideal.Update.frame_reference,
  fun m ρ _ => Cert.Kernel15.Gen.frame m ρ, fun m ρ _ => Cert.Kernel15Ideal.Gen.frame m ρ, Cert.Kernel15Ideal.Update.frame_reference,
  fun m ρ _ => Cert.Kernel16.Gen.frame m ρ, fun m ρ _ => Cert.Kernel16Ideal.Gen.frame m ρ, Cert.Kernel16Ideal.Update.frame_reference,
  fun m ρ _ => Cert.Kernel17.Gen.frame m ρ, fun m ρ _ => Cert.Kernel17Ideal.Gen.frame m ρ, Cert.Kernel17Ideal.Update.frame_reference,
  fun m ρ _ => Cert.Kernel18.Gen.frame m ρ, fun m ρ _ => Cert.Kernel18Ideal.Gen.frame m ρ, Cert.Kernel18Ideal.Update.frame_reference,
  fun m ρ _ => Cert.Kernel19.Gen.frame m ρ, fun m ρ _ => Cert.Kernel19Ideal.Gen.frame m ρ, Cert.Kernel19Ideal.Conv.frame_reference,
  fun m ρ _ => Cert.Kernel20.Gen.frame m ρ, fun m ρ _ => Cert.Kernel20Ideal.Gen.frame m ρ, Cert.Kernel20Ideal.Conv.frame_reference,
  fun m ρ _ => Cert.Kernel21.Gen.frame m ρ, fun m ρ _ => Cert.Kernel21Ideal.Gen.frame m ρ, Cert.Kernel21Ideal.Norm.frame_reference,
  fun m ρ _ => Cert.Kernel22.Gen.frame m ρ, fun m ρ _ => Cert.Kernel22Ideal.Gen.frame m ρ, Cert.Kernel22Ideal.Norm.frame_reference,
  fun m ρ _ => Cert.Kernel23.Gen.frame m ρ, fun m ρ _ => Cert.Kernel23Ideal.Gen.frame m ρ, fun m ρ _ => Cert.Kernel23Ideal.Gen.frame m ρ,
  Cert.Kernel23Ideal.Gate.frame_reference, Cert.Kernel23Ideal.Gate.frame_reference_finite,
  fun m ρ _ => Cert.Kernel24.Gen.frame m ρ, fun m ρ _ => Cert.Kernel24Ideal.Gen.frame m ρ, Cert.Kernel24Ideal.Gate.frame_reference,
  trivial, gradients_agree,
  trivial, Cert.Kernel2Ideal.Product.agree,
  trivial, Cert.Kernel3Ideal.Product.agree,
  trivial, Cert.Kernel4Ideal.Product.agree,
  trivial, Cert.Kernel5Ideal.Product.agree,
  trivial, Cert.Kernel6Ideal.Product.agree,
  trivial, Cert.Kernel7Ideal.Product.agree,
  trivial, Cert.Kernel8Ideal.Product.agree,
  trivial, Cert.Kernel9Ideal.Product.agree,
  trivial, Cert.Kernel10Ideal.Product.agree,
  trivial, Cert.Kernel11Ideal.Product.agree,
  trivial, Cert.Kernel12Ideal.Product.agree,
  trivial, Cert.Kernel13Ideal.Update.agree,
  trivial, Cert.Kernel14Ideal.Update.agree,
  trivial, Cert.Kernel15Ideal.Update.agree,
  trivial, Cert.Kernel16Ideal.Update.agree,
  trivial, Cert.Kernel17Ideal.Update.agree,
  trivial, Cert.Kernel18Ideal.Update.agree,
  trivial, Cert.Kernel19Ideal.Conv.agree,
  trivial, Cert.Kernel20Ideal.Conv.agree,
  trivial, Cert.Kernel21Ideal.Norm.agree,
  trivial, Cert.Kernel22Ideal.Norm.agree,
  trivial, Cert.Kernel23Ideal.Gate.agree,
  trivial, Cert.Kernel24Ideal.Gate.agree⟩

end Cert.Proof

end
